-- ==== Defs.lean ====
def Pre_KLoss (m : (ℓ : Loc Cert.KLoss.nD Cert.KLoss.τ Cert.KLoss.sig) → Buf (Elt Bits) ℓ) : Prop :=
  True

def Pre_KLossIdeal (m : (ℓ : Loc Cert.KLossIdeal.nD Cert.KLossIdeal.τ Cert.KLossIdeal.sig) → Buf (Elt Ideal) ℓ) : Prop :=
  True

def Pre_RLossIdeal (m : (ℓ : Loc Cert.RLossIdeal.nD Cert.RLossIdeal.τ Cert.RLossIdeal.sig) → Buf (Elt Ideal) ℓ) : Prop :=
  True

def Pre_KFoxBwd (m : (ℓ : Loc Cert.KFoxBwd.nD Cert.KFoxBwd.τ Cert.KFoxBwd.sig) → Buf (Elt Bits) ℓ) : Prop :=
  True

def Pre_KFoxBwdIdeal (m : (ℓ : Loc Cert.KFoxBwdIdeal.nD Cert.KFoxBwdIdeal.τ Cert.KFoxBwdIdeal.sig) → Buf (Elt Ideal) ℓ) : Prop :=
  True

def Pre_KFoxBwdIdeal_finite_fox [hPre_finite_fox : Cert.Pre_finite_fox.Facts] (m : (ℓ : Loc Cert.KFoxBwdIdeal.nD Cert.KFoxBwdIdeal.τ Cert.KFoxBwdIdeal.sig) → Buf (Elt Ideal) ℓ) : Prop :=
  ∀ c : Dev Cert.KFoxBwdIdeal.nD,
    (Cert.Pre_finite_fox.fn (F := Ideal) (m ((c.tc : Thread Cert.KFoxBwdIdeal.nD Cert.KFoxBwdIdeal.τ).loc Cert.KFoxBwdIdeal.main_arg0)) (m ((c.tc : Thread Cert.KFoxBwdIdeal.nD Cert.KFoxBwdIdeal.τ).loc Cert.KFoxBwdIdeal.main_arg1)) (m ((c.tc : Thread Cert.KFoxBwdIdeal.nD Cert.KFoxBwdIdeal.τ).loc Cert.KFoxBwdIdeal.main_arg2)) (m ((c.tc : Thread Cert.KFoxBwdIdeal.nD Cert.KFoxBwdIdeal.τ).loc Cert.KFoxBwdIdeal.main_arg3)) (m ((c.tc : Thread Cert.KFoxBwdIdeal.nD Cert.KFoxBwdIdeal.τ).loc Cert.KFoxBwdIdeal.main_arg4))) = (fun _ => 1#1)

def Pre_RFoxBwdIdeal (m : (ℓ : Loc Cert.RFoxBwdIdeal.nD Cert.RFoxBwdIdeal.τ Cert.RFoxBwdIdeal.sig) → Buf (Elt Ideal) ℓ) : Prop :=
  True

def Pre_RFoxBwdIdeal_finite_fox [hPre_finite_fox : Cert.Pre_finite_fox.Facts] (m : (ℓ : Loc Cert.RFoxBwdIdeal.nD Cert.RFoxBwdIdeal.τ Cert.RFoxBwdIdeal.sig) → Buf (Elt Ideal) ℓ) : Prop :=
  ∀ c : Dev Cert.RFoxBwdIdeal.nD,
    (Cert.Pre_finite_fox.fn (F := Ideal) (m ((c.tc : Thread Cert.RFoxBwdIdeal.nD Cert.RFoxBwdIdeal.τ).loc Cert.RFoxBwdIdeal.main_arg0)) (m ((c.tc : Thread Cert.RFoxBwdIdeal.nD Cert.RFoxBwdIdeal.τ).loc Cert.RFoxBwdIdeal.main_arg1)) (m ((c.tc : Thread Cert.RFoxBwdIdeal.nD Cert.RFoxBwdIdeal.τ).loc Cert.RFoxBwdIdeal.main_arg2)) (m ((c.tc : Thread Cert.RFoxBwdIdeal.nD Cert.RFoxBwdIdeal.τ).loc Cert.RFoxBwdIdeal.main_arg3)) (m ((c.tc : Thread Cert.RFoxBwdIdeal.nD Cert.RFoxBwdIdeal.τ).loc Cert.RFoxBwdIdeal.main_arg4))) = (fun _ => 1#1)

def Pre_KFoxF (m : (ℓ : Loc Cert.KFoxF.nD Cert.KFoxF.τ Cert.KFoxF.sig) → Buf (Elt Bits) ℓ) : Prop :=
  True

def Pre_KFoxFIdeal (m : (ℓ : Loc Cert.KFoxFIdeal.nD Cert.KFoxFIdeal.τ Cert.KFoxFIdeal.sig) → Buf (Elt Ideal) ℓ) : Prop :=
  True

def Pre_KFoxFIdeal_finite_scores [hPre_finite_scores : Cert.Pre_finite_scores.Facts] (m : (ℓ : Loc Cert.KFoxFIdeal.nD Cert.KFoxFIdeal.τ Cert.KFoxFIdeal.sig) → Buf (Elt Ideal) ℓ) : Prop :=
  ∀ c : Dev Cert.KFoxFIdeal.nD,
    (Cert.Pre_finite_scores.fn (F := Ideal) (m ((c.tc : Thread Cert.KFoxFIdeal.nD Cert.KFoxFIdeal.τ).loc Cert.KFoxFIdeal.main_arg0)) (m ((c.tc : Thread Cert.KFoxFIdeal.nD Cert.KFoxFIdeal.τ).loc Cert.KFoxFIdeal.main_arg1)) (m ((c.tc : Thread Cert.KFoxFIdeal.nD Cert.KFoxFIdeal.τ).loc Cert.KFoxFIdeal.main_arg2)) (m ((c.tc : Thread Cert.KFoxFIdeal.nD Cert.KFoxFIdeal.τ).loc Cert.KFoxFIdeal.main_arg3))) = (fun _ => 1#1)

def Pre_RFoxFIdeal (m : (ℓ : Loc Cert.RFoxFIdeal.nD Cert.RFoxFIdeal.τ Cert.RFoxFIdeal.sig) → Buf (Elt Ideal) ℓ) : Prop :=
  True

def Pre_RFoxFIdeal_finite_scores [hPre_finite_scores : Cert.Pre_finite_scores.Facts] (m : (ℓ : Loc Cert.RFoxFIdeal.nD Cert.RFoxFIdeal.τ Cert.RFoxFIdeal.sig) → Buf (Elt Ideal) ℓ) : Prop :=
  ∀ c : Dev Cert.RFoxFIdeal.nD,
    (Cert.Pre_finite_scores.fn (F := Ideal) (m ((c.tc : Thread Cert.RFoxFIdeal.nD Cert.RFoxFIdeal.τ).loc Cert.RFoxFIdeal.main_arg0)) (m ((c.tc : Thread Cert.RFoxFIdeal.nD Cert.RFoxFIdeal.τ).loc Cert.RFoxFIdeal.main_arg1)) (m ((c.tc : Thread Cert.RFoxFIdeal.nD Cert.RFoxFIdeal.τ).loc Cert.RFoxFIdeal.main_arg2)) (m ((c.tc : Thread Cert.RFoxFIdeal.nD Cert.RFoxFIdeal.τ).loc Cert.RFoxFIdeal.main_arg3))) = (fun _ => 1#1)

def Pre_KNormOdd (m : (ℓ : Loc Cert.KNormOdd.nD Cert.KNormOdd.τ Cert.KNormOdd.sig) → Buf (Elt Bits) ℓ) : Prop :=
  True

def Pre_KNormOddIdeal (m : (ℓ : Loc Cert.KNormOddIdeal.nD Cert.KNormOddIdeal.τ Cert.KNormOddIdeal.sig) → Buf (Elt Ideal) ℓ) : Prop :=
  True

def Pre_RNormOddIdeal (m : (ℓ : Loc Cert.RNormOddIdeal.nD Cert.RNormOddIdeal.τ Cert.RNormOddIdeal.sig) → Buf (Elt Ideal) ℓ) : Prop :=
  True

def Pre_KNormFfn (m : (ℓ : Loc Cert.KNormFfn.nD Cert.KNormFfn.τ Cert.KNormFfn.sig) → Buf (Elt Bits) ℓ) : Prop :=
  True

def Pre_KNormFfnIdeal (m : (ℓ : Loc Cert.KNormFfnIdeal.nD Cert.KNormFfnIdeal.τ Cert.KNormFfnIdeal.sig) → Buf (Elt Ideal) ℓ) : Prop :=
  True

def Pre_RNormFfnIdeal (m : (ℓ : Loc Cert.RNormFfnIdeal.nD Cert.RNormFfnIdeal.τ Cert.RNormFfnIdeal.sig) → Buf (Elt Ideal) ℓ) : Prop :=
  True

def Pre_KNormEven (m : (ℓ : Loc Cert.KNormEven.nD Cert.KNormEven.τ Cert.KNormEven.sig) → Buf (Elt Bits) ℓ) : Prop :=
  True

def Pre_KNormEvenIdeal (m : (ℓ : Loc Cert.KNormEvenIdeal.nD Cert.KNormEvenIdeal.τ Cert.KNormEvenIdeal.sig) → Buf (Elt Ideal) ℓ) : Prop :=
  True

def Pre_RNormEvenIdeal (m : (ℓ : Loc Cert.RNormEvenIdeal.nD Cert.RNormEvenIdeal.τ Cert.RNormEvenIdeal.sig) → Buf (Elt Ideal) ℓ) : Prop :=
  True

def Pre_KForget (m : (ℓ : Loc Cert.KForget.nD Cert.KForget.τ Cert.KForget.sig) → Buf (Elt Bits) ℓ) : Prop :=
  True

def Pre_KForgetIdeal (m : (ℓ : Loc Cert.KForgetIdeal.nD Cert.KForgetIdeal.τ Cert.KForgetIdeal.sig) → Buf (Elt Ideal) ℓ) : Prop :=
  True

def Pre_RForgetIdeal (m : (ℓ : Loc Cert.RForgetIdeal.nD Cert.RForgetIdeal.τ Cert.RForgetIdeal.sig) → Buf (Elt Ideal) ℓ) : Prop :=
  True

def Pre_KFfn (m : (ℓ : Loc Cert.KFfn.nD Cert.KFfn.τ Cert.KFfn.sig) → Buf (Elt Bits) ℓ) : Prop :=
  True

def Pre_KFfnIdeal (m : (ℓ : Loc Cert.KFfnIdeal.nD Cert.KFfnIdeal.τ Cert.KFfnIdeal.sig) → Buf (Elt Ideal) ℓ) : Prop :=
  True

def Pre_KFfnIdeal_finite_ffn [hPre_finite_ffn : Cert.Pre_finite_ffn.Facts] (m : (ℓ : Loc Cert.KFfnIdeal.nD Cert.KFfnIdeal.τ Cert.KFfnIdeal.sig) → Buf (Elt Ideal) ℓ) : Prop :=
  ∀ c : Dev Cert.KFfnIdeal.nD,
    (Cert.Pre_finite_ffn.fn (F := Ideal) (m ((c.tc : Thread Cert.KFfnIdeal.nD Cert.KFfnIdeal.τ).loc Cert.KFfnIdeal.main_arg0)) (m ((c.tc : Thread Cert.KFfnIdeal.nD Cert.KFfnIdeal.τ).loc Cert.KFfnIdeal.main_arg1)) (m ((c.tc : Thread Cert.KFfnIdeal.nD Cert.KFfnIdeal.τ).loc Cert.KFfnIdeal.main_arg2)) (m ((c.tc : Thread Cert.KFfnIdeal.nD Cert.KFfnIdeal.τ).loc Cert.KFfnIdeal.main_arg3)) (m ((c.tc : Thread Cert.KFfnIdeal.nD Cert.KFfnIdeal.τ).loc Cert.KFfnIdeal.main_arg4)) (m ((c.tc : Thread Cert.KFfnIdeal.nD Cert.KFfnIdeal.τ).loc Cert.KFfnIdeal.main_arg5))) = (fun _ => 1#1)

def Pre_RFfnIdeal (m : (ℓ : Loc Cert.RFfnIdeal.nD Cert.RFfnIdeal.τ Cert.RFfnIdeal.sig) → Buf (Elt Ideal) ℓ) : Prop :=
  True

def Pre_RFfnIdeal_finite_ffn [hPre_finite_ffn : Cert.Pre_finite_ffn.Facts] (m : (ℓ : Loc Cert.RFfnIdeal.nD Cert.RFfnIdeal.τ Cert.RFfnIdeal.sig) → Buf (Elt Ideal) ℓ) : Prop :=
  ∀ c : Dev Cert.RFfnIdeal.nD,
    (Cert.Pre_finite_ffn.fn (F := Ideal) (m ((c.tc : Thread Cert.RFfnIdeal.nD Cert.RFfnIdeal.τ).loc Cert.RFfnIdeal.main_arg0)) (m ((c.tc : Thread Cert.RFfnIdeal.nD Cert.RFfnIdeal.τ).loc Cert.RFfnIdeal.main_arg1)) (m ((c.tc : Thread Cert.RFfnIdeal.nD Cert.RFfnIdeal.τ).loc Cert.RFfnIdeal.main_arg2)) (m ((c.tc : Thread Cert.RFfnIdeal.nD Cert.RFfnIdeal.τ).loc Cert.RFfnIdeal.main_arg3)) (m ((c.tc : Thread Cert.RFfnIdeal.nD Cert.RFfnIdeal.τ).loc Cert.RFfnIdeal.main_arg4)) (m ((c.tc : Thread Cert.RFfnIdeal.nD Cert.RFfnIdeal.τ).loc Cert.RFfnIdeal.main_arg5))) = (fun _ => 1#1)

def Pre_KDoPrep (m : (ℓ : Loc Cert.KDoPrep.nD Cert.KDoPrep.τ Cert.KDoPrep.sig) → Buf (Elt Bits) ℓ) : Prop :=
  True

def Pre_KDoPrepIdeal (m : (ℓ : Loc Cert.KDoPrepIdeal.nD Cert.KDoPrepIdeal.τ Cert.KDoPrepIdeal.sig) → Buf (Elt Ideal) ℓ) : Prop :=
  True

def Pre_RDoPrepIdeal (m : (ℓ : Loc Cert.RDoPrepIdeal.nD Cert.RDoPrepIdeal.τ Cert.RDoPrepIdeal.sig) → Buf (Elt Ideal) ℓ) : Prop :=
  True

def Pre_KNormPOdd (m : (ℓ : Loc Cert.KNormPOdd.nD Cert.KNormPOdd.τ Cert.KNormPOdd.sig) → Buf (Elt Bits) ℓ) : Prop :=
  True

def Pre_KNormPOddIdeal (m : (ℓ : Loc Cert.KNormPOddIdeal.nD Cert.KNormPOddIdeal.τ Cert.KNormPOddIdeal.sig) → Buf (Elt Ideal) ℓ) : Prop :=
  True

def Pre_RNormPOddIdeal (m : (ℓ : Loc Cert.RNormPOddIdeal.nD Cert.RNormPOddIdeal.τ Cert.RNormPOddIdeal.sig) → Buf (Elt Ideal) ℓ) : Prop :=
  True

def Pre_KNormPEven (m : (ℓ : Loc Cert.KNormPEven.nD Cert.KNormPEven.τ Cert.KNormPEven.sig) → Buf (Elt Bits) ℓ) : Prop :=
  True

def Pre_KNormPEvenIdeal (m : (ℓ : Loc Cert.KNormPEvenIdeal.nD Cert.KNormPEvenIdeal.τ Cert.KNormPEvenIdeal.sig) → Buf (Elt Ideal) ℓ) : Prop :=
  True

def Pre_RNormPEvenIdeal (m : (ℓ : Loc Cert.RNormPEvenIdeal.nD Cert.RNormPEvenIdeal.τ Cert.RNormPEvenIdeal.sig) → Buf (Elt Ideal) ℓ) : Prop :=
  True

def Pre_KFfnF (m : (ℓ : Loc Cert.KFfnF.nD Cert.KFfnF.τ Cert.KFfnF.sig) → Buf (Elt Bits) ℓ) : Prop :=
  True

def Pre_KFfnFIdeal (m : (ℓ : Loc Cert.KFfnFIdeal.nD Cert.KFfnFIdeal.τ Cert.KFfnFIdeal.sig) → Buf (Elt Ideal) ℓ) : Prop :=
  True

def Pre_RFfnFIdeal (m : (ℓ : Loc Cert.RFfnFIdeal.nD Cert.RFfnFIdeal.τ Cert.RFfnFIdeal.sig) → Buf (Elt Ideal) ℓ) : Prop :=
  True

def quiescent_KLoss [hKLoss : Cert.KLoss.Facts] : Prop :=
  ∀ (m : (ℓ : Loc Cert.KLoss.nD Cert.KLoss.τ Cert.KLoss.sig) → Buf (Elt Bits) ℓ) (g : Dev Cert.KLoss.nD → PrngReg), Pre_KLoss m →
    θ_run (Cert.KLoss.defs (F := Bits)) (onTc (τ := Cert.KLoss.τ) (Cert.KLoss.main (F := Bits))) ⟨m, fun _ => 0, g⟩ (fun r => (∀ c : Dev Cert.KLoss.nD,
      r.2.mem ((c.tc : Thread Cert.KLoss.nD Cert.KLoss.τ).loc Cert.KLoss.main_arg0) = m ((c.tc : Thread Cert.KLoss.nD Cert.KLoss.τ).loc Cert.KLoss.main_arg0)
      ∧ r.2.mem ((c.tc : Thread Cert.KLoss.nD Cert.KLoss.τ).loc Cert.KLoss.main_arg1) = m ((c.tc : Thread Cert.KLoss.nD Cert.KLoss.τ).loc Cert.KLoss.main_arg1))
      ∧ r.2.sem = fun _ => 0)

def quiescent_KLossIdeal [hKLossIdeal : Cert.KLossIdeal.Facts] : Prop :=
  ∀ (m : (ℓ : Loc Cert.KLossIdeal.nD Cert.KLossIdeal.τ Cert.KLossIdeal.sig) → Buf (Elt Ideal) ℓ) (g : Dev Cert.KLossIdeal.nD → PrngReg), Pre_KLossIdeal m →
    θ_run (Cert.KLossIdeal.defs (F := Ideal)) (onTc (τ := Cert.KLossIdeal.τ) (Cert.KLossIdeal.main (F := Ideal))) ⟨m, fun _ => 0, g⟩ (fun r => (∀ c : Dev Cert.KLossIdeal.nD,
      r.2.mem ((c.tc : Thread Cert.KLossIdeal.nD Cert.KLossIdeal.τ).loc Cert.KLossIdeal.main_arg0) = m ((c.tc : Thread Cert.KLossIdeal.nD Cert.KLossIdeal.τ).loc Cert.KLossIdeal.main_arg0)
      ∧ r.2.mem ((c.tc : Thread Cert.KLossIdeal.nD Cert.KLossIdeal.τ).loc Cert.KLossIdeal.main_arg1) = m ((c.tc : Thread Cert.KLossIdeal.nD Cert.KLossIdeal.τ).loc Cert.KLossIdeal.main_arg1))
      ∧ r.2.sem = fun _ => 0)

def quiescent_RLossIdeal [hRLossIdeal : Cert.RLossIdeal.Facts] : Prop :=
  ∀ (m : (ℓ : Loc Cert.RLossIdeal.nD Cert.RLossIdeal.τ Cert.RLossIdeal.sig) → Buf (Elt Ideal) ℓ) (g : Dev Cert.RLossIdeal.nD → PrngReg), Pre_RLossIdeal m →
    θ_run (Cert.RLossIdeal.defs (F := Ideal)) (onTc (τ := Cert.RLossIdeal.τ) (Cert.RLossIdeal.main (F := Ideal))) ⟨m, fun _ => 0, g⟩ (fun r => (∀ c : Dev Cert.RLossIdeal.nD,
      r.2.mem ((c.tc : Thread Cert.RLossIdeal.nD Cert.RLossIdeal.τ).loc Cert.RLossIdeal.main_arg0) = m ((c.tc : Thread Cert.RLossIdeal.nD Cert.RLossIdeal.τ).loc Cert.RLossIdeal.main_arg0)
      ∧ r.2.mem ((c.tc : Thread Cert.RLossIdeal.nD Cert.RLossIdeal.τ).loc Cert.RLossIdeal.main_arg1) = m ((c.tc : Thread Cert.RLossIdeal.nD Cert.RLossIdeal.τ).loc Cert.RLossIdeal.main_arg1))
      ∧ r.2.sem = fun _ => 0)

def quiescent_KFoxBwd [hKFoxBwd : Cert.KFoxBwd.Facts] : Prop :=
  ∀ (m : (ℓ : Loc Cert.KFoxBwd.nD Cert.KFoxBwd.τ Cert.KFoxBwd.sig) → Buf (Elt Bits) ℓ) (g : Dev Cert.KFoxBwd.nD → PrngReg), Pre_KFoxBwd m →
    θ_run (Cert.KFoxBwd.defs (F := Bits)) (onTc (τ := Cert.KFoxBwd.τ) (Cert.KFoxBwd.main (F := Bits))) ⟨m, fun _ => 0, g⟩ (fun r => (∀ c : Dev Cert.KFoxBwd.nD,
      r.2.mem ((c.tc : Thread Cert.KFoxBwd.nD Cert.KFoxBwd.τ).loc Cert.KFoxBwd.main_arg0) = m ((c.tc : Thread Cert.KFoxBwd.nD Cert.KFoxBwd.τ).loc Cert.KFoxBwd.main_arg0)
      ∧ r.2.mem ((c.tc : Thread Cert.KFoxBwd.nD Cert.KFoxBwd.τ).loc Cert.KFoxBwd.main_arg1) = m ((c.tc : Thread Cert.KFoxBwd.nD Cert.KFoxBwd.τ).loc Cert.KFoxBwd.main_arg1)
      ∧ r.2.mem ((c.tc : Thread Cert.KFoxBwd.nD Cert.KFoxBwd.τ).loc Cert.KFoxBwd.main_arg2) = m ((c.tc : Thread Cert.KFoxBwd.nD Cert.KFoxBwd.τ).loc Cert.KFoxBwd.main_arg2)
      ∧ r.2.mem ((c.tc : Thread Cert.KFoxBwd.nD Cert.KFoxBwd.τ).loc Cert.KFoxBwd.main_arg3) = m ((c.tc : Thread Cert.KFoxBwd.nD Cert.KFoxBwd.τ).loc Cert.KFoxBwd.main_arg3)
      ∧ r.2.mem ((c.tc : Thread Cert.KFoxBwd.nD Cert.KFoxBwd.τ).loc Cert.KFoxBwd.main_arg4) = m ((c.tc : Thread Cert.KFoxBwd.nD Cert.KFoxBwd.τ).loc Cert.KFoxBwd.main_arg4))
      ∧ r.2.sem = fun _ => 0)

def quiescent_KFoxBwdIdeal [hKFoxBwdIdeal : Cert.KFoxBwdIdeal.Facts] : Prop :=
  ∀ (m : (ℓ : Loc Cert.KFoxBwdIdeal.nD Cert.KFoxBwdIdeal.τ Cert.KFoxBwdIdeal.sig) → Buf (Elt Ideal) ℓ) (g : Dev Cert.KFoxBwdIdeal.nD → PrngReg), Pre_KFoxBwdIdeal m →
    θ_run (Cert.KFoxBwdIdeal.defs (F := Ideal)) (onTc (τ := Cert.KFoxBwdIdeal.τ) (Cert.KFoxBwdIdeal.main (F := Ideal))) ⟨m, fun _ => 0, g⟩ (fun r => (∀ c : Dev Cert.KFoxBwdIdeal.nD,
      r.2.mem ((c.tc : Thread Cert.KFoxBwdIdeal.nD Cert.KFoxBwdIdeal.τ).loc Cert.KFoxBwdIdeal.main_arg0) = m ((c.tc : Thread Cert.KFoxBwdIdeal.nD Cert.KFoxBwdIdeal.τ).loc Cert.KFoxBwdIdeal.main_arg0)
      ∧ r.2.mem ((c.tc : Thread Cert.KFoxBwdIdeal.nD Cert.KFoxBwdIdeal.τ).loc Cert.KFoxBwdIdeal.main_arg1) = m ((c.tc : Thread Cert.KFoxBwdIdeal.nD Cert.KFoxBwdIdeal.τ).loc Cert.KFoxBwdIdeal.main_arg1)
      ∧ r.2.mem ((c.tc : Thread Cert.KFoxBwdIdeal.nD Cert.KFoxBwdIdeal.τ).loc Cert.KFoxBwdIdeal.main_arg2) = m ((c.tc : Thread Cert.KFoxBwdIdeal.nD Cert.KFoxBwdIdeal.τ).loc Cert.KFoxBwdIdeal.main_arg2)
      ∧ r.2.mem ((c.tc : Thread Cert.KFoxBwdIdeal.nD Cert.KFoxBwdIdeal.τ).loc Cert.KFoxBwdIdeal.main_arg3) = m ((c.tc : Thread Cert.KFoxBwdIdeal.nD Cert.KFoxBwdIdeal.τ).loc Cert.KFoxBwdIdeal.main_arg3)
      ∧ r.2.mem ((c.tc : Thread Cert.KFoxBwdIdeal.nD Cert.KFoxBwdIdeal.τ).loc Cert.KFoxBwdIdeal.main_arg4) = m ((c.tc : Thread Cert.KFoxBwdIdeal.nD Cert.KFoxBwdIdeal.τ).loc Cert.KFoxBwdIdeal.main_arg4))
      ∧ r.2.sem = fun _ => 0)

def quiescent_KFoxBwdIdeal_pre_finite_fox [hKFoxBwdIdeal : Cert.KFoxBwdIdeal.Facts] [hPre_finite_fox : Cert.Pre_finite_fox.Facts] : Prop :=
  ∀ (m : (ℓ : Loc Cert.KFoxBwdIdeal.nD Cert.KFoxBwdIdeal.τ Cert.KFoxBwdIdeal.sig) → Buf (Elt Ideal) ℓ) (g : Dev Cert.KFoxBwdIdeal.nD → PrngReg), Pre_KFoxBwdIdeal_finite_fox m →
    θ_run (Cert.KFoxBwdIdeal.defs (F := Ideal)) (onTc (τ := Cert.KFoxBwdIdeal.τ) (Cert.KFoxBwdIdeal.main (F := Ideal))) ⟨m, fun _ => 0, g⟩ (fun r => (∀ c : Dev Cert.KFoxBwdIdeal.nD,
      r.2.mem ((c.tc : Thread Cert.KFoxBwdIdeal.nD Cert.KFoxBwdIdeal.τ).loc Cert.KFoxBwdIdeal.main_arg0) = m ((c.tc : Thread Cert.KFoxBwdIdeal.nD Cert.KFoxBwdIdeal.τ).loc Cert.KFoxBwdIdeal.main_arg0)
      ∧ r.2.mem ((c.tc : Thread Cert.KFoxBwdIdeal.nD Cert.KFoxBwdIdeal.τ).loc Cert.KFoxBwdIdeal.main_arg1) = m ((c.tc : Thread Cert.KFoxBwdIdeal.nD Cert.KFoxBwdIdeal.τ).loc Cert.KFoxBwdIdeal.main_arg1)
      ∧ r.2.mem ((c.tc : Thread Cert.KFoxBwdIdeal.nD Cert.KFoxBwdIdeal.τ).loc Cert.KFoxBwdIdeal.main_arg2) = m ((c.tc : Thread Cert.KFoxBwdIdeal.nD Cert.KFoxBwdIdeal.τ).loc Cert.KFoxBwdIdeal.main_arg2)
      ∧ r.2.mem ((c.tc : Thread Cert.KFoxBwdIdeal.nD Cert.KFoxBwdIdeal.τ).loc Cert.KFoxBwdIdeal.main_arg3) = m ((c.tc : Thread Cert.KFoxBwdIdeal.nD Cert.KFoxBwdIdeal.τ).loc Cert.KFoxBwdIdeal.main_arg3)
      ∧ r.2.mem ((c.tc : Thread Cert.KFoxBwdIdeal.nD Cert.KFoxBwdIdeal.τ).loc Cert.KFoxBwdIdeal.main_arg4) = m ((c.tc : Thread Cert.KFoxBwdIdeal.nD Cert.KFoxBwdIdeal.τ).loc Cert.KFoxBwdIdeal.main_arg4))
      ∧ r.2.sem = fun _ => 0)

def quiescent_RFoxBwdIdeal [hRFoxBwdIdeal : Cert.RFoxBwdIdeal.Facts] : Prop :=
  ∀ (m : (ℓ : Loc Cert.RFoxBwdIdeal.nD Cert.RFoxBwdIdeal.τ Cert.RFoxBwdIdeal.sig) → Buf (Elt Ideal) ℓ) (g : Dev Cert.RFoxBwdIdeal.nD → PrngReg), Pre_RFoxBwdIdeal m →
    θ_run (Cert.RFoxBwdIdeal.defs (F := Ideal)) (onTc (τ := Cert.RFoxBwdIdeal.τ) (Cert.RFoxBwdIdeal.main (F := Ideal))) ⟨m, fun _ => 0, g⟩ (fun r => (∀ c : Dev Cert.RFoxBwdIdeal.nD,
      r.2.mem ((c.tc : Thread Cert.RFoxBwdIdeal.nD Cert.RFoxBwdIdeal.τ).loc Cert.RFoxBwdIdeal.main_arg0) = m ((c.tc : Thread Cert.RFoxBwdIdeal.nD Cert.RFoxBwdIdeal.τ).loc Cert.RFoxBwdIdeal.main_arg0)
      ∧ r.2.mem ((c.tc : Thread Cert.RFoxBwdIdeal.nD Cert.RFoxBwdIdeal.τ).loc Cert.RFoxBwdIdeal.main_arg1) = m ((c.tc : Thread Cert.RFoxBwdIdeal.nD Cert.RFoxBwdIdeal.τ).loc Cert.RFoxBwdIdeal.main_arg1)
      ∧ r.2.mem ((c.tc : Thread Cert.RFoxBwdIdeal.nD Cert.RFoxBwdIdeal.τ).loc Cert.RFoxBwdIdeal.main_arg2) = m ((c.tc : Thread Cert.RFoxBwdIdeal.nD Cert.RFoxBwdIdeal.τ).loc Cert.RFoxBwdIdeal.main_arg2)
      ∧ r.2.mem ((c.tc : Thread Cert.RFoxBwdIdeal.nD Cert.RFoxBwdIdeal.τ).loc Cert.RFoxBwdIdeal.main_arg3) = m ((c.tc : Thread Cert.RFoxBwdIdeal.nD Cert.RFoxBwdIdeal.τ).loc Cert.RFoxBwdIdeal.main_arg3)
      ∧ r.2.mem ((c.tc : Thread Cert.RFoxBwdIdeal.nD Cert.RFoxBwdIdeal.τ).loc Cert.RFoxBwdIdeal.main_arg4) = m ((c.tc : Thread Cert.RFoxBwdIdeal.nD Cert.RFoxBwdIdeal.τ).loc Cert.RFoxBwdIdeal.main_arg4))
      ∧ r.2.sem = fun _ => 0)

def quiescent_RFoxBwdIdeal_pre_finite_fox [hRFoxBwdIdeal : Cert.RFoxBwdIdeal.Facts] [hPre_finite_fox : Cert.Pre_finite_fox.Facts] : Prop :=
  ∀ (m : (ℓ : Loc Cert.RFoxBwdIdeal.nD Cert.RFoxBwdIdeal.τ Cert.RFoxBwdIdeal.sig) → Buf (Elt Ideal) ℓ) (g : Dev Cert.RFoxBwdIdeal.nD → PrngReg), Pre_RFoxBwdIdeal_finite_fox m →
    θ_run (Cert.RFoxBwdIdeal.defs (F := Ideal)) (onTc (τ := Cert.RFoxBwdIdeal.τ) (Cert.RFoxBwdIdeal.main (F := Ideal))) ⟨m, fun _ => 0, g⟩ (fun r => (∀ c : Dev Cert.RFoxBwdIdeal.nD,
      r.2.mem ((c.tc : Thread Cert.RFoxBwdIdeal.nD Cert.RFoxBwdIdeal.τ).loc Cert.RFoxBwdIdeal.main_arg0) = m ((c.tc : Thread Cert.RFoxBwdIdeal.nD Cert.RFoxBwdIdeal.τ).loc Cert.RFoxBwdIdeal.main_arg0)
      ∧ r.2.mem ((c.tc : Thread Cert.RFoxBwdIdeal.nD Cert.RFoxBwdIdeal.τ).loc Cert.RFoxBwdIdeal.main_arg1) = m ((c.tc : Thread Cert.RFoxBwdIdeal.nD Cert.RFoxBwdIdeal.τ).loc Cert.RFoxBwdIdeal.main_arg1)
      ∧ r.2.mem ((c.tc : Thread Cert.RFoxBwdIdeal.nD Cert.RFoxBwdIdeal.τ).loc Cert.RFoxBwdIdeal.main_arg2) = m ((c.tc : Thread Cert.RFoxBwdIdeal.nD Cert.RFoxBwdIdeal.τ).loc Cert.RFoxBwdIdeal.main_arg2)
      ∧ r.2.mem ((c.tc : Thread Cert.RFoxBwdIdeal.nD Cert.RFoxBwdIdeal.τ).loc Cert.RFoxBwdIdeal.main_arg3) = m ((c.tc : Thread Cert.RFoxBwdIdeal.nD Cert.RFoxBwdIdeal.τ).loc Cert.RFoxBwdIdeal.main_arg3)
      ∧ r.2.mem ((c.tc : Thread Cert.RFoxBwdIdeal.nD Cert.RFoxBwdIdeal.τ).loc Cert.RFoxBwdIdeal.main_arg4) = m ((c.tc : Thread Cert.RFoxBwdIdeal.nD Cert.RFoxBwdIdeal.τ).loc Cert.RFoxBwdIdeal.main_arg4))
      ∧ r.2.sem = fun _ => 0)

def quiescent_KFoxF [hKFoxF : Cert.KFoxF.Facts] : Prop :=
  ∀ (m : (ℓ : Loc Cert.KFoxF.nD Cert.KFoxF.τ Cert.KFoxF.sig) → Buf (Elt Bits) ℓ) (g : Dev Cert.KFoxF.nD → PrngReg), Pre_KFoxF m →
    θ_run (Cert.KFoxF.defs (F := Bits)) (onTc (τ := Cert.KFoxF.τ) (Cert.KFoxF.main (F := Bits))) ⟨m, fun _ => 0, g⟩ (fun r => (∀ c : Dev Cert.KFoxF.nD,
      r.2.mem ((c.tc : Thread Cert.KFoxF.nD Cert.KFoxF.τ).loc Cert.KFoxF.main_arg0) = m ((c.tc : Thread Cert.KFoxF.nD Cert.KFoxF.τ).loc Cert.KFoxF.main_arg0)
      ∧ r.2.mem ((c.tc : Thread Cert.KFoxF.nD Cert.KFoxF.τ).loc Cert.KFoxF.main_arg1) = m ((c.tc : Thread Cert.KFoxF.nD Cert.KFoxF.τ).loc Cert.KFoxF.main_arg1)
      ∧ r.2.mem ((c.tc : Thread Cert.KFoxF.nD Cert.KFoxF.τ).loc Cert.KFoxF.main_arg2) = m ((c.tc : Thread Cert.KFoxF.nD Cert.KFoxF.τ).loc Cert.KFoxF.main_arg2)
      ∧ r.2.mem ((c.tc : Thread Cert.KFoxF.nD Cert.KFoxF.τ).loc Cert.KFoxF.main_arg3) = m ((c.tc : Thread Cert.KFoxF.nD Cert.KFoxF.τ).loc Cert.KFoxF.main_arg3))
      ∧ r.2.sem = fun _ => 0)

def quiescent_KFoxFIdeal [hKFoxFIdeal : Cert.KFoxFIdeal.Facts] : Prop :=
  ∀ (m : (ℓ : Loc Cert.KFoxFIdeal.nD Cert.KFoxFIdeal.τ Cert.KFoxFIdeal.sig) → Buf (Elt Ideal) ℓ) (g : Dev Cert.KFoxFIdeal.nD → PrngReg), Pre_KFoxFIdeal m →
    θ_run (Cert.KFoxFIdeal.defs (F := Ideal)) (onTc (τ := Cert.KFoxFIdeal.τ) (Cert.KFoxFIdeal.main (F := Ideal))) ⟨m, fun _ => 0, g⟩ (fun r => (∀ c : Dev Cert.KFoxFIdeal.nD,
      r.2.mem ((c.tc : Thread Cert.KFoxFIdeal.nD Cert.KFoxFIdeal.τ).loc Cert.KFoxFIdeal.main_arg0) = m ((c.tc : Thread Cert.KFoxFIdeal.nD Cert.KFoxFIdeal.τ).loc Cert.KFoxFIdeal.main_arg0)
      ∧ r.2.mem ((c.tc : Thread Cert.KFoxFIdeal.nD Cert.KFoxFIdeal.τ).loc Cert.KFoxFIdeal.main_arg1) = m ((c.tc : Thread Cert.KFoxFIdeal.nD Cert.KFoxFIdeal.τ).loc Cert.KFoxFIdeal.main_arg1)
      ∧ r.2.mem ((c.tc : Thread Cert.KFoxFIdeal.nD Cert.KFoxFIdeal.τ).loc Cert.KFoxFIdeal.main_arg2) = m ((c.tc : Thread Cert.KFoxFIdeal.nD Cert.KFoxFIdeal.τ).loc Cert.KFoxFIdeal.main_arg2)
      ∧ r.2.mem ((c.tc : Thread Cert.KFoxFIdeal.nD Cert.KFoxFIdeal.τ).loc Cert.KFoxFIdeal.main_arg3) = m ((c.tc : Thread Cert.KFoxFIdeal.nD Cert.KFoxFIdeal.τ).loc Cert.KFoxFIdeal.main_arg3))
      ∧ r.2.sem = fun _ => 0)

def quiescent_KFoxFIdeal_pre_finite_scores [hKFoxFIdeal : Cert.KFoxFIdeal.Facts] [hPre_finite_scores : Cert.Pre_finite_scores.Facts] : Prop :=
  ∀ (m : (ℓ : Loc Cert.KFoxFIdeal.nD Cert.KFoxFIdeal.τ Cert.KFoxFIdeal.sig) → Buf (Elt Ideal) ℓ) (g : Dev Cert.KFoxFIdeal.nD → PrngReg), Pre_KFoxFIdeal_finite_scores m →
    θ_run (Cert.KFoxFIdeal.defs (F := Ideal)) (onTc (τ := Cert.KFoxFIdeal.τ) (Cert.KFoxFIdeal.main (F := Ideal))) ⟨m, fun _ => 0, g⟩ (fun r => (∀ c : Dev Cert.KFoxFIdeal.nD,
      r.2.mem ((c.tc : Thread Cert.KFoxFIdeal.nD Cert.KFoxFIdeal.τ).loc Cert.KFoxFIdeal.main_arg0) = m ((c.tc : Thread Cert.KFoxFIdeal.nD Cert.KFoxFIdeal.τ).loc Cert.KFoxFIdeal.main_arg0)
      ∧ r.2.mem ((c.tc : Thread Cert.KFoxFIdeal.nD Cert.KFoxFIdeal.τ).loc Cert.KFoxFIdeal.main_arg1) = m ((c.tc : Thread Cert.KFoxFIdeal.nD Cert.KFoxFIdeal.τ).loc Cert.KFoxFIdeal.main_arg1)
      ∧ r.2.mem ((c.tc : Thread Cert.KFoxFIdeal.nD Cert.KFoxFIdeal.τ).loc Cert.KFoxFIdeal.main_arg2) = m ((c.tc : Thread Cert.KFoxFIdeal.nD Cert.KFoxFIdeal.τ).loc Cert.KFoxFIdeal.main_arg2)
      ∧ r.2.mem ((c.tc : Thread Cert.KFoxFIdeal.nD Cert.KFoxFIdeal.τ).loc Cert.KFoxFIdeal.main_arg3) = m ((c.tc : Thread Cert.KFoxFIdeal.nD Cert.KFoxFIdeal.τ).loc Cert.KFoxFIdeal.main_arg3))
      ∧ r.2.sem = fun _ => 0)

def quiescent_RFoxFIdeal [hRFoxFIdeal : Cert.RFoxFIdeal.Facts] : Prop :=
  ∀ (m : (ℓ : Loc Cert.RFoxFIdeal.nD Cert.RFoxFIdeal.τ Cert.RFoxFIdeal.sig) → Buf (Elt Ideal) ℓ) (g : Dev Cert.RFoxFIdeal.nD → PrngReg), Pre_RFoxFIdeal m →
    θ_run (Cert.RFoxFIdeal.defs (F := Ideal)) (onTc (τ := Cert.RFoxFIdeal.τ) (Cert.RFoxFIdeal.main (F := Ideal))) ⟨m, fun _ => 0, g⟩ (fun r => (∀ c : Dev Cert.RFoxFIdeal.nD,
      r.2.mem ((c.tc : Thread Cert.RFoxFIdeal.nD Cert.RFoxFIdeal.τ).loc Cert.RFoxFIdeal.main_arg0) = m ((c.tc : Thread Cert.RFoxFIdeal.nD Cert.RFoxFIdeal.τ).loc Cert.RFoxFIdeal.main_arg0)
      ∧ r.2.mem ((c.tc : Thread Cert.RFoxFIdeal.nD Cert.RFoxFIdeal.τ).loc Cert.RFoxFIdeal.main_arg1) = m ((c.tc : Thread Cert.RFoxFIdeal.nD Cert.RFoxFIdeal.τ).loc Cert.RFoxFIdeal.main_arg1)
      ∧ r.2.mem ((c.tc : Thread Cert.RFoxFIdeal.nD Cert.RFoxFIdeal.τ).loc Cert.RFoxFIdeal.main_arg2) = m ((c.tc : Thread Cert.RFoxFIdeal.nD Cert.RFoxFIdeal.τ).loc Cert.RFoxFIdeal.main_arg2)
      ∧ r.2.mem ((c.tc : Thread Cert.RFoxFIdeal.nD Cert.RFoxFIdeal.τ).loc Cert.RFoxFIdeal.main_arg3) = m ((c.tc : Thread Cert.RFoxFIdeal.nD Cert.RFoxFIdeal.τ).loc Cert.RFoxFIdeal.main_arg3))
      ∧ r.2.sem = fun _ => 0)

def quiescent_RFoxFIdeal_pre_finite_scores [hRFoxFIdeal : Cert.RFoxFIdeal.Facts] [hPre_finite_scores : Cert.Pre_finite_scores.Facts] : Prop :=
  ∀ (m : (ℓ : Loc Cert.RFoxFIdeal.nD Cert.RFoxFIdeal.τ Cert.RFoxFIdeal.sig) → Buf (Elt Ideal) ℓ) (g : Dev Cert.RFoxFIdeal.nD → PrngReg), Pre_RFoxFIdeal_finite_scores m →
    θ_run (Cert.RFoxFIdeal.defs (F := Ideal)) (onTc (τ := Cert.RFoxFIdeal.τ) (Cert.RFoxFIdeal.main (F := Ideal))) ⟨m, fun _ => 0, g⟩ (fun r => (∀ c : Dev Cert.RFoxFIdeal.nD,
      r.2.mem ((c.tc : Thread Cert.RFoxFIdeal.nD Cert.RFoxFIdeal.τ).loc Cert.RFoxFIdeal.main_arg0) = m ((c.tc : Thread Cert.RFoxFIdeal.nD Cert.RFoxFIdeal.τ).loc Cert.RFoxFIdeal.main_arg0)
      ∧ r.2.mem ((c.tc : Thread Cert.RFoxFIdeal.nD Cert.RFoxFIdeal.τ).loc Cert.RFoxFIdeal.main_arg1) = m ((c.tc : Thread Cert.RFoxFIdeal.nD Cert.RFoxFIdeal.τ).loc Cert.RFoxFIdeal.main_arg1)
      ∧ r.2.mem ((c.tc : Thread Cert.RFoxFIdeal.nD Cert.RFoxFIdeal.τ).loc Cert.RFoxFIdeal.main_arg2) = m ((c.tc : Thread Cert.RFoxFIdeal.nD Cert.RFoxFIdeal.τ).loc Cert.RFoxFIdeal.main_arg2)
      ∧ r.2.mem ((c.tc : Thread Cert.RFoxFIdeal.nD Cert.RFoxFIdeal.τ).loc Cert.RFoxFIdeal.main_arg3) = m ((c.tc : Thread Cert.RFoxFIdeal.nD Cert.RFoxFIdeal.τ).loc Cert.RFoxFIdeal.main_arg3))
      ∧ r.2.sem = fun _ => 0)

def quiescent_KNormOdd [hKNormOdd : Cert.KNormOdd.Facts] : Prop :=
  ∀ (m : (ℓ : Loc Cert.KNormOdd.nD Cert.KNormOdd.τ Cert.KNormOdd.sig) → Buf (Elt Bits) ℓ) (g : Dev Cert.KNormOdd.nD → PrngReg), Pre_KNormOdd m →
    θ_run (Cert.KNormOdd.defs (F := Bits)) (onTc (τ := Cert.KNormOdd.τ) (Cert.KNormOdd.main (F := Bits))) ⟨m, fun _ => 0, g⟩ (fun r => (∀ c : Dev Cert.KNormOdd.nD,
      r.2.mem ((c.tc : Thread Cert.KNormOdd.nD Cert.KNormOdd.τ).loc Cert.KNormOdd.main_arg0) = m ((c.tc : Thread Cert.KNormOdd.nD Cert.KNormOdd.τ).loc Cert.KNormOdd.main_arg0)
      ∧ r.2.mem ((c.tc : Thread Cert.KNormOdd.nD Cert.KNormOdd.τ).loc Cert.KNormOdd.main_arg1) = m ((c.tc : Thread Cert.KNormOdd.nD Cert.KNormOdd.τ).loc Cert.KNormOdd.main_arg1)
      ∧ r.2.mem ((c.tc : Thread Cert.KNormOdd.nD Cert.KNormOdd.τ).loc Cert.KNormOdd.main_arg2) = m ((c.tc : Thread Cert.KNormOdd.nD Cert.KNormOdd.τ).loc Cert.KNormOdd.main_arg2)
      ∧ r.2.mem ((c.tc : Thread Cert.KNormOdd.nD Cert.KNormOdd.τ).loc Cert.KNormOdd.main_arg3) = m ((c.tc : Thread Cert.KNormOdd.nD Cert.KNormOdd.τ).loc Cert.KNormOdd.main_arg3)
      ∧ r.2.mem ((c.tc : Thread Cert.KNormOdd.nD Cert.KNormOdd.τ).loc Cert.KNormOdd.main_arg4) = m ((c.tc : Thread Cert.KNormOdd.nD Cert.KNormOdd.τ).loc Cert.KNormOdd.main_arg4))
      ∧ r.2.sem = fun _ => 0)

def quiescent_KNormOddIdeal [hKNormOddIdeal : Cert.KNormOddIdeal.Facts] : Prop :=
  ∀ (m : (ℓ : Loc Cert.KNormOddIdeal.nD Cert.KNormOddIdeal.τ Cert.KNormOddIdeal.sig) → Buf (Elt Ideal) ℓ) (g : Dev Cert.KNormOddIdeal.nD → PrngReg), Pre_KNormOddIdeal m →
    θ_run (Cert.KNormOddIdeal.defs (F := Ideal)) (onTc (τ := Cert.KNormOddIdeal.τ) (Cert.KNormOddIdeal.main (F := Ideal))) ⟨m, fun _ => 0, g⟩ (fun r => (∀ c : Dev Cert.KNormOddIdeal.nD,
      r.2.mem ((c.tc : Thread Cert.KNormOddIdeal.nD Cert.KNormOddIdeal.τ).loc Cert.KNormOddIdeal.main_arg0) = m ((c.tc : Thread Cert.KNormOddIdeal.nD Cert.KNormOddIdeal.τ).loc Cert.KNormOddIdeal.main_arg0)
      ∧ r.2.mem ((c.tc : Thread Cert.KNormOddIdeal.nD Cert.KNormOddIdeal.τ).loc Cert.KNormOddIdeal.main_arg1) = m ((c.tc : Thread Cert.KNormOddIdeal.nD Cert.KNormOddIdeal.τ).loc Cert.KNormOddIdeal.main_arg1)
      ∧ r.2.mem ((c.tc : Thread Cert.KNormOddIdeal.nD Cert.KNormOddIdeal.τ).loc Cert.KNormOddIdeal.main_arg2) = m ((c.tc : Thread Cert.KNormOddIdeal.nD Cert.KNormOddIdeal.τ).loc Cert.KNormOddIdeal.main_arg2)
      ∧ r.2.mem ((c.tc : Thread Cert.KNormOddIdeal.nD Cert.KNormOddIdeal.τ).loc Cert.KNormOddIdeal.main_arg3) = m ((c.tc : Thread Cert.KNormOddIdeal.nD Cert.KNormOddIdeal.τ).loc Cert.KNormOddIdeal.main_arg3)
      ∧ r.2.mem ((c.tc : Thread Cert.KNormOddIdeal.nD Cert.KNormOddIdeal.τ).loc Cert.KNormOddIdeal.main_arg4) = m ((c.tc : Thread Cert.KNormOddIdeal.nD Cert.KNormOddIdeal.τ).loc Cert.KNormOddIdeal.main_arg4))
      ∧ r.2.sem = fun _ => 0)

def quiescent_RNormOddIdeal [hRNormOddIdeal : Cert.RNormOddIdeal.Facts] : Prop :=
  ∀ (m : (ℓ : Loc Cert.RNormOddIdeal.nD Cert.RNormOddIdeal.τ Cert.RNormOddIdeal.sig) → Buf (Elt Ideal) ℓ) (g : Dev Cert.RNormOddIdeal.nD → PrngReg), Pre_RNormOddIdeal m →
    θ_run (Cert.RNormOddIdeal.defs (F := Ideal)) (onTc (τ := Cert.RNormOddIdeal.τ) (Cert.RNormOddIdeal.main (F := Ideal))) ⟨m, fun _ => 0, g⟩ (fun r => (∀ c : Dev Cert.RNormOddIdeal.nD,
      r.2.mem ((c.tc : Thread Cert.RNormOddIdeal.nD Cert.RNormOddIdeal.τ).loc Cert.RNormOddIdeal.main_arg0) = m ((c.tc : Thread Cert.RNormOddIdeal.nD Cert.RNormOddIdeal.τ).loc Cert.RNormOddIdeal.main_arg0)
      ∧ r.2.mem ((c.tc : Thread Cert.RNormOddIdeal.nD Cert.RNormOddIdeal.τ).loc Cert.RNormOddIdeal.main_arg1) = m ((c.tc : Thread Cert.RNormOddIdeal.nD Cert.RNormOddIdeal.τ).loc Cert.RNormOddIdeal.main_arg1)
      ∧ r.2.mem ((c.tc : Thread Cert.RNormOddIdeal.nD Cert.RNormOddIdeal.τ).loc Cert.RNormOddIdeal.main_arg2) = m ((c.tc : Thread Cert.RNormOddIdeal.nD Cert.RNormOddIdeal.τ).loc Cert.RNormOddIdeal.main_arg2)
      ∧ r.2.mem ((c.tc : Thread Cert.RNormOddIdeal.nD Cert.RNormOddIdeal.τ).loc Cert.RNormOddIdeal.main_arg3) = m ((c.tc : Thread Cert.RNormOddIdeal.nD Cert.RNormOddIdeal.τ).loc Cert.RNormOddIdeal.main_arg3)
      ∧ r.2.mem ((c.tc : Thread Cert.RNormOddIdeal.nD Cert.RNormOddIdeal.τ).loc Cert.RNormOddIdeal.main_arg4) = m ((c.tc : Thread Cert.RNormOddIdeal.nD Cert.RNormOddIdeal.τ).loc Cert.RNormOddIdeal.main_arg4))
      ∧ r.2.sem = fun _ => 0)

def quiescent_KNormFfn [hKNormFfn : Cert.KNormFfn.Facts] : Prop :=
  ∀ (m : (ℓ : Loc Cert.KNormFfn.nD Cert.KNormFfn.τ Cert.KNormFfn.sig) → Buf (Elt Bits) ℓ) (g : Dev Cert.KNormFfn.nD → PrngReg), Pre_KNormFfn m →
    θ_run (Cert.KNormFfn.defs (F := Bits)) (onTc (τ := Cert.KNormFfn.τ) (Cert.KNormFfn.main (F := Bits))) ⟨m, fun _ => 0, g⟩ (fun r => (∀ c : Dev Cert.KNormFfn.nD,
      r.2.mem ((c.tc : Thread Cert.KNormFfn.nD Cert.KNormFfn.τ).loc Cert.KNormFfn.main_arg0) = m ((c.tc : Thread Cert.KNormFfn.nD Cert.KNormFfn.τ).loc Cert.KNormFfn.main_arg0)
      ∧ r.2.mem ((c.tc : Thread Cert.KNormFfn.nD Cert.KNormFfn.τ).loc Cert.KNormFfn.main_arg1) = m ((c.tc : Thread Cert.KNormFfn.nD Cert.KNormFfn.τ).loc Cert.KNormFfn.main_arg1)
      ∧ r.2.mem ((c.tc : Thread Cert.KNormFfn.nD Cert.KNormFfn.τ).loc Cert.KNormFfn.main_arg2) = m ((c.tc : Thread Cert.KNormFfn.nD Cert.KNormFfn.τ).loc Cert.KNormFfn.main_arg2)
      ∧ r.2.mem ((c.tc : Thread Cert.KNormFfn.nD Cert.KNormFfn.τ).loc Cert.KNormFfn.main_arg3) = m ((c.tc : Thread Cert.KNormFfn.nD Cert.KNormFfn.τ).loc Cert.KNormFfn.main_arg3)
      ∧ r.2.mem ((c.tc : Thread Cert.KNormFfn.nD Cert.KNormFfn.τ).loc Cert.KNormFfn.main_arg4) = m ((c.tc : Thread Cert.KNormFfn.nD Cert.KNormFfn.τ).loc Cert.KNormFfn.main_arg4)
      ∧ r.2.mem ((c.tc : Thread Cert.KNormFfn.nD Cert.KNormFfn.τ).loc Cert.KNormFfn.main_arg5) = m ((c.tc : Thread Cert.KNormFfn.nD Cert.KNormFfn.τ).loc Cert.KNormFfn.main_arg5)
      ∧ r.2.mem ((c.tc : Thread Cert.KNormFfn.nD Cert.KNormFfn.τ).loc Cert.KNormFfn.main_arg6) = m ((c.tc : Thread Cert.KNormFfn.nD Cert.KNormFfn.τ).loc Cert.KNormFfn.main_arg6))
      ∧ r.2.sem = fun _ => 0)

def quiescent_KNormFfnIdeal [hKNormFfnIdeal : Cert.KNormFfnIdeal.Facts] : Prop :=
  ∀ (m : (ℓ : Loc Cert.KNormFfnIdeal.nD Cert.KNormFfnIdeal.τ Cert.KNormFfnIdeal.sig) → Buf (Elt Ideal) ℓ) (g : Dev Cert.KNormFfnIdeal.nD → PrngReg), Pre_KNormFfnIdeal m →
    θ_run (Cert.KNormFfnIdeal.defs (F := Ideal)) (onTc (τ := Cert.KNormFfnIdeal.τ) (Cert.KNormFfnIdeal.main (F := Ideal))) ⟨m, fun _ => 0, g⟩ (fun r => (∀ c : Dev Cert.KNormFfnIdeal.nD,
      r.2.mem ((c.tc : Thread Cert.KNormFfnIdeal.nD Cert.KNormFfnIdeal.τ).loc Cert.KNormFfnIdeal.main_arg0) = m ((c.tc : Thread Cert.KNormFfnIdeal.nD Cert.KNormFfnIdeal.τ).loc Cert.KNormFfnIdeal.main_arg0)
      ∧ r.2.mem ((c.tc : Thread Cert.KNormFfnIdeal.nD Cert.KNormFfnIdeal.τ).loc Cert.KNormFfnIdeal.main_arg1) = m ((c.tc : Thread Cert.KNormFfnIdeal.nD Cert.KNormFfnIdeal.τ).loc Cert.KNormFfnIdeal.main_arg1)
      ∧ r.2.mem ((c.tc : Thread Cert.KNormFfnIdeal.nD Cert.KNormFfnIdeal.τ).loc Cert.KNormFfnIdeal.main_arg2) = m ((c.tc : Thread Cert.KNormFfnIdeal.nD Cert.KNormFfnIdeal.τ).loc Cert.KNormFfnIdeal.main_arg2)
      ∧ r.2.mem ((c.tc : Thread Cert.KNormFfnIdeal.nD Cert.KNormFfnIdeal.τ).loc Cert.KNormFfnIdeal.main_arg3) = m ((c.tc : Thread Cert.KNormFfnIdeal.nD Cert.KNormFfnIdeal.τ).loc Cert.KNormFfnIdeal.main_arg3)
      ∧ r.2.mem ((c.tc : Thread Cert.KNormFfnIdeal.nD Cert.KNormFfnIdeal.τ).loc Cert.KNormFfnIdeal.main_arg4) = m ((c.tc : Thread Cert.KNormFfnIdeal.nD Cert.KNormFfnIdeal.τ).loc Cert.KNormFfnIdeal.main_arg4)
      ∧ r.2.mem ((c.tc : Thread Cert.KNormFfnIdeal.nD Cert.KNormFfnIdeal.τ).loc Cert.KNormFfnIdeal.main_arg5) = m ((c.tc : Thread Cert.KNormFfnIdeal.nD Cert.KNormFfnIdeal.τ).loc Cert.KNormFfnIdeal.main_arg5)
      ∧ r.2.mem ((c.tc : Thread Cert.KNormFfnIdeal.nD Cert.KNormFfnIdeal.τ).loc Cert.KNormFfnIdeal.main_arg6) = m ((c.tc : Thread Cert.KNormFfnIdeal.nD Cert.KNormFfnIdeal.τ).loc Cert.KNormFfnIdeal.main_arg6))
      ∧ r.2.sem = fun _ => 0)

def quiescent_RNormFfnIdeal [hRNormFfnIdeal : Cert.RNormFfnIdeal.Facts] : Prop :=
  ∀ (m : (ℓ : Loc Cert.RNormFfnIdeal.nD Cert.RNormFfnIdeal.τ Cert.RNormFfnIdeal.sig) → Buf (Elt Ideal) ℓ) (g : Dev Cert.RNormFfnIdeal.nD → PrngReg), Pre_RNormFfnIdeal m →
    θ_run (Cert.RNormFfnIdeal.defs (F := Ideal)) (onTc (τ := Cert.RNormFfnIdeal.τ) (Cert.RNormFfnIdeal.main (F := Ideal))) ⟨m, fun _ => 0, g⟩ (fun r => (∀ c : Dev Cert.RNormFfnIdeal.nD,
      r.2.mem ((c.tc : Thread Cert.RNormFfnIdeal.nD Cert.RNormFfnIdeal.τ).loc Cert.RNormFfnIdeal.main_arg0) = m ((c.tc : Thread Cert.RNormFfnIdeal.nD Cert.RNormFfnIdeal.τ).loc Cert.RNormFfnIdeal.main_arg0)
      ∧ r.2.mem ((c.tc : Thread Cert.RNormFfnIdeal.nD Cert.RNormFfnIdeal.τ).loc Cert.RNormFfnIdeal.main_arg1) = m ((c.tc : Thread Cert.RNormFfnIdeal.nD Cert.RNormFfnIdeal.τ).loc Cert.RNormFfnIdeal.main_arg1)
      ∧ r.2.mem ((c.tc : Thread Cert.RNormFfnIdeal.nD Cert.RNormFfnIdeal.τ).loc Cert.RNormFfnIdeal.main_arg2) = m ((c.tc : Thread Cert.RNormFfnIdeal.nD Cert.RNormFfnIdeal.τ).loc Cert.RNormFfnIdeal.main_arg2)
      ∧ r.2.mem ((c.tc : Thread Cert.RNormFfnIdeal.nD Cert.RNormFfnIdeal.τ).loc Cert.RNormFfnIdeal.main_arg3) = m ((c.tc : Thread Cert.RNormFfnIdeal.nD Cert.RNormFfnIdeal.τ).loc Cert.RNormFfnIdeal.main_arg3)
      ∧ r.2.mem ((c.tc : Thread Cert.RNormFfnIdeal.nD Cert.RNormFfnIdeal.τ).loc Cert.RNormFfnIdeal.main_arg4) = m ((c.tc : Thread Cert.RNormFfnIdeal.nD Cert.RNormFfnIdeal.τ).loc Cert.RNormFfnIdeal.main_arg4)
      ∧ r.2.mem ((c.tc : Thread Cert.RNormFfnIdeal.nD Cert.RNormFfnIdeal.τ).loc Cert.RNormFfnIdeal.main_arg5) = m ((c.tc : Thread Cert.RNormFfnIdeal.nD Cert.RNormFfnIdeal.τ).loc Cert.RNormFfnIdeal.main_arg5)
      ∧ r.2.mem ((c.tc : Thread Cert.RNormFfnIdeal.nD Cert.RNormFfnIdeal.τ).loc Cert.RNormFfnIdeal.main_arg6) = m ((c.tc : Thread Cert.RNormFfnIdeal.nD Cert.RNormFfnIdeal.τ).loc Cert.RNormFfnIdeal.main_arg6))
      ∧ r.2.sem = fun _ => 0)

def quiescent_KNormEven [hKNormEven : Cert.KNormEven.Facts] : Prop :=
  ∀ (m : (ℓ : Loc Cert.KNormEven.nD Cert.KNormEven.τ Cert.KNormEven.sig) → Buf (Elt Bits) ℓ) (g : Dev Cert.KNormEven.nD → PrngReg), Pre_KNormEven m →
    θ_run (Cert.KNormEven.defs (F := Bits)) (onTc (τ := Cert.KNormEven.τ) (Cert.KNormEven.main (F := Bits))) ⟨m, fun _ => 0, g⟩ (fun r => (∀ c : Dev Cert.KNormEven.nD,
      r.2.mem ((c.tc : Thread Cert.KNormEven.nD Cert.KNormEven.τ).loc Cert.KNormEven.main_arg0) = m ((c.tc : Thread Cert.KNormEven.nD Cert.KNormEven.τ).loc Cert.KNormEven.main_arg0)
      ∧ r.2.mem ((c.tc : Thread Cert.KNormEven.nD Cert.KNormEven.τ).loc Cert.KNormEven.main_arg1) = m ((c.tc : Thread Cert.KNormEven.nD Cert.KNormEven.τ).loc Cert.KNormEven.main_arg1)
      ∧ r.2.mem ((c.tc : Thread Cert.KNormEven.nD Cert.KNormEven.τ).loc Cert.KNormEven.main_arg2) = m ((c.tc : Thread Cert.KNormEven.nD Cert.KNormEven.τ).loc Cert.KNormEven.main_arg2)
      ∧ r.2.mem ((c.tc : Thread Cert.KNormEven.nD Cert.KNormEven.τ).loc Cert.KNormEven.main_arg3) = m ((c.tc : Thread Cert.KNormEven.nD Cert.KNormEven.τ).loc Cert.KNormEven.main_arg3)
      ∧ r.2.mem ((c.tc : Thread Cert.KNormEven.nD Cert.KNormEven.τ).loc Cert.KNormEven.main_arg4) = m ((c.tc : Thread Cert.KNormEven.nD Cert.KNormEven.τ).loc Cert.KNormEven.main_arg4)
      ∧ r.2.mem ((c.tc : Thread Cert.KNormEven.nD Cert.KNormEven.τ).loc Cert.KNormEven.main_arg5) = m ((c.tc : Thread Cert.KNormEven.nD Cert.KNormEven.τ).loc Cert.KNormEven.main_arg5))
      ∧ r.2.sem = fun _ => 0)

def quiescent_KNormEvenIdeal [hKNormEvenIdeal : Cert.KNormEvenIdeal.Facts] : Prop :=
  ∀ (m : (ℓ : Loc Cert.KNormEvenIdeal.nD Cert.KNormEvenIdeal.τ Cert.KNormEvenIdeal.sig) → Buf (Elt Ideal) ℓ) (g : Dev Cert.KNormEvenIdeal.nD → PrngReg), Pre_KNormEvenIdeal m →
    θ_run (Cert.KNormEvenIdeal.defs (F := Ideal)) (onTc (τ := Cert.KNormEvenIdeal.τ) (Cert.KNormEvenIdeal.main (F := Ideal))) ⟨m, fun _ => 0, g⟩ (fun r => (∀ c : Dev Cert.KNormEvenIdeal.nD,
      r.2.mem ((c.tc : Thread Cert.KNormEvenIdeal.nD Cert.KNormEvenIdeal.τ).loc Cert.KNormEvenIdeal.main_arg0) = m ((c.tc : Thread Cert.KNormEvenIdeal.nD Cert.KNormEvenIdeal.τ).loc Cert.KNormEvenIdeal.main_arg0)
      ∧ r.2.mem ((c.tc : Thread Cert.KNormEvenIdeal.nD Cert.KNormEvenIdeal.τ).loc Cert.KNormEvenIdeal.main_arg1) = m ((c.tc : Thread Cert.KNormEvenIdeal.nD Cert.KNormEvenIdeal.τ).loc Cert.KNormEvenIdeal.main_arg1)
      ∧ r.2.mem ((c.tc : Thread Cert.KNormEvenIdeal.nD Cert.KNormEvenIdeal.τ).loc Cert.KNormEvenIdeal.main_arg2) = m ((c.tc : Thread Cert.KNormEvenIdeal.nD Cert.KNormEvenIdeal.τ).loc Cert.KNormEvenIdeal.main_arg2)
      ∧ r.2.mem ((c.tc : Thread Cert.KNormEvenIdeal.nD Cert.KNormEvenIdeal.τ).loc Cert.KNormEvenIdeal.main_arg3) = m ((c.tc : Thread Cert.KNormEvenIdeal.nD Cert.KNormEvenIdeal.τ).loc Cert.KNormEvenIdeal.main_arg3)
      ∧ r.2.mem ((c.tc : Thread Cert.KNormEvenIdeal.nD Cert.KNormEvenIdeal.τ).loc Cert.KNormEvenIdeal.main_arg4) = m ((c.tc : Thread Cert.KNormEvenIdeal.nD Cert.KNormEvenIdeal.τ).loc Cert.KNormEvenIdeal.main_arg4)
      ∧ r.2.mem ((c.tc : Thread Cert.KNormEvenIdeal.nD Cert.KNormEvenIdeal.τ).loc Cert.KNormEvenIdeal.main_arg5) = m ((c.tc : Thread Cert.KNormEvenIdeal.nD Cert.KNormEvenIdeal.τ).loc Cert.KNormEvenIdeal.main_arg5))
      ∧ r.2.sem = fun _ => 0)

def quiescent_RNormEvenIdeal [hRNormEvenIdeal : Cert.RNormEvenIdeal.Facts] : Prop :=
  ∀ (m : (ℓ : Loc Cert.RNormEvenIdeal.nD Cert.RNormEvenIdeal.τ Cert.RNormEvenIdeal.sig) → Buf (Elt Ideal) ℓ) (g : Dev Cert.RNormEvenIdeal.nD → PrngReg), Pre_RNormEvenIdeal m →
    θ_run (Cert.RNormEvenIdeal.defs (F := Ideal)) (onTc (τ := Cert.RNormEvenIdeal.τ) (Cert.RNormEvenIdeal.main (F := Ideal))) ⟨m, fun _ => 0, g⟩ (fun r => (∀ c : Dev Cert.RNormEvenIdeal.nD,
      r.2.mem ((c.tc : Thread Cert.RNormEvenIdeal.nD Cert.RNormEvenIdeal.τ).loc Cert.RNormEvenIdeal.main_arg0) = m ((c.tc : Thread Cert.RNormEvenIdeal.nD Cert.RNormEvenIdeal.τ).loc Cert.RNormEvenIdeal.main_arg0)
      ∧ r.2.mem ((c.tc : Thread Cert.RNormEvenIdeal.nD Cert.RNormEvenIdeal.τ).loc Cert.RNormEvenIdeal.main_arg1) = m ((c.tc : Thread Cert.RNormEvenIdeal.nD Cert.RNormEvenIdeal.τ).loc Cert.RNormEvenIdeal.main_arg1)
      ∧ r.2.mem ((c.tc : Thread Cert.RNormEvenIdeal.nD Cert.RNormEvenIdeal.τ).loc Cert.RNormEvenIdeal.main_arg2) = m ((c.tc : Thread Cert.RNormEvenIdeal.nD Cert.RNormEvenIdeal.τ).loc Cert.RNormEvenIdeal.main_arg2)
      ∧ r.2.mem ((c.tc : Thread Cert.RNormEvenIdeal.nD Cert.RNormEvenIdeal.τ).loc Cert.RNormEvenIdeal.main_arg3) = m ((c.tc : Thread Cert.RNormEvenIdeal.nD Cert.RNormEvenIdeal.τ).loc Cert.RNormEvenIdeal.main_arg3)
      ∧ r.2.mem ((c.tc : Thread Cert.RNormEvenIdeal.nD Cert.RNormEvenIdeal.τ).loc Cert.RNormEvenIdeal.main_arg4) = m ((c.tc : Thread Cert.RNormEvenIdeal.nD Cert.RNormEvenIdeal.τ).loc Cert.RNormEvenIdeal.main_arg4)
      ∧ r.2.mem ((c.tc : Thread Cert.RNormEvenIdeal.nD Cert.RNormEvenIdeal.τ).loc Cert.RNormEvenIdeal.main_arg5) = m ((c.tc : Thread Cert.RNormEvenIdeal.nD Cert.RNormEvenIdeal.τ).loc Cert.RNormEvenIdeal.main_arg5))
      ∧ r.2.sem = fun _ => 0)

def quiescent_KForget [hKForget : Cert.KForget.Facts] : Prop :=
  ∀ (m : (ℓ : Loc Cert.KForget.nD Cert.KForget.τ Cert.KForget.sig) → Buf (Elt Bits) ℓ) (g : Dev Cert.KForget.nD → PrngReg), Pre_KForget m →
    θ_run (Cert.KForget.defs (F := Bits)) (onTc (τ := Cert.KForget.τ) (Cert.KForget.main (F := Bits))) ⟨m, fun _ => 0, g⟩ (fun r => (∀ c : Dev Cert.KForget.nD,
      r.2.mem ((c.tc : Thread Cert.KForget.nD Cert.KForget.τ).loc Cert.KForget.main_arg0) = m ((c.tc : Thread Cert.KForget.nD Cert.KForget.τ).loc Cert.KForget.main_arg0)
      ∧ r.2.mem ((c.tc : Thread Cert.KForget.nD Cert.KForget.τ).loc Cert.KForget.main_arg1) = m ((c.tc : Thread Cert.KForget.nD Cert.KForget.τ).loc Cert.KForget.main_arg1)
      ∧ r.2.mem ((c.tc : Thread Cert.KForget.nD Cert.KForget.τ).loc Cert.KForget.main_arg2) = m ((c.tc : Thread Cert.KForget.nD Cert.KForget.τ).loc Cert.KForget.main_arg2))
      ∧ r.2.sem = fun _ => 0)

def quiescent_KForgetIdeal [hKForgetIdeal : Cert.KForgetIdeal.Facts] : Prop :=
  ∀ (m : (ℓ : Loc Cert.KForgetIdeal.nD Cert.KForgetIdeal.τ Cert.KForgetIdeal.sig) → Buf (Elt Ideal) ℓ) (g : Dev Cert.KForgetIdeal.nD → PrngReg), Pre_KForgetIdeal m →
    θ_run (Cert.KForgetIdeal.defs (F := Ideal)) (onTc (τ := Cert.KForgetIdeal.τ) (Cert.KForgetIdeal.main (F := Ideal))) ⟨m, fun _ => 0, g⟩ (fun r => (∀ c : Dev Cert.KForgetIdeal.nD,
      r.2.mem ((c.tc : Thread Cert.KForgetIdeal.nD Cert.KForgetIdeal.τ).loc Cert.KForgetIdeal.main_arg0) = m ((c.tc : Thread Cert.KForgetIdeal.nD Cert.KForgetIdeal.τ).loc Cert.KForgetIdeal.main_arg0)
      ∧ r.2.mem ((c.tc : Thread Cert.KForgetIdeal.nD Cert.KForgetIdeal.τ).loc Cert.KForgetIdeal.main_arg1) = m ((c.tc : Thread Cert.KForgetIdeal.nD Cert.KForgetIdeal.τ).loc Cert.KForgetIdeal.main_arg1)
      ∧ r.2.mem ((c.tc : Thread Cert.KForgetIdeal.nD Cert.KForgetIdeal.τ).loc Cert.KForgetIdeal.main_arg2) = m ((c.tc : Thread Cert.KForgetIdeal.nD Cert.KForgetIdeal.τ).loc Cert.KForgetIdeal.main_arg2))
      ∧ r.2.sem = fun _ => 0)

def quiescent_RForgetIdeal [hRForgetIdeal : Cert.RForgetIdeal.Facts] : Prop :=
  ∀ (m : (ℓ : Loc Cert.RForgetIdeal.nD Cert.RForgetIdeal.τ Cert.RForgetIdeal.sig) → Buf (Elt Ideal) ℓ) (g : Dev Cert.RForgetIdeal.nD → PrngReg), Pre_RForgetIdeal m →
    θ_run (Cert.RForgetIdeal.defs (F := Ideal)) (onTc (τ := Cert.RForgetIdeal.τ) (Cert.RForgetIdeal.main (F := Ideal))) ⟨m, fun _ => 0, g⟩ (fun r => (∀ c : Dev Cert.RForgetIdeal.nD,
      r.2.mem ((c.tc : Thread Cert.RForgetIdeal.nD Cert.RForgetIdeal.τ).loc Cert.RForgetIdeal.main_arg0) = m ((c.tc : Thread Cert.RForgetIdeal.nD Cert.RForgetIdeal.τ).loc Cert.RForgetIdeal.main_arg0)
      ∧ r.2.mem ((c.tc : Thread Cert.RForgetIdeal.nD Cert.RForgetIdeal.τ).loc Cert.RForgetIdeal.main_arg1) = m ((c.tc : Thread Cert.RForgetIdeal.nD Cert.RForgetIdeal.τ).loc Cert.RForgetIdeal.main_arg1)
      ∧ r.2.mem ((c.tc : Thread Cert.RForgetIdeal.nD Cert.RForgetIdeal.τ).loc Cert.RForgetIdeal.main_arg2) = m ((c.tc : Thread Cert.RForgetIdeal.nD Cert.RForgetIdeal.τ).loc Cert.RForgetIdeal.main_arg2))
      ∧ r.2.sem = fun _ => 0)

def quiescent_KFfn [hKFfn : Cert.KFfn.Facts] : Prop :=
  ∀ (m : (ℓ : Loc Cert.KFfn.nD Cert.KFfn.τ Cert.KFfn.sig) → Buf (Elt Bits) ℓ) (g : Dev Cert.KFfn.nD → PrngReg), Pre_KFfn m →
    θ_run (Cert.KFfn.defs (F := Bits)) (onTc (τ := Cert.KFfn.τ) (Cert.KFfn.main (F := Bits))) ⟨m, fun _ => 0, g⟩ (fun r => (∀ c : Dev Cert.KFfn.nD,
      r.2.mem ((c.tc : Thread Cert.KFfn.nD Cert.KFfn.τ).loc Cert.KFfn.main_arg0) = m ((c.tc : Thread Cert.KFfn.nD Cert.KFfn.τ).loc Cert.KFfn.main_arg0)
      ∧ r.2.mem ((c.tc : Thread Cert.KFfn.nD Cert.KFfn.τ).loc Cert.KFfn.main_arg1) = m ((c.tc : Thread Cert.KFfn.nD Cert.KFfn.τ).loc Cert.KFfn.main_arg1)
      ∧ r.2.mem ((c.tc : Thread Cert.KFfn.nD Cert.KFfn.τ).loc Cert.KFfn.main_arg2) = m ((c.tc : Thread Cert.KFfn.nD Cert.KFfn.τ).loc Cert.KFfn.main_arg2)
      ∧ r.2.mem ((c.tc : Thread Cert.KFfn.nD Cert.KFfn.τ).loc Cert.KFfn.main_arg3) = m ((c.tc : Thread Cert.KFfn.nD Cert.KFfn.τ).loc Cert.KFfn.main_arg3)
      ∧ r.2.mem ((c.tc : Thread Cert.KFfn.nD Cert.KFfn.τ).loc Cert.KFfn.main_arg4) = m ((c.tc : Thread Cert.KFfn.nD Cert.KFfn.τ).loc Cert.KFfn.main_arg4)
      ∧ r.2.mem ((c.tc : Thread Cert.KFfn.nD Cert.KFfn.τ).loc Cert.KFfn.main_arg5) = m ((c.tc : Thread Cert.KFfn.nD Cert.KFfn.τ).loc Cert.KFfn.main_arg5))
      ∧ r.2.sem = fun _ => 0)

def quiescent_KFfnIdeal [hKFfnIdeal : Cert.KFfnIdeal.Facts] : Prop :=
  ∀ (m : (ℓ : Loc Cert.KFfnIdeal.nD Cert.KFfnIdeal.τ Cert.KFfnIdeal.sig) → Buf (Elt Ideal) ℓ) (g : Dev Cert.KFfnIdeal.nD → PrngReg), Pre_KFfnIdeal m →
    θ_run (Cert.KFfnIdeal.defs (F := Ideal)) (onTc (τ := Cert.KFfnIdeal.τ) (Cert.KFfnIdeal.main (F := Ideal))) ⟨m, fun _ => 0, g⟩ (fun r => (∀ c : Dev Cert.KFfnIdeal.nD,
      r.2.mem ((c.tc : Thread Cert.KFfnIdeal.nD Cert.KFfnIdeal.τ).loc Cert.KFfnIdeal.main_arg0) = m ((c.tc : Thread Cert.KFfnIdeal.nD Cert.KFfnIdeal.τ).loc Cert.KFfnIdeal.main_arg0)
      ∧ r.2.mem ((c.tc : Thread Cert.KFfnIdeal.nD Cert.KFfnIdeal.τ).loc Cert.KFfnIdeal.main_arg1) = m ((c.tc : Thread Cert.KFfnIdeal.nD Cert.KFfnIdeal.τ).loc Cert.KFfnIdeal.main_arg1)
      ∧ r.2.mem ((c.tc : Thread Cert.KFfnIdeal.nD Cert.KFfnIdeal.τ).loc Cert.KFfnIdeal.main_arg2) = m ((c.tc : Thread Cert.KFfnIdeal.nD Cert.KFfnIdeal.τ).loc Cert.KFfnIdeal.main_arg2)
      ∧ r.2.mem ((c.tc : Thread Cert.KFfnIdeal.nD Cert.KFfnIdeal.τ).loc Cert.KFfnIdeal.main_arg3) = m ((c.tc : Thread Cert.KFfnIdeal.nD Cert.KFfnIdeal.τ).loc Cert.KFfnIdeal.main_arg3)
      ∧ r.2.mem ((c.tc : Thread Cert.KFfnIdeal.nD Cert.KFfnIdeal.τ).loc Cert.KFfnIdeal.main_arg4) = m ((c.tc : Thread Cert.KFfnIdeal.nD Cert.KFfnIdeal.τ).loc Cert.KFfnIdeal.main_arg4)
      ∧ r.2.mem ((c.tc : Thread Cert.KFfnIdeal.nD Cert.KFfnIdeal.τ).loc Cert.KFfnIdeal.main_arg5) = m ((c.tc : Thread Cert.KFfnIdeal.nD Cert.KFfnIdeal.τ).loc Cert.KFfnIdeal.main_arg5))
      ∧ r.2.sem = fun _ => 0)

def quiescent_KFfnIdeal_pre_finite_ffn [hKFfnIdeal : Cert.KFfnIdeal.Facts] [hPre_finite_ffn : Cert.Pre_finite_ffn.Facts] : Prop :=
  ∀ (m : (ℓ : Loc Cert.KFfnIdeal.nD Cert.KFfnIdeal.τ Cert.KFfnIdeal.sig) → Buf (Elt Ideal) ℓ) (g : Dev Cert.KFfnIdeal.nD → PrngReg), Pre_KFfnIdeal_finite_ffn m →
    θ_run (Cert.KFfnIdeal.defs (F := Ideal)) (onTc (τ := Cert.KFfnIdeal.τ) (Cert.KFfnIdeal.main (F := Ideal))) ⟨m, fun _ => 0, g⟩ (fun r => (∀ c : Dev Cert.KFfnIdeal.nD,
      r.2.mem ((c.tc : Thread Cert.KFfnIdeal.nD Cert.KFfnIdeal.τ).loc Cert.KFfnIdeal.main_arg0) = m ((c.tc : Thread Cert.KFfnIdeal.nD Cert.KFfnIdeal.τ).loc Cert.KFfnIdeal.main_arg0)
      ∧ r.2.mem ((c.tc : Thread Cert.KFfnIdeal.nD Cert.KFfnIdeal.τ).loc Cert.KFfnIdeal.main_arg1) = m ((c.tc : Thread Cert.KFfnIdeal.nD Cert.KFfnIdeal.τ).loc Cert.KFfnIdeal.main_arg1)
      ∧ r.2.mem ((c.tc : Thread Cert.KFfnIdeal.nD Cert.KFfnIdeal.τ).loc Cert.KFfnIdeal.main_arg2) = m ((c.tc : Thread Cert.KFfnIdeal.nD Cert.KFfnIdeal.τ).loc Cert.KFfnIdeal.main_arg2)
      ∧ r.2.mem ((c.tc : Thread Cert.KFfnIdeal.nD Cert.KFfnIdeal.τ).loc Cert.KFfnIdeal.main_arg3) = m ((c.tc : Thread Cert.KFfnIdeal.nD Cert.KFfnIdeal.τ).loc Cert.KFfnIdeal.main_arg3)
      ∧ r.2.mem ((c.tc : Thread Cert.KFfnIdeal.nD Cert.KFfnIdeal.τ).loc Cert.KFfnIdeal.main_arg4) = m ((c.tc : Thread Cert.KFfnIdeal.nD Cert.KFfnIdeal.τ).loc Cert.KFfnIdeal.main_arg4)
      ∧ r.2.mem ((c.tc : Thread Cert.KFfnIdeal.nD Cert.KFfnIdeal.τ).loc Cert.KFfnIdeal.main_arg5) = m ((c.tc : Thread Cert.KFfnIdeal.nD Cert.KFfnIdeal.τ).loc Cert.KFfnIdeal.main_arg5))
      ∧ r.2.sem = fun _ => 0)

def quiescent_RFfnIdeal [hRFfnIdeal : Cert.RFfnIdeal.Facts] : Prop :=
  ∀ (m : (ℓ : Loc Cert.RFfnIdeal.nD Cert.RFfnIdeal.τ Cert.RFfnIdeal.sig) → Buf (Elt Ideal) ℓ) (g : Dev Cert.RFfnIdeal.nD → PrngReg), Pre_RFfnIdeal m →
    θ_run (Cert.RFfnIdeal.defs (F := Ideal)) (onTc (τ := Cert.RFfnIdeal.τ) (Cert.RFfnIdeal.main (F := Ideal))) ⟨m, fun _ => 0, g⟩ (fun r => (∀ c : Dev Cert.RFfnIdeal.nD,
      r.2.mem ((c.tc : Thread Cert.RFfnIdeal.nD Cert.RFfnIdeal.τ).loc Cert.RFfnIdeal.main_arg0) = m ((c.tc : Thread Cert.RFfnIdeal.nD Cert.RFfnIdeal.τ).loc Cert.RFfnIdeal.main_arg0)
      ∧ r.2.mem ((c.tc : Thread Cert.RFfnIdeal.nD Cert.RFfnIdeal.τ).loc Cert.RFfnIdeal.main_arg1) = m ((c.tc : Thread Cert.RFfnIdeal.nD Cert.RFfnIdeal.τ).loc Cert.RFfnIdeal.main_arg1)
      ∧ r.2.mem ((c.tc : Thread Cert.RFfnIdeal.nD Cert.RFfnIdeal.τ).loc Cert.RFfnIdeal.main_arg2) = m ((c.tc : Thread Cert.RFfnIdeal.nD Cert.RFfnIdeal.τ).loc Cert.RFfnIdeal.main_arg2)
      ∧ r.2.mem ((c.tc : Thread Cert.RFfnIdeal.nD Cert.RFfnIdeal.τ).loc Cert.RFfnIdeal.main_arg3) = m ((c.tc : Thread Cert.RFfnIdeal.nD Cert.RFfnIdeal.τ).loc Cert.RFfnIdeal.main_arg3)
      ∧ r.2.mem ((c.tc : Thread Cert.RFfnIdeal.nD Cert.RFfnIdeal.τ).loc Cert.RFfnIdeal.main_arg4) = m ((c.tc : Thread Cert.RFfnIdeal.nD Cert.RFfnIdeal.τ).loc Cert.RFfnIdeal.main_arg4)
      ∧ r.2.mem ((c.tc : Thread Cert.RFfnIdeal.nD Cert.RFfnIdeal.τ).loc Cert.RFfnIdeal.main_arg5) = m ((c.tc : Thread Cert.RFfnIdeal.nD Cert.RFfnIdeal.τ).loc Cert.RFfnIdeal.main_arg5))
      ∧ r.2.sem = fun _ => 0)

def quiescent_RFfnIdeal_pre_finite_ffn [hRFfnIdeal : Cert.RFfnIdeal.Facts] [hPre_finite_ffn : Cert.Pre_finite_ffn.Facts] : Prop :=
  ∀ (m : (ℓ : Loc Cert.RFfnIdeal.nD Cert.RFfnIdeal.τ Cert.RFfnIdeal.sig) → Buf (Elt Ideal) ℓ) (g : Dev Cert.RFfnIdeal.nD → PrngReg), Pre_RFfnIdeal_finite_ffn m →
    θ_run (Cert.RFfnIdeal.defs (F := Ideal)) (onTc (τ := Cert.RFfnIdeal.τ) (Cert.RFfnIdeal.main (F := Ideal))) ⟨m, fun _ => 0, g⟩ (fun r => (∀ c : Dev Cert.RFfnIdeal.nD,
      r.2.mem ((c.tc : Thread Cert.RFfnIdeal.nD Cert.RFfnIdeal.τ).loc Cert.RFfnIdeal.main_arg0) = m ((c.tc : Thread Cert.RFfnIdeal.nD Cert.RFfnIdeal.τ).loc Cert.RFfnIdeal.main_arg0)
      ∧ r.2.mem ((c.tc : Thread Cert.RFfnIdeal.nD Cert.RFfnIdeal.τ).loc Cert.RFfnIdeal.main_arg1) = m ((c.tc : Thread Cert.RFfnIdeal.nD Cert.RFfnIdeal.τ).loc Cert.RFfnIdeal.main_arg1)
      ∧ r.2.mem ((c.tc : Thread Cert.RFfnIdeal.nD Cert.RFfnIdeal.τ).loc Cert.RFfnIdeal.main_arg2) = m ((c.tc : Thread Cert.RFfnIdeal.nD Cert.RFfnIdeal.τ).loc Cert.RFfnIdeal.main_arg2)
      ∧ r.2.mem ((c.tc : Thread Cert.RFfnIdeal.nD Cert.RFfnIdeal.τ).loc Cert.RFfnIdeal.main_arg3) = m ((c.tc : Thread Cert.RFfnIdeal.nD Cert.RFfnIdeal.τ).loc Cert.RFfnIdeal.main_arg3)
      ∧ r.2.mem ((c.tc : Thread Cert.RFfnIdeal.nD Cert.RFfnIdeal.τ).loc Cert.RFfnIdeal.main_arg4) = m ((c.tc : Thread Cert.RFfnIdeal.nD Cert.RFfnIdeal.τ).loc Cert.RFfnIdeal.main_arg4)
      ∧ r.2.mem ((c.tc : Thread Cert.RFfnIdeal.nD Cert.RFfnIdeal.τ).loc Cert.RFfnIdeal.main_arg5) = m ((c.tc : Thread Cert.RFfnIdeal.nD Cert.RFfnIdeal.τ).loc Cert.RFfnIdeal.main_arg5))
      ∧ r.2.sem = fun _ => 0)

def quiescent_KDoPrep [hKDoPrep : Cert.KDoPrep.Facts] : Prop :=
  ∀ (m : (ℓ : Loc Cert.KDoPrep.nD Cert.KDoPrep.τ Cert.KDoPrep.sig) → Buf (Elt Bits) ℓ) (g : Dev Cert.KDoPrep.nD → PrngReg), Pre_KDoPrep m →
    θ_run (Cert.KDoPrep.defs (F := Bits)) (onTc (τ := Cert.KDoPrep.τ) (Cert.KDoPrep.main (F := Bits))) ⟨m, fun _ => 0, g⟩ (fun r => (∀ c : Dev Cert.KDoPrep.nD,
      r.2.mem ((c.tc : Thread Cert.KDoPrep.nD Cert.KDoPrep.τ).loc Cert.KDoPrep.main_arg0) = m ((c.tc : Thread Cert.KDoPrep.nD Cert.KDoPrep.τ).loc Cert.KDoPrep.main_arg0)
      ∧ r.2.mem ((c.tc : Thread Cert.KDoPrep.nD Cert.KDoPrep.τ).loc Cert.KDoPrep.main_arg1) = m ((c.tc : Thread Cert.KDoPrep.nD Cert.KDoPrep.τ).loc Cert.KDoPrep.main_arg1)
      ∧ r.2.mem ((c.tc : Thread Cert.KDoPrep.nD Cert.KDoPrep.τ).loc Cert.KDoPrep.main_arg2) = m ((c.tc : Thread Cert.KDoPrep.nD Cert.KDoPrep.τ).loc Cert.KDoPrep.main_arg2)
      ∧ r.2.mem ((c.tc : Thread Cert.KDoPrep.nD Cert.KDoPrep.τ).loc Cert.KDoPrep.main_arg3) = m ((c.tc : Thread Cert.KDoPrep.nD Cert.KDoPrep.τ).loc Cert.KDoPrep.main_arg3)
      ∧ r.2.mem ((c.tc : Thread Cert.KDoPrep.nD Cert.KDoPrep.τ).loc Cert.KDoPrep.main_arg4) = m ((c.tc : Thread Cert.KDoPrep.nD Cert.KDoPrep.τ).loc Cert.KDoPrep.main_arg4))
      ∧ r.2.sem = fun _ => 0)

def quiescent_KDoPrepIdeal [hKDoPrepIdeal : Cert.KDoPrepIdeal.Facts] : Prop :=
  ∀ (m : (ℓ : Loc Cert.KDoPrepIdeal.nD Cert.KDoPrepIdeal.τ Cert.KDoPrepIdeal.sig) → Buf (Elt Ideal) ℓ) (g : Dev Cert.KDoPrepIdeal.nD → PrngReg), Pre_KDoPrepIdeal m →
    θ_run (Cert.KDoPrepIdeal.defs (F := Ideal)) (onTc (τ := Cert.KDoPrepIdeal.τ) (Cert.KDoPrepIdeal.main (F := Ideal))) ⟨m, fun _ => 0, g⟩ (fun r => (∀ c : Dev Cert.KDoPrepIdeal.nD,
      r.2.mem ((c.tc : Thread Cert.KDoPrepIdeal.nD Cert.KDoPrepIdeal.τ).loc Cert.KDoPrepIdeal.main_arg0) = m ((c.tc : Thread Cert.KDoPrepIdeal.nD Cert.KDoPrepIdeal.τ).loc Cert.KDoPrepIdeal.main_arg0)
      ∧ r.2.mem ((c.tc : Thread Cert.KDoPrepIdeal.nD Cert.KDoPrepIdeal.τ).loc Cert.KDoPrepIdeal.main_arg1) = m ((c.tc : Thread Cert.KDoPrepIdeal.nD Cert.KDoPrepIdeal.τ).loc Cert.KDoPrepIdeal.main_arg1)
      ∧ r.2.mem ((c.tc : Thread Cert.KDoPrepIdeal.nD Cert.KDoPrepIdeal.τ).loc Cert.KDoPrepIdeal.main_arg2) = m ((c.tc : Thread Cert.KDoPrepIdeal.nD Cert.KDoPrepIdeal.τ).loc Cert.KDoPrepIdeal.main_arg2)
      ∧ r.2.mem ((c.tc : Thread Cert.KDoPrepIdeal.nD Cert.KDoPrepIdeal.τ).loc Cert.KDoPrepIdeal.main_arg3) = m ((c.tc : Thread Cert.KDoPrepIdeal.nD Cert.KDoPrepIdeal.τ).loc Cert.KDoPrepIdeal.main_arg3)
      ∧ r.2.mem ((c.tc : Thread Cert.KDoPrepIdeal.nD Cert.KDoPrepIdeal.τ).loc Cert.KDoPrepIdeal.main_arg4) = m ((c.tc : Thread Cert.KDoPrepIdeal.nD Cert.KDoPrepIdeal.τ).loc Cert.KDoPrepIdeal.main_arg4))
      ∧ r.2.sem = fun _ => 0)

def quiescent_RDoPrepIdeal [hRDoPrepIdeal : Cert.RDoPrepIdeal.Facts] : Prop :=
  ∀ (m : (ℓ : Loc Cert.RDoPrepIdeal.nD Cert.RDoPrepIdeal.τ Cert.RDoPrepIdeal.sig) → Buf (Elt Ideal) ℓ) (g : Dev Cert.RDoPrepIdeal.nD → PrngReg), Pre_RDoPrepIdeal m →
    θ_run (Cert.RDoPrepIdeal.defs (F := Ideal)) (onTc (τ := Cert.RDoPrepIdeal.τ) (Cert.RDoPrepIdeal.main (F := Ideal))) ⟨m, fun _ => 0, g⟩ (fun r => (∀ c : Dev Cert.RDoPrepIdeal.nD,
      r.2.mem ((c.tc : Thread Cert.RDoPrepIdeal.nD Cert.RDoPrepIdeal.τ).loc Cert.RDoPrepIdeal.main_arg0) = m ((c.tc : Thread Cert.RDoPrepIdeal.nD Cert.RDoPrepIdeal.τ).loc Cert.RDoPrepIdeal.main_arg0)
      ∧ r.2.mem ((c.tc : Thread Cert.RDoPrepIdeal.nD Cert.RDoPrepIdeal.τ).loc Cert.RDoPrepIdeal.main_arg1) = m ((c.tc : Thread Cert.RDoPrepIdeal.nD Cert.RDoPrepIdeal.τ).loc Cert.RDoPrepIdeal.main_arg1)
      ∧ r.2.mem ((c.tc : Thread Cert.RDoPrepIdeal.nD Cert.RDoPrepIdeal.τ).loc Cert.RDoPrepIdeal.main_arg2) = m ((c.tc : Thread Cert.RDoPrepIdeal.nD Cert.RDoPrepIdeal.τ).loc Cert.RDoPrepIdeal.main_arg2)
      ∧ r.2.mem ((c.tc : Thread Cert.RDoPrepIdeal.nD Cert.RDoPrepIdeal.τ).loc Cert.RDoPrepIdeal.main_arg3) = m ((c.tc : Thread Cert.RDoPrepIdeal.nD Cert.RDoPrepIdeal.τ).loc Cert.RDoPrepIdeal.main_arg3)
      ∧ r.2.mem ((c.tc : Thread Cert.RDoPrepIdeal.nD Cert.RDoPrepIdeal.τ).loc Cert.RDoPrepIdeal.main_arg4) = m ((c.tc : Thread Cert.RDoPrepIdeal.nD Cert.RDoPrepIdeal.τ).loc Cert.RDoPrepIdeal.main_arg4))
      ∧ r.2.sem = fun _ => 0)

def quiescent_KNormPOdd [hKNormPOdd : Cert.KNormPOdd.Facts] : Prop :=
  ∀ (m : (ℓ : Loc Cert.KNormPOdd.nD Cert.KNormPOdd.τ Cert.KNormPOdd.sig) → Buf (Elt Bits) ℓ) (g : Dev Cert.KNormPOdd.nD → PrngReg), Pre_KNormPOdd m →
    θ_run (Cert.KNormPOdd.defs (F := Bits)) (onTc (τ := Cert.KNormPOdd.τ) (Cert.KNormPOdd.main (F := Bits))) ⟨m, fun _ => 0, g⟩ (fun r => (∀ c : Dev Cert.KNormPOdd.nD,
      r.2.mem ((c.tc : Thread Cert.KNormPOdd.nD Cert.KNormPOdd.τ).loc Cert.KNormPOdd.main_arg0) = m ((c.tc : Thread Cert.KNormPOdd.nD Cert.KNormPOdd.τ).loc Cert.KNormPOdd.main_arg0)
      ∧ r.2.mem ((c.tc : Thread Cert.KNormPOdd.nD Cert.KNormPOdd.τ).loc Cert.KNormPOdd.main_arg1) = m ((c.tc : Thread Cert.KNormPOdd.nD Cert.KNormPOdd.τ).loc Cert.KNormPOdd.main_arg1)
      ∧ r.2.mem ((c.tc : Thread Cert.KNormPOdd.nD Cert.KNormPOdd.τ).loc Cert.KNormPOdd.main_arg2) = m ((c.tc : Thread Cert.KNormPOdd.nD Cert.KNormPOdd.τ).loc Cert.KNormPOdd.main_arg2))
      ∧ r.2.sem = fun _ => 0)

def quiescent_KNormPOddIdeal [hKNormPOddIdeal : Cert.KNormPOddIdeal.Facts] : Prop :=
  ∀ (m : (ℓ : Loc Cert.KNormPOddIdeal.nD Cert.KNormPOddIdeal.τ Cert.KNormPOddIdeal.sig) → Buf (Elt Ideal) ℓ) (g : Dev Cert.KNormPOddIdeal.nD → PrngReg), Pre_KNormPOddIdeal m →
    θ_run (Cert.KNormPOddIdeal.defs (F := Ideal)) (onTc (τ := Cert.KNormPOddIdeal.τ) (Cert.KNormPOddIdeal.main (F := Ideal))) ⟨m, fun _ => 0, g⟩ (fun r => (∀ c : Dev Cert.KNormPOddIdeal.nD,
      r.2.mem ((c.tc : Thread Cert.KNormPOddIdeal.nD Cert.KNormPOddIdeal.τ).loc Cert.KNormPOddIdeal.main_arg0) = m ((c.tc : Thread Cert.KNormPOddIdeal.nD Cert.KNormPOddIdeal.τ).loc Cert.KNormPOddIdeal.main_arg0)
      ∧ r.2.mem ((c.tc : Thread Cert.KNormPOddIdeal.nD Cert.KNormPOddIdeal.τ).loc Cert.KNormPOddIdeal.main_arg1) = m ((c.tc : Thread Cert.KNormPOddIdeal.nD Cert.KNormPOddIdeal.τ).loc Cert.KNormPOddIdeal.main_arg1)
      ∧ r.2.mem ((c.tc : Thread Cert.KNormPOddIdeal.nD Cert.KNormPOddIdeal.τ).loc Cert.KNormPOddIdeal.main_arg2) = m ((c.tc : Thread Cert.KNormPOddIdeal.nD Cert.KNormPOddIdeal.τ).loc Cert.KNormPOddIdeal.main_arg2))
      ∧ r.2.sem = fun _ => 0)

def quiescent_RNormPOddIdeal [hRNormPOddIdeal : Cert.RNormPOddIdeal.Facts] : Prop :=
  ∀ (m : (ℓ : Loc Cert.RNormPOddIdeal.nD Cert.RNormPOddIdeal.τ Cert.RNormPOddIdeal.sig) → Buf (Elt Ideal) ℓ) (g : Dev Cert.RNormPOddIdeal.nD → PrngReg), Pre_RNormPOddIdeal m →
    θ_run (Cert.RNormPOddIdeal.defs (F := Ideal)) (onTc (τ := Cert.RNormPOddIdeal.τ) (Cert.RNormPOddIdeal.main (F := Ideal))) ⟨m, fun _ => 0, g⟩ (fun r => (∀ c : Dev Cert.RNormPOddIdeal.nD,
      r.2.mem ((c.tc : Thread Cert.RNormPOddIdeal.nD Cert.RNormPOddIdeal.τ).loc Cert.RNormPOddIdeal.main_arg0) = m ((c.tc : Thread Cert.RNormPOddIdeal.nD Cert.RNormPOddIdeal.τ).loc Cert.RNormPOddIdeal.main_arg0)
      ∧ r.2.mem ((c.tc : Thread Cert.RNormPOddIdeal.nD Cert.RNormPOddIdeal.τ).loc Cert.RNormPOddIdeal.main_arg1) = m ((c.tc : Thread Cert.RNormPOddIdeal.nD Cert.RNormPOddIdeal.τ).loc Cert.RNormPOddIdeal.main_arg1)
      ∧ r.2.mem ((c.tc : Thread Cert.RNormPOddIdeal.nD Cert.RNormPOddIdeal.τ).loc Cert.RNormPOddIdeal.main_arg2) = m ((c.tc : Thread Cert.RNormPOddIdeal.nD Cert.RNormPOddIdeal.τ).loc Cert.RNormPOddIdeal.main_arg2))
      ∧ r.2.sem = fun _ => 0)

def quiescent_KNormPEven [hKNormPEven : Cert.KNormPEven.Facts] : Prop :=
  ∀ (m : (ℓ : Loc Cert.KNormPEven.nD Cert.KNormPEven.τ Cert.KNormPEven.sig) → Buf (Elt Bits) ℓ) (g : Dev Cert.KNormPEven.nD → PrngReg), Pre_KNormPEven m →
    θ_run (Cert.KNormPEven.defs (F := Bits)) (onTc (τ := Cert.KNormPEven.τ) (Cert.KNormPEven.main (F := Bits))) ⟨m, fun _ => 0, g⟩ (fun r => (∀ c : Dev Cert.KNormPEven.nD,
      r.2.mem ((c.tc : Thread Cert.KNormPEven.nD Cert.KNormPEven.τ).loc Cert.KNormPEven.main_arg0) = m ((c.tc : Thread Cert.KNormPEven.nD Cert.KNormPEven.τ).loc Cert.KNormPEven.main_arg0)
      ∧ r.2.mem ((c.tc : Thread Cert.KNormPEven.nD Cert.KNormPEven.τ).loc Cert.KNormPEven.main_arg1) = m ((c.tc : Thread Cert.KNormPEven.nD Cert.KNormPEven.τ).loc Cert.KNormPEven.main_arg1)
      ∧ r.2.mem ((c.tc : Thread Cert.KNormPEven.nD Cert.KNormPEven.τ).loc Cert.KNormPEven.main_arg2) = m ((c.tc : Thread Cert.KNormPEven.nD Cert.KNormPEven.τ).loc Cert.KNormPEven.main_arg2))
      ∧ r.2.sem = fun _ => 0)

def quiescent_KNormPEvenIdeal [hKNormPEvenIdeal : Cert.KNormPEvenIdeal.Facts] : Prop :=
  ∀ (m : (ℓ : Loc Cert.KNormPEvenIdeal.nD Cert.KNormPEvenIdeal.τ Cert.KNormPEvenIdeal.sig) → Buf (Elt Ideal) ℓ) (g : Dev Cert.KNormPEvenIdeal.nD → PrngReg), Pre_KNormPEvenIdeal m →
    θ_run (Cert.KNormPEvenIdeal.defs (F := Ideal)) (onTc (τ := Cert.KNormPEvenIdeal.τ) (Cert.KNormPEvenIdeal.main (F := Ideal))) ⟨m, fun _ => 0, g⟩ (fun r => (∀ c : Dev Cert.KNormPEvenIdeal.nD,
      r.2.mem ((c.tc : Thread Cert.KNormPEvenIdeal.nD Cert.KNormPEvenIdeal.τ).loc Cert.KNormPEvenIdeal.main_arg0) = m ((c.tc : Thread Cert.KNormPEvenIdeal.nD Cert.KNormPEvenIdeal.τ).loc Cert.KNormPEvenIdeal.main_arg0)
      ∧ r.2.mem ((c.tc : Thread Cert.KNormPEvenIdeal.nD Cert.KNormPEvenIdeal.τ).loc Cert.KNormPEvenIdeal.main_arg1) = m ((c.tc : Thread Cert.KNormPEvenIdeal.nD Cert.KNormPEvenIdeal.τ).loc Cert.KNormPEvenIdeal.main_arg1)
      ∧ r.2.mem ((c.tc : Thread Cert.KNormPEvenIdeal.nD Cert.KNormPEvenIdeal.τ).loc Cert.KNormPEvenIdeal.main_arg2) = m ((c.tc : Thread Cert.KNormPEvenIdeal.nD Cert.KNormPEvenIdeal.τ).loc Cert.KNormPEvenIdeal.main_arg2))
      ∧ r.2.sem = fun _ => 0)

def quiescent_RNormPEvenIdeal [hRNormPEvenIdeal : Cert.RNormPEvenIdeal.Facts] : Prop :=
  ∀ (m : (ℓ : Loc Cert.RNormPEvenIdeal.nD Cert.RNormPEvenIdeal.τ Cert.RNormPEvenIdeal.sig) → Buf (Elt Ideal) ℓ) (g : Dev Cert.RNormPEvenIdeal.nD → PrngReg), Pre_RNormPEvenIdeal m →
    θ_run (Cert.RNormPEvenIdeal.defs (F := Ideal)) (onTc (τ := Cert.RNormPEvenIdeal.τ) (Cert.RNormPEvenIdeal.main (F := Ideal))) ⟨m, fun _ => 0, g⟩ (fun r => (∀ c : Dev Cert.RNormPEvenIdeal.nD,
      r.2.mem ((c.tc : Thread Cert.RNormPEvenIdeal.nD Cert.RNormPEvenIdeal.τ).loc Cert.RNormPEvenIdeal.main_arg0) = m ((c.tc : Thread Cert.RNormPEvenIdeal.nD Cert.RNormPEvenIdeal.τ).loc Cert.RNormPEvenIdeal.main_arg0)
      ∧ r.2.mem ((c.tc : Thread Cert.RNormPEvenIdeal.nD Cert.RNormPEvenIdeal.τ).loc Cert.RNormPEvenIdeal.main_arg1) = m ((c.tc : Thread Cert.RNormPEvenIdeal.nD Cert.RNormPEvenIdeal.τ).loc Cert.RNormPEvenIdeal.main_arg1)
      ∧ r.2.mem ((c.tc : Thread Cert.RNormPEvenIdeal.nD Cert.RNormPEvenIdeal.τ).loc Cert.RNormPEvenIdeal.main_arg2) = m ((c.tc : Thread Cert.RNormPEvenIdeal.nD Cert.RNormPEvenIdeal.τ).loc Cert.RNormPEvenIdeal.main_arg2))
      ∧ r.2.sem = fun _ => 0)

def quiescent_KFfnF [hKFfnF : Cert.KFfnF.Facts] : Prop :=
  ∀ (m : (ℓ : Loc Cert.KFfnF.nD Cert.KFfnF.τ Cert.KFfnF.sig) → Buf (Elt Bits) ℓ) (g : Dev Cert.KFfnF.nD → PrngReg), Pre_KFfnF m →
    θ_run (Cert.KFfnF.defs (F := Bits)) (onTc (τ := Cert.KFfnF.τ) (Cert.KFfnF.main (F := Bits))) ⟨m, fun _ => 0, g⟩ (fun r => (∀ c : Dev Cert.KFfnF.nD,
      r.2.mem ((c.tc : Thread Cert.KFfnF.nD Cert.KFfnF.τ).loc Cert.KFfnF.main_arg0) = m ((c.tc : Thread Cert.KFfnF.nD Cert.KFfnF.τ).loc Cert.KFfnF.main_arg0)
      ∧ r.2.mem ((c.tc : Thread Cert.KFfnF.nD Cert.KFfnF.τ).loc Cert.KFfnF.main_arg1) = m ((c.tc : Thread Cert.KFfnF.nD Cert.KFfnF.τ).loc Cert.KFfnF.main_arg1)
      ∧ r.2.mem ((c.tc : Thread Cert.KFfnF.nD Cert.KFfnF.τ).loc Cert.KFfnF.main_arg2) = m ((c.tc : Thread Cert.KFfnF.nD Cert.KFfnF.τ).loc Cert.KFfnF.main_arg2)
      ∧ r.2.mem ((c.tc : Thread Cert.KFfnF.nD Cert.KFfnF.τ).loc Cert.KFfnF.main_arg3) = m ((c.tc : Thread Cert.KFfnF.nD Cert.KFfnF.τ).loc Cert.KFfnF.main_arg3)
      ∧ r.2.mem ((c.tc : Thread Cert.KFfnF.nD Cert.KFfnF.τ).loc Cert.KFfnF.main_arg4) = m ((c.tc : Thread Cert.KFfnF.nD Cert.KFfnF.τ).loc Cert.KFfnF.main_arg4))
      ∧ r.2.sem = fun _ => 0)

def quiescent_KFfnFIdeal [hKFfnFIdeal : Cert.KFfnFIdeal.Facts] : Prop :=
  ∀ (m : (ℓ : Loc Cert.KFfnFIdeal.nD Cert.KFfnFIdeal.τ Cert.KFfnFIdeal.sig) → Buf (Elt Ideal) ℓ) (g : Dev Cert.KFfnFIdeal.nD → PrngReg), Pre_KFfnFIdeal m →
    θ_run (Cert.KFfnFIdeal.defs (F := Ideal)) (onTc (τ := Cert.KFfnFIdeal.τ) (Cert.KFfnFIdeal.main (F := Ideal))) ⟨m, fun _ => 0, g⟩ (fun r => (∀ c : Dev Cert.KFfnFIdeal.nD,
      r.2.mem ((c.tc : Thread Cert.KFfnFIdeal.nD Cert.KFfnFIdeal.τ).loc Cert.KFfnFIdeal.main_arg0) = m ((c.tc : Thread Cert.KFfnFIdeal.nD Cert.KFfnFIdeal.τ).loc Cert.KFfnFIdeal.main_arg0)
      ∧ r.2.mem ((c.tc : Thread Cert.KFfnFIdeal.nD Cert.KFfnFIdeal.τ).loc Cert.KFfnFIdeal.main_arg1) = m ((c.tc : Thread Cert.KFfnFIdeal.nD Cert.KFfnFIdeal.τ).loc Cert.KFfnFIdeal.main_arg1)
      ∧ r.2.mem ((c.tc : Thread Cert.KFfnFIdeal.nD Cert.KFfnFIdeal.τ).loc Cert.KFfnFIdeal.main_arg2) = m ((c.tc : Thread Cert.KFfnFIdeal.nD Cert.KFfnFIdeal.τ).loc Cert.KFfnFIdeal.main_arg2)
      ∧ r.2.mem ((c.tc : Thread Cert.KFfnFIdeal.nD Cert.KFfnFIdeal.τ).loc Cert.KFfnFIdeal.main_arg3) = m ((c.tc : Thread Cert.KFfnFIdeal.nD Cert.KFfnFIdeal.τ).loc Cert.KFfnFIdeal.main_arg3)
      ∧ r.2.mem ((c.tc : Thread Cert.KFfnFIdeal.nD Cert.KFfnFIdeal.τ).loc Cert.KFfnFIdeal.main_arg4) = m ((c.tc : Thread Cert.KFfnFIdeal.nD Cert.KFfnFIdeal.τ).loc Cert.KFfnFIdeal.main_arg4))
      ∧ r.2.sem = fun _ => 0)

def quiescent_RFfnFIdeal [hRFfnFIdeal : Cert.RFfnFIdeal.Facts] : Prop :=
  ∀ (m : (ℓ : Loc Cert.RFfnFIdeal.nD Cert.RFfnFIdeal.τ Cert.RFfnFIdeal.sig) → Buf (Elt Ideal) ℓ) (g : Dev Cert.RFfnFIdeal.nD → PrngReg), Pre_RFfnFIdeal m →
    θ_run (Cert.RFfnFIdeal.defs (F := Ideal)) (onTc (τ := Cert.RFfnFIdeal.τ) (Cert.RFfnFIdeal.main (F := Ideal))) ⟨m, fun _ => 0, g⟩ (fun r => (∀ c : Dev Cert.RFfnFIdeal.nD,
      r.2.mem ((c.tc : Thread Cert.RFfnFIdeal.nD Cert.RFfnFIdeal.τ).loc Cert.RFfnFIdeal.main_arg0) = m ((c.tc : Thread Cert.RFfnFIdeal.nD Cert.RFfnFIdeal.τ).loc Cert.RFfnFIdeal.main_arg0)
      ∧ r.2.mem ((c.tc : Thread Cert.RFfnFIdeal.nD Cert.RFfnFIdeal.τ).loc Cert.RFfnFIdeal.main_arg1) = m ((c.tc : Thread Cert.RFfnFIdeal.nD Cert.RFfnFIdeal.τ).loc Cert.RFfnFIdeal.main_arg1)
      ∧ r.2.mem ((c.tc : Thread Cert.RFfnFIdeal.nD Cert.RFfnFIdeal.τ).loc Cert.RFfnFIdeal.main_arg2) = m ((c.tc : Thread Cert.RFfnFIdeal.nD Cert.RFfnFIdeal.τ).loc Cert.RFfnFIdeal.main_arg2)
      ∧ r.2.mem ((c.tc : Thread Cert.RFfnFIdeal.nD Cert.RFfnFIdeal.τ).loc Cert.RFfnFIdeal.main_arg3) = m ((c.tc : Thread Cert.RFfnFIdeal.nD Cert.RFfnFIdeal.τ).loc Cert.RFfnFIdeal.main_arg3)
      ∧ r.2.mem ((c.tc : Thread Cert.RFfnFIdeal.nD Cert.RFfnFIdeal.τ).loc Cert.RFfnFIdeal.main_arg4) = m ((c.tc : Thread Cert.RFfnFIdeal.nD Cert.RFfnFIdeal.τ).loc Cert.RFfnFIdeal.main_arg4))
      ∧ r.2.sem = fun _ => 0)

def preserves_KLoss_KLossIdeal : Prop :=
  True

def algebraic_KLossIdeal_RLossIdeal [hKLossIdeal : Cert.KLossIdeal.Facts] [hRLossIdeal : Cert.RLossIdeal.Facts] : Prop :=
  ∀ (m : (ℓ : Loc Cert.KLossIdeal.nD Cert.KLossIdeal.τ Cert.KLossIdeal.sig) → Buf (Elt Ideal) ℓ) (g : Dev Cert.KLossIdeal.nD → PrngReg)
    (m' : (ℓ : Loc Cert.RLossIdeal.nD Cert.RLossIdeal.τ Cert.RLossIdeal.sig) → Buf (Elt Ideal) ℓ) (g' : Dev Cert.RLossIdeal.nD → PrngReg), Pre_KLossIdeal m →
    (∀ c : Dev Cert.KLossIdeal.nD,
      m' ((c.tc : Thread Cert.RLossIdeal.nD Cert.RLossIdeal.τ).loc Cert.RLossIdeal.main_arg0) = m ((c.tc : Thread Cert.KLossIdeal.nD Cert.KLossIdeal.τ).loc Cert.KLossIdeal.main_arg0)
      ∧ m' ((c.tc : Thread Cert.RLossIdeal.nD Cert.RLossIdeal.τ).loc Cert.RLossIdeal.main_arg1) = m ((c.tc : Thread Cert.KLossIdeal.nD Cert.KLossIdeal.τ).loc Cert.KLossIdeal.main_arg1)) →
    ∃ (v0 : (c : Dev Cert.KLossIdeal.nD) → Buf (Elt Ideal) ((c.tc : Thread Cert.KLossIdeal.nD Cert.KLossIdeal.τ).loc Cert.KLossIdeal.main_v0_0)) (v1 : (c : Dev Cert.KLossIdeal.nD) → Buf (Elt Ideal) ((c.tc : Thread Cert.KLossIdeal.nD Cert.KLossIdeal.τ).loc Cert.KLossIdeal.main_v0_1)),
      θ_run (Cert.KLossIdeal.defs (F := Ideal)) (onTc (τ := Cert.KLossIdeal.τ) (Cert.KLossIdeal.main (F := Ideal))) ⟨m, fun _ => 0, g⟩ (fun r => ∀ c : Dev Cert.KLossIdeal.nD,
          r.2.mem ((c.tc : Thread Cert.KLossIdeal.nD Cert.KLossIdeal.τ).loc Cert.KLossIdeal.main_v0_0) = v0 c
          ∧ r.2.mem ((c.tc : Thread Cert.KLossIdeal.nD Cert.KLossIdeal.τ).loc Cert.KLossIdeal.main_v0_1) = v1 c
          ∧ r.2.mem ((c.tc : Thread Cert.KLossIdeal.nD Cert.KLossIdeal.τ).loc Cert.KLossIdeal.main_arg0) = m ((c.tc : Thread Cert.KLossIdeal.nD Cert.KLossIdeal.τ).loc Cert.KLossIdeal.main_arg0)
          ∧ r.2.mem ((c.tc : Thread Cert.KLossIdeal.nD Cert.KLossIdeal.τ).loc Cert.KLossIdeal.main_arg1) = m ((c.tc : Thread Cert.KLossIdeal.nD Cert.KLossIdeal.τ).loc Cert.KLossIdeal.main_arg1))
      ∧ θ_run (Cert.RLossIdeal.defs (F := Ideal)) (onTc (τ := Cert.RLossIdeal.τ) (Cert.RLossIdeal.main (F := Ideal))) ⟨m', fun _ => 0, g'⟩ (fun r => ∀ c : Dev Cert.RLossIdeal.nD,
          r.2.mem ((c.tc : Thread Cert.RLossIdeal.nD Cert.RLossIdeal.τ).loc Cert.RLossIdeal.main_v14) = v0 c
          ∧ r.2.mem ((c.tc : Thread Cert.RLossIdeal.nD Cert.RLossIdeal.τ).loc Cert.RLossIdeal.main_v15) = v1 c
          ∧ r.2.mem ((c.tc : Thread Cert.RLossIdeal.nD Cert.RLossIdeal.τ).loc Cert.RLossIdeal.main_arg0) = m' ((c.tc : Thread Cert.RLossIdeal.nD Cert.RLossIdeal.τ).loc Cert.RLossIdeal.main_arg0)
          ∧ r.2.mem ((c.tc : Thread Cert.RLossIdeal.nD Cert.RLossIdeal.τ).loc Cert.RLossIdeal.main_arg1) = m' ((c.tc : Thread Cert.RLossIdeal.nD Cert.RLossIdeal.τ).loc Cert.RLossIdeal.main_arg1))

def preserves_KFoxBwd_KFoxBwdIdeal : Prop :=
  IdealRules.named_const.Statement Cert.KFoxBwdIdeal.κ "mask" .f32 0xF149F2CA#32 ⊥

def algebraic_KFoxBwdIdeal_RFoxBwdIdeal_on_columns_fox_pre_finite_fox [hKFoxBwdIdeal : Cert.KFoxBwdIdeal.Facts] [hRFoxBwdIdeal : Cert.RFoxBwdIdeal.Facts] [hPre_finite_fox : Cert.Pre_finite_fox.Facts] [hOn_columns_fox : Cert.On_columns_fox.Facts] : Prop :=
  ∀ (m : (ℓ : Loc Cert.KFoxBwdIdeal.nD Cert.KFoxBwdIdeal.τ Cert.KFoxBwdIdeal.sig) → Buf (Elt Ideal) ℓ) (g : Dev Cert.KFoxBwdIdeal.nD → PrngReg)
    (m' : (ℓ : Loc Cert.RFoxBwdIdeal.nD Cert.RFoxBwdIdeal.τ Cert.RFoxBwdIdeal.sig) → Buf (Elt Ideal) ℓ) (g' : Dev Cert.RFoxBwdIdeal.nD → PrngReg), Pre_KFoxBwdIdeal_finite_fox m →
    (∀ c : Dev Cert.KFoxBwdIdeal.nD,
      m' ((c.tc : Thread Cert.RFoxBwdIdeal.nD Cert.RFoxBwdIdeal.τ).loc Cert.RFoxBwdIdeal.main_arg0) = m ((c.tc : Thread Cert.KFoxBwdIdeal.nD Cert.KFoxBwdIdeal.τ).loc Cert.KFoxBwdIdeal.main_arg0)
      ∧ m' ((c.tc : Thread Cert.RFoxBwdIdeal.nD Cert.RFoxBwdIdeal.τ).loc Cert.RFoxBwdIdeal.main_arg1) = m ((c.tc : Thread Cert.KFoxBwdIdeal.nD Cert.KFoxBwdIdeal.τ).loc Cert.KFoxBwdIdeal.main_arg1)
      ∧ m' ((c.tc : Thread Cert.RFoxBwdIdeal.nD Cert.RFoxBwdIdeal.τ).loc Cert.RFoxBwdIdeal.main_arg2) = m ((c.tc : Thread Cert.KFoxBwdIdeal.nD Cert.KFoxBwdIdeal.τ).loc Cert.KFoxBwdIdeal.main_arg2)
      ∧ m' ((c.tc : Thread Cert.RFoxBwdIdeal.nD Cert.RFoxBwdIdeal.τ).loc Cert.RFoxBwdIdeal.main_arg3) = m ((c.tc : Thread Cert.KFoxBwdIdeal.nD Cert.KFoxBwdIdeal.τ).loc Cert.KFoxBwdIdeal.main_arg3)
      ∧ m' ((c.tc : Thread Cert.RFoxBwdIdeal.nD Cert.RFoxBwdIdeal.τ).loc Cert.RFoxBwdIdeal.main_arg4) = m ((c.tc : Thread Cert.KFoxBwdIdeal.nD Cert.KFoxBwdIdeal.τ).loc Cert.KFoxBwdIdeal.main_arg4)) →
    ∃ (v0 : (c : Dev Cert.KFoxBwdIdeal.nD) → Buf (Elt Ideal) ((c.tc : Thread Cert.KFoxBwdIdeal.nD Cert.KFoxBwdIdeal.τ).loc Cert.KFoxBwdIdeal.main_v158_0)) (v1 : (c : Dev Cert.KFoxBwdIdeal.nD) → Buf (Elt Ideal) ((c.tc : Thread Cert.KFoxBwdIdeal.nD Cert.KFoxBwdIdeal.τ).loc Cert.KFoxBwdIdeal.main_v158_1)) (v2 : (c : Dev Cert.KFoxBwdIdeal.nD) → Buf (Elt Ideal) ((c.tc : Thread Cert.KFoxBwdIdeal.nD Cert.KFoxBwdIdeal.τ).loc Cert.KFoxBwdIdeal.main_v158_2)),
      θ_run (Cert.KFoxBwdIdeal.defs (F := Ideal)) (onTc (τ := Cert.KFoxBwdIdeal.τ) (Cert.KFoxBwdIdeal.main (F := Ideal))) ⟨m, fun _ => 0, g⟩ (fun r => ∀ c : Dev Cert.KFoxBwdIdeal.nD,
          (∀ i : (⟨3, ![8, 4096, 128]⟩ : Shape).Idx, (Cert.On_columns_fox.fn (F := Ideal) (m ((c.tc : Thread Cert.KFoxBwdIdeal.nD Cert.KFoxBwdIdeal.τ).loc Cert.KFoxBwdIdeal.main_arg0)) (m ((c.tc : Thread Cert.KFoxBwdIdeal.nD Cert.KFoxBwdIdeal.τ).loc Cert.KFoxBwdIdeal.main_arg1)) (m ((c.tc : Thread Cert.KFoxBwdIdeal.nD Cert.KFoxBwdIdeal.τ).loc Cert.KFoxBwdIdeal.main_arg2)) (m ((c.tc : Thread Cert.KFoxBwdIdeal.nD Cert.KFoxBwdIdeal.τ).loc Cert.KFoxBwdIdeal.main_arg3)) (m ((c.tc : Thread Cert.KFoxBwdIdeal.nD Cert.KFoxBwdIdeal.τ).loc Cert.KFoxBwdIdeal.main_arg4))).1 i = 1#1 → r.2.mem ((c.tc : Thread Cert.KFoxBwdIdeal.nD Cert.KFoxBwdIdeal.τ).loc Cert.KFoxBwdIdeal.main_v158_0) i = v0 c i)
          ∧ (∀ i : (⟨3, ![8, 4096, 128]⟩ : Shape).Idx, (Cert.On_columns_fox.fn (F := Ideal) (m ((c.tc : Thread Cert.KFoxBwdIdeal.nD Cert.KFoxBwdIdeal.τ).loc Cert.KFoxBwdIdeal.main_arg0)) (m ((c.tc : Thread Cert.KFoxBwdIdeal.nD Cert.KFoxBwdIdeal.τ).loc Cert.KFoxBwdIdeal.main_arg1)) (m ((c.tc : Thread Cert.KFoxBwdIdeal.nD Cert.KFoxBwdIdeal.τ).loc Cert.KFoxBwdIdeal.main_arg2)) (m ((c.tc : Thread Cert.KFoxBwdIdeal.nD Cert.KFoxBwdIdeal.τ).loc Cert.KFoxBwdIdeal.main_arg3)) (m ((c.tc : Thread Cert.KFoxBwdIdeal.nD Cert.KFoxBwdIdeal.τ).loc Cert.KFoxBwdIdeal.main_arg4))).2.1 i = 1#1 → r.2.mem ((c.tc : Thread Cert.KFoxBwdIdeal.nD Cert.KFoxBwdIdeal.τ).loc Cert.KFoxBwdIdeal.main_v158_1) i = v1 c i)
          ∧ (∀ i : (⟨3, ![8, 4096, 128]⟩ : Shape).Idx, (Cert.On_columns_fox.fn (F := Ideal) (m ((c.tc : Thread Cert.KFoxBwdIdeal.nD Cert.KFoxBwdIdeal.τ).loc Cert.KFoxBwdIdeal.main_arg0)) (m ((c.tc : Thread Cert.KFoxBwdIdeal.nD Cert.KFoxBwdIdeal.τ).loc Cert.KFoxBwdIdeal.main_arg1)) (m ((c.tc : Thread Cert.KFoxBwdIdeal.nD Cert.KFoxBwdIdeal.τ).loc Cert.KFoxBwdIdeal.main_arg2)) (m ((c.tc : Thread Cert.KFoxBwdIdeal.nD Cert.KFoxBwdIdeal.τ).loc Cert.KFoxBwdIdeal.main_arg3)) (m ((c.tc : Thread Cert.KFoxBwdIdeal.nD Cert.KFoxBwdIdeal.τ).loc Cert.KFoxBwdIdeal.main_arg4))).2.2 i = 1#1 → r.2.mem ((c.tc : Thread Cert.KFoxBwdIdeal.nD Cert.KFoxBwdIdeal.τ).loc Cert.KFoxBwdIdeal.main_v158_2) i = v2 c i)
          ∧ r.2.mem ((c.tc : Thread Cert.KFoxBwdIdeal.nD Cert.KFoxBwdIdeal.τ).loc Cert.KFoxBwdIdeal.main_arg0) = m ((c.tc : Thread Cert.KFoxBwdIdeal.nD Cert.KFoxBwdIdeal.τ).loc Cert.KFoxBwdIdeal.main_arg0)
          ∧ r.2.mem ((c.tc : Thread Cert.KFoxBwdIdeal.nD Cert.KFoxBwdIdeal.τ).loc Cert.KFoxBwdIdeal.main_arg1) = m ((c.tc : Thread Cert.KFoxBwdIdeal.nD Cert.KFoxBwdIdeal.τ).loc Cert.KFoxBwdIdeal.main_arg1)
          ∧ r.2.mem ((c.tc : Thread Cert.KFoxBwdIdeal.nD Cert.KFoxBwdIdeal.τ).loc Cert.KFoxBwdIdeal.main_arg2) = m ((c.tc : Thread Cert.KFoxBwdIdeal.nD Cert.KFoxBwdIdeal.τ).loc Cert.KFoxBwdIdeal.main_arg2)
          ∧ r.2.mem ((c.tc : Thread Cert.KFoxBwdIdeal.nD Cert.KFoxBwdIdeal.τ).loc Cert.KFoxBwdIdeal.main_arg3) = m ((c.tc : Thread Cert.KFoxBwdIdeal.nD Cert.KFoxBwdIdeal.τ).loc Cert.KFoxBwdIdeal.main_arg3)
          ∧ r.2.mem ((c.tc : Thread Cert.KFoxBwdIdeal.nD Cert.KFoxBwdIdeal.τ).loc Cert.KFoxBwdIdeal.main_arg4) = m ((c.tc : Thread Cert.KFoxBwdIdeal.nD Cert.KFoxBwdIdeal.τ).loc Cert.KFoxBwdIdeal.main_arg4))
      ∧ θ_run (Cert.RFoxBwdIdeal.defs (F := Ideal)) (onTc (τ := Cert.RFoxBwdIdeal.τ) (Cert.RFoxBwdIdeal.main (F := Ideal))) ⟨m', fun _ => 0, g'⟩ (fun r => ∀ c : Dev Cert.RFoxBwdIdeal.nD,
          (∀ i : (⟨3, ![8, 4096, 128]⟩ : Shape).Idx, (Cert.On_columns_fox.fn (F := Ideal) (m ((c.tc : Thread Cert.KFoxBwdIdeal.nD Cert.KFoxBwdIdeal.τ).loc Cert.KFoxBwdIdeal.main_arg0)) (m ((c.tc : Thread Cert.KFoxBwdIdeal.nD Cert.KFoxBwdIdeal.τ).loc Cert.KFoxBwdIdeal.main_arg1)) (m ((c.tc : Thread Cert.KFoxBwdIdeal.nD Cert.KFoxBwdIdeal.τ).loc Cert.KFoxBwdIdeal.main_arg2)) (m ((c.tc : Thread Cert.KFoxBwdIdeal.nD Cert.KFoxBwdIdeal.τ).loc Cert.KFoxBwdIdeal.main_arg3)) (m ((c.tc : Thread Cert.KFoxBwdIdeal.nD Cert.KFoxBwdIdeal.τ).loc Cert.KFoxBwdIdeal.main_arg4))).1 i = 1#1 → r.2.mem ((c.tc : Thread Cert.RFoxBwdIdeal.nD Cert.RFoxBwdIdeal.τ).loc Cert.RFoxBwdIdeal.main_v102) i = v0 c i)
          ∧ (∀ i : (⟨3, ![8, 4096, 128]⟩ : Shape).Idx, (Cert.On_columns_fox.fn (F := Ideal) (m ((c.tc : Thread Cert.KFoxBwdIdeal.nD Cert.KFoxBwdIdeal.τ).loc Cert.KFoxBwdIdeal.main_arg0)) (m ((c.tc : Thread Cert.KFoxBwdIdeal.nD Cert.KFoxBwdIdeal.τ).loc Cert.KFoxBwdIdeal.main_arg1)) (m ((c.tc : Thread Cert.KFoxBwdIdeal.nD Cert.KFoxBwdIdeal.τ).loc Cert.KFoxBwdIdeal.main_arg2)) (m ((c.tc : Thread Cert.KFoxBwdIdeal.nD Cert.KFoxBwdIdeal.τ).loc Cert.KFoxBwdIdeal.main_arg3)) (m ((c.tc : Thread Cert.KFoxBwdIdeal.nD Cert.KFoxBwdIdeal.τ).loc Cert.KFoxBwdIdeal.main_arg4))).2.1 i = 1#1 → r.2.mem ((c.tc : Thread Cert.RFoxBwdIdeal.nD Cert.RFoxBwdIdeal.τ).loc Cert.RFoxBwdIdeal.main_v111) i = v1 c i)
          ∧ (∀ i : (⟨3, ![8, 4096, 128]⟩ : Shape).Idx, (Cert.On_columns_fox.fn (F := Ideal) (m ((c.tc : Thread Cert.KFoxBwdIdeal.nD Cert.KFoxBwdIdeal.τ).loc Cert.KFoxBwdIdeal.main_arg0)) (m ((c.tc : Thread Cert.KFoxBwdIdeal.nD Cert.KFoxBwdIdeal.τ).loc Cert.KFoxBwdIdeal.main_arg1)) (m ((c.tc : Thread Cert.KFoxBwdIdeal.nD Cert.KFoxBwdIdeal.τ).loc Cert.KFoxBwdIdeal.main_arg2)) (m ((c.tc : Thread Cert.KFoxBwdIdeal.nD Cert.KFoxBwdIdeal.τ).loc Cert.KFoxBwdIdeal.main_arg3)) (m ((c.tc : Thread Cert.KFoxBwdIdeal.nD Cert.KFoxBwdIdeal.τ).loc Cert.KFoxBwdIdeal.main_arg4))).2.2 i = 1#1 → r.2.mem ((c.tc : Thread Cert.RFoxBwdIdeal.nD Cert.RFoxBwdIdeal.τ).loc Cert.RFoxBwdIdeal.main_v114) i = v2 c i)
          ∧ r.2.mem ((c.tc : Thread Cert.RFoxBwdIdeal.nD Cert.RFoxBwdIdeal.τ).loc Cert.RFoxBwdIdeal.main_arg0) = m' ((c.tc : Thread Cert.RFoxBwdIdeal.nD Cert.RFoxBwdIdeal.τ).loc Cert.RFoxBwdIdeal.main_arg0)
          ∧ r.2.mem ((c.tc : Thread Cert.RFoxBwdIdeal.nD Cert.RFoxBwdIdeal.τ).loc Cert.RFoxBwdIdeal.main_arg1) = m' ((c.tc : Thread Cert.RFoxBwdIdeal.nD Cert.RFoxBwdIdeal.τ).loc Cert.RFoxBwdIdeal.main_arg1)
          ∧ r.2.mem ((c.tc : Thread Cert.RFoxBwdIdeal.nD Cert.RFoxBwdIdeal.τ).loc Cert.RFoxBwdIdeal.main_arg2) = m' ((c.tc : Thread Cert.RFoxBwdIdeal.nD Cert.RFoxBwdIdeal.τ).loc Cert.RFoxBwdIdeal.main_arg2)
          ∧ r.2.mem ((c.tc : Thread Cert.RFoxBwdIdeal.nD Cert.RFoxBwdIdeal.τ).loc Cert.RFoxBwdIdeal.main_arg3) = m' ((c.tc : Thread Cert.RFoxBwdIdeal.nD Cert.RFoxBwdIdeal.τ).loc Cert.RFoxBwdIdeal.main_arg3)
          ∧ r.2.mem ((c.tc : Thread Cert.RFoxBwdIdeal.nD Cert.RFoxBwdIdeal.τ).loc Cert.RFoxBwdIdeal.main_arg4) = m' ((c.tc : Thread Cert.RFoxBwdIdeal.nD Cert.RFoxBwdIdeal.τ).loc Cert.RFoxBwdIdeal.main_arg4))

def preserves_KFoxF_KFoxFIdeal : Prop :=
  IdealRules.named_const.Statement Cert.KFoxFIdeal.κ "mask" .f32 0xF149F2CA#32 ⊥

def algebraic_KFoxFIdeal_RFoxFIdeal_on_columns_fwd_pre_finite_scores [hKFoxFIdeal : Cert.KFoxFIdeal.Facts] [hRFoxFIdeal : Cert.RFoxFIdeal.Facts] [hPre_finite_scores : Cert.Pre_finite_scores.Facts] [hOn_columns_fwd : Cert.On_columns_fwd.Facts] : Prop :=
  ∀ (m : (ℓ : Loc Cert.KFoxFIdeal.nD Cert.KFoxFIdeal.τ Cert.KFoxFIdeal.sig) → Buf (Elt Ideal) ℓ) (g : Dev Cert.KFoxFIdeal.nD → PrngReg)
    (m' : (ℓ : Loc Cert.RFoxFIdeal.nD Cert.RFoxFIdeal.τ Cert.RFoxFIdeal.sig) → Buf (Elt Ideal) ℓ) (g' : Dev Cert.RFoxFIdeal.nD → PrngReg), Pre_KFoxFIdeal_finite_scores m →
    (∀ c : Dev Cert.KFoxFIdeal.nD,
      m' ((c.tc : Thread Cert.RFoxFIdeal.nD Cert.RFoxFIdeal.τ).loc Cert.RFoxFIdeal.main_arg0) = m ((c.tc : Thread Cert.KFoxFIdeal.nD Cert.KFoxFIdeal.τ).loc Cert.KFoxFIdeal.main_arg0)
      ∧ m' ((c.tc : Thread Cert.RFoxFIdeal.nD Cert.RFoxFIdeal.τ).loc Cert.RFoxFIdeal.main_arg1) = m ((c.tc : Thread Cert.KFoxFIdeal.nD Cert.KFoxFIdeal.τ).loc Cert.KFoxFIdeal.main_arg1)
      ∧ m' ((c.tc : Thread Cert.RFoxFIdeal.nD Cert.RFoxFIdeal.τ).loc Cert.RFoxFIdeal.main_arg2) = m ((c.tc : Thread Cert.KFoxFIdeal.nD Cert.KFoxFIdeal.τ).loc Cert.KFoxFIdeal.main_arg2)
      ∧ m' ((c.tc : Thread Cert.RFoxFIdeal.nD Cert.RFoxFIdeal.τ).loc Cert.RFoxFIdeal.main_arg3) = m ((c.tc : Thread Cert.KFoxFIdeal.nD Cert.KFoxFIdeal.τ).loc Cert.KFoxFIdeal.main_arg3)) →
    ∃ (v0 : (c : Dev Cert.KFoxFIdeal.nD) → Buf (Elt Ideal) ((c.tc : Thread Cert.KFoxFIdeal.nD Cert.KFoxFIdeal.τ).loc Cert.KFoxFIdeal.main_v73_0)) (v1 : (c : Dev Cert.KFoxFIdeal.nD) → Buf (Elt Ideal) ((c.tc : Thread Cert.KFoxFIdeal.nD Cert.KFoxFIdeal.τ).loc Cert.KFoxFIdeal.main_v73_1)),
      θ_run (Cert.KFoxFIdeal.defs (F := Ideal)) (onTc (τ := Cert.KFoxFIdeal.τ) (Cert.KFoxFIdeal.main (F := Ideal))) ⟨m, fun _ => 0, g⟩ (fun r => ∀ c : Dev Cert.KFoxFIdeal.nD,
          (∀ i : (⟨3, ![8, 4096, 128]⟩ : Shape).Idx, (Cert.On_columns_fwd.fn (F := Ideal) (m ((c.tc : Thread Cert.KFoxFIdeal.nD Cert.KFoxFIdeal.τ).loc Cert.KFoxFIdeal.main_arg0)) (m ((c.tc : Thread Cert.KFoxFIdeal.nD Cert.KFoxFIdeal.τ).loc Cert.KFoxFIdeal.main_arg1)) (m ((c.tc : Thread Cert.KFoxFIdeal.nD Cert.KFoxFIdeal.τ).loc Cert.KFoxFIdeal.main_arg2)) (m ((c.tc : Thread Cert.KFoxFIdeal.nD Cert.KFoxFIdeal.τ).loc Cert.KFoxFIdeal.main_arg3))).1 i = 1#1 → r.2.mem ((c.tc : Thread Cert.KFoxFIdeal.nD Cert.KFoxFIdeal.τ).loc Cert.KFoxFIdeal.main_v73_0) i = v0 c i)
          ∧ (∀ i : (⟨3, ![8, 4096, 128]⟩ : Shape).Idx, (Cert.On_columns_fwd.fn (F := Ideal) (m ((c.tc : Thread Cert.KFoxFIdeal.nD Cert.KFoxFIdeal.τ).loc Cert.KFoxFIdeal.main_arg0)) (m ((c.tc : Thread Cert.KFoxFIdeal.nD Cert.KFoxFIdeal.τ).loc Cert.KFoxFIdeal.main_arg1)) (m ((c.tc : Thread Cert.KFoxFIdeal.nD Cert.KFoxFIdeal.τ).loc Cert.KFoxFIdeal.main_arg2)) (m ((c.tc : Thread Cert.KFoxFIdeal.nD Cert.KFoxFIdeal.τ).loc Cert.KFoxFIdeal.main_arg3))).2 i = 1#1 → r.2.mem ((c.tc : Thread Cert.KFoxFIdeal.nD Cert.KFoxFIdeal.τ).loc Cert.KFoxFIdeal.main_v73_1) i = v1 c i)
          ∧ r.2.mem ((c.tc : Thread Cert.KFoxFIdeal.nD Cert.KFoxFIdeal.τ).loc Cert.KFoxFIdeal.main_arg0) = m ((c.tc : Thread Cert.KFoxFIdeal.nD Cert.KFoxFIdeal.τ).loc Cert.KFoxFIdeal.main_arg0)
          ∧ r.2.mem ((c.tc : Thread Cert.KFoxFIdeal.nD Cert.KFoxFIdeal.τ).loc Cert.KFoxFIdeal.main_arg1) = m ((c.tc : Thread Cert.KFoxFIdeal.nD Cert.KFoxFIdeal.τ).loc Cert.KFoxFIdeal.main_arg1)
          ∧ r.2.mem ((c.tc : Thread Cert.KFoxFIdeal.nD Cert.KFoxFIdeal.τ).loc Cert.KFoxFIdeal.main_arg2) = m ((c.tc : Thread Cert.KFoxFIdeal.nD Cert.KFoxFIdeal.τ).loc Cert.KFoxFIdeal.main_arg2)
          ∧ r.2.mem ((c.tc : Thread Cert.KFoxFIdeal.nD Cert.KFoxFIdeal.τ).loc Cert.KFoxFIdeal.main_arg3) = m ((c.tc : Thread Cert.KFoxFIdeal.nD Cert.KFoxFIdeal.τ).loc Cert.KFoxFIdeal.main_arg3))
      ∧ θ_run (Cert.RFoxFIdeal.defs (F := Ideal)) (onTc (τ := Cert.RFoxFIdeal.τ) (Cert.RFoxFIdeal.main (F := Ideal))) ⟨m', fun _ => 0, g'⟩ (fun r => ∀ c : Dev Cert.RFoxFIdeal.nD,
          (∀ i : (⟨3, ![8, 4096, 128]⟩ : Shape).Idx, (Cert.On_columns_fwd.fn (F := Ideal) (m ((c.tc : Thread Cert.KFoxFIdeal.nD Cert.KFoxFIdeal.τ).loc Cert.KFoxFIdeal.main_arg0)) (m ((c.tc : Thread Cert.KFoxFIdeal.nD Cert.KFoxFIdeal.τ).loc Cert.KFoxFIdeal.main_arg1)) (m ((c.tc : Thread Cert.KFoxFIdeal.nD Cert.KFoxFIdeal.τ).loc Cert.KFoxFIdeal.main_arg2)) (m ((c.tc : Thread Cert.KFoxFIdeal.nD Cert.KFoxFIdeal.τ).loc Cert.KFoxFIdeal.main_arg3))).1 i = 1#1 → r.2.mem ((c.tc : Thread Cert.RFoxFIdeal.nD Cert.RFoxFIdeal.τ).loc Cert.RFoxFIdeal.main_v61) i = v0 c i)
          ∧ (∀ i : (⟨3, ![8, 4096, 128]⟩ : Shape).Idx, (Cert.On_columns_fwd.fn (F := Ideal) (m ((c.tc : Thread Cert.KFoxFIdeal.nD Cert.KFoxFIdeal.τ).loc Cert.KFoxFIdeal.main_arg0)) (m ((c.tc : Thread Cert.KFoxFIdeal.nD Cert.KFoxFIdeal.τ).loc Cert.KFoxFIdeal.main_arg1)) (m ((c.tc : Thread Cert.KFoxFIdeal.nD Cert.KFoxFIdeal.τ).loc Cert.KFoxFIdeal.main_arg2)) (m ((c.tc : Thread Cert.KFoxFIdeal.nD Cert.KFoxFIdeal.τ).loc Cert.KFoxFIdeal.main_arg3))).2 i = 1#1 → r.2.mem ((c.tc : Thread Cert.RFoxFIdeal.nD Cert.RFoxFIdeal.τ).loc Cert.RFoxFIdeal.main_v62) i = v1 c i)
          ∧ r.2.mem ((c.tc : Thread Cert.RFoxFIdeal.nD Cert.RFoxFIdeal.τ).loc Cert.RFoxFIdeal.main_arg0) = m' ((c.tc : Thread Cert.RFoxFIdeal.nD Cert.RFoxFIdeal.τ).loc Cert.RFoxFIdeal.main_arg0)
          ∧ r.2.mem ((c.tc : Thread Cert.RFoxFIdeal.nD Cert.RFoxFIdeal.τ).loc Cert.RFoxFIdeal.main_arg1) = m' ((c.tc : Thread Cert.RFoxFIdeal.nD Cert.RFoxFIdeal.τ).loc Cert.RFoxFIdeal.main_arg1)
          ∧ r.2.mem ((c.tc : Thread Cert.RFoxFIdeal.nD Cert.RFoxFIdeal.τ).loc Cert.RFoxFIdeal.main_arg2) = m' ((c.tc : Thread Cert.RFoxFIdeal.nD Cert.RFoxFIdeal.τ).loc Cert.RFoxFIdeal.main_arg2)
          ∧ r.2.mem ((c.tc : Thread Cert.RFoxFIdeal.nD Cert.RFoxFIdeal.τ).loc Cert.RFoxFIdeal.main_arg3) = m' ((c.tc : Thread Cert.RFoxFIdeal.nD Cert.RFoxFIdeal.τ).loc Cert.RFoxFIdeal.main_arg3))

def preserves_KNormOdd_KNormOddIdeal : Prop :=
  True

def algebraic_KNormOddIdeal_RNormOddIdeal [hKNormOddIdeal : Cert.KNormOddIdeal.Facts] [hRNormOddIdeal : Cert.RNormOddIdeal.Facts] : Prop :=
  ∀ (m : (ℓ : Loc Cert.KNormOddIdeal.nD Cert.KNormOddIdeal.τ Cert.KNormOddIdeal.sig) → Buf (Elt Ideal) ℓ) (g : Dev Cert.KNormOddIdeal.nD → PrngReg)
    (m' : (ℓ : Loc Cert.RNormOddIdeal.nD Cert.RNormOddIdeal.τ Cert.RNormOddIdeal.sig) → Buf (Elt Ideal) ℓ) (g' : Dev Cert.RNormOddIdeal.nD → PrngReg), Pre_KNormOddIdeal m →
    (∀ c : Dev Cert.KNormOddIdeal.nD,
      m' ((c.tc : Thread Cert.RNormOddIdeal.nD Cert.RNormOddIdeal.τ).loc Cert.RNormOddIdeal.main_arg0) = m ((c.tc : Thread Cert.KNormOddIdeal.nD Cert.KNormOddIdeal.τ).loc Cert.KNormOddIdeal.main_arg0)
      ∧ m' ((c.tc : Thread Cert.RNormOddIdeal.nD Cert.RNormOddIdeal.τ).loc Cert.RNormOddIdeal.main_arg1) = m ((c.tc : Thread Cert.KNormOddIdeal.nD Cert.KNormOddIdeal.τ).loc Cert.KNormOddIdeal.main_arg1)
      ∧ m' ((c.tc : Thread Cert.RNormOddIdeal.nD Cert.RNormOddIdeal.τ).loc Cert.RNormOddIdeal.main_arg2) = m ((c.tc : Thread Cert.KNormOddIdeal.nD Cert.KNormOddIdeal.τ).loc Cert.KNormOddIdeal.main_arg2)
      ∧ m' ((c.tc : Thread Cert.RNormOddIdeal.nD Cert.RNormOddIdeal.τ).loc Cert.RNormOddIdeal.main_arg3) = m ((c.tc : Thread Cert.KNormOddIdeal.nD Cert.KNormOddIdeal.τ).loc Cert.KNormOddIdeal.main_arg3)
      ∧ m' ((c.tc : Thread Cert.RNormOddIdeal.nD Cert.RNormOddIdeal.τ).loc Cert.RNormOddIdeal.main_arg4) = m ((c.tc : Thread Cert.KNormOddIdeal.nD Cert.KNormOddIdeal.τ).loc Cert.KNormOddIdeal.main_arg4)) →
    ∃ (v0 : (c : Dev Cert.KNormOddIdeal.nD) → Buf (Elt Ideal) ((c.tc : Thread Cert.KNormOddIdeal.nD Cert.KNormOddIdeal.τ).loc Cert.KNormOddIdeal.main_v3_0)) (v1 : (c : Dev Cert.KNormOddIdeal.nD) → Buf (Elt Ideal) ((c.tc : Thread Cert.KNormOddIdeal.nD Cert.KNormOddIdeal.τ).loc Cert.KNormOddIdeal.main_v3_1)),
      θ_run (Cert.KNormOddIdeal.defs (F := Ideal)) (onTc (τ := Cert.KNormOddIdeal.τ) (Cert.KNormOddIdeal.main (F := Ideal))) ⟨m, fun _ => 0, g⟩ (fun r => ∀ c : Dev Cert.KNormOddIdeal.nD,
          r.2.mem ((c.tc : Thread Cert.KNormOddIdeal.nD Cert.KNormOddIdeal.τ).loc Cert.KNormOddIdeal.main_v3_0) = v0 c
          ∧ r.2.mem ((c.tc : Thread Cert.KNormOddIdeal.nD Cert.KNormOddIdeal.τ).loc Cert.KNormOddIdeal.main_v3_1) = v1 c
          ∧ r.2.mem ((c.tc : Thread Cert.KNormOddIdeal.nD Cert.KNormOddIdeal.τ).loc Cert.KNormOddIdeal.main_arg0) = m ((c.tc : Thread Cert.KNormOddIdeal.nD Cert.KNormOddIdeal.τ).loc Cert.KNormOddIdeal.main_arg0)
          ∧ r.2.mem ((c.tc : Thread Cert.KNormOddIdeal.nD Cert.KNormOddIdeal.τ).loc Cert.KNormOddIdeal.main_arg1) = m ((c.tc : Thread Cert.KNormOddIdeal.nD Cert.KNormOddIdeal.τ).loc Cert.KNormOddIdeal.main_arg1)
          ∧ r.2.mem ((c.tc : Thread Cert.KNormOddIdeal.nD Cert.KNormOddIdeal.τ).loc Cert.KNormOddIdeal.main_arg2) = m ((c.tc : Thread Cert.KNormOddIdeal.nD Cert.KNormOddIdeal.τ).loc Cert.KNormOddIdeal.main_arg2)
          ∧ r.2.mem ((c.tc : Thread Cert.KNormOddIdeal.nD Cert.KNormOddIdeal.τ).loc Cert.KNormOddIdeal.main_arg3) = m ((c.tc : Thread Cert.KNormOddIdeal.nD Cert.KNormOddIdeal.τ).loc Cert.KNormOddIdeal.main_arg3)
          ∧ r.2.mem ((c.tc : Thread Cert.KNormOddIdeal.nD Cert.KNormOddIdeal.τ).loc Cert.KNormOddIdeal.main_arg4) = m ((c.tc : Thread Cert.KNormOddIdeal.nD Cert.KNormOddIdeal.τ).loc Cert.KNormOddIdeal.main_arg4))
      ∧ θ_run (Cert.RNormOddIdeal.defs (F := Ideal)) (onTc (τ := Cert.RNormOddIdeal.τ) (Cert.RNormOddIdeal.main (F := Ideal))) ⟨m', fun _ => 0, g'⟩ (fun r => ∀ c : Dev Cert.RNormOddIdeal.nD,
          r.2.mem ((c.tc : Thread Cert.RNormOddIdeal.nD Cert.RNormOddIdeal.τ).loc Cert.RNormOddIdeal.main_v37) = v0 c
          ∧ r.2.mem ((c.tc : Thread Cert.RNormOddIdeal.nD Cert.RNormOddIdeal.τ).loc Cert.RNormOddIdeal.main_v20) = v1 c
          ∧ r.2.mem ((c.tc : Thread Cert.RNormOddIdeal.nD Cert.RNormOddIdeal.τ).loc Cert.RNormOddIdeal.main_arg0) = m' ((c.tc : Thread Cert.RNormOddIdeal.nD Cert.RNormOddIdeal.τ).loc Cert.RNormOddIdeal.main_arg0)
          ∧ r.2.mem ((c.tc : Thread Cert.RNormOddIdeal.nD Cert.RNormOddIdeal.τ).loc Cert.RNormOddIdeal.main_arg1) = m' ((c.tc : Thread Cert.RNormOddIdeal.nD Cert.RNormOddIdeal.τ).loc Cert.RNormOddIdeal.main_arg1)
          ∧ r.2.mem ((c.tc : Thread Cert.RNormOddIdeal.nD Cert.RNormOddIdeal.τ).loc Cert.RNormOddIdeal.main_arg2) = m' ((c.tc : Thread Cert.RNormOddIdeal.nD Cert.RNormOddIdeal.τ).loc Cert.RNormOddIdeal.main_arg2)
          ∧ r.2.mem ((c.tc : Thread Cert.RNormOddIdeal.nD Cert.RNormOddIdeal.τ).loc Cert.RNormOddIdeal.main_arg3) = m' ((c.tc : Thread Cert.RNormOddIdeal.nD Cert.RNormOddIdeal.τ).loc Cert.RNormOddIdeal.main_arg3)
          ∧ r.2.mem ((c.tc : Thread Cert.RNormOddIdeal.nD Cert.RNormOddIdeal.τ).loc Cert.RNormOddIdeal.main_arg4) = m' ((c.tc : Thread Cert.RNormOddIdeal.nD Cert.RNormOddIdeal.τ).loc Cert.RNormOddIdeal.main_arg4))

def preserves_KNormFfn_KNormFfnIdeal : Prop :=
  True

def algebraic_KNormFfnIdeal_RNormFfnIdeal [hKNormFfnIdeal : Cert.KNormFfnIdeal.Facts] [hRNormFfnIdeal : Cert.RNormFfnIdeal.Facts] : Prop :=
  ∀ (m : (ℓ : Loc Cert.KNormFfnIdeal.nD Cert.KNormFfnIdeal.τ Cert.KNormFfnIdeal.sig) → Buf (Elt Ideal) ℓ) (g : Dev Cert.KNormFfnIdeal.nD → PrngReg)
    (m' : (ℓ : Loc Cert.RNormFfnIdeal.nD Cert.RNormFfnIdeal.τ Cert.RNormFfnIdeal.sig) → Buf (Elt Ideal) ℓ) (g' : Dev Cert.RNormFfnIdeal.nD → PrngReg), Pre_KNormFfnIdeal m →
    (∀ c : Dev Cert.KNormFfnIdeal.nD,
      m' ((c.tc : Thread Cert.RNormFfnIdeal.nD Cert.RNormFfnIdeal.τ).loc Cert.RNormFfnIdeal.main_arg0) = m ((c.tc : Thread Cert.KNormFfnIdeal.nD Cert.KNormFfnIdeal.τ).loc Cert.KNormFfnIdeal.main_arg0)
      ∧ m' ((c.tc : Thread Cert.RNormFfnIdeal.nD Cert.RNormFfnIdeal.τ).loc Cert.RNormFfnIdeal.main_arg1) = m ((c.tc : Thread Cert.KNormFfnIdeal.nD Cert.KNormFfnIdeal.τ).loc Cert.KNormFfnIdeal.main_arg1)
      ∧ m' ((c.tc : Thread Cert.RNormFfnIdeal.nD Cert.RNormFfnIdeal.τ).loc Cert.RNormFfnIdeal.main_arg2) = m ((c.tc : Thread Cert.KNormFfnIdeal.nD Cert.KNormFfnIdeal.τ).loc Cert.KNormFfnIdeal.main_arg2)
      ∧ m' ((c.tc : Thread Cert.RNormFfnIdeal.nD Cert.RNormFfnIdeal.τ).loc Cert.RNormFfnIdeal.main_arg3) = m ((c.tc : Thread Cert.KNormFfnIdeal.nD Cert.KNormFfnIdeal.τ).loc Cert.KNormFfnIdeal.main_arg3)
      ∧ m' ((c.tc : Thread Cert.RNormFfnIdeal.nD Cert.RNormFfnIdeal.τ).loc Cert.RNormFfnIdeal.main_arg4) = m ((c.tc : Thread Cert.KNormFfnIdeal.nD Cert.KNormFfnIdeal.τ).loc Cert.KNormFfnIdeal.main_arg4)
      ∧ m' ((c.tc : Thread Cert.RNormFfnIdeal.nD Cert.RNormFfnIdeal.τ).loc Cert.RNormFfnIdeal.main_arg5) = m ((c.tc : Thread Cert.KNormFfnIdeal.nD Cert.KNormFfnIdeal.τ).loc Cert.KNormFfnIdeal.main_arg5)
      ∧ m' ((c.tc : Thread Cert.RNormFfnIdeal.nD Cert.RNormFfnIdeal.τ).loc Cert.RNormFfnIdeal.main_arg6) = m ((c.tc : Thread Cert.KNormFfnIdeal.nD Cert.KNormFfnIdeal.τ).loc Cert.KNormFfnIdeal.main_arg6)) →
    ∃ (v0 : (c : Dev Cert.KNormFfnIdeal.nD) → Buf (Elt Ideal) ((c.tc : Thread Cert.KNormFfnIdeal.nD Cert.KNormFfnIdeal.τ).loc Cert.KNormFfnIdeal.main_v6_0)) (v1 : (c : Dev Cert.KNormFfnIdeal.nD) → Buf (Elt Ideal) ((c.tc : Thread Cert.KNormFfnIdeal.nD Cert.KNormFfnIdeal.τ).loc Cert.KNormFfnIdeal.main_v6_1)),
      θ_run (Cert.KNormFfnIdeal.defs (F := Ideal)) (onTc (τ := Cert.KNormFfnIdeal.τ) (Cert.KNormFfnIdeal.main (F := Ideal))) ⟨m, fun _ => 0, g⟩ (fun r => ∀ c : Dev Cert.KNormFfnIdeal.nD,
          r.2.mem ((c.tc : Thread Cert.KNormFfnIdeal.nD Cert.KNormFfnIdeal.τ).loc Cert.KNormFfnIdeal.main_v6_0) = v0 c
          ∧ r.2.mem ((c.tc : Thread Cert.KNormFfnIdeal.nD Cert.KNormFfnIdeal.τ).loc Cert.KNormFfnIdeal.main_v6_1) = v1 c
          ∧ r.2.mem ((c.tc : Thread Cert.KNormFfnIdeal.nD Cert.KNormFfnIdeal.τ).loc Cert.KNormFfnIdeal.main_arg0) = m ((c.tc : Thread Cert.KNormFfnIdeal.nD Cert.KNormFfnIdeal.τ).loc Cert.KNormFfnIdeal.main_arg0)
          ∧ r.2.mem ((c.tc : Thread Cert.KNormFfnIdeal.nD Cert.KNormFfnIdeal.τ).loc Cert.KNormFfnIdeal.main_arg1) = m ((c.tc : Thread Cert.KNormFfnIdeal.nD Cert.KNormFfnIdeal.τ).loc Cert.KNormFfnIdeal.main_arg1)
          ∧ r.2.mem ((c.tc : Thread Cert.KNormFfnIdeal.nD Cert.KNormFfnIdeal.τ).loc Cert.KNormFfnIdeal.main_arg2) = m ((c.tc : Thread Cert.KNormFfnIdeal.nD Cert.KNormFfnIdeal.τ).loc Cert.KNormFfnIdeal.main_arg2)
          ∧ r.2.mem ((c.tc : Thread Cert.KNormFfnIdeal.nD Cert.KNormFfnIdeal.τ).loc Cert.KNormFfnIdeal.main_arg3) = m ((c.tc : Thread Cert.KNormFfnIdeal.nD Cert.KNormFfnIdeal.τ).loc Cert.KNormFfnIdeal.main_arg3)
          ∧ r.2.mem ((c.tc : Thread Cert.KNormFfnIdeal.nD Cert.KNormFfnIdeal.τ).loc Cert.KNormFfnIdeal.main_arg4) = m ((c.tc : Thread Cert.KNormFfnIdeal.nD Cert.KNormFfnIdeal.τ).loc Cert.KNormFfnIdeal.main_arg4)
          ∧ r.2.mem ((c.tc : Thread Cert.KNormFfnIdeal.nD Cert.KNormFfnIdeal.τ).loc Cert.KNormFfnIdeal.main_arg5) = m ((c.tc : Thread Cert.KNormFfnIdeal.nD Cert.KNormFfnIdeal.τ).loc Cert.KNormFfnIdeal.main_arg5)
          ∧ r.2.mem ((c.tc : Thread Cert.KNormFfnIdeal.nD Cert.KNormFfnIdeal.τ).loc Cert.KNormFfnIdeal.main_arg6) = m ((c.tc : Thread Cert.KNormFfnIdeal.nD Cert.KNormFfnIdeal.τ).loc Cert.KNormFfnIdeal.main_arg6))
      ∧ θ_run (Cert.RNormFfnIdeal.defs (F := Ideal)) (onTc (τ := Cert.RNormFfnIdeal.τ) (Cert.RNormFfnIdeal.main (F := Ideal))) ⟨m', fun _ => 0, g'⟩ (fun r => ∀ c : Dev Cert.RNormFfnIdeal.nD,
          r.2.mem ((c.tc : Thread Cert.RNormFfnIdeal.nD Cert.RNormFfnIdeal.τ).loc Cert.RNormFfnIdeal.main_v45) = v0 c
          ∧ r.2.mem ((c.tc : Thread Cert.RNormFfnIdeal.nD Cert.RNormFfnIdeal.τ).loc Cert.RNormFfnIdeal.main_v28) = v1 c
          ∧ r.2.mem ((c.tc : Thread Cert.RNormFfnIdeal.nD Cert.RNormFfnIdeal.τ).loc Cert.RNormFfnIdeal.main_arg0) = m' ((c.tc : Thread Cert.RNormFfnIdeal.nD Cert.RNormFfnIdeal.τ).loc Cert.RNormFfnIdeal.main_arg0)
          ∧ r.2.mem ((c.tc : Thread Cert.RNormFfnIdeal.nD Cert.RNormFfnIdeal.τ).loc Cert.RNormFfnIdeal.main_arg1) = m' ((c.tc : Thread Cert.RNormFfnIdeal.nD Cert.RNormFfnIdeal.τ).loc Cert.RNormFfnIdeal.main_arg1)
          ∧ r.2.mem ((c.tc : Thread Cert.RNormFfnIdeal.nD Cert.RNormFfnIdeal.τ).loc Cert.RNormFfnIdeal.main_arg2) = m' ((c.tc : Thread Cert.RNormFfnIdeal.nD Cert.RNormFfnIdeal.τ).loc Cert.RNormFfnIdeal.main_arg2)
          ∧ r.2.mem ((c.tc : Thread Cert.RNormFfnIdeal.nD Cert.RNormFfnIdeal.τ).loc Cert.RNormFfnIdeal.main_arg3) = m' ((c.tc : Thread Cert.RNormFfnIdeal.nD Cert.RNormFfnIdeal.τ).loc Cert.RNormFfnIdeal.main_arg3)
          ∧ r.2.mem ((c.tc : Thread Cert.RNormFfnIdeal.nD Cert.RNormFfnIdeal.τ).loc Cert.RNormFfnIdeal.main_arg4) = m' ((c.tc : Thread Cert.RNormFfnIdeal.nD Cert.RNormFfnIdeal.τ).loc Cert.RNormFfnIdeal.main_arg4)
          ∧ r.2.mem ((c.tc : Thread Cert.RNormFfnIdeal.nD Cert.RNormFfnIdeal.τ).loc Cert.RNormFfnIdeal.main_arg5) = m' ((c.tc : Thread Cert.RNormFfnIdeal.nD Cert.RNormFfnIdeal.τ).loc Cert.RNormFfnIdeal.main_arg5)
          ∧ r.2.mem ((c.tc : Thread Cert.RNormFfnIdeal.nD Cert.RNormFfnIdeal.τ).loc Cert.RNormFfnIdeal.main_arg6) = m' ((c.tc : Thread Cert.RNormFfnIdeal.nD Cert.RNormFfnIdeal.τ).loc Cert.RNormFfnIdeal.main_arg6))

def preserves_KNormEven_KNormEvenIdeal : Prop :=
  True

def algebraic_KNormEvenIdeal_RNormEvenIdeal [hKNormEvenIdeal : Cert.KNormEvenIdeal.Facts] [hRNormEvenIdeal : Cert.RNormEvenIdeal.Facts] : Prop :=
  ∀ (m : (ℓ : Loc Cert.KNormEvenIdeal.nD Cert.KNormEvenIdeal.τ Cert.KNormEvenIdeal.sig) → Buf (Elt Ideal) ℓ) (g : Dev Cert.KNormEvenIdeal.nD → PrngReg)
    (m' : (ℓ : Loc Cert.RNormEvenIdeal.nD Cert.RNormEvenIdeal.τ Cert.RNormEvenIdeal.sig) → Buf (Elt Ideal) ℓ) (g' : Dev Cert.RNormEvenIdeal.nD → PrngReg), Pre_KNormEvenIdeal m →
    (∀ c : Dev Cert.KNormEvenIdeal.nD,
      m' ((c.tc : Thread Cert.RNormEvenIdeal.nD Cert.RNormEvenIdeal.τ).loc Cert.RNormEvenIdeal.main_arg0) = m ((c.tc : Thread Cert.KNormEvenIdeal.nD Cert.KNormEvenIdeal.τ).loc Cert.KNormEvenIdeal.main_arg0)
      ∧ m' ((c.tc : Thread Cert.RNormEvenIdeal.nD Cert.RNormEvenIdeal.τ).loc Cert.RNormEvenIdeal.main_arg1) = m ((c.tc : Thread Cert.KNormEvenIdeal.nD Cert.KNormEvenIdeal.τ).loc Cert.KNormEvenIdeal.main_arg1)
      ∧ m' ((c.tc : Thread Cert.RNormEvenIdeal.nD Cert.RNormEvenIdeal.τ).loc Cert.RNormEvenIdeal.main_arg2) = m ((c.tc : Thread Cert.KNormEvenIdeal.nD Cert.KNormEvenIdeal.τ).loc Cert.KNormEvenIdeal.main_arg2)
      ∧ m' ((c.tc : Thread Cert.RNormEvenIdeal.nD Cert.RNormEvenIdeal.τ).loc Cert.RNormEvenIdeal.main_arg3) = m ((c.tc : Thread Cert.KNormEvenIdeal.nD Cert.KNormEvenIdeal.τ).loc Cert.KNormEvenIdeal.main_arg3)
      ∧ m' ((c.tc : Thread Cert.RNormEvenIdeal.nD Cert.RNormEvenIdeal.τ).loc Cert.RNormEvenIdeal.main_arg4) = m ((c.tc : Thread Cert.KNormEvenIdeal.nD Cert.KNormEvenIdeal.τ).loc Cert.KNormEvenIdeal.main_arg4)
      ∧ m' ((c.tc : Thread Cert.RNormEvenIdeal.nD Cert.RNormEvenIdeal.τ).loc Cert.RNormEvenIdeal.main_arg5) = m ((c.tc : Thread Cert.KNormEvenIdeal.nD Cert.KNormEvenIdeal.τ).loc Cert.KNormEvenIdeal.main_arg5)) →
    ∃ (v0 : (c : Dev Cert.KNormEvenIdeal.nD) → Buf (Elt Ideal) ((c.tc : Thread Cert.KNormEvenIdeal.nD Cert.KNormEvenIdeal.τ).loc Cert.KNormEvenIdeal.main_v10_0)) (v1 : (c : Dev Cert.KNormEvenIdeal.nD) → Buf (Elt Ideal) ((c.tc : Thread Cert.KNormEvenIdeal.nD Cert.KNormEvenIdeal.τ).loc Cert.KNormEvenIdeal.main_v10_1)),
      θ_run (Cert.KNormEvenIdeal.defs (F := Ideal)) (onTc (τ := Cert.KNormEvenIdeal.τ) (Cert.KNormEvenIdeal.main (F := Ideal))) ⟨m, fun _ => 0, g⟩ (fun r => ∀ c : Dev Cert.KNormEvenIdeal.nD,
          r.2.mem ((c.tc : Thread Cert.KNormEvenIdeal.nD Cert.KNormEvenIdeal.τ).loc Cert.KNormEvenIdeal.main_v10_0) = v0 c
          ∧ r.2.mem ((c.tc : Thread Cert.KNormEvenIdeal.nD Cert.KNormEvenIdeal.τ).loc Cert.KNormEvenIdeal.main_v10_1) = v1 c
          ∧ r.2.mem ((c.tc : Thread Cert.KNormEvenIdeal.nD Cert.KNormEvenIdeal.τ).loc Cert.KNormEvenIdeal.main_arg0) = m ((c.tc : Thread Cert.KNormEvenIdeal.nD Cert.KNormEvenIdeal.τ).loc Cert.KNormEvenIdeal.main_arg0)
          ∧ r.2.mem ((c.tc : Thread Cert.KNormEvenIdeal.nD Cert.KNormEvenIdeal.τ).loc Cert.KNormEvenIdeal.main_arg1) = m ((c.tc : Thread Cert.KNormEvenIdeal.nD Cert.KNormEvenIdeal.τ).loc Cert.KNormEvenIdeal.main_arg1)
          ∧ r.2.mem ((c.tc : Thread Cert.KNormEvenIdeal.nD Cert.KNormEvenIdeal.τ).loc Cert.KNormEvenIdeal.main_arg2) = m ((c.tc : Thread Cert.KNormEvenIdeal.nD Cert.KNormEvenIdeal.τ).loc Cert.KNormEvenIdeal.main_arg2)
          ∧ r.2.mem ((c.tc : Thread Cert.KNormEvenIdeal.nD Cert.KNormEvenIdeal.τ).loc Cert.KNormEvenIdeal.main_arg3) = m ((c.tc : Thread Cert.KNormEvenIdeal.nD Cert.KNormEvenIdeal.τ).loc Cert.KNormEvenIdeal.main_arg3)
          ∧ r.2.mem ((c.tc : Thread Cert.KNormEvenIdeal.nD Cert.KNormEvenIdeal.τ).loc Cert.KNormEvenIdeal.main_arg4) = m ((c.tc : Thread Cert.KNormEvenIdeal.nD Cert.KNormEvenIdeal.τ).loc Cert.KNormEvenIdeal.main_arg4)
          ∧ r.2.mem ((c.tc : Thread Cert.KNormEvenIdeal.nD Cert.KNormEvenIdeal.τ).loc Cert.KNormEvenIdeal.main_arg5) = m ((c.tc : Thread Cert.KNormEvenIdeal.nD Cert.KNormEvenIdeal.τ).loc Cert.KNormEvenIdeal.main_arg5))
      ∧ θ_run (Cert.RNormEvenIdeal.defs (F := Ideal)) (onTc (τ := Cert.RNormEvenIdeal.τ) (Cert.RNormEvenIdeal.main (F := Ideal))) ⟨m', fun _ => 0, g'⟩ (fun r => ∀ c : Dev Cert.RNormEvenIdeal.nD,
          r.2.mem ((c.tc : Thread Cert.RNormEvenIdeal.nD Cert.RNormEvenIdeal.τ).loc Cert.RNormEvenIdeal.main_v38) = v0 c
          ∧ r.2.mem ((c.tc : Thread Cert.RNormEvenIdeal.nD Cert.RNormEvenIdeal.τ).loc Cert.RNormEvenIdeal.main_v21) = v1 c
          ∧ r.2.mem ((c.tc : Thread Cert.RNormEvenIdeal.nD Cert.RNormEvenIdeal.τ).loc Cert.RNormEvenIdeal.main_arg0) = m' ((c.tc : Thread Cert.RNormEvenIdeal.nD Cert.RNormEvenIdeal.τ).loc Cert.RNormEvenIdeal.main_arg0)
          ∧ r.2.mem ((c.tc : Thread Cert.RNormEvenIdeal.nD Cert.RNormEvenIdeal.τ).loc Cert.RNormEvenIdeal.main_arg1) = m' ((c.tc : Thread Cert.RNormEvenIdeal.nD Cert.RNormEvenIdeal.τ).loc Cert.RNormEvenIdeal.main_arg1)
          ∧ r.2.mem ((c.tc : Thread Cert.RNormEvenIdeal.nD Cert.RNormEvenIdeal.τ).loc Cert.RNormEvenIdeal.main_arg2) = m' ((c.tc : Thread Cert.RNormEvenIdeal.nD Cert.RNormEvenIdeal.τ).loc Cert.RNormEvenIdeal.main_arg2)
          ∧ r.2.mem ((c.tc : Thread Cert.RNormEvenIdeal.nD Cert.RNormEvenIdeal.τ).loc Cert.RNormEvenIdeal.main_arg3) = m' ((c.tc : Thread Cert.RNormEvenIdeal.nD Cert.RNormEvenIdeal.τ).loc Cert.RNormEvenIdeal.main_arg3)
          ∧ r.2.mem ((c.tc : Thread Cert.RNormEvenIdeal.nD Cert.RNormEvenIdeal.τ).loc Cert.RNormEvenIdeal.main_arg4) = m' ((c.tc : Thread Cert.RNormEvenIdeal.nD Cert.RNormEvenIdeal.τ).loc Cert.RNormEvenIdeal.main_arg4)
          ∧ r.2.mem ((c.tc : Thread Cert.RNormEvenIdeal.nD Cert.RNormEvenIdeal.τ).loc Cert.RNormEvenIdeal.main_arg5) = m' ((c.tc : Thread Cert.RNormEvenIdeal.nD Cert.RNormEvenIdeal.τ).loc Cert.RNormEvenIdeal.main_arg5))

def preserves_KForget_KForgetIdeal : Prop :=
  True

def algebraic_KForgetIdeal_RForgetIdeal [hKForgetIdeal : Cert.KForgetIdeal.Facts] [hRForgetIdeal : Cert.RForgetIdeal.Facts] : Prop :=
  ∀ (m : (ℓ : Loc Cert.KForgetIdeal.nD Cert.KForgetIdeal.τ Cert.KForgetIdeal.sig) → Buf (Elt Ideal) ℓ) (g : Dev Cert.KForgetIdeal.nD → PrngReg)
    (m' : (ℓ : Loc Cert.RForgetIdeal.nD Cert.RForgetIdeal.τ Cert.RForgetIdeal.sig) → Buf (Elt Ideal) ℓ) (g' : Dev Cert.RForgetIdeal.nD → PrngReg), Pre_KForgetIdeal m →
    (∀ c : Dev Cert.KForgetIdeal.nD,
      m' ((c.tc : Thread Cert.RForgetIdeal.nD Cert.RForgetIdeal.τ).loc Cert.RForgetIdeal.main_arg0) = m ((c.tc : Thread Cert.KForgetIdeal.nD Cert.KForgetIdeal.τ).loc Cert.KForgetIdeal.main_arg0)
      ∧ m' ((c.tc : Thread Cert.RForgetIdeal.nD Cert.RForgetIdeal.τ).loc Cert.RForgetIdeal.main_arg1) = m ((c.tc : Thread Cert.KForgetIdeal.nD Cert.KForgetIdeal.τ).loc Cert.KForgetIdeal.main_arg1)
      ∧ m' ((c.tc : Thread Cert.RForgetIdeal.nD Cert.RForgetIdeal.τ).loc Cert.RForgetIdeal.main_arg2) = m ((c.tc : Thread Cert.KForgetIdeal.nD Cert.KForgetIdeal.τ).loc Cert.KForgetIdeal.main_arg2)) →
    ∃ (v0 : (c : Dev Cert.KForgetIdeal.nD) → Buf (Elt Ideal) ((c.tc : Thread Cert.KForgetIdeal.nD Cert.KForgetIdeal.τ).loc Cert.KForgetIdeal.main_v5_0)) (v1 : (c : Dev Cert.KForgetIdeal.nD) → Buf (Elt Ideal) ((c.tc : Thread Cert.KForgetIdeal.nD Cert.KForgetIdeal.τ).loc Cert.KForgetIdeal.main_v5_1)),
      θ_run (Cert.KForgetIdeal.defs (F := Ideal)) (onTc (τ := Cert.KForgetIdeal.τ) (Cert.KForgetIdeal.main (F := Ideal))) ⟨m, fun _ => 0, g⟩ (fun r => ∀ c : Dev Cert.KForgetIdeal.nD,
          r.2.mem ((c.tc : Thread Cert.KForgetIdeal.nD Cert.KForgetIdeal.τ).loc Cert.KForgetIdeal.main_v5_0) = v0 c
          ∧ r.2.mem ((c.tc : Thread Cert.KForgetIdeal.nD Cert.KForgetIdeal.τ).loc Cert.KForgetIdeal.main_v5_1) = v1 c
          ∧ r.2.mem ((c.tc : Thread Cert.KForgetIdeal.nD Cert.KForgetIdeal.τ).loc Cert.KForgetIdeal.main_arg0) = m ((c.tc : Thread Cert.KForgetIdeal.nD Cert.KForgetIdeal.τ).loc Cert.KForgetIdeal.main_arg0)
          ∧ r.2.mem ((c.tc : Thread Cert.KForgetIdeal.nD Cert.KForgetIdeal.τ).loc Cert.KForgetIdeal.main_arg1) = m ((c.tc : Thread Cert.KForgetIdeal.nD Cert.KForgetIdeal.τ).loc Cert.KForgetIdeal.main_arg1)
          ∧ r.2.mem ((c.tc : Thread Cert.KForgetIdeal.nD Cert.KForgetIdeal.τ).loc Cert.KForgetIdeal.main_arg2) = m ((c.tc : Thread Cert.KForgetIdeal.nD Cert.KForgetIdeal.τ).loc Cert.KForgetIdeal.main_arg2))
      ∧ θ_run (Cert.RForgetIdeal.defs (F := Ideal)) (onTc (τ := Cert.RForgetIdeal.τ) (Cert.RForgetIdeal.main (F := Ideal))) ⟨m', fun _ => 0, g'⟩ (fun r => ∀ c : Dev Cert.RForgetIdeal.nD,
          r.2.mem ((c.tc : Thread Cert.RForgetIdeal.nD Cert.RForgetIdeal.τ).loc Cert.RForgetIdeal.main_v8) = v0 c
          ∧ r.2.mem ((c.tc : Thread Cert.RForgetIdeal.nD Cert.RForgetIdeal.τ).loc Cert.RForgetIdeal.main_v9) = v1 c
          ∧ r.2.mem ((c.tc : Thread Cert.RForgetIdeal.nD Cert.RForgetIdeal.τ).loc Cert.RForgetIdeal.main_arg0) = m' ((c.tc : Thread Cert.RForgetIdeal.nD Cert.RForgetIdeal.τ).loc Cert.RForgetIdeal.main_arg0)
          ∧ r.2.mem ((c.tc : Thread Cert.RForgetIdeal.nD Cert.RForgetIdeal.τ).loc Cert.RForgetIdeal.main_arg1) = m' ((c.tc : Thread Cert.RForgetIdeal.nD Cert.RForgetIdeal.τ).loc Cert.RForgetIdeal.main_arg1)
          ∧ r.2.mem ((c.tc : Thread Cert.RForgetIdeal.nD Cert.RForgetIdeal.τ).loc Cert.RForgetIdeal.main_arg2) = m' ((c.tc : Thread Cert.RForgetIdeal.nD Cert.RForgetIdeal.τ).loc Cert.RForgetIdeal.main_arg2))

def preserves_KFfn_KFfnIdeal : Prop :=
  True

def algebraic_KFfnIdeal_RFfnIdeal_pre_finite_ffn [hKFfnIdeal : Cert.KFfnIdeal.Facts] [hRFfnIdeal : Cert.RFfnIdeal.Facts] [hPre_finite_ffn : Cert.Pre_finite_ffn.Facts] : Prop :=
  ∀ (m : (ℓ : Loc Cert.KFfnIdeal.nD Cert.KFfnIdeal.τ Cert.KFfnIdeal.sig) → Buf (Elt Ideal) ℓ) (g : Dev Cert.KFfnIdeal.nD → PrngReg)
    (m' : (ℓ : Loc Cert.RFfnIdeal.nD Cert.RFfnIdeal.τ Cert.RFfnIdeal.sig) → Buf (Elt Ideal) ℓ) (g' : Dev Cert.RFfnIdeal.nD → PrngReg), Pre_KFfnIdeal_finite_ffn m →
    (∀ c : Dev Cert.KFfnIdeal.nD,
      m' ((c.tc : Thread Cert.RFfnIdeal.nD Cert.RFfnIdeal.τ).loc Cert.RFfnIdeal.main_arg0) = m ((c.tc : Thread Cert.KFfnIdeal.nD Cert.KFfnIdeal.τ).loc Cert.KFfnIdeal.main_arg0)
      ∧ m' ((c.tc : Thread Cert.RFfnIdeal.nD Cert.RFfnIdeal.τ).loc Cert.RFfnIdeal.main_arg1) = m ((c.tc : Thread Cert.KFfnIdeal.nD Cert.KFfnIdeal.τ).loc Cert.KFfnIdeal.main_arg1)
      ∧ m' ((c.tc : Thread Cert.RFfnIdeal.nD Cert.RFfnIdeal.τ).loc Cert.RFfnIdeal.main_arg2) = m ((c.tc : Thread Cert.KFfnIdeal.nD Cert.KFfnIdeal.τ).loc Cert.KFfnIdeal.main_arg2)
      ∧ m' ((c.tc : Thread Cert.RFfnIdeal.nD Cert.RFfnIdeal.τ).loc Cert.RFfnIdeal.main_arg3) = m ((c.tc : Thread Cert.KFfnIdeal.nD Cert.KFfnIdeal.τ).loc Cert.KFfnIdeal.main_arg3)
      ∧ m' ((c.tc : Thread Cert.RFfnIdeal.nD Cert.RFfnIdeal.τ).loc Cert.RFfnIdeal.main_arg4) = m ((c.tc : Thread Cert.KFfnIdeal.nD Cert.KFfnIdeal.τ).loc Cert.KFfnIdeal.main_arg4)
      ∧ m' ((c.tc : Thread Cert.RFfnIdeal.nD Cert.RFfnIdeal.τ).loc Cert.RFfnIdeal.main_arg5) = m ((c.tc : Thread Cert.KFfnIdeal.nD Cert.KFfnIdeal.τ).loc Cert.KFfnIdeal.main_arg5)) →
    ∃ (v0 : (c : Dev Cert.KFfnIdeal.nD) → Buf (Elt Ideal) ((c.tc : Thread Cert.KFfnIdeal.nD Cert.KFfnIdeal.τ).loc Cert.KFfnIdeal.main_v23_0)) (v1 : (c : Dev Cert.KFfnIdeal.nD) → Buf (Elt Ideal) ((c.tc : Thread Cert.KFfnIdeal.nD Cert.KFfnIdeal.τ).loc Cert.KFfnIdeal.main_v23_1)) (v2 : (c : Dev Cert.KFfnIdeal.nD) → Buf (Elt Ideal) ((c.tc : Thread Cert.KFfnIdeal.nD Cert.KFfnIdeal.τ).loc Cert.KFfnIdeal.main_v23_2)) (v3 : (c : Dev Cert.KFfnIdeal.nD) → Buf (Elt Ideal) ((c.tc : Thread Cert.KFfnIdeal.nD Cert.KFfnIdeal.τ).loc Cert.KFfnIdeal.main_v23_3)) (v4 : (c : Dev Cert.KFfnIdeal.nD) → Buf (Elt Ideal) ((c.tc : Thread Cert.KFfnIdeal.nD Cert.KFfnIdeal.τ).loc Cert.KFfnIdeal.main_v23_4)),
      θ_run (Cert.KFfnIdeal.defs (F := Ideal)) (onTc (τ := Cert.KFfnIdeal.τ) (Cert.KFfnIdeal.main (F := Ideal))) ⟨m, fun _ => 0, g⟩ (fun r => ∀ c : Dev Cert.KFfnIdeal.nD,
          r.2.mem ((c.tc : Thread Cert.KFfnIdeal.nD Cert.KFfnIdeal.τ).loc Cert.KFfnIdeal.main_v23_0) = v0 c
          ∧ r.2.mem ((c.tc : Thread Cert.KFfnIdeal.nD Cert.KFfnIdeal.τ).loc Cert.KFfnIdeal.main_v23_1) = v1 c
          ∧ r.2.mem ((c.tc : Thread Cert.KFfnIdeal.nD Cert.KFfnIdeal.τ).loc Cert.KFfnIdeal.main_v23_2) = v2 c
          ∧ r.2.mem ((c.tc : Thread Cert.KFfnIdeal.nD Cert.KFfnIdeal.τ).loc Cert.KFfnIdeal.main_v23_3) = v3 c
          ∧ r.2.mem ((c.tc : Thread Cert.KFfnIdeal.nD Cert.KFfnIdeal.τ).loc Cert.KFfnIdeal.main_v23_4) = v4 c
          ∧ r.2.mem ((c.tc : Thread Cert.KFfnIdeal.nD Cert.KFfnIdeal.τ).loc Cert.KFfnIdeal.main_arg0) = m ((c.tc : Thread Cert.KFfnIdeal.nD Cert.KFfnIdeal.τ).loc Cert.KFfnIdeal.main_arg0)
          ∧ r.2.mem ((c.tc : Thread Cert.KFfnIdeal.nD Cert.KFfnIdeal.τ).loc Cert.KFfnIdeal.main_arg1) = m ((c.tc : Thread Cert.KFfnIdeal.nD Cert.KFfnIdeal.τ).loc Cert.KFfnIdeal.main_arg1)
          ∧ r.2.mem ((c.tc : Thread Cert.KFfnIdeal.nD Cert.KFfnIdeal.τ).loc Cert.KFfnIdeal.main_arg2) = m ((c.tc : Thread Cert.KFfnIdeal.nD Cert.KFfnIdeal.τ).loc Cert.KFfnIdeal.main_arg2)
          ∧ r.2.mem ((c.tc : Thread Cert.KFfnIdeal.nD Cert.KFfnIdeal.τ).loc Cert.KFfnIdeal.main_arg3) = m ((c.tc : Thread Cert.KFfnIdeal.nD Cert.KFfnIdeal.τ).loc Cert.KFfnIdeal.main_arg3)
          ∧ r.2.mem ((c.tc : Thread Cert.KFfnIdeal.nD Cert.KFfnIdeal.τ).loc Cert.KFfnIdeal.main_arg4) = m ((c.tc : Thread Cert.KFfnIdeal.nD Cert.KFfnIdeal.τ).loc Cert.KFfnIdeal.main_arg4)
          ∧ r.2.mem ((c.tc : Thread Cert.KFfnIdeal.nD Cert.KFfnIdeal.τ).loc Cert.KFfnIdeal.main_arg5) = m ((c.tc : Thread Cert.KFfnIdeal.nD Cert.KFfnIdeal.τ).loc Cert.KFfnIdeal.main_arg5))
      ∧ θ_run (Cert.RFfnIdeal.defs (F := Ideal)) (onTc (τ := Cert.RFfnIdeal.τ) (Cert.RFfnIdeal.main (F := Ideal))) ⟨m', fun _ => 0, g'⟩ (fun r => ∀ c : Dev Cert.RFfnIdeal.nD,
          r.2.mem ((c.tc : Thread Cert.RFfnIdeal.nD Cert.RFfnIdeal.τ).loc Cert.RFfnIdeal.main_v33) = v0 c
          ∧ r.2.mem ((c.tc : Thread Cert.RFfnIdeal.nD Cert.RFfnIdeal.τ).loc Cert.RFfnIdeal.main_v36) = v1 c
          ∧ r.2.mem ((c.tc : Thread Cert.RFfnIdeal.nD Cert.RFfnIdeal.τ).loc Cert.RFfnIdeal.main_v38) = v2 c
          ∧ r.2.mem ((c.tc : Thread Cert.RFfnIdeal.nD Cert.RFfnIdeal.τ).loc Cert.RFfnIdeal.main_v41) = v3 c
          ∧ r.2.mem ((c.tc : Thread Cert.RFfnIdeal.nD Cert.RFfnIdeal.τ).loc Cert.RFfnIdeal.main_v44) = v4 c
          ∧ r.2.mem ((c.tc : Thread Cert.RFfnIdeal.nD Cert.RFfnIdeal.τ).loc Cert.RFfnIdeal.main_arg0) = m' ((c.tc : Thread Cert.RFfnIdeal.nD Cert.RFfnIdeal.τ).loc Cert.RFfnIdeal.main_arg0)
          ∧ r.2.mem ((c.tc : Thread Cert.RFfnIdeal.nD Cert.RFfnIdeal.τ).loc Cert.RFfnIdeal.main_arg1) = m' ((c.tc : Thread Cert.RFfnIdeal.nD Cert.RFfnIdeal.τ).loc Cert.RFfnIdeal.main_arg1)
          ∧ r.2.mem ((c.tc : Thread Cert.RFfnIdeal.nD Cert.RFfnIdeal.τ).loc Cert.RFfnIdeal.main_arg2) = m' ((c.tc : Thread Cert.RFfnIdeal.nD Cert.RFfnIdeal.τ).loc Cert.RFfnIdeal.main_arg2)
          ∧ r.2.mem ((c.tc : Thread Cert.RFfnIdeal.nD Cert.RFfnIdeal.τ).loc Cert.RFfnIdeal.main_arg3) = m' ((c.tc : Thread Cert.RFfnIdeal.nD Cert.RFfnIdeal.τ).loc Cert.RFfnIdeal.main_arg3)
          ∧ r.2.mem ((c.tc : Thread Cert.RFfnIdeal.nD Cert.RFfnIdeal.τ).loc Cert.RFfnIdeal.main_arg4) = m' ((c.tc : Thread Cert.RFfnIdeal.nD Cert.RFfnIdeal.τ).loc Cert.RFfnIdeal.main_arg4)
          ∧ r.2.mem ((c.tc : Thread Cert.RFfnIdeal.nD Cert.RFfnIdeal.τ).loc Cert.RFfnIdeal.main_arg5) = m' ((c.tc : Thread Cert.RFfnIdeal.nD Cert.RFfnIdeal.τ).loc Cert.RFfnIdeal.main_arg5))

def preserves_KDoPrep_KDoPrepIdeal : Prop :=
  True

def algebraic_KDoPrepIdeal_RDoPrepIdeal_on_columns_prep [hKDoPrepIdeal : Cert.KDoPrepIdeal.Facts] [hRDoPrepIdeal : Cert.RDoPrepIdeal.Facts] [hOn_columns_prep : Cert.On_columns_prep.Facts] : Prop :=
  ∀ (m : (ℓ : Loc Cert.KDoPrepIdeal.nD Cert.KDoPrepIdeal.τ Cert.KDoPrepIdeal.sig) → Buf (Elt Ideal) ℓ) (g : Dev Cert.KDoPrepIdeal.nD → PrngReg)
    (m' : (ℓ : Loc Cert.RDoPrepIdeal.nD Cert.RDoPrepIdeal.τ Cert.RDoPrepIdeal.sig) → Buf (Elt Ideal) ℓ) (g' : Dev Cert.RDoPrepIdeal.nD → PrngReg), Pre_KDoPrepIdeal m →
    (∀ c : Dev Cert.KDoPrepIdeal.nD,
      m' ((c.tc : Thread Cert.RDoPrepIdeal.nD Cert.RDoPrepIdeal.τ).loc Cert.RDoPrepIdeal.main_arg0) = m ((c.tc : Thread Cert.KDoPrepIdeal.nD Cert.KDoPrepIdeal.τ).loc Cert.KDoPrepIdeal.main_arg0)
      ∧ m' ((c.tc : Thread Cert.RDoPrepIdeal.nD Cert.RDoPrepIdeal.τ).loc Cert.RDoPrepIdeal.main_arg1) = m ((c.tc : Thread Cert.KDoPrepIdeal.nD Cert.KDoPrepIdeal.τ).loc Cert.KDoPrepIdeal.main_arg1)
      ∧ m' ((c.tc : Thread Cert.RDoPrepIdeal.nD Cert.RDoPrepIdeal.τ).loc Cert.RDoPrepIdeal.main_arg2) = m ((c.tc : Thread Cert.KDoPrepIdeal.nD Cert.KDoPrepIdeal.τ).loc Cert.KDoPrepIdeal.main_arg2)
      ∧ m' ((c.tc : Thread Cert.RDoPrepIdeal.nD Cert.RDoPrepIdeal.τ).loc Cert.RDoPrepIdeal.main_arg3) = m ((c.tc : Thread Cert.KDoPrepIdeal.nD Cert.KDoPrepIdeal.τ).loc Cert.KDoPrepIdeal.main_arg3)
      ∧ m' ((c.tc : Thread Cert.RDoPrepIdeal.nD Cert.RDoPrepIdeal.τ).loc Cert.RDoPrepIdeal.main_arg4) = m ((c.tc : Thread Cert.KDoPrepIdeal.nD Cert.KDoPrepIdeal.τ).loc Cert.KDoPrepIdeal.main_arg4)) →
    ∃ (v0 : (c : Dev Cert.KDoPrepIdeal.nD) → Buf (Elt Ideal) ((c.tc : Thread Cert.KDoPrepIdeal.nD Cert.KDoPrepIdeal.τ).loc Cert.KDoPrepIdeal.main_v38)),
      θ_run (Cert.KDoPrepIdeal.defs (F := Ideal)) (onTc (τ := Cert.KDoPrepIdeal.τ) (Cert.KDoPrepIdeal.main (F := Ideal))) ⟨m, fun _ => 0, g⟩ (fun r => ∀ c : Dev Cert.KDoPrepIdeal.nD,
          (∀ i : (⟨3, ![8, 4096, 128]⟩ : Shape).Idx, (Cert.On_columns_prep.fn (F := Ideal) (m ((c.tc : Thread Cert.KDoPrepIdeal.nD Cert.KDoPrepIdeal.τ).loc Cert.KDoPrepIdeal.main_arg0)) (m ((c.tc : Thread Cert.KDoPrepIdeal.nD Cert.KDoPrepIdeal.τ).loc Cert.KDoPrepIdeal.main_arg1)) (m ((c.tc : Thread Cert.KDoPrepIdeal.nD Cert.KDoPrepIdeal.τ).loc Cert.KDoPrepIdeal.main_arg2)) (m ((c.tc : Thread Cert.KDoPrepIdeal.nD Cert.KDoPrepIdeal.τ).loc Cert.KDoPrepIdeal.main_arg3)) (m ((c.tc : Thread Cert.KDoPrepIdeal.nD Cert.KDoPrepIdeal.τ).loc Cert.KDoPrepIdeal.main_arg4))) i = 1#1 → r.2.mem ((c.tc : Thread Cert.KDoPrepIdeal.nD Cert.KDoPrepIdeal.τ).loc Cert.KDoPrepIdeal.main_v38) i = v0 c i)
          ∧ r.2.mem ((c.tc : Thread Cert.KDoPrepIdeal.nD Cert.KDoPrepIdeal.τ).loc Cert.KDoPrepIdeal.main_arg0) = m ((c.tc : Thread Cert.KDoPrepIdeal.nD Cert.KDoPrepIdeal.τ).loc Cert.KDoPrepIdeal.main_arg0)
          ∧ r.2.mem ((c.tc : Thread Cert.KDoPrepIdeal.nD Cert.KDoPrepIdeal.τ).loc Cert.KDoPrepIdeal.main_arg1) = m ((c.tc : Thread Cert.KDoPrepIdeal.nD Cert.KDoPrepIdeal.τ).loc Cert.KDoPrepIdeal.main_arg1)
          ∧ r.2.mem ((c.tc : Thread Cert.KDoPrepIdeal.nD Cert.KDoPrepIdeal.τ).loc Cert.KDoPrepIdeal.main_arg2) = m ((c.tc : Thread Cert.KDoPrepIdeal.nD Cert.KDoPrepIdeal.τ).loc Cert.KDoPrepIdeal.main_arg2)
          ∧ r.2.mem ((c.tc : Thread Cert.KDoPrepIdeal.nD Cert.KDoPrepIdeal.τ).loc Cert.KDoPrepIdeal.main_arg3) = m ((c.tc : Thread Cert.KDoPrepIdeal.nD Cert.KDoPrepIdeal.τ).loc Cert.KDoPrepIdeal.main_arg3)
          ∧ r.2.mem ((c.tc : Thread Cert.KDoPrepIdeal.nD Cert.KDoPrepIdeal.τ).loc Cert.KDoPrepIdeal.main_arg4) = m ((c.tc : Thread Cert.KDoPrepIdeal.nD Cert.KDoPrepIdeal.τ).loc Cert.KDoPrepIdeal.main_arg4))
      ∧ θ_run (Cert.RDoPrepIdeal.defs (F := Ideal)) (onTc (τ := Cert.RDoPrepIdeal.τ) (Cert.RDoPrepIdeal.main (F := Ideal))) ⟨m', fun _ => 0, g'⟩ (fun r => ∀ c : Dev Cert.RDoPrepIdeal.nD,
          (∀ i : (⟨3, ![8, 4096, 128]⟩ : Shape).Idx, (Cert.On_columns_prep.fn (F := Ideal) (m ((c.tc : Thread Cert.KDoPrepIdeal.nD Cert.KDoPrepIdeal.τ).loc Cert.KDoPrepIdeal.main_arg0)) (m ((c.tc : Thread Cert.KDoPrepIdeal.nD Cert.KDoPrepIdeal.τ).loc Cert.KDoPrepIdeal.main_arg1)) (m ((c.tc : Thread Cert.KDoPrepIdeal.nD Cert.KDoPrepIdeal.τ).loc Cert.KDoPrepIdeal.main_arg2)) (m ((c.tc : Thread Cert.KDoPrepIdeal.nD Cert.KDoPrepIdeal.τ).loc Cert.KDoPrepIdeal.main_arg3)) (m ((c.tc : Thread Cert.KDoPrepIdeal.nD Cert.KDoPrepIdeal.τ).loc Cert.KDoPrepIdeal.main_arg4))) i = 1#1 → r.2.mem ((c.tc : Thread Cert.RDoPrepIdeal.nD Cert.RDoPrepIdeal.τ).loc Cert.RDoPrepIdeal.main_v48) i = v0 c i)
          ∧ r.2.mem ((c.tc : Thread Cert.RDoPrepIdeal.nD Cert.RDoPrepIdeal.τ).loc Cert.RDoPrepIdeal.main_arg0) = m' ((c.tc : Thread Cert.RDoPrepIdeal.nD Cert.RDoPrepIdeal.τ).loc Cert.RDoPrepIdeal.main_arg0)
          ∧ r.2.mem ((c.tc : Thread Cert.RDoPrepIdeal.nD Cert.RDoPrepIdeal.τ).loc Cert.RDoPrepIdeal.main_arg1) = m' ((c.tc : Thread Cert.RDoPrepIdeal.nD Cert.RDoPrepIdeal.τ).loc Cert.RDoPrepIdeal.main_arg1)
          ∧ r.2.mem ((c.tc : Thread Cert.RDoPrepIdeal.nD Cert.RDoPrepIdeal.τ).loc Cert.RDoPrepIdeal.main_arg2) = m' ((c.tc : Thread Cert.RDoPrepIdeal.nD Cert.RDoPrepIdeal.τ).loc Cert.RDoPrepIdeal.main_arg2)
          ∧ r.2.mem ((c.tc : Thread Cert.RDoPrepIdeal.nD Cert.RDoPrepIdeal.τ).loc Cert.RDoPrepIdeal.main_arg3) = m' ((c.tc : Thread Cert.RDoPrepIdeal.nD Cert.RDoPrepIdeal.τ).loc Cert.RDoPrepIdeal.main_arg3)
          ∧ r.2.mem ((c.tc : Thread Cert.RDoPrepIdeal.nD Cert.RDoPrepIdeal.τ).loc Cert.RDoPrepIdeal.main_arg4) = m' ((c.tc : Thread Cert.RDoPrepIdeal.nD Cert.RDoPrepIdeal.τ).loc Cert.RDoPrepIdeal.main_arg4))

def preserves_KNormPOdd_KNormPOddIdeal : Prop :=
  True

def algebraic_KNormPOddIdeal_RNormPOddIdeal [hKNormPOddIdeal : Cert.KNormPOddIdeal.Facts] [hRNormPOddIdeal : Cert.RNormPOddIdeal.Facts] : Prop :=
  ∀ (m : (ℓ : Loc Cert.KNormPOddIdeal.nD Cert.KNormPOddIdeal.τ Cert.KNormPOddIdeal.sig) → Buf (Elt Ideal) ℓ) (g : Dev Cert.KNormPOddIdeal.nD → PrngReg)
    (m' : (ℓ : Loc Cert.RNormPOddIdeal.nD Cert.RNormPOddIdeal.τ Cert.RNormPOddIdeal.sig) → Buf (Elt Ideal) ℓ) (g' : Dev Cert.RNormPOddIdeal.nD → PrngReg), Pre_KNormPOddIdeal m →
    (∀ c : Dev Cert.KNormPOddIdeal.nD,
      m' ((c.tc : Thread Cert.RNormPOddIdeal.nD Cert.RNormPOddIdeal.τ).loc Cert.RNormPOddIdeal.main_arg0) = m ((c.tc : Thread Cert.KNormPOddIdeal.nD Cert.KNormPOddIdeal.τ).loc Cert.KNormPOddIdeal.main_arg0)
      ∧ m' ((c.tc : Thread Cert.RNormPOddIdeal.nD Cert.RNormPOddIdeal.τ).loc Cert.RNormPOddIdeal.main_arg1) = m ((c.tc : Thread Cert.KNormPOddIdeal.nD Cert.KNormPOddIdeal.τ).loc Cert.KNormPOddIdeal.main_arg1)
      ∧ m' ((c.tc : Thread Cert.RNormPOddIdeal.nD Cert.RNormPOddIdeal.τ).loc Cert.RNormPOddIdeal.main_arg2) = m ((c.tc : Thread Cert.KNormPOddIdeal.nD Cert.KNormPOddIdeal.τ).loc Cert.KNormPOddIdeal.main_arg2)) →
    ∃ (v0 : (c : Dev Cert.KNormPOddIdeal.nD) → Buf (Elt Ideal) ((c.tc : Thread Cert.KNormPOddIdeal.nD Cert.KNormPOddIdeal.τ).loc Cert.KNormPOddIdeal.main_v1_0)) (v1 : (c : Dev Cert.KNormPOddIdeal.nD) → Buf (Elt Ideal) ((c.tc : Thread Cert.KNormPOddIdeal.nD Cert.KNormPOddIdeal.τ).loc Cert.KNormPOddIdeal.main_v1_1)),
      θ_run (Cert.KNormPOddIdeal.defs (F := Ideal)) (onTc (τ := Cert.KNormPOddIdeal.τ) (Cert.KNormPOddIdeal.main (F := Ideal))) ⟨m, fun _ => 0, g⟩ (fun r => ∀ c : Dev Cert.KNormPOddIdeal.nD,
          r.2.mem ((c.tc : Thread Cert.KNormPOddIdeal.nD Cert.KNormPOddIdeal.τ).loc Cert.KNormPOddIdeal.main_v1_0) = v0 c
          ∧ r.2.mem ((c.tc : Thread Cert.KNormPOddIdeal.nD Cert.KNormPOddIdeal.τ).loc Cert.KNormPOddIdeal.main_v1_1) = v1 c
          ∧ r.2.mem ((c.tc : Thread Cert.KNormPOddIdeal.nD Cert.KNormPOddIdeal.τ).loc Cert.KNormPOddIdeal.main_arg0) = m ((c.tc : Thread Cert.KNormPOddIdeal.nD Cert.KNormPOddIdeal.τ).loc Cert.KNormPOddIdeal.main_arg0)
          ∧ r.2.mem ((c.tc : Thread Cert.KNormPOddIdeal.nD Cert.KNormPOddIdeal.τ).loc Cert.KNormPOddIdeal.main_arg1) = m ((c.tc : Thread Cert.KNormPOddIdeal.nD Cert.KNormPOddIdeal.τ).loc Cert.KNormPOddIdeal.main_arg1)
          ∧ r.2.mem ((c.tc : Thread Cert.KNormPOddIdeal.nD Cert.KNormPOddIdeal.τ).loc Cert.KNormPOddIdeal.main_arg2) = m ((c.tc : Thread Cert.KNormPOddIdeal.nD Cert.KNormPOddIdeal.τ).loc Cert.KNormPOddIdeal.main_arg2))
      ∧ θ_run (Cert.RNormPOddIdeal.defs (F := Ideal)) (onTc (τ := Cert.RNormPOddIdeal.τ) (Cert.RNormPOddIdeal.main (F := Ideal))) ⟨m', fun _ => 0, g'⟩ (fun r => ∀ c : Dev Cert.RNormPOddIdeal.nD,
          r.2.mem ((c.tc : Thread Cert.RNormPOddIdeal.nD Cert.RNormPOddIdeal.τ).loc Cert.RNormPOddIdeal.main_v12) = v0 c
          ∧ r.2.mem ((c.tc : Thread Cert.RNormPOddIdeal.nD Cert.RNormPOddIdeal.τ).loc Cert.RNormPOddIdeal.main_v14) = v1 c
          ∧ r.2.mem ((c.tc : Thread Cert.RNormPOddIdeal.nD Cert.RNormPOddIdeal.τ).loc Cert.RNormPOddIdeal.main_arg0) = m' ((c.tc : Thread Cert.RNormPOddIdeal.nD Cert.RNormPOddIdeal.τ).loc Cert.RNormPOddIdeal.main_arg0)
          ∧ r.2.mem ((c.tc : Thread Cert.RNormPOddIdeal.nD Cert.RNormPOddIdeal.τ).loc Cert.RNormPOddIdeal.main_arg1) = m' ((c.tc : Thread Cert.RNormPOddIdeal.nD Cert.RNormPOddIdeal.τ).loc Cert.RNormPOddIdeal.main_arg1)
          ∧ r.2.mem ((c.tc : Thread Cert.RNormPOddIdeal.nD Cert.RNormPOddIdeal.τ).loc Cert.RNormPOddIdeal.main_arg2) = m' ((c.tc : Thread Cert.RNormPOddIdeal.nD Cert.RNormPOddIdeal.τ).loc Cert.RNormPOddIdeal.main_arg2))

def preserves_KNormPEven_KNormPEvenIdeal : Prop :=
  True

def algebraic_KNormPEvenIdeal_RNormPEvenIdeal [hKNormPEvenIdeal : Cert.KNormPEvenIdeal.Facts] [hRNormPEvenIdeal : Cert.RNormPEvenIdeal.Facts] : Prop :=
  ∀ (m : (ℓ : Loc Cert.KNormPEvenIdeal.nD Cert.KNormPEvenIdeal.τ Cert.KNormPEvenIdeal.sig) → Buf (Elt Ideal) ℓ) (g : Dev Cert.KNormPEvenIdeal.nD → PrngReg)
    (m' : (ℓ : Loc Cert.RNormPEvenIdeal.nD Cert.RNormPEvenIdeal.τ Cert.RNormPEvenIdeal.sig) → Buf (Elt Ideal) ℓ) (g' : Dev Cert.RNormPEvenIdeal.nD → PrngReg), Pre_KNormPEvenIdeal m →
    (∀ c : Dev Cert.KNormPEvenIdeal.nD,
      m' ((c.tc : Thread Cert.RNormPEvenIdeal.nD Cert.RNormPEvenIdeal.τ).loc Cert.RNormPEvenIdeal.main_arg0) = m ((c.tc : Thread Cert.KNormPEvenIdeal.nD Cert.KNormPEvenIdeal.τ).loc Cert.KNormPEvenIdeal.main_arg0)
      ∧ m' ((c.tc : Thread Cert.RNormPEvenIdeal.nD Cert.RNormPEvenIdeal.τ).loc Cert.RNormPEvenIdeal.main_arg1) = m ((c.tc : Thread Cert.KNormPEvenIdeal.nD Cert.KNormPEvenIdeal.τ).loc Cert.KNormPEvenIdeal.main_arg1)
      ∧ m' ((c.tc : Thread Cert.RNormPEvenIdeal.nD Cert.RNormPEvenIdeal.τ).loc Cert.RNormPEvenIdeal.main_arg2) = m ((c.tc : Thread Cert.KNormPEvenIdeal.nD Cert.KNormPEvenIdeal.τ).loc Cert.KNormPEvenIdeal.main_arg2)) →
    ∃ (v0 : (c : Dev Cert.KNormPEvenIdeal.nD) → Buf (Elt Ideal) ((c.tc : Thread Cert.KNormPEvenIdeal.nD Cert.KNormPEvenIdeal.τ).loc Cert.KNormPEvenIdeal.main_v5_0)) (v1 : (c : Dev Cert.KNormPEvenIdeal.nD) → Buf (Elt Ideal) ((c.tc : Thread Cert.KNormPEvenIdeal.nD Cert.KNormPEvenIdeal.τ).loc Cert.KNormPEvenIdeal.main_v5_1)) (v2 : (c : Dev Cert.KNormPEvenIdeal.nD) → Buf (Elt Ideal) ((c.tc : Thread Cert.KNormPEvenIdeal.nD Cert.KNormPEvenIdeal.τ).loc Cert.KNormPEvenIdeal.main_v5_2)),
      θ_run (Cert.KNormPEvenIdeal.defs (F := Ideal)) (onTc (τ := Cert.KNormPEvenIdeal.τ) (Cert.KNormPEvenIdeal.main (F := Ideal))) ⟨m, fun _ => 0, g⟩ (fun r => ∀ c : Dev Cert.KNormPEvenIdeal.nD,
          r.2.mem ((c.tc : Thread Cert.KNormPEvenIdeal.nD Cert.KNormPEvenIdeal.τ).loc Cert.KNormPEvenIdeal.main_v5_0) = v0 c
          ∧ r.2.mem ((c.tc : Thread Cert.KNormPEvenIdeal.nD Cert.KNormPEvenIdeal.τ).loc Cert.KNormPEvenIdeal.main_v5_1) = v1 c
          ∧ r.2.mem ((c.tc : Thread Cert.KNormPEvenIdeal.nD Cert.KNormPEvenIdeal.τ).loc Cert.KNormPEvenIdeal.main_v5_2) = v2 c
          ∧ r.2.mem ((c.tc : Thread Cert.KNormPEvenIdeal.nD Cert.KNormPEvenIdeal.τ).loc Cert.KNormPEvenIdeal.main_arg0) = m ((c.tc : Thread Cert.KNormPEvenIdeal.nD Cert.KNormPEvenIdeal.τ).loc Cert.KNormPEvenIdeal.main_arg0)
          ∧ r.2.mem ((c.tc : Thread Cert.KNormPEvenIdeal.nD Cert.KNormPEvenIdeal.τ).loc Cert.KNormPEvenIdeal.main_arg1) = m ((c.tc : Thread Cert.KNormPEvenIdeal.nD Cert.KNormPEvenIdeal.τ).loc Cert.KNormPEvenIdeal.main_arg1)
          ∧ r.2.mem ((c.tc : Thread Cert.KNormPEvenIdeal.nD Cert.KNormPEvenIdeal.τ).loc Cert.KNormPEvenIdeal.main_arg2) = m ((c.tc : Thread Cert.KNormPEvenIdeal.nD Cert.KNormPEvenIdeal.τ).loc Cert.KNormPEvenIdeal.main_arg2))
      ∧ θ_run (Cert.RNormPEvenIdeal.defs (F := Ideal)) (onTc (τ := Cert.RNormPEvenIdeal.τ) (Cert.RNormPEvenIdeal.main (F := Ideal))) ⟨m', fun _ => 0, g'⟩ (fun r => ∀ c : Dev Cert.RNormPEvenIdeal.nD,
          r.2.mem ((c.tc : Thread Cert.RNormPEvenIdeal.nD Cert.RNormPEvenIdeal.τ).loc Cert.RNormPEvenIdeal.main_v13) = v0 c
          ∧ r.2.mem ((c.tc : Thread Cert.RNormPEvenIdeal.nD Cert.RNormPEvenIdeal.τ).loc Cert.RNormPEvenIdeal.main_v15) = v1 c
          ∧ r.2.mem ((c.tc : Thread Cert.RNormPEvenIdeal.nD Cert.RNormPEvenIdeal.τ).loc Cert.RNormPEvenIdeal.main_v17) = v2 c
          ∧ r.2.mem ((c.tc : Thread Cert.RNormPEvenIdeal.nD Cert.RNormPEvenIdeal.τ).loc Cert.RNormPEvenIdeal.main_arg0) = m' ((c.tc : Thread Cert.RNormPEvenIdeal.nD Cert.RNormPEvenIdeal.τ).loc Cert.RNormPEvenIdeal.main_arg0)
          ∧ r.2.mem ((c.tc : Thread Cert.RNormPEvenIdeal.nD Cert.RNormPEvenIdeal.τ).loc Cert.RNormPEvenIdeal.main_arg1) = m' ((c.tc : Thread Cert.RNormPEvenIdeal.nD Cert.RNormPEvenIdeal.τ).loc Cert.RNormPEvenIdeal.main_arg1)
          ∧ r.2.mem ((c.tc : Thread Cert.RNormPEvenIdeal.nD Cert.RNormPEvenIdeal.τ).loc Cert.RNormPEvenIdeal.main_arg2) = m' ((c.tc : Thread Cert.RNormPEvenIdeal.nD Cert.RNormPEvenIdeal.τ).loc Cert.RNormPEvenIdeal.main_arg2))

def preserves_KFfnF_KFfnFIdeal : Prop :=
  True

def algebraic_KFfnFIdeal_RFfnFIdeal [hKFfnFIdeal : Cert.KFfnFIdeal.Facts] [hRFfnFIdeal : Cert.RFfnFIdeal.Facts] : Prop :=
  ∀ (m : (ℓ : Loc Cert.KFfnFIdeal.nD Cert.KFfnFIdeal.τ Cert.KFfnFIdeal.sig) → Buf (Elt Ideal) ℓ) (g : Dev Cert.KFfnFIdeal.nD → PrngReg)
    (m' : (ℓ : Loc Cert.RFfnFIdeal.nD Cert.RFfnFIdeal.τ Cert.RFfnFIdeal.sig) → Buf (Elt Ideal) ℓ) (g' : Dev Cert.RFfnFIdeal.nD → PrngReg), Pre_KFfnFIdeal m →
    (∀ c : Dev Cert.KFfnFIdeal.nD,
      m' ((c.tc : Thread Cert.RFfnFIdeal.nD Cert.RFfnFIdeal.τ).loc Cert.RFfnFIdeal.main_arg0) = m ((c.tc : Thread Cert.KFfnFIdeal.nD Cert.KFfnFIdeal.τ).loc Cert.KFfnFIdeal.main_arg0)
      ∧ m' ((c.tc : Thread Cert.RFfnFIdeal.nD Cert.RFfnFIdeal.τ).loc Cert.RFfnFIdeal.main_arg1) = m ((c.tc : Thread Cert.KFfnFIdeal.nD Cert.KFfnFIdeal.τ).loc Cert.KFfnFIdeal.main_arg1)
      ∧ m' ((c.tc : Thread Cert.RFfnFIdeal.nD Cert.RFfnFIdeal.τ).loc Cert.RFfnFIdeal.main_arg2) = m ((c.tc : Thread Cert.KFfnFIdeal.nD Cert.KFfnFIdeal.τ).loc Cert.KFfnFIdeal.main_arg2)
      ∧ m' ((c.tc : Thread Cert.RFfnFIdeal.nD Cert.RFfnFIdeal.τ).loc Cert.RFfnFIdeal.main_arg3) = m ((c.tc : Thread Cert.KFfnFIdeal.nD Cert.KFfnFIdeal.τ).loc Cert.KFfnFIdeal.main_arg3)
      ∧ m' ((c.tc : Thread Cert.RFfnFIdeal.nD Cert.RFfnFIdeal.τ).loc Cert.RFfnFIdeal.main_arg4) = m ((c.tc : Thread Cert.KFfnFIdeal.nD Cert.KFfnFIdeal.τ).loc Cert.KFfnFIdeal.main_arg4)) →
    ∃ (v0 : (c : Dev Cert.KFfnFIdeal.nD) → Buf (Elt Ideal) ((c.tc : Thread Cert.KFfnFIdeal.nD Cert.KFfnFIdeal.τ).loc Cert.KFfnFIdeal.main_v8_0)) (v1 : (c : Dev Cert.KFfnFIdeal.nD) → Buf (Elt Ideal) ((c.tc : Thread Cert.KFfnFIdeal.nD Cert.KFfnFIdeal.τ).loc Cert.KFfnFIdeal.main_v8_1)) (v2 : (c : Dev Cert.KFfnFIdeal.nD) → Buf (Elt Ideal) ((c.tc : Thread Cert.KFfnFIdeal.nD Cert.KFfnFIdeal.τ).loc Cert.KFfnFIdeal.main_v8_2)) (v3 : (c : Dev Cert.KFfnFIdeal.nD) → Buf (Elt Ideal) ((c.tc : Thread Cert.KFfnFIdeal.nD Cert.KFfnFIdeal.τ).loc Cert.KFfnFIdeal.main_v8_3)),
      θ_run (Cert.KFfnFIdeal.defs (F := Ideal)) (onTc (τ := Cert.KFfnFIdeal.τ) (Cert.KFfnFIdeal.main (F := Ideal))) ⟨m, fun _ => 0, g⟩ (fun r => ∀ c : Dev Cert.KFfnFIdeal.nD,
          r.2.mem ((c.tc : Thread Cert.KFfnFIdeal.nD Cert.KFfnFIdeal.τ).loc Cert.KFfnFIdeal.main_v8_0) = v0 c
          ∧ r.2.mem ((c.tc : Thread Cert.KFfnFIdeal.nD Cert.KFfnFIdeal.τ).loc Cert.KFfnFIdeal.main_v8_1) = v1 c
          ∧ r.2.mem ((c.tc : Thread Cert.KFfnFIdeal.nD Cert.KFfnFIdeal.τ).loc Cert.KFfnFIdeal.main_v8_2) = v2 c
          ∧ r.2.mem ((c.tc : Thread Cert.KFfnFIdeal.nD Cert.KFfnFIdeal.τ).loc Cert.KFfnFIdeal.main_v8_3) = v3 c
          ∧ r.2.mem ((c.tc : Thread Cert.KFfnFIdeal.nD Cert.KFfnFIdeal.τ).loc Cert.KFfnFIdeal.main_arg0) = m ((c.tc : Thread Cert.KFfnFIdeal.nD Cert.KFfnFIdeal.τ).loc Cert.KFfnFIdeal.main_arg0)
          ∧ r.2.mem ((c.tc : Thread Cert.KFfnFIdeal.nD Cert.KFfnFIdeal.τ).loc Cert.KFfnFIdeal.main_arg1) = m ((c.tc : Thread Cert.KFfnFIdeal.nD Cert.KFfnFIdeal.τ).loc Cert.KFfnFIdeal.main_arg1)
          ∧ r.2.mem ((c.tc : Thread Cert.KFfnFIdeal.nD Cert.KFfnFIdeal.τ).loc Cert.KFfnFIdeal.main_arg2) = m ((c.tc : Thread Cert.KFfnFIdeal.nD Cert.KFfnFIdeal.τ).loc Cert.KFfnFIdeal.main_arg2)
          ∧ r.2.mem ((c.tc : Thread Cert.KFfnFIdeal.nD Cert.KFfnFIdeal.τ).loc Cert.KFfnFIdeal.main_arg3) = m ((c.tc : Thread Cert.KFfnFIdeal.nD Cert.KFfnFIdeal.τ).loc Cert.KFfnFIdeal.main_arg3)
          ∧ r.2.mem ((c.tc : Thread Cert.KFfnFIdeal.nD Cert.KFfnFIdeal.τ).loc Cert.KFfnFIdeal.main_arg4) = m ((c.tc : Thread Cert.KFfnFIdeal.nD Cert.KFfnFIdeal.τ).loc Cert.KFfnFIdeal.main_arg4))
      ∧ θ_run (Cert.RFfnFIdeal.defs (F := Ideal)) (onTc (τ := Cert.RFfnFIdeal.τ) (Cert.RFfnFIdeal.main (F := Ideal))) ⟨m', fun _ => 0, g'⟩ (fun r => ∀ c : Dev Cert.RFfnFIdeal.nD,
          r.2.mem ((c.tc : Thread Cert.RFfnFIdeal.nD Cert.RFfnFIdeal.τ).loc Cert.RFfnFIdeal.main_v19) = v0 c
          ∧ r.2.mem ((c.tc : Thread Cert.RFfnFIdeal.nD Cert.RFfnFIdeal.τ).loc Cert.RFfnFIdeal.main_v20) = v1 c
          ∧ r.2.mem ((c.tc : Thread Cert.RFfnFIdeal.nD Cert.RFfnFIdeal.τ).loc Cert.RFfnFIdeal.main_v23) = v2 c
          ∧ r.2.mem ((c.tc : Thread Cert.RFfnFIdeal.nD Cert.RFfnFIdeal.τ).loc Cert.RFfnFIdeal.main_v26) = v3 c
          ∧ r.2.mem ((c.tc : Thread Cert.RFfnFIdeal.nD Cert.RFfnFIdeal.τ).loc Cert.RFfnFIdeal.main_arg0) = m' ((c.tc : Thread Cert.RFfnFIdeal.nD Cert.RFfnFIdeal.τ).loc Cert.RFfnFIdeal.main_arg0)
          ∧ r.2.mem ((c.tc : Thread Cert.RFfnFIdeal.nD Cert.RFfnFIdeal.τ).loc Cert.RFfnFIdeal.main_arg1) = m' ((c.tc : Thread Cert.RFfnFIdeal.nD Cert.RFfnFIdeal.τ).loc Cert.RFfnFIdeal.main_arg1)
          ∧ r.2.mem ((c.tc : Thread Cert.RFfnFIdeal.nD Cert.RFfnFIdeal.τ).loc Cert.RFfnFIdeal.main_arg2) = m' ((c.tc : Thread Cert.RFfnFIdeal.nD Cert.RFfnFIdeal.τ).loc Cert.RFfnFIdeal.main_arg2)
          ∧ r.2.mem ((c.tc : Thread Cert.RFfnFIdeal.nD Cert.RFfnFIdeal.τ).loc Cert.RFfnFIdeal.main_arg3) = m' ((c.tc : Thread Cert.RFfnFIdeal.nD Cert.RFfnFIdeal.τ).loc Cert.RFfnFIdeal.main_arg3)
          ∧ r.2.mem ((c.tc : Thread Cert.RFfnFIdeal.nD Cert.RFfnFIdeal.τ).loc Cert.RFfnFIdeal.main_arg4) = m' ((c.tc : Thread Cert.RFfnFIdeal.nD Cert.RFfnFIdeal.τ).loc Cert.RFfnFIdeal.main_arg4))

def Claim : Prop :=
  ∃ (hKLoss : Cert.KLoss.Facts) (hKLossIdeal : Cert.KLossIdeal.Facts) (hRLossIdeal : Cert.RLossIdeal.Facts) (hKFoxBwd : Cert.KFoxBwd.Facts) (hKFoxBwdIdeal : Cert.KFoxBwdIdeal.Facts) (hRFoxBwdIdeal : Cert.RFoxBwdIdeal.Facts) (hKFoxF : Cert.KFoxF.Facts) (hKFoxFIdeal : Cert.KFoxFIdeal.Facts) (hRFoxFIdeal : Cert.RFoxFIdeal.Facts) (hKNormOdd : Cert.KNormOdd.Facts) (hKNormOddIdeal : Cert.KNormOddIdeal.Facts) (hRNormOddIdeal : Cert.RNormOddIdeal.Facts) (hKNormFfn : Cert.KNormFfn.Facts) (hKNormFfnIdeal : Cert.KNormFfnIdeal.Facts) (hRNormFfnIdeal : Cert.RNormFfnIdeal.Facts) (hKNormEven : Cert.KNormEven.Facts) (hKNormEvenIdeal : Cert.KNormEvenIdeal.Facts) (hRNormEvenIdeal : Cert.RNormEvenIdeal.Facts) (hKForget : Cert.KForget.Facts) (hKForgetIdeal : Cert.KForgetIdeal.Facts) (hRForgetIdeal : Cert.RForgetIdeal.Facts) (hKFfn : Cert.KFfn.Facts) (hKFfnIdeal : Cert.KFfnIdeal.Facts) (hRFfnIdeal : Cert.RFfnIdeal.Facts) (hKDoPrep : Cert.KDoPrep.Facts) (hKDoPrepIdeal : Cert.KDoPrepIdeal.Facts) (hRDoPrepIdeal : Cert.RDoPrepIdeal.Facts) (hKNormPOdd : Cert.KNormPOdd.Facts) (hKNormPOddIdeal : Cert.KNormPOddIdeal.Facts) (hRNormPOddIdeal : Cert.RNormPOddIdeal.Facts) (hKNormPEven : Cert.KNormPEven.Facts) (hKNormPEvenIdeal : Cert.KNormPEvenIdeal.Facts) (hRNormPEvenIdeal : Cert.RNormPEvenIdeal.Facts) (hKFfnF : Cert.KFfnF.Facts) (hKFfnFIdeal : Cert.KFfnFIdeal.Facts) (hRFfnFIdeal : Cert.RFfnFIdeal.Facts) (hPre_finite_fox : Cert.Pre_finite_fox.Facts) (hPre_finite_scores : Cert.Pre_finite_scores.Facts) (hPre_finite_ffn : Cert.Pre_finite_ffn.Facts) (hOn_columns_fox : Cert.On_columns_fox.Facts) (hOn_columns_fwd : Cert.On_columns_fwd.Facts) (hOn_columns_prep : Cert.On_columns_prep.Facts),
    quiescent_KLoss (hKLoss := hKLoss)
    ∧ quiescent_KLossIdeal (hKLossIdeal := hKLossIdeal)
    ∧ quiescent_RLossIdeal (hRLossIdeal := hRLossIdeal)
    ∧ quiescent_KFoxBwd (hKFoxBwd := hKFoxBwd)
    ∧ quiescent_KFoxBwdIdeal (hKFoxBwdIdeal := hKFoxBwdIdeal)
    ∧ quiescent_KFoxBwdIdeal_pre_finite_fox (hKFoxBwdIdeal := hKFoxBwdIdeal) (hPre_finite_fox := hPre_finite_fox)
    ∧ quiescent_RFoxBwdIdeal (hRFoxBwdIdeal := hRFoxBwdIdeal)
    ∧ quiescent_RFoxBwdIdeal_pre_finite_fox (hRFoxBwdIdeal := hRFoxBwdIdeal) (hPre_finite_fox := hPre_finite_fox)
    ∧ quiescent_KFoxF (hKFoxF := hKFoxF)
    ∧ quiescent_KFoxFIdeal (hKFoxFIdeal := hKFoxFIdeal)
    ∧ quiescent_KFoxFIdeal_pre_finite_scores (hKFoxFIdeal := hKFoxFIdeal) (hPre_finite_scores := hPre_finite_scores)
    ∧ quiescent_RFoxFIdeal (hRFoxFIdeal := hRFoxFIdeal)
    ∧ quiescent_RFoxFIdeal_pre_finite_scores (hRFoxFIdeal := hRFoxFIdeal) (hPre_finite_scores := hPre_finite_scores)
    ∧ quiescent_KNormOdd (hKNormOdd := hKNormOdd)
    ∧ quiescent_KNormOddIdeal (hKNormOddIdeal := hKNormOddIdeal)
    ∧ quiescent_RNormOddIdeal (hRNormOddIdeal := hRNormOddIdeal)
    ∧ quiescent_KNormFfn (hKNormFfn := hKNormFfn)
    ∧ quiescent_KNormFfnIdeal (hKNormFfnIdeal := hKNormFfnIdeal)
    ∧ quiescent_RNormFfnIdeal (hRNormFfnIdeal := hRNormFfnIdeal)
    ∧ quiescent_KNormEven (hKNormEven := hKNormEven)
    ∧ quiescent_KNormEvenIdeal (hKNormEvenIdeal := hKNormEvenIdeal)
    ∧ quiescent_RNormEvenIdeal (hRNormEvenIdeal := hRNormEvenIdeal)
    ∧ quiescent_KForget (hKForget := hKForget)
    ∧ quiescent_KForgetIdeal (hKForgetIdeal := hKForgetIdeal)
    ∧ quiescent_RForgetIdeal (hRForgetIdeal := hRForgetIdeal)
    ∧ quiescent_KFfn (hKFfn := hKFfn)
    ∧ quiescent_KFfnIdeal (hKFfnIdeal := hKFfnIdeal)
    ∧ quiescent_KFfnIdeal_pre_finite_ffn (hKFfnIdeal := hKFfnIdeal) (hPre_finite_ffn := hPre_finite_ffn)
    ∧ quiescent_RFfnIdeal (hRFfnIdeal := hRFfnIdeal)
    ∧ quiescent_RFfnIdeal_pre_finite_ffn (hRFfnIdeal := hRFfnIdeal) (hPre_finite_ffn := hPre_finite_ffn)
    ∧ quiescent_KDoPrep (hKDoPrep := hKDoPrep)
    ∧ quiescent_KDoPrepIdeal (hKDoPrepIdeal := hKDoPrepIdeal)
    ∧ quiescent_RDoPrepIdeal (hRDoPrepIdeal := hRDoPrepIdeal)
    ∧ quiescent_KNormPOdd (hKNormPOdd := hKNormPOdd)
    ∧ quiescent_KNormPOddIdeal (hKNormPOddIdeal := hKNormPOddIdeal)
    ∧ quiescent_RNormPOddIdeal (hRNormPOddIdeal := hRNormPOddIdeal)
    ∧ quiescent_KNormPEven (hKNormPEven := hKNormPEven)
    ∧ quiescent_KNormPEvenIdeal (hKNormPEvenIdeal := hKNormPEvenIdeal)
    ∧ quiescent_RNormPEvenIdeal (hRNormPEvenIdeal := hRNormPEvenIdeal)
    ∧ quiescent_KFfnF (hKFfnF := hKFfnF)
    ∧ quiescent_KFfnFIdeal (hKFfnFIdeal := hKFfnFIdeal)
    ∧ quiescent_RFfnFIdeal (hRFfnFIdeal := hRFfnFIdeal)
    ∧ preserves_KLoss_KLossIdeal
    ∧ algebraic_KLossIdeal_RLossIdeal (hKLossIdeal := hKLossIdeal) (hRLossIdeal := hRLossIdeal)
    ∧ preserves_KFoxBwd_KFoxBwdIdeal
    ∧ algebraic_KFoxBwdIdeal_RFoxBwdIdeal_on_columns_fox_pre_finite_fox (hKFoxBwdIdeal := hKFoxBwdIdeal) (hRFoxBwdIdeal := hRFoxBwdIdeal) (hPre_finite_fox := hPre_finite_fox) (hOn_columns_fox := hOn_columns_fox)
    ∧ preserves_KFoxF_KFoxFIdeal
    ∧ algebraic_KFoxFIdeal_RFoxFIdeal_on_columns_fwd_pre_finite_scores (hKFoxFIdeal := hKFoxFIdeal) (hRFoxFIdeal := hRFoxFIdeal) (hPre_finite_scores := hPre_finite_scores) (hOn_columns_fwd := hOn_columns_fwd)
    ∧ preserves_KNormOdd_KNormOddIdeal
    ∧ algebraic_KNormOddIdeal_RNormOddIdeal (hKNormOddIdeal := hKNormOddIdeal) (hRNormOddIdeal := hRNormOddIdeal)
    ∧ preserves_KNormFfn_KNormFfnIdeal
    ∧ algebraic_KNormFfnIdeal_RNormFfnIdeal (hKNormFfnIdeal := hKNormFfnIdeal) (hRNormFfnIdeal := hRNormFfnIdeal)
    ∧ preserves_KNormEven_KNormEvenIdeal
    ∧ algebraic_KNormEvenIdeal_RNormEvenIdeal (hKNormEvenIdeal := hKNormEvenIdeal) (hRNormEvenIdeal := hRNormEvenIdeal)
    ∧ preserves_KForget_KForgetIdeal
    ∧ algebraic_KForgetIdeal_RForgetIdeal (hKForgetIdeal := hKForgetIdeal) (hRForgetIdeal := hRForgetIdeal)
    ∧ preserves_KFfn_KFfnIdeal
    ∧ algebraic_KFfnIdeal_RFfnIdeal_pre_finite_ffn (hKFfnIdeal := hKFfnIdeal) (hRFfnIdeal := hRFfnIdeal) (hPre_finite_ffn := hPre_finite_ffn)
    ∧ preserves_KDoPrep_KDoPrepIdeal
    ∧ algebraic_KDoPrepIdeal_RDoPrepIdeal_on_columns_prep (hKDoPrepIdeal := hKDoPrepIdeal) (hRDoPrepIdeal := hRDoPrepIdeal) (hOn_columns_prep := hOn_columns_prep)
    ∧ preserves_KNormPOdd_KNormPOddIdeal
    ∧ algebraic_KNormPOddIdeal_RNormPOddIdeal (hKNormPOddIdeal := hKNormPOddIdeal) (hRNormPOddIdeal := hRNormPOddIdeal)
    ∧ preserves_KNormPEven_KNormPEvenIdeal
    ∧ algebraic_KNormPEvenIdeal_RNormPEvenIdeal (hKNormPEvenIdeal := hKNormPEvenIdeal) (hRNormPEvenIdeal := hRNormPEvenIdeal)
    ∧ preserves_KFfnF_KFfnFIdeal
    ∧ algebraic_KFfnFIdeal_RFfnFIdeal (hKFfnFIdeal := hKFfnFIdeal) (hRFfnFIdeal := hRFfnFIdeal)
-- ==== On_columns_fox.lean ====
abbrev S4096x512 : Shape := ⟨2, ![4096, 512]⟩
abbrev S4096x8 : Shape := ⟨2, ![4096, 8]⟩
abbrev S8x4096x128 : Shape := ⟨3, ![8, 4096, 128]⟩
abbrev S_ : Shape := ⟨0, ![]⟩

class Facts : Prop where
  bcast_S_S8x4096x128 : S_.BroadcastsInDim S8x4096x128 (![] : Fin 0 → Fin S8x4096x128.rank)

variable [Facts]

def fn {F : FTy → Type} [FloatOps F] (main_arg0 : FVec F S4096x512 .f32) (main_arg1 : FVec F S4096x512 .f32) (main_arg2 : FVec F S4096x512 .f32) (main_arg3 : FVec F S4096x8 .f32) (main_arg4 : FVec F S4096x512 .f32) : IVec S8x4096x128 1 × IVec S8x4096x128 1 × IVec S8x4096x128 1 :=
  let main_v0 : IVec S8x4096x128 32 := iotaInDim S8x4096x128 32 2
  let main_c : IVec S_ 32 := constantI S_ 32 64#32
  let main_v1 : IVec S8x4096x128 32 := broadcastInDim S8x4096x128 ![] bcast_S_S8x4096x128 main_c
  let main_v2 : IVec S8x4096x128 1 := cmpi .slt main_v0 main_v1
  let main_c_0 : IVec S_ 32 := constantI S_ 32 64#32
  let main_v3 : IVec S8x4096x128 32 := broadcastInDim S8x4096x128 ![] bcast_S_S8x4096x128 main_c_0
  let main_v4 : IVec S8x4096x128 1 := cmpi .eq main_v0 main_v3
  let main_v5 : IVec S8x4096x128 1 := ori main_v2 main_v4
  let main_c_1 : IVec S_ 32 := constantI S_ 32 64#32
  let main_v6 : IVec S8x4096x128 32 := broadcastInDim S8x4096x128 ![] bcast_S_S8x4096x128 main_c_1
  let main_v7 : IVec S8x4096x128 1 := cmpi .slt main_v0 main_v6
  let main_c_2 : IVec S_ 32 := constantI S_ 32 67#32
  let main_v8 : IVec S8x4096x128 32 := broadcastInDim S8x4096x128 ![] bcast_S_S8x4096x128 main_c_2
  let main_v9 : IVec S8x4096x128 1 := cmpi .eq main_v0 main_v8
  let main_v10 : IVec S8x4096x128 1 := ori main_v7 main_v9
  let main_c_3 : IVec S_ 32 := constantI S_ 32 64#32
  let main_v11 : IVec S8x4096x128 32 := broadcastInDim S8x4096x128 ![] bcast_S_S8x4096x128 main_c_3
  let main_v12 : IVec S8x4096x128 1 := cmpi .slt main_v0 main_v11
  (main_v5, main_v10, main_v12)
-- ==== On_columns_fwd.lean ====
abbrev S4096x512 : Shape := ⟨2, ![4096, 512]⟩
abbrev S4096x8 : Shape := ⟨2, ![4096, 8]⟩
abbrev S8x4096x128 : Shape := ⟨3, ![8, 4096, 128]⟩
abbrev S_ : Shape := ⟨0, ![]⟩

class Facts : Prop where
  bcast_S_S8x4096x128 : S_.BroadcastsInDim S8x4096x128 (![] : Fin 0 → Fin S8x4096x128.rank)

variable [Facts]

def fn {F : FTy → Type} [FloatOps F] (main_arg0 : FVec F S4096x512 .f32) (main_arg1 : FVec F S4096x512 .f32) (main_arg2 : FVec F S4096x512 .f32) (main_arg3 : FVec F S4096x8 .f32) : IVec S8x4096x128 1 × IVec S8x4096x128 1 :=
  let main_v0 : IVec S8x4096x128 32 := iotaInDim S8x4096x128 32 2
  let main_c : IVec S_ 32 := constantI S_ 32 64#32
  let main_v1 : IVec S8x4096x128 32 := broadcastInDim S8x4096x128 ![] bcast_S_S8x4096x128 main_c
  let main_v2 : IVec S8x4096x128 1 := cmpi .slt main_v0 main_v1
  let main_c_0 : IVec S_ 32 := constantI S_ 32 64#32
  let main_v3 : IVec S8x4096x128 32 := broadcastInDim S8x4096x128 ![] bcast_S_S8x4096x128 main_c_0
  let main_v4 : IVec S8x4096x128 1 := cmpi .slt main_v0 main_v3
  let main_c_1 : IVec S_ 32 := constantI S_ 32 64#32
  let main_v5 : IVec S8x4096x128 32 := broadcastInDim S8x4096x128 ![] bcast_S_S8x4096x128 main_c_1
  let main_v6 : IVec S8x4096x128 1 := cmpi .eq main_v0 main_v5
  let main_v7 : IVec S8x4096x128 1 := ori main_v4 main_v6
  let main_c_2 : IVec S_ 32 := constantI S_ 32 70#32
  let main_v8 : IVec S8x4096x128 32 := broadcastInDim S8x4096x128 ![] bcast_S_S8x4096x128 main_c_2
  let main_v9 : IVec S8x4096x128 1 := cmpi .eq main_v0 main_v8
  let main_v10 : IVec S8x4096x128 1 := ori main_v7 main_v9
  (main_v2, main_v10)
-- ==== On_columns_prep.lean ====
abbrev S4096x512 : Shape := ⟨2, ![4096, 512]⟩
abbrev S4096x8 : Shape := ⟨2, ![4096, 8]⟩
abbrev S4096x1024 : Shape := ⟨2, ![4096, 1024]⟩
abbrev S8x4096x128 : Shape := ⟨3, ![8, 4096, 128]⟩
abbrev S_ : Shape := ⟨0, ![]⟩

class Facts : Prop where
  bcast_S_S8x4096x128 : S_.BroadcastsInDim S8x4096x128 (![] : Fin 0 → Fin S8x4096x128.rank)

variable [Facts]

def fn {F : FTy → Type} [FloatOps F] (main_arg0 : FVec F S4096x512 .f32) (main_arg1 : FVec F S4096x512 .f32) (main_arg2 : FVec F S4096x512 .f32) (main_arg3 : FVec F S4096x8 .f32) (main_arg4 : FVec F S4096x1024 .f32) : IVec S8x4096x128 1 :=
  let main_v0 : IVec S8x4096x128 32 := iotaInDim S8x4096x128 32 2
  let main_c : IVec S_ 32 := constantI S_ 32 65#32
  let main_v1 : IVec S8x4096x128 32 := broadcastInDim S8x4096x128 ![] bcast_S_S8x4096x128 main_c
  let main_v2 : IVec S8x4096x128 1 := cmpi .slt main_v0 main_v1
  let main_c_0 : IVec S_ 32 := constantI S_ 32 66#32
  let main_v3 : IVec S8x4096x128 32 := broadcastInDim S8x4096x128 ![] bcast_S_S8x4096x128 main_c_0
  let main_v4 : IVec S8x4096x128 1 := cmpi .sgt main_v0 main_v3
  let main_v5 : IVec S8x4096x128 1 := ori main_v2 main_v4
  main_v5
-- ==== Pre_finite_ffn.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S4096x1024 .f32) (main_arg1 : FVec F S1x1024 .f32) (main_arg2 : FVec F S1024x2816 .f32) (main_arg3 : FVec F S1024x2816 .f32) (main_arg4 : FVec F S2816x1024 .f32) (main_arg5 : FVec F S4096x1024 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1024x2816 .f32 := Host.absf main_arg3
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : FVec F S2816x1024 .f32 := Host.absf main_arg4
  let main_cst_2 : FVec F S_ .f32 := constant S_ .f32 0x7F800000#32
  let main_v9 : FVec F S2816x1024 .f32 := broadcastInDim S2816x1024 ![] bcast_S_S2816x1024 main_cst_2
  let main_v10 : IVec S2816x1024 1 := cmpf .olt main_v8 main_v9
  let main_c_3 : IVec S_ 1 := constantI S_ 1 1#1
  let main_v11 : IVec S_ 1 := (fun x v => Host.reduce IntOp.andi x v reducesTo_S2816x1024_S_d0_1 h_S_) main_v10 main_c_3
  let main_v12 : FVec F S4096x1024 .f32 := Host.absf main_arg5
  let main_cst_4 : FVec F S_ .f32 := constant S_ .f32 0x7F800000#32
  let main_v13 : FVec F S4096x1024 .f32 := broadcastInDim S4096x1024 ![] bcast_S_S4096x1024 main_cst_4
  let main_v14 : IVec S4096x1024 1 := cmpf .olt main_v12 main_v13
  let main_c_5 : IVec S_ 1 := constantI S_ 1 1#1
  let main_v15 : IVec S_ 1 := (fun x v => Host.reduce IntOp.andi x v reducesTo_S4096x1024_S_d0_1 h_S_) main_v14 main_c_5
  fn_part1 (F := F) main_v3 main_v7 main_v11 main_v15
-- ==== Pre_finite_fox.lean ====
abbrev S4096x512 : Shape := ⟨2, ![4096, 512]⟩
abbrev S4096x8 : Shape := ⟨2, ![4096, 8]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x8 : S_.BroadcastsInDim S4096x8 (![] : Fin 0 → Fin S4096x8.rank)
  reducesTo_S4096x8_S_d0_1 : S4096x8.ReducesTo [0, 1] S_

variable [Facts]

def fn_part1 {F : FTy → Type} [FloatOps F] (main_arg4 : FVec F S4096x512 .f32) (main_v3 : IVec S_ 1) (main_v7 : IVec S_ 1) (main_v11 : IVec S_ 1) (main_v15 : IVec S_ 1) : IVec S_ 1 :=
  let main_v16 : FVec F S4096x512 .f32 := Host.absf main_arg4
  let main_cst_6 : FVec F S_ .f32 := constant S_ .f32 0x7F800000#32
  let main_v17 : FVec F S4096x512 .f32 := broadcastInDim S4096x512 ![] bcast_S_S4096x512 main_cst_6
  let main_v18 : IVec S4096x512 1 := cmpf .olt main_v16 main_v17
  let main_c_7 : IVec S_ 1 := constantI S_ 1 1#1
  let main_v19 : IVec S_ 1 := (fun x v => Host.reduce IntOp.andi x v reducesTo_S4096x512_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S4096x512 .f32) (main_arg1 : FVec F S4096x512 .f32) (main_arg2 : FVec F S4096x512 .f32) (main_arg3 : FVec F S4096x8 .f32) (main_arg4 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : FVec F S4096x512 .f32 := Host.absf main_arg2
  let main_cst_2 : FVec F S_ .f32 := constant S_ .f32 0x7F800000#32
  let main_v9 : FVec F S4096x512 .f32 := broadcastInDim S4096x512 ![] bcast_S_S4096x512 main_cst_2
  let main_v10 : IVec S4096x512 1 := cmpf .olt main_v8 main_v9
  let main_c_3 : IVec S_ 1 := constantI S_ 1 1#1
  let main_v11 : IVec S_ 1 := (fun x v => Host.reduce IntOp.andi x v reducesTo_S4096x512_S_d0_1 h_S_) main_v10 main_c_3
  let main_v12 : FVec F S4096x8 .f32 := Host.absf main_arg3
  let main_cst_4 : FVec F S_ .f32 := constant S_ .f32 0x7F800000#32
  let main_v13 : FVec F S4096x8 .f32 := broadcastInDim S4096x8 ![] bcast_S_S4096x8 main_cst_4
  let main_v14 : IVec S4096x8 1 := cmpf .olt main_v12 main_v13
  let main_c_5 : IVec S_ 1 := constantI S_ 1 1#1
  let main_v15 : IVec S_ 1 := (fun x v => Host.reduce IntOp.andi x v reducesTo_S4096x8_S_d0_1 h_S_) main_v14 main_c_5
  fn_part1 (F := F) main_arg4 main_v3 main_v7 main_v11 main_v15
-- ==== Pre_finite_scores.lean ====
abbrev S4096x512 : Shape := ⟨2, ![4096, 512]⟩
abbrev S4096x8 : Shape := ⟨2, ![4096, 8]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x8 : S_.BroadcastsInDim S4096x8 (![] : Fin 0 → Fin S4096x8.rank)
  reducesTo_S4096x8_S_d0_1 : S4096x8.ReducesTo [0, 1] S_

variable [Facts]

def fn {F : FTy → Type} [FloatOps F] (main_arg0 : FVec F S4096x512 .f32) (main_arg1 : FVec F S4096x512 .f32) (main_arg2 : FVec F S4096x512 .f32) (main_arg3 : FVec F S4096x8 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : FVec F S4096x8 .f32 := Host.absf main_arg3
  let main_cst_2 : FVec F S_ .f32 := constant S_ .f32 0x7F800000#32
  let main_v9 : FVec F S4096x8 .f32 := broadcastInDim S4096x8 ![] bcast_S_S4096x8 main_cst_2
  let main_v10 : IVec S4096x8 1 := cmpf .olt main_v8 main_v9
  let main_c_3 : IVec S_ 1 := constantI S_ 1 1#1
  let main_v11 : IVec S_ 1 := (fun x v => Host.reduce IntOp.andi x v reducesTo_S4096x8_S_d0_1 h_S_) main_v10 main_c_3
  let main_v12 : IVec S_ 1 := andi main_v3 main_v7
  let main_v13 : IVec S_ 1 := andi main_v12 main_v11
  main_v13
-- ==== KLoss.lean ====
abbrev S4096x1024 : Shape := ⟨2, ![4096, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== RLossIdeal.lean ====
abbrev S4096x1024 : Shape := ⟨2, ![4096, 1024]⟩
abbrev S_ : Shape := ⟨0, ![]⟩
abbrev S4096 : Shape := ⟨1, ![4096]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S1x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== KFoxBwd.lean ====
abbrev S4096x512 : Shape := ⟨2, ![4096, 512]⟩
abbrev S4096x8 : Shape := ⟨2, ![4096, 8]⟩
abbrev S8x4096x128 : Shape := ⟨3, ![8, 4096, 128]⟩
abbrev S_ : Shape := ⟨0, ![]⟩
abbrev S8x4096 : Shape := ⟨2, ![8, 4096]⟩
abbrev S8x4096x1 : Shape := ⟨3, ![8, 4096, 1]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x128 : Shape := ⟨3, ![1, 4096, 128]⟩
abbrev S1x1024x128 : Shape := ⟨3, ![1, 1024, 128]⟩
abbrev S1024x128 : Shape := ⟨2, ![1024, 128]⟩
abbrev S1024x1024 : Shape := ⟨2, ![1024, 1024]⟩

abbrev nBuf : Space → Nat
  | .hbm => 238
  | .vmem => 14
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4096x8, .f32⟩
  | 4 => ⟨S4096x512, .f32⟩
  | 5 => ⟨S8x4096x128, .i32⟩
  | 6 => ⟨S_, .i32⟩
  | 7 => ⟨S8x4096x128, .i32⟩
  | 8 => ⟨S8x4096x128, .i1⟩
  | 9 => ⟨S8x4096, .f32⟩
  | 10 => ⟨S8x4096x1, .f32⟩
  | 11 => ⟨S8x4096x1, .bf16⟩
  | 12 => ⟨S8x4096x1, .f32⟩
  | 13 => ⟨S8x4096x1, .f32⟩
  | 14 => ⟨S8x4096x1, .bf16⟩
  | 15 => ⟨S8x4096x1, .f32⟩
  | 16 => ⟨S8x4096x1, .f32⟩
  | 17 => ⟨S_, .i32⟩
  | 18 => ⟨S8x4096x128, .i32⟩
  | 19 => ⟨S8x4096x128, .i1⟩
  | 20 => ⟨S_, .i32⟩
  | 21 => ⟨S8x4096x128, .i32⟩
  | 22 => ⟨S8x4096x128, .i1⟩
  | 23 => ⟨S8x4096x128, .i1⟩
  | 24 => ⟨S_, .f32⟩
  | 25 => ⟨S_, .f32⟩
  | 26 => ⟨S8x4096x128, .f32⟩
  | 27 => ⟨S8x4096x128, .f32⟩
  | 28 => ⟨S8x4096x128, .f32⟩
  | 29 => ⟨S_, .i32⟩
  | 30 => ⟨S8x4096x128, .i32⟩
  | 31 => ⟨S8x4096x128, .i1⟩
  | 32 => ⟨S8x4096x128, .f32⟩
  | 33 => ⟨S8x4096x128, .f32⟩
  | 34 => ⟨S8x4096x128, .f32⟩
  | 35 => ⟨S_, .i32⟩
  | 36 => ⟨S8x4096x128, .i32⟩
  | 37 => ⟨S8x4096x128, .i1⟩
  | 38 => ⟨S8x4096x128, .f32⟩
  | 39 => ⟨S8x4096x128, .f32⟩
  | 40 => ⟨S_, .i32⟩
  | 41 => ⟨S8x4096x128, .i32⟩
  | 42 => ⟨S8x4096x128, .i1⟩
  | 43 => ⟨S8x4096x128, .f32⟩
  | 44 => ⟨S8x4096x128, .f32⟩
  | 45 => ⟨S8x4096x1, .f32⟩
  | 46 => ⟨S8x4096x1, .f32⟩
  | 47 => ⟨S8x4096x1, .f32⟩
  | 48 => ⟨S_, .i32⟩
  | 49 => ⟨S8x4096x128, .i32⟩
  | 50 => ⟨S8x4096x128, .i1⟩
  | 51 => ⟨S_, .i32⟩
  | 52 => ⟨S8x4096x128, .i32⟩
  | 53 => ⟨S8x4096x128, .i1⟩
  | 54 => ⟨S8x4096x128, .i1⟩
  | 55 => ⟨S_, .i32⟩
  | 56 => ⟨S8x4096x128, .i32⟩
  | 57 => ⟨S8x4096x128, .i1⟩
  | 58 => ⟨S_, .i32⟩
  | 59 => ⟨S8x4096x128, .i32⟩
  | 60 => ⟨S8x4096x128, .i1⟩
  | 61 => ⟨S8x4096x128, .i1⟩
  | 62 => ⟨S8x4096x128, .i1⟩
  | 63 => ⟨S_, .f32⟩
  | 64 => ⟨S_, .f32⟩
  | 65 => ⟨S8x4096x128, .f32⟩
  | 66 => ⟨S8x4096x128, .f32⟩
  | 67 => ⟨S8x4096x128, .f32⟩
  | 68 => ⟨S_, .i32⟩
  | 69 => ⟨S8x4096x128, .i32⟩
  | 70 => ⟨S8x4096x128, .i1⟩
  | 71 => ⟨S8x4096x128, .f32⟩
  | 72 => ⟨S8x4096x128, .f32⟩
  | 73 => ⟨S8x4096x128, .f32⟩
  | 74 => ⟨S_, .i32⟩
  | 75 => ⟨S8x4096x128, .i32⟩
  | 76 => ⟨S8x4096x128, .i1⟩
  | 77 => ⟨S8x4096x128, .f32⟩
  | 78 => ⟨S8x4096x128, .f32⟩
  | 79 => ⟨S_, .i32⟩
  | 80 => ⟨S8x4096x128, .i32⟩
  | 81 => ⟨S8x4096x128, .i1⟩
  | 82 => ⟨S8x4096x128, .f32⟩
  | 83 => ⟨S8x4096x128, .f32⟩
  | 84 => ⟨S_, .i32⟩
  | 85 => ⟨S8x4096x128, .i32⟩
  | 86 => ⟨S8x4096x128, .i1⟩
  | 87 => ⟨S_, .i32⟩
  | 88 => ⟨S8x4096x128, .i32⟩
  | 89 => ⟨S8x4096x128, .i1⟩
  | 90 => ⟨S8x4096x128, .i1⟩
  | 91 => ⟨S_, .f32⟩
  | 92 => ⟨S_, .f32⟩
  | 93 => ⟨S8x4096x128, .f32⟩
  | 94 => ⟨S8x4096x128, .f32⟩
  | 95 => ⟨S8x4096x128, .f32⟩
  | 96 => ⟨S4096x8x64, .f32⟩
  | 97 => ⟨S8x4096x64, .f32⟩
  | 98 => ⟨S_, .i32⟩
  | 99 => ⟨S_, .f32⟩
  | 100 => ⟨S8x4096x128, .f32⟩
  | 101 => ⟨S_, .f32⟩
  | 102 => ⟨S8x4096x128, .f32⟩
  | 103 => ⟨S8x4096x128, .f32⟩
  | 104 => ⟨S8x4096x128, .f32⟩
  | 105 => ⟨S8x4096x128, .bf16⟩
  | 106 => ⟨S4096x8x64, .f32⟩
  | 107 => ⟨S8x4096x64, .f32⟩
  | 108 => ⟨S_, .i32⟩
  | 109 => ⟨S_, .f32⟩
  | 110 => ⟨S8x4096x128, .f32⟩
  | 111 => ⟨S8x4096x128, .f32⟩
  | 112 => ⟨S8x4096x128, .bf16⟩
  | 113 => ⟨S4096x8x64, .f32⟩
  | 114 => ⟨S8x4096x64, .f32⟩
  | 115 => ⟨S_, .i32⟩
  | 116 => ⟨S_, .f32⟩
  | 117 => ⟨S8x4096x128, .f32⟩
  | 118 => ⟨S8x4096x128, .f32⟩
  | 119 => ⟨S8x4096x128, .f32⟩
  | 120 => ⟨S8x4096x128, .bf16⟩
  | 121 => ⟨S8x4096, .f32⟩
  | 122 => ⟨S4096x8x64, .f32⟩
  | 123 => ⟨S8x4096x64, .f32⟩
  | 124 => ⟨S4096x8x64, .f32⟩
  | 125 => ⟨S8x4096x64, .f32⟩
  | 126 => ⟨S8x4096x4096, .f32⟩
  | 127 => ⟨S_, .f32⟩
  | _ => ⟨S4096x512, .f32⟩

abbrev hbmTy0_1 (i : Nat) : BufTy := match i % 128 with
  | 0 => ⟨S8x4096x4096, .f32⟩
  | 1 => ⟨S8x4096x4096, .f32⟩
  | 2 => ⟨S8x4096x1, .f32⟩
  | 3 => ⟨S8x4096x4096, .f32⟩
  | 4 => ⟨S8x4096x4096, .f32⟩
  | 5 => ⟨S8x1x4096, .f32⟩
  | 6 => ⟨S8x4096x4096, .f32⟩
  | 7 => ⟨S8x4096x4096, .f32⟩
  | 8 => ⟨S4096, .i32⟩
  | 9 => ⟨S1x4096, .i32⟩
  | 10 => ⟨S4096x1, .i32⟩
  | 11 => ⟨S4096x4096, .i32⟩
  | 12 => ⟨S4096x4096, .i32⟩
  | 13 => ⟨S4096x4096, .i1⟩
  | 14 => ⟨S_, .f32⟩
  | 15 => ⟨S_, .f32⟩
  | 16 => ⟨S8x4096x4096, .i1⟩
  | 17 => ⟨S8x4096x4096, .f32⟩
  | 18 => ⟨S8x4096x4096, .f32⟩
  | 19 => ⟨S_, .f32⟩
  | 20 => ⟨S8x4096, .f32⟩
  | 21 => ⟨S8x4096x1, .f32⟩
  | 22 => ⟨S8x4096x4096, .f32⟩
  | 23 => ⟨S8x4096x4096, .f32⟩
  | 24 => ⟨S8x4096x4096, .f32⟩
  | 25 => ⟨S_, .f32⟩
  | 26 => ⟨S8x4096, .f32⟩
  | 27 => ⟨S8x4096x1, .f32⟩
  | 28 => ⟨S8x4096x4096, .f32⟩
  | 29 => ⟨S8x4096x4096, .f32⟩
  | 30 => ⟨S4096x8x64, .f32⟩
  | 31 => ⟨S8x4096x64, .f32⟩
  | 32 => ⟨S8x4096x64, .f32⟩
  | 33 => ⟨S8x4096x128, .i32⟩
  | 34 => ⟨S8x4096x128, .f32⟩
  | 35 => ⟨S8x4096x1, .f32⟩
  | 36 => ⟨S8x4096x1, .f32⟩
  | 37 => ⟨S8x4096x1, .bf16⟩
  | 38 => ⟨S8x4096x1, .f32⟩
  | 39 => ⟨S8x4096x1, .f32⟩
  | 40 => ⟨S8x4096x1, .bf16⟩
  | 41 => ⟨S8x4096x1, .f32⟩
  | 42 => ⟨S8x4096x1, .f32⟩
  | 43 => ⟨S8x4096x1, .f32⟩
  | 44 => ⟨S8x4096x1, .f32⟩
  | 45 => ⟨S8x4096x1, .f32⟩
  | 46 => ⟨S_, .i32⟩
  | 47 => ⟨S8x4096x128, .i32⟩
  | 48 => ⟨S8x4096x128, .i1⟩
  | 49 => ⟨S_, .f32⟩
  | 50 => ⟨S_, .f32⟩
  | 51 => ⟨S8x4096x128, .f32⟩
  | 52 => ⟨S8x4096x128, .f32⟩
  | 53 => ⟨S8x4096x128, .f32⟩
  | 54 => ⟨S_, .i32⟩
  | 55 => ⟨S8x4096x128, .i32⟩
  | 56 => ⟨S8x4096x128, .i1⟩
  | 57 => ⟨S8x4096x128, .f32⟩
  | 58 => ⟨S8x4096x128, .f32⟩
  | 59 => ⟨S_, .i32⟩
  | 60 => ⟨S8x4096x128, .i32⟩
  | 61 => ⟨S8x4096x128, .i1⟩
  | 62 => ⟨S8x4096x128, .f32⟩
  | 63 => ⟨S8x4096x128, .f32⟩
  | 64 => ⟨S8x4096x128, .f32⟩
  | 65 => ⟨S8x4096x128, .bf16⟩
  | 66 => ⟨S4096x8x64, .f32⟩
  | 67 => ⟨S8x4096x64, .f32⟩
  | 68 => ⟨S8x4096x64, .f32⟩
  | 69 => ⟨S_, .f32⟩
  | 70 => ⟨S8x4096, .f32⟩
  | 71 => ⟨S8x4096x1, .f32⟩
  | 72 => ⟨S_, .i32⟩
  | 73 => ⟨S8x4096x128, .i32⟩
  | 74 => ⟨S8x4096x128, .i1⟩
  | 75 => ⟨S_, .i32⟩
  | 76 => ⟨S_, .f32⟩
  | 77 => ⟨S8x4096x128, .f32⟩
  | 78 => ⟨S8x4096x1, .bf16⟩
  | 79 => ⟨S8x4096x1, .f32⟩
  | 80 => ⟨S8x4096x1, .f32⟩
  | 81 => ⟨S8x4096x1, .bf16⟩
  | 82 => ⟨S8x4096x1, .f32⟩
  | 83 => ⟨S8x4096x1, .f32⟩
  | 84 => ⟨S8x4096x1, .f32⟩
  | 85 => ⟨S8x4096x1, .f32⟩
  | 86 => ⟨S8x4096x1, .f32⟩
  | 87 => ⟨S_, .i32⟩
  | 88 => ⟨S8x4096x128, .i32⟩
  | 89 => ⟨S8x4096x128, .i1⟩
  | 90 => ⟨S_, .f32⟩
  | 91 => ⟨S_, .f32⟩
  | 92 => ⟨S8x4096x128, .f32⟩
  | 93 => ⟨S8x4096x128, .f32⟩
  | 94 => ⟨S8x4096x128, .f32⟩
  | 95 => ⟨S_, .i32⟩
  | 96 => ⟨S8x4096x128, .i32⟩
  | 97 => ⟨S8x4096x128, .i1⟩
  | 98 => ⟨S8x4096x128, .f32⟩
  | 99 => ⟨S8x4096x128, .f32⟩
  | 100 => ⟨S_, .i32⟩
  | 101 => ⟨S8x4096x128, .i32⟩
  | 102 => ⟨S8x4096x128, .i1⟩
  | 103 => ⟨S8x4096x128, .f32⟩
  | 104 => ⟨S8x4096x128, .f32⟩
  | 105 => ⟨S8x4096x128, .f32⟩
  | 106 => ⟨S8x4096x128, .bf16⟩
  | 107 => ⟨S8x4096x128, .f32⟩
  | 108 => ⟨S8x4096x128, .f32⟩
  | 109 => ⟨S8x4096x128, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | .local _ .vmem, ⟨0, _⟩ => ⟨S1x4096x128, .bf16⟩
  | .local _ .vmem, ⟨1, _⟩ => ⟨S1x4096x128, .bf16⟩
  | .local _ .vmem, ⟨2, _⟩ => ⟨S1x1024x128, .bf16⟩
  | .local _ .vmem, ⟨3, _⟩ => ⟨S1x1024x128, .bf16⟩
  | .local _ .vmem, ⟨4, _⟩ => ⟨S1x1024x128, .bf16⟩
  | .local _ .vmem, ⟨5, _⟩ => ⟨S1x1024x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x4096x128, .f32⟩
  | .local _ .vmem, ⟨9, _⟩ => ⟨S1x4096x128, .f32⟩
  | .local _ .vmem, ⟨10, _⟩ => ⟨S1x1024x128, .f32⟩
  | .local _ .vmem, ⟨11, _⟩ => ⟨S1x1024x128, .f32⟩
  | .local _ .vmem, ⟨12, _⟩ => ⟨S1x1024x128, .f32⟩
  | .local _ .vmem, ⟨13, _⟩ => ⟨S1x1024x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_call1_v0 : Ref sig .tc := ⟨.hbm, 32, rfl⟩
abbrev main_call1_v1 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_call2_v0 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_call3_v0 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_c_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_v34 : Ref sig .tc := ⟨.hbm, 56, rfl⟩
abbrev main_v35 : Ref sig .tc := ⟨.hbm, 57, rfl⟩
abbrev main_c_9 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_10 : Ref sig .tc := ⟨.hbm, 63, rfl⟩
abbrev main_cst_11 : Ref sig .tc := ⟨.hbm, 64, rfl⟩
abbrev main_call4_v0 : Ref sig .tc := ⟨.hbm, 65, rfl⟩
abbrev main_call4_v1 : Ref sig .tc := ⟨.hbm, 66, rfl⟩
abbrev main_v40 : Ref sig .tc := ⟨.hbm, 67, rfl⟩
abbrev main_c_12 : Ref sig .tc := ⟨.hbm, 68, rfl⟩
abbrev main_v41 : Ref sig .tc := ⟨.hbm, 69, rfl⟩
abbrev main_v42 : Ref sig .tc := ⟨.hbm, 70, rfl⟩
abbrev main_call5_v0 : Ref sig .tc := ⟨.hbm, 71, rfl⟩
abbrev main_call5_v1 : Ref sig .tc := ⟨.hbm, 72, rfl⟩
abbrev main_v43 : Ref sig .tc := ⟨.hbm, 73, rfl⟩
abbrev main_c_13 : Ref sig .tc := ⟨.hbm, 74, rfl⟩
abbrev main_v44 : Ref sig .tc := ⟨.hbm, 75, rfl⟩
abbrev main_v45 : Ref sig .tc := ⟨.hbm, 76, rfl⟩
abbrev main_call6_v0 : Ref sig .tc := ⟨.hbm, 77, rfl⟩
abbrev main_v46 : Ref sig .tc := ⟨.hbm, 78, rfl⟩
abbrev main_c_14 : Ref sig .tc := ⟨.hbm, 79, rfl⟩
abbrev main_v47 : Ref sig .tc := ⟨.hbm, 80, rfl⟩
abbrev main_v48 : Ref sig .tc := ⟨.hbm, 81, rfl⟩
abbrev main_call7_v0 : Ref sig .tc := ⟨.hbm, 82, rfl⟩
abbrev main_v49 : Ref sig .tc := ⟨.hbm, 83, rfl⟩
abbrev main_c_15 : Ref sig .tc := ⟨.hbm, 84, rfl⟩
abbrev main_v50 : Ref sig .tc := ⟨.hbm, 85, rfl⟩
abbrev main_v51 : Ref sig .tc := ⟨.hbm, 86, rfl⟩
abbrev main_c_16 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_17 : Ref sig .tc := ⟨.hbm, 91, rfl⟩
abbrev main_cst_18 : Ref sig .tc := ⟨.hbm, 92, rfl⟩
abbrev main_call8_v0 : Ref sig .tc := ⟨.hbm, 93, rfl⟩
abbrev main_call8_v1 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_c_19 : Ref sig .tc := ⟨.hbm, 98, rfl⟩
abbrev main_call9_v0 : Ref sig .tc := ⟨.hbm, 99, rfl⟩
abbrev main_v58 : Ref sig .tc := ⟨.hbm, 100, rfl⟩
abbrev main_cst_20 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_c_21 : Ref sig .tc := ⟨.hbm, 108, rfl⟩
abbrev main_call11_v0 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_c_22 : Ref sig .tc := ⟨.hbm, 115, rfl⟩
abbrev main_call13_v0 : Ref sig .tc := ⟨.hbm, 116, rfl⟩
abbrev main_v70 : Ref sig .tc := ⟨.hbm, 117, rfl⟩
abbrev main_call14_v0 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_cst_23 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_cst_24 : Ref sig .tc := ⟨.hbm, 142, rfl⟩
abbrev main_call15_v0 : Ref sig .tc := ⟨.hbm, 143, rfl⟩
abbrev main_call15_v1 : Ref sig .tc := ⟨.hbm, 144, rfl⟩
abbrev main_call15_v2 : Ref sig .tc := ⟨.hbm, 145, rfl⟩
abbrev main_v93 : Ref sig .tc := ⟨.hbm, 146, rfl⟩
abbrev main_cst_25 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_cst_26 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_c_27 : Ref sig .tc := ⟨.hbm, 174, rfl⟩
abbrev main_v119 : Ref sig .tc := ⟨.hbm, 175, rfl⟩
abbrev main_v120 : Ref sig .tc := ⟨.hbm, 176, rfl⟩
abbrev main_cst_28 : Ref sig .tc := ⟨.hbm, 177, rfl⟩
abbrev main_call16_v0 : Ref sig .tc := ⟨.hbm, 178, rfl⟩
abbrev main_call16_v1 : Ref sig .tc := ⟨.hbm, 179, rfl⟩
abbrev main_call16_v2 : Ref sig .tc := ⟨.hbm, 180, rfl⟩
abbrev main_v121 : Ref sig .tc := ⟨.hbm, 181, rfl⟩
abbrev main_c_29 : Ref sig .tc := ⟨.hbm, 182, rfl⟩
abbrev main_v122 : Ref sig .tc := ⟨.hbm, 183, rfl⟩
abbrev main_v123 : Ref sig .tc := ⟨.hbm, 184, rfl⟩
abbrev main_call17_v0 : Ref sig .tc := ⟨.hbm, 185, rfl⟩
abbrev main_v124 : Ref sig .tc := ⟨.hbm, 186, rfl⟩
abbrev main_c_30 : Ref sig .tc := ⟨.hbm, 187, rfl⟩
abbrev main_v125 : Ref sig .tc := ⟨.hbm, 188, rfl⟩
abbrev main_v126 : Ref sig .tc := ⟨.hbm, 189, rfl⟩
abbrev main_call18_v0 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_cst_31 : Ref sig .tc := ⟨.hbm, 197, rfl⟩
abbrev main_v133 : Ref sig .tc := ⟨.hbm, 198, rfl⟩
abbrev main_v134 : Ref sig .tc := ⟨.hbm, 199, rfl⟩
abbrev main_c_32 : Ref sig .tc := ⟨.hbm, 200, rfl⟩
abbrev main_v135 : Ref sig .tc := ⟨.hbm, 201, rfl⟩
abbrev main_v136 : Ref sig .tc := ⟨.hbm, 202, rfl⟩
abbrev main_c_33 : Ref sig .tc := ⟨.hbm, 203, rfl⟩
abbrev main_call19_v0 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_c_34 : Ref sig .tc := ⟨.hbm, 215, rfl⟩
abbrev main_v147 : Ref sig .tc := ⟨.hbm, 216, rfl⟩
abbrev main_v148 : Ref sig .tc := ⟨.hbm, 217, rfl⟩
abbrev main_cst_35 : Ref sig .tc := ⟨.hbm, 218, rfl⟩
abbrev main_call20_v0 : Ref sig .tc := ⟨.hbm, 219, rfl⟩
abbrev main_call20_v1 : Ref sig .tc := ⟨.hbm, 220, rfl⟩
abbrev main_call20_v2 : Ref sig .tc := ⟨.hbm, 221, rfl⟩
abbrev main_v149 : Ref sig .tc := ⟨.hbm, 222, rfl⟩
abbrev main_c_36 : Ref sig .tc := ⟨.hbm, 223, rfl⟩
abbrev main_v150 : Ref sig .tc := ⟨.hbm, 224, rfl⟩
abbrev main_v151 : Ref sig .tc := ⟨.hbm, 225, rfl⟩
abbrev main_call21_v0 : Ref sig .tc := ⟨.hbm, 226, rfl⟩
abbrev main_v152 : Ref sig .tc := ⟨.hbm, 227, rfl⟩
abbrev main_c_37 : Ref sig .tc := ⟨.hbm, 228, rfl⟩
abbrev main_v153 : Ref sig .tc := ⟨.hbm, 229, rfl⟩
abbrev main_v154 : Ref sig .tc := ⟨.hbm, 230, rfl⟩
abbrev main_call22_v0 : Ref sig .tc := ⟨.hbm, 231, rfl⟩
abbrev main_v155 : Ref sig .tc := ⟨.hbm, 232, rfl⟩
abbrev main_v156 : Ref sig .tc := ⟨.hbm, 233, rfl⟩
abbrev main_v157 : Ref sig .tc := ⟨.hbm, 234, rfl⟩
abbrev main_v158_0 : Ref sig .tc := ⟨.hbm, 235, rfl⟩
abbrev main_v158_1 : Ref sig .tc := ⟨.hbm, 236, rfl⟩
abbrev main_v158_2 : Ref sig .tc := ⟨.hbm, 237, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c1024_i32 : BitVec 32 := 1024#32
  let v9 : BitVec 32 := Scalar.muli arg1 c1024_i32
  v9
def k0_off1 (i : grid0.Coords) : Fin 3 → Nat :=
  let c0_7 : Index := 0#32
  let arg1 : BitVec 32 := BitVec.ofNat 32 (i 1).val
  let c1024_i32 : BitVec 32 := 1024#32
  let v9 : BitVec 32 := Scalar.muli arg1 c1024_i32
  let v10 : BitVec 32 := v9
  let v11 : Index := Scalar.indexCast v10
  let c0_8 : Index := 0#32
  ![0, v11.toNat, 0]
@[reducible] def k0_t1_loop (i : grid0.Coords) : Scf.Loop 32 :=
  let arg1 : BitVec 32 := BitVec.ofNat 32 (i 1).val
  let c1_i32 : BitVec 32 := 1#32
  let v41 : BitVec 32 := Scalar.addi arg1 c1_i32
  let c4_i32 : BitVec 32 := 4#32
  let v42 : BitVec 32 := Scalar.subi c4_i32 v41
  let c1_i32_21 : BitVec 32 := 1#32
  let v44 : BitVec 32 := Scalar.divsi v42 c1_i32_21
  let v45 : BitVec 32 := Scalar.muli v44 c1_i32_21
  let v46 : BitVec 32 := Scalar.addi v41 v45
  let c1_i32_22 : BitVec 32 := 1#32
  ⟨v41, v46, c1_i32_22⟩
def k0_mult2 (i : grid0.Coords) (k0_t1 : Fin (k0_t1_loop i).trips) : BitVec 32 :=
  let arg1 : BitVec 32 := BitVec.ofNat 32 (i 1).val
  let c1_i32 : BitVec 32 := 1#32
  let v41 : BitVec 32 := Scalar.addi arg1 c1_i32
  let c1_i32_22 : BitVec 32 := 1#32
  let arg9 : BitVec 32 := Scf.iv v41 c1_i32_22 k0_t1
  let c1024_i32_30 : BitVec 32 := 1024#32
  let v55 : BitVec 32 := Scalar.muli arg9 c1024_i32_30
  v55
def k0_off2 (i : grid0.Coords) (k0_t1 : Fin (k0_t1_loop i).trips) : Fin 3 → Nat :=
  let c0_31 : Index := 0#32
  let arg1 : BitVec 32 := BitVec.ofNat 32 (i 1).val
  let c1_i32 : BitVec 32 := 1#32
  let v41 : BitVec 32 := Scalar.addi arg1 c1_i32
  let c1_i32_22 : BitVec 32 := 1#32
  let arg9 : BitVec 32 := Scf.iv v41 c1_i32_22 k0_t1
  let c1024_i32_30 : BitVec 32 := 1024#32
  let v55 : BitVec 32 := Scalar.muli arg9 c1024_i32_30
  let v56 : BitVec 32 := v55
  let v57 : Index := Scalar.indexCast v56
  let c0_32 : Index := 0#32
  ![0, v57.toNat, 0]
@[reducible] def k0_t2_loop (i : grid0.Coords) : Scf.Loop 32 :=
  let arg1 : BitVec 32 := BitVec.ofNat 32 (i 1).val
  let c1_i32 : BitVec 32 := 1#32
  let v41 : BitVec 32 := Scalar.addi arg1 c1_i32
  let c4_i32 : BitVec 32 := 4#32
  let v42 : BitVec 32 := Scalar.subi c4_i32 v41
  let c1_i32_21 : BitVec 32 := 1#32
  let v44 : BitVec 32 := Scalar.divsi v42 c1_i32_21
  let v45 : BitVec 32 := Scalar.muli v44 c1_i32_21
  let v46 : BitVec 32 := Scalar.addi v41 v45
  let v43 : BitVec 32 := Scalar.addi v41 v42
  let c1_i32_23 : BitVec 32 := 1#32
  ⟨v46, v43, c1_i32_23⟩
def k0_mult3 (i : grid0.Coords) (k0_t2 : Fin (k0_t2_loop i).trips) : BitVec 32 :=
  let arg1 : BitVec 32 := BitVec.ofNat 32 (i 1).val
  let c1_i32 : BitVec 32 := 1#32
  let v41 : BitVec 32 := Scalar.addi arg1 c1_i32
  let c4_i32 : BitVec 32 := 4#32
  let v42 : BitVec 32 := Scalar.subi c4_i32 v41
  let c1_i32_21 : BitVec 32 := 1#32
  let v44 : BitVec 32 := Scalar.divsi v42 c1_i32_21
  let v45 : BitVec 32 := Scalar.muli v44 c1_i32_21
  let v46 : BitVec 32 := Scalar.addi v41 v45
  let c1_i32_23 : BitVec 32 := 1#32
  let arg9 : BitVec 32 := Scf.iv v46 c1_i32_23 k0_t2
  let c1024_i32_30 : BitVec 32 := 1024#32
  let v55 : BitVec 32 := Scalar.muli arg9 c1024_i32_30
  v55
def k0_off3 (i : grid0.Coords) (k0_t2 : Fin (k0_t2_loop i).trips) : Fin 3 → Nat :=
  let c0_31 : Index := 0#32
  let arg1 : BitVec 32 := BitVec.ofNat 32 (i 1).val
  let c1_i32 : BitVec 32 := 1#32
  let v41 : BitVec 32 := Scalar.addi arg1 c1_i32
  let c4_i32 : BitVec 32 := 4#32
  let v42 : BitVec 32 := Scalar.subi c4_i32 v41
  let c1_i32_21 : BitVec 32 := 1#32
  let v44 : BitVec 32 := Scalar.divsi v42 c1_i32_21
  let v45 : BitVec 32 := Scalar.muli v44 c1_i32_21
  let v46 : BitVec 32 := Scalar.addi v41 v45
  let c1_i32_23 : BitVec 32 := 1#32
  let arg9 : BitVec 32 := Scf.iv v46 c1_i32_23 k0_t2
  let c1024_i32_30 : BitVec 32 := 1024#32
  let v55 : BitVec 32 := Scalar.muli arg9 c1024_i32_30
  let v56 : BitVec 32 := v55
  let v57 : Index := Scalar.indexCast v56
  let c0_32 : Index := 0#32
  ![0, v57.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KFoxBwdIdeal.lean ====
variable {F : FTy → Type} [FloatOps F] [Named F]
def κ : String → Option EReal := fun
  | "mask" => some ⊥
  | _ => none
-- ==== RFoxBwdIdeal.lean ====
abbrev S4096x512 : Shape := ⟨2, ![4096, 512]⟩
abbrev S4096x8 : Shape := ⟨2, ![4096, 8]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩
abbrev S8x4096x128 : Shape := ⟨3, ![8, 4096, 128]⟩

abbrev nBuf : Space → Nat
  | .hbm => 157
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4096x8, .f32⟩
  | 4 => ⟨S4096x512, .f32⟩
  | 5 => ⟨S4096x8x64, .f32⟩
  | 6 => ⟨S8x4096x64, .f32⟩
  | 7 => ⟨S4096x8x64, .f32⟩
  | 8 => ⟨S8x4096x64, .f32⟩
  | 9 => ⟨S8x4096x4096, .f32⟩
  | 10 => ⟨S_, .f32⟩
  | 11 => ⟨S8x4096x4096, .f32⟩
  | 12 => ⟨S8x4096x4096, .f32⟩
  | 13 => ⟨S8x4096, .f32⟩
  | 14 => ⟨S8x4096x1, .f32⟩
  | 15 => ⟨S8x4096x4096, .f32⟩
  | 16 => ⟨S8x4096x4096, .f32⟩
  | 17 => ⟨S8x4096, .f32⟩
  | 18 => ⟨S8x1x4096, .f32⟩
  | 19 => ⟨S8x4096x4096, .f32⟩
  | 20 => ⟨S8x4096x4096, .f32⟩
  | 21 => ⟨S4096, .i32⟩
  | 22 => ⟨S1x4096, .i32⟩
  | 23 => ⟨S4096x1, .i32⟩
  | 24 => ⟨S4096x4096, .i32⟩
  | 25 => ⟨S4096x4096, .i32⟩
  | 26 => ⟨S4096x4096, .i1⟩
  | 27 => ⟨S_, .f32⟩
  | 28 => ⟨S_, .f32⟩
  | 29 => ⟨S8x4096x4096, .i1⟩
  | 30 => ⟨S8x4096x4096, .f32⟩
  | 31 => ⟨S8x4096x4096, .f32⟩
  | 32 => ⟨S_, .f32⟩
  | 33 => ⟨S8x4096x4096, .f32⟩
  | 34 => ⟨S_, .f32⟩
  | 35 => ⟨S8x4096, .f32⟩
  | 36 => ⟨S8x4096x1, .f32⟩
  | 37 => ⟨S8x4096x4096, .f32⟩
  | 38 => ⟨S8x4096x4096, .i1⟩
  | 39 => ⟨S8x4096x4096, .f32⟩
  | 40 => ⟨S_, .f32⟩
  | 41 => ⟨S8x4096, .f32⟩
  | 42 => ⟨S_, .f32⟩
  | 43 => ⟨S8x4096, .f32⟩
  | 44 => ⟨S8x4096, .f32⟩
  | 45 => ⟨S_, .f32⟩
  | 46 => ⟨S8x4096, .f32⟩
  | 47 => ⟨S8x4096, .i1⟩
  | 48 => ⟨S_, .f32⟩
  | 49 => ⟨S8x4096, .f32⟩
  | 50 => ⟨S8x4096, .i1⟩
  | 51 => ⟨S_, .f32⟩
  | 52 => ⟨S8x4096, .f32⟩
  | 53 => ⟨S_, .f32⟩
  | 54 => ⟨S8x4096, .f32⟩
  | 55 => ⟨S_, .f32⟩
  | 56 => ⟨S8x4096, .f32⟩
  | 57 => ⟨S8x4096, .f32⟩
  | 58 => ⟨S8x4096, .f32⟩
  | 59 => ⟨S8x4096x1, .f32⟩
  | 60 => ⟨S8x4096x4096, .f32⟩
  | 61 => ⟨S8x4096x4096, .f32⟩
  | 62 => ⟨S8x4096x4096, .f32⟩
  | 63 => ⟨S_, .f32⟩
  | 64 => ⟨S8x4096, .f32⟩
  | 65 => ⟨S8x4096x1, .f32⟩
  | 66 => ⟨S8x4096x4096, .f32⟩
  | 67 => ⟨S8x4096x4096, .f32⟩
  | 68 => ⟨S8x4096x1, .f32⟩
  | 69 => ⟨S_, .f32⟩
  | 70 => ⟨S8x4096x1, .f32⟩
  | 71 => ⟨S8x4096x1, .f32⟩
  | 72 => ⟨S4096x8x64, .f32⟩
  | 73 => ⟨S8x4096x64, .f32⟩
  | 74 => ⟨S8x4096x64, .f32⟩
  | 75 => ⟨S4096x8x64, .f32⟩
  | 76 => ⟨S4096x512, .f32⟩
  | 77 => ⟨S4096x8x64, .f32⟩
  | 78 => ⟨S8x4096x64, .f32⟩
  | 79 => ⟨S8x64x4096, .f32⟩
  | 80 => ⟨S8x4096x64, .f32⟩
  | 81 => ⟨S8x4096x4096, .f32⟩
  | 82 => ⟨S4096x8x64, .f32⟩
  | 83 => ⟨S4096x512, .f32⟩
  | 84 => ⟨S8x4096x4096, .f32⟩
  | 85 => ⟨S8x4096x4096, .f32⟩
  | 86 => ⟨S8x4096x4096, .f32⟩
  | 87 => ⟨S_, .f32⟩
  | 88 => ⟨S8x4096, .f32⟩
  | 89 => ⟨S8x4096x1, .f32⟩
  | 90 => ⟨S8x4096x1, .f32⟩
  | 91 => ⟨S8x4096x4096, .f32⟩
  | 92 => ⟨S8x4096x4096, .f32⟩
  | 93 => ⟨S_, .f32⟩
  | 94 => ⟨S8x4096, .f32⟩
  | 95 => ⟨S8x4096x4096, .f32⟩
  | 96 => ⟨S8x4096x4096, .f32⟩
  | 97 => ⟨S8x4096x4096, .f32⟩
  | 98 => ⟨S_, .f32⟩
  | 99 => ⟨S8x4096x4096, .f32⟩
  | 100 => ⟨S8x4096x4096, .f32⟩
  | 101 => ⟨S8x4096x4096, .f32⟩
  | 102 => ⟨S_, .f32⟩
  | 103 => ⟨S8x4096, .f32⟩
  | 104 => ⟨S8x1x4096, .f32⟩
  | 105 => ⟨S_, .f32⟩
  | 106 => ⟨S8x4096, .f32⟩
  | 107 => ⟨S4096x8, .f32⟩
  | 108 => ⟨S_, .f32⟩
  | 109 => ⟨S8x4096, .f32⟩
  | 110 => ⟨S8x4096x1, .f32⟩
  | 111 => ⟨S_, .f32⟩
  | 112 => ⟨S8x4096, .f32⟩
  | 113 => ⟨S4096x8, .f32⟩
  | 114 => ⟨S_, .f32⟩
  | 115 => ⟨S8x4096x4096, .f32⟩
  | 116 => ⟨S8x4096x4096, .f32⟩
  | 117 => ⟨S8x4096x64, .f32⟩
  | 118 => ⟨S8x4096x64, .f32⟩
  | 119 => ⟨S4096x8x64, .f32⟩
  | 120 => ⟨S4096x512, .f32⟩
  | 121 => ⟨S4096x8x64, .f32⟩
  | 122 => ⟨S4096x512, .f32⟩
  | 123 => ⟨S8x4096x128, .i32⟩
  | 124 => ⟨S_, .i32⟩
  | 125 => ⟨S8x4096x128, .i32⟩
  | 126 => ⟨S8x4096x128, .i1⟩
  | 127 => ⟨S8x4096, .f32⟩
  | _ => ⟨S4096x512, .f32⟩

abbrev hbmTy0_1 (i : Nat) : BufTy := match i % 128 with
  | 0 => ⟨S8x4096x1, .f32⟩
  | 1 => ⟨S_, .f32⟩
  | 2 => ⟨S4096x512, .f32⟩
  | 3 => ⟨S4096x512, .f32⟩
  | 4 => ⟨S4096x8x64, .f32⟩
  | 5 => ⟨S8x4096x64, .f32⟩
  | 6 => ⟨S_, .i32⟩
  | 7 => ⟨S_, .f32⟩
  | 8 => ⟨S8x4096x128, .f32⟩
  | 9 => ⟨S8x4096x128, .f32⟩
  | 10 => ⟨S8x4096x128, .f32⟩
  | 11 => ⟨S_, .i32⟩
  | 12 => ⟨S8x4096x128, .i32⟩
  | 13 => ⟨S8x4096x128, .i1⟩
  | 14 => ⟨S8x4096, .f32⟩
  | 15 => ⟨S8x4096x1, .f32⟩
  | 16 => ⟨S8x4096x1, .f32⟩
  | 17 => ⟨S4096x8x64, .f32⟩
  | 18 => ⟨S8x4096x64, .f32⟩
  | 19 => ⟨S_, .i32⟩
  | 20 => ⟨S_, .f32⟩
  | 21 => ⟨S8x4096x128, .f32⟩
  | 22 => ⟨S8x4096x128, .f32⟩
  | 23 => ⟨S8x4096x128, .f32⟩
  | 24 => ⟨S4096x8x64, .f32⟩
  | 25 => ⟨S8x4096x64, .f32⟩
  | 26 => ⟨S_, .i32⟩
  | 27 => ⟨S_, .f32⟩
  | 28 => ⟨S8x4096x128, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_call0_v0 : Ref sig .tc := ⟨.hbm, 28, rfl⟩
abbrev main_v21_1 : Ref sig .tc := ⟨.hbm, 29, rfl⟩
abbrev main_call0_v2 : Ref sig .tc := ⟨.hbm, 30, rfl⟩
abbrev main_v21_0 : Ref sig .tc := ⟨.hbm, 31, rfl⟩
abbrev main_call0_cst : Ref sig .tc := ⟨.hbm, 32, rfl⟩
abbrev main_v21_2 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_11 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_12 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_call1_cst : Ref sig .tc := ⟨.hbm, 98, rfl⟩
abbrev main_call1_v0 : Ref sig .tc := ⟨.hbm, 99, rfl⟩
abbrev main_v74 : Ref sig .tc := ⟨.hbm, 100, rfl⟩
abbrev main_v75 : Ref sig .tc := ⟨.hbm, 101, rfl⟩
abbrev main_cst_13 : Ref sig .tc := ⟨.hbm, 102, rfl⟩
abbrev main_v76 : Ref sig .tc := ⟨.hbm, 103, rfl⟩
abbrev main_v77 : Ref sig .tc := ⟨.hbm, 104, rfl⟩
abbrev main_cst_14 : Ref sig .tc := ⟨.hbm, 105, rfl⟩
abbrev main_v78 : Ref sig .tc := ⟨.hbm, 106, rfl⟩
abbrev main_v79 : Ref sig .tc := ⟨.hbm, 107, rfl⟩
abbrev main_cst_15 : Ref sig .tc := ⟨.hbm, 108, rfl⟩
abbrev main_v80 : Ref sig .tc := ⟨.hbm, 109, rfl⟩
abbrev main_v81 : Ref sig .tc := ⟨.hbm, 110, rfl⟩
abbrev main_cst_16 : Ref sig .tc := ⟨.hbm, 111, rfl⟩
abbrev main_v82 : Ref sig .tc := ⟨.hbm, 112, rfl⟩
abbrev main_v83 : Ref sig .tc := ⟨.hbm, 113, rfl⟩
abbrev main_cst_17 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_c : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_18 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_c_19 : Ref sig .tc := ⟨.hbm, 134, rfl⟩
abbrev main_call2_v0 : Ref sig .tc := ⟨.hbm, 135, rfl⟩
abbrev main_v101 : Ref sig .tc := ⟨.hbm, 136, rfl⟩
abbrev main_call3_v0 : Ref sig .tc := ⟨.hbm, 137, rfl⟩
abbrev main_v102 : Ref sig .tc := ⟨.hbm, 138, rfl⟩
abbrev main_c_20 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_c_21 : Ref sig .tc := ⟨.hbm, 147, rfl⟩
abbrev main_call4_v0 : Ref sig .tc := ⟨.hbm, 148, rfl⟩
abbrev main_v110 : Ref sig .tc := ⟨.hbm, 149, rfl⟩
abbrev main_call5_v0 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_c_22 : Ref sig .tc := ⟨.hbm, 154, rfl⟩
abbrev main_call6_v0 : Ref sig .tc := ⟨.hbm, 155, rfl⟩
abbrev main_v114 : Ref sig .tc := ⟨.hbm, 156, rfl⟩

abbrev nD : Nat := 1
abbrev τ : Topo := Topo.v7x

variable {F : FTy → Type} [FloatOps F]
-- ==== KFoxF.lean ====
abbrev S4096x512 : Shape := ⟨2, ![4096, 512]⟩
abbrev S4096x8 : Shape := ⟨2, ![4096, 8]⟩
abbrev S8x4096x128 : Shape := ⟨3, ![8, 4096, 128]⟩
abbrev S_ : Shape := ⟨0, ![]⟩
abbrev S8x4096 : Shape := ⟨2, ![8, 4096]⟩
abbrev S8x4096x1 : Shape := ⟨3, ![8, 4096, 1]⟩
abbrev S4096x8x64 : Shape := ⟨3, ![4096, 8, 64]⟩
abbrev S8x4096x64 : Shape := ⟨3, ![8, 4096, 64]⟩
abbrev S1x1024x128 : Shape := ⟨3, ![1, 1024, 128]⟩
abbrev S1x4096x128 : Shape := ⟨3, ![1, 4096, 128]⟩
abbrev S1024x128 : Shape := ⟨2, ![1024, 128]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 122
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x8, .f32⟩
  | .hbm, ⟨4, _⟩ => ⟨S8x4096x128, .i32⟩
  | .hbm, ⟨5, _⟩ => ⟨S_, .i32⟩
  | .hbm, ⟨6, _⟩ => ⟨S8x4096x128, .i32⟩
  | .hbm, ⟨7, _⟩ => ⟨S8x4096x128, .i1⟩
  | .hbm, ⟨8, _⟩ => ⟨S8x4096, .f32⟩
  | .hbm, ⟨9, _⟩ => ⟨S8x4096x1, .f32⟩
  | .hbm, ⟨10, _⟩ => ⟨S8x4096x1, .bf16⟩
  | .hbm, ⟨11, _⟩ => ⟨S8x4096x1, .f32⟩
  | .hbm, ⟨12, _⟩ => ⟨S8x4096x1, .f32⟩
  | .hbm, ⟨13, _⟩ => ⟨S8x4096x1, .bf16⟩
  | .hbm, ⟨14, _⟩ => ⟨S8x4096x1, .f32⟩
  | .hbm, ⟨15, _⟩ => ⟨S8x4096x1, .f32⟩
  | .hbm, ⟨16, _⟩ => ⟨S_, .i32⟩
  | .hbm, ⟨17, _⟩ => ⟨S8x4096x128, .i32⟩
  | .hbm, ⟨18, _⟩ => ⟨S8x4096x128, .i1⟩
  | .hbm, ⟨19, _⟩ => ⟨S_, .i32⟩
  | .hbm, ⟨20, _⟩ => ⟨S8x4096x128, .i32⟩
  | .hbm, ⟨21, _⟩ => ⟨S8x4096x128, .i1⟩
  | .hbm, ⟨22, _⟩ => ⟨S8x4096x128, .i1⟩
  | .hbm, ⟨23, _⟩ => ⟨S_, .f32⟩
  | .hbm, ⟨24, _⟩ => ⟨S_, .f32⟩
  | .hbm, ⟨25, _⟩ => ⟨S8x4096x128, .f32⟩
  | .hbm, ⟨26, _⟩ => ⟨S8x4096x128, .f32⟩
  | .hbm, ⟨27, _⟩ => ⟨S8x4096x128, .f32⟩
  | .hbm, ⟨28, _⟩ => ⟨S_, .i32⟩
  | .hbm, ⟨29, _⟩ => ⟨S8x4096x128, .i32⟩
  | .hbm, ⟨30, _⟩ => ⟨S8x4096x128, .i1⟩
  | .hbm, ⟨31, _⟩ => ⟨S8x4096x128, .f32⟩
  | .hbm, ⟨32, _⟩ => ⟨S8x4096x128, .f32⟩
  | .hbm, ⟨33, _⟩ => ⟨S8x4096x128, .f32⟩
  | .hbm, ⟨34, _⟩ => ⟨S_, .i32⟩
  | .hbm, ⟨35, _⟩ => ⟨S8x4096x128, .i32⟩
  | .hbm, ⟨36, _⟩ => ⟨S8x4096x128, .i1⟩
  | .hbm, ⟨37, _⟩ => ⟨S8x4096x128, .f32⟩
  | .hbm, ⟨38, _⟩ => ⟨S8x4096x128, .f32⟩
  | .hbm, ⟨39, _⟩ => ⟨S_, .i32⟩
  | .hbm, ⟨40, _⟩ => ⟨S8x4096x128, .i32⟩
  | .hbm, ⟨41, _⟩ => ⟨S8x4096x128, .i1⟩
  | .hbm, ⟨42, _⟩ => ⟨S8x4096x128, .f32⟩
  | .hbm, ⟨43, _⟩ => ⟨S8x4096x128, .f32⟩
  | .hbm, ⟨44, _⟩ => ⟨S8x4096x1, .f32⟩
  | .hbm, ⟨45, _⟩ => ⟨S8x4096x1, .f32⟩
  | .hbm, ⟨46, _⟩ => ⟨S8x4096x1, .f32⟩
  | .hbm, ⟨47, _⟩ => ⟨S_, .i32⟩
  | .hbm, ⟨48, _⟩ => ⟨S8x4096x128, .i32⟩
  | .hbm, ⟨49, _⟩ => ⟨S8x4096x128, .i1⟩
  | .hbm, ⟨50, _⟩ => ⟨S_, .i32⟩
  | .hbm, ⟨51, _⟩ => ⟨S8x4096x128, .i32⟩
  | .hbm, ⟨52, _⟩ => ⟨S8x4096x128, .i1⟩
  | .hbm, ⟨53, _⟩ => ⟨S8x4096x128, .i1⟩
  | .hbm, ⟨54, _⟩ => ⟨S_, .i32⟩
  | .hbm, ⟨55, _⟩ => ⟨S8x4096x128, .i32⟩
  | .hbm, ⟨56, _⟩ => ⟨S8x4096x128, .i1⟩
  | .hbm, ⟨57, _⟩ => ⟨S_, .i32⟩
  | .hbm, ⟨58, _⟩ => ⟨S8x4096x128, .i32⟩
  | .hbm, ⟨59, _⟩ => ⟨S8x4096x128, .i1⟩
  | .hbm, ⟨60, _⟩ => ⟨S8x4096x128, .i1⟩
  | .hbm, ⟨61, _⟩ => ⟨S8x4096x128, .i1⟩
  | .hbm, ⟨62, _⟩ => ⟨S_, .f32⟩
  | .hbm, ⟨63, _⟩ => ⟨S_, .f32⟩
  | .hbm, ⟨64, _⟩ => ⟨S8x4096x128, .f32⟩
  | .hbm, ⟨65, _⟩ => ⟨S8x4096x128, .f32⟩
  | .hbm, ⟨66, _⟩ => ⟨S8x4096x128, .f32⟩
  | .hbm, ⟨67, _⟩ => ⟨S_, .i32⟩
  | .hbm, ⟨68, _⟩ => ⟨S8x4096x128, .i32⟩
  | .hbm, ⟨69, _⟩ => ⟨S8x4096x128, .i1⟩
  | .hbm, ⟨70, _⟩ => ⟨S8x4096x128, .f32⟩
  | .hbm, ⟨71, _⟩ => ⟨S8x4096x128, .f32⟩
  | .hbm, ⟨72, _⟩ => ⟨S8x4096x128, .f32⟩
  | .hbm, ⟨73, _⟩ => ⟨S_, .i32⟩
  | .hbm, ⟨74, _⟩ => ⟨S8x4096x128, .i32⟩
  | .hbm, ⟨75, _⟩ => ⟨S8x4096x128, .i1⟩
  | .hbm, ⟨76, _⟩ => ⟨S8x4096x128, .f32⟩
  | .hbm, ⟨77, _⟩ => ⟨S8x4096x128, .f32⟩
  | .hbm, ⟨78, _⟩ => ⟨S_, .i32⟩
  | .hbm, ⟨79, _⟩ => ⟨S8x4096x128, .i32⟩
  | .hbm, ⟨80, _⟩ => ⟨S8x4096x128, .i1⟩
  | .hbm, ⟨81, _⟩ => ⟨S8x4096x128, .f32⟩
  | .hbm, ⟨82, _⟩ => ⟨S8x4096x128, .f32⟩
  | .hbm, ⟨83, _⟩ => ⟨S_, .i32⟩
  | .hbm, ⟨84, _⟩ => ⟨S8x4096x128, .i32⟩
  | .hbm, ⟨85, _⟩ => ⟨S8x4096x128, .i1⟩
  | .hbm, ⟨86, _⟩ => ⟨S_, .i32⟩
  | .hbm, ⟨87, _⟩ => ⟨S8x4096x128, .i32⟩
  | .hbm, ⟨88, _⟩ => ⟨S8x4096x128, .i1⟩
  | .hbm, ⟨89, _⟩ => ⟨S8x4096x128, .i1⟩
  | .hbm, ⟨90, _⟩ => ⟨S_, .f32⟩
  | .hbm, ⟨91, _⟩ => ⟨S_, .f32⟩
  | .hbm, ⟨92, _⟩ => ⟨S8x4096x128, .f32⟩
  | .hbm, ⟨93, _⟩ => ⟨S8x4096x128, .f32⟩
  | .hbm, ⟨94, _⟩ => ⟨S8x4096x128, .f32⟩
  | .hbm, ⟨95, _⟩ => ⟨S4096x8x64, .f32⟩
  | .hbm, ⟨96, _⟩ => ⟨S8x4096x64, .f32⟩
  | .hbm, ⟨97, _⟩ => ⟨S_, .i32⟩
  | .hbm, ⟨98, _⟩ => ⟨S_, .f32⟩
  | .hbm, ⟨99, _⟩ => ⟨S8x4096x128, .f32⟩
  | .hbm, ⟨100, _⟩ => ⟨S_, .f32⟩
  | .hbm, ⟨101, _⟩ => ⟨S8x4096x128, .f32⟩
  | .hbm, ⟨102, _⟩ => ⟨S8x4096x128, .f32⟩
  | .hbm, ⟨103, _⟩ => ⟨S8x4096x128, .f32⟩
  | .hbm, ⟨104, _⟩ => ⟨S8x4096x128, .bf16⟩
  | .hbm, ⟨105, _⟩ => ⟨S4096x8x64, .f32⟩
  | .hbm, ⟨106, _⟩ => ⟨S8x4096x64, .f32⟩
  | .hbm, ⟨107, _⟩ => ⟨S_, .i32⟩
  | .hbm, ⟨108, _⟩ => ⟨S_, .f32⟩
  | .hbm, ⟨109, _⟩ => ⟨S8x4096x128, .f32⟩
  | .hbm, ⟨110, _⟩ => ⟨S8x4096x128, .f32⟩
  | .hbm, ⟨111, _⟩ => ⟨S8x4096x128, .bf16⟩
  | .hbm, ⟨112, _⟩ => ⟨S4096x8x64, .f32⟩
  | .hbm, ⟨113, _⟩ => ⟨S8x4096x64, .f32⟩
  | .hbm, ⟨114, _⟩ => ⟨S_, .i32⟩
  | .hbm, ⟨115, _⟩ => ⟨S_, .f32⟩
  | .hbm, ⟨116, _⟩ => ⟨S8x4096x128, .f32⟩
  | .hbm, ⟨117, _⟩ => ⟨S8x4096x128, .f32⟩
  | .hbm, ⟨118, _⟩ => ⟨S8x4096x128, .f32⟩
  | .hbm, ⟨119, _⟩ => ⟨S8x4096x128, .bf16⟩
  | .hbm, ⟨120, _⟩ => ⟨S8x4096x128, .bf16⟩
  | .hbm, ⟨121, _⟩ => ⟨S8x4096x128, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x1024x128, .bf16⟩
  | .local _ .vmem, ⟨9, _⟩ => ⟨S1x1024x128, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_call1_v0 : Ref sig .tc := ⟨.hbm, 31, rfl⟩
abbrev main_call1_v1 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_call2_v0 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_call3_v0 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_c_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_c_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_10 : Ref sig .tc := ⟨.hbm, 62, rfl⟩
abbrev main_cst_11 : Ref sig .tc := ⟨.hbm, 63, rfl⟩
abbrev main_call4_v0 : Ref sig .tc := ⟨.hbm, 64, rfl⟩
abbrev main_call4_v1 : Ref sig .tc := ⟨.hbm, 65, rfl⟩
abbrev main_v40 : Ref sig .tc := ⟨.hbm, 66, rfl⟩
abbrev main_c_12 : Ref sig .tc := ⟨.hbm, 67, rfl⟩
abbrev main_v41 : Ref sig .tc := ⟨.hbm, 68, rfl⟩
abbrev main_v42 : Ref sig .tc := ⟨.hbm, 69, rfl⟩
abbrev main_call5_v0 : Ref sig .tc := ⟨.hbm, 70, rfl⟩
abbrev main_call5_v1 : Ref sig .tc := ⟨.hbm, 71, rfl⟩
abbrev main_v43 : Ref sig .tc := ⟨.hbm, 72, rfl⟩
abbrev main_c_13 : Ref sig .tc := ⟨.hbm, 73, rfl⟩
abbrev main_v44 : Ref sig .tc := ⟨.hbm, 74, rfl⟩
abbrev main_v45 : Ref sig .tc := ⟨.hbm, 75, rfl⟩
abbrev main_call6_v0 : Ref sig .tc := ⟨.hbm, 76, rfl⟩
abbrev main_v46 : Ref sig .tc := ⟨.hbm, 77, rfl⟩
abbrev main_c_14 : Ref sig .tc := ⟨.hbm, 78, rfl⟩
abbrev main_v47 : Ref sig .tc := ⟨.hbm, 79, rfl⟩
abbrev main_v48 : Ref sig .tc := ⟨.hbm, 80, rfl⟩
abbrev main_call7_v0 : Ref sig .tc := ⟨.hbm, 81, rfl⟩
abbrev main_v49 : Ref sig .tc := ⟨.hbm, 82, rfl⟩
abbrev main_c_15 : Ref sig .tc := ⟨.hbm, 83, rfl⟩
abbrev main_v50 : Ref sig .tc := ⟨.hbm, 84, rfl⟩
abbrev main_v51 : Ref sig .tc := ⟨.hbm, 85, rfl⟩
abbrev main_c_16 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_17 : Ref sig .tc := ⟨.hbm, 90, rfl⟩
abbrev main_cst_18 : Ref sig .tc := ⟨.hbm, 91, rfl⟩
abbrev main_call8_v0 : Ref sig .tc := ⟨.hbm, 92, rfl⟩
abbrev main_call8_v1 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_c_19 : Ref sig .tc := ⟨.hbm, 97, rfl⟩
abbrev main_call9_v0 : Ref sig .tc := ⟨.hbm, 98, rfl⟩
abbrev main_v58 : Ref sig .tc := ⟨.hbm, 99, rfl⟩
abbrev main_cst_20 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_c_21 : Ref sig .tc := ⟨.hbm, 107, rfl⟩
abbrev main_call11_v0 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_c_22 : Ref sig .tc := ⟨.hbm, 114, rfl⟩
abbrev main_call13_v0 : Ref sig .tc := ⟨.hbm, 115, rfl⟩
abbrev main_v70 : Ref sig .tc := ⟨.hbm, 116, rfl⟩
abbrev main_call14_v0 : Ref sig .tc := ⟨.hbm, 117, rfl⟩
abbrev main_v71 : Ref sig .tc := ⟨.hbm, 118, rfl⟩
abbrev main_v72 : Ref sig .tc := ⟨.hbm, 119, rfl⟩
abbrev main_v73_0 : Ref sig .tc := ⟨.hbm, 120, rfl⟩
abbrev main_v73_1 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32 : BitVec 32 := 0#32
  let arg1 : BitVec 32 := BitVec.ofNat 32 (i 1).val
  let v4 : BitVec 32 := Scalar.subi arg1 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_3 : BitVec 32 := 1#32
  ⟨c0_i32, v8, c1_i32_3⟩
def k0_mult1 (i : grid0.Coords) (k0_t1 : Fin (k0_t1_loop i).trips) : BitVec 32 :=
  let c0_i32 : BitVec 32 := 0#32
  let c1_i32_3 : BitVec 32 := 1#32
  let arg7 : BitVec 32 := Scf.iv c0_i32 c1_i32_3 k0_t1
  let c1024_i32_25 : BitVec 32 := 1024#32
  let v87 : BitVec 32 := Scalar.muli arg7 c1024_i32_25
  v87
def k0_off1 (i : grid0.Coords) (k0_t1 : Fin (k0_t1_loop i).trips) : Fin 3 → Nat :=
  let c0_26 : Index := 0#32
  let c0_i32 : BitVec 32 := 0#32
  let c1_i32_3 : BitVec 32 := 1#32
  let arg7 : BitVec 32 := Scf.iv c0_i32 c1_i32_3 k0_t1
  let c1024_i32_25 : BitVec 32 := 1024#32
  let v87 : BitVec 32 := Scalar.muli arg7 c1024_i32_25
  let v88 : BitVec 32 := v87
  let v89 : Index := Scalar.indexCast v88
  let c0_27 : Index := 0#32
  ![0, v89.toNat, 0]
@[reducible] def k0_t2_loop (i : grid0.Coords) : Scf.Loop 32 :=
  let c0_i32 : BitVec 32 := 0#32
  let arg1 : BitVec 32 := BitVec.ofNat 32 (i 1).val
  let v4 : BitVec 32 := Scalar.subi arg1 c0_i32
  let c1_i32 : BitVec 32 := 1#32
  let v6 : BitVec 32 := Scalar.divsi v4 c1_i32
  let v7 : BitVec 32 := Scalar.muli v6 c1_i32
  let v8 : BitVec 32 := Scalar.addi c0_i32 v7
  let v5 : BitVec 32 := Scalar.addi c0_i32 v4
  let c1_i32_4 : BitVec 32 := 1#32
  ⟨v8, v5, c1_i32_4⟩
def k0_mult2 (i : grid0.Coords) (k0_t2 : Fin (k0_t2_loop i).trips) : BitVec 32 :=
  let c0_i32 : BitVec 32 := 0#32
  let arg1 : BitVec 32 := BitVec.ofNat 32 (i 1).val
  let v4 : BitVec 32 := Scalar.subi arg1 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg7 : BitVec 32 := Scf.iv v8 c1_i32_4 k0_t2
  let c1024_i32_25 : BitVec 32 := 1024#32
  let v87 : BitVec 32 := Scalar.muli arg7 c1024_i32_25
  v87
def k0_off2 (i : grid0.Coords) (k0_t2 : Fin (k0_t2_loop i).trips) : Fin 3 → Nat :=
  let c0_26 : Index := 0#32
  let c0_i32 : BitVec 32 := 0#32
  let arg1 : BitVec 32 := BitVec.ofNat 32 (i 1).val
  let v4 : BitVec 32 := Scalar.subi arg1 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg7 : BitVec 32 := Scf.iv v8 c1_i32_4 k0_t2
  let c1024_i32_25 : BitVec 32 := 1024#32
  let v87 : BitVec 32 := Scalar.muli arg7 c1024_i32_25
  let v88 : BitVec 32 := v87
  let v89 : Index := Scalar.indexCast v88
  let c0_27 : Index := 0#32
  ![0, v89.toNat, 0]
def k0_mult3 (i : grid0.Coords) : BitVec 32 :=
  let arg1 : BitVec 32 := BitVec.ofNat 32 (i 1).val
  let c1024_i32 : BitVec 32 := 1024#32
  let v11 : BitVec 32 := Scalar.muli arg1 c1024_i32
  v11
def k0_off3 (i : grid0.Coords) : Fin 3 → Nat :=
  let c0_5 : Index := 0#32
  let arg1 : BitVec 32 := BitVec.ofNat 32 (i 1).val
  let c1024_i32 : BitVec 32 := 1024#32
  let v11 : BitVec 32 := Scalar.muli arg1 c1024_i32
  let v12 : BitVec 32 := v11
  let v13 : Index := Scalar.indexCast v12
  let c0_6 : Index := 0#32
  ![0, v13.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KFoxFIdeal.lean ====
variable {F : FTy → Type} [FloatOps F] [Named F]
def κ : String → Option EReal := fun
  | "mask" => some ⊥
  | _ => none
-- ==== RFoxFIdeal.lean ====
abbrev S4096x512 : Shape := ⟨2, ![4096, 512]⟩
abbrev S4096x8 : Shape := ⟨2, ![4096, 8]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096x128 : Shape := ⟨3, ![8, 4096, 128]⟩

abbrev nBuf : Space → Nat
  | .hbm => 86
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x8, .f32⟩
  | .hbm, ⟨4, _⟩ => ⟨S4096x8x64, .f32⟩
  | .hbm, ⟨5, _⟩ => ⟨S8x4096x64, .f32⟩
  | .hbm, ⟨6, _⟩ => ⟨S4096x8x64, .f32⟩
  | .hbm, ⟨7, _⟩ => ⟨S8x4096x64, .f32⟩
  | .hbm, ⟨8, _⟩ => ⟨S8x4096x4096, .f32⟩
  | .hbm, ⟨9, _⟩ => ⟨S_, .f32⟩
  | .hbm, ⟨10, _⟩ => ⟨S8x4096x4096, .f32⟩
  | .hbm, ⟨11, _⟩ => ⟨S8x4096x4096, .f32⟩
  | .hbm, ⟨12, _⟩ => ⟨S8x4096, .f32⟩
  | .hbm, ⟨13, _⟩ => ⟨S8x4096x1, .f32⟩
  | .hbm, ⟨14, _⟩ => ⟨S8x4096x4096, .f32⟩
  | .hbm, ⟨15, _⟩ => ⟨S8x4096x4096, .f32⟩
  | .hbm, ⟨16, _⟩ => ⟨S8x4096, .f32⟩
  | .hbm, ⟨17, _⟩ => ⟨S8x1x4096, .f32⟩
  | .hbm, ⟨18, _⟩ => ⟨S8x4096x4096, .f32⟩
  | .hbm, ⟨19, _⟩ => ⟨S8x4096x4096, .f32⟩
  | .hbm, ⟨20, _⟩ => ⟨S4096, .i32⟩
  | .hbm, ⟨21, _⟩ => ⟨S1x4096, .i32⟩
  | .hbm, ⟨22, _⟩ => ⟨S4096x1, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S_, .f32⟩
  | .hbm, ⟨27, _⟩ => ⟨S_, .f32⟩
  | .hbm, ⟨28, _⟩ => ⟨S8x4096x4096, .i1⟩
  | .hbm, ⟨29, _⟩ => ⟨S8x4096x4096, .f32⟩
  | .hbm, ⟨30, _⟩ => ⟨S8x4096x4096, .f32⟩
  | .hbm, ⟨31, _⟩ => ⟨S_, .f32⟩
  | .hbm, ⟨32, _⟩ => ⟨S8x4096, .f32⟩
  | .hbm, ⟨33, _⟩ => ⟨S_, .f32⟩
  | .hbm, ⟨34, _⟩ => ⟨S8x4096, .f32⟩
  | .hbm, ⟨35, _⟩ => ⟨S8x4096, .f32⟩
  | .hbm, ⟨36, _⟩ => ⟨S8x4096x1, .f32⟩
  | .hbm, ⟨37, _⟩ => ⟨S8x4096x4096, .f32⟩
  | .hbm, ⟨38, _⟩ => ⟨S8x4096x4096, .f32⟩
  | .hbm, ⟨39, _⟩ => ⟨S8x4096x4096, .f32⟩
  | .hbm, ⟨40, _⟩ => ⟨S_, .f32⟩
  | .hbm, ⟨41, _⟩ => ⟨S8x4096, .f32⟩
  | .hbm, ⟨42, _⟩ => ⟨S8x4096x1, .f32⟩
  | .hbm, ⟨43, _⟩ => ⟨S8x4096x4096, .f32⟩
  | .hbm, ⟨44, _⟩ => ⟨S8x4096x4096, .f32⟩
  | .hbm, ⟨45, _⟩ => ⟨S4096x8x64, .f32⟩
  | .hbm, ⟨46, _⟩ => ⟨S8x4096x64, .f32⟩
  | .hbm, ⟨47, _⟩ => ⟨S8x4096x64, .f32⟩
  | .hbm, ⟨48, _⟩ => ⟨S_, .f32⟩
  | .hbm, ⟨49, _⟩ => ⟨S8x4096, .f32⟩
  | .hbm, ⟨50, _⟩ => ⟨S8x4096x1, .f32⟩
  | .hbm, ⟨51, _⟩ => ⟨S8x4096x4096, .f32⟩
  | .hbm, ⟨52, _⟩ => ⟨S8x4096x4096, .f32⟩
  | .hbm, ⟨53, _⟩ => ⟨S8x4096x4096, .f32⟩
  | .hbm, ⟨54, _⟩ => ⟨S_, .f32⟩
  | .hbm, ⟨55, _⟩ => ⟨S8x4096, .f32⟩
  | .hbm, ⟨56, _⟩ => ⟨S8x4096x1, .f32⟩
  | .hbm, ⟨57, _⟩ => ⟨S8x4096x1, .f32⟩
  | .hbm, ⟨58, _⟩ => ⟨S8x4096x1, .f32⟩
  | .hbm, ⟨59, _⟩ => ⟨S8x4096x128, .i32⟩
  | .hbm, ⟨60, _⟩ => ⟨S_, .i32⟩
  | .hbm, ⟨61, _⟩ => ⟨S8x4096x128, .i32⟩
  | .hbm, ⟨62, _⟩ => ⟨S8x4096x128, .i1⟩
  | .hbm, ⟨63, _⟩ => ⟨S8x4096, .f32⟩
  | .hbm, ⟨64, _⟩ => ⟨S8x4096x1, .f32⟩
  | .hbm, ⟨65, _⟩ => ⟨S_, .i32⟩
  | .hbm, ⟨66, _⟩ => ⟨S8x4096x128, .i32⟩
  | .hbm, ⟨67, _⟩ => ⟨S8x4096x128, .i1⟩
  | .hbm, ⟨68, _⟩ => ⟨S8x4096x1, .f32⟩
  | .hbm, ⟨69, _⟩ => ⟨S4096x8x64, .f32⟩
  | .hbm, ⟨70, _⟩ => ⟨S8x4096x64, .f32⟩
  | .hbm, ⟨71, _⟩ => ⟨S_, .f32⟩
  | .hbm, ⟨72, _⟩ => ⟨S8x4096x64, .f32⟩
  | .hbm, ⟨73, _⟩ => ⟨S8x4096x64, .f32⟩
  | .hbm, ⟨74, _⟩ => ⟨S_, .i32⟩
  | .hbm, ⟨75, _⟩ => ⟨S_, .f32⟩
  | .hbm, ⟨76, _⟩ => ⟨S8x4096x128, .f32⟩
  | .hbm, ⟨77, _⟩ => ⟨S8x4096x128, .f32⟩
  | .hbm, ⟨78, _⟩ => ⟨S8x4096x128, .f32⟩
  | .hbm, ⟨79, _⟩ => ⟨S8x4096x128, .f32⟩
  | .hbm, ⟨80, _⟩ => ⟨S8x4096x128, .f32⟩
  | .hbm, ⟨81, _⟩ => ⟨S_, .i32⟩
  | .hbm, ⟨82, _⟩ => ⟨S_, .f32⟩
  | .hbm, ⟨83, _⟩ => ⟨S8x4096x128, .f32⟩
  | .hbm, ⟨84, _⟩ => ⟨S8x4096x128, .bf16⟩
  | .hbm, ⟨85, _⟩ => ⟨S8x4096x128, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c_6 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_7 : Ref sig .tc := ⟨.hbm, 71, rfl⟩
abbrev main_v55 : Ref sig .tc := ⟨.hbm, 72, rfl⟩
abbrev main_v56 : Ref sig .tc := ⟨.hbm, 73, rfl⟩
abbrev main_c_8 : Ref sig .tc := ⟨.hbm, 74, rfl⟩
abbrev main_call1_v0 : Ref sig .tc := ⟨.hbm, 75, rfl⟩
abbrev main_v57 : Ref sig .tc := ⟨.hbm, 76, rfl⟩
abbrev main_call2_v0 : Ref sig .tc := ⟨.hbm, 77, rfl⟩
abbrev main_v58 : Ref sig .tc := ⟨.hbm, 78, rfl⟩
abbrev main_call3_v0 : Ref sig .tc := ⟨.hbm, 79, rfl⟩
abbrev main_v59 : Ref sig .tc := ⟨.hbm, 80, rfl⟩
abbrev main_c_9 : Ref sig .tc := ⟨.hbm, 81, rfl⟩
abbrev main_call4_v0 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩

abbrev nD : Nat := 1
abbrev τ : Topo := Topo.v7x

variable {F : FTy → Type} [FloatOps F]
-- ==== KNormOdd.lean ====
abbrev S4096x1024 : Shape := ⟨2, ![4096, 1024]⟩
abbrev S1x1024 : Shape := ⟨2, ![1, 1024]⟩
abbrev S1024x3072 : Shape := ⟨2, ![1024, 3072]⟩
abbrev S4096x3072 : Shape := ⟨2, ![4096, 3072]⟩
abbrev S1x4096x3072 : Shape := ⟨3, ![1, 4096, 3072]⟩
abbrev S1x1024x3072 : Shape := ⟨3, ![1, 1024, 3072]⟩
abbrev S1x512x3072 : Shape := ⟨3, ![1, 512, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S1024 : Shape := ⟨1, ![1024]⟩

abbrev nBuf : Space → Nat
  | .hbm => 10
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3072, .f32⟩
  | .hbm, ⟨3, _⟩ => ⟨S4096x3072, .bf16⟩
  | .hbm, ⟨4, _⟩ => ⟨S4096x1024, .f32⟩
  | .hbm, ⟨5, _⟩ => ⟨S1x4096x3072, .bf16⟩
  | .hbm, ⟨6, _⟩ => ⟨S1024x3072, .bf16⟩
  | .hbm, ⟨7, _⟩ => ⟨S1x1024x3072, .bf16⟩
  | .hbm, ⟨8, _⟩ => ⟨S4096x1024, .f32⟩
  | .hbm, ⟨9, _⟩ => ⟨S1x1024, .f32⟩
  | .local _ .vmem, ⟨0, _⟩ => ⟨S1x512x3072, .bf16⟩
  | .local _ .vmem, ⟨1, _⟩ => ⟨S1x512x3072, .bf16⟩
  | .local _ .vmem, ⟨2, _⟩ => ⟨S1x1024x3072, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![8, 1], ![false, false]⟩

def k0_cond3 (i : grid0.Coords) : BitVec 1 :=
  let arg1 : BitVec 32 := BitVec.ofNat 32 (i 1).val
  let c0_i32_13 : BitVec 32 := 0#32
  let v18 : BitVec 1 := Scalar.cmpi .eq arg1 c0_i32_13
  let v19 : BitVec 32 := Scalar.extui v18
  let c0_i32_14 : BitVec 32 := 0#32
  let v20 : BitVec 1 := Scalar.cmpi .ne v19 c0_i32_14
  v20

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== RNormOddIdeal.lean ====
abbrev S4096x1024 : Shape := ⟨2, ![4096, 1024]⟩
abbrev S1x1024 : Shape := ⟨2, ![1, 1024]⟩
abbrev S1024x3072 : Shape := ⟨2, ![1024, 3072]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3072, .f32⟩
  | .hbm, ⟨3, _⟩ => ⟨S4096x3072, .bf16⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x3072, .f32⟩
  | .hbm, ⟨25, _⟩ => ⟨S4096x3072, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== KNormFfn.lean ====
abbrev S4096x1024 : Shape := ⟨2, ![4096, 1024]⟩
abbrev S1x1024 : Shape := ⟨2, ![1, 1024]⟩
abbrev S1024x2816 : Shape := ⟨2, ![1024, 2816]⟩
abbrev S4x4096x704 : Shape := ⟨3, ![4, 4096, 704]⟩
abbrev S2816x1024 : Shape := ⟨2, ![2816, 1024]⟩
abbrev S4x704x1024 : Shape := ⟨3, ![4, 704, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩
abbrev S1024 : Shape := ⟨1, ![1024]⟩

abbrev nBuf : Space → Nat
  | .hbm => 15
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S4x4096x704, .bf16⟩
  | .hbm, ⟨5, _⟩ => ⟨S4x4096x704, .bf16⟩
  | .hbm, ⟨6, _⟩ => ⟨S4096x1024, .f32⟩
  | .hbm, ⟨7, _⟩ => ⟨S2816x1024, .f32⟩
  | .hbm, ⟨8, _⟩ => ⟨S2816x1024, .bf16⟩
  | .hbm, ⟨9, _⟩ => ⟨S4x704x1024, .bf16⟩
  | .hbm, ⟨10, _⟩ => ⟨S2816x1024, .f32⟩
  | .hbm, ⟨11, _⟩ => ⟨S2816x1024, .bf16⟩
  | .hbm, ⟨12, _⟩ => ⟨S4x704x1024, .bf16⟩
  | .hbm, ⟨13, _⟩ => ⟨S4096x1024, .f32⟩
  | .hbm, ⟨14, _⟩ => ⟨S1x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x512x704, .bf16⟩
  | .local _ .vmem, ⟨3, _⟩ => ⟨S4x512x704, .bf16⟩
  | .local _ .vmem, ⟨4, _⟩ => ⟨S4x704x1024, .bf16⟩
  | .local _ .vmem, ⟨5, _⟩ => ⟨S4x704x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨2, ![8, 1], ![false, false]⟩

def k0_cond3 (i : grid0.Coords) : BitVec 1 :=
  let arg1 : BitVec 32 := BitVec.ofNat 32 (i 1).val
  let c0_i32_59 : BitVec 32 := 0#32
  let v60 : BitVec 1 := Scalar.cmpi .eq arg1 c0_i32_59
  let v61 : BitVec 32 := Scalar.extui v60
  let c0_i32_60 : BitVec 32 := 0#32
  let v62 : BitVec 1 := Scalar.cmpi .ne v61 c0_i32_60
  v62

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== RNormFfnIdeal.lean ====
abbrev S4096x1024 : Shape := ⟨2, ![4096, 1024]⟩
abbrev S1x1024 : Shape := ⟨2, ![1, 1024]⟩
abbrev S1024x2816 : Shape := ⟨2, ![1024, 2816]⟩
abbrev S4x4096x704 : Shape := ⟨3, ![4, 4096, 704]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S4096x4x704 : Shape := ⟨3, ![4096, 4, 704]⟩
abbrev S1024 : Shape := ⟨1, ![1024]⟩

abbrev nBuf : Space → Nat
  | .hbm => 61
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S4x4096x704, .bf16⟩
  | .hbm, ⟨5, _⟩ => ⟨S4x4096x704, .bf16⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x2816, .f32⟩
  | .hbm, ⟨27, _⟩ => ⟨S4096x2816, .f32⟩
  | .hbm, ⟨28, _⟩ => ⟨S4x4096x704, .f32⟩
  | .hbm, ⟨29, _⟩ => ⟨S4096x4x704, .f32⟩
  | .hbm, ⟨30, _⟩ => ⟨S4096x2816, .f32⟩
  | .hbm, ⟨31, _⟩ => ⟨S4x4096x704, .f32⟩
  | .hbm, ⟨32, _⟩ => ⟨S4096x4x704, .f32⟩
  | .hbm, ⟨33, _⟩ => ⟨S4096x2816, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== KNormEven.lean ====
abbrev S4096x1024 : Shape := ⟨2, ![4096, 1024]⟩
abbrev S1x1024 : Shape := ⟨2, ![1, 1024]⟩
abbrev S1024x2568 : Shape := ⟨2, ![1024, 2568]⟩
abbrev S4096x2560 : Shape := ⟨2, ![4096, 2560]⟩
abbrev S4096x8 : Shape := ⟨2, ![4096, 8]⟩
abbrev S1024x2560 : Shape := ⟨2, ![1024, 2560]⟩
abbrev S1024x8 : Shape := ⟨2, ![1024, 8]⟩
abbrev S_ : Shape := ⟨0, ![]⟩
abbrev S1024x128 : Shape := ⟨2, ![1024, 128]⟩
abbrev S4096x128 : Shape := ⟨2, ![4096, 128]⟩
abbrev S1x4096x2560 : Shape := ⟨3, ![1, 4096, 2560]⟩
abbrev S1x4096x128 : Shape := ⟨3, ![1, 4096, 128]⟩
abbrev S1x1024x2560 : Shape := ⟨3, ![1, 1024, 2560]⟩
abbrev S1x1024x128 : Shape := ⟨3, ![1, 1024, 128]⟩
abbrev S1x512x2560 : Shape := ⟨3, ![1, 512, 2560]⟩
abbrev S1x512x128 : Shape := ⟨3, ![1, 512, 128]⟩
abbrev S512x1024 : Shape := ⟨2, ![512, 1024]⟩
abbrev S512x2560 : Shape := ⟨2, ![512, 2560]⟩
abbrev S512x128 : Shape := ⟨2, ![512, 128]⟩
abbrev S512 : Shape := ⟨1, ![512]⟩
abbrev S512x1 : Shape := ⟨2, ![512, 1]⟩
abbrev S1024 : Shape := ⟨1, ![1024]⟩

abbrev nBuf : Space → Nat
  | .hbm => 22
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2568, .f32⟩
  | .hbm, ⟨3, _⟩ => ⟨S4096x2560, .bf16⟩
  | .hbm, ⟨4, _⟩ => ⟨S4096x8, .f32⟩
  | .hbm, ⟨5, _⟩ => ⟨S4096x1024, .f32⟩
  | .hbm, ⟨6, _⟩ => ⟨S1024x2568, .bf16⟩
  | .hbm, ⟨7, _⟩ => ⟨S1024x2560, .bf16⟩
  | .hbm, ⟨8, _⟩ => ⟨S1024x8, .bf16⟩
  | .hbm, ⟨9, _⟩ => ⟨S_, .i32⟩
  | .hbm, ⟨10, _⟩ => ⟨S_, .bf16⟩
  | .hbm, ⟨11, _⟩ => ⟨S1024x128, .bf16⟩
  | .hbm, ⟨12, _⟩ => ⟨S_, .i32⟩
  | .hbm, ⟨13, _⟩ => ⟨S_, .f32⟩
  | .hbm, ⟨14, _⟩ => ⟨S4096x128, .f32⟩
  | .hbm, ⟨15, _⟩ => ⟨S4096x128, .bf16⟩
  | .hbm, ⟨16, _⟩ => ⟨S1x4096x2560, .bf16⟩
  | .hbm, ⟨17, _⟩ => ⟨S1x4096x128, .bf16⟩
  | .hbm, ⟨18, _⟩ => ⟨S1x1024x2560, .bf16⟩
  | .hbm, ⟨19, _⟩ => ⟨S1x1024x128, .bf16⟩
  | .hbm, ⟨20, _⟩ => ⟨S4096x1024, .f32⟩
  | .hbm, ⟨21, _⟩ => ⟨S1x1024, .f32⟩
  | .local _ .vmem, ⟨0, _⟩ => ⟨S1x512x2560, .bf16⟩
  | .local _ .vmem, ⟨1, _⟩ => ⟨S1x512x2560, .bf16⟩
  | .local _ .vmem, ⟨2, _⟩ => ⟨S1x512x128, .bf16⟩
  | .local _ .vmem, ⟨3, _⟩ => ⟨S1x512x128, .bf16⟩
  | .local _ .vmem, ⟨4, _⟩ => ⟨S1x1024x2560, .bf16⟩
  | .local _ .vmem, ⟨5, _⟩ => ⟨S1x1024x128, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_c_0 : Ref sig .tc := ⟨.hbm, 12, rfl⟩
abbrev main_call1_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨2, ![8, 1], ![false, false]⟩

def k0_cond3 (i : grid0.Coords) : BitVec 1 :=
  let arg1 : BitVec 32 := BitVec.ofNat 32 (i 1).val
  let c0_i32_20 : BitVec 32 := 0#32
  let v24 : BitVec 1 := Scalar.cmpi .eq arg1 c0_i32_20
  let v25 : BitVec 32 := Scalar.extui v24
  let c0_i32_21 : BitVec 32 := 0#32
  let v26 : BitVec 1 := Scalar.cmpi .ne v25 c0_i32_21
  v26

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== RNormEvenIdeal.lean ====
abbrev S4096x1024 : Shape := ⟨2, ![4096, 1024]⟩
abbrev S1x1024 : Shape := ⟨2, ![1, 1024]⟩
abbrev S1024x2568 : Shape := ⟨2, ![1024, 2568]⟩
abbrev S4096x2560 : Shape := ⟨2, ![4096, 2560]⟩
abbrev S4096x8 : Shape := ⟨2, ![4096, 8]⟩
abbrev S_ : Shape := ⟨0, ![]⟩
abbrev S4096 : Shape := ⟨1, ![4096]⟩
abbrev S4096x1 : Shape := ⟨2, ![4096, 1]⟩
abbrev S4096x2568 : Shape := ⟨2, ![4096, 2568]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2568, .f32⟩
  | .hbm, ⟨3, _⟩ => ⟨S4096x2560, .bf16⟩
  | .hbm, ⟨4, _⟩ => ⟨S4096x8, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x2568, .f32⟩
  | .hbm, ⟨26, _⟩ => ⟨S4096x2560, .f32⟩
  | .hbm, ⟨27, _⟩ => ⟨S4096x2568, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== KForget.lean ====
abbrev S4096x8 : Shape := ⟨2, ![4096, 8]⟩
abbrev S1x8 : Shape := ⟨2, ![1, 8]⟩
abbrev S_ : Shape := ⟨0, ![]⟩
abbrev S4096x128 : Shape := ⟨2, ![4096, 128]⟩
abbrev S1x128 : Shape := ⟨2, ![1, 128]⟩
abbrev S256x256 : Shape := ⟨2, ![256, 256]⟩
abbrev S256x128 : Shape := ⟨2, ![256, 128]⟩
abbrev S128 : Shape := ⟨1, ![128]⟩

abbrev nBuf : Space → Nat
  | .hbm => 16
  | .vmem => 4
  | .smem => 0
  | _ => 0

abbrev bufTy : (tb : Table) → Fin (tcTables nBuf tb) → BufTy
  | .hbm, ⟨0, _⟩ => ⟨S4096x8, .f32⟩
  | .hbm, ⟨1, _⟩ => ⟨S1x8, .f32⟩
  | .hbm, ⟨2, _⟩ => ⟨S4096x8, .f32⟩
  | .hbm, ⟨3, _⟩ => ⟨S_, .i32⟩
  | .hbm, ⟨4, _⟩ => ⟨S_, .f32⟩
  | .hbm, ⟨5, _⟩ => ⟨S4096x128, .f32⟩
  | .hbm, ⟨6, _⟩ => ⟨S_, .i32⟩
  | .hbm, ⟨7, _⟩ => ⟨S_, .f32⟩
  | .hbm, ⟨8, _⟩ => ⟨S4096x128, .f32⟩
  | .hbm, ⟨9, _⟩ => ⟨S_, .i32⟩
  | .hbm, ⟨10, _⟩ => ⟨S_, .f32⟩
  | .hbm, ⟨11, _⟩ => ⟨S1x128, .f32⟩
  | .hbm, ⟨12, _⟩ => ⟨S4096x128, .f32⟩
  | .hbm, ⟨13, _⟩ => ⟨S4096x128, .f32⟩
  | .hbm, ⟨14, _⟩ => ⟨S4096x128, .f32⟩
  | .hbm, ⟨15, _⟩ => ⟨S1x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S1x128, .f32⟩
  | _, _ => ⟨S4096x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_c_1 : Ref sig .tc := ⟨.hbm, 9, rfl⟩
abbrev main_call2_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v7 : BitVec 32 := Scalar.addi c0_i32 c16_i32
  let c1_i32 : BitVec 32 := 1#32
  ⟨c0_i32, v7, c1_i32⟩
def k0_mult1 (k0_t1 : Fin k0_t1_loop.trips) : BitVec 32 :=
  let c15_i32 : BitVec 32 := 15#32
  let c0_i32 : BitVec 32 := 0#32
  let c1_i32 : BitVec 32 := 1#32
  let arg4 : BitVec 32 := Scf.iv c0_i32 c1_i32 k0_t1
  let v10 : BitVec 32 := Scalar.subi c15_i32 arg4
  let c256_i32 : BitVec 32 := 256#32
  let v11 : BitVec 32 := Scalar.muli v10 c256_i32
  v11
def k0_off1 (k0_t1 : Fin k0_t1_loop.trips) : Fin 2 → Nat :=
  let c15_i32 : BitVec 32 := 15#32
  let c0_i32 : BitVec 32 := 0#32
  let c1_i32 : BitVec 32 := 1#32
  let arg4 : BitVec 32 := Scf.iv c0_i32 c1_i32 k0_t1
  let v10 : BitVec 32 := Scalar.subi c15_i32 arg4
  let c256_i32 : BitVec 32 := 256#32
  let v11 : BitVec 32 := Scalar.muli v10 c256_i32
  let v12 : BitVec 32 := v11
  let v13 : Index := Scalar.indexCast v12
  let c0_3 : Index := 0#32
  ![v13.toNat, 0]
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== RForgetIdeal.lean ====
abbrev S4096x8 : Shape := ⟨2, ![4096, 8]⟩
abbrev S1x8 : Shape := ⟨2, ![1, 8]⟩
abbrev S_ : Shape := ⟨0, ![]⟩
abbrev S8 : Shape := ⟨1, ![8]⟩
abbrev S4096x128 : Shape := ⟨2, ![4096, 128]⟩
abbrev S1x128 : Shape := ⟨2, ![1, 128]⟩

abbrev nBuf : Space → Nat
  | .hbm => 71
  | .vmem => 0
  | .smem => 0
  | _ => 0

abbrev bufTy : (tb : Table) → Fin (tcTables nBuf tb) → BufTy
  | .hbm, ⟨0, _⟩ => ⟨S4096x8, .f32⟩
  | .hbm, ⟨1, _⟩ => ⟨S1x8, .f32⟩
  | .hbm, ⟨2, _⟩ => ⟨S4096x8, .f32⟩
  | .hbm, ⟨3, _⟩ => ⟨S4096x8, .f32⟩
  | .hbm, ⟨4, _⟩ => ⟨S4096x8, .f32⟩
  | .hbm, ⟨5, _⟩ => ⟨S4096x8, .f32⟩
  | .hbm, ⟨6, _⟩ => ⟨S_, .f32⟩
  | .hbm, ⟨7, _⟩ => ⟨S4096x8, .f32⟩
  | .hbm, ⟨8, _⟩ => ⟨S4096x8, .f32⟩
  | .hbm, ⟨9, _⟩ => ⟨S4096x8, .f32⟩
  | .hbm, ⟨10, _⟩ => ⟨S4096x8, .f32⟩
  | .hbm, ⟨11, _⟩ => ⟨S4096x8, .i1⟩
  | .hbm, ⟨12, _⟩ => ⟨S4096x8, .f32⟩
  | .hbm, ⟨13, _⟩ => ⟨S4096x8, .f32⟩
  | .hbm, ⟨14, _⟩ => ⟨S4096x8, .f32⟩
  | .hbm, ⟨15, _⟩ => ⟨S4096x8, .f32⟩
  | .hbm, ⟨16, _⟩ => ⟨S4096x8, .f32⟩
  | .hbm, ⟨17, _⟩ => ⟨S4096x8, .f32⟩
  | .hbm, ⟨18, _⟩ => ⟨S4096x8, .f32⟩
  | .hbm, ⟨19, _⟩ => ⟨S4096x8, .f32⟩
  | .hbm, ⟨20, _⟩ => ⟨S_, .f32⟩
  | .hbm, ⟨21, _⟩ => ⟨S4096x8, .f32⟩
  | .hbm, ⟨22, _⟩ => ⟨S4096x8, .i1⟩
  | .hbm, ⟨23, _⟩ => ⟨S_, .f32⟩
  | .hbm, ⟨24, _⟩ => ⟨S4096x8, .f32⟩
  | .hbm, ⟨25, _⟩ => ⟨S4096x8, .f32⟩
  | .hbm, ⟨26, _⟩ => ⟨S_, .f32⟩
  | .hbm, ⟨27, _⟩ => ⟨S4096x8, .f32⟩
  | .hbm, ⟨28, _⟩ => ⟨S4096x8, .i1⟩
  | .hbm, ⟨29, _⟩ => ⟨S_, .f32⟩
  | .hbm, ⟨30, _⟩ => ⟨S4096x8, .f32⟩
  | .hbm, ⟨31, _⟩ => ⟨S4096x8, .f32⟩
  | .hbm, ⟨32, _⟩ => ⟨S4096x8, .f32⟩
  | .hbm, ⟨33, _⟩ => ⟨S4096x8, .f32⟩
  | .hbm, ⟨34, _⟩ => ⟨S_, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096x8, .f32⟩
  | .hbm, ⟨42, _⟩ => ⟨S4096x8, .i1⟩
  | .hbm, ⟨43, _⟩ => ⟨S_, .f32⟩
  | .hbm, ⟨44, _⟩ => ⟨S4096x8, .f32⟩
  | .hbm, ⟨45, _⟩ => ⟨S4096x8, .f32⟩
  | .hbm, ⟨46, _⟩ => ⟨S4096x8, .f32⟩
  | .hbm, ⟨47, _⟩ => ⟨S4096x8, .f32⟩
  | .hbm, ⟨48, _⟩ => ⟨S4096x8, .f32⟩
  | .hbm, ⟨49, _⟩ => ⟨S_, .f32⟩
  | .hbm, ⟨50, _⟩ => ⟨S4096x8, .f32⟩
  | .hbm, ⟨51, _⟩ => ⟨S4096x8, .f32⟩
  | .hbm, ⟨52, _⟩ => ⟨S4096x8, .f32⟩
  | .hbm, ⟨53, _⟩ => ⟨S_, .f32⟩
  | .hbm, ⟨54, _⟩ => ⟨S_, .f32⟩
  | .hbm, ⟨55, _⟩ => ⟨S4096x8, .f32⟩
  | .hbm, ⟨56, _⟩ => ⟨S_, .f32⟩
  | .hbm, ⟨57, _⟩ => ⟨S_, .f32⟩
  | .hbm, ⟨58, _⟩ => ⟨S4096x8, .f32⟩
  | .hbm, ⟨59, _⟩ => ⟨S4096x8, .f32⟩
  | .hbm, ⟨60, _⟩ => ⟨S4096x8, .f32⟩
  | .hbm, ⟨61, _⟩ => ⟨S4096x8, .f32⟩
  | .hbm, ⟨62, _⟩ => ⟨S_, .f32⟩
  | .hbm, ⟨63, _⟩ => ⟨S8, .f32⟩
  | .hbm, ⟨64, _⟩ => ⟨S1x8, .f32⟩
  | .hbm, ⟨65, _⟩ => ⟨S_, .i32⟩
  | .hbm, ⟨66, _⟩ => ⟨S_, .f32⟩
  | .hbm, ⟨67, _⟩ => ⟨S4096x128, .f32⟩
  | .hbm, ⟨68, _⟩ => ⟨S_, .i32⟩
  | .hbm, ⟨69, _⟩ => ⟨S_, .f32⟩
  | .hbm, ⟨70, _⟩ => ⟨S1x128, .f32⟩
  | _, _ => ⟨S4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1_0 : Ref sig .tc := ⟨.hbm, 19, rfl⟩
abbrev main_call0_call0_cst_0 : Ref sig .tc := ⟨.hbm, 20, rfl⟩
abbrev main_call0_call0_v13 : Ref sig .tc := ⟨.hbm, 21, rfl⟩
abbrev main_call0_call0_v14 : Ref sig .tc := ⟨.hbm, 22, rfl⟩
abbrev main_call0_call0_cst_1 : Ref sig .tc := ⟨.hbm, 23, rfl⟩
abbrev main_call0_call0_v15 : Ref sig .tc := ⟨.hbm, 24, rfl⟩
abbrev main_call0_call0_v16 : Ref sig .tc := ⟨.hbm, 25, rfl⟩
abbrev main_call0_call0_cst_2 : Ref sig .tc := ⟨.hbm, 26, rfl⟩
abbrev main_call0_call0_v17 : Ref sig .tc := ⟨.hbm, 27, rfl⟩
abbrev main_call0_call0_v18 : Ref sig .tc := ⟨.hbm, 28, rfl⟩
abbrev main_call0_call0_cst_3 : Ref sig .tc := ⟨.hbm, 29, rfl⟩
abbrev main_call0_call0_v19 : Ref sig .tc := ⟨.hbm, 30, rfl⟩
abbrev main_call0_call0_v20 : Ref sig .tc := ⟨.hbm, 31, rfl⟩
abbrev main_call0_call0_v21 : Ref sig .tc := ⟨.hbm, 32, rfl⟩
abbrev main_v2_1 : Ref sig .tc := ⟨.hbm, 33, rfl⟩
abbrev main_call0_call0_cst_4 : Ref sig .tc := ⟨.hbm, 34, rfl⟩
abbrev main_call0_call0_cst_5 : Ref sig .tc := ⟨.hbm, 35, rfl⟩
abbrev main_call0_call0_v23 : Ref sig .tc := ⟨.hbm, 36, rfl⟩
abbrev main_call0_call0_cst_6 : Ref sig .tc := ⟨.hbm, 37, rfl⟩
abbrev main_call0_call0_cst_7 : Ref sig .tc := ⟨.hbm, 38, rfl⟩
abbrev main_call0_call0_v24 : Ref sig .tc := ⟨.hbm, 39, rfl⟩
abbrev main_call0_call0_cst_8 : Ref sig .tc := ⟨.hbm, 40, rfl⟩
abbrev main_call0_call0_v25 : Ref sig .tc := ⟨.hbm, 41, rfl⟩
abbrev main_call0_call0_v26 : Ref sig .tc := ⟨.hbm, 42, rfl⟩
abbrev main_call0_call0_cst_9 : Ref sig .tc := ⟨.hbm, 43, rfl⟩
abbrev main_call0_call0_v27 : Ref sig .tc := ⟨.hbm, 44, rfl⟩
abbrev main_call0_call0_v28 : Ref sig .tc := ⟨.hbm, 45, rfl⟩
abbrev main_call0_call0_v29 : Ref sig .tc := ⟨.hbm, 46, rfl⟩
abbrev main_call0_call0_v30 : Ref sig .tc := ⟨.hbm, 47, rfl⟩
abbrev main_call0_call0_v31 : Ref sig .tc := ⟨.hbm, 48, rfl⟩
abbrev main_call0_call0_cst_10 : Ref sig .tc := ⟨.hbm, 49, rfl⟩
abbrev main_call0_call0_v32 : Ref sig .tc := ⟨.hbm, 50, rfl⟩
abbrev main_v2_2 : Ref sig .tc := ⟨.hbm, 51, rfl⟩
abbrev main_v2_0 : Ref sig .tc := ⟨.hbm, 52, rfl⟩
abbrev main_call1_call0_cst : Ref sig .tc := ⟨.hbm, 53, rfl⟩
abbrev main_call1_call0_v0 : Ref sig .tc := ⟨.hbm, 54, rfl⟩
abbrev main_v3 : Ref sig .tc := ⟨.hbm, 55, rfl⟩
abbrev main_call2_call0_cst : Ref sig .tc := ⟨.hbm, 56, rfl⟩
abbrev main_call2_call0_v0 : Ref sig .tc := ⟨.hbm, 57, rfl⟩
abbrev main_v4 : Ref sig .tc := ⟨.hbm, 58, rfl⟩
abbrev main_call3_v0 : Ref sig .tc := ⟨.hbm, 59, rfl⟩
abbrev main_call3_v1 : Ref sig .tc := ⟨.hbm, 60, rfl⟩
abbrev main_v5 : Ref sig .tc := ⟨.hbm, 61, rfl⟩
abbrev main_cst : Ref sig .tc := ⟨.hbm, 62, rfl⟩
abbrev main_v6 : Ref sig .tc := ⟨.hbm, 63, rfl⟩
abbrev main_v7 : Ref sig .tc := ⟨.hbm, 64, rfl⟩
abbrev main_c : Ref sig .tc := ⟨.hbm, 65, rfl⟩
abbrev main_call4_v0 : Ref sig .tc := ⟨.hbm, 66, rfl⟩
abbrev main_v8 : Ref sig .tc := ⟨.hbm, 67, rfl⟩
abbrev main_c_0 : Ref sig .tc := ⟨.hbm, 68, rfl⟩
abbrev main_call5_v0 : Ref sig .tc := ⟨.hbm, 69, rfl⟩
abbrev main_v9 : Ref sig .tc := ⟨.hbm, 70, rfl⟩

abbrev nD : Nat := 1
abbrev τ : Topo := Topo.v7x

variable {F : FTy → Type} [FloatOps F]
-- ==== KFfn.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1024x1024 : Shape := ⟨2, ![1024, 1024]⟩
abbrev S1x1024x704 : Shape := ⟨3, ![1, 1024, 704]⟩
abbrev S1x704x1024 : Shape := ⟨3, ![1, 704, 1024]⟩
abbrev S704x1024 : Shape := ⟨2, ![704, 1024]⟩
abbrev S1024x704 : Shape := ⟨2, ![1024, 704]⟩
abbrev S512x1024 : Shape := ⟨2, ![512, 1024]⟩
abbrev S1x512x704 : Shape := ⟨3, ![1, 512, 704]⟩
abbrev S512x704 : Shape := ⟨2, ![512, 704]⟩

abbrev nBuf : Space → Nat
  | .hbm => 37
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x2816, .f32⟩
  | .hbm, ⟨22, _⟩ => ⟨S4096x2816, .f32⟩
  | .hbm, ⟨23, _⟩ => ⟨S4096x1024, .bf16⟩
  | .hbm, ⟨24, _⟩ => ⟨S4096x4x704, .f32⟩
  | .hbm, ⟨25, _⟩ => ⟨S4x4096x704, .f32⟩
  | .hbm, ⟨26, _⟩ => ⟨S4x4096x704, .bf16⟩
  | .hbm, ⟨27, _⟩ => ⟨S4096x4x704, .f32⟩
  | .hbm, ⟨28, _⟩ => ⟨S4x4096x704, .f32⟩
  | .hbm, ⟨29, _⟩ => ⟨S4x4096x704, .bf16⟩
  | .hbm, ⟨30, _⟩ => ⟨S2816x1024, .bf16⟩
  | .hbm, ⟨31, _⟩ => ⟨S4x704x1024, .bf16⟩
  | .hbm, ⟨32, _⟩ => ⟨S4x704x1024, .bf16⟩
  | .hbm, ⟨33, _⟩ => ⟨S4x704x1024, .bf16⟩
  | .hbm, ⟨34, _⟩ => ⟨S4x704x1024, .bf16⟩
  | .hbm, ⟨35, _⟩ => ⟨S4x4096x704, .bf16⟩
  | .hbm, ⟨36, _⟩ => ⟨S4x4096x704, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x704x1024, .bf16⟩
  | .local _ .vmem, ⟨9, _⟩ => ⟨S1x704x1024, .bf16⟩
  | .local _ .vmem, ⟨10, _⟩ => ⟨S1x704x1024, .bf16⟩
  | .local _ .vmem, ⟨11, _⟩ => ⟨S1x704x1024, .bf16⟩
  | .local _ .vmem, ⟨12, _⟩ => ⟨S1x704x1024, .bf16⟩
  | .local _ .vmem, ⟨13, _⟩ => ⟨S1x704x1024, .bf16⟩
  | .local _ .vmem, ⟨14, _⟩ => ⟨S1x704x1024, .bf16⟩
  | .local _ .vmem, ⟨15, _⟩ => ⟨S1x704x1024, .bf16⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | .local _ .vmem, ⟨19, _⟩ => ⟨S1x1024x704, .bf16⟩
  | .local _ .vmem, ⟨20, _⟩ => ⟨S704x1024, .f32⟩
  | .local _ .vmem, ⟨21, _⟩ => ⟨S704x1024, .f32⟩
  | .local _ .vmem, ⟨22, _⟩ => ⟨S704x1024, .f32⟩
  | .local _ .vmem, ⟨23, _⟩ => ⟨S1024x1024, .bf16⟩
  | .local _ .vmem, ⟨24, _⟩ => ⟨S1024x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev main_v23_2 : Ref sig .tc := ⟨.hbm, 34, rfl⟩
abbrev main_v23_3 : Ref sig .tc := ⟨.hbm, 35, rfl⟩
abbrev main_v23_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v109 : BitVec 1 := Scalar.cmpi .eq arg1 c3_i32
  let v110 : BitVec 32 := Scalar.extui v109
  let c0_i32_75 : BitVec 32 := 0#32
  let v111 : BitVec 1 := Scalar.cmpi .ne v110 c0_i32_75
  v111

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== RFfnIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S4x704x1024 : Shape := ⟨3, ![4, 704, 1024]⟩
abbrev S4096x4x704 : Shape := ⟨3, ![4096, 4, 704]⟩
abbrev S4x4096x704 : Shape := ⟨3, ![4, 4096, 704]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S1024x2816, .f32⟩
  | .hbm, ⟨45, _⟩ => ⟨S2816x1024, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S2816x1024, .f32⟩
  | .hbm, ⟨54, _⟩ => ⟨S1024x2816, .f32⟩
  | .hbm, ⟨55, _⟩ => ⟨S2816x1024, .f32⟩
  | .hbm, ⟨56, _⟩ => ⟨S1024x2816, .f32⟩
  | .hbm, ⟨57, _⟩ => ⟨S2816x1024, .f32⟩
  | .hbm, ⟨58, _⟩ => ⟨S4x704x1024, .f32⟩
  | .hbm, ⟨59, _⟩ => ⟨S4x704x1024, .bf16⟩
  | .hbm, ⟨60, _⟩ => ⟨S2816x1024, .f32⟩
  | .hbm, ⟨61, _⟩ => ⟨S4x704x1024, .f32⟩
  | .hbm, ⟨62, _⟩ => ⟨S4x704x1024, .bf16⟩
  | .hbm, ⟨63, _⟩ => ⟨S4x704x1024, .f32⟩
  | .hbm, ⟨64, _⟩ => ⟨S4x704x1024, .bf16⟩
  | .hbm, ⟨65, _⟩ => ⟨S4096x4x704, .f32⟩
  | .hbm, ⟨66, _⟩ => ⟨S4x4096x704, .f32⟩
  | .hbm, ⟨67, _⟩ => ⟨S4x4096x704, .bf16⟩
  | .hbm, ⟨68, _⟩ => ⟨S4096x4x704, .f32⟩
  | .hbm, ⟨69, _⟩ => ⟨S4x4096x704, .f32⟩
  | .hbm, ⟨70, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v14_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v14_1 : Ref sig .tc := ⟨.hbm, 34, rfl⟩
abbrev main_v14_0 : Ref sig .tc := ⟨.hbm, 35, rfl⟩
abbrev main_v15 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_cst_3 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩

abbrev nD : Nat := 1
abbrev τ : Topo := Topo.v7x

variable {F : FTy → Type} [FloatOps F]
-- ==== KDoPrep.lean ====
abbrev S4096x512 : Shape := ⟨2, ![4096, 512]⟩
abbrev S4096x8 : Shape := ⟨2, ![4096, 8]⟩
abbrev S4096x1024 : Shape := ⟨2, ![4096, 1024]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096x128 : Shape := ⟨3, ![8, 4096, 128]⟩
abbrev S2048x128 : Shape := ⟨2, ![2048, 128]⟩
abbrev S2x2048x128 : Shape := ⟨3, ![2, 2048, 128]⟩
abbrev S1x2048x128 : Shape := ⟨3, ![1, 2048, 128]⟩
abbrev S2048 : Shape := ⟨1, ![2048]⟩
abbrev S2048x1 : Shape := ⟨2, ![2048, 1]⟩

abbrev nBuf : Space → Nat
  | .hbm => 54
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x8, .f32⟩
  | .hbm, ⟨4, _⟩ => ⟨S4096x1024, .f32⟩
  | .hbm, ⟨5, _⟩ => ⟨S4096x8x64, .f32⟩
  | .hbm, ⟨6, _⟩ => ⟨S8x4096x64, .f32⟩
  | .hbm, ⟨7, _⟩ => ⟨S4096x8x64, .f32⟩
  | .hbm, ⟨8, _⟩ => ⟨S8x4096x64, .f32⟩
  | .hbm, ⟨9, _⟩ => ⟨S8x4096x4096, .f32⟩
  | .hbm, ⟨10, _⟩ => ⟨S_, .f32⟩
  | .hbm, ⟨11, _⟩ => ⟨S8x4096x4096, .f32⟩
  | .hbm, ⟨12, _⟩ => ⟨S8x4096x4096, .f32⟩
  | .hbm, ⟨13, _⟩ => ⟨S8x4096, .f32⟩
  | .hbm, ⟨14, _⟩ => ⟨S8x4096x1, .f32⟩
  | .hbm, ⟨15, _⟩ => ⟨S8x4096x4096, .f32⟩
  | .hbm, ⟨16, _⟩ => ⟨S8x4096x4096, .f32⟩
  | .hbm, ⟨17, _⟩ => ⟨S8x4096, .f32⟩
  | .hbm, ⟨18, _⟩ => ⟨S8x1x4096, .f32⟩
  | .hbm, ⟨19, _⟩ => ⟨S8x4096x4096, .f32⟩
  | .hbm, ⟨20, _⟩ => ⟨S8x4096x4096, .f32⟩
  | .hbm, ⟨21, _⟩ => ⟨S4096, .i32⟩
  | .hbm, ⟨22, _⟩ => ⟨S1x4096, .i32⟩
  | .hbm, ⟨23, _⟩ => ⟨S4096x1, .i32⟩
  | .hbm, ⟨24, _⟩ => ⟨S4096x4096, .i32⟩
  | .hbm, ⟨25, _⟩ => ⟨S4096x4096, .i32⟩
  | .hbm, ⟨26, _⟩ => ⟨S4096x4096, .i1⟩
  | .hbm, ⟨27, _⟩ => ⟨S_, .f32⟩
  | .hbm, ⟨28, _⟩ => ⟨S_, .f32⟩
  | .hbm, ⟨29, _⟩ => ⟨S8x4096x4096, .i1⟩
  | .hbm, ⟨30, _⟩ => ⟨S8x4096x4096, .f32⟩
  | .hbm, ⟨31, _⟩ => ⟨S8x4096x4096, .f32⟩
  | .hbm, ⟨32, _⟩ => ⟨S_, .f32⟩
  | .hbm, ⟨33, _⟩ => ⟨S8x4096, .f32⟩
  | .hbm, ⟨34, _⟩ => ⟨S_, .f32⟩
  | .hbm, ⟨35, _⟩ => ⟨S8x4096, .f32⟩
  | .hbm, ⟨36, _⟩ => ⟨S8x4096, .f32⟩
  | .hbm, ⟨37, _⟩ => ⟨S8x4096x1, .f32⟩
  | .hbm, ⟨38, _⟩ => ⟨S8x4096x4096, .f32⟩
  | .hbm, ⟨39, _⟩ => ⟨S8x4096x4096, .f32⟩
  | .hbm, ⟨40, _⟩ => ⟨S8x4096x4096, .f32⟩
  | .hbm, ⟨41, _⟩ => ⟨S_, .f32⟩
  | .hbm, ⟨42, _⟩ => ⟨S8x4096, .f32⟩
  | .hbm, ⟨43, _⟩ => ⟨S8x4096x1, .f32⟩
  | .hbm, ⟨44, _⟩ => ⟨S8x4096x4096, .f32⟩
  | .hbm, ⟨45, _⟩ => ⟨S8x4096x4096, .f32⟩
  | .hbm, ⟨46, _⟩ => ⟨S4096x8x64, .f32⟩
  | .hbm, ⟨47, _⟩ => ⟨S8x4096x64, .f32⟩
  | .hbm, ⟨48, _⟩ => ⟨S8x4096x64, .f32⟩
  | .hbm, ⟨49, _⟩ => ⟨S_, .i32⟩
  | .hbm, ⟨50, _⟩ => ⟨S_, .f32⟩
  | .hbm, ⟨51, _⟩ => ⟨S8x4096x128, .f32⟩
  | .hbm, ⟨52, _⟩ => ⟨S8x4096x128, .bf16⟩
  | .hbm, ⟨53, _⟩ => ⟨S8x4096x128, .bf16⟩
  | .local _ .vmem, ⟨0, _⟩ => ⟨S2048x128, .f32⟩
  | .local _ .vmem, ⟨1, _⟩ => ⟨S2048x128, .f32⟩
  | .local _ .vmem, ⟨2, _⟩ => ⟨S2x2048x128, .bf16⟩
  | .local _ .vmem, ⟨3, _⟩ => ⟨S2x2048x128, .bf16⟩
  | .local _ .vmem, ⟨4, _⟩ => ⟨S2x2048x128, .bf16⟩
  | .local _ .vmem, ⟨5, _⟩ => ⟨S2x2048x128, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c : Ref sig .tc := ⟨.hbm, 49, rfl⟩
abbrev main_call1_v0 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RDoPrepIdeal.lean ====
abbrev S4096x512 : Shape := ⟨2, ![4096, 512]⟩
abbrev S4096x8 : Shape := ⟨2, ![4096, 8]⟩
abbrev S4096x1024 : Shape := ⟨2, ![4096, 1024]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096x128 : Shape := ⟨3, ![8, 4096, 128]⟩

abbrev nBuf : Space → Nat
  | .hbm => 67
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x8, .f32⟩
  | .hbm, ⟨4, _⟩ => ⟨S4096x1024, .f32⟩
  | .hbm, ⟨5, _⟩ => ⟨S4096x512, .f32⟩
  | .hbm, ⟨6, _⟩ => ⟨S4096x8x64, .f32⟩
  | .hbm, ⟨7, _⟩ => ⟨S8x4096x64, .f32⟩
  | .hbm, ⟨8, _⟩ => ⟨S4096x8x64, .f32⟩
  | .hbm, ⟨9, _⟩ => ⟨S8x4096x64, .f32⟩
  | .hbm, ⟨10, _⟩ => ⟨S4096x8x64, .f32⟩
  | .hbm, ⟨11, _⟩ => ⟨S8x4096x64, .f32⟩
  | .hbm, ⟨12, _⟩ => ⟨S8x4096x4096, .f32⟩
  | .hbm, ⟨13, _⟩ => ⟨S_, .f32⟩
  | .hbm, ⟨14, _⟩ => ⟨S8x4096x4096, .f32⟩
  | .hbm, ⟨15, _⟩ => ⟨S8x4096x4096, .f32⟩
  | .hbm, ⟨16, _⟩ => ⟨S8x4096, .f32⟩
  | .hbm, ⟨17, _⟩ => ⟨S8x4096x1, .f32⟩
  | .hbm, ⟨18, _⟩ => ⟨S8x4096x4096, .f32⟩
  | .hbm, ⟨19, _⟩ => ⟨S8x4096x4096, .f32⟩
  | .hbm, ⟨20, _⟩ => ⟨S8x4096, .f32⟩
  | .hbm, ⟨21, _⟩ => ⟨S8x1x4096, .f32⟩
  | .hbm, ⟨22, _⟩ => ⟨S8x4096x4096, .f32⟩
  | .hbm, ⟨23, _⟩ => ⟨S8x4096x4096, .f32⟩
  | .hbm, ⟨24, _⟩ => ⟨S4096, .i32⟩
  | .hbm, ⟨25, _⟩ => ⟨S1x4096, .i32⟩
  | .hbm, ⟨26, _⟩ => ⟨S4096x1, .i32⟩
  | .hbm, ⟨27, _⟩ => ⟨S4096x4096, .i32⟩
  | .hbm, ⟨28, _⟩ => ⟨S4096x4096, .i32⟩
  | .hbm, ⟨29, _⟩ => ⟨S4096x4096, .i1⟩
  | .hbm, ⟨30, _⟩ => ⟨S_, .f32⟩
  | .hbm, ⟨31, _⟩ => ⟨S_, .f32⟩
  | .hbm, ⟨32, _⟩ => ⟨S8x4096x4096, .i1⟩
  | .hbm, ⟨33, _⟩ => ⟨S8x4096x4096, .f32⟩
  | .hbm, ⟨34, _⟩ => ⟨S8x4096x4096, .f32⟩
  | .hbm, ⟨35, _⟩ => ⟨S_, .f32⟩
  | .hbm, ⟨36, _⟩ => ⟨S8x4096, .f32⟩
  | .hbm, ⟨37, _⟩ => ⟨S_, .f32⟩
  | .hbm, ⟨38, _⟩ => ⟨S8x4096, .f32⟩
  | .hbm, ⟨39, _⟩ => ⟨S8x4096, .f32⟩
  | .hbm, ⟨40, _⟩ => ⟨S8x4096x1, .f32⟩
  | .hbm, ⟨41, _⟩ => ⟨S8x4096x4096, .f32⟩
  | .hbm, ⟨42, _⟩ => ⟨S8x4096x4096, .f32⟩
  | .hbm, ⟨43, _⟩ => ⟨S8x4096x4096, .f32⟩
  | .hbm, ⟨44, _⟩ => ⟨S_, .f32⟩
  | .hbm, ⟨45, _⟩ => ⟨S8x4096, .f32⟩
  | .hbm, ⟨46, _⟩ => ⟨S8x4096x1, .f32⟩
  | .hbm, ⟨47, _⟩ => ⟨S8x4096x4096, .f32⟩
  | .hbm, ⟨48, _⟩ => ⟨S8x4096x4096, .f32⟩
  | .hbm, ⟨49, _⟩ => ⟨S4096x8x64, .f32⟩
  | .hbm, ⟨50, _⟩ => ⟨S8x4096x64, .f32⟩
  | .hbm, ⟨51, _⟩ => ⟨S8x4096x64, .f32⟩
  | .hbm, ⟨52, _⟩ => ⟨S8x4096x64, .f32⟩
  | .hbm, ⟨53, _⟩ => ⟨S_, .f32⟩
  | .hbm, ⟨54, _⟩ => ⟨S8x4096, .f32⟩
  | .hbm, ⟨55, _⟩ => ⟨S8x4096x1, .f32⟩
  | .hbm, ⟨56, _⟩ => ⟨S8x4096x128, .i32⟩
  | .hbm, ⟨57, _⟩ => ⟨S_, .i32⟩
  | .hbm, ⟨58, _⟩ => ⟨S8x4096x128, .i32⟩
  | .hbm, ⟨59, _⟩ => ⟨S8x4096x128, .i1⟩
  | .hbm, ⟨60, _⟩ => ⟨S8x4096x1, .f32⟩
  | .hbm, ⟨61, _⟩ => ⟨S_, .i32⟩
  | .hbm, ⟨62, _⟩ => ⟨S_, .f32⟩
  | .hbm, ⟨63, _⟩ => ⟨S8x4096x128, .f32⟩
  | .hbm, ⟨64, _⟩ => ⟨S8x4096x128, .f32⟩
  | .hbm, ⟨65, _⟩ => ⟨S8x4096x128, .f32⟩
  | .hbm, ⟨66, _⟩ => ⟨S8x4096x128, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_5 : Ref sig .tc := ⟨.hbm, 61, rfl⟩
abbrev main_call1_v0 : Ref sig .tc := ⟨.hbm, 62, rfl⟩
abbrev main_v46 : Ref sig .tc := ⟨.hbm, 63, rfl⟩
abbrev main_call2_v0 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]
-- ==== KNormPOdd.lean ====
abbrev S4096x1024 : Shape := ⟨2, ![4096, 1024]⟩
abbrev S1x1024 : Shape := ⟨2, ![1, 1024]⟩
abbrev S1024x3072 : Shape := ⟨2, ![1024, 3072]⟩
abbrev S4096x3072 : Shape := ⟨2, ![4096, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3072, .f32⟩
  | .hbm, ⟨3, _⟩ => ⟨S1024x3072, .bf16⟩
  | .hbm, ⟨4, _⟩ => ⟨S4096x1024, .bf16⟩
  | .hbm, ⟨5, _⟩ => ⟨S4096x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x1024, .bf16⟩
  | .local _ .vmem, ⟨5, _⟩ => ⟨S512x1024, .bf16⟩
  | .local _ .vmem, ⟨6, _⟩ => ⟨S512x3072, .bf16⟩
  | .local _ .vmem, ⟨7, _⟩ => ⟨S512x3072, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RNormPOddIdeal.lean ====
abbrev S4096x1024 : Shape := ⟨2, ![4096, 1024]⟩
abbrev S1x1024 : Shape := ⟨2, ![1, 1024]⟩
abbrev S1024x3072 : Shape := ⟨2, ![1024, 3072]⟩
abbrev S_ : Shape := ⟨0, ![]⟩
abbrev S4096 : Shape := ⟨1, ![4096]⟩
abbrev S4096x1 : Shape := ⟨2, ![4096, 1]⟩
abbrev S4096x3072 : Shape := ⟨2, ![4096, 3072]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3072, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S4096x3072, .f32⟩
  | .hbm, ⟨20, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== KNormPEven.lean ====
abbrev S4096x1024 : Shape := ⟨2, ![4096, 1024]⟩
abbrev S1x1024 : Shape := ⟨2, ![1, 1024]⟩
abbrev S1024x2568 : Shape := ⟨2, ![1024, 2568]⟩
abbrev S1024x8 : Shape := ⟨2, ![1024, 8]⟩
abbrev S_ : Shape := ⟨0, ![]⟩
abbrev S1024x128 : Shape := ⟨2, ![1024, 128]⟩
abbrev S1024x2560 : Shape := ⟨2, ![1024, 2560]⟩
abbrev S4096x2560 : Shape := ⟨2, ![4096, 2560]⟩
abbrev S4096x128 : Shape := ⟨2, ![4096, 128]⟩
abbrev S512x1024 : Shape := ⟨2, ![512, 1024]⟩
abbrev S512x2560 : Shape := ⟨2, ![512, 2560]⟩
abbrev S512x128 : Shape := ⟨2, ![512, 128]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2568, .f32⟩
  | .hbm, ⟨3, _⟩ => ⟨S1024x8, .f32⟩
  | .hbm, ⟨4, _⟩ => ⟨S_, .i32⟩
  | .hbm, ⟨5, _⟩ => ⟨S_, .f32⟩
  | .hbm, ⟨6, _⟩ => ⟨S1024x128, .f32⟩
  | .hbm, ⟨7, _⟩ => ⟨S1024x2560, .f32⟩
  | .hbm, ⟨8, _⟩ => ⟨S1024x2560, .bf16⟩
  | .hbm, ⟨9, _⟩ => ⟨S1024x128, .bf16⟩
  | .hbm, ⟨10, _⟩ => ⟨S4096x1024, .bf16⟩
  | .hbm, ⟨11, _⟩ => ⟨S4096x2560, .bf16⟩
  | .hbm, ⟨12, _⟩ => ⟨S4096x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S1024x128, .bf16⟩
  | .local _ .vmem, ⟨5, _⟩ => ⟨S512x1024, .bf16⟩
  | .local _ .vmem, ⟨6, _⟩ => ⟨S512x1024, .bf16⟩
  | .local _ .vmem, ⟨7, _⟩ => ⟨S512x2560, .bf16⟩
  | .local _ .vmem, ⟨8, _⟩ => ⟨S512x2560, .bf16⟩
  | .local _ .vmem, ⟨9, _⟩ => ⟨S512x128, .f32⟩
  | .local _ .vmem, ⟨10, _⟩ => ⟨S512x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2560 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RNormPEvenIdeal.lean ====
abbrev S4096x1024 : Shape := ⟨2, ![4096, 1024]⟩
abbrev S1x1024 : Shape := ⟨2, ![1, 1024]⟩
abbrev S1024x2568 : Shape := ⟨2, ![1024, 2568]⟩
abbrev S_ : Shape := ⟨0, ![]⟩
abbrev S4096 : Shape := ⟨1, ![4096]⟩
abbrev S4096x1 : Shape := ⟨2, ![4096, 1]⟩
abbrev S4096x2568 : Shape := ⟨2, ![4096, 2568]⟩
abbrev S4096x2560 : Shape := ⟨2, ![4096, 2560]⟩
abbrev S4096x8 : Shape := ⟨2, ![4096, 8]⟩
abbrev S4096x128 : Shape := ⟨2, ![4096, 128]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2568, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x2568, .f32⟩
  | .hbm, ⟨19, _⟩ => ⟨S4096x1024, .bf16⟩
  | .hbm, ⟨20, _⟩ => ⟨S4096x2560, .f32⟩
  | .hbm, ⟨21, _⟩ => ⟨S4096x2560, .bf16⟩
  | .hbm, ⟨22, _⟩ => ⟨S4096x8, .f32⟩
  | .hbm, ⟨23, _⟩ => ⟨S_, .i32⟩
  | .hbm, ⟨24, _⟩ => ⟨S_, .f32⟩
  | .hbm, ⟨25, _⟩ => ⟨S4096x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== KFfnF.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S4x704x1024 : Shape := ⟨3, ![4, 704, 1024]⟩
abbrev S4x4096x704 : Shape := ⟨3, ![4, 4096, 704]⟩
abbrev S512x1024 : Shape := ⟨2, ![512, 1024]⟩
abbrev S4x512x704 : Shape := ⟨3, ![4, 512, 704]⟩
abbrev S512 : Shape := ⟨1, ![512]⟩
abbrev S512x1 : Shape := ⟨2, ![512, 1]⟩
abbrev S1x704x1024 : Shape := ⟨3, ![1, 704, 1024]⟩
abbrev S704x1024 : Shape := ⟨2, ![704, 1024]⟩
abbrev S512x704 : Shape := ⟨2, ![512, 704]⟩
abbrev S1x512x704 : Shape := ⟨3, ![1, 512, 704]⟩

abbrev nBuf : Space → Nat
  | .hbm => 17
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .f32⟩
  | .hbm, ⟨6, _⟩ => ⟨S2816x1024, .bf16⟩
  | .hbm, ⟨7, _⟩ => ⟨S4x704x1024, .bf16⟩
  | .hbm, ⟨8, _⟩ => ⟨S2816x1024, .f32⟩
  | .hbm, ⟨9, _⟩ => ⟨S2816x1024, .bf16⟩
  | .hbm, ⟨10, _⟩ => ⟨S4x704x1024, .bf16⟩
  | .hbm, ⟨11, _⟩ => ⟨S2816x1024, .bf16⟩
  | .hbm, ⟨12, _⟩ => ⟨S4x704x1024, .bf16⟩
  | .hbm, ⟨13, _⟩ => ⟨S4096x1024, .f32⟩
  | .hbm, ⟨14, _⟩ => ⟨S4096x1024, .bf16⟩
  | .hbm, ⟨15, _⟩ => ⟨S4x4096x704, .bf16⟩
  | .hbm, ⟨16, _⟩ => ⟨S4x4096x704, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x704x1024, .bf16⟩
  | .local _ .vmem, ⟨4, _⟩ => ⟨S4x704x1024, .bf16⟩
  | .local _ .vmem, ⟨5, _⟩ => ⟨S4x704x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S4x512x704, .bf16⟩
  | .local _ .vmem, ⟨11, _⟩ => ⟨S4x512x704, .bf16⟩
  | .local _ .vmem, ⟨12, _⟩ => ⟨S4x512x704, .bf16⟩
  | .local _ .vmem, ⟨13, _⟩ => ⟨S4x512x704, .bf16⟩
  | .local _ .vmem, ⟨14, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_74 : BitVec 32 := 0#32
  let v97 : BitVec 1 := Scalar.cmpi .eq arg1 c0_i32_74
  let v98 : BitVec 32 := Scalar.extui v97
  let c0_i32_75 : BitVec 32 := 0#32
  let v99 : BitVec 1 := Scalar.cmpi .ne v98 c0_i32_75
  v99

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RFfnFIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S4096x4x704 : Shape := ⟨3, ![4096, 4, 704]⟩
abbrev S4x4096x704 : Shape := ⟨3, ![4, 4096, 704]⟩

abbrev nBuf : Space → Nat
  | .hbm => 44
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S_, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .bf16⟩
  | .hbm, ⟨38, _⟩ => ⟨S4096x4x704, .f32⟩
  | .hbm, ⟨39, _⟩ => ⟨S4x4096x704, .f32⟩
  | .hbm, ⟨40, _⟩ => ⟨S4x4096x704, .bf16⟩
  | .hbm, ⟨41, _⟩ => ⟨S4096x4x704, .f32⟩
  | .hbm, ⟨42, _⟩ => ⟨S4x4096x704, .f32⟩
  | .hbm, ⟨43, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]
-- ==== Proof.Common.lean ====
/- Lemmas shared by the value proofs: constants, extended-real arithmetic, and how a block of an array is read. -/
module

public import Idealize.ShloMosaic.Lib.Pointwise
public import Idealize.ShloMosaic.Lib.Pipeline.Value
public import Idealize.ShloMosaic.PureOps.Ideal
public import Idealize.ShloMosaic.Lib.ReduceAll

@[expose] public section

noncomputable section

namespace Cert.Common

open Idealize.ShloMosaic Idealize.ShloMosaic.TcCoe Idealize.SL.Sem

/-- Two zero offsets, as the constant function. -/
theorem hz2 : (![0, 0] : Fin 2 → Nat) = fun _ => 0 := funext fun a => by fin_cases a <;> rfl
/-- Three zero offsets, as the constant function. -/
theorem hz3 : (![0, 0, 0] : Fin 3 → Nat) = fun _ => 0 := funext fun a => by fin_cases a <;> rfl

/-! ## Extended-real arithmetic -/

/-- A nonnegative real factor goes into a sum. -/
theorem coe_mul_add {c : ℝ} (hc : 0 ≤ c) (x y : EReal) : (c : EReal) * (x + y) = c * x + c * y :=
  EReal.left_distrib_of_nonneg_of_ne_top (by exact_mod_cast hc) (EReal.coe_ne_top c) x y

/-- A nonnegative real factor goes into a finite sum. -/
theorem coe_mul_sum {ι : Type*} (s : Finset ι) {c : ℝ} (hc : 0 ≤ c) (f : ι → EReal) :
    (c : EReal) * ∑ i ∈ s, f i = ∑ i ∈ s, (c : EReal) * f i := by
  classical
  induction s using Finset.induction_on with
  | empty => simp
  | insert a s ha ih => rw [Finset.sum_insert ha, Finset.sum_insert ha, coe_mul_add hc, ih]

/-- The same with the factor on the right. -/
theorem sum_mul_coe {ι : Type*} (s : Finset ι) {c : ℝ} (hc : 0 ≤ c) (f : ι → EReal) :
    (∑ i ∈ s, f i) * (c : EReal) = ∑ i ∈ s, f i * (c : EReal) := by
  rw [mul_comm, coe_mul_sum s hc]; exact Finset.sum_congr rfl fun i _ => mul_comm _ _

/-- A sum over `J * T` rows, taken block of rows by block of rows. -/
theorem sum_blocks {M : Type*} [AddCommMonoid M] {N : ℕ} (J T : ℕ) (hN : J * T = N) (f : Fin N → M) :
    ∑ t ∈ Finset.range J, (if h : t < J then ∑ r : Fin T, f ⟨t * T + r.val, by
        have := r.isLt; have : (t + 1) * T ≤ J * T := Nat.mul_le_mul_right _ h
        rw [← hN]; have e : (t + 1) * T = t * T + T := by ring
        omega⟩ else 0) = ∑ i, f i := by
  rw [Fin.sum_univ_tiles J T hN, Finset.sum_range]
  refine Finset.sum_congr rfl fun t _ => ?_
  rw [dif_pos t.isLt]

/-! ## Literals -/

theorem ofBits_half : Ideal.ofBits .f32 0x3F000000#32 = ((1 / 2 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul]; norm_num
theorem ofBits_inv1024 : Ideal.ofBits .f32 0x3A800000#32 = ((1 / 1024 : ℝ) : EReal) := by
  simp [Ideal.ofBits, Ideal.ieee, -EReal.coe_mul]; norm_num
theorem ofBits_inv2048 : Ideal.ofBits .f32 0x3A000000#32 = ((1 / 2048 : ℝ) : EReal) := by
  simp [Ideal.ofBits, Ideal.ieee, -EReal.coe_mul]; norm_num

/-! ## Arrays that hold real numbers -/

/-- Entries whose absolute values are all below infinity are real numbers. -/
theorem real_of_finite {s u t : Shape} [Subsingleton t.Idx] {axes : List (Fin s.rank)} {dims : Fin u.rank → Fin s.rank} (x : FVec Ideal s .f32)
    (hb : u.BroadcastsInDim s dims) (init : u.Idx → BitVec 1) (hr : s.ReducesTo axes t) (hu : 0 < u.numel) (j : t.Idx)
    (e : Host.reduce IntOp.andi (cmpf .olt (Host.absf x) (broadcastInDim s dims hb (constant u .f32 0x7F800000#32))) init hr hu j = 1#1) (i : s.Idx) :
    x i = (((x i).toReal : ℝ) : EReal) := by
  have h := Host.reduce_andi_all _ init hr hu j e i
  change BitVec.ofBool (decide (max (x i) (-x i) < Ideal.ofBits .f32 0x7F800000#32)) = 1#1 at h
  have ht : Ideal.ofBits .f32 0x7F800000#32 = ⊤ := by simp [Ideal.ofBits, Ideal.ieee]
  rw [ht] at h
  have h' : max (x i) (-x i) < ⊤ := by
    by_contra n
    rw [decide_eq_false n] at h
    exact absurd h (by decide)
  rw [max_lt_iff] at h'
  refine (EReal.coe_toReal (ne_of_lt h'.1) fun hbot => ?_).symm
  rw [hbot] at h'
  exact absurd h'.2 (by simp)

/-- A matrix's entries as real numbers. -/
def reals {n k : ℕ} (x : (⟨2, ![n, k]⟩ : Shape).Idx → EReal) (r c : ℕ) : ℝ :=
  if h : r < n ∧ c < k then (x (ix2 ⟨r, h.1⟩ ⟨c, h.2⟩)).toReal else 0

theorem reals_at {n k : ℕ} {x : (⟨2, ![n, k]⟩ : Shape).Idx → EReal} (h : ∀ i, x i = (((x i).toReal : ℝ) : EReal)) (r : Fin n) (c : Fin k) :
    x (ix2 r c) = ((reals x r.val c.val : ℝ) : EReal) := by
  unfold reals
  rw [dif_pos ⟨r.isLt, c.isLt⟩]
  exact h _

end Cert.Common

end
-- ==== Proof.Loss.lean ====
/- The loss head: the value of the kernel's run, the value of the reference's run, and their equality. -/
module

public import proofs.«01_k».proof.Defs
public import proofs.«01_k».proof.Proof.Common
public import proofs.«01_k».proof.Proof.Gen.KLoss.Frame
public import proofs.«01_k».proof.Proof.Gen.KLossIdeal.Value
public import proofs.«01_k».proof.Proof.Gen.RLossIdeal.Run

@[expose] public section

noncomputable section

namespace Cert.Loss

open Idealize.ShloMosaic Idealize.ShloMosaic.TcCoe Idealize.SL.Sem Cert.Common
open Idealize.ShloMosaic.Pipeline (Dat)
open Cert.KLossIdeal Cert.KLossIdeal.Gen

/-! ## What the body leaves at one point -/

section Body
variable {F : FTy → Type} [FloatOps F]
variable (c : Dev nD) (i : grid0.Coords) (a1 : Memref sig .tc .vmem S512x1024 .f32) (h1 : a1.IsWhole)
  (a2 : Memref sig .tc .vmem S512x1024 .f32) (h2 : a2.IsWhole) (a3 : Memref sig .tc .vmem S512x1024 .f32) (h3 : a3.IsWhole)
  (a4 : Memref sig .tc .vmem S1x1 .f32) (h4 : a4.IsWhole) (x y : Vec F S512x1024 .f32)

theorem out_A_2 (hc : cond0_0 i) : out0_A_2 c i a1 h1 a2 h2 a3 h3 a4 h4 hc x y = k0_pay3 x y := by
  unfold out0_A_2
  rw [View.read_writes_eq_canon _ _ _ (cover0_A_2 c i a1 h1 a2 h2 a3 h3 a4 h4 hc x y)]
  unfold kernelRun0_A
  dsimp only
  sl_unfold_words
  rw [View.canon_cons_unit_zero hz2]
  simp only [View.readAt_eq_ld, h1.read_unread, h2.read_unread, View.ld_unit_zero (S := S512x1024) hz2]

theorem out_B_2 (hc : ¬cond0_0 i) (z : Vec F S1x1 .f32) :
    out0_B_2 c i a1 h1 a2 h2 a3 h3 a4 h4 hc x y z = k0_pay3 x y := by
  unfold out0_B_2
  rw [View.read_writes_eq_canon _ _ _ (cover0_B_2 c i a1 h1 a2 h2 a3 h3 a4 h4 hc x y z)]
  unfold kernelRun0_B
  dsimp only
  sl_unfold_words
  rw [View.canon_cons_unit_zero hz2]
  simp only [View.readAt_eq_ld, h1.read_unread, h2.read_unread, View.ld_unit_zero (S := S512x1024) hz2]

theorem out_A_3 (hc : cond0_0 i) : out0_A_3 c i a1 h1 a2 h2 a3 h3 a4 h4 hc x y = k0_pay4 x y k0_pay1 := by
  unfold out0_A_3
  rw [View.read_writes_eq_canon _ _ _ (cover0_A_3 c i a1 h1 a2 h2 a3 h3 a4 h4 hc x y)]
  unfold kernelRun0_A
  dsimp only
  sl_unfold_words
  rw [View.canon_cons_unit_zero (S := S1x1) hz2, View.readCov_unit_zero (S := S1x1) _ hz2]
  simp only [View.readAt_eq_ld, h1.read_unread, h2.read_unread, View.ld_unit_zero (S := S512x1024) hz2]

theorem out_B_3 (hc : ¬cond0_0 i) (z : Vec F S1x1 .f32) :
    out0_B_3 c i a1 h1 a2 h2 a3 h3 a4 h4 hc x y z = k0_pay4 x y z := by
  unfold out0_B_3
  rw [View.read_writes_eq_canon _ _ _ (cover0_B_3 c i a1 h1 a2 h2 a3 h3 a4 h4 hc x y z)]
  unfold kernelRun0_B
  dsimp only
  sl_unfold_words
  rw [View.canon_cons_unit_zero (S := S1x1) hz2]
  simp only [View.readAt_eq_ld, h1.read_unread, h2.read_unread, h4.read_unread, View.ld_unit_zero (S := S512x1024) hz2,
    View.ld_unit_zero (S := S1x1) hz2]

end Body

/-! ## At the extended reals -/

variable (m : (ℓ : Loc nD τ sig) → Buf (Elt Ideal) ℓ)

/-- The two argument arrays. -/
abbrev A0 (c : Dev nD) : S4096x1024.Idx → EReal := m ((c : Thread nD τ).loc main_arg0)
abbrev A1 (c : Dev nD) : S4096x1024.Idx → EReal := m ((c : Thread nD τ).loc main_arg1)

/-- Row `r` of the block at point `t` is row `512 t + r` of the array. -/
def row (t : Fin cfg0.N) (r : Fin 512) : Fin 4096 :=
  ⟨512 * t.val + r.val, by have := lt_of_lt_of_eq t.isLt (show cfg0.N = 8 from N_0); have := r.isLt; omega⟩

theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0)

theorem iblk_0 (c : Dev nD) (t : Fin cfg0.N) (r : Fin 512) (l : Fin 1024) :
    (iblk m c 0 t : S512x1024.Idx → EReal) (ix2 r l) = A0 m c (ix2 (row t r) l) := by
  unfold iblk
  rw [View.read_apply]
  show V m c main_arg0 _ = _
  unfold V
  congr 1
  apply Shape.idx_ext₂
  · show win0_0.index t 0 * 512 + 1 * r.val = 512 * t.val + r.val; rw [(idx_facts t).1]; omega
  · show win0_0.index t 1 * 1024 + 1 * l.val = l.val; rw [(idx_facts t).2.1]; omega

theorem iblk_1 (c : Dev nD) (t : Fin cfg0.N) (r : Fin 512) (l : Fin 1024) :
    (iblk m c 1 t : S512x1024.Idx → EReal) (ix2 r l) = A1 m c (ix2 (row t r) l) := by
  unfold iblk
  rw [View.read_apply]
  show V m c main_arg1 _ = _
  unfold V
  congr 1
  apply Shape.idx_ext₂
  · show win0_1.index t 0 * 512 + 1 * r.val = 512 * t.val + r.val; rw [(idx_facts t).2.2.1]; omega
  · show win0_1.index t 1 * 1024 + 1 * l.val = l.val; rw [(idx_facts t).2.2.2.1]; omega

/-- The gradient the kernel writes. -/
def G2 (c : Dev nD) : S4096x1024.Idx → EReal := fun i => (A0 m c i - A1 m c i) * Ideal.ofBits .f32 0x3A800000#32

/-- One row's squared error. -/
def sq (c : Dev nD) (r : Fin 4096) : EReal :=
  ∑ l : Fin 1024, (A0 m c (ix2 r l) - A1 m c (ix2 r l)) * (A0 m c (ix2 r l) - A1 m c (ix2 r l))

/-- What point `n` adds to the loss. -/
def part (c : Dev nD) (n : ℕ) : EReal :=
  (if h : n < 8 then ∑ r : Fin 512, sq m c ⟨n * 512 + r.val, by have := r.isLt; omega⟩ else 0) * Ideal.ofBits .f32 0x3A000000#32

theorem pay4_apply (c : Dev nD) (t : Fin cfg0.N) (z : S1x1.Idx → EReal) (j : S1x1.Idx) :
    k0_pay4 (F := Ideal) (iblk m c 0 t) (iblk m c 1 t) z j = z j + part m c t.val := by
  have hN : t.val < 8 := lt_of_lt_of_eq t.isLt (show cfg0.N = 8 from N_0)
  obtain rfl : j = ix2 0 0 := by
    rw [eq_ix2 j]; congr 1 <;> exact Subsingleton.elim _ _
  unfold part
  rw [dif_pos hN]
  unfold_payloads
  pointwise [iblk_0, iblk_1]
  refine congrArg (fun e => z (ix2 0 0) + e * _) (Finset.sum_congr rfl fun r _ => ?_)
  unfold sq row
  simp only [Nat.mul_comm 512]

/-- The loss after the last point. -/
def G3 (c : Dev nD) : S1x1.Idx → EReal := fun _ => ∑ n ∈ Finset.range 8, part m c n

theorem outs3 (c : Dev nD) : ∀ (n : ℕ) (h : n < cfg0.N) (j : S1x1.Idx),
    (outsAt0 m c n h).2 j = ∑ s ∈ Finset.range (n + 1), part m c s
  | 0, h, j => by
    rw [outsAt0_A m c ⟨0, h⟩ rfl]
    dsimp only
    rw [out_A_3, pay4_apply]
    simp only [zero_add, Finset.sum_range_one]
    unfold_payloads
    pointwise
  | n + 1, h, j => by
    have hN : n + 1 < 8 := lt_of_lt_of_eq h (show cfg0.N = 8 from N_0)
    have hB : ¬(⟨n + 1, h⟩ : Fin cfg0.N).val % 8 = 0 := by dsimp only; omega
    rw [outsAt0_B m c ⟨n + 1, h⟩ hB]
    dsimp only
    rw [out_B_3, pay4_apply]
    show (outsAt0 m c n _).2 j + _ = _
    rw [outs3 c n _ j, Finset.sum_range_succ _ (n + 1)]

theorem outs2 (c : Dev nD) (t : Fin cfg0.N) : (outsAt0 m c t.val t.isLt).1 = k0_pay3 (iblk m c 0 t) (iblk m c 1 t) := by
  by_cases h0 : t.val % 8 = 0
  · rw [outsAt0_A m c t h0]; dsimp only; rw [out_A_2]
  · rw [outsAt0_B m c t h0]; dsimp only; rw [out_B_2]

/-- The array the gradient is written to, after the run. -/
theorem final2 (c : Dev nD) : (dats m 0 c).arrAt 2 cfg0.N = G2 m c := by
  refine (dats m 0 c).arrAt_eq_of_cover 2 (G2 m c) (fun t _ => ?_) fun i => ?_
  · rw [Value.flushed2, outs2]
    funext j
    rw [View.read_apply]
    show k0_pay3 (F := Ideal) (iblk m c 0 t) (iblk m c 1 t) j = G2 m c _
    obtain ⟨r, l, rfl⟩ : ∃ (r : Fin 512) (l : Fin 1024), j = ix2 r l := ⟨_, _, eq_ix2 j⟩
    unfold_payloads
    pointwise [iblk_0, iblk_1]
    rw [show ((cfg0.win 2).blk t).view.emb (ix2 r l) = (ix2 (row t r) l : S4096x1024.Idx) from Shape.idx_ext₂
      (by show win0_2.index t 0 * 512 + 1 * r.val = 512 * t.val + r.val; rw [(idx_facts t).2.2.2.2.1]; omega)
      (by show win0_2.index t 1 * 1024 + 1 * l.val = l.val; rw [(idx_facts t).2.2.2.2.2]; omega)]
    rfl
  · have h0 : (i 0 : Nat) < 4096 := (i 0).isLt
    have h1 : (i 1 : Nat) < 1024 := (i 1).isLt
    let t : Fin cfg0.N := ⟨(i 0 : Nat) / 512, by rw [show cfg0.N = 8 from N_0]; omega⟩
    refine ⟨t, flush0_2 t, ?_⟩
    show i ∈ ((View.whole main_v0_0).slice (win0_2.rect t)).set
    rw [View.set_slice_whole, Rect.mem_set_unit]
    intro a
    match a with
    | ⟨0, _⟩ =>
      show win0_2.index t 0 * 512 ≤ (i 0 : Nat) ∧ (i 0 : Nat) < win0_2.index t 0 * 512 + 512
      rw [(idx_facts t).2.2.2.2.1]; show (i 0 : Nat) / 512 * 512 ≤ _ ∧ _ < (i 0 : Nat) / 512 * 512 + 512; omega
    | ⟨1, _⟩ =>
      show win0_2.index t 1 * 1024 ≤ (i 1 : Nat) ∧ (i 1 : Nat) < win0_2.index t 1 * 1024 + 1024
      rw [(idx_facts t).2.2.2.2.2]; omega

/-- The loss, after the run. -/
theorem final3 (c : Dev nD) : (dats m 0 c).arrAt 3 cfg0.N = G3 m c := by
  refine (dats m 0 c).arrAt_eq_of_cover 3 (G3 m c) (fun t hf => ?_) fun i => ?_
  · have h7 : t.val + 1 = 8 := by
      have := (flush0_3 t).mp hf; have := lt_of_lt_of_eq t.isLt (show cfg0.N = 8 from N_0); omega
    rw [Value.flushed3]
    funext j
    rw [View.read_apply]
    refine (outs3 m c t.val t.isLt j).trans ?_
    rw [h7]
    rfl
  · have h7 : 7 < cfg0.N := by rw [show cfg0.N = 8 from N_0]; decide
    refine ⟨⟨7, h7⟩, (flush0_3 _).mpr rfl, ?_⟩
    show i ∈ ((View.whole main_v0_1).slice (win0_3.rect ⟨7, h7⟩)).set
    rw [View.set_slice_whole, Rect.mem_set_unit]
    intro a
    have h0 : (i 0 : Nat) < 1 := (i 0).isLt
    have h1 : (i 1 : Nat) < 1 := (i 1).isLt
    match a with
    | ⟨0, _⟩ => show 0 ≤ (i 0 : Nat) ∧ (i 0 : Nat) < 0 + 1; omega
    | ⟨1, _⟩ => show 0 ≤ (i 1 : Nat) ∧ (i 1 : Nat) < 0 + 1; omega

end Cert.Loss

/-! ## The reference -/

namespace Cert.Loss

open Idealize.ShloMosaic Idealize.ShloMosaic.TcCoe Idealize.SL.Sem Cert.Common
open Cert.RLossIdeal Cert.RLossIdeal.Facts₀ Cert.RLossIdeal.Facts

theorem ref_loss (x y : FVec Ideal S4096x1024 .f32) (j : S1x1.Idx) :
    (shapeCast _ (mulf (constant S_ .f32 0x3F000000#32) (Host.reduceAdd (Host.divf (Host.reduceAdd (mulf (subf x y) (subf x y)) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_)) shapeCasts_S_S1x1 : FVec Ideal S1x1 .f32) j
      = ((1 / 2 : ℝ) : EReal) * ∑ r : Fin 4096, (∑ l : Fin 1024, (x (ix2 r l) - y (ix2 r l)) * (x (ix2 r l) - y (ix2 r l))) * ((1 / 1024 : ℝ) : EReal) := by
  pointwise [ofBits_half, ofBits_1024, Ideal.div_coe (show (1024 : ℝ) ≠ 0 by norm_num)]

theorem ref_grad (x y : FVec Ideal S4096x1024 .f32) (j : S4096x1024.Idx) :
    (mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (subf x y)) : FVec Ideal S4096x1024 .f32) j
      = (x j - y j) * ((1 / 1024 : ℝ) : EReal) := by
  pointwise [ofBits_half, ofBits_two, ofBits_1024, Ideal.div_coe (show (1024 : ℝ) ≠ 0 by norm_num)]
  rw [← mul_assoc, ← EReal.coe_mul, ← EReal.coe_mul, mul_comm]
  norm_num

end Cert.Loss

/-! ## The claim -/

namespace Cert.Loss

open Idealize.ShloMosaic Idealize.SL.Sem Cert.Common

section
open Cert.KLossIdeal

/-- The accumulated blocks sum to the whole loss. -/
theorem loss_eq (m : (ℓ : Loc nD τ sig) → Buf (Elt Ideal) ℓ) (c : Dev nD) (j : S1x1.Idx) : G3 m c j = ((1 / 2 : ℝ) : EReal) *
    ∑ r : Fin 4096, (∑ l : Fin 1024, (A0 m c (ix2 r l) - A1 m c (ix2 r l)) * (A0 m c (ix2 r l) - A1 m c (ix2 r l))) * ((1 / 1024 : ℝ) : EReal) := by
  unfold G3 part
  rw [ofBits_inv2048, ← sum_mul_coe _ (by norm_num), ← sum_mul_coe _ (by norm_num), sum_blocks 8 512 rfl (sq m c), mul_comm, mul_comm (∑ r, _),
    ← mul_assoc, ← EReal.coe_mul]
  norm_num
  rfl

end

theorem frame_k : Cert.quiescent_KLoss := fun m ρ _ => Cert.KLoss.Gen.frame m ρ

theorem frame_ki : Cert.quiescent_KLossIdeal := fun m ρ _ => Cert.KLossIdeal.Gen.frame m ρ

theorem frame_r : Cert.quiescent_RLossIdeal := fun m ρ _ =>
  (θ_run Cert.RLossIdeal.defs _ _).mono (fun r h => ⟨fun c => (h c).2.2,
      Idealize.ShloMosaic.sem_eq_zero_of_no_sems (by decide) r.2⟩)
    (Cert.RLossIdeal.Value.run (F := Ideal) m ρ)

theorem algebraic : Cert.algebraic_KLossIdeal_RLossIdeal := by
  intro m g m' g' _ hagree
  refine ⟨G2 m, G3 m, (θ_run Cert.KLossIdeal.defs _ _).mono (fun r h c => ?_) (Cert.KLossIdeal.Value.run_blocks m g),
    (θ_run Cert.RLossIdeal.defs _ _).mono (fun r h c => ?_) (Cert.RLossIdeal.Value.run m' g')⟩
  · exact ⟨(h c).1.trans (final2 m c), (h c).2.1.trans (final3 m c), (h c).2.2⟩
  · refine ⟨(h c).1.trans (funext fun j => ?_), (h c).2.1.trans (funext fun j => ?_), (h c).2.2⟩
    · rw [(hagree c).1, (hagree c).2]
      refine (ref_grad _ _ j).trans ?_
      unfold G2
      rw [ofBits_inv1024]
    · rw [(hagree c).1, (hagree c).2]
      exact (ref_loss _ _ j).trans (loss_eq m c j).symm

end Cert.Loss

end
-- ==== Proof.FoxBody.lean ====
module

public import proofs.«01_k».proof.Proof.Gen.KFoxBwdIdeal.Frame
public import proofs.«01_k».proof.Proof.Gen.KFoxBwdIdeal.Loops
public import proofs.«01_k».proof.Proof.Common
public import Idealize.ShloMosaic.Lib.VecWindow
public import Idealize.ShloMosaic.Lib.Ring
public import Idealize.ShloMosaic.Lib.Tactic
public import Idealize.ShloMosaic.Lib.Pointwise

@[expose] public section

set_option maxRecDepth 16384

noncomputable section

namespace Cert.FoxBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KFoxBwdIdeal Cert.KFoxBwdIdeal.Gen Cert.KFoxBwdIdeal.Facts₀ Cert.KFoxBwdIdeal.Facts

variable {F : FTy → Type} [FloatOps F] [Named F]

local notation "𝕄" => MT nD τ sig Unit (Elt F) ℕ (UR sig nD τ) ℕ

/-- The condition of the body's one branch: the point is a head's first. -/
abbrev atFirst (i : grid0.Coords) : Prop := (Scalar.cmpi .ne (Scalar.extui (Scalar.cmpi .eq (BitVec.ofNat 32 (i 1).val) 0#32)) 0#32) = 1#1

variable (i : grid0.Coords) (x0 : Vec F S1x4096x128 .bf16) (x1 x2 : Vec F S1x1024x128 .bf16) (x3 : Vec F S1x4096x128 .bf16)

/-- The block of rows the loop's trip `k` reads of a whole head. -/
abbrev trailing {e : EltTy} (x : Vec F S1x4096x128 e) (k : Fin (k0_t1_loop i).trips) : Vec F S1x1024x128 e :=
  VecWindow.window x (k0_off2 i k) S1x1024x128.size (Gen.k0_off2_inb i k)

/-- The block of rows on the diagonal. -/
abbrev diagonal {e : EltTy} (x : Vec F S1x4096x128 e) : Vec F S1x1024x128 e :=
  VecWindow.window x (k0_off1 i) S1x1024x128.size (Gen.k0_off1_inb i)

/-- What the loop carries and the first result's contents, before trip `k`. -/
def walk (v4 v6 : FVec F S1024x128 .bf16) (init : FVec F S1024x128 .f32 × FVec F S1024x128 .f32) (y : Vec F S1x4096x128 .f32) :
    ℕ → (FVec F S1024x128 .f32 × FVec F S1024x128 .f32) × Vec F S1x4096x128 .f32
  | 0 => (init, y)
  | k + 1 =>
    if h : k < (k0_t1_loop i).trips then
      ((k0_pay9 v4 v6 (walk v4 v6 init y k).1.1 (trailing i x0 ⟨k, h⟩) (trailing i x3 ⟨k, h⟩),
          k0_pay6 v4 (walk v4 v6 init y k).1.2 (trailing i x0 ⟨k, h⟩) (trailing i x3 ⟨k, h⟩)),
        VecWindow.put (walk v4 v6 init y k).2 (k0_off2 i ⟨k, h⟩) S1x1024x128.size
          (k0_pay8 v4 v6 (trailing i x0 ⟨k, h⟩) (trailing i x3 ⟨k, h⟩) (trailing i (walk v4 v6 init y k).2 ⟨k, h⟩)))
    else walk v4 v6 init y k

/-- Row block `i`'s products. -/
abbrev startOf : FVec F S1024x128 .f32 × FVec F S1024x128 .f32 :=
  (k0_pay2 k0_pay22 (k0_pay23 (diagonal i x0)) (k0_pay27 x1 x2 (diagonal i x0) (diagonal i x3)), k0_pay26 x1 (diagonal i x0) (diagonal i x3))

/-- The whole walk of a point. -/
abbrev walked (y : Vec F S1x4096x128 .f32) : (FVec F S1024x128 .f32 × FVec F S1024x128 .f32) × Vec F S1x4096x128 .f32 :=
  walk i x0 x3 (k0_pay20 x1) (k0_pay21 x2) (startOf i x0 x1 x2 x3)
    (VecWindow.put y (k0_off1 i) S1x1024x128.size
      (k0_pay1 (k0_pay28 x1 x2 (diagonal i x0) (diagonal i x3) (diagonal i y)))) (k0_t1_loop i).trips

def dqAfter (y : Vec F S1x4096x128 .f32) : Vec F S1x4096x128 .f32 := (walked i x0 x1 x2 x3 y).2
def dkAfter : Vec F S1x1024x128 .f32 := k0_pay17 (walked i x0 x1 x2 x3 k0_pay19).1.1
def dvAfter : Vec F S1x1024x128 .f32 := k0_pay18 (walked i x0 x1 x2 x3 k0_pay19).1.2

section Loop
variable (c : Dev nD) (a2 : Memref sig .tc .vmem S1x4096x128 .bf16) (h2 : a2.IsWhole)
    (a3 : Memref sig .tc .vmem S1x1024x128 .bf16) (h3 : a3.IsWhole) (a4 : Memref sig .tc .vmem S1x1024x128 .bf16) (h4 : a4.IsWhole)
    (a5 : Memref sig .tc .vmem S1x4096x128 .bf16) (h5 : a5.IsWhole) (a6 : Memref sig .tc .vmem S1x4096x128 .f32) (h6 : a6.IsWhole)
    (a7 : Memref sig .tc .vmem S1x1024x128 .f32) (h7 : a7.IsWhole) (a8 : Memref sig .tc .vmem S1x1024x128 .f32) (h8 : a8.IsWhole)

/-- The loop's state is `walk`'s. -/
theorem st_eq (v4 v6 : FVec F S1024x128 .bf16) (G : BufTy.Contents (Elt F) a6.view.ty)
    (init : FVec F S1024x128 .f32 × FVec F S1024x128 .f32) : ∀ k, k ≤ (k0_t1_loop i).trips →
    (st_k0_t1 (F := F) Variants.none c none i a2 h2 a3 h3 a4 h4 a5 h5 a6 h6 a7 h7 a8 h8 v4 v6 (h2.unread x0) (h5.unread x3) G init k).1
        = (walk i x0 x3 v4 v6 init (a6.view.read (Elt F) G) k).1
      ∧ a6.view.read (Elt F) (a6.view.writes (Elt F) G
          (st_k0_t1 (F := F) Variants.none c none i a2 h2 a3 h3 a4 h4 a5 h5 a6 h6 a7 h7 a8 h8 v4 v6 (h2.unread x0) (h5.unread x3) G init k).2)
        = (walk i x0 x3 v4 v6 init (a6.view.read (Elt F) G) k).2
  | 0, _ => ⟨rfl, rfl⟩
  | k + 1, hk => by
    have ih := st_eq v4 v6 G init k (by omega)
    have hs := st_k0_t1_succ (F := F) Variants.none c none i a2 h2 a3 h3 a4 h4 a5 h5 a6 h6 a7 h7 a8 h8 v4 v6 (h2.unread x0) (h5.unread x3) G init ⟨k, hk⟩
    dsimp only at hs
    rw [hs]
    dsimp only
    unfold tripR_k0_t1 tripL_k0_t1 trip_k0_t1
    dsimp only
    sl_unfold_words
    simp only [walk]
    rw [dif_pos (show k < (k0_t1_loop i).trips from hk)]
    have e2 : a2.view.readAt (Elt F) (Rect.unit (s := S1x4096x128) (k0_off2 i ⟨k, hk⟩) S1x1024x128.size (Gen.k0_off2_inb i ⟨k, hk⟩)).toLoadRect (h2.unread x0)
        = trailing i x0 ⟨k, hk⟩ := by rw [View.readAt_unit _ _ _ rfl (Gen.k0_off2_inb i ⟨k, hk⟩), h2.read_unread]
    have e5 : a5.view.readAt (Elt F) (Rect.unit (s := S1x4096x128) (k0_off2 i ⟨k, hk⟩) S1x1024x128.size (Gen.k0_off2_inb i ⟨k, hk⟩)).toLoadRect (h5.unread x3)
        = trailing i x3 ⟨k, hk⟩ := by rw [View.readAt_unit _ _ _ rfl (Gen.k0_off2_inb i ⟨k, hk⟩), h5.read_unread]
    have e6 := (View.readAt_unit a6.view (a6.view.writes (Elt F) G
          (st_k0_t1 (F := F) Variants.none c none i a2 h2 a3 h3 a4 h4 a5 h5 a6 h6 a7 h7 a8 h8 v4 v6 (h2.unread x0) (h5.unread x3) G init k).2)
        (Gen.k0_off2_inb i ⟨k, hk⟩) rfl (Gen.k0_off2_inb i ⟨k, hk⟩)).trans (congrArg (fun z => trailing i z ⟨k, hk⟩) ih.2)
    refine ⟨congrArg₂ Prod.mk ?_ ?_, (View.read_writes_cons_put _ _ _ _ _ rfl).trans ?_⟩
    · rw [← ih.1]; exact congrArg₂ (k0_pay9 v4 v6 _) e2 e5
    · rw [← ih.1]; exact congrArg₂ (k0_pay6 v4 _) e2 e5
    · exact congrArg₂ (fun (a : Vec F S1x4096x128 .f32) (b : Vec F S1x1024x128 .f32) => (VecWindow.put (s := S1x4096x128) a (k0_off2 i ⟨k, hk⟩) S1x1024x128.size b : Vec F S1x4096x128 .f32)) ih.2
        ((congrArg₂ (fun a b => k0_pay8 v4 v6 a b _) e2 e5).trans (congrArg (k0_pay8 v4 v6 _ _) e6))

/-- The second loop makes no trip. -/
theorem trips2 : ∀ i : grid0.Coords, Scf.trips (k0_t2_loop i).lb (k0_t2_loop i).ub (k0_t2_loop i).st = 0 := by decide +kernel

/-- Contents of a whole memref that read the same are the same. -/
theorem same_contents {s : Shape} {e : EltTy} {a : Memref sig .tc .vmem s e} (h : a.IsWhole) {f g : BufTy.Contents (Elt F) a.view.ty}
    (hfg : a.view.read (Elt F) f = a.view.read (Elt F) g) : f = g := (h.eq_unread hfg).trans (h.eq_unread rfl).symm

/-- What the two loops leave, from contents reading the first result after the diagonal. -/
theorem after_eq (y : Vec F S1x4096x128 .f32) (G : BufTy.Contents (Elt F) a6.view.ty)
    (hG : a6.view.read (Elt F) G = VecWindow.put y (k0_off1 i) S1x1024x128.size
      (k0_pay1 (k0_pay28 x1 x2 (diagonal i x0) (diagonal i x3) (diagonal i y)))) :
    let s1 := st_k0_t1 (F := F) Variants.none c none i a2 h2 a3 h3 a4 h4 a5 h5 a6 h6 a7 h7 a8 h8 (k0_pay20 x1) (k0_pay21 x2) (h2.unread x0) (h5.unread x3) G
      (startOf i x0 x1 x2 x3) (Scf.trips (k0_t1_loop i).lb (k0_t1_loop i).ub (k0_t1_loop i).st)
    let s2 := st_k0_t2 (F := F) Variants.none c none i a2 h2 a3 h3 a4 h4 a5 h5 a6 h6 a7 h7 a8 h8 (k0_pay20 x1) (k0_pay21 x2) (h2.unread x0) (h5.unread x3)
      (a6.view.writes (Elt F) G s1.2) (s1.1.1, s1.1.2) (Scf.trips (k0_t2_loop i).lb (k0_t2_loop i).ub (k0_t2_loop i).st)
    a6.view.read (Elt F) (a6.view.writes (Elt F) (a6.view.writes (Elt F) G s1.2) s2.2) = (walked i x0 x1 x2 x3 y).2
      ∧ s2.1 = (walked i x0 x1 x2 x3 y).1 := by
  intro s1 s2
  have h := st_eq i x0 x3 c a2 h2 a3 h3 a4 h4 a5 h5 a6 h6 a7 h7 a8 h8 (k0_pay20 x1) (k0_pay21 x2) G (startOf i x0 x1 x2 x3) _ le_rfl
  rw [hG] at h
  have e2 : s2 = (s1.1, []) := by
    show st_k0_t2 (F := F) Variants.none c none i a2 h2 a3 h3 a4 h4 a5 h5 a6 h6 a7 h7 a8 h8 (k0_pay20 x1) (k0_pay21 x2) (h2.unread x0) (h5.unread x3)
      (a6.view.writes (Elt F) G s1.2) (s1.1.1, s1.1.2) (Scf.trips (k0_t2_loop i).lb (k0_t2_loop i).ub (k0_t2_loop i).st) = _
    rw [trips2]
    rfl
  rw [e2]
  exact ⟨h.2, h.1⟩

/-- What is carried does not depend on the first result's contents. -/
theorem walk_carried (v4 v6 : FVec F S1024x128 .bf16) (init : FVec F S1024x128 .f32 × FVec F S1024x128 .f32) (y y' : Vec F S1x4096x128 .f32) :
    ∀ k, (walk i x0 x3 v4 v6 init y k).1 = (walk i x0 x3 v4 v6 init y' k).1
  | 0 => rfl
  | k + 1 => by
    have ih := walk_carried v4 v6 init y y' k
    simp only [walk]
    split
    · rw [ih]
    · exact ih

set_option maxHeartbeats 1000000 in
theorem body_first (hc : atFirst i) (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ (∃ d, owns (c : Thread nD τ) a6 fullShare d)
        ∗ (∃ d, owns (c : Thread nD τ) a7 fullShare d) ∗ (∃ d, owns (c : Thread nD τ) a8 fullShare d)
        ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare (dqAfter i x0 x1 x2 x3 k0_pay19)
            ∗ owns (c : Thread nD τ) a7 fullShare (dkAfter i x0 x1 x2 x3)
            ∗ owns (c : Thread nD τ) a8 fullShare (dvAfter i x0 x1 x2 x3)) -∗ K ⟨⟩))
      ⊢ wp frame (wpE (defs₀ (F := F)) Variants.none c none) E (cc0_fox_bwd i a2 h2 a3 h3 a4 h4 a5 h5 a6 h6 a7 h7 a8 h8) K := by
  simp only [cc0_fox_bwd_eq_skeleton]; unfold cc0_fox_bwd_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := h2.eq_unread hf0; obtain rfl := h3.eq_unread hf1; obtain rfl := h4.eq_unread hf2
  obtain rfl := h5.eq_unread hf3
  have hz : a6.view.read (Elt F) (a6.view.writes (Elt F) a6.view.junk [⟨Rect.unit ![0, 0, 0] S1x4096x128.size Gen.inb_S1x4096x128_S1x4096x128_0_0_0, k0_pay19⟩])
      = k0_pay19 := View.read_writes_full _ _ _ _ _
  have hG : a6.view.read (Elt F) (a6.view.writes (Elt F) a6.view.junk [⟨Rect.unit (k0_off1 i) S1x1024x128.size (Gen.k0_off1_inb i),
        k0_pay1 (k0_pay28 x1 x2 (diagonal i x0) (diagonal i x3) (diagonal i k0_pay19))⟩, ⟨Rect.unit ![0, 0, 0] S1x4096x128.size Gen.inb_S1x4096x128_S1x4096x128_0_0_0, k0_pay19⟩])
      = VecWindow.put k0_pay19 (k0_off1 i) S1x1024x128.size
      (k0_pay1 (k0_pay28 x1 x2 (diagonal i x0) (diagonal i x3) (diagonal i k0_pay19))) :=
      (View.read_writes_cons_put _ _ _ _ _ rfl).trans (by rw [View.read_writes_full])
  have key := after_eq i x0 x1 x2 x3 c a2 h2 a3 h3 a4 h4 a5 h5 a6 h6 a7 h7 a8 h8 k0_pay19 _ hG
  dsimp only at key
  sl_exec (disch := first | sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; swap; · iexact H4
    ipureintro
    refine Eq.trans ?_ key.1
    simp only [View.writes_append]
    clear key
    sl_unfold_words
    simp only [View.readAt_eq_ld, h2.read_unread, h3.read_unread, h4.read_unread, h5.read_unread, View.ld_unit_zero (S := S1x1024x128) Common.hz3, hz]
    exact rfl
  isplitl [H5]
  · iexists _; isplitr; swap; · iexact H5
    ipureintro
    refine (View.read_writes_full _ _ _ _ _).trans (Eq.trans ?_ (congrArg (fun z => k0_pay17 z.1) key.2))
    simp only [View.writes_append]
    clear key
    sl_unfold_words
    simp only [View.readAt_eq_ld, h2.read_unread, h3.read_unread, h4.read_unread, h5.read_unread, View.ld_unit_zero (S := S1x1024x128) Common.hz3, hz]
    exact rfl
  iexists _; isplitr; swap; · iexact H6
  ipureintro
  refine (View.read_writes_full _ _ _ _ _).trans (Eq.trans ?_ (congrArg (fun z => k0_pay18 z.2) key.2))
  simp only [View.writes_append]
  clear key
  sl_unfold_words
  simp only [View.readAt_eq_ld, h2.read_unread, h3.read_unread, h4.read_unread, h5.read_unread, View.ld_unit_zero (S := S1x1024x128) Common.hz3, hz]
  exact rfl

set_option maxHeartbeats 1000000 in
theorem body_next (hc : ¬ atFirst i) (x4 : Vec F S1x4096x128 .f32) (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4
        ∗ (∃ d, owns (c : Thread nD τ) a7 fullShare d) ∗ (∃ d, owns (c : Thread nD τ) a8 fullShare d)
        ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare (dqAfter i x0 x1 x2 x3 x4)
            ∗ owns (c : Thread nD τ) a7 fullShare (dkAfter i x0 x1 x2 x3)
            ∗ owns (c : Thread nD τ) a8 fullShare (dvAfter i x0 x1 x2 x3)) -∗ K ⟨⟩))
      ⊢ wp frame (wpE (defs₀ (F := F)) Variants.none c none) E (cc0_fox_bwd i a2 h2 a3 h3 a4 h4 a5 h5 a6 h6 a7 h7 a8 h8) K := by
  simp only [cc0_fox_bwd_eq_skeleton]; unfold cc0_fox_bwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := h2.eq_unread hf0; obtain rfl := h3.eq_unread hf1; obtain rfl := h4.eq_unread hf2
  obtain rfl := h5.eq_unread hf3; obtain rfl := h6.eq_unread hf4
  have hG : a6.view.read (Elt F) (a6.view.writes (Elt F) (h6.unread x4) [⟨Rect.unit (k0_off1 i) S1x1024x128.size (Gen.k0_off1_inb i),
        k0_pay1 (k0_pay28 x1 x2 (diagonal i x0) (diagonal i x3) (diagonal i x4))⟩])
      = VecWindow.put x4 (k0_off1 i) S1x1024x128.size
      (k0_pay1 (k0_pay28 x1 x2 (diagonal i x0) (diagonal i x3) (diagonal i x4))) :=
      (View.read_writes_cons_put _ _ _ _ _ rfl).trans (by rw [View.writes_nil, h6.read_unread])
  have key := after_eq i x0 x1 x2 x3 c a2 h2 a3 h3 a4 h4 a5 h5 a6 h6 a7 h7 a8 h8 x4 _ hG
  dsimp only at key
  sl_exec (disch := first | sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; swap; · iexact H4
    ipureintro
    refine Eq.trans ?_ key.1
    simp only [View.writes_append]
    clear key
    sl_unfold_words
    simp only [View.readAt_eq_ld, h2.read_unread, h3.read_unread, h4.read_unread, h5.read_unread, View.ld_unit_zero (S := S1x1024x128) Common.hz3, h6.read_unread]
    exact rfl
  isplitl [H5]
  · iexists _; isplitr; swap; · iexact H5
    ipureintro
    refine (View.read_writes_full _ _ _ _ _).trans (Eq.trans ?_ ((congrArg (fun z => k0_pay17 z.1) key.2).trans (congrArg (fun z => k0_pay17 z.1) (walk_carried i x0 x3 _ _ _ _ _ _))))
    simp only [View.writes_append]
    clear key
    sl_unfold_words
    simp only [View.readAt_eq_ld, h2.read_unread, h3.read_unread, h4.read_unread, h5.read_unread, View.ld_unit_zero (S := S1x1024x128) Common.hz3, h6.read_unread]
    exact rfl
  iexists _; isplitr; swap; · iexact H6
  ipureintro
  refine (View.read_writes_full _ _ _ _ _).trans (Eq.trans ?_ ((congrArg (fun z => k0_pay18 z.2) key.2).trans (congrArg (fun z => k0_pay18 z.2) (walk_carried i x0 x3 _ _ _ _ _ _))))
  simp only [View.writes_append]
  clear key
  sl_unfold_words
  simp only [View.readAt_eq_ld, h2.read_unread, h3.read_unread, h4.read_unread, h5.read_unread, View.ld_unit_zero (S := S1x1024x128) Common.hz3, h6.read_unread]
  exact rfl

end Loop

end Cert.FoxBwd

end
-- ==== Proof.FoxFrame.lean ====
module

public import proofs.«01_k».proof.Proof.FoxBody
public import Idealize.ShloMosaic.Lib.Claim

@[expose] public section

set_option maxRecDepth 16384

noncomputable section

namespace Cert.FoxBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KFoxBwdIdeal Cert.KFoxBwdIdeal.Gen Cert.KFoxBwdIdeal.Facts₀ Cert.KFoxBwdIdeal.Facts

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A head's first point is the one whose number four divides. -/
theorem first_iff (t : Fin cfg0.N) : atFirst (grid0.coords t) ↔ t.val % 4 = 0 := by
  revert t; decide +kernel

/-- What the first result's buffer holds after point `n`: it starts from zero at a head's first point and from what the
    point before left at the others. -/
def dqAt (c : Dev nD) : (n : ℕ) → n < cfg0.N → Vec F S1x4096x128 .f32
  | 0, h => dqAfter (grid0.coords ⟨0, h⟩) (iblk m c 0 ⟨0, h⟩) (iblk m c 1 ⟨0, h⟩) (iblk m c 2 ⟨0, h⟩) (iblk m c 3 ⟨0, h⟩) k0_pay19
  | n + 1, h => dqAfter (grid0.coords ⟨n + 1, h⟩) (iblk m c 0 ⟨n + 1, h⟩) (iblk m c 1 ⟨n + 1, h⟩) (iblk m c 2 ⟨n + 1, h⟩)
      (iblk m c 3 ⟨n + 1, h⟩) (if (n + 1) % 4 = 0 then k0_pay19 else dqAt c n (Nat.lt_of_succ_lt h))

theorem dqAt_first (c : Dev nD) (t : Fin cfg0.N) (h : t.val % 4 = 0) :
    dqAt m c t.val t.isLt = dqAfter (grid0.coords t) (iblk m c 0 t) (iblk m c 1 t) (iblk m c 2 t) (iblk m c 3 t) k0_pay19 := by
  obtain ⟨n, hn⟩ := t
  cases n with
  | zero => rfl
  | succ n => rw [dqAt, if_pos h]

theorem dqAt_next (c : Dev nD) (t : Fin cfg0.N) (h : ¬ t.val % 4 = 0) :
    dqAt m c t.val t.isLt = dqAfter (grid0.coords t) (iblk m c 0 t) (iblk m c 1 t) (iblk m c 2 t) (iblk m c 3 t)
      (dqAt m c (t.val - 1) (Nat.lt_of_le_of_lt (Nat.sub_le _ _) t.isLt)) := by
  obtain ⟨n, hn⟩ := t
  cases n with
  | zero => exact absurd rfl h
  | succ n => rw [dqAt, if_neg h]; rfl

/-- The proof data: what every window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dqAt m c t.val t.isLt
    | ⟨5, _⟩ => dkAfter (grid0.coords t) (iblk m c 0 t) (iblk m c 1 t) (iblk m c 2 t) (iblk m c 3 t)
    | ⟨6, _⟩ => dvAfter (grid0.coords t) (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = dqAt m c t.val t.isLt := by dsimp only [dats]
theorem after_5 (c : Dev nD) (t : Fin cfg0.N) : (dats m 0 c).after 5 t
    = dkAfter (grid0.coords t) (iblk m c 0 t) (iblk m c 1 t) (iblk m c 2 t) (iblk m c 3 t) := by dsimp only [dats]
theorem after_6 (c : Dev nD) (t : Fin cfg0.N) : (dats m 0 c).after 6 t
    = dvAfter (grid0.coords t) (iblk m c 0 t) (iblk m c 1 t) (iblk m c 2 t) (iblk m c 3 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- Away from a head's first point the first result's buffer holds what the point before left. -/
theorem before_4 (c : Dev nD) (t : Fin cfg0.N) (h : ¬ t.val % 4 = 0) (d) :
    (dats m 0 c).before 4 t d = dqAt m c (t.val - 1) (Nat.lt_of_le_of_lt (Nat.sub_le _ _) t.isLt) := by
  have hN : t.val < 32 := lt_of_lt_of_eq t.isLt (show cfg0.N = 32 from N_0)
  rw [Dat.before_out_kept _ 4 rfl t (by omega) (Bool.eq_false_iff.mpr fun h' => by have := (flush0_4 _).mp h'; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 800000 in
/-- The body at every point, from what the windows' buffers hold before it to what they hold after. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  by_cases h0 : t.val % 4 = 0
  · rw [dqAt_first m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (body_first (grid0.coords t) (iblk m c 0 t) (iblk m c 1 t) (iblk m c 2 t) (iblk m c 3 t) c _ _ _ _ _ _ _ _ _ _ _ _ _ _ ((first_iff t).mpr h0) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [dqAt_next m c t h0]
    simp only [before_4 m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (body_next (grid0.coords t) (iblk m c 0 t) (iblk m c 1 t) (iblk m c 2 t) (iblk m c 3 t) c _ _ _ _ _ _ _ _ _ _ _ _ _ _ (fun h => h0 ((first_iff t).mp h)) _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole run: every array ends as the proof data say, every counter at zero. -/
theorem run_all : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run leaves the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.FoxBwd

end
-- ==== Proof.FoxPoint.lean ====
/-
  One point of the attention's backward call over the real numbers: what it adds to the first result and what it leaves
  in the other two, from blocks that hold real numbers.
-/
module

public import proofs.«01_k».proof.Proof.FoxBody
public import Idealize.ShloMosaic.Lib.WordCmp

@[expose] public section

set_option maxRecDepth 16384

noncomputable section

namespace Cert.FoxBwd

open Idealize.ShloMosaic Idealize.ShloMosaic.TcCoe Idealize.ShloMosaic.Tactic
open Cert.KFoxBwdIdeal Cert.KFoxBwdIdeal.Gen Cert.KFoxBwdIdeal.Facts₀ Cert.KFoxBwdIdeal.Facts

/-- A sum of real numbers is a real number. -/
theorem coe_sum {ι : Type} [Fintype ι] (f : ι → ℝ) : ∑ x, ((f x : ℝ) : EReal) = ((∑ x, f x : ℝ) : EReal) := by
  classical
  refine Finset.induction_on (Finset.univ : Finset ι) (by simp) fun a s ha ih => ?_
  rw [Finset.sum_insert ha, Finset.sum_insert ha, ih, EReal.coe_add]

theorem coe_sum_mul {ι : Type} [Fintype ι] (f g : ι → ℝ) :
    ∑ x, ((f x : ℝ) : EReal) * ((g x : ℝ) : EReal) = ((∑ x, f x * g x : ℝ) : EReal) := by
  rw [← coe_sum]; simp only [EReal.coe_mul]

theorem select_ofBool {α : Type} (p : Prop) [Decidable p] (a b : α) : Scalar.select (BitVec.ofBool (decide p)) a b = if p then a else b := by
  by_cases h : p <;> simp [Scalar.select, h]

/-- The name that stands for the mask is minus infinity. -/
theorem mask_bot : (Named.named (F := Ideal) κ "mask" (φ := .f32) 4048155338#32) = (⊥ : EReal) := rfl

/-- Indices of three axes that agree on each. -/
theorem idx_ext3 {f : Fin 3 → ℕ} {i j : (a : Fin 3) → Fin (f a)} (h0 : (i 0).val = (j 0).val) (h1 : (i 1).val = (j 1).val) (h2 : (i 2).val = (j 2).val) : i = j :=
  funext fun a => Fin.ext (by fin_cases a; exacts [h0, h1, h2])

section Real
variable (Q K D V : ℕ → Fin 128 → ℝ)

/-- The probability of key `j` at query `i`, from rows whose products already carry the gate and the row's normaliser. -/
def prob (i j : ℕ) : ℝ := if j ≤ i then Real.exp (∑ l, Q i l * K j l) else 0

/-- The score's cotangent. -/
def dscore (i j : ℕ) : ℝ := prob Q K i j * ∑ l, D i l * V j l

variable {Q K D V}

/-- A block that holds the rows of `X` from row `a` on. -/
def Holds (n : ℕ) (x : Vec Ideal ⟨3, ![1, n, 128]⟩ .bf16) (X : ℕ → Fin 128 → ℝ) (a : ℕ) : Prop :=
  ∀ (r : Fin n) (l : Fin 128), x (ix3 0 r l) = ((X (a + r.val) l : ℝ) : EReal)

variable {x1 x2 q d : Vec Ideal S1x1024x128 .bf16} {a b : ℕ}

theorem diag_prob (hq : Holds 1024 q Q a) (hk : Holds 1024 x1 K a) (r c : Fin 1024) :
    k0_pay25 (F := Ideal) x1 q (ix2 r c) = ((prob Q K (a + r.val) (a + c.val) : ℝ) : EReal) := by
  unfold_payloads
  pointwise
  rw [WordCmp.cmpi_sge_ofNat (by have := r.isLt; omega) (by have := c.isLt; omega), select_ofBool, mask_bot]
  simp only [hq r _, hk c _, coe_sum_mul, prob, Nat.add_le_add_iff_left]
  split
  · exact Ideal.exp_coe _
  · exact Ideal.exp_bot

theorem diag_ds (hq : Holds 1024 q Q a) (hd : Holds 1024 d D a) (hk : Holds 1024 x1 K a) (hv : Holds 1024 x2 V a) (r c : Fin 1024) :
    k0_pay27 (F := Ideal) x1 x2 q d (ix2 r c) = ((dscore Q K D V (a + r.val) (a + c.val) : ℝ) : EReal) := by
  unfold k0_pay27 k0_pay24 k0_pay21
  pointwise [diag_prob hq hk, hd _, hv _]
  rw [coe_sum_mul, ← EReal.coe_mul, dscore]

/-- The first result's rows on the diagonal. -/
theorem diag_dq (hq : Holds 1024 q Q a) (hd : Holds 1024 d D a) (hk : Holds 1024 x1 K a) (hv : Holds 1024 x2 V a)
    (y : Vec Ideal S1x1024x128 .f32) (r : Fin 1024) (l : Fin 128) :
    k0_pay1 (F := Ideal) (k0_pay28 x1 x2 q d y) (ix3 0 r l)
      = y (ix3 0 r l) + ((∑ c : Fin 1024, dscore Q K D V (a + r.val) (a + c.val) * K (a + c.val) l : ℝ) : EReal) := by
  unfold k0_pay1 k0_pay28 k0_pay20
  pointwise [diag_ds hq hd hk hv, hk _]
  rw [coe_sum_mul]

/-- The second result from the rows on the diagonal. -/
theorem diag_dk (hq : Holds 1024 q Q a) (hd : Holds 1024 d D a) (hk : Holds 1024 x1 K a) (hv : Holds 1024 x2 V a)
    (c : Fin 1024) (l : Fin 128) :
    k0_pay2 (F := Ideal) k0_pay22 (k0_pay23 q) (k0_pay27 x1 x2 q d) (ix2 c l)
      = ((∑ r : Fin 1024, dscore Q K D V (a + r.val) (a + c.val) * Q (a + r.val) l : ℝ) : EReal) := by
  unfold k0_pay2 k0_pay22 k0_pay23
  pointwise [diag_ds hq hd hk hv, hq _]
  rw [coe_sum_mul]

/-- The third. -/
theorem diag_dv (hq : Holds 1024 q Q a) (hd : Holds 1024 d D a) (hk : Holds 1024 x1 K a) (c : Fin 1024) (l : Fin 128) :
    k0_pay26 (F := Ideal) x1 q d (ix2 c l) = ((∑ r : Fin 1024, prob Q K (a + r.val) (a + c.val) * D (a + r.val) l : ℝ) : EReal) := by
  unfold k0_pay26 k0_pay24
  pointwise [diag_prob hq hk, hd _]
  rw [coe_sum_mul]

/-- Below the diagonal nothing is masked. -/
theorem below_prob (hq : Holds 1024 q Q a) (hk : Holds 1024 x1 K b) (hab : b + 1024 ≤ a) (r c : Fin 1024) :
    k0_pay5 (F := Ideal) (k0_pay20 x1) q (ix2 r c) = ((prob Q K (a + r.val) (b + c.val) : ℝ) : EReal) := by
  unfold k0_pay5 k0_pay3 k0_pay20
  pointwise [hq _, hk _]
  rw [coe_sum_mul, prob, if_pos (by have := c.isLt; omega), Ideal.exp_coe]

theorem below_ds (hq : Holds 1024 q Q a) (hd : Holds 1024 d D a) (hk : Holds 1024 x1 K b) (hv : Holds 1024 x2 V b) (hab : b + 1024 ≤ a)
    (r c : Fin 1024) :
    k0_pay7 (F := Ideal) (k0_pay20 x1) (k0_pay21 x2) q d (ix2 r c) = ((dscore Q K D V (a + r.val) (b + c.val) : ℝ) : EReal) := by
  unfold k0_pay7 k0_pay4 k0_pay21
  pointwise [below_prob hq hk hab, hd _, hv _]
  rw [coe_sum_mul, ← EReal.coe_mul, dscore]

theorem keys_at (hk : Holds 1024 x1 K b) (c : Fin 1024) (l : Fin 128) : k0_pay20 (F := Ideal) x1 (ix2 c l) = ((K (b + c.val) l : ℝ) : EReal) := by
  unfold k0_pay20
  pointwise [hk _]

theorem below_dq (hq : Holds 1024 q Q a) (hd : Holds 1024 d D a) (hk : Holds 1024 x1 K b) (hv : Holds 1024 x2 V b) (hab : b + 1024 ≤ a)
    (y : Vec Ideal S1x1024x128 .f32) (r : Fin 1024) (l : Fin 128) :
    k0_pay8 (F := Ideal) (k0_pay20 x1) (k0_pay21 x2) q d y (ix3 0 r l)
      = y (ix3 0 r l) + ((∑ c : Fin 1024, dscore Q K D V (a + r.val) (b + c.val) * K (b + c.val) l : ℝ) : EReal) := by
  unfold k0_pay8
  pointwise [below_ds hq hd hk hv hab, keys_at hk]
  rw [coe_sum_mul]

theorem below_dk (hq : Holds 1024 q Q a) (hd : Holds 1024 d D a) (hk : Holds 1024 x1 K b) (hv : Holds 1024 x2 V b) (hab : b + 1024 ≤ a)
    (y : FVec Ideal S1024x128 .f32) (c : Fin 1024) (l : Fin 128) :
    k0_pay9 (F := Ideal) (k0_pay20 x1) (k0_pay21 x2) y q d (ix2 c l)
      = y (ix2 c l) + ((∑ r : Fin 1024, dscore Q K D V (a + r.val) (b + c.val) * Q (a + r.val) l : ℝ) : EReal) := by
  unfold k0_pay9 k0_pay3
  pointwise [below_ds hq hd hk hv hab, hq _]
  rw [coe_sum_mul]

theorem below_dv (hq : Holds 1024 q Q a) (hd : Holds 1024 d D a) (hk : Holds 1024 x1 K b) (hab : b + 1024 ≤ a)
    (y : FVec Ideal S1024x128 .f32) (c : Fin 1024) (l : Fin 128) :
    k0_pay6 (F := Ideal) (k0_pay20 x1) y q d (ix2 c l)
      = y (ix2 c l) + ((∑ r : Fin 1024, prob Q K (a + r.val) (b + c.val) * D (a + r.val) l : ℝ) : EReal) := by
  unfold k0_pay6 k0_pay4
  pointwise [below_prob hq hk hab, hd _]
  rw [coe_sum_mul]

/-! ## Windows and what is put over them -/

theorem window_at {e : EltTy} {F : FTy → Type} [FloatOps F] (x : Vec F S1x4096x128 e) {off : Fin 3 → ℕ} (inb : ∀ a, off a + S1x1024x128.size a ≤ S1x4096x128.size a)
    {o : ℕ} (ho : off = ![0, o, 0]) (r : Fin 1024) (l : Fin 128) (hr : o + r.val < 4096) :
    (VecWindow.window (s := S1x4096x128) x off S1x1024x128.size inb : Vec F S1x1024x128 e) (ix3 0 r l) = x (ix3 0 ⟨o + r.val, hr⟩ l) := by
  subst ho
  unfold VecWindow.window
  refine congrArg x (idx_ext3 ?_ ?_ ?_)
  · rfl
  · show o + 1 * r.val = o + r.val
    omega
  · show 0 + 1 * l.val = l.val
    omega

theorem window_holds (x : Vec Ideal S1x4096x128 .bf16) {off : Fin 3 → ℕ} (inb : ∀ a, off a + S1x1024x128.size a ≤ S1x4096x128.size a)
    {o : ℕ} (ho : off = ![0, o, 0]) (hx : Holds 4096 x Q 0) :
    Holds 1024 (VecWindow.window (s := S1x4096x128) x off S1x1024x128.size inb) Q o := by
  intro r l
  have h1 := inb 1
  subst ho
  have hr : o + r.val < 4096 := by
    have := r.isLt
    have h2 : o + 1024 ≤ 4096 := h1
    omega
  refine (window_at (F := Ideal) x inb rfl r l hr).trans ((hx ⟨o + r.val, hr⟩ l).trans ?_)
  rw [Nat.zero_add]

/-- Contents that hold real numbers, the rows from `o` on raised by `A`. -/
theorem put_at {x : Vec Ideal S1x4096x128 .f32} {Y A : ℕ → Fin 128 → ℝ} (hx : ∀ (r : Fin 4096) (l : Fin 128), x (ix3 0 r l) = ((Y r.val l : ℝ) : EReal))
    {off : Fin 3 → ℕ} (inb : ∀ a, off a + S1x1024x128.size a ≤ S1x4096x128.size a) {o : ℕ} (ho : off = ![0, o, 0]) {w : Vec Ideal S1x1024x128 .f32}
    (hw : ∀ (r : Fin 1024) (l : Fin 128), w (ix3 0 r l)
      = (VecWindow.window (s := S1x4096x128) x off S1x1024x128.size inb : Vec Ideal S1x1024x128 .f32) (ix3 0 r l) + ((A (o + r.val) l : ℝ) : EReal))
    (r : Fin 4096) (l : Fin 128) :
    (VecWindow.put (s := S1x4096x128) x off S1x1024x128.size w : Vec Ideal S1x4096x128 .f32) (ix3 0 r l)
      = ((Y r.val l + (if o ≤ r.val ∧ r.val < o + 1024 then A r.val l else 0) : ℝ) : EReal) := by
  unfold VecWindow.put
  by_cases h : o ≤ r.val ∧ r.val < o + 1024
  · rw [dif_pos (show ∀ a : Fin 3, off a ≤ ((ix3 (0 : Fin 1) r l : S1x4096x128.Idx) a).val ∧ ((ix3 (0 : Fin 1) r l : S1x4096x128.Idx) a).val < off a + S1x1024x128.size a from ?_), if_pos h]
    · have hr : r.val - o < 1024 := by omega
      refine Eq.trans (congrArg w (idx_ext3 (j := ix3 0 ⟨r.val - o, hr⟩ l) ?_ ?_ ?_)) ((hw ⟨r.val - o, hr⟩ l).trans ?_)
      · subst ho; rfl
      · subst ho; rfl
      · subst ho; rfl
      · have hro : o + (r.val - o) < 4096 := by have := r.isLt; omega
        rw [show (VecWindow.window (s := S1x4096x128) x off S1x1024x128.size inb : Vec Ideal S1x1024x128 .f32) (ix3 0 ⟨r.val - o, hr⟩ l) = _ from
            window_at (F := Ideal) x inb ho ⟨r.val - o, hr⟩ l hro, hx, ← EReal.coe_add]
        simp only [Nat.add_sub_of_le h.1]
    · subst ho
      intro a
      fin_cases a
      · exact ⟨le_rfl, Nat.one_pos⟩
      · exact h
      · exact ⟨Nat.zero_le _, by have := l.isLt; show l.val < 0 + 128; omega⟩
  · rw [dif_neg, if_neg h, hx, add_zero]
    intro hall
    subst ho
    exact h (hall 1)

/-! ## The whole point -/

theorem trips_eq : ∀ i : grid0.Coords, (k0_t1_loop i).trips = 3 - (i 1).val := by decide +kernel
theorem tile_lt (i : grid0.Coords) : (i 1).val < 4 := (i 1).isLt

variable (i : grid0.Coords) {x0 x3 : Vec Ideal S1x4096x128 .bf16}

/-- What the point adds to the first result's row `r`. -/
def addDq (Q K D V : ℕ → Fin 128 → ℝ) (j r : ℕ) (l : Fin 128) : ℝ := ∑ c : Fin 1024, dscore Q K D V r (1024 * j + c.val) * K (1024 * j + c.val) l

/-- A row before the keys takes nothing from them. -/
theorem addDq_early {j r : ℕ} (h : r < 1024 * j) (l : Fin 128) : addDq Q K D V j r l = 0 :=
  Finset.sum_eq_zero fun c _ => by rw [dscore, prob, if_neg (by omega), zero_mul, zero_mul]

/-- The loop after `k` trips. -/
theorem walk_at (h0 : Holds 4096 x0 Q 0) (h1 : Holds 1024 x1 K (1024 * (i 1).val)) (h2 : Holds 1024 x2 V (1024 * (i 1).val)) (h3 : Holds 4096 x3 D 0)
    {y : Vec Ideal S1x4096x128 .f32} {Y : ℕ → Fin 128 → ℝ} (hy : ∀ (r : Fin 4096) (l : Fin 128), y (ix3 0 r l) = ((Y r.val l : ℝ) : EReal)) :
    ∀ k, k ≤ 3 - (i 1).val →
      let w := walk (F := Ideal) i x0 x3 (k0_pay20 x1) (k0_pay21 x2) (startOf i x0 x1 x2 x3)
        (VecWindow.put y (k0_off1 i) S1x1024x128.size (k0_pay1 (k0_pay28 x1 x2 (diagonal i x0) (diagonal i x3) (diagonal i y)))) k
      (∀ (c : Fin 1024) (l : Fin 128), w.1.1 (ix2 c l) = ((∑ n ∈ Finset.range (k + 1), ∑ r : Fin 1024,
          dscore Q K D V (1024 * ((i 1).val + n) + r.val) (1024 * (i 1).val + c.val) * Q (1024 * ((i 1).val + n) + r.val) l : ℝ) : EReal))
      ∧ (∀ (c : Fin 1024) (l : Fin 128), w.1.2 (ix2 c l) = ((∑ n ∈ Finset.range (k + 1), ∑ r : Fin 1024,
          prob Q K (1024 * ((i 1).val + n) + r.val) (1024 * (i 1).val + c.val) * D (1024 * ((i 1).val + n) + r.val) l : ℝ) : EReal))
      ∧ (∀ (r : Fin 4096) (l : Fin 128), w.2 (ix3 0 r l)
          = ((Y r.val l + (if r.val < 1024 * ((i 1).val + k + 1) then addDq Q K D V (i 1).val r.val l else 0) : ℝ) : EReal)) := by
  intro k
  induction k with
  | zero =>
    intro _ w
    have hq := window_holds x0 (Gen.k0_off1_inb i) (Gen.k0_off1_eq i) h0
    have hd := window_holds x3 (Gen.k0_off1_inb i) (Gen.k0_off1_eq i) h3
    refine ⟨fun c l => ?_, fun c l => ?_, fun r l => ?_⟩
    · rw [Finset.sum_range_one]
      exact diag_dk hq hd h1 h2 c l
    · rw [Finset.sum_range_one]
      exact diag_dv hq hd h1 c l
    · refine (put_at (A := addDq Q K D V (i 1).val) hy (Gen.k0_off1_inb i) (Gen.k0_off1_eq i) (fun r l => diag_dq hq hd h1 h2 _ r l) r l).trans ?_
      congr 2
      by_cases hr : r.val < 1024 * (i 1).val
      · rw [addDq_early hr, ite_self, ite_self]
      · exact if_congr (by omega) rfl rfl
  | succ k ih =>
    intro hk w
    obtain ⟨ihk, ihv, ihq⟩ := ih (by omega)
    have ht : k < (k0_t1_loop i).trips := by rw [trips_eq]; omega
    have hoff := Gen.k0_off2_eq i ⟨k, ht⟩
    have ho : (![0, 1024 * (i 1).val + 1024 * k + 1024, 0] : Fin 3 → ℕ) = ![0, 1024 * ((i 1).val + (k + 1)), 0] := by
      congr 2; omega
    have hq := window_holds x0 (Gen.k0_off2_inb i ⟨k, ht⟩) (hoff.trans ho) h0
    have hd := window_holds x3 (Gen.k0_off2_inb i ⟨k, ht⟩) (hoff.trans ho) h3
    have hab : 1024 * (i 1).val + 1024 ≤ 1024 * ((i 1).val + (k + 1)) := by omega
    show _ ∧ _ ∧ _
    simp only [w, walk]
    rw [dif_pos ht]
    refine ⟨fun c l => ?_, fun c l => ?_, fun r l => ?_⟩
    · refine (below_dk hq hd h1 h2 hab _ c l).trans ?_
      rw [ihk, ← EReal.coe_add, Finset.sum_range_succ _ (k + 1)]
    · refine (below_dv hq hd h1 hab _ c l).trans ?_
      rw [ihv, ← EReal.coe_add, Finset.sum_range_succ _ (k + 1)]
    · refine (put_at (Y := fun r l => Y r l + (if r < 1024 * ((i 1).val + k + 1) then addDq Q K D V (i 1).val r l else 0)) (A := addDq Q K D V (i 1).val) ihq (Gen.k0_off2_inb i ⟨k, ht⟩) (hoff.trans ho) (fun r l => below_dq hq hd h1 h2 hab _ r l) r l).trans ?_
      congr 1
      rw [add_assoc]
      congr 1
      by_cases ha : r.val < 1024 * ((i 1).val + k + 1)
      · rw [if_pos ha, if_neg (by omega), if_pos (by omega), add_zero]
      · rw [if_neg ha, zero_add]
        exact if_congr (by omega) rfl rfl

/-- What the point leaves of the first result. -/
theorem dqAfter_at (h0 : Holds 4096 x0 Q 0) (h1 : Holds 1024 x1 K (1024 * (i 1).val)) (h2 : Holds 1024 x2 V (1024 * (i 1).val)) (h3 : Holds 4096 x3 D 0)
    {y : Vec Ideal S1x4096x128 .f32} {Y : ℕ → Fin 128 → ℝ} (hy : ∀ (r : Fin 4096) (l : Fin 128), y (ix3 0 r l) = ((Y r.val l : ℝ) : EReal))
    (r : Fin 4096) (l : Fin 128) :
    dqAfter i x0 x1 x2 x3 y (ix3 0 r l) = ((Y r.val l + addDq Q K D V (i 1).val r.val l : ℝ) : EReal) := by
  unfold dqAfter walked
  rw [trips_eq]
  refine ((walk_at i h0 h1 h2 h3 hy _ le_rfl).2.2 r l).trans ?_
  rw [if_pos (by have := r.isLt; have := tile_lt i; omega)]

theorem zero_at (r : Fin 4096) (l : Fin 128) : (k0_pay19 (F := Ideal)) (ix3 0 r l) = ((0 : ℝ) : EReal) := by
  unfold k0_pay19
  pointwise
  exact EReal.coe_zero.symm

/-- The rows from the diagonal on are all rows, the others being masked. -/
theorem rows_from (j : ℕ) (hj : j < 4) (f : ℕ → ℝ) (hf : ∀ r, r < 1024 * j → f r = 0) :
    ∑ n ∈ Finset.range (3 - j + 1), ∑ r : Fin 1024, f (1024 * (j + n) + r.val) = ∑ r : Fin 4096, f r.val := by
  have h : ∑ r : Fin 4096, f r.val = ∑ n ∈ Finset.range 4, ∑ r : Fin 1024, f (1024 * n + r.val) := by
    rw [Fin.sum_univ_tiles 4 1024 rfl (fun r : Fin 4096 => f r.val), Finset.sum_range]
    exact Finset.sum_congr rfl fun t _ => Finset.sum_congr rfl fun r _ => congrArg f (congrArg (· + r.val) (Nat.mul_comm _ _))
  have z : ∀ n, n < j → ∑ r : Fin 1024, f (1024 * n + r.val) = 0 := fun n hn =>
    Finset.sum_eq_zero fun r _ => hf _ (by have := r.isLt; omega)
  rw [h, show Finset.range 4 = Finset.range (j + (3 - j + 1)) by congr 1; omega,
    Finset.sum_range_add (fun n => ∑ r : Fin 1024, f (1024 * n + r.val)) j (3 - j + 1), Finset.sum_eq_zero (fun n hn => z n (Finset.mem_range.mp hn)), zero_add]

theorem dkAfter_at (h0 : Holds 4096 x0 Q 0) (h1 : Holds 1024 x1 K (1024 * (i 1).val)) (h2 : Holds 1024 x2 V (1024 * (i 1).val)) (h3 : Holds 4096 x3 D 0)
    (c : Fin 1024) (l : Fin 128) :
    dkAfter i x0 x1 x2 x3 (ix3 0 c l) = ((∑ r : Fin 4096, dscore Q K D V r.val (1024 * (i 1).val + c.val) * Q r.val l : ℝ) : EReal) := by
  have h := (walk_at i h0 h1 h2 h3 (y := k0_pay19 (F := Ideal)) (Y := fun _ _ => 0) zero_at _ le_rfl).1
  unfold dkAfter k0_pay17 walked
  rw [trips_eq]
  pointwise [h]
  rw [rows_from (i 1).val (tile_lt i) (fun r => dscore Q K D V r (1024 * (i 1).val + c.val) * Q r l) fun r hr => by
    rw [dscore, prob, if_neg (by omega), zero_mul, zero_mul]]

theorem dvAfter_at (h0 : Holds 4096 x0 Q 0) (h1 : Holds 1024 x1 K (1024 * (i 1).val)) (h2 : Holds 1024 x2 V (1024 * (i 1).val)) (h3 : Holds 4096 x3 D 0)
    (c : Fin 1024) (l : Fin 128) :
    dvAfter i x0 x1 x2 x3 (ix3 0 c l) = ((∑ r : Fin 4096, prob Q K r.val (1024 * (i 1).val + c.val) * D r.val l : ℝ) : EReal) := by
  have h := (walk_at i h0 h1 h2 h3 (y := k0_pay19 (F := Ideal)) (Y := fun _ _ => 0) zero_at _ le_rfl).2.1
  unfold dvAfter k0_pay18 walked
  rw [trips_eq]
  pointwise [h]
  rw [rows_from (i 1).val (tile_lt i) (fun r => prob Q K r (1024 * (i 1).val + c.val) * D r l) fun r hr => by
    rw [prob, if_neg (by omega), zero_mul]]

end Real
end Cert.FoxBwd
end
-- ==== Proof.FoxMath.lean ====
/-
  Real arithmetic of the attention's gradients: rows of masked scores and their shares, the lanes the kernel's products
  run over, and what the two programs' sums have in common.
-/
module

public import proofs.«01_k».proof.Proof.FoxPoint

@[expose] public section

noncomputable section

namespace Cert.FoxBwd

open Idealize.ShloMosaic Idealize.ShloMosaic.TcCoe

/-! ## A row of masked scores -/

section Row
variable (r : ℕ) (s : ℕ → ℝ)

/-- The score of key `j` in row `r`: minus infinity above the diagonal. -/
def entry (j : ℕ) : EReal := if j ≤ r then ((s j : ℝ) : EReal) else ⊥

/-- The row's maximum. -/
def top : ℝ := (Finset.univ.fold max (⊥ : EReal) fun j : Fin 4096 => entry r s j.val).toReal

/-- A key's exponential under the row's maximum. -/
def weight (j : ℕ) : ℝ := if j ≤ r then Real.exp (s j - top r s) else 0

/-- The row's sum of exponentials. -/
def mass : ℝ := ∑ j : Fin 4096, weight r s j.val

/-- The row's normaliser: the logarithm of the sum of the scores' exponentials. -/
def norm : ℝ := top r s + Real.log (mass r s)

variable {r}

theorem top_eq (hr : r < 4096) : (Finset.univ.fold max (⊥ : EReal) fun j : Fin 4096 => entry r s j.val) = ((top r s : ℝ) : EReal) := by
  unfold top
  refine (EReal.coe_toReal (ne_of_lt ?_) (ne_of_gt ?_)).symm
  · rw [Finset.fold_max_lt]
    refine ⟨bot_lt_top, fun j _ => ?_⟩
    unfold entry
    split
    · exact EReal.coe_lt_top _
    · exact bot_lt_top
  · rw [Finset.lt_fold_max]
    refine Or.inr ⟨⟨r, hr⟩, Finset.mem_univ _, ?_⟩
    unfold entry
    rw [if_pos le_rfl]
    exact EReal.bot_lt_coe _

theorem exp_entry (j : ℕ) : Ideal.exp (entry r s j - ((top r s : ℝ) : EReal)) = ((weight r s j : ℝ) : EReal) := by
  unfold entry weight
  split
  · rw [← EReal.coe_sub, Ideal.exp_coe]
  · rw [EReal.bot_sub, Ideal.exp_bot, EReal.coe_zero]

theorem weight_nonneg (j : ℕ) : 0 ≤ weight r s j := by
  unfold weight; split
  · exact (Real.exp_pos _).le
  · exact le_rfl

theorem mass_pos (hr : r < 4096) : 0 < mass r s :=
  Finset.sum_pos' (fun j _ => weight_nonneg s j.val) ⟨⟨r, hr⟩, Finset.mem_univ _, by
    unfold weight; rw [if_pos le_rfl]; exact Real.exp_pos _⟩

/-- A key's share of the row is the exponential of its score under the normaliser. -/
theorem share_eq (hr : r < 4096) (j : ℕ) : (if j ≤ r then Real.exp (s j - norm r s) else 0) = weight r s j / mass r s := by
  unfold weight
  split
  · rw [norm, ← sub_sub, Real.exp_sub, Real.exp_log (mass_pos s hr)]
  · rw [zero_div]

end Row

/-! ## One head -/

/-- A sum over 128 lanes: the first 64 and the rest. -/
theorem sum_lanes (f : ℕ → ℝ) : ∑ l : Fin 128, f l.val = (∑ l : Fin 64, f l.val) + ∑ l ∈ Finset.range 64, f (64 + l) := by
  rw [Fin.sum_univ_eq_sum_range f 128, Fin.sum_univ_eq_sum_range f 64, show 128 = 64 + 64 from rfl, Finset.sum_range_add]

section Head
variable (A0 A1 A2 A3 A4 : ℕ → ℕ → ℝ) (h : ℕ)

/-- The scaled product of query and key with the two gates. -/
def score (i j : ℕ) : ℝ := (∑ d : Fin 64, A0 i (h * 64 + d.val) * A1 j (h * 64 + d.val)) * (1 / 8) + A3 i h - A3 j h

def share (i j : ℕ) : ℝ := weight i (score A0 A1 A3 h i) j / mass i (score A0 A1 A3 h i)

def attend (i d : ℕ) : ℝ := ∑ j : Fin 4096, share A0 A1 A3 h i j.val * A2 j.val (h * 64 + d)

/-- The product of the output's cotangent and the output. -/
def delta (i : ℕ) : ℝ := ∑ d : Fin 64, A4 i (h * 64 + d.val) * attend A0 A1 A2 A3 h i d.val

/-- The share's cotangent. -/
def ctan (i j : ℕ) : ℝ := ∑ d : Fin 64, A4 i (h * 64 + d.val) * A2 j (h * 64 + d.val)

def qLane (i : ℕ) (l : ℕ) : ℝ :=
  if l < 64 then A0 i (h * 64 + l) * (1 / 8) else if l = 64 then A3 i h else if 67 ≤ l ∧ l < 70 then 1
  else if l = 70 then -norm i (score A0 A1 A3 h i) else 0

def kLane (j : ℕ) (l : ℕ) : ℝ :=
  if l < 64 then A1 j (h * 64 + l) else if l = 67 then -A3 j h else if (64 ≤ l ∧ l < 67) ∨ (70 ≤ l ∧ l < 73) then 1 else 0

def vLane (j : ℕ) (l : ℕ) : ℝ := if l < 64 then A2 j (h * 64 + l) else if l < 67 then 1 else 0

def dLane (i : ℕ) (l : ℕ) : ℝ :=
  if l < 64 then A4 i (h * 64 + l) else if l = 64 then -delta A0 A1 A2 A3 A4 h i else 0

/-- The lanes as rows of 128. -/
abbrev rows (f : ℕ → ℕ → ℝ) : ℕ → Fin 128 → ℝ := fun i l => f i l.val

theorem lanes_qk (i j : ℕ) : ∑ l : Fin 128, rows (qLane A0 A1 A3 h) i l * rows (kLane A1 A3 h) j l
    = score A0 A1 A3 h i j - norm i (score A0 A1 A3 h i) := by
  rw [sum_lanes fun l => qLane A0 A1 A3 h i l * kLane A1 A3 h j l]
  have e : ∀ l : Fin 64, qLane A0 A1 A3 h i l.val * kLane A1 A3 h j l.val = A0 i (h * 64 + l.val) * A1 j (h * 64 + l.val) * (1 / 8) := fun l => by
    unfold qLane kLane
    rw [if_pos l.isLt, if_pos l.isLt]; ring
  rw [Finset.sum_congr rfl fun l _ => e l, ← Finset.sum_mul]
  have t : ∑ l ∈ Finset.range 64, qLane A0 A1 A3 h i (64 + l) * kLane A1 A3 h j (64 + l) = A3 i h - A3 j h - norm i (score A0 A1 A3 h i) := by
    simp only [Finset.sum_range_succ, Finset.sum_range_zero]
    simp [qLane, kLane]
    ring
  rw [t]; unfold score; ring

theorem lanes_dv (i j : ℕ) : ∑ l : Fin 128, rows (dLane A0 A1 A2 A3 A4 h) i l * rows (vLane A2 h) j l
    = ctan A2 A4 h i j - delta A0 A1 A2 A3 A4 h i := by
  rw [sum_lanes fun l => dLane A0 A1 A2 A3 A4 h i l * vLane A2 h j l]
  have e : ∀ l : Fin 64, dLane A0 A1 A2 A3 A4 h i l.val * vLane A2 h j l.val = A4 i (h * 64 + l.val) * A2 j (h * 64 + l.val) := fun l => by
    unfold dLane vLane
    rw [if_pos l.isLt, if_pos l.isLt]
  rw [Finset.sum_congr rfl fun l _ => e l]
  have t : ∑ l ∈ Finset.range 64, dLane A0 A1 A2 A3 A4 h i (64 + l) * vLane A2 h j (64 + l) = - delta A0 A1 A2 A3 A4 h i := by
    simp only [Finset.sum_range_succ, Finset.sum_range_zero]
    simp [dLane, vLane]
  rw [t]; unfold ctan; ring

variable {i : ℕ}

theorem prob_eq (hi : i < 4096) (j : ℕ) : prob (rows (qLane A0 A1 A3 h)) (rows (kLane A1 A3 h)) i j = share A0 A1 A3 h i j := by
  unfold prob
  rw [lanes_qk, share_eq _ hi]; rfl

theorem dscore_eq (hi : i < 4096) (j : ℕ) :
    dscore (rows (qLane A0 A1 A3 h)) (rows (kLane A1 A3 h)) (rows (dLane A0 A1 A2 A3 A4 h)) (rows (vLane A2 h)) i j
      = share A0 A1 A3 h i j * (ctan A2 A4 h i j - delta A0 A1 A2 A3 A4 h i) := by
  unfold dscore
  rw [prob_eq _ _ _ _ hi, lanes_dv]

/-- The product of cotangent and output is the sum of the shares' cotangents by share. -/
theorem delta_eq (i : ℕ) : delta A0 A1 A2 A3 A4 h i = ∑ j : Fin 4096, share A0 A1 A3 h i j.val * ctan A2 A4 h i j.val := by
  unfold delta attend ctan
  simp only [Finset.mul_sum]
  rw [Finset.sum_comm]
  exact Finset.sum_congr rfl fun j _ => Finset.sum_congr rfl fun d _ => by ring

/-- The score's cotangent as a quotient's derivative gives it. -/
def quotient (i j : ℕ) : ℝ :=
  let w := weight i (score A0 A1 A3 h i)
  let t := mass i (score A0 A1 A3 h i)
  (ctan A2 A4 h i j / t + -∑ x : Fin 4096, ctan A2 A4 h i x.val * (1 / (t * t)) * w x.val) * w j

theorem quotient_eq (i j : ℕ) : quotient A0 A1 A2 A3 A4 h i j = share A0 A1 A3 h i j * (ctan A2 A4 h i j - delta A0 A1 A2 A3 A4 h i) := by
  have e : ∑ x : Fin 4096, ctan A2 A4 h i x.val * (1 / (mass i (score A0 A1 A3 h i) * mass i (score A0 A1 A3 h i))) * weight i (score A0 A1 A3 h i) x.val
      = delta A0 A1 A2 A3 A4 h i / mass i (score A0 A1 A3 h i) := by
    rw [delta_eq, Finset.sum_div]
    refine Finset.sum_congr rfl fun x _ => ?_
    unfold share
    rw [div_mul_eq_mul_div, div_div, mul_one_div, div_mul_eq_mul_div, mul_comm (ctan _ _ _ _ _)]
  show (_ + -(∑ x : Fin 4096, _)) * _ = _
  rw [e]; unfold share; ring

end Head

end Cert.FoxBwd
end
-- ==== Proof.FoxHost.lean ====
/-
  The arrays the host makes for the attention's backward call.
-/
module

public import proofs.«01_k».proof.Proof.FoxMath
public import proofs.«01_k».proof.Proof.Common
public import Idealize.ShloMosaic.Lib.StableHlo.ReadAt

@[expose] public section

set_option maxRecDepth 16384

noncomputable section

namespace Cert.FoxBwd

open Idealize.ShloMosaic Idealize.ShloMosaic.TcCoe Idealize.ShloMosaic.Tactic
open Cert.KFoxBwdIdeal Cert.KFoxBwdIdeal.Gen Cert.KFoxBwdIdeal.Facts₀ Cert.KFoxBwdIdeal.Facts

/-- The host operations before the call, in order. -/
abbrev hostLine : List (HloOp τ sig (Elt Ideal)) :=
  List.flatten [hostOps0, hostOps0_1, hostOps0_2, hostOps0_3, hostOps0_4, hostOps0_5, hostOps0_6, hostOps0_7, hostOps0_8, hostOps0_9, hostOps0_10, hostOps0_11,
    hostOps0_12, hostOps0_13, hostOps0_14, hostOps0_15, hostOps0_16, hostOps0_17, hostOps0_18, hostOps0_19, hostOps0_20, hostOps0_21, hostOps0_22,
    hostOps0_23, hostOps0_24, hostOps0_25, hostOps0_26, hostOps0_27, hostOps0_28, hostOps0_29, hostOps0_30, hostOps0_31, hostOps0_32, hostOps0_33,
    hostOps0_34, hostOps0_35, hostOps0_36, hostOps0_37, hostOps0_38, hostOps0_39, hostOps0_40, hostOps0_41, hostOps0_42, hostOps0_43, hostOps0_44,
    hostOps0_45]

variable (m : (ℓ : Loc nD τ sig) → Buf (Elt Ideal) ℓ) (c : Dev nD)

/-- What the buffers hold once the masked scores are there. -/
def scored : Valuation τ sig (Elt Ideal) := StableHlo.after (hostLine.take 142) fun b => m (c, b)

/-- What they hold once the attention's output and its normaliser are there. -/
def attended : Valuation τ sig (Elt Ideal) := StableHlo.after ((hostLine.drop 142).take 18) (scored m c)

theorem V_eq (b : Ref sig .tc) : V m c b = StableHlo.after ((hostLine.drop 142).drop 18) (attended m c) b := by
  unfold attended scored
  rw [← StableHlo.after_append, List.take_append_drop, ← StableHlo.after_append, List.take_append_drop]

/-- The greatest masked score of each row. -/
def rowMax (X : FVec Ideal S8x4096x4096 .f32) : FVec Ideal S8x4096 .f32 :=
  Host.reduce FloatOps.maximumf X (constant S_ FTy.f32 4286578688#32) Gen.reducesTo_S8x4096x4096_S8x4096_d2 Gen.h_S_

/-- The sum of each row's exponentials under given maxima. -/
def rowSum (X : FVec Ideal S8x4096x4096 .f32) (mx : FVec Ideal S8x4096 .f32) : FVec Ideal S8x4096 .f32 :=
  Host.reduceAdd (Host.exp (subf X (broadcastInDim S8x4096x4096 ![0, 1, 2] Gen.bcast_S8x4096x1_S8x4096x4096_0_1_2
    (broadcastInDim S8x4096x1 ![0, 1] Gen.bcast_S8x4096_S8x4096x1_0_1 mx))))
    (constant S_ FTy.f32 0#32) Gen.reducesTo_S8x4096x4096_S8x4096_d2 Gen.h_S_

/-- Maximum and logarithm of the sum together. -/
def normOf (mx sm : FVec Ideal S8x4096 .f32) : FVec Ideal S8x4096x1 .f32 :=
  addf (broadcastInDim S8x4096x1 ![0, 1] Gen.bcast_S8x4096_S8x4096x1_0_1 mx)
    (Host.log (broadcastInDim S8x4096x1 ![0, 1] Gen.bcast_S8x4096_S8x4096x1_0_1 sm))

/-- A number and what is left of it, negated and cut into three parts, laid on lanes 70 to 72 of an array of zeros. -/
def laid (x : FVec Ideal S8x4096x1 .f32) (y : FVec Ideal S8x4096x128 .f32) (z : IVec S8x4096x128 32) : FVec Ideal S8x4096x128 .bf16 :=
  truncf FTy.bf16
      (addf y
        (select
          (cmpi CmpIPredicate.eq z (broadcastInDim S8x4096x128 ![] Gen.bcast_S_S8x4096x128 (constantI S_ 32 72#32)))
          (broadcastInDim S8x4096x128 ![0, 1, 2] Gen.bcast_S8x4096x1_S8x4096x128_0_1_2
            (Host.negf
              (subf (subf x (extf FTy.f32 (truncf FTy.bf16 x Gen.bitsLt_bf16_f32) Gen.bitsLt_bf16_f32))
                (extf FTy.f32
                  (truncf FTy.bf16 (subf x (extf FTy.f32 (truncf FTy.bf16 x Gen.bitsLt_bf16_f32) Gen.bitsLt_bf16_f32))
                    Gen.bitsLt_bf16_f32)
                  Gen.bitsLt_bf16_f32))))
          (select
            (cmpi CmpIPredicate.eq z (broadcastInDim S8x4096x128 ![] Gen.bcast_S_S8x4096x128 (constantI S_ 32 71#32)))
            (broadcastInDim S8x4096x128 ![0, 1, 2] Gen.bcast_S8x4096x1_S8x4096x128_0_1_2
              (Host.negf
                (extf FTy.f32
                  (truncf FTy.bf16 (subf x (extf FTy.f32 (truncf FTy.bf16 x Gen.bitsLt_bf16_f32) Gen.bitsLt_bf16_f32))
                    Gen.bitsLt_bf16_f32)
                  Gen.bitsLt_bf16_f32)))
            (select
              (cmpi CmpIPredicate.eq z (broadcastInDim S8x4096x128 ![] Gen.bcast_S_S8x4096x128 (constantI S_ 32 70#32)))
              (broadcastInDim S8x4096x128 ![0, 1, 2] Gen.bcast_S8x4096x1_S8x4096x128_0_1_2
                (Host.negf (extf FTy.f32 (truncf FTy.bf16 x Gen.bitsLt_bf16_f32) Gen.bitsLt_bf16_f32)))
              (broadcastInDim S8x4096x128 ![] Gen.bcast_S_S8x4096x128 (id (constant S_ FTy.f32 0#32)))))))
      Gen.bitsLt_bf16_f32

theorem rowMax_at (X) (h : Fin 8) (r : Fin 4096) :
    rowMax X (ix2 h r) = Finset.fold max (Ideal.ofBits FTy.f32 4286578688#32) (fun x => X (ix3 h r x)) Finset.univ := by
  unfold rowMax
  pointwise

theorem rowSum_at (X mx) (h : Fin 8) (r : Fin 4096) : rowSum X mx (ix2 h r) = ∑ x, Ideal.exp (X (ix3 h r x) - mx (ix2 h r)) := by
  unfold rowSum
  pointwise

theorem normOf_at (mx sm) (h : Fin 8) (r : Fin 4096) : normOf mx sm (ix3 h r 0) = mx (ix2 h r) + Ideal.log (sm (ix2 h r)) := by
  unfold normOf
  pointwise

theorem laid_at (x y z) (h : Fin 8) (r : Fin 4096) (l : Fin 128) : laid x y z (ix3 h r l) =
    y (ix3 h r l) + Scalar.select (IntOp.cmpi CmpIPredicate.eq (z (ix3 h r l)) 72#32)
        (-(x (ix3 h r 0) - x (ix3 h r 0) - (x (ix3 h r 0) - x (ix3 h r 0))))
        (Scalar.select (IntOp.cmpi CmpIPredicate.eq (z (ix3 h r l)) 71#32) (-(x (ix3 h r 0) - x (ix3 h r 0)))
          (Scalar.select (IntOp.cmpi CmpIPredicate.eq (z (ix3 h r l)) 70#32) (-x (ix3 h r 0)) 0)) := by
  unfold laid
  simp only [id]
  pointwise

theorem norm_arr : (attended m c main_v109 : FVec Ideal S8x4096x1 .f32) = normOf (rowMax (scored m c (Proc.devRef .tc main_v93)))
    (rowSum (scored m c (Proc.devRef .tc main_v93)) (rowMax (scored m c (Proc.devRef .tc main_v93)))) := by
  unfold attended
  generalize scored m c = W
  after_reads_simp
  rfl

theorem q_arr : (V m c main_v129 : FVec Ideal S8x4096x128 .bf16)
    = laid (attended m c (Proc.devRef .tc main_v109)) (attended m c (Proc.devRef .tc main_v107)) (attended m c (Proc.devRef .tc main_v106)) := by
  rw [V_eq]
  generalize attended m c = W
  after_reads_simp
  all_goals try simp -implicitDefEqProofs only [StableHlo.TRef.toBuf, StableHlo.TRef.ofBuf, cast_cast, cast_eq]
  all_goals rfl

theorem lane_arr (h : Fin 8) (r : Fin 4096) (l : Fin 128) : (attended m c main_v106 : IVec S8x4096x128 32) (ix3 h r l) = BitVec.ofNat 32 l.val := by
  unfold attended
  generalize scored m c = W
  after_reads_at

theorem early_arr (h : Fin 8) (r : Fin 4096) (l : Fin 128) : (attended m c main_v107 : FVec Ideal S8x4096x128 .f32) (ix3 h r l)
    = (scored m c main_v62 : FVec Ideal S8x4096x128 .bf16) (ix3 h r l) := by
  unfold attended
  generalize scored m c = W
  after_reads_at

theorem attend_arr {X : FVec Ideal S8x4096x4096 .f32} {v : FVec Ideal S4096x512 .f32} (hX : scored m c (Proc.devRef .tc main_v93) = X)
    (hv : scored m c (Proc.devRef .tc main_arg2) = v) (h : Fin 8) (r : Fin 4096) (d : Fin 64) :
    (attended m c main_v105 : FVec Ideal S8x4096x64 .f32) (ix3 h r d)
      = ∑ x : Fin 4096, Ideal.div (Ideal.exp (X (ix3 h r x) - rowMax X (ix2 h r))) (rowSum X (rowMax X) (ix2 h r)) * v (ix2 x ⟨h.val * 64 + d.val, by omega⟩) := by
  subst hX hv
  simp only [rowSum_at, rowMax_at]
  unfold attended
  generalize scored m c = W
  after_reads_at

/-! ## The arrays' entries, for arguments that hold real numbers -/

/-- The arguments hold the real numbers `A0` to `A4`. -/
structure Given (A0 A1 A2 A3 A4 : ℕ → ℕ → ℝ) : Prop where
  q : ∀ (r : Fin 4096) (x : Fin 512), (m (c, Proc.devRef .tc main_arg0) : FVec Ideal S4096x512 .f32) (ix2 r x) = ((A0 r.val x.val : ℝ) : EReal)
  k : ∀ (r : Fin 4096) (x : Fin 512), (m (c, Proc.devRef .tc main_arg1) : FVec Ideal S4096x512 .f32) (ix2 r x) = ((A1 r.val x.val : ℝ) : EReal)
  v : ∀ (r : Fin 4096) (x : Fin 512), (m (c, Proc.devRef .tc main_arg2) : FVec Ideal S4096x512 .f32) (ix2 r x) = ((A2 r.val x.val : ℝ) : EReal)
  gate : ∀ (r : Fin 4096) (x : Fin 8), (m (c, Proc.devRef .tc main_arg3) : FVec Ideal S4096x8 .f32) (ix2 r x) = ((A3 r.val x.val : ℝ) : EReal)
  ct : ∀ (r : Fin 4096) (x : Fin 512), (m (c, Proc.devRef .tc main_arg4) : FVec Ideal S4096x512 .f32) (ix2 r x) = ((A4 r.val x.val : ℝ) : EReal)

theorem cmp_slt {a b : ℕ} (ha : a < 2 ^ 31) (hb : b < 2 ^ 31) : IntOp.cmpi .slt (BitVec.ofNat 32 a) (BitVec.ofNat 32 b) = BitVec.ofBool (decide (a < b)) :=
  WordCmp.cmpi_slt_ofNat ha hb
theorem cmp_sge {a b : ℕ} (ha : a < 2 ^ 31) (hb : b < 2 ^ 31) : IntOp.cmpi .sge (BitVec.ofNat 32 a) (BitVec.ofNat 32 b) = BitVec.ofBool (decide (b ≤ a)) :=
  WordCmp.cmpi_sge_ofNat ha hb
theorem cmp_sle {a b : ℕ} (ha : a < 2 ^ 31) (hb : b < 2 ^ 31) : IntOp.cmpi .sle (BitVec.ofNat 32 a) (BitVec.ofNat 32 b) = BitVec.ofBool (decide (a ≤ b)) :=
  WordCmp.cmpi_sle_ofNat ha hb
theorem cmp_eq {a b : ℕ} (ha : a < 2 ^ 32) (hb : b < 2 ^ 32) : IntOp.cmpi .eq (BitVec.ofNat 32 a) (BitVec.ofNat 32 b) = BitVec.ofBool (decide (a = b)) :=
  WordCmp.cmpi_eq_ofNat ha hb

theorem ofBits_eighth : Ideal.ofBits .f32 1040187392#32 = ((1 / 8 : ℝ) : EReal) := by
  simp [Ideal.ofBits, Ideal.ieee, -EReal.coe_mul]; norm_num
theorem ofBits_bot : Ideal.ofBits .f32 4286578688#32 = ⊥ := by
  simp [Ideal.ofBits, Ideal.ieee]

/-- What is left of a real number after it is taken away. -/
theorem rest_zero (x : ℝ) : (x : EReal) - x = ((0 : ℝ) : EReal) := by rw [← EReal.coe_sub, sub_self]

/-! What the lanes of the arrays hold, over plain numbers. -/

section Lanes
variable (l : Fin 128) {x f : EReal} {a b : ℝ} (hx : l.val < 64 → x = ((a : ℝ) : EReal))
include hx

theorem early_lanes (hf : f = ((b : ℝ) : EReal)) :
    Scalar.select (IntOp.cmpi CmpIPredicate.slt (BitVec.ofNat 32 l.val) 64#32) (x * Ideal.ofBits FTy.f32 1040187392#32)
      (Scalar.select (IntOp.cmpi CmpIPredicate.eq (BitVec.ofNat 32 l.val) 66#32) (f - f - (f - f))
        (Scalar.select (IntOp.cmpi CmpIPredicate.eq (BitVec.ofNat 32 l.val) 65#32) (f - f)
          (Scalar.select (IntOp.cmpi CmpIPredicate.eq (BitVec.ofNat 32 l.val) 64#32) f
            (Scalar.select (IntOp.andi (IntOp.cmpi CmpIPredicate.sge (BitVec.ofNat 32 l.val) 67#32) (IntOp.cmpi CmpIPredicate.slt (BitVec.ofNat 32 l.val) 70#32)) 1 0))))
      = ((if l.val < 64 then a * (1 / 8) else if l.val = 64 then b else if 67 ≤ l.val ∧ l.val < 70 then 1 else 0 : ℝ) : EReal) := by
  have hl := l.isLt
  rw [cmp_slt (by omega) (by omega), cmp_eq (by omega) (by omega), cmp_eq (by omega) (by omega), cmp_eq (by omega) (by omega), cmp_sge (by omega) (by omega),
    cmp_slt (by omega) (by omega), WordCmp.andi_ofBool, ← Bool.decide_and]
  simp only [select_ofBool, ofBits_eighth, hf, rest_zero]
  split_ifs <;> first | omega | (rename_i h; rw [hx h, EReal.coe_mul]) | simp

theorem k_lanes (hf : f = ((b : ℝ) : EReal)) :
    Scalar.select (IntOp.cmpi CmpIPredicate.slt (BitVec.ofNat 32 l.val) 64#32) x
      (Scalar.select (IntOp.cmpi CmpIPredicate.eq (BitVec.ofNat 32 l.val) 69#32) (-(f - f - (f - f)))
        (Scalar.select (IntOp.cmpi CmpIPredicate.eq (BitVec.ofNat 32 l.val) 68#32) (-(f - f))
          (Scalar.select (IntOp.cmpi CmpIPredicate.eq (BitVec.ofNat 32 l.val) 67#32) (-f)
            (Scalar.select
              (IntOp.ori
                (IntOp.andi (IntOp.cmpi CmpIPredicate.sge (BitVec.ofNat 32 l.val) 64#32) (IntOp.cmpi CmpIPredicate.slt (BitVec.ofNat 32 l.val) 67#32))
                (IntOp.andi (IntOp.cmpi CmpIPredicate.sge (BitVec.ofNat 32 l.val) 70#32) (IntOp.cmpi CmpIPredicate.slt (BitVec.ofNat 32 l.val) 73#32)))
              1 0))))
      = ((if l.val < 64 then a else if l.val = 67 then -b else if (64 ≤ l.val ∧ l.val < 67) ∨ (70 ≤ l.val ∧ l.val < 73) then 1 else 0 : ℝ) : EReal) := by
  have hl := l.isLt
  rw [cmp_slt (by omega) (by omega), cmp_eq (by omega) (by omega), cmp_eq (by omega) (by omega), cmp_eq (by omega) (by omega), cmp_sge (by omega) (by omega),
    cmp_slt (by omega) (by omega), cmp_sge (by omega) (by omega), cmp_slt (by omega) (by omega), WordCmp.andi_ofBool, WordCmp.andi_ofBool, WordCmp.ori_ofBool,
    ← Bool.decide_and, ← Bool.decide_and, ← Bool.decide_or]
  simp only [select_ofBool, hf, rest_zero]
  split_ifs <;> first | omega | (rename_i h; exact hx h) | simp

theorem v_lanes :
    Scalar.select (IntOp.cmpi CmpIPredicate.slt (BitVec.ofNat 32 l.val) 64#32) x
      (Scalar.select (IntOp.andi (IntOp.cmpi CmpIPredicate.sge (BitVec.ofNat 32 l.val) 64#32) (IntOp.cmpi CmpIPredicate.slt (BitVec.ofNat 32 l.val) 67#32)) 1 0)
      = ((if l.val < 64 then a else if l.val < 67 then 1 else 0 : ℝ) : EReal) := by
  have hl := l.isLt
  rw [cmp_slt (by omega) (by omega), cmp_sge (by omega) (by omega), cmp_slt (by omega) (by omega), WordCmp.andi_ofBool, ← Bool.decide_and]
  simp only [select_ofBool]
  split_ifs <;> first | omega | (rename_i h; exact hx h) | simp

theorem d_lanes (hf : f = ((b : ℝ) : EReal)) :
    Scalar.select (IntOp.cmpi CmpIPredicate.slt (BitVec.ofNat 32 l.val) 64#32) x
      (Scalar.select (IntOp.cmpi CmpIPredicate.eq (BitVec.ofNat 32 l.val) 66#32) (-(f - f - (f - f)))
        (Scalar.select (IntOp.cmpi CmpIPredicate.eq (BitVec.ofNat 32 l.val) 65#32) (-(f - f))
          (Scalar.select (IntOp.cmpi CmpIPredicate.eq (BitVec.ofNat 32 l.val) 64#32) (-f) 0)))
      = ((if l.val < 64 then a else if l.val = 64 then -b else 0 : ℝ) : EReal) := by
  have hl := l.isLt
  rw [cmp_slt (by omega) (by omega), cmp_eq (by omega) (by omega), cmp_eq (by omega) (by omega), cmp_eq (by omega) (by omega)]
  simp only [select_ofBool, hf, rest_zero]
  split_ifs <;> first | omega | (rename_i h; exact hx h) | simp

end Lanes

variable {m c} {A0 A1 A2 A3 A4 : ℕ → ℕ → ℝ} (g : Given m c A0 A1 A2 A3 A4)
include g

theorem score_at (h : Fin 8) (r j : Fin 4096) : (scored m c (Proc.devRef .tc main_v93) : FVec Ideal S8x4096x4096 .f32) (ix3 h r j) = entry r.val (score A0 A1 A3 h.val r.val) j.val := by
  unfold scored
  after_reads_at
  simp only [id]
  pointwise
  rw [cmp_sle (by omega) (by omega), select_ofBool, ofBits_bot, ofBits_eighth]
  simp only [g.q, g.k, g.gate]
  rw [coe_sum_mul, ← EReal.coe_mul, ← EReal.coe_add, ← EReal.coe_sub]
  rfl

theorem early_at (h : Fin 8) (r : Fin 4096) (l : Fin 128) : (scored m c main_v62 : FVec Ideal S8x4096x128 .bf16) (ix3 h r l) =
    ((if l.val < 64 then A0 r.val (h.val * 64 + l.val) * (1 / 8) else if l.val = 64 then A3 r.val h.val else if 67 ≤ l.val ∧ l.val < 70 then 1 else 0 : ℝ) : EReal) := by
  unfold scored
  after_reads_at
  simp only [id]
  pointwise
  exact early_lanes l (fun hl => by rw [dif_pos hl]; exact g.q _ _) (g.gate _ _)

theorem k_at (h : Fin 8) (r : Fin 4096) (l : Fin 128) : (V m c main_v67 : FVec Ideal S8x4096x128 .bf16) (ix3 h r l) = ((kLane A1 A3 h.val r.val l.val : ℝ) : EReal) := by
  unfold V
  after_reads_at
  simp only [id]
  pointwise
  exact k_lanes l (fun hl => by rw [dif_pos hl]; exact g.k _ _) (g.gate _ _)

theorem v_at (h : Fin 8) (r : Fin 4096) (l : Fin 128) : (V m c main_v72 : FVec Ideal S8x4096x128 .bf16) (ix3 h r l) = ((vLane A2 h.val r.val l.val : ℝ) : EReal) := by
  unfold V
  after_reads_at
  simp only [id]
  pointwise
  exact v_lanes l (fun hl => by rw [dif_pos hl]; exact g.v _ _)

/-! The normaliser of a row and the attention's output. -/

theorem rowMax_real (h : Fin 8) (r : Fin 4096) :
    rowMax (scored m c (Proc.devRef .tc main_v93)) (ix2 h r) = ((top r.val (score A0 A1 A3 h.val r.val) : ℝ) : EReal) := by
  rw [rowMax_at, ofBits_bot, ← top_eq _ r.isLt]
  exact Finset.fold_congr fun j _ => score_at g h r j

theorem rowSum_real (h : Fin 8) (r : Fin 4096) :
    rowSum (scored m c (Proc.devRef .tc main_v93)) (rowMax (scored m c (Proc.devRef .tc main_v93))) (ix2 h r)
      = ((mass r.val (score A0 A1 A3 h.val r.val) : ℝ) : EReal) := by
  rw [rowSum_at, rowMax_real g, mass, ← coe_sum]
  exact Finset.sum_congr rfl fun j _ => by rw [score_at g, exp_entry]

theorem norm_at (h : Fin 8) (r : Fin 4096) :
    (attended m c (Proc.devRef .tc main_v109) : FVec Ideal S8x4096x1 .f32) (ix3 h r 0) = ((norm r.val (score A0 A1 A3 h.val r.val) : ℝ) : EReal) := by
  refine (congrFun (norm_arr m c) (ix3 h r 0)).trans ?_
  rw [normOf_at, rowMax_real g, rowSum_real g, Ideal.log_coe, if_neg (not_le.2 (mass_pos _ r.isLt)), ← EReal.coe_add]
  rfl

theorem q_at (h : Fin 8) (r : Fin 4096) (l : Fin 128) : (V m c main_v129 : FVec Ideal S8x4096x128 .bf16) (ix3 h r l) = ((qLane A0 A1 A3 h.val r.val l.val : ℝ) : EReal) := by
  refine (congrFun (q_arr m c) (ix3 h r l)).trans ?_
  have hl := l.isLt
  rw [laid_at, norm_at g, show (attended m c (Proc.devRef .tc main_v107) : FVec Ideal S8x4096x128 .f32) (ix3 h r l) = _ from (early_arr m c h r l).trans (early_at g h r l),
    show (attended m c (Proc.devRef .tc main_v106) : IVec S8x4096x128 32) (ix3 h r l) = _ from lane_arr m c h r l,
    cmp_eq (by omega) (by omega), cmp_eq (by omega) (by omega), cmp_eq (by omega) (by omega)]
  simp only [select_ofBool, rest_zero]
  unfold qLane
  split_ifs <;> first | omega | simp

theorem attend_at (h : Fin 8) (r : Fin 4096) (d : Fin 64) :
    (attended m c (Proc.devRef .tc main_v105) : FVec Ideal S8x4096x64 .f32) (ix3 h r d) = ((attend A0 A1 A2 A3 h.val r.val d.val : ℝ) : EReal) := by
  have a : ∀ (x : Fin 4096) (y : Fin 512), (scored m c (Proc.devRef .tc main_arg2) : FVec Ideal S4096x512 .f32) (ix2 x y) = ((A2 x.val y.val : ℝ) : EReal) := fun x y => by
    rw [← g.v]
    unfold scored
    after_reads_at
  refine (attend_arr m c rfl rfl h r d).trans ?_
  change @Eq EReal _ _
  rw [rowMax_real g, rowSum_real g, attend, ← coe_sum]
  refine Finset.sum_congr rfl fun x _ => ?_
  rw [score_at g, exp_entry, Ideal.div_coe (mass_pos _ r.isLt).ne', a, ← EReal.coe_mul, ← EReal.coe_mul, mul_one_div]
  rfl

theorem d_at (h : Fin 8) (r : Fin 4096) (l : Fin 128) :
    (V m c main_v157 : FVec Ideal S8x4096x128 .bf16) (ix3 h r l) = ((dLane A0 A1 A2 A3 A4 h.val r.val l.val : ℝ) : EReal) := by
  have a : ∀ (x : Fin 4096) (y : Fin 512), (attended m c (Proc.devRef .tc main_arg4) : FVec Ideal S4096x512 .f32) (ix2 x y) = ((A4 x.val y.val : ℝ) : EReal) := fun x y => by
    rw [← g.ct]
    unfold attended scored
    after_reads_at
  have o := attend_at g
  have n := lane_arr m c
  rw [V_eq]
  generalize attended m c = W at *
  after_reads_at
  simp only [id]
  pointwise
  rw [n]
  refine d_lanes l (fun hl => by rw [dif_pos hl]; exact a _ _) ?_
  simp only [a, o]
  exact coe_sum_mul _ _

end Cert.FoxBwd
end
-- ==== Proof.FoxFinal.lean ====
/-
  What the attention's backward call leaves in its three results, for arguments that hold real numbers.
-/
module

public import proofs.«01_k».proof.Proof.FoxFrame
public import proofs.«01_k».proof.Proof.FoxHost

@[expose] public section

set_option maxRecDepth 16384

noncomputable section

namespace Cert.FoxBwd

open Idealize.ShloMosaic Idealize.ShloMosaic.TcCoe Idealize.SL.Sem
open Idealize.ShloMosaic.Pipeline (Dat)
open Cert.KFoxBwdIdeal Cert.KFoxBwdIdeal.Gen

/-- The windows' places: a head's whole rows, or one of its four tiles. -/
theorem places : ∀ t : Fin cfg0.N,
    (∀ a : Fin 3, win0_0.index t a = ![t.val / 4, 0, 0] a) ∧ (∀ a : Fin 3, win0_1.index t a = ![t.val / 4, t.val % 4, 0] a)
    ∧ (∀ a : Fin 3, win0_2.index t a = ![t.val / 4, t.val % 4, 0] a) ∧ (∀ a : Fin 3, win0_3.index t a = ![t.val / 4, 0, 0] a)
    ∧ (∀ a : Fin 3, win0_4.index t a = ![t.val / 4, 0, 0] a) ∧ (∀ a : Fin 3, win0_5.index t a = ![t.val / 4, t.val % 4, 0] a)
    ∧ (∀ a : Fin 3, win0_6.index t a = ![t.val / 4, t.val % 4, 0] a) ∧ (grid0.coords t 1).val = t.val % 4 :=
  (by decide +kernel : ∀ t : Fin grid0.N,
    (∀ a : Fin 3, win0_0.index t a = ![t.val / 4, 0, 0] a) ∧ (∀ a : Fin 3, win0_1.index t a = ![t.val / 4, t.val % 4, 0] a)
    ∧ (∀ a : Fin 3, win0_2.index t a = ![t.val / 4, t.val % 4, 0] a) ∧ (∀ a : Fin 3, win0_3.index t a = ![t.val / 4, 0, 0] a)
    ∧ (∀ a : Fin 3, win0_4.index t a = ![t.val / 4, 0, 0] a) ∧ (∀ a : Fin 3, win0_5.index t a = ![t.val / 4, t.val % 4, 0] a)
    ∧ (∀ a : Fin 3, win0_6.index t a = ![t.val / 4, t.val % 4, 0] a) ∧ (grid0.coords t 1).val = t.val % 4)

/-- The head of a point. -/
def headOf (t : Fin cfg0.N) : Fin 8 := ⟨t.val / 4, by have := lt_of_lt_of_eq t.isLt (show cfg0.N = 32 from N_0); omega⟩

/-- Row `r` of a point's tile. -/
def tileRow (t : Fin cfg0.N) (r : Fin 1024) : Fin 4096 := ⟨1024 * (t.val % 4) + r.val, by omega⟩

variable (m : (ℓ : Loc nD τ sig) → Buf (Elt Ideal) ℓ) (c : Dev nD)

theorem block_0 (t : Fin cfg0.N) (r : Fin 4096) (l : Fin 128) :
    (iblk m c 0 t : S1x4096x128.Idx → EReal) (ix3 0 r l) = (V m c main_v129 : S8x4096x128.Idx → EReal) (ix3 (headOf t) r l) := by
  unfold iblk
  rw [View.read_apply]
  show (V m c main_v129 : S8x4096x128.Idx → EReal) _ = _
  congr 1
  apply idx_ext3
  · show win0_0.index t 0 * 1 + 1 * 0 = t.val / 4; rw [(places t).1 0]; show t.val / 4 * 1 + 1 * 0 = _; omega
  · show win0_0.index t 1 * 4096 + 1 * r.val = r.val; rw [(places t).1 1]; show 0 * 4096 + 1 * r.val = _; omega
  · show win0_0.index t 2 * 128 + 1 * l.val = l.val; rw [(places t).1 2]; show 0 * 128 + 1 * l.val = _; omega

theorem block_3 (t : Fin cfg0.N) (r : Fin 4096) (l : Fin 128) :
    (iblk m c 3 t : S1x4096x128.Idx → EReal) (ix3 0 r l) = (V m c main_v157 : S8x4096x128.Idx → EReal) (ix3 (headOf t) r l) := by
  unfold iblk
  rw [View.read_apply]
  show (V m c main_v157 : S8x4096x128.Idx → EReal) _ = _
  congr 1
  apply idx_ext3
  · show win0_3.index t 0 * 1 + 1 * 0 = t.val / 4; rw [(places t).2.2.2.1 0]; show t.val / 4 * 1 + 1 * 0 = _; omega
  · show win0_3.index t 1 * 4096 + 1 * r.val = r.val; rw [(places t).2.2.2.1 1]; show 0 * 4096 + 1 * r.val = _; omega
  · show win0_3.index t 2 * 128 + 1 * l.val = l.val; rw [(places t).2.2.2.1 2]; show 0 * 128 + 1 * l.val = _; omega

theorem block_1 (t : Fin cfg0.N) (r : Fin 1024) (l : Fin 128) :
    (iblk m c 1 t : S1x1024x128.Idx → EReal) (ix3 0 r l) = (V m c main_v67 : S8x4096x128.Idx → EReal) (ix3 (headOf t) (tileRow t r) l) := by
  unfold iblk
  rw [View.read_apply]
  show (V m c main_v67 : S8x4096x128.Idx → EReal) _ = _
  congr 1
  apply idx_ext3
  · show win0_1.index t 0 * 1 + 1 * 0 = t.val / 4; rw [(places t).2.1 0]; show t.val / 4 * 1 + 1 * 0 = _; omega
  · show win0_1.index t 1 * 1024 + 1 * r.val = 1024 * (t.val % 4) + r.val; rw [(places t).2.1 1]; show t.val % 4 * 1024 + 1 * r.val = _; omega
  · show win0_1.index t 2 * 128 + 1 * l.val = l.val; rw [(places t).2.1 2]; show 0 * 128 + 1 * l.val = _; omega

theorem block_2 (t : Fin cfg0.N) (r : Fin 1024) (l : Fin 128) :
    (iblk m c 2 t : S1x1024x128.Idx → EReal) (ix3 0 r l) = (V m c main_v72 : S8x4096x128.Idx → EReal) (ix3 (headOf t) (tileRow t r) l) := by
  unfold iblk
  rw [View.read_apply]
  show (V m c main_v72 : S8x4096x128.Idx → EReal) _ = _
  congr 1
  apply idx_ext3
  · show win0_2.index t 0 * 1 + 1 * 0 = t.val / 4; rw [(places t).2.2.1 0]; show t.val / 4 * 1 + 1 * 0 = _; omega
  · show win0_2.index t 1 * 1024 + 1 * r.val = 1024 * (t.val % 4) + r.val; rw [(places t).2.2.1 1]; show t.val % 4 * 1024 + 1 * r.val = _; omega
  · show win0_2.index t 2 * 128 + 1 * l.val = l.val; rw [(places t).2.2.1 2]; show 0 * 128 + 1 * l.val = _; omega

/-! ## The results -/

variable {m c} {A0 A1 A2 A3 A4 : ℕ → ℕ → ℝ} (g : Given m c A0 A1 A2 A3 A4)

section
variable (A0 A1 A2 A3 A4)

/-- A head's score cotangents. -/
abbrev ds (h : ℕ) : ℕ → ℕ → ℝ :=
  dscore (rows (qLane A0 A1 A3 h)) (rows (kLane A1 A3 h)) (rows (dLane A0 A1 A2 A3 A4 h)) (rows (vLane A2 h))

def dqArr : S8x4096x128.Idx → EReal := fun i =>
  ((∑ j : Fin 4096, ds A0 A1 A2 A3 A4 (i 0).val (i 1).val j.val * kLane A1 A3 (i 0).val j.val (i 2).val : ℝ) : EReal)

def dkArr : S8x4096x128.Idx → EReal := fun i =>
  ((∑ r : Fin 4096, ds A0 A1 A2 A3 A4 (i 0).val r.val (i 1).val * qLane A0 A1 A3 (i 0).val r.val (i 2).val : ℝ) : EReal)

def dvArr : S8x4096x128.Idx → EReal := fun i =>
  ((∑ r : Fin 4096, prob (rows (qLane A0 A1 A3 (i 0).val)) (rows (kLane A1 A3 (i 0).val)) r.val (i 1).val * dLane A0 A1 A2 A3 A4 (i 0).val r.val (i 2).val : ℝ) : EReal)

end

include g

theorem holds_0 (t : Fin cfg0.N) : Holds 4096 (iblk m c 0 t) (rows (qLane A0 A1 A3 (t.val / 4))) 0 := fun r l => by
  refine (block_0 m c t r l).trans ?_
  rw [Nat.zero_add]
  exact q_at g (headOf t) r l

theorem holds_3 (t : Fin cfg0.N) : Holds 4096 (iblk m c 3 t) (rows (dLane A0 A1 A2 A3 A4 (t.val / 4))) 0 := fun r l => by
  refine (block_3 m c t r l).trans ?_
  rw [Nat.zero_add]
  exact d_at g (headOf t) r l

theorem holds_1 (t : Fin cfg0.N) : Holds 1024 (iblk m c 1 t) (rows (kLane A1 A3 (t.val / 4))) (1024 * (grid0.coords t 1).val) := fun r l => by
  refine (block_1 m c t r l).trans ?_
  rw [(places t).2.2.2.2.2.2.2]
  exact k_at g (headOf t) (tileRow t r) l

theorem holds_2 (t : Fin cfg0.N) : Holds 1024 (iblk m c 2 t) (rows (vLane A2 (t.val / 4))) (1024 * (grid0.coords t 1).val) := fun r l => by
  refine (block_2 m c t r l).trans ?_
  rw [(places t).2.2.2.2.2.2.2]
  exact v_at g (headOf t) (tileRow t r) l

/-- The first result's buffer after point `n`: what the head's tiles so far have added. -/
theorem dqAt_at : ∀ (n : ℕ) (hn : n < cfg0.N) (r : Fin 4096) (l : Fin 128), dqAt m c n hn (ix3 0 r l)
    = ((∑ j ∈ Finset.range (n % 4 + 1), addDq (rows (qLane A0 A1 A3 (n / 4))) (rows (kLane A1 A3 (n / 4)))
        (rows (dLane A0 A1 A2 A3 A4 (n / 4))) (rows (vLane A2 (n / 4))) j r.val l : ℝ) : EReal) := by
  intro n
  induction n with
  | zero =>
    intro hn r l
    rw [dqAt_first m c ⟨0, hn⟩ rfl,
      dqAfter_at _ (holds_0 g ⟨0, hn⟩) (holds_1 g ⟨0, hn⟩) (holds_2 g ⟨0, hn⟩) (holds_3 g ⟨0, hn⟩) (y := k0_pay19 (F := Ideal)) (Y := fun _ _ => 0) zero_at,
      (places ⟨0, hn⟩).2.2.2.2.2.2.2]
    simp
  | succ n ih =>
    intro hn r l
    by_cases h : (n + 1) % 4 = 0
    · rw [dqAt_first m c ⟨n + 1, hn⟩ h,
        dqAfter_at _ (holds_0 g ⟨n + 1, hn⟩) (holds_1 g ⟨n + 1, hn⟩) (holds_2 g ⟨n + 1, hn⟩) (holds_3 g ⟨n + 1, hn⟩) (y := k0_pay19 (F := Ideal)) (Y := fun _ _ => 0) zero_at,
        (places ⟨n + 1, hn⟩).2.2.2.2.2.2.2]
      simp [h]
    · have e1 : n / 4 = (n + 1) / 4 := by omega
      have e2 : (n + 1) % 4 = n % 4 + 1 := by omega
      rw [dqAt_next m c ⟨n + 1, hn⟩ h]
      refine (dqAfter_at _ (holds_0 g ⟨n + 1, hn⟩) (holds_1 g ⟨n + 1, hn⟩) (holds_2 g ⟨n + 1, hn⟩) (holds_3 g ⟨n + 1, hn⟩)
        (y := dqAt m c n (Nat.lt_of_succ_lt hn))
        (Y := fun r l => ∑ j ∈ Finset.range (n % 4 + 1), addDq (rows (qLane A0 A1 A3 (n / 4))) (rows (kLane A1 A3 (n / 4)))
          (rows (dLane A0 A1 A2 A3 A4 (n / 4))) (rows (vLane A2 (n / 4))) j r l) (fun r l => ih (Nat.lt_of_succ_lt hn) r l) r l).trans ?_
      rw [(places ⟨n + 1, hn⟩).2.2.2.2.2.2.2]
      dsimp only
      rw [e1, e2, Finset.sum_range_succ _ (n % 4 + 1)]

/-- The four tiles of a head make up the whole row. -/
theorem four_tiles (f : ℕ → ℝ) : ∑ j ∈ Finset.range 4, ∑ k : Fin 1024, f (1024 * j + k.val) = ∑ k : Fin 4096, f k.val := by
  rw [Fin.sum_univ_tiles 4 1024 rfl fun k : Fin 4096 => f k.val, Finset.sum_range]
  exact Finset.sum_congr rfl fun j _ => Finset.sum_congr rfl fun k _ => by rw [Nat.mul_comm]

theorem final_4 : (dats m 0 c).arrAt 4 cfg0.N = dqArr A0 A1 A2 A3 A4 := by
  refine (dats m 0 c).arrAt_eq_of_cover 4 (dqArr A0 A1 A2 A3 A4) (fun t hf => ?_) fun i => ?_
  · have h3 : t.val % 4 = 3 := (flush0_4 t).mp hf
    show (cfg0.win 4).cut (grid0.coords t) ((dats m 0 c).after 4 t) = _
    rw [after_4]
    funext j
    rw [View.read_apply]
    obtain ⟨z, r, l, rfl⟩ : ∃ (z : Fin 1) (r : Fin 4096) (l : Fin 128), j = ix3 z r l := ⟨_, _, _, eq_ix3 j⟩
    obtain rfl : z = 0 := Subsingleton.elim _ _
    rw [show ((cfg0.win 4).blk t).view.emb (ix3 0 r l) = (ix3 (headOf t) r l : S8x4096x128.Idx) from idx_ext3
      (by show win0_4.index t 0 * 1 + 1 * 0 = t.val / 4; rw [(places t).2.2.2.2.1 0]; show t.val / 4 * 1 + 1 * 0 = _; omega)
      (by show win0_4.index t 1 * 4096 + 1 * r.val = r.val; rw [(places t).2.2.2.2.1 1]; show 0 * 4096 + 1 * r.val = _; omega)
      (by show win0_4.index t 2 * 128 + 1 * l.val = l.val; rw [(places t).2.2.2.2.1 2]; show 0 * 128 + 1 * l.val = _; omega)]
    refine (dqAt_at g t.val t.isLt r l).trans ?_
    rw [h3]
    exact congrArg _ (four_tiles g fun k => ds A0 A1 A2 A3 A4 (t.val / 4) r.val k * kLane A1 A3 (t.val / 4) k l.val)
  · have h0 : (i 0 : Nat) < 8 := (i 0).isLt
    have h1 : (i 1 : Nat) < 4096 := (i 1).isLt
    have h2 : (i 2 : Nat) < 128 := (i 2).isLt
    let t : Fin cfg0.N := ⟨4 * (i 0 : Nat) + 3, by rw [show cfg0.N = 32 from N_0]; omega⟩
    have e : t.val / 4 = (i 0 : Nat) := by show (4 * (i 0 : Nat) + 3) / 4 = _; omega
    refine ⟨t, (flush0_4 t).mpr (by show (4 * (i 0 : Nat) + 3) % 4 = 3; omega), ?_⟩
    show i ∈ ((View.whole main_v158_0).slice (win0_4.rect t)).set
    rw [View.set_slice_whole, Rect.mem_set_unit]
    intro a
    match a with
    | ⟨0, _⟩ =>
      show win0_4.index t 0 * 1 ≤ (i 0 : Nat) ∧ (i 0 : Nat) < win0_4.index t 0 * 1 + 1
      rw [(places t).2.2.2.2.1 0]; show t.val / 4 * 1 ≤ _ ∧ _ < t.val / 4 * 1 + 1; omega
    | ⟨1, _⟩ =>
      show win0_4.index t 1 * 4096 ≤ (i 1 : Nat) ∧ (i 1 : Nat) < win0_4.index t 1 * 4096 + 4096
      rw [(places t).2.2.2.2.1 1]; show 0 * 4096 ≤ _ ∧ _ < 0 * 4096 + 4096; omega
    | ⟨2, _⟩ =>
      show win0_4.index t 2 * 128 ≤ (i 2 : Nat) ∧ (i 2 : Nat) < win0_4.index t 2 * 128 + 128
      rw [(places t).2.2.2.2.1 2]; show 0 * 128 ≤ _ ∧ _ < 0 * 128 + 128; omega

omit g in
/-- The point whose tile holds a given place. -/
theorem tile_point (i : S8x4096x128.Idx) : ∃ t : Fin cfg0.N, t.val / 4 = (i 0).val ∧ t.val % 4 = (i 1).val / 1024 := by
  have h0 : (i 0 : Nat) < 8 := (i 0).isLt
  have h1 : (i 1 : Nat) < 4096 := (i 1).isLt
  exact ⟨⟨4 * (i 0 : Nat) + (i 1 : Nat) / 1024, by rw [show cfg0.N = 32 from N_0]; omega⟩, by dsimp only; omega, by dsimp only; omega⟩

theorem final_5 : (dats m 0 c).arrAt 5 cfg0.N = dkArr A0 A1 A2 A3 A4 := by
  refine (dats m 0 c).arrAt_eq_of_cover 5 (dkArr A0 A1 A2 A3 A4) (fun t _ => ?_) fun i => ?_
  · show (cfg0.win 5).cut (grid0.coords t) ((dats m 0 c).after 5 t) = _
    rw [after_5]
    funext j
    rw [View.read_apply]
    obtain ⟨z, r, l, rfl⟩ : ∃ (z : Fin 1) (r : Fin 1024) (l : Fin 128), j = ix3 z r l := ⟨_, _, _, eq_ix3 j⟩
    obtain rfl : z = 0 := Subsingleton.elim _ _
    rw [show ((cfg0.win 5).blk t).view.emb (ix3 0 r l) = (ix3 (headOf t) (tileRow t r) l : S8x4096x128.Idx) from idx_ext3
      (by show win0_5.index t 0 * 1 + 1 * 0 = t.val / 4; rw [(places t).2.2.2.2.2.1 0]; show t.val / 4 * 1 + 1 * 0 = _; omega)
      (by show win0_5.index t 1 * 1024 + 1 * r.val = 1024 * (t.val % 4) + r.val; rw [(places t).2.2.2.2.2.1 1]; show t.val % 4 * 1024 + 1 * r.val = _; omega)
      (by show win0_5.index t 2 * 128 + 1 * l.val = l.val; rw [(places t).2.2.2.2.2.1 2]; show 0 * 128 + 1 * l.val = _; omega)]
    refine (dkAfter_at _ (holds_0 g t) (holds_1 g t) (holds_2 g t) (holds_3 g t) r l).trans ?_
    rw [(places t).2.2.2.2.2.2.2]
    rfl
  · have h2 : (i 2 : Nat) < 128 := (i 2).isLt
    obtain ⟨t, e0, e1⟩ := tile_point i
    refine ⟨t, flush0_5 t, ?_⟩
    show i ∈ ((View.whole main_v158_1).slice (win0_5.rect t)).set
    rw [View.set_slice_whole, Rect.mem_set_unit]
    intro a
    match a with
    | ⟨0, _⟩ =>
      show win0_5.index t 0 * 1 ≤ (i 0 : Nat) ∧ (i 0 : Nat) < win0_5.index t 0 * 1 + 1
      rw [(places t).2.2.2.2.2.1 0]; show t.val / 4 * 1 ≤ _ ∧ _ < t.val / 4 * 1 + 1; omega
    | ⟨1, _⟩ =>
      show win0_5.index t 1 * 1024 ≤ (i 1 : Nat) ∧ (i 1 : Nat) < win0_5.index t 1 * 1024 + 1024
      rw [(places t).2.2.2.2.2.1 1]; show t.val % 4 * 1024 ≤ _ ∧ _ < t.val % 4 * 1024 + 1024; omega
    | ⟨2, _⟩ =>
      show win0_5.index t 2 * 128 ≤ (i 2 : Nat) ∧ (i 2 : Nat) < win0_5.index t 2 * 128 + 128
      rw [(places t).2.2.2.2.2.1 2]; show 0 * 128 ≤ _ ∧ _ < 0 * 128 + 128; omega

theorem final_6 : (dats m 0 c).arrAt 6 cfg0.N = dvArr A0 A1 A2 A3 A4 := by
  refine (dats m 0 c).arrAt_eq_of_cover 6 (dvArr A0 A1 A2 A3 A4) (fun t _ => ?_) fun i => ?_
  · show (cfg0.win 6).cut (grid0.coords t) ((dats m 0 c).after 6 t) = _
    rw [after_6]
    funext j
    rw [View.read_apply]
    obtain ⟨z, r, l, rfl⟩ : ∃ (z : Fin 1) (r : Fin 1024) (l : Fin 128), j = ix3 z r l := ⟨_, _, _, eq_ix3 j⟩
    obtain rfl : z = 0 := Subsingleton.elim _ _
    rw [show ((cfg0.win 6).blk t).view.emb (ix3 0 r l) = (ix3 (headOf t) (tileRow t r) l : S8x4096x128.Idx) from idx_ext3
      (by show win0_6.index t 0 * 1 + 1 * 0 = t.val / 4; rw [(places t).2.2.2.2.2.2.1 0]; show t.val / 4 * 1 + 1 * 0 = _; omega)
      (by show win0_6.index t 1 * 1024 + 1 * r.val = 1024 * (t.val % 4) + r.val; rw [(places t).2.2.2.2.2.2.1 1]; show t.val % 4 * 1024 + 1 * r.val = _; omega)
      (by show win0_6.index t 2 * 128 + 1 * l.val = l.val; rw [(places t).2.2.2.2.2.2.1 2]; show 0 * 128 + 1 * l.val = _; omega)]
    refine (dvAfter_at _ (holds_0 g t) (holds_1 g t) (holds_2 g t) (holds_3 g t) r l).trans ?_
    rw [(places t).2.2.2.2.2.2.2]
    rfl
  · have h2 : (i 2 : Nat) < 128 := (i 2).isLt
    obtain ⟨t, e0, e1⟩ := tile_point i
    refine ⟨t, flush0_6 t, ?_⟩
    show i ∈ ((View.whole main_v158_2).slice (win0_6.rect t)).set
    rw [View.set_slice_whole, Rect.mem_set_unit]
    intro a
    match a with
    | ⟨0, _⟩ =>
      show win0_6.index t 0 * 1 ≤ (i 0 : Nat) ∧ (i 0 : Nat) < win0_6.index t 0 * 1 + 1
      rw [(places t).2.2.2.2.2.2.1 0]; show t.val / 4 * 1 ≤ _ ∧ _ < t.val / 4 * 1 + 1; omega
    | ⟨1, _⟩ =>
      show win0_6.index t 1 * 1024 ≤ (i 1 : Nat) ∧ (i 1 : Nat) < win0_6.index t 1 * 1024 + 1024
      rw [(places t).2.2.2.2.2.2.1 1]; show t.val % 4 * 1024 ≤ _ ∧ _ < t.val % 4 * 1024 + 1024; omega
    | ⟨2, _⟩ =>
      show win0_6.index t 2 * 128 ≤ (i 2 : Nat) ∧ (i 2 : Nat) < win0_6.index t 2 * 128 + 128
      rw [(places t).2.2.2.2.2.2.1 2]; show 0 * 128 ≤ _ ∧ _ < 0 * 128 + 128; omega

end Cert.FoxBwd

end
-- ==== Proof.FoxRef.lean ====
/-
  The reference attention's gradients, read entry by entry.
-/
module

public import proofs.«01_k».proof.Proof.FoxHost
public import proofs.«01_k».proof.Proof.Gen.RFoxBwdIdeal.Run

@[expose] public section

set_option maxRecDepth 16384

noncomputable section

namespace Cert.FoxBwd.Ref

open Idealize.ShloMosaic Idealize.ShloMosaic.TcCoe Idealize.ShloMosaic.Tactic
open Cert.RFoxBwdIdeal Cert.RFoxBwdIdeal.Gen

abbrev Mat := FVec Ideal S8x4096x4096 .f32

/-! ## The reference's steps -/

def heads (x : FVec Ideal S4096x512 .f32) : FVec Ideal S8x4096x64 .f32 :=
  transpose S8x4096x64 [1, 0, 2] (shapeCast _ x shapeCasts_S4096x512_S4096x8x64) transposes_S4096x8x64_S8x4096x64_1_0_2

def flat (x : FVec Ideal S8x4096x64 .f32) : FVec Ideal S4096x512 .f32 :=
  shapeCast _ (transpose S4096x8x64 [1, 0, 2] x transposes_S8x4096x64_S4096x8x64_1_0_2) shapeCasts_S4096x8x64_S4096x512

def below : IVec S8x4096x4096 1 :=
  broadcastInDim S8x4096x4096 ![1, 2] bcast_S4096x4096_S8x4096x4096_1_2
    (cmpi .sle (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))

def products (x y : FVec Ideal S8x4096x64 .f32) : Mat :=
  Host.dotGeneral dot_S8x4096x64_S8x4096x64_S8x4096x4096_2_2_1_1_0_0 none x y

def column (t : FVec Ideal S8x4096 .f32) : FVec Ideal S8x4096x1 .f32 := broadcastInDim S8x4096x1 ![0, 1] bcast_S8x4096_S8x4096x1_0_1 t

def spread (t : FVec Ideal S8x4096x1 .f32) : Mat := broadcastInDim S8x4096x4096 ![0, 1, 2] bcast_S8x4096x1_S8x4096x4096_0_1_2 t

def every (w : BitVec 32) : Mat := broadcastInDim S8x4096x4096 ![] bcast_S_S8x4096x4096 (constant S_ .f32 w)

def scores (q k : FVec Ideal S8x4096x64 .f32) (cum : FVec Ideal S4096x8 .f32) : Mat :=
  select below
    (subf (addf (mulf (products q k) (every 0x3E000000#32)) (spread (column (transpose S8x4096 [1, 0] cum transposes_S4096x8_S8x4096_1_0))))
      (broadcastInDim S8x4096x4096 ![0, 1, 2] bcast_S8x1x4096_S8x4096x4096_0_1_2
        (broadcastInDim S8x1x4096 ![0, 2] bcast_S8x4096_S8x1x4096_0_2 (transpose S8x4096 [1, 0] cum transposes_S4096x8_S8x4096_1_0))))
    (broadcastInDim S8x4096x4096 ![] bcast_S_S8x4096x4096 (id (constant S_ .f32 0xFF800000#32)))

def maxima (s : Mat) : FVec Ideal S8x4096 .f32 :=
  Host.reduce FloatOps.maximumf s (constant S_ .f32 0xFF800000#32) reducesTo_S8x4096x4096_S8x4096_d2 h_S_

def expUnder (s : Mat) (mx : FVec Ideal S8x4096 .f32) : Mat :=
  Host.exp (subf s (spread (column (maximumf (broadcastInDim S8x4096 ![] bcast_S_S8x4096 (constant S_ .f32 0xFF800000#32)) mx))))

def weights (s : Mat) : Mat := expUnder s (maxima s)

def total (x : Mat) : FVec Ideal S8x4096 .f32 := Host.reduceAdd x (constant S_ .f32 0x00000000#32) reducesTo_S8x4096x4096_S8x4096_d2 h_S_

def totalCol (x : Mat) : FVec Ideal S8x4096 .f32 := Host.reduceAdd x (constant S_ .f32 0x00000000#32) reducesTo_S8x4096x4096_S8x4096_d1 h_S_

def one (x : FVec Ideal S8x4096x1 .f32) : FVec Ideal S8x4096 .f32 := Host.reduceAdd x (constant S_ .f32 0x00000000#32) reducesTo_S8x4096x1_S8x4096_d2 h_S_

def oneRow (x : FVec Ideal S8x1x4096 .f32) : FVec Ideal S8x4096 .f32 := Host.reduceAdd x (constant S_ .f32 0x00000000#32) reducesTo_S8x1x4096_S8x4096_d1 h_S_

/-- The part of the cotangent that a row's sum carries. -/
def carried (g w : Mat) (t : FVec Ideal S8x4096x1 .f32) : FVec Ideal S8x4096 .f32 :=
  one (Host.negf (shapeCast _ (total (mulf (mulf g (spread (Host.divf (broadcastInDim S8x4096x1 ![] bcast_S_S8x4096x1 (constant S_ .f32 0x3F800000#32)) (mulf t t)))) w))
    shapeCasts_S8x4096_S8x4096x1))

def dscores (g w : Mat) (t : FVec Ideal S8x4096x1 .f32) : Mat :=
  select below (mulf (addf (Host.divf g (spread t)) (broadcastInDim S8x4096x4096 ![0, 1] bcast_S8x4096_S8x4096x4096_0_1 (carried g w t))) w) (every 0x00000000#32)

def padded (x : FVec Ideal S8x4096x64 .f32) : FVec Ideal S8x4096x128 .f32 :=
  pad S8x4096x128 ![0, 0, 0] ![0, 0, 64] ![0, 0, 0] x (sitofp .f32 (constantI S_ 32 0#32)) pads_S8x4096x64_S8x4096x128_000_000_0640 h_S_

def onLane (n : BitVec 32) (x : FVec Ideal S8x4096x1 .f32) (y : FVec Ideal S8x4096x128 .f32) : FVec Ideal S8x4096x128 .f32 :=
  select (cmpi .eq (iotaInDim S8x4096x128 32 2) (broadcastInDim S8x4096x128 ![] bcast_S_S8x4096x128 (constantI S_ 32 n)))
    (broadcastInDim S8x4096x128 ![0, 1, 2] bcast_S8x4096x1_S8x4096x128_0_1_2 x) y

def there (x : FVec Ideal S8x4096 .f32) : FVec Ideal S8x4096 .f32 :=
  transpose S8x4096 [1, 0] (transpose S4096x8 [1, 0] x transposes_S8x4096_S4096x8_1_0) transposes_S4096x8_S8x4096_1_0

def byRows (x : Mat) (y : FVec Ideal S8x4096x64 .f32) : FVec Ideal S8x4096x64 .f32 := Host.dotGeneral dot_S8x4096x4096_S8x4096x64_S8x4096x64_2_1_1_2_0_0 none x y

def byColumns (x : Mat) (y : FVec Ideal S8x4096x64 .f32) : FVec Ideal S8x4096x64 .f32 := Host.dotGeneral dot_S8x4096x4096_S8x4096x64_S8x4096x64_1_1_2_2_0_0 none x y

def result0 (ds : Mat) (k : FVec Ideal S8x4096x64 .f32) : FVec Ideal S8x4096x128 .f32 :=
  onLane 64#32 (column (there (one (shapeCast _ (total ds) shapeCasts_S8x4096_S8x4096x1))))
    (padded (heads (mulf (flat (byRows (mulf ds (every 0x3E000000#32)) k)) (broadcastInDim S4096x512 ![] bcast_S_S4096x512 (constant S_ .f32 0x41000000#32)))))

def result1 (ds : Mat) (q : FVec Ideal S8x4096x64 .f32) : FVec Ideal S8x4096x128 .f32 :=
  onLane 67#32 (Host.negf (column (there (oneRow (shapeCast _ (totalCol (Host.negf ds)) shapeCasts_S8x4096_S8x1x4096)))))
    (padded (heads (flat (byColumns (mulf ds (every 0x3E000000#32)) q))))

def result2 (w : Mat) (t : FVec Ideal S8x4096x1 .f32) (d : FVec Ideal S8x4096x64 .f32) : FVec Ideal S8x4096x128 .f32 :=
  padded (heads (flat (transpose S8x4096x64 [0, 2, 1] (Host.dotGeneral dot_S8x4096x64_S8x4096x4096_S8x64x4096_1_1_2_2_0_0 none d (Host.divf w (spread t)))
    transposes_S8x64x4096_S8x4096x64_0_2_1)))

section Results
variable (m : (ℓ : Loc nD τ sig) → Buf (Elt Ideal) ℓ) (c : Dev nD)

def W : Mat := weights (scores (heads (m ((c.tc : Thread nD τ).loc main_arg0))) (heads (m ((c.tc : Thread nD τ).loc main_arg1))) (m ((c.tc : Thread nD τ).loc main_arg3)))
def T : FVec Ideal S8x4096x1 .f32 := column (total (W m c))
def D : Mat := dscores (products (heads (m ((c.tc : Thread nD τ).loc main_arg4))) (heads (m ((c.tc : Thread nD τ).loc main_arg2)))) (W m c) (T m c)

theorem res0_eq : Value.res_out0 m c = result0 (D m c) (heads (m ((c.tc : Thread nD τ).loc main_arg1))) := by
  unfold Value.res_out0 Value.res_main_v102
  rfl

theorem res1_eq : Value.res_out1 m c = result1 (D m c) (heads (m ((c.tc : Thread nD τ).loc main_arg0))) := by
  unfold Value.res_out1 Value.res_main_v111
  rfl

theorem res2_eq : Value.res_out2 m c = result2 (W m c) (T m c) (heads (m ((c.tc : Thread nD τ).loc main_arg4))) := by
  unfold Value.res_out2 Value.res_main_v114
  rfl

end Results

/-! ## Their entries -/

theorem heads_at (x) (h : Fin 8) (r : Fin 4096) (d : Fin 64) : heads x (ix3 h r d) = x (ix2 r ⟨h.val * 64 + d.val, by omega⟩) := by
  unfold heads; pointwise

theorem scores_at (q k cum) (h : Fin 8) (r j : Fin 4096) : scores q k cum (ix3 h r j)
    = Scalar.select (IntOp.cmpi .sle (BitVec.ofNat 32 j.val) (BitVec.ofNat 32 r.val))
        ((∑ d : Fin 64, q (ix3 h r d) * k (ix3 h j d)) * Ideal.ofBits .f32 1040187392#32 + cum (ix2 r h) - cum (ix2 j h)) (Ideal.ofBits .f32 4286578688#32) := by
  unfold scores below spread column every products
  simp only [id]
  pointwise

theorem maxima_at (s) (h : Fin 8) (r : Fin 4096) :
    maxima s (ix2 h r) = Finset.fold max (Ideal.ofBits FTy.f32 4286578688#32) (fun x => s (ix3 h r x)) Finset.univ := by
  unfold maxima; pointwise

theorem expUnder_at (s mx) (h : Fin 8) (r j : Fin 4096) :
    expUnder s mx (ix3 h r j) = Ideal.exp (s (ix3 h r j) - max (Ideal.ofBits FTy.f32 4286578688#32) (mx (ix2 h r))) := by
  unfold expUnder spread column; pointwise

theorem total_at (x) (h : Fin 8) (r : Fin 4096) : total x (ix2 h r) = ∑ j, x (ix3 h r j) := by
  unfold total; pointwise

theorem totalCol_at (x) (h : Fin 8) (r : Fin 4096) : totalCol x (ix2 h r) = ∑ j, x (ix3 h j r) := by
  unfold totalCol; pointwise

theorem one_at (x) (h : Fin 8) (r : Fin 4096) : one x (ix2 h r) = x (ix3 h r 0) := by
  unfold one; pointwise; simp

theorem oneRow_at (x) (h : Fin 8) (r : Fin 4096) : oneRow x (ix2 h r) = x (ix3 h 0 r) := by
  unfold oneRow; pointwise; simp

theorem products_at (x y) (h : Fin 8) (r j : Fin 4096) : products x y (ix3 h r j) = ∑ d : Fin 64, x (ix3 h r d) * y (ix3 h j d) := by
  unfold products; pointwise

theorem column_at (t) (h : Fin 8) (r : Fin 4096) : column t (ix3 h r 0) = t (ix2 h r) := by
  unfold column; pointwise

theorem carried_at (g w t) (h : Fin 8) (r : Fin 4096) : carried g w t (ix2 h r)
    = -∑ j, g (ix3 h r j) * Ideal.div (Ideal.ofBits .f32 1065353216#32) (t (ix3 h r 0) * t (ix3 h r 0)) * w (ix3 h r j) := by
  unfold carried
  rw [one_at]
  unfold spread total
  pointwise

theorem dscores_at (g w t) (h : Fin 8) (r j : Fin 4096) : dscores g w t (ix3 h r j)
    = Scalar.select (IntOp.cmpi .sle (BitVec.ofNat 32 j.val) (BitVec.ofNat 32 r.val))
        ((Ideal.div (g (ix3 h r j)) (t (ix3 h r 0)) + carried g w t (ix2 h r)) * w (ix3 h r j)) 0 := by
  unfold dscores below spread every
  pointwise

theorem sitofp_zero : FloatOps.sitofp (F := Ideal) FTy.f32 0#32 = (0 : EReal) := by
  show (((0#32 : BitVec 32).toInt : ℝ) : EReal) = 0
  simp

theorem padded_at (x) (h : Fin 8) (r : Fin 4096) (l : Fin 128) :
    padded x (ix3 h r l) = if hl : l.val < 64 then x (ix3 h r ⟨l.val, hl⟩) else 0 := by
  rw [← sitofp_zero]
  unfold padded; pointwise

theorem onLane_at (n x y) (h : Fin 8) (r : Fin 4096) (l : Fin 128) :
    onLane n x y (ix3 h r l) = Scalar.select (IntOp.cmpi .eq (BitVec.ofNat 32 l.val) n) (x (ix3 h r 0)) (y (ix3 h r l)) := by
  unfold onLane; pointwise

theorem flat_at (x) (h : Fin 8) (r : Fin 4096) (d : Fin 64) : flat x (ix2 r ⟨h.val * 64 + d.val, by omega⟩) = x (ix3 h r d) := by
  unfold flat; pointwise

theorem there_at (x) (h : Fin 8) (r : Fin 4096) : there x (ix2 h r) = x (ix2 h r) := by
  unfold there; pointwise

theorem byRows_at (x y) (h : Fin 8) (r : Fin 4096) (d : Fin 64) :
    byRows (mulf x (every 0x3E000000#32)) y (ix3 h r d) = ∑ j, x (ix3 h r j) * Ideal.ofBits .f32 1040187392#32 * y (ix3 h j d) := by
  unfold byRows every; pointwise

theorem byColumns_at (x y) (h : Fin 8) (r : Fin 4096) (d : Fin 64) :
    byColumns (mulf x (every 0x3E000000#32)) y (ix3 h r d) = ∑ i, x (ix3 h i r) * Ideal.ofBits .f32 1040187392#32 * y (ix3 h i d) := by
  unfold byColumns every; pointwise

theorem result0_at (ds k) (h : Fin 8) (r : Fin 4096) (l : Fin 128) : result0 ds k (ix3 h r l)
    = Scalar.select (IntOp.cmpi .eq (BitVec.ofNat 32 l.val) 64#32) (∑ j, ds (ix3 h r j))
      (if hl : l.val < 64 then (∑ j, ds (ix3 h r j) * Ideal.ofBits .f32 1040187392#32 * k (ix3 h j ⟨l.val, hl⟩)) * Ideal.ofBits .f32 1090519040#32 else 0) := by
  unfold result0
  rw [onLane_at, column_at, there_at, one_at, padded_at]
  simp only [heads_at]
  congr 1
  · rw [← total_at]; pointwise
  · refine dite_congr rfl (fun hl => ?_) fun _ => rfl
    rw [← byRows_at, ← flat_at (byRows (mulf ds (every 0x3E000000#32)) k) h r ⟨l.val, hl⟩]; pointwise

theorem result1_at (ds q) (h : Fin 8) (r : Fin 4096) (l : Fin 128) : result1 ds q (ix3 h r l)
    = Scalar.select (IntOp.cmpi .eq (BitVec.ofNat 32 l.val) 67#32) (-∑ i, -ds (ix3 h i r))
      (if hl : l.val < 64 then ∑ i, ds (ix3 h i r) * Ideal.ofBits .f32 1040187392#32 * q (ix3 h i ⟨l.val, hl⟩) else 0) := by
  unfold result1
  rw [onLane_at, padded_at]
  simp only [heads_at]
  have f : ∀ hl : l.val < 64, flat (byColumns (mulf ds (every 0x3E000000#32)) q) (ix2 r ⟨h.val * 64 + l.val, by omega⟩)
      = ∑ i, ds (ix3 h i r) * Ideal.ofBits .f32 1040187392#32 * q (ix3 h i ⟨l.val, hl⟩) := fun hl => (flat_at _ h r ⟨l.val, hl⟩).trans (byColumns_at _ _ _ _ _)
  refine congrArg₂ (Scalar.select _) ?_ (dite_congr rfl (fun hl => f hl) fun _ => rfl)
  have e : ∑ i, -ds (ix3 h i r) = totalCol (Host.negf ds) (ix2 h r) := by rw [totalCol_at]; pointwise
  rw [e]
  have e : oneRow (shapeCast _ (totalCol (Host.negf ds)) shapeCasts_S8x4096_S8x1x4096) (ix2 h r) = totalCol (Host.negf ds) (ix2 h r) := by
    rw [oneRow_at]; pointwise
  rw [← e, ← there_at (oneRow _), ← column_at (there _)]
  pointwise

theorem result2_at (w t d) (h : Fin 8) (r : Fin 4096) (l : Fin 128) : result2 w t d (ix3 h r l)
    = if hl : l.val < 64 then ∑ i, d (ix3 h i ⟨l.val, hl⟩) * Ideal.div (w (ix3 h i r)) (t (ix3 h i 0)) else 0 := by
  unfold result2
  rw [padded_at]
  simp only [heads_at]
  refine dite_congr rfl (fun hl => ?_) fun _ => rfl
  rw [flat_at _ h r ⟨l.val, hl⟩]
  unfold spread
  pointwise

/-! ## Their entries, for arguments that hold real numbers -/

theorem ofBits_one : Ideal.ofBits .f32 1065353216#32 = ((1 : ℝ) : EReal) := by
  simp [Ideal.ofBits, Ideal.ieee, -EReal.coe_mul]; norm_num

theorem ofBits_eight : Ideal.ofBits .f32 1090519040#32 = ((8 : ℝ) : EReal) := by
  simp [Ideal.ofBits, Ideal.ieee, -EReal.coe_mul]; norm_num

section Entries
variable {A0 A1 A2 A3 A4 : ℕ → ℕ → ℝ} {q k v d : FVec Ideal S4096x512 .f32} {cum : FVec Ideal S4096x8 .f32}

section Weights
variable (hq : ∀ r x, q (ix2 r x) = ((A0 r.val x.val : ℝ) : EReal)) (hk : ∀ r x, k (ix2 r x) = ((A1 r.val x.val : ℝ) : EReal))
  (hc : ∀ r x, cum (ix2 r x) = ((A3 r.val x.val : ℝ) : EReal))
include hq hk hc

theorem scores_real (h : Fin 8) (r j : Fin 4096) : scores (heads q) (heads k) cum (ix3 h r j) = entry r.val (score A0 A1 A3 h.val r.val) j.val := by
  rw [scores_at, cmp_sle (by omega) (by omega), select_ofBool, ofBits_bot, ofBits_eighth]
  simp only [heads_at, hq, hk, hc]
  rw [coe_sum_mul, ← EReal.coe_mul, ← EReal.coe_add, ← EReal.coe_sub]
  rfl

theorem maxima_real (h : Fin 8) (r : Fin 4096) : maxima (scores (heads q) (heads k) cum) (ix2 h r) = ((top r.val (score A0 A1 A3 h.val r.val) : ℝ) : EReal) := by
  rw [maxima_at, ofBits_bot, ← top_eq _ r.isLt]
  exact Finset.fold_congr fun j _ => scores_real hq hk hc h r j

theorem weights_real (h : Fin 8) (r j : Fin 4096) :
    weights (scores (heads q) (heads k) cum) (ix3 h r j) = ((weight r.val (score A0 A1 A3 h.val r.val) j.val : ℝ) : EReal) := by
  unfold weights
  rw [expUnder_at, maxima_real hq hk hc, ofBits_bot, max_eq_right bot_le, scores_real hq hk hc, exp_entry]

theorem mass_real (h : Fin 8) (r : Fin 4096) :
    column (total (weights (scores (heads q) (heads k) cum))) (ix3 h r 0) = ((mass r.val (score A0 A1 A3 h.val r.val) : ℝ) : EReal) := by
  rw [column_at, total_at, mass, ← coe_sum]
  exact Finset.sum_congr rfl fun j _ => weights_real hq hk hc h r j

end Weights

section Grads
variable {w : Mat} {t : FVec Ideal S8x4096x1 .f32}
  (hw : ∀ h r j, w (ix3 h r j) = ((weight r.val (score A0 A1 A3 h.val r.val) j.val : ℝ) : EReal))
  (ht : ∀ h r, t (ix3 h r 0) = ((mass r.val (score A0 A1 A3 h.val r.val) : ℝ) : EReal))
  (hv : ∀ r x, v (ix2 r x) = ((A2 r.val x.val : ℝ) : EReal)) (hd : ∀ r x, d (ix2 r x) = ((A4 r.val x.val : ℝ) : EReal))

include hv hd in
theorem ctan_real (h : Fin 8) (r j : Fin 4096) : products (heads d) (heads v) (ix3 h r j) = ((ctan A2 A4 h.val r.val j.val : ℝ) : EReal) := by
  rw [products_at]
  simp only [heads_at, hv, hd]
  exact coe_sum_mul _ _

include hw ht hv hd in
theorem carried_real (h : Fin 8) (r : Fin 4096) : carried (products (heads d) (heads v)) w t (ix2 h r)
    = ((-∑ x : Fin 4096, ctan A2 A4 h.val r.val x.val
        * (1 / (mass r.val (score A0 A1 A3 h.val r.val) * mass r.val (score A0 A1 A3 h.val r.val))) * weight r.val (score A0 A1 A3 h.val r.val) x.val : ℝ) : EReal) := by
  have p := (mass_pos (score A0 A1 A3 h.val r.val) r.isLt).ne'
  rw [carried_at, ht, ofBits_one, ← EReal.coe_mul, Ideal.div_coe (mul_ne_zero p p), EReal.coe_neg, ← coe_sum]
  refine congrArg Neg.neg (Finset.sum_congr rfl fun j _ => ?_)
  rw [ctan_real hv hd, hw, ← EReal.coe_mul, ← EReal.coe_mul, ← EReal.coe_mul, one_mul]

include hw ht hv hd in
theorem dscores_real (h : Fin 8) (r j : Fin 4096) : dscores (products (heads d) (heads v)) w t (ix3 h r j) = ((quotient A0 A1 A2 A3 A4 h.val r.val j.val : ℝ) : EReal) := by
  have p := (mass_pos (score A0 A1 A3 h.val r.val) r.isLt).ne'
  rw [dscores_at, cmp_sle (by omega) (by omega), select_ofBool, carried_real hw ht hv hd, ht, hw, ctan_real hv hd, Ideal.div_coe p,
    ← EReal.coe_mul, ← EReal.coe_add, ← EReal.coe_mul, mul_one_div]
  split
  · rfl
  · rename_i n
    have z : weight r.val (score A0 A1 A3 h.val r.val) j.val = 0 := by unfold weight; rw [if_neg n]
    unfold quotient
    dsimp only
    rw [z, mul_zero, EReal.coe_zero]

include hw ht hd in
theorem result2_real (h : Fin 8) (r : Fin 4096) (l : Fin 128) (hl : l.val < 64) : result2 w t (heads d) (ix3 h r l)
    = ((∑ i : Fin 4096, prob (rows (qLane A0 A1 A3 h.val)) (rows (kLane A1 A3 h.val)) i.val r.val * dLane A0 A1 A2 A3 A4 h.val i.val l.val : ℝ) : EReal) := by
  rw [result2_at, dif_pos hl, ← coe_sum]
  refine Finset.sum_congr rfl fun i _ => ?_
  rw [heads_at, hd, hw, ht, Ideal.div_coe (mass_pos _ i.isLt).ne', ← EReal.coe_mul, ← EReal.coe_mul, prob_eq _ _ _ _ i.isLt, mul_one_div]
  unfold dLane
  rw [if_pos hl, mul_comm]
  rfl

end Grads

variable {x : Mat} (hx : ∀ h r j, x (ix3 h r j) = ((quotient A0 A1 A2 A3 A4 h.val r.val j.val : ℝ) : EReal))
include hx

theorem result0_real (hk : ∀ r x, k (ix2 r x) = ((A1 r.val x.val : ℝ) : EReal)) (h : Fin 8) (r : Fin 4096) (l : Fin 128) (hl : l.val < 64 ∨ l.val = 64) :
    result0 x (heads k) (ix3 h r l) = ((∑ j : Fin 4096, dscore (rows (qLane A0 A1 A3 h.val)) (rows (kLane A1 A3 h.val)) (rows (dLane A0 A1 A2 A3 A4 h.val)) (rows (vLane A2 h.val))
      r.val j.val * kLane A1 A3 h.val j.val l.val : ℝ) : EReal) := by
  have e : ∀ j : Fin 4096, _ := fun j : Fin 4096 => (dscore_eq A0 A1 A2 A3 A4 h.val r.isLt j.val).trans (quotient_eq A0 A1 A2 A3 A4 h.val r.val j.val).symm
  simp only [e]
  rw [result0_at, cmp_eq (by omega) (by omega), select_ofBool]
  rcases hl with hl | hl
  · rw [if_neg (by omega), dif_pos hl, ofBits_eight, ofBits_eighth]
    simp only [hx, heads_at, hk, ← EReal.coe_mul]
    rw [coe_sum, ← EReal.coe_mul, Finset.sum_mul]
    congr 1
    refine Finset.sum_congr rfl fun j _ => ?_
    unfold kLane
    rw [if_pos hl]
    ring
  · rw [if_pos hl, ← coe_sum]
    refine Finset.sum_congr rfl fun j _ => ?_
    rw [hx]
    unfold kLane
    rw [if_neg (by omega), if_neg (by omega), if_pos (by omega), mul_one]

theorem result1_real (hq : ∀ r x, q (ix2 r x) = ((A0 r.val x.val : ℝ) : EReal)) (h : Fin 8) (r : Fin 4096) (l : Fin 128) (hl : l.val < 64 ∨ l.val = 67) :
    result1 x (heads q) (ix3 h r l) = ((∑ i : Fin 4096, dscore (rows (qLane A0 A1 A3 h.val)) (rows (kLane A1 A3 h.val)) (rows (dLane A0 A1 A2 A3 A4 h.val)) (rows (vLane A2 h.val))
      i.val r.val * qLane A0 A1 A3 h.val i.val l.val : ℝ) : EReal) := by
  have e : ∀ i : Fin 4096, _ := fun i : Fin 4096 => (dscore_eq A0 A1 A2 A3 A4 h.val i.isLt r.val).trans (quotient_eq A0 A1 A2 A3 A4 h.val i.val r.val).symm
  simp only [e]
  rw [result1_at, cmp_eq (by omega) (by omega), select_ofBool]
  rcases hl with hl | hl
  · rw [if_neg (by omega), dif_pos hl, ofBits_eighth, ← coe_sum]
    refine Finset.sum_congr rfl fun i _ => ?_
    rw [hx, heads_at, hq, ← EReal.coe_mul, ← EReal.coe_mul]
    congr 1
    unfold qLane
    rw [if_pos hl]
    ring
  · rw [if_pos hl]
    simp only [hx, ← EReal.coe_neg]
    rw [coe_sum, ← EReal.coe_neg, Finset.sum_neg_distrib, neg_neg]
    congr 1
    refine Finset.sum_congr rfl fun i _ => ?_
    unfold qLane
    rw [if_neg (by omega), if_neg (by omega), if_pos (by omega), mul_one]

end Entries

end Cert.FoxBwd.Ref

end
-- ==== Proof.FoxBwd.lean ====
/-
  The claims about the attention's backward call.
-/
module

public import proofs.«01_k».proof.Defs
public import proofs.«01_k».proof.Proof.FoxFinal
public import proofs.«01_k».proof.Proof.FoxRef
public import proofs.«01_k».proof.Proof.Gen.KFoxBwd
public import Idealize.ShloMosaic.Lib.Tactic
public import proofs.«01_k».proof.Proof.Gen.Pre_finite_fox
public import proofs.«01_k».proof.Proof.Gen.On_columns_fox

@[expose] public section

noncomputable section

namespace Cert.FoxBwd

open Idealize.ShloMosaic Idealize.ShloMosaic.TcCoe Idealize.SL.Sem Cert.Common

/-- At the hardware's floats a named constant is the constant as written. -/
local instance : Named Bits where
  named _ _ {φ} bits := FloatOps.ofBits φ bits

/-- The two kernels' texts are the same but for the named constant. -/
theorem frame_k : Cert.quiescent_KFoxBwd := fun m ρ _ => Eq.mp (by sl_kernel_rfl) (frame (F := Bits) m ρ)

theorem frame_ki : Cert.quiescent_KFoxBwdIdeal := fun m ρ _ => frame m ρ

theorem frame_ki_pre : Cert.quiescent_KFoxBwdIdeal_pre_finite_fox := fun m ρ _ => frame m ρ

theorem frame_r : Cert.quiescent_RFoxBwdIdeal := fun m ρ _ =>
  (θ_run Cert.RFoxBwdIdeal.defs _ _).mono (fun r h => ⟨fun c => (h c).2.2.2,
      Idealize.ShloMosaic.sem_eq_zero_of_no_sems (by decide) r.2⟩)
    (Cert.RFoxBwdIdeal.Value.run (F := Ideal) m ρ)

theorem frame_r_pre : Cert.quiescent_RFoxBwdIdeal_pre_finite_fox := fun m ρ _ => frame_r m ρ trivial

theorem preserves : Cert.preserves_KFoxBwd_KFoxBwdIdeal := IdealRules.named_const.statement Cert.KFoxBwdIdeal.κ "mask" .f32 0xF149F2CA#32 ⊥ rfl

/-! ## The precondition and the mask, read -/

section Read
variable {q k v d : FVec Ideal ⟨2, ![4096, 512]⟩ .f32} {cum : FVec Ideal ⟨2, ![4096, 8]⟩ .f32}

theorem finite_read (h : Cert.Pre_finite_fox.fn (F := Ideal) q k v cum d = fun _ => 1#1) :
    (∀ i, q i = (((q i).toReal : ℝ) : EReal)) ∧ (∀ i, k i = (((k i).toReal : ℝ) : EReal)) ∧ (∀ i, v i = (((v i).toReal : ℝ) : EReal))
      ∧ (∀ i, cum i = (((cum i).toReal : ℝ) : EReal)) ∧ (∀ i, d i = (((d i).toReal : ℝ) : EReal)) := by
  have e := congrFun h fun a => a.elim0
  unfold Cert.Pre_finite_fox.fn Cert.Pre_finite_fox.fn_part1 at e
  dsimp only at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  haveI : Subsingleton Cert.Pre_finite_fox.S_.Idx := ⟨fun a b => funext fun i => i.elim0⟩
  exact ⟨real_of_finite q _ _ _ _ _ e0, real_of_finite k _ _ _ _ _ e1, real_of_finite v _ _ _ _ _ e2, real_of_finite cum _ _ _ _ _ e3, real_of_finite d _ _ _ _ _ e4⟩

theorem two_lanes {l n : ℕ} (hl : l < 128) (hn : n < 128)
    (e : IntOp.ori (IntOp.cmpi .slt (BitVec.ofNat 32 l) (BitVec.ofNat 32 64)) (IntOp.cmpi .eq (BitVec.ofNat 32 l) (BitVec.ofNat 32 n)) = 1#1) : l < 64 ∨ l = n := by
  rw [cmp_slt (by omega) (by omega), cmp_eq (by omega) (by omega), WordCmp.ori_ofBool, ← Bool.decide_or] at e
  by_contra h
  rw [decide_eq_false h] at e
  exact absurd e (by decide)

theorem columns_0 {h : Fin 8} {r : Fin 4096} {l : Fin 128} (e : (Cert.On_columns_fox.fn (F := Ideal) q k v cum d).1 (ix3 h r l) = 1#1) : l.val < 64 ∨ l.val = 64 :=
  two_lanes l.isLt (by omega) e

theorem columns_1 {h : Fin 8} {r : Fin 4096} {l : Fin 128} (e : (Cert.On_columns_fox.fn (F := Ideal) q k v cum d).2.1 (ix3 h r l) = 1#1) : l.val < 64 ∨ l.val = 67 :=
  two_lanes l.isLt (by omega) e

theorem columns_2 {h : Fin 8} {r : Fin 4096} {l : Fin 128} (e : (Cert.On_columns_fox.fn (F := Ideal) q k v cum d).2.2 (ix3 h r l) = 1#1) : l.val < 64 := by
  change IntOp.cmpi .slt (BitVec.ofNat 32 l.val) (BitVec.ofNat 32 64) = 1#1 at e
  rw [cmp_slt (by omega) (by omega)] at e
  by_contra h
  rw [decide_eq_false h] at e
  exact absurd e (by decide)

end Read

/-! ## The gradients -/

section
open Cert.KFoxBwdIdeal
variable (m : (ℓ : Loc nD τ sig) → Buf (Elt Ideal) ℓ) (c : Dev nD)

def B0 : ℕ → ℕ → ℝ := reals (m ((c.tc : Thread nD τ).loc main_arg0) : S4096x512.Idx → EReal)
def B1 : ℕ → ℕ → ℝ := reals (m ((c.tc : Thread nD τ).loc main_arg1) : S4096x512.Idx → EReal)
def B2 : ℕ → ℕ → ℝ := reals (m ((c.tc : Thread nD τ).loc main_arg2) : S4096x512.Idx → EReal)
def B3 : ℕ → ℕ → ℝ := reals (m ((c.tc : Thread nD τ).loc main_arg3) : S4096x8.Idx → EReal)
def B4 : ℕ → ℕ → ℝ := reals (m ((c.tc : Thread nD τ).loc main_arg4) : S4096x512.Idx → EReal)

theorem given (h : Cert.Pre_KFoxBwdIdeal_finite_fox m) : Given m c (B0 m c) (B1 m c) (B2 m c) (B3 m c) (B4 m c) := by
  obtain ⟨h0, h1, h2, h3, h4⟩ := finite_read (h c)
  exact ⟨reals_at h0, reals_at h1, reals_at h2, reals_at h3, reals_at h4⟩

end

theorem algebraic : Cert.algebraic_KFoxBwdIdeal_RFoxBwdIdeal_on_columns_fox_pre_finite_fox := by
  intro m g m' g' hpre hagree
  have G := fun c => given m c hpre
  refine ⟨fun c => dqArr (B0 m c) (B1 m c) (B2 m c) (B3 m c) (B4 m c), fun c => dkArr (B0 m c) (B1 m c) (B2 m c) (B3 m c) (B4 m c),
    fun c => dvArr (B0 m c) (B1 m c) (B2 m c) (B3 m c) (B4 m c),
    (θ_run Cert.KFoxBwdIdeal.defs _ _).mono (fun r h c => ?_) (θ_run_and (run_all m g) (frame m g)),
    (θ_run Cert.RFoxBwdIdeal.defs _ _).mono (fun r h c => ?_) (Cert.RFoxBwdIdeal.Value.run m' g')⟩
  · exact ⟨fun i _ => congrFun (((h.1.1 c).1 4).trans (final_4 (G c))) i, fun i _ => congrFun (((h.1.1 c).1 5).trans (final_5 (G c))) i,
      fun i _ => congrFun (((h.1.1 c).1 6).trans (final_6 (G c))) i, h.2.1 c⟩
  · obtain ⟨a0, a1, a2, a3, a4⟩ := hagree c
    have q : ∀ r x, (m' ((c.tc : Thread Cert.RFoxBwdIdeal.nD Cert.RFoxBwdIdeal.τ).loc Cert.RFoxBwdIdeal.main_arg0) : FVec Ideal Cert.RFoxBwdIdeal.S4096x512 .f32) (ix2 r x) = ((B0 m c r.val x.val : ℝ) : EReal) := fun r x => (congrFun a0 _).trans ((G c).q r x)
    have k : ∀ r x, (m' ((c.tc : Thread Cert.RFoxBwdIdeal.nD Cert.RFoxBwdIdeal.τ).loc Cert.RFoxBwdIdeal.main_arg1) : FVec Ideal Cert.RFoxBwdIdeal.S4096x512 .f32) (ix2 r x) = ((B1 m c r.val x.val : ℝ) : EReal) := fun r x => (congrFun a1 _).trans ((G c).k r x)
    have v : ∀ r x, (m' ((c.tc : Thread Cert.RFoxBwdIdeal.nD Cert.RFoxBwdIdeal.τ).loc Cert.RFoxBwdIdeal.main_arg2) : FVec Ideal Cert.RFoxBwdIdeal.S4096x512 .f32) (ix2 r x) = ((B2 m c r.val x.val : ℝ) : EReal) := fun r x => (congrFun a2 _).trans ((G c).v r x)
    have cum : ∀ r x, (m' ((c.tc : Thread Cert.RFoxBwdIdeal.nD Cert.RFoxBwdIdeal.τ).loc Cert.RFoxBwdIdeal.main_arg3) : FVec Ideal Cert.RFoxBwdIdeal.S4096x8 .f32) (ix2 r x) = ((B3 m c r.val x.val : ℝ) : EReal) := fun r x => (congrFun a3 _).trans ((G c).gate r x)
    have d : ∀ r x, (m' ((c.tc : Thread Cert.RFoxBwdIdeal.nD Cert.RFoxBwdIdeal.τ).loc Cert.RFoxBwdIdeal.main_arg4) : FVec Ideal Cert.RFoxBwdIdeal.S4096x512 .f32) (ix2 r x) = ((B4 m c r.val x.val : ℝ) : EReal) := fun r x => (congrFun a4 _).trans ((G c).ct r x)
    have w : ∀ h r j, Ref.W m' c (ix3 h r j) = _ := Ref.weights_real q k cum
    have t : ∀ h r, Ref.T m' c (ix3 h r 0) = _ := Ref.mass_real q k cum
    have x : ∀ h r j, Ref.D m' c (ix3 h r j) = _ := Ref.dscores_real w t v d
    refine ⟨fun i e => (congrFun ((h c).1.trans (Ref.res0_eq m' c)) i).trans ?_, fun i e => (congrFun ((h c).2.1.trans (Ref.res1_eq m' c)) i).trans ?_,
      fun i e => (congrFun ((h c).2.2.1.trans (Ref.res2_eq m' c)) i).trans ?_, (h c).2.2.2⟩
    · obtain ⟨h, r, l, rfl⟩ : ∃ (h : Fin 8) (r : Fin 4096) (l : Fin 128), i = ix3 h r l := ⟨_, _, _, eq_ix3 i⟩
      exact Ref.result0_real x k h r l (columns_0 e)
    · obtain ⟨h, r, l, rfl⟩ : ∃ (h : Fin 8) (r : Fin 4096) (l : Fin 128), i = ix3 h r l := ⟨_, _, _, eq_ix3 i⟩
      exact Ref.result1_real x q h r l (columns_1 e)
    · obtain ⟨h, r, l, rfl⟩ : ∃ (h : Fin 8) (r : Fin 4096) (l : Fin 128), i = ix3 h r l := ⟨_, _, _, eq_ix3 i⟩
      exact Ref.result2_real w t d h r l (columns_2 e)

end Cert.FoxBwd

end
-- ==== Proof.FwdBody.lean ====
/-
  The body of the attention's forward call at one grid point, as functions of its blocks.
-/
module

public import proofs.«01_k».proof.Proof.Gen.KFoxFIdeal.Value
public import Idealize.ShloMosaic.Lib.VecWindow

@[expose] public section

set_option maxRecDepth 16384

noncomputable section

namespace Cert.FoxF

open Idealize.ShloMosaic Idealize.ShloMosaic.TcCoe Idealize.ShloMosaic.Tactic
open Cert.KFoxFIdeal Cert.KFoxFIdeal.Gen

variable {F : FTy → Type} [FloatOps F] [Named F]

theorem hz3 : (![0, 0, 0] : Fin 3 → ℕ) = fun _ => 0 := by
  funext a; fin_cases a <;> rfl

abbrev Carry (F : FTy → Type) [FloatOps F] := FVec F S1024x1 .f32 × FVec F S1024x128 .f32

section Body
variable (c : Dev nD) (i : grid0.Coords)
    {a2 : Memref sig .tc .vmem S1x1024x128 .bf16} (h2 : a2.IsWhole) {a3 : Memref sig .tc .vmem S1x4096x128 .bf16} (h3 : a3.IsWhole)
    {a4 : Memref sig .tc .vmem S1x4096x128 .bf16} (h4 : a4.IsWhole) {a5 : Memref sig .tc .vmem S1x1024x128 .bf16} (h5 : a5.IsWhole)
    {a6 : Memref sig .tc .vmem S1x1024x128 .bf16} (h6 : a6.IsWhole)
    (x0 : Vec F S1x1024x128 .bf16) (x1 x2 : Vec F S1x4096x128 .bf16)

/-- The keys' or values' rows of trip `k`. -/
def tileOf (x : Vec F S1x4096x128 .bf16) (k : Fin (k0_t1_loop i).trips) : Vec F S1x1024x128 .bf16 :=
  VecWindow.window x (k0_off1 i k) S1x1024x128.size (Gen.k0_off1_inb i k)

/-- One trip. -/
def trip (k : Fin (k0_t1_loop i).trips) (y : Carry F) : Carry F :=
  (k0_pay6 x0 y.1 (tileOf i x1 k), k0_pay7 x0 y.1 y.2 (tileOf i x1 k) (tileOf i x2 k))

theorem trip_eq (k : Fin (k0_t1_loop i).trips) (y : Carry F) :
    tripR_k0_t1 (F := F) Variants.none c none i a2 h2 a3 h3 a4 h4 a5 h5 a6 h6 x0 (h3.unread x1) (h4.unread x2) k y = trip i x0 x1 x2 k y := by
  unfold tripR_k0_t1 trip_k0_t1
  dsimp only
  simp only [View.readAt_eq_ld, h3.read_unread, h4.read_unread]
  rfl

/-- The row maxima and the sums before trip `n`. -/
def walk : ℕ → Carry F
  | 0 => (k0_pay3, k0_pay4)
  | n + 1 => if h : n < (k0_t1_loop i).trips then trip i x0 x1 x2 ⟨n, h⟩ (walk n) else walk n

theorem walk_eq (n : ℕ) (hn : n ≤ (k0_t1_loop i).trips) :
    st_k0_t1 (F := F) Variants.none c none i a2 h2 a3 h3 a4 h4 a5 h5 a6 h6 x0 (h3.unread x1) (h4.unread x2) (k0_pay3, k0_pay4) n = walk i x0 x1 x2 n := by
  induction n with
  | zero => rfl
  | succ n ih =>
    have h : n < (k0_t1_loop i).trips := hn
    rw [st_k0_t1_succ (F := F) Variants.none c none i a2 h2 a3 h3 a4 h4 a5 h5 a6 h6 x0 (h3.unread x1) (h4.unread x2) (k0_pay3, k0_pay4) ⟨n, h⟩,
      ih (Nat.le_of_lt h), trip_eq, walk, dif_pos h]

/-- The rows of the point's own tile. -/
def diagonal (x : Vec F S1x4096x128 .bf16) : Vec F S1x1024x128 .bf16 :=
  VecWindow.window x (k0_off3 i) S1x1024x128.size (Gen.k0_off3_inb i)

/-- The row maxima and the sums after the tile on the diagonal. -/
def finish : Carry F :=
  let y := walk i x0 x1 x2 (k0_t1_loop i).trips
  (k0_pay12 x0 y.1 (diagonal i x1), k0_pay13 x0 y.1 y.2 (diagonal i x1) (diagonal i x2))

/-- The lanes' numbers. -/
def lanes : IVec S1024x128 32 := iota Kind.tc S1024x128 32 [1] iota_S1024x128_d1_w32

def oAfter : Vec F S1x1024x128 .bf16 := k0_pay15 (finish i x0 x1 x2).2 lanes 64#32

def qAfter : Vec F S1x1024x128 .bf16 := k0_pay1 (k0_pay16 (k0_pay2 x0) (finish i x0 x1 x2).1 (finish i x0 x1 x2).2 lanes 64#32)

theorem rest_eq (y : Carry F) :
    st_k0_t2 (F := F) Variants.none c none i a2 h2 a3 h3 a4 h4 a5 h5 a6 h6 x0 (h3.unread x1) (h4.unread x2) y (k0_t2_loop i).trips = y := by
  rw [Nat.le_zero.mp (Gen.k0_t2_abs i).2.1]
  rfl

/-- The carried pair after both loops. -/
theorem both_eq :
    st_k0_t2 (F := F) Variants.none c none i a2 h2 a3 h3 a4 h4 a5 h5 a6 h6 x0 (h3.unread x1) (h4.unread x2)
      (st_k0_t1 (F := F) Variants.none c none i a2 h2 a3 h3 a4 h4 a5 h5 a6 h6 x0 (h3.unread x1) (h4.unread x2) (k0_pay3, k0_pay4)
        (k0_t1_loop i).trips) (k0_t2_loop i).trips = walk i x0 x1 x2 (k0_t1_loop i).trips := by
  rw [rest_eq, walk_eq c i h2 h3 h4 h5 h6 x0 x1 x2 _ le_rfl]

theorem out_3 : out0_A_3 c i a2 h2 a3 h3 a4 h4 a5 h5 a6 h6 x0 x1 x2 = oAfter i x0 x1 x2 := by
  unfold out0_A_3
  rw [View.read_writes_eq_canon _ _ _ (cover0_A_3 c i a2 h2 a3 h3 a4 h4 a5 h5 a6 h6 x0 x1 x2)]
  unfold kernelRun0_A
  dsimp only
  sl_unfold_words
  rw [View.canon_cons_unit_zero (S := S1x1024x128) hz3]
  simp only [View.readAt_eq_ld, h2.read_unread, h3.read_unread, h4.read_unread, View.ld_unit_zero (S := S1x1024x128) hz3]
  unfold oAfter finish
  dsimp only
  rw [← both_eq c i h2 h3 h4 h5 h6 x0 x1 x2]
  rfl

theorem out_4 : out0_A_4 c i a2 h2 a3 h3 a4 h4 a5 h5 a6 h6 x0 x1 x2 = qAfter i x0 x1 x2 := by
  unfold out0_A_4
  rw [View.read_writes_eq_canon _ _ _ (cover0_A_4 c i a2 h2 a3 h3 a4 h4 a5 h5 a6 h6 x0 x1 x2)]
  unfold kernelRun0_A
  dsimp only
  sl_unfold_words
  rw [View.canon_cons_unit_zero (S := S1x1024x128) hz3]
  simp only [View.readAt_eq_ld, h2.read_unread, h3.read_unread, h4.read_unread, View.ld_unit_zero (S := S1x1024x128) hz3]
  unfold qAfter finish
  dsimp only
  rw [← both_eq c i h2 h3 h4 h5 h6 x0 x1 x2]
  rfl

end Body
end Cert.FoxF
end
-- ==== Proof.FwdPoint.lean ====
/-
  One point of the attention's forward call: the running maximum and the rescaled sums of each row over its tiles of
  keys, and what the two results hold when they are finished. Queries, keys and gates are real numbers; the values may
  be any extended real numbers.
-/
module

public import proofs.«01_k».proof.Proof.FwdBody
public import proofs.«01_k».proof.Proof.FoxHost

@[expose] public section

set_option maxRecDepth 16384

noncomputable section

namespace Cert.FoxF

open Idealize.ShloMosaic Idealize.ShloMosaic.TcCoe Idealize.ShloMosaic.Tactic
open Cert.FoxBwd (entry top weight mass norm mass_pos weight_nonneg Holds coe_sum coe_sum_mul select_ofBool ofBits_bot window_at window_holds)

/-! ## One row -/

section Row
variable (r : ℕ) (s : ℕ → ℝ)

/-- A key's exponential under a number: zero above the diagonal. -/
def under (μ : ℝ) (j : ℕ) : ℝ := if j ≤ r then Real.exp (s j - μ) else 0

variable {r s}

theorem exp_under (μ : ℝ) (j : ℕ) : Ideal.exp (entry r s j - (μ : EReal)) = ((under r s μ j : ℝ) : EReal) := by
  unfold entry under
  split
  · rw [← EReal.coe_sub, Ideal.exp_coe]
  · rw [EReal.bot_sub, Ideal.exp_bot, EReal.coe_zero]

theorem under_scale (μ ν : ℝ) (j : ℕ) : Real.exp (μ - ν) * under r s μ j = under r s ν j := by
  unfold under
  split
  · rw [← Real.exp_add]; congr 1; ring
  · rw [mul_zero]

variable (r s)

/-- A row's maximum and sums after `n` tiles of 1024 keys: nothing yet, or the sums of the exponentials under some real number. -/
def Carried (V : ℕ → Fin 128 → EReal) (n : ℕ) (m : EReal) (acc : Fin 128 → EReal) : Prop :=
  (n = 0 ∧ m = ⊥ ∧ ∀ l, acc l = 0)
    ∨ ∃ μ : ℝ, m = (μ : EReal) ∧ ∀ l, acc l = ∑ j ∈ Finset.range (1024 * n), ((under r s μ j : ℝ) : EReal) * V j l

variable {r s} {V : ℕ → Fin 128 → EReal}

/-- One more tile. -/
theorem Carried.next {n : ℕ} {m : EReal} {acc : Fin 128 → EReal} (h : Carried r s V n m acc) (hn : 1024 * n ≤ r) {e : Fin 1024 → EReal}
    (he : ∀ c, e c = entry r s (1024 * n + c.val)) {m' : EReal} (hm : m' = max m (Finset.fold max (⊥ : EReal) e Finset.univ)) {acc' : Fin 128 → EReal}
    (ha : ∀ l, acc' l = Ideal.exp (m - m') * acc l + ∑ c, Ideal.exp (e c - m') * V (1024 * n + c.val) l) : Carried r s V (n + 1) m' acc' := by
  obtain ⟨ν, hν⟩ : ∃ ν : ℝ, m' = (ν : EReal) := by
    refine ⟨m'.toReal, (EReal.coe_toReal (ne_of_lt ?_) (ne_of_gt ?_)).symm⟩
    · rw [hm]
      refine max_lt ?_ (Finset.fold_max_lt _ |>.mpr ⟨bot_lt_top, fun c _ => ?_⟩)
      · rcases h with ⟨_, h, _⟩ | ⟨μ, h, _⟩
        · rw [h]; exact bot_lt_top
        · rw [h]; exact EReal.coe_lt_top μ
      · rw [he]; unfold entry; split
        · exact EReal.coe_lt_top _
        · exact bot_lt_top
    · rw [hm, lt_max_iff, Finset.lt_fold_max]
      refine Or.inr (Or.inr ⟨⟨0, by norm_num⟩, Finset.mem_univ _, ?_⟩)
      rw [he]; unfold entry; rw [if_pos (by simpa using hn)]
      exact EReal.bot_lt_coe _
  refine Or.inr ⟨ν, hν, fun l => ?_⟩
  rw [ha, hν, show 1024 * (n + 1) = 1024 * n + 1024 by ring, Finset.sum_range_add]
  have old : Ideal.exp (m - (ν : EReal)) * acc l = ∑ j ∈ Finset.range (1024 * n), ((under r s ν j : ℝ) : EReal) * V j l := by
    rcases h with ⟨h0, _, hz⟩ | ⟨μ, hμ, hs⟩
    · rw [hz, mul_zero, h0, Nat.mul_zero, Finset.range_zero, Finset.sum_empty]
    · rw [hμ, ← EReal.coe_sub, Ideal.exp_coe, hs, Common.coe_mul_sum _ (Real.exp_pos _).le]
      refine Finset.sum_congr rfl fun j _ => ?_
      rw [← mul_assoc, ← EReal.coe_mul, under_scale]
  have new : ∑ c, Ideal.exp (e c - (ν : EReal)) * V (1024 * n + c.val) l
      = ∑ j ∈ Finset.range 1024, ((under r s ν (1024 * n + j) : ℝ) : EReal) * V (1024 * n + j) l := by
    rw [Finset.sum_range]
    refine Finset.sum_congr rfl fun c _ => ?_
    rw [he, exp_under]
  rw [old, new]

/-- The finished row: the values' mean under the shares, and the normaliser. -/
theorem Carried.done {n : ℕ} {m : EReal} {acc : Fin 128 → EReal} (h : Carried r s V n m acc) (hr : r < 1024 * n) (hn : n ≤ 4)
    (one : ∀ j, V j 64 = 1) :
    (∀ l, Ideal.div (acc l) (acc 64) = ∑ j : Fin 4096, ((weight r s j.val / mass r s : ℝ) : EReal) * V j.val l)
      ∧ m + Ideal.log (acc 64) = ((norm r s : ℝ) : EReal) := by
  rcases h with ⟨h0, _⟩ | ⟨μ, hμ, hs⟩
  · omega
  have hs' : ∀ l, acc l = ∑ j : Fin 4096, ((under r s μ j.val : ℝ) : EReal) * V j.val l := fun l => by
    rw [hs, Fin.sum_univ_eq_sum_range (fun j => ((under r s μ j : ℝ) : EReal) * V j l) 4096]
    refine Finset.sum_subset (Finset.range_subset_range.mpr (by omega)) fun j _ hj => ?_
    rw [under, if_neg (by rw [Finset.mem_range] at hj; omega), EReal.coe_zero, zero_mul]
  have scale : ∀ j, under r s μ j = Real.exp (top r s - μ) * weight r s j := fun j => (under_scale (top r s) μ j).symm
  have hM := mass_pos s (show r < 4096 by omega)
  have hE := Real.exp_pos (top r s - μ)
  have h64 : acc 64 = ((Real.exp (top r s - μ) * mass r s : ℝ) : EReal) := by
    rw [hs', mass, Finset.mul_sum, ← coe_sum]
    refine Finset.sum_congr rfl fun j _ => ?_
    rw [one, mul_one, scale]
  have hL : 0 < Real.exp (top r s - μ) * mass r s := mul_pos hE hM
  refine ⟨fun l => ?_, ?_⟩
  · rw [h64, Ideal.div_coe hL.ne', hs', Common.sum_mul_coe _ (by positivity)]
    refine Finset.sum_congr rfl fun j _ => ?_
    rw [mul_right_comm, ← EReal.coe_mul, scale]
    congr 2
    field_simp
  · rw [h64, hμ, Ideal.log_coe, if_neg hL.not_ge, ← EReal.coe_add, Cert.FoxBwd.norm, Real.log_mul hE.ne' hM.ne', Real.log_exp]
    congr 1; ring

end Row

/-! ## The body's vectors, entry by entry -/

open Cert.KFoxFIdeal Cert.KFoxFIdeal.Gen Cert.KFoxFIdeal.Facts₀ Cert.KFoxFIdeal.Facts

/-- The name that stands for the mask is minus infinity. -/
theorem mask_bot : (Named.named (F := Ideal) κ "mask" (φ := .f32) 4048155338#32) = (⊥ : EReal) := rfl

section Vectors
variable (x0 k v : Vec Ideal S1x1024x128 .bf16) (m : FVec Ideal S1024x1 .f32) (acc : FVec Ideal S1024x128 .f32) (r : Fin 1024)

theorem pay5_at (c : Fin 1024) : k0_pay5 (F := Ideal) x0 k (ix2 r c) = ∑ l, x0 (ix3 0 r l) * k (ix3 0 c l) := by
  unfold k0_pay5 k0_pay2
  pointwise

theorem pay11_at (c : Fin 1024) : k0_pay11 (F := Ideal) x0 k (ix2 r c) = if c.val ≤ r.val then ∑ l, x0 (ix3 0 r l) * k (ix3 0 c l) else ⊥ := by
  unfold k0_pay11 k0_pay2
  pointwise
  rw [WordCmp.cmpi_sge_ofNat (by omega) (by omega), select_ofBool, mask_bot]

theorem pay6_at : k0_pay6 (F := Ideal) x0 m k (ix2 r 0) = max (m (ix2 r 0)) (Finset.fold max (⊥ : EReal) (fun c => k0_pay5 (F := Ideal) x0 k (ix2 r c)) Finset.univ) := by
  rw [← ofBits_bot]
  unfold k0_pay6
  generalize k0_pay5 (F := Ideal) x0 k = e
  pointwise

theorem pay12_at : k0_pay12 (F := Ideal) x0 m k (ix2 r 0) = max (m (ix2 r 0)) (Finset.fold max (⊥ : EReal) (fun c => k0_pay11 (F := Ideal) x0 k (ix2 r c)) Finset.univ) := by
  rw [← ofBits_bot]
  unfold k0_pay12
  generalize k0_pay11 (F := Ideal) x0 k = e
  pointwise

theorem pay7_at (l : Fin 128) : k0_pay7 (F := Ideal) x0 m acc k v (ix2 r l)
    = Ideal.exp (m (ix2 r 0) - k0_pay6 (F := Ideal) x0 m k (ix2 r 0)) * acc (ix2 r l)
      + ∑ c, Ideal.exp (k0_pay5 (F := Ideal) x0 k (ix2 r c) - k0_pay6 (F := Ideal) x0 m k (ix2 r 0)) * v (ix3 0 c l) := by
  unfold k0_pay7
  generalize k0_pay6 (F := Ideal) x0 m k = mx
  generalize k0_pay5 (F := Ideal) x0 k = e
  pointwise

theorem pay13_at (l : Fin 128) : k0_pay13 (F := Ideal) x0 m acc k v (ix2 r l)
    = Ideal.exp (m (ix2 r 0) - k0_pay12 (F := Ideal) x0 m k (ix2 r 0)) * acc (ix2 r l)
      + ∑ c, Ideal.exp (k0_pay11 (F := Ideal) x0 k (ix2 r c) - k0_pay12 (F := Ideal) x0 m k (ix2 r 0)) * v (ix3 0 c l) := by
  unfold k0_pay13
  generalize k0_pay12 (F := Ideal) x0 m k = mx
  generalize k0_pay11 (F := Ideal) x0 k = e
  pointwise

theorem lanes_at (l : Fin 128) : lanes (ix2 r l) = BitVec.ofNat 32 l.val := by
  unfold lanes; pointwise

theorem eq_lane (l : Fin 128) (n : ℕ) (hn : n < 2 ^ 32) {α : Type} (a b : α) :
    Scalar.select (IntOp.cmpi .eq (BitVec.ofNat 32 l.val) (BitVec.ofNat 32 n)) a b = if l.val = n then a else b := by
  rw [WordCmp.cmpi_eq_ofNat (by omega) hn, select_ofBool]

theorem pay14_at : k0_pay14 (F := Ideal) acc lanes 64#32 (ix2 r 0) = acc (ix2 r 64) := by
  unfold k0_pay14
  pointwise [lanes_at]
  simp only [eq_lane _ 64 (by norm_num)]
  rw [Finset.sum_eq_single (64 : Fin 128)]
  · exact if_pos rfl
  · intro l _ hl
    exact if_neg fun h => hl (Fin.ext h)
  · exact fun h => absurd (Finset.mem_univ _) h

theorem pay15_at (l : Fin 128) : k0_pay15 (F := Ideal) acc lanes 64#32 (ix3 0 r l) = Ideal.div (acc (ix2 r l)) (acc (ix2 r 64)) := by
  rw [← pay14_at acc r]
  unfold k0_pay15
  generalize k0_pay14 (F := Ideal) acc lanes 64#32 = t
  pointwise

theorem pay16_at (l : Fin 128) (h : l.val < 71) : k0_pay1 (F := Ideal) (k0_pay16 (k0_pay2 x0) m acc lanes 64#32) (ix3 0 r l)
    = x0 (ix3 0 r l) + if l.val = 70 then 0 - (m (ix2 r 0) + Ideal.log (acc (ix2 r 64))) else 0 := by
  rw [← pay14_at acc r]
  unfold k0_pay1 k0_pay16 k0_pay2
  generalize k0_pay14 (F := Ideal) acc lanes 64#32 = t
  pointwise [lanes_at]
  rw [eq_lane _ 72 (by norm_num), eq_lane _ 71 (by norm_num), eq_lane _ 70 (by norm_num), if_neg (by omega), if_neg (by omega)]

theorem pay3_at : k0_pay3 (F := Ideal) (ix2 r 0) = ⊥ := by
  unfold k0_pay3; pointwise; exact mask_bot

theorem pay4_at (l : Fin 128) : k0_pay4 (F := Ideal) (ix2 r l) = 0 := by
  unfold k0_pay4; pointwise

end Vectors

/-! ## The whole point -/

/-- A block that holds the rows of `X`, of any extended real numbers, from row `a` on. -/
def Rests (n : ℕ) (x : Vec Ideal ⟨3, ![1, n, 128]⟩ .bf16) (X : ℕ → Fin 128 → EReal) (a : ℕ) : Prop :=
  ∀ (r : Fin n) (l : Fin 128), x (ix3 0 r l) = X (a + r.val) l

theorem window_rests {X : ℕ → Fin 128 → EReal} (x : Vec Ideal S1x4096x128 .bf16) {off : Fin 3 → ℕ} (inb : ∀ a, off a + S1x1024x128.size a ≤ S1x4096x128.size a)
    {o : ℕ} (ho : off = ![0, o, 0]) (hx : Rests 4096 x X 0) :
    Rests 1024 (VecWindow.window (s := S1x4096x128) x off S1x1024x128.size inb) X o := by
  intro r l
  have h1 := inb 1
  subst ho
  have hr : o + r.val < 4096 := by
    have := r.isLt
    have h2 : o + 1024 ≤ 4096 := h1
    omega
  refine (window_at (F := Ideal) x inb rfl r l hr).trans ((hx ⟨o + r.val, hr⟩ l).trans ?_)
  rw [Nat.zero_add]

section Point
variable {Q K : ℕ → Fin 128 → ℝ} {V : ℕ → Fin 128 → EReal} (i : grid0.Coords) {x0 : Vec Ideal S1x1024x128 .bf16} {x1 x2 : Vec Ideal S1x4096x128 .bf16}

variable (Q K) in
/-- The scores of a row. -/
def dots (r j : ℕ) : ℝ := ∑ l, Q r l * K j l

theorem trips_eq : ∀ i : grid0.Coords, (k0_t1_loop i).trips = (i 1).val := by decide +kernel
theorem tile_lt (i : grid0.Coords) : (i 1).val < 4 := (i 1).isLt

/-- The rows after `n` trips. -/
theorem walk_at (h0 : Holds 1024 x0 Q (1024 * (i 1).val)) (h1 : Holds 4096 x1 K 0) (h2 : Rests 4096 x2 V 0) (r : Fin 1024) :
    ∀ n, n ≤ (i 1).val → Carried (1024 * (i 1).val + r.val) (dots Q K (1024 * (i 1).val + r.val)) V n
      ((walk (F := Ideal) i x0 x1 x2 n).1 (ix2 r 0)) fun l => (walk (F := Ideal) i x0 x1 x2 n).2 (ix2 r l) := by
  intro n
  induction n with
  | zero => exact fun _ => Or.inl ⟨rfl, pay3_at r, pay4_at r⟩
  | succ n ih =>
    intro hn
    have ht : n < (k0_t1_loop i).trips := by rw [trips_eq]; omega
    have hk : Holds 1024 (tileOf i x1 ⟨n, ht⟩) K (1024 * n) := window_holds x1 (Gen.k0_off1_inb i ⟨n, ht⟩) (Gen.k0_off1_eq i ⟨n, ht⟩) h1
    have hv : Rests 1024 (tileOf i x2 ⟨n, ht⟩) V (1024 * n) := window_rests x2 (Gen.k0_off1_inb i ⟨n, ht⟩) (Gen.k0_off1_eq i ⟨n, ht⟩) h2
    simp only [walk, dif_pos ht, trip]
    refine (ih (by omega)).next (by omega) (fun c => ?_) (pay6_at _ _ _ r) fun l => ?_
    · rw [pay5_at, entry, if_pos (by have := c.isLt; omega)]
      simp only [h0 r _, hk c _]
      exact coe_sum_mul _ _
    · refine (pay7_at _ _ _ _ _ r l).trans ?_
      simp only [hv _ l]

/-- The rows after the tile on the diagonal. -/
theorem finish_at (h0 : Holds 1024 x0 Q (1024 * (i 1).val)) (h1 : Holds 4096 x1 K 0) (h2 : Rests 4096 x2 V 0) (r : Fin 1024) :
    Carried (1024 * (i 1).val + r.val) (dots Q K (1024 * (i 1).val + r.val)) V ((i 1).val + 1)
      ((finish (F := Ideal) i x0 x1 x2).1 (ix2 r 0)) fun l => (finish (F := Ideal) i x0 x1 x2).2 (ix2 r l) := by
  have hk : Holds 1024 (diagonal i x1) K (1024 * (i 1).val) := window_holds x1 (Gen.k0_off3_inb i) (Gen.k0_off3_eq i) h1
  have hv : Rests 1024 (diagonal i x2) V (1024 * (i 1).val) := window_rests x2 (Gen.k0_off3_inb i) (Gen.k0_off3_eq i) h2
  have w := walk_at i h0 h1 h2 r _ le_rfl
  have ht := trips_eq i
  unfold finish
  dsimp only
  generalize (k0_t1_loop i).trips = n at ht
  subst ht
  refine w.next (by omega) (fun c => ?_) (pay12_at _ _ _ r) fun l => ?_
  · rw [pay11_at, entry]
    simp only [h0 r _, hk c _]
    exact if_congr (by omega) (coe_sum_mul _ _) rfl
  · refine (pay13_at _ _ _ _ _ r l).trans ?_
    simp only [hv _ l]

theorem oAfter_at (h0 : Holds 1024 x0 Q (1024 * (i 1).val)) (h1 : Holds 4096 x1 K 0) (h2 : Rests 4096 x2 V 0) (one : ∀ j, V j 64 = 1) (r : Fin 1024) (l : Fin 128) :
    oAfter i x0 x1 x2 (ix3 0 r l) = ∑ j : Fin 4096, ((weight (1024 * (i 1).val + r.val) (dots Q K (1024 * (i 1).val + r.val)) j.val
      / mass (1024 * (i 1).val + r.val) (dots Q K (1024 * (i 1).val + r.val)) : ℝ) : EReal) * V j.val l := by
  have := tile_lt i
  exact (pay15_at _ r l).trans (((finish_at i h0 h1 h2 r).done (by omega) (by omega) one).1 l)

theorem qAfter_at (h0 : Holds 1024 x0 Q (1024 * (i 1).val)) (h1 : Holds 4096 x1 K 0) (h2 : Rests 4096 x2 V 0) (one : ∀ j, V j 64 = 1) (r : Fin 1024) (l : Fin 128)
    (hl : l.val < 71) :
    qAfter i x0 x1 x2 (ix3 0 r l) = ((Q (1024 * (i 1).val + r.val) l
      + (if l.val = 70 then -norm (1024 * (i 1).val + r.val) (dots Q K (1024 * (i 1).val + r.val)) else 0) : ℝ) : EReal) := by
  have := tile_lt i
  refine (pay16_at _ _ _ r l hl).trans ?_
  have e := ((finish_at i h0 h1 h2 r).done (by omega) (by omega) one).2
  rw [e, h0 r l, EReal.coe_add]
  congr 1
  split
  · rw [zero_sub, EReal.coe_neg]
  · rw [EReal.coe_zero]

end Point
end Cert.FoxF
end
-- ==== Proof.FwdFinal.lean ====
/-
  What the attention's forward call leaves in its two results, for queries, keys and gates that hold real numbers.
-/
module

public import proofs.«01_k».proof.Proof.FwdPoint

@[expose] public section

set_option maxRecDepth 16384

noncomputable section

namespace Cert.FoxF

open Idealize.ShloMosaic Idealize.ShloMosaic.TcCoe Idealize.ShloMosaic.Tactic Idealize.SL.Sem
open Idealize.ShloMosaic.Pipeline (Dat)
open Cert.FoxBwd (weight mass norm score Holds rows qLane kLane lanes_qk select_ofBool cmp_slt cmp_sge early_lanes k_lanes idx_ext3)
open Cert.KFoxFIdeal Cert.KFoxFIdeal.Gen

/-! ## The lanes -/

/-- A query's lanes before the normaliser is known. -/
def eLane (A0 A3 : ℕ → ℕ → ℝ) (h i l : ℕ) : ℝ :=
  if l < 64 then A0 i (h * 64 + l) * (1 / 8) else if l = 64 then A3 i h else if 67 ≤ l ∧ l < 70 then 1 else 0

/-- A value's lanes. -/
def valueLane (v : ℕ → ℕ → EReal) (h j l : ℕ) : EReal := if l < 64 then v j (h * 64 + l) else if l < 67 then 1 else 0

theorem qLane_eq (A0 A1 A3 : ℕ → ℕ → ℝ) (h i l : ℕ) :
    qLane A0 A1 A3 h i l = eLane A0 A3 h i l + if l = 70 then -norm i (score A0 A1 A3 h i) else 0 := by
  unfold qLane eLane
  split_ifs <;> first | omega | simp

/-- The lanes' products are the scores. -/
theorem dots_eq (A0 A1 A3 : ℕ → ℕ → ℝ) (h i : ℕ) : dots (rows (eLane A0 A3 h)) (rows (kLane A1 A3 h)) i = score A0 A1 A3 h i := by
  funext j
  have e := lanes_qk A0 A1 A3 h i j
  simp only [rows, qLane_eq, add_mul, Finset.sum_add_distrib] at e
  have s : ∑ x : Fin 128, (if x.val = 70 then -norm i (score A0 A1 A3 h i) else 0) * kLane A1 A3 h j x.val = -norm i (score A0 A1 A3 h i) := by
    rw [Finset.sum_eq_single (70 : Fin 128) (fun x _ hx => by rw [if_neg (show ¬x.val = 70 from fun h => hx (Fin.ext h)), zero_mul]) (fun h => absurd (Finset.mem_univ _) h)]
    simp [kLane]
  rw [s, ← sub_eq_add_neg, sub_left_inj] at e
  exact e

theorem value_lanes (l : Fin 128) (x y : EReal) (hx : l.val < 64 → x = y) :
    Scalar.select (IntOp.cmpi CmpIPredicate.slt (BitVec.ofNat 32 l.val) 64#32) x
      (Scalar.select (IntOp.andi (IntOp.cmpi CmpIPredicate.sge (BitVec.ofNat 32 l.val) 64#32) (IntOp.cmpi CmpIPredicate.slt (BitVec.ofNat 32 l.val) 67#32)) 1 0)
      = if l.val < 64 then y else if l.val < 67 then 1 else 0 := by
  have hl := l.isLt
  rw [cmp_slt (by omega) (by omega), cmp_sge (by omega) (by omega), cmp_slt (by omega) (by omega), WordCmp.andi_ofBool, ← Bool.decide_and]
  simp only [select_ofBool]
  split_ifs <;> first | omega | (rename_i h; exact hx h) | rfl

/-! ## The arrays the host makes -/

variable (m : (ℓ : Loc nD τ sig) → Buf (Elt Ideal) ℓ) (c : Dev nD)

/-- The queries, keys and gates hold the real numbers `A0`, `A1` and `A3`; the values are `v`. -/
structure Given (A0 A1 : ℕ → ℕ → ℝ) (v : ℕ → ℕ → EReal) (A3 : ℕ → ℕ → ℝ) : Prop where
  q : ∀ (r : Fin 4096) (x : Fin 512), (m (c, Proc.devRef .tc main_arg0) : FVec Ideal S4096x512 .f32) (ix2 r x) = ((A0 r.val x.val : ℝ) : EReal)
  k : ∀ (r : Fin 4096) (x : Fin 512), (m (c, Proc.devRef .tc main_arg1) : FVec Ideal S4096x512 .f32) (ix2 r x) = ((A1 r.val x.val : ℝ) : EReal)
  v : ∀ (r : Fin 4096) (x : Fin 512), (m (c, Proc.devRef .tc main_arg2) : FVec Ideal S4096x512 .f32) (ix2 r x) = v r.val x.val
  gate : ∀ (r : Fin 4096) (x : Fin 8), (m (c, Proc.devRef .tc main_arg3) : FVec Ideal S4096x8 .f32) (ix2 r x) = ((A3 r.val x.val : ℝ) : EReal)

section Arrays
variable {m c} {A0 A1 : ℕ → ℕ → ℝ} {v : ℕ → ℕ → EReal} {A3 : ℕ → ℕ → ℝ} (g : Given m c A0 A1 v A3)
include g

theorem q_at (h : Fin 8) (r : Fin 4096) (l : Fin 128) : (V m c main_v62 : FVec Ideal S8x4096x128 .bf16) (ix3 h r l) = ((eLane A0 A3 h.val r.val l.val : ℝ) : EReal) := by
  unfold V
  after_reads_at
  simp only [id]
  pointwise
  exact early_lanes l (fun hl => by rw [dif_pos hl]; exact g.q _ _) (g.gate _ _)

theorem k_at (h : Fin 8) (r : Fin 4096) (l : Fin 128) : (V m c main_v67 : FVec Ideal S8x4096x128 .bf16) (ix3 h r l) = ((kLane A1 A3 h.val r.val l.val : ℝ) : EReal) := by
  unfold V
  after_reads_at
  simp only [id]
  pointwise
  exact k_lanes l (fun hl => by rw [dif_pos hl]; exact g.k _ _) (g.gate _ _)

theorem v_at (h : Fin 8) (r : Fin 4096) (l : Fin 128) : (V m c main_v72 : FVec Ideal S8x4096x128 .bf16) (ix3 h r l) = valueLane v h.val r.val l.val := by
  unfold V
  after_reads_at
  simp only [id]
  pointwise
  exact value_lanes l _ _ fun hl => by rw [dif_pos hl]; exact g.v _ _

end Arrays

/-! ## The blocks -/

/-- The windows' places: a head's whole rows, or one of its four tiles. -/
theorem places : ∀ t : Fin cfg0.N,
    (∀ a : Fin 3, win0_0.index t a = ![t.val / 4, t.val % 4, 0] a) ∧ (∀ a : Fin 3, win0_1.index t a = ![t.val / 4, 0, 0] a)
    ∧ (∀ a : Fin 3, win0_2.index t a = ![t.val / 4, 0, 0] a) ∧ (∀ a : Fin 3, win0_3.index t a = ![t.val / 4, t.val % 4, 0] a)
    ∧ (∀ a : Fin 3, win0_4.index t a = ![t.val / 4, t.val % 4, 0] a) ∧ (grid0.coords t 1).val = t.val % 4 :=
  (by decide +kernel : ∀ t : Fin grid0.N,
    (∀ a : Fin 3, win0_0.index t a = ![t.val / 4, t.val % 4, 0] a) ∧ (∀ a : Fin 3, win0_1.index t a = ![t.val / 4, 0, 0] a)
    ∧ (∀ a : Fin 3, win0_2.index t a = ![t.val / 4, 0, 0] a) ∧ (∀ a : Fin 3, win0_3.index t a = ![t.val / 4, t.val % 4, 0] a)
    ∧ (∀ a : Fin 3, win0_4.index t a = ![t.val / 4, t.val % 4, 0] a) ∧ (grid0.coords t 1).val = t.val % 4)

/-- The head of a point. -/
def headOf (t : Fin cfg0.N) : Fin 8 := ⟨t.val / 4, by have := lt_of_lt_of_eq t.isLt (show cfg0.N = 32 from N_0); omega⟩

/-- Row `r` of a point's tile. -/
def tileRow (t : Fin cfg0.N) (r : Fin 1024) : Fin 4096 := ⟨1024 * (t.val % 4) + r.val, by omega⟩

theorem block_0 (t : Fin cfg0.N) (r : Fin 1024) (l : Fin 128) :
    (iblk m c 0 t : S1x1024x128.Idx → EReal) (ix3 0 r l) = (V m c main_v62 : S8x4096x128.Idx → EReal) (ix3 (headOf t) (tileRow t r) l) := by
  unfold iblk
  rw [View.read_apply]
  show (V m c main_v62 : S8x4096x128.Idx → EReal) _ = _
  congr 1
  apply idx_ext3
  · show win0_0.index t 0 * 1 + 1 * 0 = t.val / 4; rw [(places t).1 0]; show t.val / 4 * 1 + 1 * 0 = _; omega
  · show win0_0.index t 1 * 1024 + 1 * r.val = 1024 * (t.val % 4) + r.val; rw [(places t).1 1]; show t.val % 4 * 1024 + 1 * r.val = _; omega
  · show win0_0.index t 2 * 128 + 1 * l.val = l.val; rw [(places t).1 2]; show 0 * 128 + 1 * l.val = _; omega

theorem block_1 (t : Fin cfg0.N) (r : Fin 4096) (l : Fin 128) :
    (iblk m c 1 t : S1x4096x128.Idx → EReal) (ix3 0 r l) = (V m c main_v67 : S8x4096x128.Idx → EReal) (ix3 (headOf t) r l) := by
  unfold iblk
  rw [View.read_apply]
  show (V m c main_v67 : S8x4096x128.Idx → EReal) _ = _
  congr 1
  apply idx_ext3
  · show win0_1.index t 0 * 1 + 1 * 0 = t.val / 4; rw [(places t).2.1 0]; show t.val / 4 * 1 + 1 * 0 = _; omega
  · show win0_1.index t 1 * 4096 + 1 * r.val = r.val; rw [(places t).2.1 1]; show 0 * 4096 + 1 * r.val = _; omega
  · show win0_1.index t 2 * 128 + 1 * l.val = l.val; rw [(places t).2.1 2]; show 0 * 128 + 1 * l.val = _; omega

theorem block_2 (t : Fin cfg0.N) (r : Fin 4096) (l : Fin 128) :
    (iblk m c 2 t : S1x4096x128.Idx → EReal) (ix3 0 r l) = (V m c main_v72 : S8x4096x128.Idx → EReal) (ix3 (headOf t) r l) := by
  unfold iblk
  rw [View.read_apply]
  show (V m c main_v72 : S8x4096x128.Idx → EReal) _ = _
  congr 1
  apply idx_ext3
  · show win0_2.index t 0 * 1 + 1 * 0 = t.val / 4; rw [(places t).2.2.1 0]; show t.val / 4 * 1 + 1 * 0 = _; omega
  · show win0_2.index t 1 * 4096 + 1 * r.val = r.val; rw [(places t).2.2.1 1]; show 0 * 4096 + 1 * r.val = _; omega
  · show win0_2.index t 2 * 128 + 1 * l.val = l.val; rw [(places t).2.2.1 2]; show 0 * 128 + 1 * l.val = _; omega

/-! ## The results -/

section
variable (A0 A1 : ℕ → ℕ → ℝ) (v : ℕ → ℕ → EReal) (A3 : ℕ → ℕ → ℝ)

/-- The attention's output. -/
def oVal (h r l : ℕ) : EReal :=
  ∑ j : Fin 4096, ((weight r (score A0 A1 A3 h r) j.val / mass r (score A0 A1 A3 h r) : ℝ) : EReal) * valueLane v h j.val l

/-- The queries with their normalisers, as the lanes below 71 hold them. -/
def qVal (h r l : ℕ) : EReal := ((qLane A0 A1 A3 h r l : ℝ) : EReal)

end

variable {m c} {A0 A1 : ℕ → ℕ → ℝ} {v : ℕ → ℕ → EReal} {A3 : ℕ → ℕ → ℝ} (g : Given m c A0 A1 v A3)

section Final

include g

theorem holds_0 (t : Fin cfg0.N) : Holds 1024 (iblk m c 0 t) (rows (eLane A0 A3 (t.val / 4))) (1024 * (grid0.coords t 1).val) := fun r l => by
  refine (block_0 m c t r l).trans ?_
  rw [(places t).2.2.2.2.2]
  exact q_at g (headOf t) (tileRow t r) l

theorem holds_1 (t : Fin cfg0.N) : Holds 4096 (iblk m c 1 t) (rows (kLane A1 A3 (t.val / 4))) 0 := fun r l => by
  refine (block_1 m c t r l).trans ?_
  rw [Nat.zero_add]
  exact k_at g (headOf t) r l

theorem rests_2 (t : Fin cfg0.N) : Rests 4096 (iblk m c 2 t) (fun j l => valueLane v (t.val / 4) j l.val) 0 := fun r l => by
  refine (block_2 m c t r l).trans ?_
  rw [Nat.zero_add]
  exact v_at g (headOf t) r l

omit g in
theorem value_one (h j : ℕ) : valueLane v h j (64 : Fin 128).val = 1 := by
  simp [valueLane]

/-- Point `t`'s tile of the first result. -/
theorem flushed_o (t : Fin cfg0.N) (r : Fin 1024) (l : Fin 128) :
    oAfter (F := Ideal) (grid0.coords t) (iblk m c 0 t) (iblk m c 1 t) (iblk m c 2 t) (ix3 0 r l) = oVal A0 A1 v A3 (t.val / 4) (tileRow t r).val l.val := by
  refine (oAfter_at (grid0.coords t) (holds_0 g t) (holds_1 g t) (rests_2 g t) (value_one _) r l).trans ?_
  rw [dots_eq, (places t).2.2.2.2.2]
  rfl

/-- Point `t`'s tile of the second, on the lanes below 71. -/
theorem flushed_q (t : Fin cfg0.N) (r : Fin 1024) (l : Fin 128) (hl : l.val < 71) :
    qAfter (F := Ideal) (grid0.coords t) (iblk m c 0 t) (iblk m c 1 t) (iblk m c 2 t) (ix3 0 r l) = qVal A0 A1 A3 (t.val / 4) (tileRow t r).val l.val := by
  refine (qAfter_at (grid0.coords t) (holds_0 g t) (holds_1 g t) (rests_2 g t) (value_one _) r l hl).trans ?_
  rw [dots_eq, (places t).2.2.2.2.2]
  exact congrArg _ (qLane_eq _ _ _ _ _ _).symm

omit g in
theorem emb_3 (t : Fin cfg0.N) (r : Fin 1024) (l : Fin 128) :
    ((cfg0.win 3).blk t).view.emb (ix3 0 r l) = (ix3 (headOf t) (tileRow t r) l : S8x4096x128.Idx) := idx_ext3
  (by show win0_3.index t 0 * 1 + 1 * 0 = t.val / 4; rw [(places t).2.2.2.1 0]; show t.val / 4 * 1 + 1 * 0 = _; omega)
  (by show win0_3.index t 1 * 1024 + 1 * r.val = 1024 * (t.val % 4) + r.val; rw [(places t).2.2.2.1 1]; show t.val % 4 * 1024 + 1 * r.val = _; omega)
  (by show win0_3.index t 2 * 128 + 1 * l.val = l.val; rw [(places t).2.2.2.1 2]; show 0 * 128 + 1 * l.val = _; omega)

omit g in
theorem emb_4 (t : Fin cfg0.N) (r : Fin 1024) (l : Fin 128) :
    ((cfg0.win 4).blk t).view.emb (ix3 0 r l) = (ix3 (headOf t) (tileRow t r) l : S8x4096x128.Idx) := idx_ext3
  (by show win0_4.index t 0 * 1 + 1 * 0 = t.val / 4; rw [(places t).2.2.2.2.1 0]; show t.val / 4 * 1 + 1 * 0 = _; omega)
  (by show win0_4.index t 1 * 1024 + 1 * r.val = 1024 * (t.val % 4) + r.val; rw [(places t).2.2.2.2.1 1]; show t.val % 4 * 1024 + 1 * r.val = _; omega)
  (by show win0_4.index t 2 * 128 + 1 * l.val = l.val; rw [(places t).2.2.2.2.1 2]; show 0 * 128 + 1 * l.val = _; omega)

omit g in
/-- A place of the array is a place of some point's tile. -/
theorem place (h : Fin 8) (r : Fin 4096) : ∃ (t : Fin cfg0.N) (x : Fin 1024), headOf t = h ∧ tileRow t x = r :=
  ⟨⟨4 * h.val + r.val / 1024, by rw [show cfg0.N = 32 from N_0]; omega⟩, ⟨r.val % 1024, Nat.mod_lt _ (by norm_num)⟩,
    Fin.ext (by show (4 * h.val + r.val / 1024) / 4 = h.val; omega), Fin.ext (by show 1024 * ((4 * h.val + r.val / 1024) % 4) + r.val % 1024 = r.val; omega)⟩

theorem final_3 (h : Fin 8) (r : Fin 4096) (l : Fin 128) :
    ((dats m 0 c).arrAt 3 cfg0.N : S8x4096x128.Idx → EReal) (ix3 h r l) = oVal A0 A1 v A3 h.val r.val l.val := by
  obtain ⟨t, x, rfl, rfl⟩ := place h r
  have e := congrFun ((Value.blocks3 m c t (flush0_3 t)).trans (Value.flushed3_A m c t)) (ix3 0 x l)
  rw [View.read_apply, emb_3, out_3] at e
  exact e.trans (flushed_o g t x l)

theorem final_4 (h : Fin 8) (r : Fin 4096) (l : Fin 128) (hl : l.val < 71) :
    ((dats m 0 c).arrAt 4 cfg0.N : S8x4096x128.Idx → EReal) (ix3 h r l) = qVal A0 A1 A3 h.val r.val l.val := by
  obtain ⟨t, x, rfl, rfl⟩ := place h r
  have e := congrFun ((Value.blocks4 m c t (flush0_4 t)).trans (Value.flushed4_A m c t)) (ix3 0 x l)
  rw [View.read_apply, emb_4, out_4] at e
  exact e.trans (flushed_q g t x l hl)

variable (m c) in
/-- The final arrays. -/
abbrev oFinal : S8x4096x128.Idx → EReal := (dats m 0 c).arrAt 3 cfg0.N

variable (m c) in
abbrev qFinal : S8x4096x128.Idx → EReal := (dats m 0 c).arrAt 4 cfg0.N

end Final
end Cert.FoxF
end
-- ==== Proof.FwdRef.lean ====
/-
  The reference attention's output and normaliser, read entry by entry. Its steps are those of the gradients' reference.
-/
module

public import proofs.«01_k».proof.Proof.FoxRef
public import proofs.«01_k».proof.Proof.Gen.RFoxFIdeal.Run

@[expose] public section

set_option maxRecDepth 16384

noncomputable section

namespace Cert.FoxF.Ref

open Idealize.ShloMosaic Idealize.ShloMosaic.TcCoe Idealize.ShloMosaic.Tactic
open Cert.FoxBwd Cert.FoxBwd.Ref
open Cert.RFoxBwdIdeal (S4096x512 S4096x8 S8x4096x64 S8x4096x1 S8x4096 S8x4096x128 S_)

/-- The shares' product with the values. -/
def mean (w : Mat) (v : FVec Ideal S8x4096x64 .f32) : FVec Ideal S8x4096x64 .f32 := byRows (Host.divf w (spread (column (total w)))) v

def out0 (w : Mat) (v : FVec Ideal S8x4096x64 .f32) : FVec Ideal S8x4096x128 .bf16 := truncf .bf16 (padded (mean w v)) (by decide)

def expOver (s : Mat) (mx : FVec Ideal S8x4096 .f32) : Mat := Host.exp (subf s (spread (column mx)))

def normOf (mx sm : FVec Ideal S8x4096 .f32) : FVec Ideal S8x4096x1 .f32 := addf (column mx) (Host.log (column sm))

def eighth (q : FVec Ideal S8x4096x64 .f32) : FVec Ideal S8x4096x64 .f32 :=
  mulf q (broadcastInDim S8x4096x64 ![] Cert.RFoxFIdeal.Gen.bcast_S_S8x4096x64 (constant S_ .f32 0x3E000000#32))

def gates (cum : FVec Ideal S4096x8 .f32) : FVec Ideal S8x4096x1 .f32 :=
  column (transpose S8x4096 [1, 0] cum Cert.RFoxBwdIdeal.Gen.transposes_S4096x8_S8x4096_1_0)

def out1 (q : FVec Ideal S8x4096x64 .f32) (n : FVec Ideal S8x4096x1 .f32) (cum : FVec Ideal S4096x8 .f32) : FVec Ideal S8x4096x128 .bf16 :=
  truncf .bf16 (onLane 64#32 (gates cum) (onLane 70#32 (Host.negf n) (padded (eighth q)))) (by decide)

section Results
open Cert.RFoxFIdeal
variable (m : (ℓ : Loc nD τ sig) → Buf (Elt Ideal) ℓ) (c : Dev nD)

def S : Mat := scores (heads (m ((c.tc : Thread nD τ).loc main_arg0))) (heads (m ((c.tc : Thread nD τ).loc main_arg1))) (m ((c.tc : Thread nD τ).loc main_arg3))

theorem res0_eq : Value.res_out0 m c = out0 (weights (S m c)) (heads (m ((c.tc : Thread nD τ).loc main_arg2))) := by
  unfold Value.res_out0 Value.res_main_v61
  rfl

theorem res1_eq : Value.res_out1 m c = out1 (heads (m ((c.tc : Thread nD τ).loc main_arg0)))
    (normOf (maxima (S m c)) (total (expOver (S m c) (maxima (S m c))))) (m ((c.tc : Thread nD τ).loc main_arg3)) := by
  unfold Value.res_out1 Value.res_main_v62
  rfl

end Results

theorem mean_at (w v) (h : Fin 8) (r : Fin 4096) (d : Fin 64) :
    mean w v (ix3 h r d) = ∑ j, Ideal.div (w (ix3 h r j)) (column (total w) (ix3 h r 0)) * v (ix3 h j d) := by
  unfold mean byRows spread
  generalize column (total w) = t
  pointwise

theorem out0_at (w v) (h : Fin 8) (r : Fin 4096) (l : Fin 128) (hl : l.val < 64) : out0 w v (ix3 h r l) = mean w v (ix3 h r ⟨l.val, hl⟩) :=
  (padded_at (mean w v) h r l).trans (dif_pos hl)

theorem expOver_at (s mx) (h : Fin 8) (r j : Fin 4096) : expOver s mx (ix3 h r j) = Ideal.exp (s (ix3 h r j) - mx (ix2 h r)) := by
  unfold expOver spread column
  pointwise

theorem normOf_at (mx sm) (h : Fin 8) (r : Fin 4096) : normOf mx sm (ix3 h r 0) = mx (ix2 h r) + Ideal.log (sm (ix2 h r)) := by
  unfold normOf column
  pointwise

theorem eighth_at (q) (h : Fin 8) (r : Fin 4096) (d : Fin 64) : eighth q (ix3 h r d) = q (ix3 h r d) * Ideal.ofBits .f32 1040187392#32 := by
  unfold eighth
  pointwise

theorem gates_at (cum) (h : Fin 8) (r : Fin 4096) : gates cum (ix3 h r 0) = cum (ix2 r h) := by
  unfold gates column
  pointwise

theorem neg_at (n : FVec Ideal S8x4096x1 .f32) (h : Fin 8) (r : Fin 4096) : Host.negf n (ix3 h r 0) = -n (ix3 h r 0) := by
  pointwise

theorem out1_at (q n cum) (h : Fin 8) (r : Fin 4096) (l : Fin 128) : out1 q n cum (ix3 h r l)
    = if l.val = 64 then cum (ix2 r h) else if l.val = 70 then -n (ix3 h r 0) else if hl : l.val < 64 then q (ix3 h r ⟨l.val, hl⟩) * Ideal.ofBits .f32 1040187392#32 else 0 := by
  refine (onLane_at 64#32 (gates cum) (onLane 70#32 (Host.negf n) (padded (eighth q))) h r l).trans ?_
  rw [onLane_at, padded_at, cmp_eq (by omega) (by omega), cmp_eq (by omega) (by omega), select_ofBool, select_ofBool, gates_at, neg_at]
  simp only [eighth_at]

section Entries
variable {A0 A1 A3 : ℕ → ℕ → ℝ} {q k v : FVec Ideal S4096x512 .f32} {cum : FVec Ideal S4096x8 .f32}
  (hq : ∀ r x, q (ix2 r x) = ((A0 r.val x.val : ℝ) : EReal)) (hk : ∀ r x, k (ix2 r x) = ((A1 r.val x.val : ℝ) : EReal))
  (hc : ∀ r x, cum (ix2 r x) = ((A3 r.val x.val : ℝ) : EReal))
include hq hk hc

theorem out0_real (h : Fin 8) (r : Fin 4096) (l : Fin 128) (hl : l.val < 64) :
    out0 (weights (scores (heads q) (heads k) cum)) (heads v) (ix3 h r l)
      = ∑ j : Fin 4096, ((weight r.val (score A0 A1 A3 h.val r.val) j.val / mass r.val (score A0 A1 A3 h.val r.val) : ℝ) : EReal) * v (ix2 j ⟨h.val * 64 + l.val, by omega⟩) := by
  rw [out0_at _ _ _ _ _ hl, mean_at, mass_real hq hk hc]
  refine Finset.sum_congr rfl fun j _ => ?_
  rw [weights_real hq hk hc, heads_at, Ideal.div_coe (mass_pos _ r.isLt).ne', ← EReal.coe_mul, mul_one_div]

theorem norm_real (h : Fin 8) (r : Fin 4096) :
    normOf (maxima (scores (heads q) (heads k) cum)) (total (expOver (scores (heads q) (heads k) cum) (maxima (scores (heads q) (heads k) cum)))) (ix3 h r 0)
      = ((norm r.val (score A0 A1 A3 h.val r.val) : ℝ) : EReal) := by
  have e : ∀ j, expOver (scores (heads q) (heads k) cum) (maxima (scores (heads q) (heads k) cum)) (ix3 h r j)
      = ((weight r.val (score A0 A1 A3 h.val r.val) j.val : ℝ) : EReal) := fun j => by
    rw [expOver_at, maxima_real hq hk hc, scores_real hq hk hc, exp_entry]
  rw [normOf_at, total_at, maxima_real hq hk hc, Finset.sum_congr rfl fun j _ => e j, coe_sum]
  show _ + Ideal.log ((mass r.val (score A0 A1 A3 h.val r.val) : ℝ) : EReal) = _
  rw [Ideal.log_coe, if_neg (mass_pos _ r.isLt).not_ge, ← EReal.coe_add]
  rfl

theorem out1_real (h : Fin 8) (r : Fin 4096) (l : Fin 128) (hl : l.val < 64 ∨ l.val = 64 ∨ l.val = 70) :
    out1 (heads q) (normOf (maxima (scores (heads q) (heads k) cum)) (total (expOver (scores (heads q) (heads k) cum) (maxima (scores (heads q) (heads k) cum))))) cum (ix3 h r l)
      = ((qLane A0 A1 A3 h.val r.val l.val : ℝ) : EReal) := by
  rw [out1_at, norm_real hq hk hc, hc, ofBits_eighth]
  unfold qLane
  rcases hl with hl | hl | hl
  · rw [if_neg (by omega), if_neg (by omega), dif_pos hl, if_pos hl, heads_at, hq, EReal.coe_mul]
  · rw [if_pos hl, if_neg (by omega), if_pos hl]
  · rw [if_neg (by omega), if_pos hl, if_neg (by omega), if_neg (by omega), if_neg (by omega), if_pos hl, EReal.coe_neg]

end Entries
end Cert.FoxF.Ref
end
-- ==== Proof.FoxF.lean ====
/-
  The claims about the attention's forward call.
-/
module

public import proofs.«01_k».proof.Defs
public import proofs.«01_k».proof.Proof.FwdFinal
public import proofs.«01_k».proof.Proof.FwdRef
public import proofs.«01_k».proof.Proof.Gen.KFoxF.Frame
public import proofs.«01_k».proof.Proof.Gen.Pre_finite_scores
public import proofs.«01_k».proof.Proof.Gen.On_columns_fwd

@[expose] public section

noncomputable section

namespace Cert.FoxF

open Idealize.ShloMosaic Idealize.ShloMosaic.TcCoe Idealize.SL.Sem Cert.Common
open Cert.FoxBwd (cmp_slt cmp_eq)

theorem frame_k : Cert.quiescent_KFoxF := fun m ρ _ => Cert.KFoxF.Gen.frame m ρ

theorem frame_ki : Cert.quiescent_KFoxFIdeal := fun m ρ _ => Cert.KFoxFIdeal.Gen.frame m ρ

theorem frame_ki_pre : Cert.quiescent_KFoxFIdeal_pre_finite_scores := fun m ρ _ => Cert.KFoxFIdeal.Gen.frame m ρ

theorem frame_r : Cert.quiescent_RFoxFIdeal := fun m ρ _ =>
  (θ_run Cert.RFoxFIdeal.defs _ _).mono (fun r h => ⟨fun c => (h c).2.2,
      Idealize.ShloMosaic.sem_eq_zero_of_no_sems (by decide) r.2⟩)
    (Cert.RFoxFIdeal.Value.run (F := Ideal) m ρ)

theorem frame_r_pre : Cert.quiescent_RFoxFIdeal_pre_finite_scores := fun m ρ _ => frame_r m ρ trivial

theorem preserves : Cert.preserves_KFoxF_KFoxFIdeal := IdealRules.named_const.statement Cert.KFoxFIdeal.κ "mask" .f32 0xF149F2CA#32 ⊥ rfl

/-! ## The precondition and the mask, read -/

section Read
variable {q k v : FVec Ideal ⟨2, ![4096, 512]⟩ .f32} {cum : FVec Ideal ⟨2, ![4096, 8]⟩ .f32}

theorem finite_read (h : Cert.Pre_finite_scores.fn (F := Ideal) q k v cum = fun _ => 1#1) :
    (∀ i, q i = (((q i).toReal : ℝ) : EReal)) ∧ (∀ i, k i = (((k i).toReal : ℝ) : EReal)) ∧ (∀ i, cum i = (((cum i).toReal : ℝ) : EReal)) := by
  have e := congrFun h fun a => a.elim0
  unfold Cert.Pre_finite_scores.fn at e
  dsimp only at e
  obtain ⟨e, e2⟩ := IntOp.andi_eq_one.1 e
  obtain ⟨e0, e1⟩ := IntOp.andi_eq_one.1 e
  haveI : Subsingleton Cert.Pre_finite_scores.S_.Idx := ⟨fun a b => funext fun i => i.elim0⟩
  exact ⟨real_of_finite q _ _ _ _ _ e0, real_of_finite k _ _ _ _ _ e1, real_of_finite cum _ _ _ _ _ e2⟩

theorem columns_0 {h : Fin 8} {r : Fin 4096} {l : Fin 128} (e : (Cert.On_columns_fwd.fn (F := Ideal) q k v cum).1 (ix3 h r l) = 1#1) : l.val < 64 := by
  change IntOp.cmpi .slt (BitVec.ofNat 32 l.val) (BitVec.ofNat 32 64) = 1#1 at e
  rw [cmp_slt (by omega) (by omega)] at e
  by_contra h
  rw [decide_eq_false h] at e
  exact absurd e (by decide)

theorem columns_1 {h : Fin 8} {r : Fin 4096} {l : Fin 128} (e : (Cert.On_columns_fwd.fn (F := Ideal) q k v cum).2 (ix3 h r l) = 1#1) :
    l.val < 64 ∨ l.val = 64 ∨ l.val = 70 := by
  change IntOp.ori (IntOp.ori (IntOp.cmpi .slt (BitVec.ofNat 32 l.val) (BitVec.ofNat 32 64)) (IntOp.cmpi .eq (BitVec.ofNat 32 l.val) (BitVec.ofNat 32 64)))
    (IntOp.cmpi .eq (BitVec.ofNat 32 l.val) (BitVec.ofNat 32 70)) = 1#1 at e
  rw [cmp_slt (by omega) (by omega), cmp_eq (by omega) (by omega), cmp_eq (by omega) (by omega), WordCmp.ori_ofBool, WordCmp.ori_ofBool, ← Bool.decide_or, ← Bool.decide_or] at e
  by_contra h
  rw [decide_eq_false fun x => h (or_assoc.mp x)] at e
  exact absurd e (by decide)

end Read

/-! ## The results -/

section
open Cert.KFoxFIdeal
variable (m : (ℓ : Loc nD τ sig) → Buf (Elt Ideal) ℓ) (c : Dev nD)

def B0 : ℕ → ℕ → ℝ := reals (m ((c.tc : Thread nD τ).loc main_arg0) : S4096x512.Idx → EReal)
def B1 : ℕ → ℕ → ℝ := reals (m ((c.tc : Thread nD τ).loc main_arg1) : S4096x512.Idx → EReal)
def B3 : ℕ → ℕ → ℝ := reals (m ((c.tc : Thread nD τ).loc main_arg3) : S4096x8.Idx → EReal)

/-- The values, as they are. -/
def values (r x : ℕ) : EReal :=
  if h : r < 4096 ∧ x < 512 then (m ((c.tc : Thread nD τ).loc main_arg2) : S4096x512.Idx → EReal) (ix2 ⟨r, h.1⟩ ⟨x, h.2⟩) else 0

theorem values_at (r : Fin 4096) (x : Fin 512) :
    (m ((c.tc : Thread nD τ).loc main_arg2) : S4096x512.Idx → EReal) (ix2 r x) = values m c r.val x.val := by
  unfold values
  rw [dif_pos ⟨r.isLt, x.isLt⟩]

theorem given (h : Cert.Pre_KFoxFIdeal_finite_scores m) : Given m c (B0 m c) (B1 m c) (values m c) (B3 m c) := by
  obtain ⟨h0, h1, h3⟩ := finite_read (h c)
  exact ⟨reals_at h0, reals_at h1, values_at m c, reals_at h3⟩

end

theorem algebraic : Cert.algebraic_KFoxFIdeal_RFoxFIdeal_on_columns_fwd_pre_finite_scores := by
  intro m g m' g' hpre hagree
  have G := fun c => given m c hpre
  refine ⟨oFinal m, qFinal m,
    (θ_run Cert.KFoxFIdeal.defs _ _).mono (fun r h c => ⟨fun i _ => congrFun (h c).1 i, fun i _ => congrFun (h c).2.1 i, (h c).2.2⟩) (Cert.KFoxFIdeal.Value.run_blocks m g),
    (θ_run Cert.RFoxFIdeal.defs _ _).mono (fun r h c => ?_) (Cert.RFoxFIdeal.Value.run m' g')⟩
  obtain ⟨a0, a1, a2, a3⟩ := hagree c
  have q : ∀ r x, (m' ((c.tc : Thread Cert.RFoxFIdeal.nD Cert.RFoxFIdeal.τ).loc Cert.RFoxFIdeal.main_arg0) : FVec Ideal Cert.RFoxFIdeal.S4096x512 .f32) (ix2 r x) = ((B0 m c r.val x.val : ℝ) : EReal) := fun r x => (congrFun a0 _).trans ((G c).q r x)
  have k : ∀ r x, (m' ((c.tc : Thread Cert.RFoxFIdeal.nD Cert.RFoxFIdeal.τ).loc Cert.RFoxFIdeal.main_arg1) : FVec Ideal Cert.RFoxFIdeal.S4096x512 .f32) (ix2 r x) = ((B1 m c r.val x.val : ℝ) : EReal) := fun r x => (congrFun a1 _).trans ((G c).k r x)
  have v : ∀ r x, (m' ((c.tc : Thread Cert.RFoxFIdeal.nD Cert.RFoxFIdeal.τ).loc Cert.RFoxFIdeal.main_arg2) : FVec Ideal Cert.RFoxFIdeal.S4096x512 .f32) (ix2 r x) = values m c r.val x.val := fun r x => (congrFun a2 _).trans ((G c).v r x)
  have cum : ∀ r x, (m' ((c.tc : Thread Cert.RFoxFIdeal.nD Cert.RFoxFIdeal.τ).loc Cert.RFoxFIdeal.main_arg3) : FVec Ideal Cert.RFoxFIdeal.S4096x8 .f32) (ix2 r x) = ((B3 m c r.val x.val : ℝ) : EReal) := fun r x => (congrFun a3 _).trans ((G c).gate r x)
  refine ⟨fun i e => (congrFun ((h c).1.trans (Ref.res0_eq m' c)) i).trans ?_, fun i e => (congrFun ((h c).2.1.trans (Ref.res1_eq m' c)) i).trans ?_, (h c).2.2⟩
  · obtain ⟨h, r, l, rfl⟩ : ∃ (h : Fin 8) (r : Fin 4096) (l : Fin 128), i = ix3 h r l := ⟨_, _, _, eq_ix3 i⟩
    refine (Ref.out0_real q k cum h r l (columns_0 e)).trans (Eq.trans ?_ (final_3 (G c) h r l).symm)
    refine Finset.sum_congr rfl fun j _ => ?_
    rw [v, valueLane, if_pos (columns_0 e)]
  · obtain ⟨h, r, l, rfl⟩ : ∃ (h : Fin 8) (r : Fin 4096) (l : Fin 128), i = ix3 h r l := ⟨_, _, _, eq_ix3 i⟩
    have hl := columns_1 e
    exact (Ref.out1_real q k cum h r l hl).trans (final_4 (G c) h r l (by omega)).symm

end Cert.FoxF

end
-- ==== Proof.Norm.lean ====
/-
  The gradient of the root-mean-square norm at one row of 1024 entries: the kernel's form and the derivative's form agree, whatever the row holds.
-/
module

public import proofs.«01_k».proof.Proof.Common

@[expose] public section

noncomputable section

namespace Cert.Norm

open Idealize.ShloMosaic Cert.Common

/-- The mean of a row's squares, with the norm's small constant. -/
def level (x : Fin 1024 → EReal) : EReal := Ideal.div (∑ k, x k * x k) (Ideal.ofBits .f32 0x44800000#32) + Ideal.ofBits .f32 0x358637BD#32

def scale (x : Fin 1024 → EReal) : EReal := Ideal.rsqrt (level x)

/-- The kernel's gradient of the norm, `A` being the output's cotangent times the gain. -/
def back (A x : Fin 1024 → EReal) (l : Fin 1024) : EReal :=
  scale x * (A l - x l * scale x * Ideal.div (∑ k, A k * (x k * scale x)) (Ideal.ofBits .f32 0x44800000#32))

/-- The derivative through the mean, before it meets the row's entries. -/
def slope (A x : Fin 1024 → EReal) : EReal :=
  Ideal.div ((∑ k, x k * A k) * (Ideal.ofBits .f32 0xBF000000#32 * Ideal.div (scale x) (level x))) (Ideal.ofBits .f32 0x44800000#32)

theorem ofBits_eps : Ideal.ofBits .f32 0x358637BD#32 = ((8796093 / 2 ^ 43 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem square_nonneg (z : EReal) : 0 ≤ z * z := by
  induction z with
  | bot => simp
  | top => simp
  | coe r => rw [← EReal.coe_mul]; exact_mod_cast mul_self_nonneg r

theorem coe_sum {ι : Type*} (s : Finset ι) (f : ι → ℝ) : ∑ k ∈ s, ((f k : ℝ) : EReal) = ((∑ k ∈ s, f k : ℝ) : EReal) :=
  (map_sum (⟨⟨Real.toEReal, EReal.coe_zero⟩, EReal.coe_add⟩ : ℝ →+ EReal) f s).symm

/-- A row is real, or its level is infinite. -/
theorem level_cases (x : Fin 1024 → EReal) : level x = ⊤ ∨ ∃ (y : Fin 1024 → ℝ) (a : ℝ), 0 < a ∧ (∀ k, x k = (y k : EReal)) ∧ level x = (a : EReal) := by
  unfold level
  rw [ofBits_1024, ofBits_eps, Ideal.div_coe (by norm_num)]
  by_cases h : ∀ k, x k = ((x k).toReal : EReal)
  · refine Or.inr ⟨fun k => (x k).toReal, (∑ k, (x k).toReal * (x k).toReal) * (1 / 1024) + 8796093 / 2 ^ 43, ?_, h, ?_⟩
    · have : 0 ≤ ∑ k, (x k).toReal * (x k).toReal := Finset.sum_nonneg fun k _ => mul_self_nonneg _
      positivity
    · rw [Finset.sum_congr rfl fun k _ => show x k * x k = (((x k).toReal * (x k).toReal : ℝ) : EReal) by rw [EReal.coe_mul, ← h k], coe_sum,
        ← EReal.coe_mul, ← EReal.coe_add]
  · refine Or.inl ?_
    push Not at h
    obtain ⟨k, hk⟩ := h
    have hs : (∑ k, x k * x k) = ⊤ := by
      have e : x k * x k = ⊤ := by
        revert hk
        generalize x k = z
        induction z with
        | bot => simp
        | top => simp
        | coe r => simp
      exact top_le_iff.1 (e ▸ Finset.single_le_sum (f := fun k => x k * x k) (fun i _ => square_nonneg (x i)) (Finset.mem_univ k))
    rw [hs, EReal.top_mul_coe_of_pos (by norm_num), EReal.top_add_coe]

theorem twice (z : EReal) : z + z = ((2 : ℝ) : EReal) * z := by
  induction z with
  | bot => rw [EReal.coe_mul_bot_of_pos (by norm_num)]; rfl
  | top => rw [EReal.coe_mul_top_of_pos (by norm_num)]; rfl
  | coe r => rw [← EReal.coe_add, ← EReal.coe_mul, two_mul]

/-- The two gradients, with whatever reaches the row besides, agree. -/
theorem back_eq (A x : Fin 1024 → EReal) (l : Fin 1024) (d : EReal) :
    back A x l + d = ((d + A l * scale x) + x l * slope A x) + slope A x * x l := by
  unfold back slope
  rw [ofBits_1024, ofBits_neg_half]
  rcases level_cases x with h | ⟨y, a, ha, hx, h⟩
  · have hi : scale x = 0 := by unfold scale; rw [h]; rfl
    have hd : Ideal.div (scale x) (level x) = 0 := by rw [hi, h]; simp [Ideal.div]
    rw [hd, hi]
    simp [Ideal.div_coe (show (1024 : ℝ) ≠ 0 by norm_num)]
  · have hi : scale x = (((Real.sqrt a)⁻¹ : ℝ) : EReal) := by
      unfold scale; rw [h, Ideal.rsqrt_coe, if_neg ha.le.not_gt, if_neg ha.ne']
    have hr : 0 ≤ (Real.sqrt a)⁻¹ := inv_nonneg.2 (Real.sqrt_nonneg a)
    have hrr : (Real.sqrt a)⁻¹ * (Real.sqrt a)⁻¹ = 1 / a := by rw [← mul_inv, Real.mul_self_sqrt ha.le, one_div]
    rw [hi, h]
    generalize (Real.sqrt a)⁻¹ = r at *
    rw [Ideal.div_coe ha.ne', Ideal.div_coe (by norm_num), Ideal.div_coe (by norm_num)]
    have e : (∑ k, A k * (x k * (r : EReal))) = (∑ k, x k * A k) * (r : EReal) := by
      rw [sum_mul_coe _ hr]
      exact Finset.sum_congr rfl fun k _ => by rw [mul_comm (x k) (A k), mul_assoc]
    rw [e, hx l]
    generalize (∑ k, x k * A k) = s
    rw [sub_eq_add_neg, coe_mul_add hr]
    have f : (r : EReal) * -((y l : EReal) * r * (s * r * ((1 / 1024 : ℝ) : EReal))) = ((-(r * r * r * y l / 1024) : ℝ) : EReal) * s := by
      rw [mul_neg, EReal.coe_neg, neg_mul]
      refine congrArg _ ?_
      rw [show r * r * r * y l / 1024 = r * (y l * r) * (r * (1 / 1024)) by ring]
      simp only [EReal.coe_mul]
      ac_rfl
    have g : (y l : EReal) * (s * (((-(1 / 2) : ℝ) : EReal) * ((r : EReal) * ((1 / a : ℝ) : EReal))) * ((1 / 1024 : ℝ) : EReal))
        = ((-(r * r * r * y l / 2048) : ℝ) : EReal) * s := by
      rw [show -(r * r * r * y l / 2048) = y l * (-(1 / 2)) * (r * (1 / a)) * (1 / 1024) by rw [← hrr]; ring]
      simp only [EReal.coe_mul]
      ac_rfl
    rw [f, mul_comm _ (y l : EReal), g, add_assoc (d + _), twice, ← mul_assoc, ← EReal.coe_mul,
      show 2 * -(r * r * r * y l / 2048) = -(r * r * r * y l / 1024) by ring, mul_comm (r : EReal) (A l), add_right_comm, add_comm (_ * _) d]

end Cert.Norm

end
-- ==== Proof.NormStep.lean ====
/-
  What the norm's gradient kernels compute at a point from the rows they read, and the derivative's terms, read entry by entry.
  The three layers' kernels differ in the products that make the norm's cotangent, here any array.
-/
module

public import proofs.«01_k».proof.Proof.Norm
public import proofs.«01_k».proof.Proof.Gen.KNormOddIdeal.Skeleton
public import proofs.«01_k».proof.Proof.Gen.RNormOddIdeal.Run

@[expose] public section

set_option maxRecDepth 16384

noncomputable section

namespace Cert.Norm

open Idealize.ShloMosaic Idealize.ShloMosaic.TcCoe Idealize.ShloMosaic.Tactic Cert.Common
open Cert.KNormOddIdeal Cert.KNormOddIdeal.Gen

/-! ## The body's steps, read -/

section Steps
variable (d x z : FVec Ideal S512x1024 .f32) (g o : FVec Ideal S1x1024 .f32)

/-- A row of a block. -/
def rowOf (x : FVec Ideal S512x1024 .f32) (r : Fin 512) : Fin 1024 → EReal := fun k => x (ix2 r k)

/-- An index into three axes, by its three coordinates. -/
theorem idx_ext3 {n k p : ℕ} {i : (⟨3, ![n, k, p]⟩ : Shape).Idx} {a : Fin n} {b : Fin k} {d : Fin p} (h0 : (i 0).val = a.val) (h1 : (i 1).val = b.val)
    (h2 : (i 2).val = d.val) : i = ix3 a b d := funext fun j => Fin.ext (match j with | ⟨0, _⟩ => h0 | ⟨1, _⟩ => h1 | ⟨2, _⟩ => h2)

theorem pay4_at (r : Fin 512) : k0_pay4 (F := Ideal) x (ix2 r 0) = scale (rowOf x r) := by
  unfold k0_pay4 scale level rowOf
  pointwise

theorem pay5_at (r : Fin 512) (l : Fin 1024) : k0_pay5 (F := Ideal) x (ix2 r l) = rowOf x r l * scale (rowOf x r) := by
  unfold k0_pay5
  pointwise [pay4_at]
  rfl

theorem pay6_at (r : Fin 512) (l : Fin 1024) :
    k0_pay6 (F := Ideal) d x g z (ix2 r l) = back (fun k => d (ix2 r k) * g (ix2 0 k)) (rowOf x r) l + z (ix2 r l) := by
  unfold k0_pay6 back
  pointwise [pay4_at, pay5_at]

theorem pay7_at (l : Fin 1024) : k0_pay7 (F := Ideal) d x o (ix2 0 l) = o (ix2 0 l) + ∑ r : Fin 512, d (ix2 r l) * (rowOf x r l * scale (rowOf x r)) := by
  unfold k0_pay7
  pointwise [pay5_at]

end Steps

/-! ## The results -/

section Results
variable (D : Fin 4096 → Fin 1024 → EReal) (X Z : S4096x1024.Idx → EReal) (G : S1x1024.Idx → EReal)

/-- Row `R` of an array. -/
def rowAt (R : Fin 4096) : Fin 1024 → EReal := fun k => X (ix2 R k)

/-- The input's gradient. -/
def dxVal (R : Fin 4096) (l : Fin 1024) : EReal := back (fun k => D R k * G (ix2 0 k)) (rowAt X R) l + Z (ix2 R l)

/-- What one row adds to the gain's gradient. -/
def dgRow (l : Fin 1024) (R : Fin 4096) : EReal := D R l * (rowAt X R l * scale (rowAt X R))

/-- What point `n` adds to it. -/
def part (l : Fin 1024) (n : ℕ) : EReal := if h : n < 8 then ∑ r : Fin 512, dgRow D X l ⟨n * 512 + r.val, by have := r.isLt; omega⟩ else 0

/-- Row `r` of the block at point `n` is row `512 n + r` of the array. -/
def row {n : ℕ} (h : n < 8) (r : Fin 512) : Fin 4096 := ⟨n * 512 + r.val, by have := r.isLt; omega⟩

theorem row_surjective (R : Fin 4096) : ∃ (n : ℕ) (h : n < 8) (r : Fin 512), row h r = R :=
  ⟨R.val / 512, by omega, ⟨R.val % 512, Nat.mod_lt _ (by norm_num)⟩, Fin.ext (by show R.val / 512 * 512 + R.val % 512 = R.val; omega)⟩

/-- The points' parts are the sum over the rows. -/
theorem parts_eq (l : Fin 1024) : ∑ s ∈ Finset.range 8, part D X l s = ∑ R : Fin 4096, dgRow D X l R := sum_blocks 8 512 rfl (dgRow D X l)

variable {D X Z G} {n : ℕ} (h : n < 8) {d x z : FVec Ideal S512x1024 .f32} {g : FVec Ideal S1x1024 .f32}
  (hd : ∀ r l, d (ix2 r l) = D (row h r) l) (hx : ∀ r l, x (ix2 r l) = X (ix2 (row h r) l))
include hd hx

theorem dx_point (hg : ∀ l, g (ix2 0 l) = G (ix2 0 l)) (hz : ∀ r l, z (ix2 r l) = Z (ix2 (row h r) l)) (r : Fin 512) (l : Fin 1024) :
    k0_pay6 (F := Ideal) d x g z (ix2 r l) = dxVal D X Z G (row h r) l := by
  rw [pay6_at, hz, show rowOf x r = rowAt X (row h r) from funext (hx r)]
  unfold dxVal
  refine congrArg (fun A => back A _ l + _) (funext fun k => ?_)
  rw [hd, hg]

theorem dg_point (o : FVec Ideal S1x1024 .f32) (l : Fin 1024) : k0_pay7 (F := Ideal) d x o (ix2 0 l) = o (ix2 0 l) + part D X l n := by
  rw [pay7_at]
  unfold part
  rw [dif_pos h]
  refine congrArg (_ + ·) (Finset.sum_congr rfl fun r _ => ?_)
  rw [hd, show rowOf x r = rowAt X (row h r) from funext (hx r)]
  rfl

end Results

end Cert.Norm

/-! ## The derivative -/

namespace Cert.Norm.Ref

open Idealize.ShloMosaic Idealize.ShloMosaic.TcCoe Idealize.ShloMosaic.Tactic Cert.Norm
open Cert.RNormOddIdeal Cert.RNormOddIdeal.Gen

variable (x : FVec Ideal S4096x1024 .f32) (g : FVec Ideal S1x1024 .f32) (res d : FVec Ideal S4096x1024 .f32)

def gained : FVec Ideal S4096x1024 .f32 := mulf d (broadcastInDim S4096x1024 ![0, 1] bcast_S1x1024_S4096x1024_0_1 g)

def levels : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

def invs : FVec Ideal S4096x1 .f32 := Host.rsqrt (levels x)

def along (v : FVec Ideal S4096x1 .f32) : FVec Ideal S4096x1024 .f32 := broadcastInDim S4096x1024 ![0, 1] bcast_S4096x1_S4096x1024_0_1 v

def slopes (A : FVec Ideal S4096x1024 .f32) (v u : FVec Ideal S4096x1 .f32) : FVec Ideal S4096x1 .f32 :=
  Host.divf (mulf (shapeCast _ (Host.reduceAdd (mulf x A) (constant S_ .f32 0x00000000#32) reducesTo_S4096x1024_S4096_d1 h_S_) shapeCasts_S4096_S4096x1)
    (mulf (broadcastInDim S4096x1 ![] bcast_S_S4096x1 (constant S_ .f32 0xBF000000#32)) (Host.divf v u))) (broadcastInDim S4096x1 ![] bcast_S_S4096x1 (constant S_ .f32 0x44800000#32))

def spreadSlopes (s : FVec Ideal S4096x1 .f32) : FVec Ideal S4096x1024 .f32 :=
  broadcastInDim S4096x1024 ![0] bcast_S4096_S4096x1024_0 (Host.reduceAdd s (constant S_ .f32 0x00000000#32) reducesTo_S4096x1_S4096_d1 h_S_)

def total (A : FVec Ideal S4096x1024 .f32) (v : FVec Ideal S4096x1 .f32) (s : FVec Ideal S4096x1024 .f32) : FVec Ideal S4096x1024 .f32 :=
  addf (addf (addf res (mulf A (along v))) (mulf x s)) (mulf s x)

def gainR (v : FVec Ideal S4096x1 .f32) : FVec Ideal S1x1024 .f32 :=
  shapeCast _ (Host.reduceAdd (mulf (mulf x (along v)) d) (constant S_ .f32 0x00000000#32) reducesTo_S4096x1024_S1024_d0 h_S_) shapeCasts_S1024_S1x1024

theorem gained_at (r : Fin 4096) (l : Fin 1024) : gained g d (ix2 r l) = d (ix2 r l) * g (ix2 0 l) := by
  unfold gained
  pointwise

theorem levels_at (r : Fin 4096) : levels x (ix2 r 0) = level fun k => x (ix2 r k) := by
  unfold levels level
  pointwise

theorem invs_at (r : Fin 4096) : invs x (ix2 r 0) = scale fun k => x (ix2 r k) := by
  unfold invs scale
  pointwise [levels_at]

theorem slopes_at (A v u) (r : Fin 4096) : slopes x A v u (ix2 r 0)
    = Ideal.div ((∑ k : Fin 1024, x (ix2 r k) * A (ix2 r k)) * (Ideal.ofBits .f32 0xBF000000#32 * Ideal.div (v (ix2 r 0)) (u (ix2 r 0)))) (Ideal.ofBits .f32 0x44800000#32) := by
  unfold slopes
  pointwise

theorem spreadSlopes_at (s) (r : Fin 4096) (l : Fin 1024) : spreadSlopes s (ix2 r l) = s (ix2 r 0) := by
  unfold spreadSlopes
  pointwise
  exact Fin.sum_univ_one _

theorem total_at (A v s) (r : Fin 4096) (l : Fin 1024) : total x res A v s (ix2 r l)
    = ((res (ix2 r l) + A (ix2 r l) * v (ix2 r 0)) + x (ix2 r l) * s (ix2 r l)) + s (ix2 r l) * x (ix2 r l) := by
  unfold total along
  pointwise

theorem gainR_at (v) (l : Fin 1024) : gainR x d v (ix2 0 l) = ∑ r : Fin 4096, x (ix2 r l) * v (ix2 r 0) * d (ix2 r l) := by
  unfold gainR along
  pointwise

/-- The input's gradient as the derivative gives it. -/
def dxR : FVec Ideal S4096x1024 .f32 := total x res (gained g d) (invs x) (spreadSlopes (slopes x (gained g d) (invs x) (levels x)))

theorem dxR_eq {D : Fin 4096 → Fin 1024 → EReal} (hd : ∀ r l, d (ix2 r l) = D r l) (r : Fin 4096) (l : Fin 1024) :
    dxR x g res d (ix2 r l) = dxVal D x res g r l := by
  unfold dxR dxVal rowAt
  rw [total_at, spreadSlopes_at, slopes_at, invs_at, levels_at, gained_at, back_eq]
  unfold Norm.slope
  simp only [gained_at, hd]

theorem gainR_eq {D : Fin 4096 → Fin 1024 → EReal} (hd : ∀ r l, d (ix2 r l) = D r l) (l : Fin 1024) :
    gainR x d (invs x) (ix2 0 l) = ∑ s ∈ Finset.range 8, part D x l s := by
  rw [gainR_at, parts_eq]
  exact Finset.sum_congr rfl fun r _ => by rw [invs_at, mul_comm, hd]; rfl

end Cert.Norm.Ref

end
-- ==== Proof.NormOdd.lean ====
/-
  The gradient through the short-convolution layer's projection and norm: the kernel's run, the derivative's run, and their equality.
-/
module

public import proofs.«01_k».proof.Defs
public import proofs.«01_k».proof.Proof.NormStep
public import Idealize.ShloMosaic.Lib.StableHlo.ReadAt
public import Idealize.ShloMosaic.Lib.Pipeline.ValueKit.Acc
public import proofs.«01_k».proof.Proof.Gen.KNormOdd.Frame
public import proofs.«01_k».proof.Proof.Gen.KNormOddIdeal.Value
public import proofs.«01_k».proof.Proof.Gen.RNormOddIdeal.Run

@[expose] public section

set_option maxRecDepth 16384

noncomputable section

namespace Cert.NormOdd

open Idealize.ShloMosaic Idealize.ShloMosaic.TcCoe Idealize.ShloMosaic.Tactic Idealize.SL.Sem Cert.Common Cert.Norm
open Idealize.ShloMosaic.Pipeline (Dat)
open Cert.KNormOddIdeal Cert.KNormOddIdeal.Gen

/-! ## What the body leaves at one point -/

section Body
variable {F : FTy → Type} [FloatOps F]
variable (c : Dev nD) (i : grid0.Coords)
  (a2 : Memref sig .tc .vmem S1x512x3072 .bf16) (h2 : a2.IsWhole) (a3 : Memref sig .tc .vmem S1x1024x3072 .bf16) (h3 : a3.IsWhole)
  (a4 : Memref sig .tc .vmem S512x1024 .f32) (h4 : a4.IsWhole) (a5 : Memref sig .tc .vmem S1x1024 .f32) (h5 : a5.IsWhole)
  (a6 : Memref sig .tc .vmem S512x1024 .f32) (h6 : a6.IsWhole) (a7 : Memref sig .tc .vmem S512x1024 .f32) (h7 : a7.IsWhole)
  (a8 : Memref sig .tc .vmem S1x1024 .f32) (h8 : a8.IsWhole) (a9 : Memref sig .tc .vmem S512x1024 .f32) (h9 : a9.IsWhole)
  (hc0 : cond0_0 i) (hc2 : cond0_2 i)
  (x0 : Vec F S1x512x3072 .bf16) (x1 : Vec F S1x1024x3072 .bf16) (x2 : Vec F S512x1024 .f32) (x3 : Vec F S1x1024 .f32) (x4 : Vec F S512x1024 .f32)

theorem out_A_5 (hc1 : cond0_1 i) : out0_A_5 c i a2 h2 a3 h3 a4 h4 a5 h5 a6 h6 a7 h7 a8 h8 a9 h9 hc0 hc1 hc2 x0 x1 x2 x3 x4
    = k0_pay6 (k0_pay3 x0 x1 k0_pay1) x2 x3 x4 := by
  unfold out0_A_5
  rw [View.read_writes_eq_canon _ _ _ (cover0_A_5 c i a2 h2 a3 h3 a4 h4 a5 h5 a6 h6 a7 h7 a8 h8 a9 h9 hc0 hc1 hc2 x0 x1 x2 x3 x4)]
  unfold kernelRun0_A
  dsimp only
  sl_unfold_words
  rw [View.canon_cons_unit_zero hz2]
  simp only [View.readAt_eq_ld, h2.read_unread, h3.read_unread, h4.read_unread, h5.read_unread, h6.read_unread,
    View.ld_unit_zero (S := S512x1024) hz2, View.ld_unit_zero (S := S1x1024) hz2, View.ld_unit_zero (S := S1x512x3072) hz3,
    View.ld_unit_zero (S := S1x1024x3072) hz3, View.readCov_cons_unit_lit' (S := S512x1024) _ _ _ _ _ (fun a => congrFun hz2 a) (fun a => congrFun hz2 a)]

theorem out_B_5 (hc1 : ¬cond0_1 i) (xo : Vec F S1x1024 .f32) : out0_B_5 c i a2 h2 a3 h3 a4 h4 a5 h5 a6 h6 a7 h7 a8 h8 a9 h9 hc0 hc1 hc2 x0 x1 x2 x3 x4 xo
    = k0_pay6 (k0_pay3 x0 x1 k0_pay1) x2 x3 x4 := by
  unfold out0_B_5
  rw [View.read_writes_eq_canon _ _ _ (cover0_B_5 c i a2 h2 a3 h3 a4 h4 a5 h5 a6 h6 a7 h7 a8 h8 a9 h9 hc0 hc1 hc2 x0 x1 x2 x3 x4 xo)]
  unfold kernelRun0_B
  dsimp only
  sl_unfold_words
  rw [View.canon_cons_unit_zero hz2]
  simp only [View.readAt_eq_ld, h2.read_unread, h3.read_unread, h4.read_unread, h5.read_unread, h6.read_unread,
    View.ld_unit_zero (S := S512x1024) hz2, View.ld_unit_zero (S := S1x1024) hz2, View.ld_unit_zero (S := S1x512x3072) hz3,
    View.ld_unit_zero (S := S1x1024x3072) hz3, View.readCov_cons_unit_lit' (S := S512x1024) _ _ _ _ _ (fun a => congrFun hz2 a) (fun a => congrFun hz2 a)]

theorem out_A_6 (hc1 : cond0_1 i) : out0_A_6 c i a2 h2 a3 h3 a4 h4 a5 h5 a6 h6 a7 h7 a8 h8 a9 h9 hc0 hc1 hc2 x0 x1 x2 x3 x4
    = k0_pay7 (k0_pay3 x0 x1 k0_pay1) x2 k0_pay2 := by
  unfold out0_A_6
  rw [View.read_writes_eq_canon _ _ _ (cover0_A_6 c i a2 h2 a3 h3 a4 h4 a5 h5 a6 h6 a7 h7 a8 h8 a9 h9 hc0 hc1 hc2 x0 x1 x2 x3 x4)]
  unfold kernelRun0_A
  dsimp only
  sl_unfold_words
  rw [View.canon_cons_unit_zero (S := S1x1024) hz2]
  simp only [View.readAt_eq_ld, h2.read_unread, h3.read_unread, h4.read_unread,
    View.ld_unit_zero (S := S512x1024) hz2, View.ld_unit_zero (S := S1x1024) hz2, View.ld_unit_zero (S := S1x512x3072) hz3,
    View.ld_unit_zero (S := S1x1024x3072) hz3, View.readCov_cons_unit_lit' (S := S512x1024) _ _ _ _ _ (fun a => congrFun hz2 a) (fun a => congrFun hz2 a), View.readCov_unit_zero (S := S1x1024) _ hz2]

theorem out_B_6 (hc1 : ¬cond0_1 i) (xo : Vec F S1x1024 .f32) : out0_B_6 c i a2 h2 a3 h3 a4 h4 a5 h5 a6 h6 a7 h7 a8 h8 a9 h9 hc0 hc1 hc2 x0 x1 x2 x3 x4 xo
    = k0_pay7 (k0_pay3 x0 x1 k0_pay1) x2 xo := by
  unfold out0_B_6
  rw [View.read_writes_eq_canon _ _ _ (cover0_B_6 c i a2 h2 a3 h3 a4 h4 a5 h5 a6 h6 a7 h7 a8 h8 a9 h9 hc0 hc1 hc2 x0 x1 x2 x3 x4 xo)]
  unfold kernelRun0_B
  dsimp only
  sl_unfold_words
  rw [View.canon_cons_unit_zero (S := S1x1024) hz2]
  simp only [View.readAt_eq_ld, h2.read_unread, h3.read_unread, h4.read_unread, h8.read_unread,
    View.ld_unit_zero (S := S512x1024) hz2, View.ld_unit_zero (S := S1x1024) hz2, View.ld_unit_zero (S := S1x512x3072) hz3,
    View.ld_unit_zero (S := S1x1024x3072) hz3, View.readCov_cons_unit_lit' (S := S512x1024) _ _ _ _ _ (fun a => congrFun hz2 a) (fun a => congrFun hz2 a)]

end Body

/-! ## The blocks -/

variable (m : (ℓ : Loc nD τ sig) → Buf (Elt Ideal) ℓ) (c : Dev nD)

abbrev X0 : S4096x1024.Idx → EReal := m ((c : Thread nD τ).loc main_arg0)
abbrev X1 : S1x1024.Idx → EReal := m ((c : Thread nD τ).loc main_arg1)
abbrev X2 : S1024x3072.Idx → EReal := m ((c : Thread nD τ).loc main_arg2)
abbrev X3 : S4096x3072.Idx → EReal := m ((c : Thread nD τ).loc main_arg3)
abbrev X4 : S4096x1024.Idx → EReal := m ((c : Thread nD τ).loc main_arg4)

theorem dz_at (r : Fin 4096) (k : Fin 3072) : (V m c main_v0 : FVec Ideal S1x4096x3072 .bf16) (ix3 0 r k) = X3 m c (ix2 r k) := by
  unfold V
  after_reads_at

theorem w_at (l : Fin 1024) (k : Fin 3072) : (V m c main_v2 : FVec Ideal S1x1024x3072 .bf16) (ix3 0 l k) = X2 m c (ix2 l k) := by
  unfold V
  after_reads_at

theorem places : ∀ t : Fin cfg0.N,
    (∀ a : Fin 3, win0_0.index t a = ![0, t.val, 0] a) ∧ (∀ a : Fin 3, win0_1.index t a = 0)
    ∧ (∀ a : Fin 2, win0_2.index t a = ![t.val, 0] a) ∧ (∀ a : Fin 2, win0_3.index t a = 0)
    ∧ (∀ a : Fin 2, win0_4.index t a = ![t.val, 0] a) ∧ (∀ a : Fin 2, win0_5.index t a = ![t.val, 0] a) ∧ (∀ a : Fin 2, win0_6.index t a = 0) :=
  (by decide +kernel : ∀ t : Fin grid0.N,
    (∀ a : Fin 3, win0_0.index t a = ![0, t.val, 0] a) ∧ (∀ a : Fin 3, win0_1.index t a = 0)
    ∧ (∀ a : Fin 2, win0_2.index t a = ![t.val, 0] a) ∧ (∀ a : Fin 2, win0_3.index t a = 0)
    ∧ (∀ a : Fin 2, win0_4.index t a = ![t.val, 0] a) ∧ (∀ a : Fin 2, win0_5.index t a = ![t.val, 0] a) ∧ (∀ a : Fin 2, win0_6.index t a = 0))

theorem point_lt (t : Fin cfg0.N) : t.val < 8 := lt_of_lt_of_eq t.isLt (show cfg0.N = 8 from N_0)

theorem block_0 (t : Fin cfg0.N) (r : Fin 512) (k : Fin 3072) : (iblk m c 0 t : S1x512x3072.Idx → EReal) (ix3 0 r k) = X3 m c (ix2 (row (point_lt t) r) k) := by
  refine Eq.trans ?_ (dz_at m c (row (point_lt t) r) k)
  unfold iblk
  rw [View.read_apply]
  show (V m c main_v0 : S1x4096x3072.Idx → EReal) _ = _
  congr 1
  apply idx_ext3
  · show win0_0.index t 0 * 1 + 1 * 0 = 0; rw [(places t).1 0]; rfl
  · show win0_0.index t 1 * 512 + 1 * r.val = t.val * 512 + r.val; rw [(places t).1 1]; show t.val * 512 + 1 * r.val = _; omega
  · show win0_0.index t 2 * 3072 + 1 * k.val = k.val; rw [(places t).1 2]; show 0 * 3072 + 1 * k.val = _; omega

theorem block_1 (t : Fin cfg0.N) (l : Fin 1024) (k : Fin 3072) : (iblk m c 1 t : S1x1024x3072.Idx → EReal) (ix3 0 l k) = X2 m c (ix2 l k) := by
  refine Eq.trans ?_ (w_at m c l k)
  unfold iblk
  rw [View.read_apply]
  show (V m c main_v2 : S1x1024x3072.Idx → EReal) _ = _
  congr 1
  apply idx_ext3
  · show win0_1.index t 0 * 1 + 1 * 0 = 0; rw [(places t).2.1 0]
  · show win0_1.index t 1 * 1024 + 1 * l.val = l.val; rw [(places t).2.1 1]; omega
  · show win0_1.index t 2 * 3072 + 1 * k.val = k.val; rw [(places t).2.1 2]; omega

theorem block_2 (t : Fin cfg0.N) (r : Fin 512) (l : Fin 1024) : (iblk m c 2 t : S512x1024.Idx → EReal) (ix2 r l) = X0 m c (ix2 (row (point_lt t) r) l) := by
  unfold iblk
  rw [View.read_apply]
  show V m c main_arg0 _ = _
  rw [V_main_arg0]
  congr 1
  apply Shape.idx_ext₂
  · show win0_2.index t 0 * 512 + 1 * r.val = t.val * 512 + r.val; rw [(places t).2.2.1 0]; show t.val * 512 + 1 * r.val = _; omega
  · show win0_2.index t 1 * 1024 + 1 * l.val = l.val; rw [(places t).2.2.1 1]; show 0 * 1024 + 1 * l.val = _; omega

theorem block_3 (t : Fin cfg0.N) (l : Fin 1024) : (iblk m c 3 t : S1x1024.Idx → EReal) (ix2 0 l) = X1 m c (ix2 0 l) := by
  unfold iblk
  rw [View.read_apply]
  show V m c main_arg1 _ = _
  rw [V_main_arg1]
  congr 1
  apply Shape.idx_ext₂
  · show win0_3.index t 0 * 1 + 1 * 0 = 0; rw [(places t).2.2.2.1 0]
  · show win0_3.index t 1 * 1024 + 1 * l.val = l.val; rw [(places t).2.2.2.1 1]; omega

theorem block_4 (t : Fin cfg0.N) (r : Fin 512) (l : Fin 1024) : (iblk m c 4 t : S512x1024.Idx → EReal) (ix2 r l) = X4 m c (ix2 (row (point_lt t) r) l) := by
  unfold iblk
  rw [View.read_apply]
  show V m c main_arg4 _ = _
  rw [V_main_arg4]
  congr 1
  apply Shape.idx_ext₂
  · show win0_4.index t 0 * 512 + 1 * r.val = t.val * 512 + r.val; rw [(places t).2.2.2.2.1 0]; show t.val * 512 + 1 * r.val = _; omega
  · show win0_4.index t 1 * 1024 + 1 * l.val = l.val; rw [(places t).2.2.2.2.1 1]; show 0 * 1024 + 1 * l.val = _; omega

/-! ## The results -/

/-- The cotangent of the norm's output. -/
def dn (R : Fin 4096) (l : Fin 1024) : EReal := ∑ k : Fin 3072, X3 m c (ix2 R k) * X2 m c (ix2 l k)

theorem dn_at (t : Fin cfg0.N) (r : Fin 512) (l : Fin 1024) :
    k0_pay3 (F := Ideal) (iblk m c 0 t) (iblk m c 1 t) (k0_pay1 (F := Ideal)) (ix2 r l) = dn m c (row (point_lt t) r) l := by
  unfold dn
  unfold_payloads
  pointwise [block_0, block_1]

theorem outs5 (t : Fin cfg0.N) :
    (outsAt0 m c t.val t.isLt).1 = k0_pay6 (F := Ideal) (k0_pay3 (iblk m c 0 t) (iblk m c 1 t) (k0_pay1 (F := Ideal))) (iblk m c 2 t) (iblk m c 3 t) (iblk m c 4 t) := by
  by_cases h0 : t.val % 8 = 0
  · rw [outsAt0_A m c t h0]; dsimp only; rw [out_A_5]
  · rw [outsAt0_B m c t h0]; dsimp only; rw [out_B_5]

theorem outs6 : ∀ (n : ℕ) (h : n < cfg0.N) (l : Fin 1024), (outsAt0 m c n h).2 (ix2 0 l) = ∑ s ∈ Finset.range (n + 1), part (dn m c) (X0 m c) l s
  | 0, h, l => by
    rw [outsAt0_A m c ⟨0, h⟩ rfl]
    dsimp only
    rw [out_A_6]
    refine (dg_point (point_lt _) (dn_at m c _) (block_2 m c _) _ l).trans ?_
    simp only [zero_add, Finset.sum_range_one]
    unfold_payloads
    pointwise
  | n + 1, h, l => by
    have hN : n + 1 < 8 := lt_of_lt_of_eq h (show cfg0.N = 8 from N_0)
    have hB : ¬(⟨n + 1, h⟩ : Fin cfg0.N).val % 8 = 0 := by dsimp only; omega
    rw [outsAt0_B m c ⟨n + 1, h⟩ hB]
    dsimp only
    rw [out_B_6]
    refine (dg_point (point_lt _) (dn_at m c _) (block_2 m c _) _ l).trans ?_
    show (outsAt0 m c n _).2 (ix2 0 l) + _ = _
    rw [outs6 n _ l, Finset.sum_range_succ _ (n + 1)]

theorem final_5 (R : Fin 4096) (l : Fin 1024) : ((dats m 0 c).arrAt 5 cfg0.N : S4096x1024.Idx → EReal) (ix2 R l) = dxVal (dn m c) (X0 m c) (X4 m c) (X1 m c) R l := by
  obtain ⟨n, h, r, rfl⟩ := row_surjective R
  obtain ⟨t, rfl⟩ : ∃ t : Fin cfg0.N, t.val = n := ⟨⟨n, by rw [show cfg0.N = 8 from N_0]; exact h⟩, rfl⟩
  have e := congrFun ((Value.blocks5 m c t (flush0_5 t)).trans (Value.flushed5 m c t)) (ix2 r l)
  rw [View.read_apply, show ((cfg0.win 5).blk t).view.emb (ix2 r l) = (ix2 (row (point_lt t) r) l : S4096x1024.Idx) from Shape.idx_ext₂
    (by show win0_5.index t 0 * 512 + 1 * r.val = t.val * 512 + r.val; rw [(places t).2.2.2.2.2.1 0]; show t.val * 512 + 1 * r.val = _; omega)
    (by show win0_5.index t 1 * 1024 + 1 * l.val = l.val; rw [(places t).2.2.2.2.2.1 1]; show 0 * 1024 + 1 * l.val = _; omega), outs5] at e
  exact e.trans (dx_point (point_lt t) (dn_at m c t) (block_2 m c t) (block_3 m c t) (block_4 m c t) r l)

/-- The final arrays. -/
abbrev dxFinal : S4096x1024.Idx → EReal := (dats m 0 c).arrAt 5 cfg0.N
abbrev dgFinal : S1x1024.Idx → EReal := (dats m 0 c).arrAt 6 cfg0.N

theorem final_6 : (dats m 0 c).arrAt 6 cfg0.N = (fun i => ∑ s ∈ Finset.range 8, part (dn m c) (X0 m c) (i 1) s : S1x1024.Idx → EReal) := by
  refine (dats m 0 c).arrAt_eq_of_cover 6 _ (fun t hf => ?_) fun i => ?_
  · have h7 : t.val + 1 = 8 := by
      have := (flush0_6 t).mp hf; have := lt_of_lt_of_eq t.isLt (show cfg0.N = 8 from N_0); omega
    rw [Value.flushed6]
    funext j
    rw [View.read_apply]
    obtain ⟨z, l, rfl⟩ : ∃ (z : Fin 1) (l : Fin 1024), j = ix2 z l := ⟨_, _, eq_ix2 j⟩
    obtain rfl : z = 0 := Subsingleton.elim _ _
    rw [show ((cfg0.win 6).blk t).view.emb (ix2 0 l) = (ix2 0 l : S1x1024.Idx) from Shape.idx_ext₂
      (by show win0_6.index t 0 * 1 + 1 * 0 = 0; rw [(places t).2.2.2.2.2.2 0])
      (by show win0_6.index t 1 * 1024 + 1 * l.val = l.val; rw [(places t).2.2.2.2.2.2 1]; omega)]
    refine (outs6 m c t.val t.isLt l).trans ?_
    rw [h7]
    rfl
  · have h7 : 7 < cfg0.N := by rw [show cfg0.N = 8 from N_0]; decide
    refine ⟨⟨7, h7⟩, (flush0_6 _).mpr rfl, ?_⟩
    show i ∈ ((View.whole main_v3_1).slice (win0_6.rect ⟨7, h7⟩)).set
    rw [View.set_slice_whole, Rect.mem_set_unit]
    intro a
    have h0 : (i 0 : Nat) < 1 := (i 0).isLt
    have h1 : (i 1 : Nat) < 1024 := (i 1).isLt
    match a with
    | ⟨0, _⟩ => show 0 ≤ (i 0 : Nat) ∧ (i 0 : Nat) < 0 + 1; omega
    | ⟨1, _⟩ => show 0 ≤ (i 1 : Nat) ∧ (i 1 : Nat) < 0 + 1024; omega

end Cert.NormOdd

/-! ## The reference -/

namespace Cert.NormOdd.Ref

open Idealize.ShloMosaic Idealize.ShloMosaic.TcCoe Idealize.ShloMosaic.Tactic Cert.Norm
open Cert.RNormOddIdeal Cert.RNormOddIdeal.Gen

variable (w : FVec Ideal S1024x3072 .f32) (dz : FVec Ideal S4096x3072 .bf16)

/-- The cotangent of the norm's output. -/
def dnR : FVec Ideal S4096x1024 .f32 :=
  Host.dotGeneral dot_S4096x3072_S1024x3072_S4096x1024_1_1_0_0_n_n none (extf .f32 dz bitsLt_bf16_f32) w

theorem dnR_at (r : Fin 4096) (l : Fin 1024) : dnR w dz (ix2 r l) = ∑ k : Fin 3072, dz (ix2 r k) * w (ix2 l k) := by
  unfold dnR
  pointwise

end Cert.NormOdd.Ref

/-! ## The claims -/

namespace Cert.NormOdd

open Idealize.ShloMosaic Idealize.ShloMosaic.TcCoe Idealize.SL.Sem Cert.Common Cert.Norm

theorem frame_k : Cert.quiescent_KNormOdd := fun m ρ _ => Cert.KNormOdd.Gen.frame m ρ

theorem frame_ki : Cert.quiescent_KNormOddIdeal := fun m ρ _ => Cert.KNormOddIdeal.Gen.frame m ρ

theorem frame_r : Cert.quiescent_RNormOddIdeal := fun m ρ _ =>
  (θ_run Cert.RNormOddIdeal.defs _ _).mono (fun r h => ⟨fun c => (h c).2.2,
      Idealize.ShloMosaic.sem_eq_zero_of_no_sems (by decide) r.2⟩)
    (Cert.RNormOddIdeal.Value.run (F := Ideal) m ρ)

theorem algebraic : Cert.algebraic_KNormOddIdeal_RNormOddIdeal := by
  intro m g m' g' _ hagree
  refine ⟨dxFinal m, dgFinal m,
    Cert.KNormOddIdeal.Value.run_blocks m g,
    (θ_run Cert.RNormOddIdeal.defs _ _).mono (fun r h c => ?_) (Cert.RNormOddIdeal.Value.run m' g')⟩
  obtain ⟨a0, a1, a2, a3, a4⟩ := hagree c
  have hd := fun r l => Ref.dnR_at (X2 m c) (X3 m c) r l
  refine ⟨(h c).1.trans (funext fun i => ?_), (h c).2.1.trans (funext fun i => ?_), (h c).2.2⟩
  · obtain ⟨R, l, rfl⟩ : ∃ (R : Fin 4096) (l : Fin 1024), i = ix2 R l := ⟨_, _, eq_ix2 i⟩
    unfold Cert.RNormOddIdeal.Value.res_main_v37
    rw [a0, a1, a2, a3, a4]
    exact (Norm.Ref.dxR_eq (X0 m c) (X1 m c) (X4 m c) _ hd R l).trans (final_5 m c R l).symm
  · obtain ⟨z, l, rfl⟩ : ∃ (z : Fin 1) (l : Fin 1024), i = ix2 z l := ⟨_, _, eq_ix2 i⟩
    obtain rfl : z = 0 := Subsingleton.elim _ _
    rw [a0, a2, a3]
    exact (Norm.Ref.gainR_eq (X0 m c) _ hd l).trans (congrFun (final_6 m c) (ix2 0 l)).symm

end Cert.NormOdd

end
-- ==== Proof.NormFfn.lean ====
/-
  The gradient through the feed-forward layer's two projections and norm: the kernel's run, the derivative's run, and their equality.
-/
module

public import proofs.«01_k».proof.Defs
public import proofs.«01_k».proof.Proof.NormStep
public import Idealize.ShloMosaic.Lib.StableHlo.ReadAt
public import Idealize.ShloMosaic.Lib.Pipeline.ValueKit.Acc
public import Idealize.ShloMosaic.Lib.Pipeline.ValueKit.Tiles
public import proofs.«01_k».proof.Proof.Gen.KNormFfn.Frame
public import proofs.«01_k».proof.Proof.Gen.KNormFfnIdeal.Value
public import proofs.«01_k».proof.Proof.Gen.RNormFfnIdeal.Run

@[expose] public section

set_option maxRecDepth 16384

noncomputable section

namespace Cert.NormFfn

open Idealize.ShloMosaic Idealize.ShloMosaic.TcCoe Idealize.ShloMosaic.Tactic Idealize.SL.Sem Cert.Common Cert.Norm
open Idealize.ShloMosaic.Pipeline (Dat)
open Cert.KNormFfnIdeal Cert.KNormFfnIdeal.Gen

/-! ## What the body leaves at one point -/

section Body
variable {F : FTy → Type} [FloatOps F]

/-- One slab of the cotangents' block, and one of the weights'. -/
def slab (p : ℕ) (inb : ∀ a, (![p, 0, 0] : Fin 3 → ℕ) a + S1x512x704.size a ≤ S4x512x704.size a) (x : Vec F S4x512x704 .bf16) : Vec F S1x512x704 .bf16 :=
  View.ld x (Rect.unit (s := S4x512x704) ![p, 0, 0] S1x512x704.size inb)
def slabW (p : ℕ) (inb : ∀ a, (![p, 0, 0] : Fin 3 → ℕ) a + S1x704x1024.size a ≤ S4x704x1024.size a) (x : Vec F S4x704x1024 .bf16) : Vec F S1x704x1024 .bf16 :=
  View.ld x (Rect.unit (s := S4x704x1024) ![p, 0, 0] S1x704x1024.size inb)

/-- The eight products of the slabs, summed in the body's order. -/
def stepped (x0 x1 : Vec F S4x512x704 .bf16) (x2 x3 : Vec F S4x704x1024 .bf16) : FVec F S512x1024 .f32 :=
  k0_pay1 (k0_pay10
    (k0_pay8 (slab 0 inb_S4x512x704_S1x512x704_0_0_0 x0) (slabW 0 inb_S4x704x1024_S1x704x1024_0_0_0 x2)
      (slab 1 inb_S4x512x704_S1x512x704_1_0_0 x0) (slabW 1 inb_S4x704x1024_S1x704x1024_1_0_0 x2)
      (slab 2 inb_S4x512x704_S1x512x704_2_0_0 x0) (slabW 2 inb_S4x704x1024_S1x704x1024_2_0_0 x2))
    (k0_pay9 (slab 3 inb_S4x512x704_S1x512x704_3_0_0 x0)) (slabW 3 inb_S4x704x1024_S1x704x1024_3_0_0 x2)
    (slab 0 inb_S4x512x704_S1x512x704_0_0_0 x1) (slabW 0 inb_S4x704x1024_S1x704x1024_0_0_0 x3)
    (slab 1 inb_S4x512x704_S1x512x704_1_0_0 x1) (slabW 1 inb_S4x704x1024_S1x704x1024_1_0_0 x3)
    (slab 2 inb_S4x512x704_S1x512x704_2_0_0 x1) (slabW 2 inb_S4x704x1024_S1x704x1024_2_0_0 x3)
    (slab 3 inb_S4x512x704_S1x512x704_3_0_0 x1) (slabW 3 inb_S4x704x1024_S1x704x1024_3_0_0 x3)) k0_pay6

variable (c : Dev nD) (i : grid0.Coords)
  (a2 : Memref sig .tc .vmem S4x512x704 .bf16) (h2 : a2.IsWhole) (a3 : Memref sig .tc .vmem S4x512x704 .bf16) (h3 : a3.IsWhole)
  (a4 : Memref sig .tc .vmem S4x704x1024 .bf16) (h4 : a4.IsWhole) (a5 : Memref sig .tc .vmem S4x704x1024 .bf16) (h5 : a5.IsWhole)
  (a6 : Memref sig .tc .vmem S512x1024 .f32) (h6 : a6.IsWhole) (a7 : Memref sig .tc .vmem S1x1024 .f32) (h7 : a7.IsWhole)
  (a8 : Memref sig .tc .vmem S512x1024 .f32) (h8 : a8.IsWhole) (a9 : Memref sig .tc .vmem S512x1024 .f32) (h9 : a9.IsWhole)
  (a10 : Memref sig .tc .vmem S1x1024 .f32) (h10 : a10.IsWhole) (a11 : Memref sig .tc .vmem S512x1024 .f32) (h11 : a11.IsWhole)
  (hc0 : cond0_0 i) (hc2 : cond0_2 i)
  (x0 : Vec F S4x512x704 .bf16) (x1 : Vec F S4x512x704 .bf16) (x2 : Vec F S4x704x1024 .bf16) (x3 : Vec F S4x704x1024 .bf16) (x4 : Vec F S512x1024 .f32) (x5 : Vec F S1x1024 .f32) (x6 : Vec F S512x1024 .f32)

theorem out_A_7 (hc1 : cond0_1 i) : out0_A_7 c i a2 h2 a3 h3 a4 h4 a5 h5 a6 h6 a7 h7 a8 h8 a9 h9 a10 h10 a11 h11 hc0 hc1 hc2 x0 x1 x2 x3 x4 x5 x6
    = k0_pay4 (stepped x0 x1 x2 x3) x4 x5 x6 := by
  unfold out0_A_7
  rw [View.read_writes_eq_canon _ _ _ (cover0_A_7 c i a2 h2 a3 h3 a4 h4 a5 h5 a6 h6 a7 h7 a8 h8 a9 h9 a10 h10 a11 h11 hc0 hc1 hc2 x0 x1 x2 x3 x4 x5 x6)]
  unfold kernelRun0_A
  dsimp only
  sl_unfold_words
  rw [View.canon_cons_unit_zero hz2]
  simp only [View.readAt_eq_ld, h2.read_unread, h3.read_unread, h4.read_unread, h5.read_unread, h6.read_unread, h7.read_unread, h8.read_unread,
    View.ld_unit_zero (S := S512x1024) hz2, View.ld_unit_zero (S := S1x1024) hz2, View.readCov_cons_unit_lit' (S := S512x1024) _ _ _ _ _ (fun a => congrFun hz2 a) (fun a => congrFun hz2 a)]
  rfl

theorem out_B_7 (hc1 : ¬cond0_1 i) (xo : Vec F S1x1024 .f32) : out0_B_7 c i a2 h2 a3 h3 a4 h4 a5 h5 a6 h6 a7 h7 a8 h8 a9 h9 a10 h10 a11 h11 hc0 hc1 hc2 x0 x1 x2 x3 x4 x5 x6 xo
    = k0_pay4 (stepped x0 x1 x2 x3) x4 x5 x6 := by
  unfold out0_B_7
  rw [View.read_writes_eq_canon _ _ _ (cover0_B_7 c i a2 h2 a3 h3 a4 h4 a5 h5 a6 h6 a7 h7 a8 h8 a9 h9 a10 h10 a11 h11 hc0 hc1 hc2 x0 x1 x2 x3 x4 x5 x6 xo)]
  unfold kernelRun0_B
  dsimp only
  sl_unfold_words
  rw [View.canon_cons_unit_zero hz2]
  simp only [View.readAt_eq_ld, h2.read_unread, h3.read_unread, h4.read_unread, h5.read_unread, h6.read_unread, h7.read_unread, h8.read_unread,
    View.ld_unit_zero (S := S512x1024) hz2, View.ld_unit_zero (S := S1x1024) hz2, View.readCov_cons_unit_lit' (S := S512x1024) _ _ _ _ _ (fun a => congrFun hz2 a) (fun a => congrFun hz2 a)]
  rfl

theorem out_A_8 (hc1 : cond0_1 i) : out0_A_8 c i a2 h2 a3 h3 a4 h4 a5 h5 a6 h6 a7 h7 a8 h8 a9 h9 a10 h10 a11 h11 hc0 hc1 hc2 x0 x1 x2 x3 x4 x5 x6
    = k0_pay5 (stepped x0 x1 x2 x3) x4 k0_pay7 := by
  unfold out0_A_8
  rw [View.read_writes_eq_canon _ _ _ (cover0_A_8 c i a2 h2 a3 h3 a4 h4 a5 h5 a6 h6 a7 h7 a8 h8 a9 h9 a10 h10 a11 h11 hc0 hc1 hc2 x0 x1 x2 x3 x4 x5 x6)]
  unfold kernelRun0_A
  dsimp only
  sl_unfold_words
  rw [View.canon_cons_unit_zero (S := S1x1024) hz2]
  simp only [View.readAt_eq_ld, h2.read_unread, h3.read_unread, h4.read_unread, h5.read_unread, h6.read_unread,
    View.ld_unit_zero (S := S512x1024) hz2, View.ld_unit_zero (S := S1x1024) hz2, View.readCov_cons_unit_lit' (S := S512x1024) _ _ _ _ _ (fun a => congrFun hz2 a) (fun a => congrFun hz2 a), View.readCov_unit_zero (S := S1x1024) _ hz2]
  rfl

theorem out_B_8 (hc1 : ¬cond0_1 i) (xo : Vec F S1x1024 .f32) : out0_B_8 c i a2 h2 a3 h3 a4 h4 a5 h5 a6 h6 a7 h7 a8 h8 a9 h9 a10 h10 a11 h11 hc0 hc1 hc2 x0 x1 x2 x3 x4 x5 x6 xo
    = k0_pay5 (stepped x0 x1 x2 x3) x4 xo := by
  unfold out0_B_8
  rw [View.read_writes_eq_canon _ _ _ (cover0_B_8 c i a2 h2 a3 h3 a4 h4 a5 h5 a6 h6 a7 h7 a8 h8 a9 h9 a10 h10 a11 h11 hc0 hc1 hc2 x0 x1 x2 x3 x4 x5 x6 xo)]
  unfold kernelRun0_B
  dsimp only
  sl_unfold_words
  rw [View.canon_cons_unit_zero (S := S1x1024) hz2]
  simp only [View.readAt_eq_ld, h2.read_unread, h3.read_unread, h4.read_unread, h5.read_unread, h6.read_unread, h10.read_unread,
    View.ld_unit_zero (S := S512x1024) hz2, View.ld_unit_zero (S := S1x1024) hz2, View.readCov_cons_unit_lit' (S := S512x1024) _ _ _ _ _ (fun a => congrFun hz2 a) (fun a => congrFun hz2 a)]
  rfl

end Body

/-! ## The blocks -/

variable (m : (ℓ : Loc nD τ sig) → Buf (Elt Ideal) ℓ) (c : Dev nD)

abbrev X0 : S4096x1024.Idx → EReal := m ((c : Thread nD τ).loc main_arg0)
abbrev X1 : S1x1024.Idx → EReal := m ((c : Thread nD τ).loc main_arg1)
abbrev X2 : S1024x2816.Idx → EReal := m ((c : Thread nD τ).loc main_arg2)
abbrev X3 : S1024x2816.Idx → EReal := m ((c : Thread nD τ).loc main_arg3)
abbrev X4 : S4x4096x704.Idx → EReal := m ((c : Thread nD τ).loc main_arg4)
abbrev X5 : S4x4096x704.Idx → EReal := m ((c : Thread nD τ).loc main_arg5)
abbrev X6 : S4096x1024.Idx → EReal := m ((c : Thread nD τ).loc main_arg6)

/-- Column `p * 704 + j` of a weight stands in slab `p`. -/
theorem w_at (p : Fin 4) (j : Fin 704) (l : Fin 1024) :
    (V m c main_v2 : FVec Ideal S4x704x1024 .bf16) (ix3 p j l) = X2 m c (ix2 l ⟨p.val * 704 + j.val, by omega⟩) := by
  unfold V
  after_reads_at

theorem wu_at (p : Fin 4) (j : Fin 704) (l : Fin 1024) :
    (V m c main_v5 : FVec Ideal S4x704x1024 .bf16) (ix3 p j l) = X3 m c (ix2 l ⟨p.val * 704 + j.val, by omega⟩) := by
  unfold V
  after_reads_at

theorem places : ∀ t : Fin cfg0.N,
    (∀ a : Fin 3, win0_0.index t a = ![0, t.val, 0] a) ∧ (∀ a : Fin 3, win0_1.index t a = ![0, t.val, 0] a)
    ∧ (∀ a : Fin 3, win0_2.index t a = 0) ∧ (∀ a : Fin 3, win0_3.index t a = 0)
    ∧ (∀ a : Fin 2, win0_4.index t a = ![t.val, 0] a) ∧ (∀ a : Fin 2, win0_5.index t a = 0)
    ∧ (∀ a : Fin 2, win0_6.index t a = ![t.val, 0] a) ∧ (∀ a : Fin 2, win0_7.index t a = ![t.val, 0] a)
    ∧ (∀ a : Fin 2, win0_8.index t a = 0) :=
  (by decide +kernel : ∀ t : Fin grid0.N,
    (∀ a : Fin 3, win0_0.index t a = ![0, t.val, 0] a) ∧ (∀ a : Fin 3, win0_1.index t a = ![0, t.val, 0] a)
    ∧ (∀ a : Fin 3, win0_2.index t a = 0) ∧ (∀ a : Fin 3, win0_3.index t a = 0)
    ∧ (∀ a : Fin 2, win0_4.index t a = ![t.val, 0] a) ∧ (∀ a : Fin 2, win0_5.index t a = 0)
    ∧ (∀ a : Fin 2, win0_6.index t a = ![t.val, 0] a) ∧ (∀ a : Fin 2, win0_7.index t a = ![t.val, 0] a)
    ∧ (∀ a : Fin 2, win0_8.index t a = 0))

theorem point_lt (t : Fin cfg0.N) : t.val < 8 := lt_of_lt_of_eq t.isLt (show cfg0.N = 8 from N_0)

theorem block_0 (t : Fin cfg0.N) (p : Fin 4) (r : Fin 512) (j : Fin 704) : (iblk m c 0 t : S4x512x704.Idx → EReal) (ix3 p r j) = X4 m c (ix3 p (row (point_lt t) r) j) := by
  unfold iblk
  rw [View.read_apply]
  show V m c main_arg4 _ = _
  rw [V_main_arg4]
  congr 1
  apply idx_ext3
  · show win0_0.index t 0 * 4 + 1 * p.val = p.val; rw [(places t).1 0]; show 0 * 4 + 1 * p.val = _; omega
  · show win0_0.index t 1 * 512 + 1 * r.val = t.val * 512 + r.val; rw [(places t).1 1]; show t.val * 512 + 1 * r.val = _; omega
  · show win0_0.index t 2 * 704 + 1 * j.val = j.val; rw [(places t).1 2]; show 0 * 704 + 1 * j.val = _; omega

theorem block_1 (t : Fin cfg0.N) (p : Fin 4) (r : Fin 512) (j : Fin 704) : (iblk m c 1 t : S4x512x704.Idx → EReal) (ix3 p r j) = X5 m c (ix3 p (row (point_lt t) r) j) := by
  unfold iblk
  rw [View.read_apply]
  show V m c main_arg5 _ = _
  rw [V_main_arg5]
  congr 1
  apply idx_ext3
  · show win0_1.index t 0 * 4 + 1 * p.val = p.val; rw [(places t).2.1 0]; show 0 * 4 + 1 * p.val = _; omega
  · show win0_1.index t 1 * 512 + 1 * r.val = t.val * 512 + r.val; rw [(places t).2.1 1]; show t.val * 512 + 1 * r.val = _; omega
  · show win0_1.index t 2 * 704 + 1 * j.val = j.val; rw [(places t).2.1 2]; show 0 * 704 + 1 * j.val = _; omega

theorem block_2 (t : Fin cfg0.N) (p : Fin 4) (j : Fin 704) (l : Fin 1024) : (iblk m c 2 t : S4x704x1024.Idx → EReal) (ix3 p j l) = X2 m c (ix2 l ⟨p.val * 704 + j.val, by omega⟩) := by
  refine Eq.trans ?_ (w_at m c p j l)
  unfold iblk
  rw [View.read_apply]
  show (V m c main_v2 : S4x704x1024.Idx → EReal) _ = _
  congr 1
  apply idx_ext3
  · show win0_2.index t 0 * 4 + 1 * p.val = p.val; rw [(places t).2.2.1 0]; omega
  · show win0_2.index t 1 * 704 + 1 * j.val = j.val; rw [(places t).2.2.1 1]; omega
  · show win0_2.index t 2 * 1024 + 1 * l.val = l.val; rw [(places t).2.2.1 2]; omega

theorem block_3 (t : Fin cfg0.N) (p : Fin 4) (j : Fin 704) (l : Fin 1024) : (iblk m c 3 t : S4x704x1024.Idx → EReal) (ix3 p j l) = X3 m c (ix2 l ⟨p.val * 704 + j.val, by omega⟩) := by
  refine Eq.trans ?_ (wu_at m c p j l)
  unfold iblk
  rw [View.read_apply]
  show (V m c main_v5 : S4x704x1024.Idx → EReal) _ = _
  congr 1
  apply idx_ext3
  · show win0_3.index t 0 * 4 + 1 * p.val = p.val; rw [(places t).2.2.2.1 0]; omega
  · show win0_3.index t 1 * 704 + 1 * j.val = j.val; rw [(places t).2.2.2.1 1]; omega
  · show win0_3.index t 2 * 1024 + 1 * l.val = l.val; rw [(places t).2.2.2.1 2]; omega

theorem block_4 (t : Fin cfg0.N) (r : Fin 512) (l : Fin 1024) : (iblk m c 4 t : S512x1024.Idx → EReal) (ix2 r l) = X0 m c (ix2 (row (point_lt t) r) l) := by
  unfold iblk
  rw [View.read_apply]
  show V m c main_arg0 _ = _
  rw [V_main_arg0]
  congr 1
  apply Shape.idx_ext₂
  · show win0_4.index t 0 * 512 + 1 * r.val = t.val * 512 + r.val; rw [(places t).2.2.2.2.1 0]; show t.val * 512 + 1 * r.val = _; omega
  · show win0_4.index t 1 * 1024 + 1 * l.val = l.val; rw [(places t).2.2.2.2.1 1]; show 0 * 1024 + 1 * l.val = _; omega

theorem block_5 (t : Fin cfg0.N) (l : Fin 1024) : (iblk m c 5 t : S1x1024.Idx → EReal) (ix2 0 l) = X1 m c (ix2 0 l) := by
  unfold iblk
  rw [View.read_apply]
  show V m c main_arg1 _ = _
  rw [V_main_arg1]
  congr 1
  apply Shape.idx_ext₂
  · show win0_5.index t 0 * 1 + 1 * 0 = 0; rw [(places t).2.2.2.2.2.1 0]
  · show win0_5.index t 1 * 1024 + 1 * l.val = l.val; rw [(places t).2.2.2.2.2.1 1]; omega

theorem block_6 (t : Fin cfg0.N) (r : Fin 512) (l : Fin 1024) : (iblk m c 6 t : S512x1024.Idx → EReal) (ix2 r l) = X6 m c (ix2 (row (point_lt t) r) l) := by
  unfold iblk
  rw [View.read_apply]
  show V m c main_arg6 _ = _
  rw [V_main_arg6]
  congr 1
  apply Shape.idx_ext₂
  · show win0_6.index t 0 * 512 + 1 * r.val = t.val * 512 + r.val; rw [(places t).2.2.2.2.2.2.1 0]; show t.val * 512 + 1 * r.val = _; omega
  · show win0_6.index t 1 * 1024 + 1 * l.val = l.val; rw [(places t).2.2.2.2.2.2.1 1]; show 0 * 1024 + 1 * l.val = _; omega

/-! ## The results -/

/-- Column `k` of a cotangent whose columns stand in four slabs. -/
def column (x : S4x4096x704.Idx → EReal) (R : Fin 4096) (k : Fin 2816) : EReal :=
  x (ix3 ⟨k.val / 704, by omega⟩ R ⟨k.val % 704, Nat.mod_lt _ (by decide)⟩)

/-- The cotangent of the norm's output: through the two projections. -/
def dn (R : Fin 4096) (l : Fin 1024) : EReal :=
  ∑ k : Fin 2816, column (X5 m c) R k * X3 m c (ix2 l k) + ∑ k : Fin 2816, column (X4 m c) R k * X2 m c (ix2 l k)

theorem slab_at {p : ℕ} (hp : p < 4) (inb) (x : Vec Ideal S4x512x704 .bf16) (r : Fin 512) (j : Fin 704) :
    (slab p inb x : FVec Ideal S1x512x704 .bf16) (ix3 0 r j) = (x : FVec Ideal S4x512x704 .bf16) (ix3 ⟨p, hp⟩ r j) := by
  unfold slab
  exact View.ld_unit_apply_of _ _ _ _ _ _ (fun a => match a with
    | ⟨0, _⟩ => rfl
    | ⟨1, _⟩ => (Nat.zero_add _).symm
    | ⟨2, _⟩ => (Nat.zero_add _).symm)

theorem slabW_at {p : ℕ} (hp : p < 4) (inb) (x : Vec Ideal S4x704x1024 .bf16) (j : Fin 704) (l : Fin 1024) :
    (slabW p inb x : FVec Ideal S1x704x1024 .bf16) (ix3 0 j l) = (x : FVec Ideal S4x704x1024 .bf16) (ix3 ⟨p, hp⟩ j l) := by
  unfold slabW
  exact View.ld_unit_apply_of _ _ _ _ _ _ (fun a => match a with
    | ⟨0, _⟩ => rfl
    | ⟨1, _⟩ => (Nat.zero_add _).symm
    | ⟨2, _⟩ => (Nat.zero_add _).symm)

/-- The product of one slab. -/
def term (x : S4x4096x704.Idx → EReal) (w : S1024x2816.Idx → EReal) (R : Fin 4096) (l : Fin 1024) (p : Fin 4) : EReal :=
  ∑ j : Fin 704, x (ix3 p R j) * w (ix2 l ⟨p.val * 704 + j.val, by omega⟩)

theorem terms (x : S4x4096x704.Idx → EReal) (w : S1024x2816.Idx → EReal) (R : Fin 4096) (l : Fin 1024) :
    term x w R l 0 + term x w R l 1 + term x w R l 2 + term x w R l 3 = ∑ k : Fin 2816, column x R k * w (ix2 l k) := by
  rw [Fin.sum_univ_tiles 4 704 rfl, Fin.sum_univ_four]
  have h : ∀ p : Fin 4, term x w R l p = ∑ j : Fin 704, column x R ⟨p.val * 704 + j.val, by omega⟩ * w (ix2 l ⟨p.val * 704 + j.val, by omega⟩) := by
    intro p
    unfold term column
    refine Finset.sum_congr rfl fun j _ => congrArg (· * _) (congrArg x (idx_ext3 ?_ rfl ?_))
    · show p.val = (p.val * 704 + j.val) / 704; omega
    · show j.val = (p.val * 704 + j.val) % 704; omega
  rw [h, h, h, h]

theorem dn_at (t : Fin cfg0.N) (r : Fin 512) (l : Fin 1024) :
    stepped (F := Ideal) (iblk m c 0 t) (iblk m c 1 t) (iblk m c 2 t) (iblk m c 3 t) (ix2 r l) = dn m c (row (point_lt t) r) l := by
  unfold dn
  rw [← terms, ← terms, add_comm, ← add_assoc, ← add_assoc, ← add_assoc]
  unfold term stepped
  unfold_payloads
  pointwise [slab_at, slabW_at, block_0, block_1, block_2, block_3]

theorem same_dx : @k0_pay4 Ideal _ = @Cert.KNormOddIdeal.Gen.k0_pay6 Ideal _ := rfl

theorem same_dg : @k0_pay5 Ideal _ = @Cert.KNormOddIdeal.Gen.k0_pay7 Ideal _ := rfl

theorem outs7 (t : Fin cfg0.N) :
    (outsAt0 m c t.val t.isLt).1 = k0_pay4 (F := Ideal) (stepped (F := Ideal) (iblk m c 0 t) (iblk m c 1 t) (iblk m c 2 t) (iblk m c 3 t)) (iblk m c 4 t) (iblk m c 5 t) (iblk m c 6 t) := by
  by_cases h0 : t.val % 8 = 0
  · rw [outsAt0_A m c t h0]; dsimp only; rw [out_A_7]
  · rw [outsAt0_B m c t h0]; dsimp only; rw [out_B_7]

theorem outs8 : ∀ (n : ℕ) (h : n < cfg0.N) (l : Fin 1024), (outsAt0 m c n h).2 (ix2 0 l) = ∑ s ∈ Finset.range (n + 1), part (dn m c) (X0 m c) l s
  | 0, h, l => by
    rw [outsAt0_A m c ⟨0, h⟩ rfl]
    dsimp only
    rw [out_A_8, same_dg]
    refine (dg_point (point_lt _) (dn_at m c _) (block_4 m c _) _ l).trans ?_
    simp only [zero_add, Finset.sum_range_one]
    unfold_payloads
    pointwise
  | n + 1, h, l => by
    have hN : n + 1 < 8 := lt_of_lt_of_eq h (show cfg0.N = 8 from N_0)
    have hB : ¬(⟨n + 1, h⟩ : Fin cfg0.N).val % 8 = 0 := by dsimp only; omega
    rw [outsAt0_B m c ⟨n + 1, h⟩ hB]
    dsimp only
    rw [out_B_8, same_dg]
    refine (dg_point (point_lt _) (dn_at m c _) (block_4 m c _) _ l).trans ?_
    show (outsAt0 m c n _).2 (ix2 0 l) + _ = _
    rw [outs8 n _ l, Finset.sum_range_succ _ (n + 1)]

theorem final_7 (R : Fin 4096) (l : Fin 1024) : ((dats m 0 c).arrAt 7 cfg0.N : S4096x1024.Idx → EReal) (ix2 R l) = dxVal (dn m c) (X0 m c) (X6 m c) (X1 m c) R l := by
  obtain ⟨n, h, r, rfl⟩ := row_surjective R
  obtain ⟨t, rfl⟩ : ∃ t : Fin cfg0.N, t.val = n := ⟨⟨n, by rw [show cfg0.N = 8 from N_0]; exact h⟩, rfl⟩
  have e := congrFun ((Value.blocks7 m c t (flush0_7 t)).trans (Value.flushed7 m c t)) (ix2 r l)
  rw [View.read_apply, show ((cfg0.win 7).blk t).view.emb (ix2 r l) = (ix2 (row (point_lt t) r) l : S4096x1024.Idx) from Shape.idx_ext₂
    (by show win0_7.index t 0 * 512 + 1 * r.val = t.val * 512 + r.val; rw [(places t).2.2.2.2.2.2.2.1 0]; show t.val * 512 + 1 * r.val = _; omega)
    (by show win0_7.index t 1 * 1024 + 1 * l.val = l.val; rw [(places t).2.2.2.2.2.2.2.1 1]; show 0 * 1024 + 1 * l.val = _; omega), outs7, same_dx] at e
  exact e.trans (dx_point (point_lt t) (dn_at m c t) (block_4 m c t) (block_5 m c t) (block_6 m c t) r l)

/-- The final arrays. -/
abbrev dxFinal : S4096x1024.Idx → EReal := (dats m 0 c).arrAt 7 cfg0.N
abbrev dgFinal : S1x1024.Idx → EReal := (dats m 0 c).arrAt 8 cfg0.N

theorem final_8 : (dats m 0 c).arrAt 8 cfg0.N = (fun i => ∑ s ∈ Finset.range 8, part (dn m c) (X0 m c) (i 1) s : S1x1024.Idx → EReal) := by
  refine (dats m 0 c).arrAt_eq_of_cover 8 _ (fun t hf => ?_) fun i => ?_
  · have h7 : t.val + 1 = 8 := by
      have := (flush0_8 t).mp hf; have := lt_of_lt_of_eq t.isLt (show cfg0.N = 8 from N_0); omega
    rw [Value.flushed8]
    funext j
    rw [View.read_apply]
    obtain ⟨z, l, rfl⟩ : ∃ (z : Fin 1) (l : Fin 1024), j = ix2 z l := ⟨_, _, eq_ix2 j⟩
    obtain rfl : z = 0 := Subsingleton.elim _ _
    rw [show ((cfg0.win 8).blk t).view.emb (ix2 0 l) = (ix2 0 l : S1x1024.Idx) from Shape.idx_ext₂
      (by show win0_8.index t 0 * 1 + 1 * 0 = 0; rw [(places t).2.2.2.2.2.2.2.2 0])
      (by show win0_8.index t 1 * 1024 + 1 * l.val = l.val; rw [(places t).2.2.2.2.2.2.2.2 1]; omega)]
    refine (outs8 m c t.val t.isLt l).trans ?_
    rw [h7]
    rfl
  · have h7 : 7 < cfg0.N := by rw [show cfg0.N = 8 from N_0]; decide
    refine ⟨⟨7, h7⟩, (flush0_8 _).mpr rfl, ?_⟩
    show i ∈ ((View.whole main_v6_1).slice (win0_8.rect ⟨7, h7⟩)).set
    rw [View.set_slice_whole, Rect.mem_set_unit]
    intro a
    have h0 : (i 0 : Nat) < 1 := (i 0).isLt
    have h1 : (i 1 : Nat) < 1024 := (i 1).isLt
    match a with
    | ⟨0, _⟩ => show 0 ≤ (i 0 : Nat) ∧ (i 0 : Nat) < 0 + 1; omega
    | ⟨1, _⟩ => show 0 ≤ (i 1 : Nat) ∧ (i 1 : Nat) < 0 + 1024; omega

end Cert.NormFfn

/-! ## The reference -/

namespace Cert.NormFfn.Ref

open Idealize.ShloMosaic Idealize.ShloMosaic.TcCoe Idealize.ShloMosaic.Tactic Cert.Norm
open Cert.RNormFfnIdeal Cert.RNormFfnIdeal.Gen

variable (wg wu : FVec Ideal S1024x2816 .f32) (dg du : FVec Ideal S4x4096x704 .bf16)

/-- A cotangent's slabs, side by side. -/
def whole (x : FVec Ideal S4x4096x704 .bf16) : FVec Ideal S4096x2816 .f32 :=
  shapeCast _ (transpose S4096x4x704 [1, 0, 2] (extf .f32 x bitsLt_bf16_f32) transposes_S4x4096x704_S4096x4x704_1_0_2) shapeCasts_S4096x4x704_S4096x2816

/-- The cotangent of the norm's output. -/
def dnR : FVec Ideal S4096x1024 .f32 :=
  addf (Host.dotGeneral dot_S4096x2816_S1024x2816_S4096x1024_1_1_0_0_n_n none (whole du) wu)
    (Host.dotGeneral dot_S4096x2816_S1024x2816_S4096x1024_1_1_0_0_n_n none (whole dg) wg)

theorem whole_at (x : FVec Ideal S4x4096x704 .bf16) (r : Fin 4096) (k : Fin 2816) : whole x (ix2 r k) = column x r k := by
  unfold whole column
  pointwise

theorem dnR_at (r : Fin 4096) (l : Fin 1024) :
    dnR wg wu dg du (ix2 r l) = ∑ k : Fin 2816, column du r k * wu (ix2 l k) + ∑ k : Fin 2816, column dg r k * wg (ix2 l k) := by
  unfold dnR
  pointwise [whole_at]

end Cert.NormFfn.Ref

/-! ## The claims -/

namespace Cert.NormFfn

open Idealize.ShloMosaic Idealize.ShloMosaic.TcCoe Idealize.SL.Sem Cert.Common Cert.Norm

theorem frame_k : Cert.quiescent_KNormFfn := fun m ρ _ => Cert.KNormFfn.Gen.frame m ρ

theorem frame_ki : Cert.quiescent_KNormFfnIdeal := fun m ρ _ => Cert.KNormFfnIdeal.Gen.frame m ρ

theorem frame_r : Cert.quiescent_RNormFfnIdeal := fun m ρ _ =>
  (θ_run Cert.RNormFfnIdeal.defs _ _).mono (fun r h => ⟨fun c => (h c).2.2,
      Idealize.ShloMosaic.sem_eq_zero_of_no_sems (by decide) r.2⟩)
    (Cert.RNormFfnIdeal.Value.run (F := Ideal) m ρ)

theorem algebraic : Cert.algebraic_KNormFfnIdeal_RNormFfnIdeal := by
  intro m g m' g' _ hagree
  refine ⟨dxFinal m, dgFinal m,
    Cert.KNormFfnIdeal.Value.run_blocks m g,
    (θ_run Cert.RNormFfnIdeal.defs _ _).mono (fun r h c => ?_) (Cert.RNormFfnIdeal.Value.run m' g')⟩
  obtain ⟨a0, a1, a2, a3, a4, a5, a6⟩ := hagree c
  have hd := fun r l => Ref.dnR_at (X2 m c) (X3 m c) (X4 m c) (X5 m c) r l
  refine ⟨(h c).1.trans (funext fun i => ?_), (h c).2.1.trans (funext fun i => ?_), (h c).2.2⟩
  · obtain ⟨R, l, rfl⟩ : ∃ (R : Fin 4096) (l : Fin 1024), i = ix2 R l := ⟨_, _, eq_ix2 i⟩
    unfold Cert.RNormFfnIdeal.Value.res_main_v45
    rw [a0, a1, a2, a3, a4, a5, a6]
    exact (Norm.Ref.dxR_eq (X0 m c) (X1 m c) (X6 m c) _ hd R l).trans (final_7 m c R l).symm
  · obtain ⟨z, l, rfl⟩ : ∃ (z : Fin 1) (l : Fin 1024), i = ix2 z l := ⟨_, _, eq_ix2 i⟩
    obtain rfl : z = 0 := Subsingleton.elim _ _
    rw [a0, a2, a3, a4, a5]
    exact (Norm.Ref.gainR_eq (X0 m c) _ hd l).trans (congrFun (final_8 m c) (ix2 0 l)).symm

end Cert.NormFfn

end
-- ==== Proof.NormEven.lean ====
/-
  The gradient through the attention layer's projection and norm: the kernel's run, the derivative's run, and their equality.
-/
module

public import proofs.«01_k».proof.Defs
public import proofs.«01_k».proof.Proof.NormStep
public import Idealize.ShloMosaic.Lib.StableHlo.ReadAt
public import Idealize.ShloMosaic.Lib.Pipeline.ValueKit.Acc
public import proofs.«01_k».proof.Proof.Gen.KNormEven.Frame
public import proofs.«01_k».proof.Proof.Gen.KNormEvenIdeal.Value
public import proofs.«01_k».proof.Proof.Gen.RNormEvenIdeal.Run

@[expose] public section

set_option maxRecDepth 16384

noncomputable section

namespace Cert.NormEven

open Idealize.ShloMosaic Idealize.ShloMosaic.TcCoe Idealize.ShloMosaic.Tactic Idealize.SL.Sem Cert.Common Cert.Norm
open Idealize.ShloMosaic.Pipeline (Dat)
open Cert.KNormEvenIdeal Cert.KNormEvenIdeal.Gen

/-! ## What the body leaves at one point -/

section Body
variable {F : FTy → Type} [FloatOps F]
variable (c : Dev nD) (i : grid0.Coords)
  (a2 : Memref sig .tc .vmem S1x512x2560 .bf16) (h2 : a2.IsWhole) (a3 : Memref sig .tc .vmem S1x512x128 .bf16) (h3 : a3.IsWhole)
  (a4 : Memref sig .tc .vmem S1x1024x2560 .bf16) (h4 : a4.IsWhole) (a5 : Memref sig .tc .vmem S1x1024x128 .bf16) (h5 : a5.IsWhole)
  (a6 : Memref sig .tc .vmem S512x1024 .f32) (h6 : a6.IsWhole) (a7 : Memref sig .tc .vmem S1x1024 .f32) (h7 : a7.IsWhole)
  (a8 : Memref sig .tc .vmem S512x1024 .f32) (h8 : a8.IsWhole) (a9 : Memref sig .tc .vmem S512x1024 .f32) (h9 : a9.IsWhole)
  (a10 : Memref sig .tc .vmem S1x1024 .f32) (h10 : a10.IsWhole) (a11 : Memref sig .tc .vmem S512x1024 .f32) (h11 : a11.IsWhole)
  (hc0 : cond0_0 i) (hc2 : cond0_2 i)
  (x0 : Vec F S1x512x2560 .bf16) (x1 : Vec F S1x512x128 .bf16) (x2 : Vec F S1x1024x2560 .bf16) (x3 : Vec F S1x1024x128 .bf16) (x4 : Vec F S512x1024 .f32) (x5 : Vec F S1x1024 .f32) (x6 : Vec F S512x1024 .f32)

theorem out_A_7 (hc1 : cond0_1 i) : out0_A_7 c i a2 h2 a3 h3 a4 h4 a5 h5 a6 h6 a7 h7 a8 h8 a9 h9 a10 h10 a11 h11 hc0 hc1 hc2 x0 x1 x2 x3 x4 x5 x6
    = k0_pay6 (k0_pay3 x0 x2 x1 x3 k0_pay1) x4 x5 x6 := by
  unfold out0_A_7
  rw [View.read_writes_eq_canon _ _ _ (cover0_A_7 c i a2 h2 a3 h3 a4 h4 a5 h5 a6 h6 a7 h7 a8 h8 a9 h9 a10 h10 a11 h11 hc0 hc1 hc2 x0 x1 x2 x3 x4 x5 x6)]
  unfold kernelRun0_A
  dsimp only
  sl_unfold_words
  rw [View.canon_cons_unit_zero hz2]
  simp only [View.readAt_eq_ld, h2.read_unread, h3.read_unread, h4.read_unread, h5.read_unread, h6.read_unread, h7.read_unread, h8.read_unread,
    View.ld_unit_zero (S := S512x1024) hz2, View.ld_unit_zero (S := S1x1024) hz2, View.ld_unit_zero (S := S1x512x2560) hz3, View.ld_unit_zero (S := S1x512x128) hz3, View.ld_unit_zero (S := S1x1024x2560) hz3, View.ld_unit_zero (S := S1x1024x128) hz3,
    View.readCov_cons_unit_lit' (S := S512x1024) _ _ _ _ _ (fun a => congrFun hz2 a) (fun a => congrFun hz2 a)]

theorem out_B_7 (hc1 : ¬cond0_1 i) (xo : Vec F S1x1024 .f32) : out0_B_7 c i a2 h2 a3 h3 a4 h4 a5 h5 a6 h6 a7 h7 a8 h8 a9 h9 a10 h10 a11 h11 hc0 hc1 hc2 x0 x1 x2 x3 x4 x5 x6 xo
    = k0_pay6 (k0_pay3 x0 x2 x1 x3 k0_pay1) x4 x5 x6 := by
  unfold out0_B_7
  rw [View.read_writes_eq_canon _ _ _ (cover0_B_7 c i a2 h2 a3 h3 a4 h4 a5 h5 a6 h6 a7 h7 a8 h8 a9 h9 a10 h10 a11 h11 hc0 hc1 hc2 x0 x1 x2 x3 x4 x5 x6 xo)]
  unfold kernelRun0_B
  dsimp only
  sl_unfold_words
  rw [View.canon_cons_unit_zero hz2]
  simp only [View.readAt_eq_ld, h2.read_unread, h3.read_unread, h4.read_unread, h5.read_unread, h6.read_unread, h7.read_unread, h8.read_unread,
    View.ld_unit_zero (S := S512x1024) hz2, View.ld_unit_zero (S := S1x1024) hz2, View.ld_unit_zero (S := S1x512x2560) hz3, View.ld_unit_zero (S := S1x512x128) hz3, View.ld_unit_zero (S := S1x1024x2560) hz3, View.ld_unit_zero (S := S1x1024x128) hz3,
    View.readCov_cons_unit_lit' (S := S512x1024) _ _ _ _ _ (fun a => congrFun hz2 a) (fun a => congrFun hz2 a)]

theorem out_A_8 (hc1 : cond0_1 i) : out0_A_8 c i a2 h2 a3 h3 a4 h4 a5 h5 a6 h6 a7 h7 a8 h8 a9 h9 a10 h10 a11 h11 hc0 hc1 hc2 x0 x1 x2 x3 x4 x5 x6
    = k0_pay7 (k0_pay3 x0 x2 x1 x3 k0_pay1) x4 k0_pay2 := by
  unfold out0_A_8
  rw [View.read_writes_eq_canon _ _ _ (cover0_A_8 c i a2 h2 a3 h3 a4 h4 a5 h5 a6 h6 a7 h7 a8 h8 a9 h9 a10 h10 a11 h11 hc0 hc1 hc2 x0 x1 x2 x3 x4 x5 x6)]
  unfold kernelRun0_A
  dsimp only
  sl_unfold_words
  rw [View.canon_cons_unit_zero (S := S1x1024) hz2]
  simp only [View.readAt_eq_ld, h2.read_unread, h3.read_unread, h4.read_unread, h5.read_unread, h6.read_unread,
    View.ld_unit_zero (S := S512x1024) hz2, View.ld_unit_zero (S := S1x1024) hz2, View.ld_unit_zero (S := S1x512x2560) hz3, View.ld_unit_zero (S := S1x512x128) hz3, View.ld_unit_zero (S := S1x1024x2560) hz3, View.ld_unit_zero (S := S1x1024x128) hz3,
    View.readCov_cons_unit_lit' (S := S512x1024) _ _ _ _ _ (fun a => congrFun hz2 a) (fun a => congrFun hz2 a), View.readCov_unit_zero (S := S1x1024) _ hz2]

theorem out_B_8 (hc1 : ¬cond0_1 i) (xo : Vec F S1x1024 .f32) : out0_B_8 c i a2 h2 a3 h3 a4 h4 a5 h5 a6 h6 a7 h7 a8 h8 a9 h9 a10 h10 a11 h11 hc0 hc1 hc2 x0 x1 x2 x3 x4 x5 x6 xo
    = k0_pay7 (k0_pay3 x0 x2 x1 x3 k0_pay1) x4 xo := by
  unfold out0_B_8
  rw [View.read_writes_eq_canon _ _ _ (cover0_B_8 c i a2 h2 a3 h3 a4 h4 a5 h5 a6 h6 a7 h7 a8 h8 a9 h9 a10 h10 a11 h11 hc0 hc1 hc2 x0 x1 x2 x3 x4 x5 x6 xo)]
  unfold kernelRun0_B
  dsimp only
  sl_unfold_words
  rw [View.canon_cons_unit_zero (S := S1x1024) hz2]
  simp only [View.readAt_eq_ld, h2.read_unread, h3.read_unread, h4.read_unread, h5.read_unread, h6.read_unread, h10.read_unread,
    View.ld_unit_zero (S := S512x1024) hz2, View.ld_unit_zero (S := S1x1024) hz2, View.ld_unit_zero (S := S1x512x2560) hz3, View.ld_unit_zero (S := S1x512x128) hz3, View.ld_unit_zero (S := S1x1024x2560) hz3, View.ld_unit_zero (S := S1x1024x128) hz3,
    View.readCov_cons_unit_lit' (S := S512x1024) _ _ _ _ _ (fun a => congrFun hz2 a) (fun a => congrFun hz2 a)]

end Body

/-! ## The blocks -/

variable (m : (ℓ : Loc nD τ sig) → Buf (Elt Ideal) ℓ) (c : Dev nD)

abbrev X0 : S4096x1024.Idx → EReal := m ((c : Thread nD τ).loc main_arg0)
abbrev X1 : S1x1024.Idx → EReal := m ((c : Thread nD τ).loc main_arg1)
abbrev X2 : S1024x2568.Idx → EReal := m ((c : Thread nD τ).loc main_arg2)
abbrev X3 : S4096x2560.Idx → EReal := m ((c : Thread nD τ).loc main_arg3)
abbrev X4 : S4096x8.Idx → EReal := m ((c : Thread nD τ).loc main_arg4)
abbrev X5 : S4096x1024.Idx → EReal := m ((c : Thread nD τ).loc main_arg5)

theorem dz_at (r : Fin 4096) (k : Fin 2560) : (V m c main_v6 : FVec Ideal S1x4096x2560 .bf16) (ix3 0 r k) = X3 m c (ix2 r k) := by
  unfold V
  after_reads_at

/-- The word the padding is made from. -/
theorem zero_word (ty : FTy) : (FloatOps.sitofp ty (0#32 : BitVec 32) : Ideal ty) = (0 : EReal) := by
  show (((0#32 : BitVec 32).toInt : ℝ) : EReal) = 0
  simp

/-- The gates' cotangent, with columns of zeros after its eight. -/
theorem df_at (r : Fin 4096) (k : Fin 128) :
    (V m c main_v7 : FVec Ideal S1x4096x128 .bf16) (ix3 0 r k) = if h : k.val < 8 then X4 m c (ix2 r ⟨k.val, h⟩) else 0 := by
  unfold V
  after_reads_at
  exact dite_congr rfl (fun _ => rfl) (fun _ => zero_word _)

theorem w_at (l : Fin 1024) (k : Fin 2560) : (V m c main_v8 : FVec Ideal S1x1024x2560 .bf16) (ix3 0 l k) = X2 m c (ix2 l ⟨k.val, by omega⟩) := by
  unfold V
  after_reads_at

theorem wf_at (l : Fin 1024) (k : Fin 128) :
    (V m c main_v9 : FVec Ideal S1x1024x128 .bf16) (ix3 0 l k) = if h : k.val < 8 then X2 m c (ix2 l ⟨2560 + k.val, by omega⟩) else 0 := by
  unfold V
  after_reads_at
  exact dite_congr rfl (fun _ => rfl) (fun _ => zero_word _)

theorem places : ∀ t : Fin cfg0.N,
    (∀ a : Fin 3, win0_0.index t a = ![0, t.val, 0] a) ∧ (∀ a : Fin 3, win0_1.index t a = ![0, t.val, 0] a)
    ∧ (∀ a : Fin 3, win0_2.index t a = 0) ∧ (∀ a : Fin 3, win0_3.index t a = 0)
    ∧ (∀ a : Fin 2, win0_4.index t a = ![t.val, 0] a) ∧ (∀ a : Fin 2, win0_5.index t a = 0)
    ∧ (∀ a : Fin 2, win0_6.index t a = ![t.val, 0] a) ∧ (∀ a : Fin 2, win0_7.index t a = ![t.val, 0] a)
    ∧ (∀ a : Fin 2, win0_8.index t a = 0) :=
  (by decide +kernel : ∀ t : Fin grid0.N,
    (∀ a : Fin 3, win0_0.index t a = ![0, t.val, 0] a) ∧ (∀ a : Fin 3, win0_1.index t a = ![0, t.val, 0] a)
    ∧ (∀ a : Fin 3, win0_2.index t a = 0) ∧ (∀ a : Fin 3, win0_3.index t a = 0)
    ∧ (∀ a : Fin 2, win0_4.index t a = ![t.val, 0] a) ∧ (∀ a : Fin 2, win0_5.index t a = 0)
    ∧ (∀ a : Fin 2, win0_6.index t a = ![t.val, 0] a) ∧ (∀ a : Fin 2, win0_7.index t a = ![t.val, 0] a)
    ∧ (∀ a : Fin 2, win0_8.index t a = 0))

theorem point_lt (t : Fin cfg0.N) : t.val < 8 := lt_of_lt_of_eq t.isLt (show cfg0.N = 8 from N_0)

theorem block_0 (t : Fin cfg0.N) (r : Fin 512) (k : Fin 2560) : (iblk m c 0 t : S1x512x2560.Idx → EReal) (ix3 0 r k) = X3 m c (ix2 (row (point_lt t) r) k) := by
  refine Eq.trans ?_ (dz_at m c (row (point_lt t) r) k)
  unfold iblk
  rw [View.read_apply]
  show (V m c main_v6 : S1x4096x2560.Idx → EReal) _ = _
  congr 1
  apply idx_ext3
  · show win0_0.index t 0 * 1 + 1 * 0 = 0; rw [(places t).1 0]; rfl
  · show win0_0.index t 1 * 512 + 1 * r.val = t.val * 512 + r.val; rw [(places t).1 1]; show t.val * 512 + 1 * r.val = _; omega
  · show win0_0.index t 2 * 2560 + 1 * k.val = k.val; rw [(places t).1 2]; show 0 * 2560 + 1 * k.val = _; omega

theorem block_1 (t : Fin cfg0.N) (r : Fin 512) (k : Fin 128) : (iblk m c 1 t : S1x512x128.Idx → EReal) (ix3 0 r k) = if h : k.val < 8 then X4 m c (ix2 (row (point_lt t) r) ⟨k.val, h⟩) else 0 := by
  refine Eq.trans ?_ (df_at m c (row (point_lt t) r) k)
  unfold iblk
  rw [View.read_apply]
  show (V m c main_v7 : S1x4096x128.Idx → EReal) _ = _
  congr 1
  apply idx_ext3
  · show win0_1.index t 0 * 1 + 1 * 0 = 0; rw [(places t).2.1 0]; rfl
  · show win0_1.index t 1 * 512 + 1 * r.val = t.val * 512 + r.val; rw [(places t).2.1 1]; show t.val * 512 + 1 * r.val = _; omega
  · show win0_1.index t 2 * 128 + 1 * k.val = k.val; rw [(places t).2.1 2]; show 0 * 128 + 1 * k.val = _; omega

theorem block_2 (t : Fin cfg0.N) (l : Fin 1024) (k : Fin 2560) : (iblk m c 2 t : S1x1024x2560.Idx → EReal) (ix3 0 l k) = X2 m c (ix2 l ⟨k.val, by omega⟩) := by
  refine Eq.trans ?_ (w_at m c l k)
  unfold iblk
  rw [View.read_apply]
  show (V m c main_v8 : S1x1024x2560.Idx → EReal) _ = _
  congr 1
  apply idx_ext3
  · show win0_2.index t 0 * 1 + 1 * 0 = 0; rw [(places t).2.2.1 0]
  · show win0_2.index t 1 * 1024 + 1 * l.val = l.val; rw [(places t).2.2.1 1]; omega
  · show win0_2.index t 2 * 2560 + 1 * k.val = k.val; rw [(places t).2.2.1 2]; omega

theorem block_3 (t : Fin cfg0.N) (l : Fin 1024) (k : Fin 128) : (iblk m c 3 t : S1x1024x128.Idx → EReal) (ix3 0 l k) = if h : k.val < 8 then X2 m c (ix2 l ⟨2560 + k.val, by omega⟩) else 0 := by
  refine Eq.trans ?_ (wf_at m c l k)
  unfold iblk
  rw [View.read_apply]
  show (V m c main_v9 : S1x1024x128.Idx → EReal) _ = _
  congr 1
  apply idx_ext3
  · show win0_3.index t 0 * 1 + 1 * 0 = 0; rw [(places t).2.2.2.1 0]
  · show win0_3.index t 1 * 1024 + 1 * l.val = l.val; rw [(places t).2.2.2.1 1]; omega
  · show win0_3.index t 2 * 128 + 1 * k.val = k.val; rw [(places t).2.2.2.1 2]; omega

theorem block_4 (t : Fin cfg0.N) (r : Fin 512) (l : Fin 1024) : (iblk m c 4 t : S512x1024.Idx → EReal) (ix2 r l) = X0 m c (ix2 (row (point_lt t) r) l) := by
  unfold iblk
  rw [View.read_apply]
  show V m c main_arg0 _ = _
  rw [V_main_arg0]
  congr 1
  apply Shape.idx_ext₂
  · show win0_4.index t 0 * 512 + 1 * r.val = t.val * 512 + r.val; rw [(places t).2.2.2.2.1 0]; show t.val * 512 + 1 * r.val = _; omega
  · show win0_4.index t 1 * 1024 + 1 * l.val = l.val; rw [(places t).2.2.2.2.1 1]; show 0 * 1024 + 1 * l.val = _; omega

theorem block_5 (t : Fin cfg0.N) (l : Fin 1024) : (iblk m c 5 t : S1x1024.Idx → EReal) (ix2 0 l) = X1 m c (ix2 0 l) := by
  unfold iblk
  rw [View.read_apply]
  show V m c main_arg1 _ = _
  rw [V_main_arg1]
  congr 1
  apply Shape.idx_ext₂
  · show win0_5.index t 0 * 1 + 1 * 0 = 0; rw [(places t).2.2.2.2.2.1 0]
  · show win0_5.index t 1 * 1024 + 1 * l.val = l.val; rw [(places t).2.2.2.2.2.1 1]; omega

theorem block_6 (t : Fin cfg0.N) (r : Fin 512) (l : Fin 1024) : (iblk m c 6 t : S512x1024.Idx → EReal) (ix2 r l) = X5 m c (ix2 (row (point_lt t) r) l) := by
  unfold iblk
  rw [View.read_apply]
  show V m c main_arg5 _ = _
  rw [V_main_arg5]
  congr 1
  apply Shape.idx_ext₂
  · show win0_6.index t 0 * 512 + 1 * r.val = t.val * 512 + r.val; rw [(places t).2.2.2.2.2.2.1 0]; show t.val * 512 + 1 * r.val = _; omega
  · show win0_6.index t 1 * 1024 + 1 * l.val = l.val; rw [(places t).2.2.2.2.2.2.1 1]; show 0 * 1024 + 1 * l.val = _; omega

/-! ## The results -/

/-- The cotangent of the norm's output: through the projection's first columns, and through the gates'. -/
def dn (R : Fin 4096) (l : Fin 1024) : EReal :=
  ∑ k : Fin 2560, X3 m c (ix2 R k) * X2 m c (ix2 l ⟨k.val, by omega⟩) + ∑ h : Fin 8, X4 m c (ix2 R h) * X2 m c (ix2 l ⟨2560 + h.val, by omega⟩)

/-- The columns of zeros add nothing. -/
theorem padded (R : Fin 4096) (l : Fin 1024) :
    ∑ k : Fin 128, (if h : k.val < 8 then X4 m c (ix2 R ⟨k.val, h⟩) else 0) * (if h : k.val < 8 then X2 m c (ix2 l ⟨2560 + k.val, by omega⟩) else 0)
      = ∑ h : Fin 8, X4 m c (ix2 R h) * X2 m c (ix2 l ⟨2560 + h.val, by omega⟩) := by
  rw [← Equiv.sum_comp (finCongr (show 8 + 120 = 128 from rfl)), Fin.sum_univ_add]
  simp

theorem dn_at (t : Fin cfg0.N) (r : Fin 512) (l : Fin 1024) :
    k0_pay3 (F := Ideal) (iblk m c 0 t) (iblk m c 2 t) (iblk m c 1 t) (iblk m c 3 t) (k0_pay1 (F := Ideal)) (ix2 r l) = dn m c (row (point_lt t) r) l := by
  unfold dn
  rw [← padded]
  unfold_payloads
  pointwise [block_0, block_1, block_2, block_3]

theorem same_dx : @k0_pay6 Ideal _ = @Cert.KNormOddIdeal.Gen.k0_pay6 Ideal _ := rfl

theorem same_dg : @k0_pay7 Ideal _ = @Cert.KNormOddIdeal.Gen.k0_pay7 Ideal _ := rfl

theorem outs7 (t : Fin cfg0.N) :
    (outsAt0 m c t.val t.isLt).1 = k0_pay6 (F := Ideal) (k0_pay3 (iblk m c 0 t) (iblk m c 2 t) (iblk m c 1 t) (iblk m c 3 t) (k0_pay1 (F := Ideal))) (iblk m c 4 t) (iblk m c 5 t) (iblk m c 6 t) := by
  by_cases h0 : t.val % 8 = 0
  · rw [outsAt0_A m c t h0]; dsimp only; rw [out_A_7]
  · rw [outsAt0_B m c t h0]; dsimp only; rw [out_B_7]

theorem outs8 : ∀ (n : ℕ) (h : n < cfg0.N) (l : Fin 1024), (outsAt0 m c n h).2 (ix2 0 l) = ∑ s ∈ Finset.range (n + 1), part (dn m c) (X0 m c) l s
  | 0, h, l => by
    rw [outsAt0_A m c ⟨0, h⟩ rfl]
    dsimp only
    rw [out_A_8, same_dg]
    refine (dg_point (point_lt _) (dn_at m c _) (block_4 m c _) _ l).trans ?_
    simp only [zero_add, Finset.sum_range_one]
    unfold_payloads
    pointwise
  | n + 1, h, l => by
    have hN : n + 1 < 8 := lt_of_lt_of_eq h (show cfg0.N = 8 from N_0)
    have hB : ¬(⟨n + 1, h⟩ : Fin cfg0.N).val % 8 = 0 := by dsimp only; omega
    rw [outsAt0_B m c ⟨n + 1, h⟩ hB]
    dsimp only
    rw [out_B_8, same_dg]
    refine (dg_point (point_lt _) (dn_at m c _) (block_4 m c _) _ l).trans ?_
    show (outsAt0 m c n _).2 (ix2 0 l) + _ = _
    rw [outs8 n _ l, Finset.sum_range_succ _ (n + 1)]

theorem final_7 (R : Fin 4096) (l : Fin 1024) : ((dats m 0 c).arrAt 7 cfg0.N : S4096x1024.Idx → EReal) (ix2 R l) = dxVal (dn m c) (X0 m c) (X5 m c) (X1 m c) R l := by
  obtain ⟨n, h, r, rfl⟩ := row_surjective R
  obtain ⟨t, rfl⟩ : ∃ t : Fin cfg0.N, t.val = n := ⟨⟨n, by rw [show cfg0.N = 8 from N_0]; exact h⟩, rfl⟩
  have e := congrFun ((Value.blocks7 m c t (flush0_7 t)).trans (Value.flushed7 m c t)) (ix2 r l)
  rw [View.read_apply, show ((cfg0.win 7).blk t).view.emb (ix2 r l) = (ix2 (row (point_lt t) r) l : S4096x1024.Idx) from Shape.idx_ext₂
    (by show win0_7.index t 0 * 512 + 1 * r.val = t.val * 512 + r.val; rw [(places t).2.2.2.2.2.2.2.1 0]; show t.val * 512 + 1 * r.val = _; omega)
    (by show win0_7.index t 1 * 1024 + 1 * l.val = l.val; rw [(places t).2.2.2.2.2.2.2.1 1]; show 0 * 1024 + 1 * l.val = _; omega), outs7, same_dx] at e
  exact e.trans (dx_point (point_lt t) (dn_at m c t) (block_4 m c t) (block_5 m c t) (block_6 m c t) r l)

/-- The final arrays. -/
abbrev dxFinal : S4096x1024.Idx → EReal := (dats m 0 c).arrAt 7 cfg0.N
abbrev dgFinal : S1x1024.Idx → EReal := (dats m 0 c).arrAt 8 cfg0.N

theorem final_8 : (dats m 0 c).arrAt 8 cfg0.N = (fun i => ∑ s ∈ Finset.range 8, part (dn m c) (X0 m c) (i 1) s : S1x1024.Idx → EReal) := by
  refine (dats m 0 c).arrAt_eq_of_cover 8 _ (fun t hf => ?_) fun i => ?_
  · have h7 : t.val + 1 = 8 := by
      have := (flush0_8 t).mp hf; have := lt_of_lt_of_eq t.isLt (show cfg0.N = 8 from N_0); omega
    rw [Value.flushed8]
    funext j
    rw [View.read_apply]
    obtain ⟨z, l, rfl⟩ : ∃ (z : Fin 1) (l : Fin 1024), j = ix2 z l := ⟨_, _, eq_ix2 j⟩
    obtain rfl : z = 0 := Subsingleton.elim _ _
    rw [show ((cfg0.win 8).blk t).view.emb (ix2 0 l) = (ix2 0 l : S1x1024.Idx) from Shape.idx_ext₂
      (by show win0_8.index t 0 * 1 + 1 * 0 = 0; rw [(places t).2.2.2.2.2.2.2.2 0])
      (by show win0_8.index t 1 * 1024 + 1 * l.val = l.val; rw [(places t).2.2.2.2.2.2.2.2 1]; omega)]
    refine (outs8 m c t.val t.isLt l).trans ?_
    rw [h7]
    rfl
  · have h7 : 7 < cfg0.N := by rw [show cfg0.N = 8 from N_0]; decide
    refine ⟨⟨7, h7⟩, (flush0_8 _).mpr rfl, ?_⟩
    show i ∈ ((View.whole main_v10_1).slice (win0_8.rect ⟨7, h7⟩)).set
    rw [View.set_slice_whole, Rect.mem_set_unit]
    intro a
    have h0 : (i 0 : Nat) < 1 := (i 0).isLt
    have h1 : (i 1 : Nat) < 1024 := (i 1).isLt
    match a with
    | ⟨0, _⟩ => show 0 ≤ (i 0 : Nat) ∧ (i 0 : Nat) < 0 + 1; omega
    | ⟨1, _⟩ => show 0 ≤ (i 1 : Nat) ∧ (i 1 : Nat) < 0 + 1024; omega

end Cert.NormEven

/-! ## The reference -/

namespace Cert.NormEven.Ref

open Idealize.ShloMosaic Idealize.ShloMosaic.TcCoe Idealize.ShloMosaic.Tactic Cert.Norm
open Cert.RNormEvenIdeal Cert.RNormEvenIdeal.Gen

variable (w : FVec Ideal S1024x2568 .f32) (dz : FVec Ideal S4096x2560 .bf16) (df : FVec Ideal S4096x8 .f32)

/-- The projection's cotangent, the gates' eight columns last. -/
def dzR : FVec Ideal S4096x2568 .f32 :=
  concatenate S4096x2568 1 [⟨S4096x2560, extf .f32 dz bitsLt_bf16_f32⟩, ⟨S4096x8, df⟩] concatenates_S4096x2560_S4096x8_S4096x2568_d1

/-- The cotangent of the norm's output. -/
def dnR : FVec Ideal S4096x1024 .f32 :=
  Host.dotGeneral dot_S4096x2568_S1024x2568_S4096x1024_1_1_0_0_n_n none (dzR dz df) w

theorem dzR_at (r : Fin 4096) (k : Fin 2568) :
    dzR dz df (ix2 r k) = if h : k.val < 2560 then dz (ix2 r ⟨k.val, h⟩) else df (ix2 r ⟨k.val - 2560, by omega⟩) := by
  unfold dzR
  pointwise

theorem dnR_at (r : Fin 4096) (l : Fin 1024) : dnR w dz df (ix2 r l)
    = ∑ k : Fin 2560, dz (ix2 r k) * w (ix2 l ⟨k.val, by omega⟩) + ∑ h : Fin 8, df (ix2 r h) * w (ix2 l ⟨2560 + h.val, by omega⟩) := by
  have e : dnR w dz df (ix2 r l) = ∑ k : Fin (2560 + 8), dzR dz df (ix2 r k) * w (ix2 l k) := by
    unfold dnR
    pointwise
  rw [e, Fin.sum_univ_add]
  refine congrArg₂ (· + ·) (Finset.sum_congr rfl fun k _ => ?_) (Finset.sum_congr rfl fun k _ => ?_)
  · rw [dzR_at, dif_pos (show (Fin.castAdd 8 k).val < 2560 from k.isLt)]
    rfl
  · rw [dzR_at, dif_neg (show ¬(Fin.natAdd 2560 k).val < 2560 from Nat.not_lt.mpr (Nat.le_add_right _ _))]
    exact congrArg (fun z : Fin 8 => df (ix2 r z) * w (ix2 l (Fin.natAdd 2560 k))) (Fin.ext (Nat.add_sub_cancel_left 2560 k.val))

end Cert.NormEven.Ref

/-! ## The claims -/

namespace Cert.NormEven

open Idealize.ShloMosaic Idealize.ShloMosaic.TcCoe Idealize.SL.Sem Cert.Common Cert.Norm

theorem frame_k : Cert.quiescent_KNormEven := fun m ρ _ => Cert.KNormEven.Gen.frame m ρ

theorem frame_ki : Cert.quiescent_KNormEvenIdeal := fun m ρ _ => Cert.KNormEvenIdeal.Gen.frame m ρ

theorem frame_r : Cert.quiescent_RNormEvenIdeal := fun m ρ _ =>
  (θ_run Cert.RNormEvenIdeal.defs _ _).mono (fun r h => ⟨fun c => (h c).2.2,
      Idealize.ShloMosaic.sem_eq_zero_of_no_sems (by decide) r.2⟩)
    (Cert.RNormEvenIdeal.Value.run (F := Ideal) m ρ)

theorem algebraic : Cert.algebraic_KNormEvenIdeal_RNormEvenIdeal := by
  intro m g m' g' _ hagree
  refine ⟨dxFinal m, dgFinal m,
    Cert.KNormEvenIdeal.Value.run_blocks m g,
    (θ_run Cert.RNormEvenIdeal.defs _ _).mono (fun r h c => ?_) (Cert.RNormEvenIdeal.Value.run m' g')⟩
  obtain ⟨a0, a1, a2, a3, a4, a5⟩ := hagree c
  have hd := fun r l => Ref.dnR_at (X2 m c) (X3 m c) (X4 m c) r l
  refine ⟨(h c).1.trans (funext fun i => ?_), (h c).2.1.trans (funext fun i => ?_), (h c).2.2⟩
  · obtain ⟨R, l, rfl⟩ : ∃ (R : Fin 4096) (l : Fin 1024), i = ix2 R l := ⟨_, _, eq_ix2 i⟩
    unfold Cert.RNormEvenIdeal.Value.res_main_v38
    rw [a0, a1, a2, a3, a4, a5]
    exact (Norm.Ref.dxR_eq (X0 m c) (X1 m c) (X5 m c) _ hd R l).trans (final_7 m c R l).symm
  · obtain ⟨z, l, rfl⟩ : ∃ (z : Fin 1) (l : Fin 1024), i = ix2 z l := ⟨_, _, eq_ix2 i⟩
    obtain rfl : z = 0 := Subsingleton.elim _ _
    rw [a0, a2, a3, a4]
    exact (Norm.Ref.gainR_eq (X0 m c) _ hd l).trans (congrFun (final_8 m c) (ix2 0 l)).symm

end Cert.NormEven

end
-- ==== Proof.Forget.lean ====
/-
  The gradient through the forget gates' running sum and log-sigmoid: the kernel's run, the derivative's run, and their equality.
-/
module

public import proofs.«01_k».proof.Defs
public import proofs.«01_k».proof.Proof.Common
public import Idealize.ShloMosaic.Lib.VecWindow
public import Idealize.ShloMosaic.Lib.Ring
public import Idealize.ShloMosaic.Lib.StableHlo.ReadAt
public import Idealize.ShloMosaic.Lib.Routing.OpsOne
public import proofs.«01_k».proof.Proof.Gen.KForget.Frame
public import proofs.«01_k».proof.Proof.Gen.KForgetIdeal.Value
public import proofs.«01_k».proof.Proof.Gen.RForgetIdeal.Run

@[expose] public section

set_option maxRecDepth 16384

noncomputable section

namespace Cert.Forget

open Idealize.ShloMosaic Idealize.ShloMosaic.TcCoe Idealize.ShloMosaic.Tactic Idealize.SL.Sem Cert.Common
open Idealize.ShloMosaic.Pipeline (Dat)
open Cert.KForgetIdeal Cert.KForgetIdeal.Gen

/-! ## What the body leaves -/

section Body
variable {F : FTy → Type} [FloatOps F]
variable (x0 x1 : Vec F S4096x128 .f32)

/-- The rows the loop's trip `k` reads. -/
abbrev rows (x : Vec F S4096x128 .f32) (k : Fin k0_t1_loop.trips) : Vec F S256x128 .f32 :=
  VecWindow.window x (k0_off1 k) S256x128.size (Gen.k0_off1_inb k)

/-- What the loop carries and the first result's contents, before trip `k`. -/
def walk (y : Vec F S4096x128 .f32) : ℕ → (FVec F S1x128 .f32 × FVec F S1x128 .f32) × Vec F S4096x128 .f32
  | 0 => ((k0_pay1 (F := F), k0_pay2 (F := F)), y)
  | k + 1 =>
    if h : k < k0_t1_loop.trips then
      ((k0_pay5 (walk y k).1.1 (rows x0 ⟨k, h⟩), k0_pay6 (walk y k).1.1 (walk y k).1.2 (rows x0 ⟨k, h⟩) (rows x1 ⟨k, h⟩)),
        VecWindow.put (walk y k).2 (k0_off1 ⟨k, h⟩) S256x128.size (k0_pay4 (walk y k).1.1 (rows x0 ⟨k, h⟩) (rows x1 ⟨k, h⟩)))
    else walk y k

variable (c : Dev nD) (a0 : Memref sig .tc .vmem S4096x128 .f32) (h0 : a0.IsWhole) (a1 : Memref sig .tc .vmem S4096x128 .f32) (h1 : a1.IsWhole)
  (a2 : Memref sig .tc .vmem S4096x128 .f32) (h2 : a2.IsWhole) (a3 : Memref sig .tc .vmem S1x128 .f32) (h3 : a3.IsWhole)

/-- The loop's state is `walk`'s, whichever view its pieces are read through. -/
theorem st_eq {κ : Kind} {sp : Space} (v : View sig κ sp S4096x128 .f32) (G : v.ty.Contents (Elt F)) : ∀ k, k ≤ k0_t1_loop.trips →
    (st_k0_t1 (F := F) Variants.none c none a0 h0 a1 h1 a2 h2 a3 h3 (h0.unread x0) (h1.unread x1) (k0_pay1 (F := F), k0_pay2 (F := F)) k).1
        = (walk x0 x1 (v.read (Elt F) G) k).1
      ∧ v.read (Elt F) (v.writes (Elt F) G
          (st_k0_t1 (F := F) Variants.none c none a0 h0 a1 h1 a2 h2 a3 h3 (h0.unread x0) (h1.unread x1) (k0_pay1 (F := F), k0_pay2 (F := F)) k).2)
        = (walk x0 x1 (v.read (Elt F) G) k).2
  | 0, _ => ⟨rfl, rfl⟩
  | k + 1, hk => by
    have ih := st_eq v G k (by omega)
    have hs := st_k0_t1_succ (F := F) Variants.none c none a0 h0 a1 h1 a2 h2 a3 h3 (h0.unread x0) (h1.unread x1) (k0_pay1 (F := F), k0_pay2 (F := F)) ⟨k, hk⟩
    dsimp only at hs
    rw [hs]
    dsimp only
    unfold tripR_k0_t1 tripL_k0_t1 trip_k0_t1
    dsimp only
    sl_unfold_words
    simp only [walk]
    rw [dif_pos (show k < k0_t1_loop.trips from hk)]
    have e0 : a0.view.readAt (Elt F) (Rect.unit (s := S4096x128) (k0_off1 ⟨k, hk⟩) S256x128.size (Gen.k0_off1_inb ⟨k, hk⟩)).toLoadRect (h0.unread x0)
        = rows x0 ⟨k, hk⟩ := by rw [View.readAt_unit _ _ _ rfl (Gen.k0_off1_inb ⟨k, hk⟩), h0.read_unread]
    have e1 : a1.view.readAt (Elt F) (Rect.unit (s := S4096x128) (k0_off1 ⟨k, hk⟩) S256x128.size (Gen.k0_off1_inb ⟨k, hk⟩)).toLoadRect (h1.unread x1)
        = rows x1 ⟨k, hk⟩ := by rw [View.readAt_unit _ _ _ rfl (Gen.k0_off1_inb ⟨k, hk⟩), h1.read_unread]
    refine ⟨congrArg₂ Prod.mk ?_ ?_, (View.read_writes_cons_put _ _ _ _ _ rfl).trans ?_⟩
    · rw [← ih.1]; exact congrArg (k0_pay5 _) e0
    · rw [← ih.1]; exact congrArg₂ (k0_pay6 _ _) e0 e1
    · refine congrArg₂ (fun (a : Vec F S4096x128 .f32) (b : Vec F S256x128 .f32) => (VecWindow.put (s := S4096x128) a (k0_off1 ⟨k, hk⟩) S256x128.size b : Vec F S4096x128 .f32)) ih.2 ?_
      rw [← ih.1]; exact congrArg₂ (k0_pay4 _) e0 e1

theorem out_2 : out0_A_2 c a0 h0 a1 h1 a2 h2 a3 h3 x0 x1 = (walk x0 x1 (VO0_2.read (Elt F) VO0_2.junk) k0_t1_loop.trips).2 := by
  unfold out0_A_2 kernelRun0_A
  dsimp only
  sl_unfold_words
  exact (st_eq x0 x1 c a0 h0 a1 h1 a2 h2 a3 h3 VO0_2 VO0_2.junk _ le_rfl).2

theorem out_3 : out0_A_3 c a0 h0 a1 h1 a2 h2 a3 h3 x0 x1 = (walk x0 x1 (VO0_2.read (Elt F) VO0_2.junk) k0_t1_loop.trips).1.2 := by
  unfold out0_A_3
  rw [View.read_writes_eq_canon _ _ _ (cover0_A_3 c a0 h0 a1 h1 a2 h2 a3 h3 x0 x1)]
  unfold kernelRun0_A
  dsimp only
  sl_unfold_words
  rw [View.canon_unit_zero hz2]
  exact congrArg Prod.snd (st_eq x0 x1 c a0 h0 a1 h1 a2 h2 a3 h3 VO0_2 VO0_2.junk _ le_rfl).1

end Body

/-! ## The sums -/

/-- The sum of the rows from `R` on. -/
def tail (f : ℕ → EReal) (R : ℕ) : EReal := ∑ s ∈ Finset.Ico R 4096, f s

/-- A block's rows from `r` on, and the rows after the block. -/
theorem tail_block (f : ℕ → EReal) {o r : ℕ} (hr : r ≤ 256) (ho : o + 256 ≤ 4096) :
    (∑ s : Fin 256, if r ≤ s.val then f (o + s.val) else 0) + tail f (o + 256) = tail f (o + r) := by
  rw [Fin.sum_univ_eq_sum_range (fun n => if r ≤ n then f (o + n) else 0) 256, ← Finset.sum_filter]
  have e : Finset.filter (fun n => r ≤ n) (Finset.range 256) = Finset.Ico r 256 := by
    ext n; simp only [Finset.mem_filter, Finset.mem_range, Finset.mem_Ico]; omega
  rw [e]
  have e2 : ∑ n ∈ Finset.Ico r 256, f (o + n) = ∑ n ∈ Finset.Ico (r + o) (256 + o), f n := by
    rw [← Finset.sum_Ico_add' f r 256 o]
    exact Finset.sum_congr rfl fun n _ => by rw [add_comm]
  rw [e2]
  unfold tail
  rw [add_comm r o, add_comm 256 o]
  exact Finset.sum_Ico_consecutive f (by omega) ho

theorem window_at {e : EltTy} {F : FTy → Type} [FloatOps F] (x : Vec F S4096x128 e) {off : Fin 2 → ℕ} (inb : ∀ a, off a + S256x128.size a ≤ S4096x128.size a)
    {o : ℕ} (ho : off = ![o, 0]) (r : Fin 256) (l : Fin 128) (hr : o + r.val < 4096) :
    (VecWindow.window (s := S4096x128) x off S256x128.size inb : Vec F S256x128 e) (ix2 r l) = x (ix2 ⟨o + r.val, hr⟩ l) := by
  subst ho
  unfold VecWindow.window
  refine congrArg x (Shape.idx_ext₂ ?_ ?_)
  · show o + 1 * r.val = o + r.val
    omega
  · show 0 + 1 * l.val = l.val
    omega

theorem put_at (x : Vec Ideal S4096x128 .f32) {off : Fin 2 → ℕ} {o : ℕ} (ho : off = ![o, 0]) (w : Vec Ideal S256x128 .f32) (R : Fin 4096) (l : Fin 128) :
    (VecWindow.put (s := S4096x128) x off S256x128.size w : Vec Ideal S4096x128 .f32) (ix2 R l)
      = if h : o ≤ R.val ∧ R.val < o + 256 then w (ix2 ⟨R.val - o, by omega⟩ l) else x (ix2 R l) := by
  subst ho
  unfold VecWindow.put
  by_cases h : o ≤ R.val ∧ R.val < o + 256
  · rw [dif_pos h, dif_pos (show ∀ a : Fin 2, (![o, 0] : Fin 2 → ℕ) a ≤ ((ix2 R l : S4096x128.Idx) a).val
      ∧ ((ix2 R l : S4096x128.Idx) a).val < (![o, 0] : Fin 2 → ℕ) a + S256x128.size a from ?_)]
    · exact congrArg w (Shape.idx_ext₂ rfl rfl)
    · intro a
      match a with
      | ⟨0, _⟩ => exact h
      | ⟨1, _⟩ => exact ⟨Nat.zero_le _, by show l.val < 0 + 128; have := l.isLt; omega⟩
  · rw [dif_neg h, dif_neg fun hh => h (hh 0)]

theorem pay3_at (acc : FVec Ideal S1x128 .f32) (v : Vec Ideal S256x128 .f32) (r : Fin 256) (l : Fin 128) :
    k0_pay3 (F := Ideal) acc v (ix2 r l) = (∑ s : Fin 256, if r.val ≤ s.val then v (ix2 s l) else 0) + acc (ix2 0 l) := by
  unfold k0_pay3
  pointwise
  refine congrArg (· + _) (Finset.sum_congr rfl fun s _ => ?_)
  rw [WordCmp.cmpi_sle_ofNat (by omega) (by omega)]
  by_cases h : r.val ≤ s.val
  · rw [if_pos h, decide_eq_true h]
    refine (congrArg (· * v (ix2 s l)) (show (FloatOps.sitofp FTy.f32 (BitVec.setWidth 32 (BitVec.ofBool true)) : Ideal FTy.f32) = (1 : EReal) from ?_)).trans (one_mul _)
    show (((BitVec.setWidth 32 (BitVec.ofBool true)).toInt : ℝ) : EReal) = 1
    rw [show (BitVec.setWidth 32 (BitVec.ofBool true)).toInt = 1 by decide]
    norm_num
  · rw [if_neg h, decide_eq_false h]
    refine (congrArg (· * v (ix2 s l)) (show (FloatOps.sitofp FTy.f32 (BitVec.setWidth 32 (BitVec.ofBool false)) : Ideal FTy.f32) = (0 : EReal) from ?_)).trans (zero_mul _)
    show (((BitVec.setWidth 32 (BitVec.ofBool false)).toInt : ℝ) : EReal) = 0
    rw [show (BitVec.setWidth 32 (BitVec.ofBool false)).toInt = 0 by decide]
    norm_num

theorem pay4_at (acc : FVec Ideal S1x128 .f32) (v w : Vec Ideal S256x128 .f32) (r : Fin 256) (l : Fin 128) :
    k0_pay4 (F := Ideal) acc v w (ix2 r l) = k0_pay3 (F := Ideal) acc v (ix2 r l) * Ideal.logistic (-(w (ix2 r l))) := by
  unfold k0_pay4
  pointwise
  rw [zero_sub]

theorem pay5_at (acc : FVec Ideal S1x128 .f32) (v : Vec Ideal S256x128 .f32) (l : Fin 128) :
    k0_pay5 (F := Ideal) acc v (ix2 0 l) = k0_pay3 (F := Ideal) acc v (ix2 0 l) := by
  unfold k0_pay5
  pointwise

theorem pay6_at (acc acc' : FVec Ideal S1x128 .f32) (v w : Vec Ideal S256x128 .f32) (l : Fin 128) :
    k0_pay6 (F := Ideal) acc acc' v w (ix2 0 l) = acc' (ix2 0 l) + ∑ r : Fin 256, k0_pay4 (F := Ideal) acc v w (ix2 r l) := by
  unfold k0_pay6
  pointwise

theorem pay1_at (l : Fin 128) : k0_pay1 (F := Ideal) (ix2 0 l) = 0 := by
  unfold k0_pay1
  pointwise

theorem pay2_at (l : Fin 128) : k0_pay2 (F := Ideal) (ix2 0 l) = 0 := by
  unfold k0_pay2
  pointwise

/-! ## The walk of a column -/

/-- A row's gradient: the cotangents from the row on, times the gate's derivative. -/
def rowGrad (f g : ℕ → EReal) (R : ℕ) : EReal := tail f R * Ideal.logistic (-(g R))

theorem trips_eq : k0_t1_loop.trips = 16 := by decide +kernel

theorem tail_full (f : ℕ → EReal) : tail f 4096 = 0 := by
  unfold tail
  rw [Finset.Ico_self, Finset.sum_empty]

theorem walk_at {x0 x1 : Vec Ideal S4096x128 .f32} {f g : ℕ → EReal} {l : Fin 128} (hf : ∀ R : Fin 4096, x0 (ix2 R l) = f R.val)
    (hg : ∀ R : Fin 4096, x1 (ix2 R l) = g R.val) (y : Vec Ideal S4096x128 .f32) : ∀ k, k ≤ 16 →
    (walk x0 x1 y k).1.1 (ix2 0 l) = tail f (4096 - 256 * k)
      ∧ (walk x0 x1 y k).1.2 (ix2 0 l) = tail (rowGrad f g) (4096 - 256 * k)
      ∧ ∀ R : Fin 4096, 4096 - 256 * k ≤ R.val → (walk x0 x1 y k).2 (ix2 R l) = rowGrad f g R.val
  | 0, _ => ⟨(pay1_at l).trans (tail_full f).symm, (pay2_at l).trans (tail_full _).symm, fun R h => by have := R.isLt; omega⟩
  | k + 1, hk => by
    obtain ⟨i1, i2, i3⟩ := walk_at hf hg y k (by omega)
    have ht : k < k0_t1_loop.trips := by rw [trips_eq]; omega
    have ho : k0_off1 ⟨k, ht⟩ = ![3840 - 256 * k, 0] := Gen.k0_off1_eq ⟨k, ht⟩
    have e0 : ∀ r : Fin 256, rows x0 ⟨k, ht⟩ (ix2 r l) = f (3840 - 256 * k + r.val) := fun r =>
      (window_at x0 _ ho r l (by omega)).trans (hf _)
    have e1 : ∀ r : Fin 256, rows x1 ⟨k, ht⟩ (ix2 r l) = g (3840 - 256 * k + r.val) := fun r =>
      (window_at x1 _ ho r l (by omega)).trans (hg _)
    have p3 : ∀ r : Fin 256, k0_pay3 (F := Ideal) (walk x0 x1 y k).1.1 (rows x0 ⟨k, ht⟩) (ix2 r l) = tail f (3840 - 256 * k + r.val) := fun r => by
      rw [pay3_at, i1, show 4096 - 256 * k = 3840 - 256 * k + 256 by omega]
      simp only [e0]
      exact tail_block f (by omega) (by omega)
    have p4 : ∀ r : Fin 256, k0_pay4 (F := Ideal) (walk x0 x1 y k).1.1 (rows x0 ⟨k, ht⟩) (rows x1 ⟨k, ht⟩) (ix2 r l) = rowGrad f g (3840 - 256 * k + r.val) := fun r => by
      rw [pay4_at, p3, e1]; rfl
    have en : 4096 - 256 * (k + 1) = 3840 - 256 * k := by omega
    simp only [walk]
    rw [dif_pos ht, en]
    refine ⟨(pay5_at _ _ l).trans (p3 0), ?_, fun R hR => ?_⟩
    · dsimp only
      rw [pay6_at, i2, add_comm]
      simp only [p4]
      rw [show 4096 - 256 * k = 3840 - 256 * k + 256 by omega]
      refine Eq.trans ?_ (tail_block (o := 3840 - 256 * k) (r := 0) (rowGrad f g) (Nat.zero_le 256) (by omega))
      simp only [Nat.zero_le, if_true]
    · dsimp only
      refine (put_at _ ho _ R l).trans ?_
      by_cases h : 3840 - 256 * k ≤ R.val ∧ R.val < 3840 - 256 * k + 256
      · rw [dif_pos h, p4]
        exact congrArg _ (by dsimp only; omega)
      · rw [dif_neg h]
        exact i3 R (by omega)

/-! ## The arrays -/

variable (m : (ℓ : Loc nD τ sig) → Buf (Elt Ideal) ℓ) (c : Dev nD)

abbrev X0 : FVec Ideal S4096x8 .f32 := m ((c.tc : Thread nD τ).loc main_arg0)
abbrev X1 : FVec Ideal S1x8 .f32 := m ((c.tc : Thread nD τ).loc main_arg1)
abbrev X2 : FVec Ideal S4096x8 .f32 := m ((c.tc : Thread nD τ).loc main_arg2)

/-- The word the padding is made from. -/
theorem zero_word (ty : FTy) : (FloatOps.sitofp ty (0#32 : BitVec 32) : Ideal ty) = (0 : EReal) := by
  show (((0#32 : BitVec 32).toInt : ℝ) : EReal) = 0
  simp

/-- A column's cotangents, and its logits; zeros in the columns after the eighth. -/
def cot (l : Fin 128) (n : ℕ) : EReal := if h : n < 4096 ∧ l.val < 8 then X2 m c (ix2 ⟨n, h.1⟩ ⟨l.val, h.2⟩) else 0
def lgt (l : Fin 128) (n : ℕ) : EReal :=
  if h : n < 4096 ∧ l.val < 8 then X0 m c (ix2 ⟨n, h.1⟩ ⟨l.val, h.2⟩) + X1 m c (ix2 0 ⟨l.val, h.2⟩) else 0

theorem cot_at (R : Fin 4096) (l : Fin 128) : (V m c main_v0 : FVec Ideal S4096x128 .f32) (ix2 R l) = cot m c l R.val := by
  have e : (V m c main_v0 : FVec Ideal S4096x128 .f32) (ix2 R l) = if h : l.val < 8 then X2 m c (ix2 R ⟨l.val, h⟩) else 0 := by
    unfold V
    after_reads_at
    exact dite_congr rfl (fun _ => rfl) (fun _ => zero_word _)
  rw [e]
  unfold cot
  by_cases h : l.val < 8
  · rw [dif_pos h, dif_pos ⟨R.isLt, h⟩]
  · rw [dif_neg h, dif_neg fun hh => h hh.2]

theorem lgt_at (R : Fin 4096) (l : Fin 128) : (V m c main_v4 : FVec Ideal S4096x128 .f32) (ix2 R l) = lgt m c l R.val := by
  have e : (V m c main_v4 : FVec Ideal S4096x128 .f32) (ix2 R l)
      = (if h : l.val < 8 then X0 m c (ix2 R ⟨l.val, h⟩) else 0) + (if h : l.val < 8 then X1 m c (ix2 0 ⟨l.val, h⟩) else 0) := by
    unfold V
    after_reads_at
    exact congrArg₂ (· + ·) (dite_congr rfl (fun _ => rfl) (fun _ => zero_word _)) (dite_congr rfl (fun _ => rfl) (fun _ => zero_word _))
  rw [e]
  unfold lgt
  by_cases h : l.val < 8
  · rw [dif_pos h, dif_pos h, dif_pos ⟨R.isLt, h⟩]
  · rw [dif_neg h, dif_neg h, dif_neg fun hh => h hh.2, add_zero]

theorem places : ∀ t : Fin cfg0.N, (∀ a : Fin 2, win0_0.index t a = 0) ∧ (∀ a : Fin 2, win0_1.index t a = 0)
    ∧ (∀ a : Fin 2, win0_2.index t a = 0) ∧ (∀ a : Fin 2, win0_3.index t a = 0) := by
  decide +kernel

theorem block_0 (t : Fin cfg0.N) (R : Fin 4096) (l : Fin 128) : (iblk m c 0 t : S4096x128.Idx → EReal) (ix2 R l) = cot m c l R.val := by
  refine Eq.trans ?_ (cot_at m c R l)
  show (V m c main_v0 : S4096x128.Idx → EReal) (((cfg0.win 0).blk t).view.emb (ix2 R l)) = _
  refine congrArg (V m c main_v0 : S4096x128.Idx → EReal) (Shape.idx_ext₂ ?_ ?_)
  · show win0_0.index t 0 * 4096 + 1 * R.val = R.val
    rw [(places t).1 0]; omega
  · show win0_0.index t 1 * 128 + 1 * l.val = l.val
    rw [(places t).1 1]; omega

theorem block_1 (t : Fin cfg0.N) (R : Fin 4096) (l : Fin 128) : (iblk m c 1 t : S4096x128.Idx → EReal) (ix2 R l) = lgt m c l R.val := by
  refine Eq.trans ?_ (lgt_at m c R l)
  show (V m c main_v4 : S4096x128.Idx → EReal) (((cfg0.win 1).blk t).view.emb (ix2 R l)) = _
  refine congrArg (V m c main_v4 : S4096x128.Idx → EReal) (Shape.idx_ext₂ ?_ ?_)
  · show win0_1.index t 0 * 4096 + 1 * R.val = R.val
    rw [(places t).2.1 0]; omega
  · show win0_1.index t 1 * 128 + 1 * l.val = l.val
    rw [(places t).2.1 1]; omega

/-- The final arrays. -/
abbrev dlFinal : S4096x128.Idx → EReal := (dats m 0 c).arrAt 2 cfg0.N
abbrev dbFinal : S1x128.Idx → EReal := (dats m 0 c).arrAt 3 cfg0.N

theorem final_2 (R : Fin 4096) (l : Fin 128) : dlFinal m c (ix2 R l) = rowGrad (cot m c l) (lgt m c l) R.val := by
  have t : Fin cfg0.N := ⟨0, by rw [show cfg0.N = 1 from N_0]; decide⟩
  have e := congrFun ((Value.blocks2 m c t (flush0_2 t)).trans (Value.flushed2_A m c t)) (ix2 R l)
  rw [View.read_apply, show ((cfg0.win 2).blk t).view.emb (ix2 R l) = (ix2 R l : S4096x128.Idx) from Shape.idx_ext₂
    (by show win0_2.index t 0 * 4096 + 1 * R.val = R.val; rw [(places t).2.2.1 0]; omega)
    (by show win0_2.index t 1 * 128 + 1 * l.val = l.val; rw [(places t).2.2.1 1]; omega), out_2, trips_eq] at e
  exact e.trans ((walk_at (fun R => block_0 m c t R l) (fun R => block_1 m c t R l) _ 16 le_rfl).2.2 R (Nat.zero_le _))

theorem final_3 (l : Fin 128) : dbFinal m c (ix2 0 l) = tail (rowGrad (cot m c l) (lgt m c l)) 0 := by
  have t : Fin cfg0.N := ⟨0, by rw [show cfg0.N = 1 from N_0]; decide⟩
  have e := congrFun ((Value.blocks3 m c t (flush0_3 t)).trans (Value.flushed3_A m c t)) (ix2 0 l)
  rw [View.read_apply, show ((cfg0.win 3).blk t).view.emb (ix2 0 l) = (ix2 0 l : S1x128.Idx) from Shape.idx_ext₂
    (by show win0_3.index t 0 * 1 + 1 * 0 = 0; rw [(places t).2.2.2 0])
    (by show win0_3.index t 1 * 128 + 1 * l.val = l.val; rw [(places t).2.2.2 1]; omega), out_3, trips_eq] at e
  exact e.trans (walk_at (fun R => block_0 m c t R l) (fun R => block_1 m c t R l) _ 16 le_rfl).2.1

end Cert.Forget

/-! ## The reference -/

namespace Cert.Forget.Ref

open Idealize.ShloMosaic Idealize.ShloMosaic.TcCoe Idealize.ShloMosaic.Tactic Idealize.ShloMosaic.Routing
open Cert.RForgetIdeal Cert.RForgetIdeal.Gen

variable (f : FVec Ideal S4096x8 .f32) (b : FVec Ideal S1x8 .f32) (d : FVec Ideal S4096x8 .f32)

def logits : FVec Ideal S4096x8 .f32 := addf f (broadcastInDim S4096x8 ![0, 1] bcast_S1x8_S4096x8_0_1 b)
def zeros : FVec Ideal S4096x8 .f32 := broadcastInDim S4096x8 ![] bcast_S_S4096x8 (constant S_ .f32 0x00000000#32)
def tops : FVec Ideal S4096x8 .f32 := broadcastInDim S4096x8 ![] bcast_S_S4096x8 (constant S_ .f32 0x7F800000#32)

/-- The sum of the rows from a row on. -/
def sums : FVec Ideal S4096x8 .f32 :=
  Host.reduceWindowAdd ![4096, 1] ![1, 1] ![0, 0] ![4095, 0] d (broadcastInDim S_ ![] bcast_S_S_ (constant S_ .f32 0x00000000#32))
    reduceWindows_S4096x8_S4096x8_w4096s1p0_4095_w1s1p0_0 h_S_

/-- The logarithm of one plus the exponential, and what its derivative is made from. -/
def softplus (x : FVec Ideal S4096x8 .f32) : FVec Ideal S4096x8 .f32 :=
  select (cmpf .une (subf x zeros) (subf x zeros)) (addf x zeros) (addf (maximumf x zeros) (Host.log1p (Host.exp (Host.negf (Host.absf (subf x zeros))))))
def noTop (x : FVec Ideal S4096x8 .f32) : FVec Ideal S4096x8 .f32 := select (cmpf .oeq x tops) zeros x
def slope (x : FVec Ideal S4096x8 .f32) : FVec Ideal S4096x8 .f32 := Host.exp (subf (noTop x) (noTop (softplus x)))
def dlR : FVec Ideal S4096x8 .f32 := Host.negf (mulf (Host.negf (sums d)) (slope (Host.negf (logits f b))))
def dbR : FVec Ideal S1x8 .f32 := shapeCast _ (Host.reduceAdd (dlR f b d) (constant S_ .f32 0x00000000#32) reducesTo_S4096x8_S8_d0 h_S_) shapeCasts_S8_S1x8
def wide (x : FVec Ideal S4096x8 .f32) : FVec Ideal S4096x128 .f32 :=
  pad S4096x128 ![0, 0] ![0, 120] ![0, 0] x (sitofp .f32 (constantI S_ 32 0#32)) pads_S4096x8_S4096x128_000_01200 h_S_
def wide1 (x : FVec Ideal S1x8 .f32) : FVec Ideal S1x128 .f32 :=
  pad S1x128 ![0, 0] ![0, 120] ![0, 0] x (sitofp .f32 (constantI S_ 32 0#32)) pads_S1x8_S1x128_000_01200 h_S_

theorem logits_at (r : Fin 4096) (l : Fin 8) : logits f b (ix2 r l) = f (ix2 r l) + b (ix2 0 l) := by
  unfold logits
  pointwise

theorem zeros_at (r : Fin 4096) (l : Fin 8) : zeros (ix2 r l) = 0 := by
  unfold zeros
  pointwise

theorem tops_at (r : Fin 4096) (l : Fin 8) : tops (ix2 r l) = ⊤ := by
  unfold tops
  show Ideal.ofBits .f32 0x7F800000#32 = ⊤
  simp [Ideal.ofBits, Ideal.ieee]

theorem noTop_at (x : FVec Ideal S4096x8 .f32) (r : Fin 4096) (l : Fin 8) : noTop x (ix2 r l) = if x (ix2 r l) = ⊤ then 0 else x (ix2 r l) := by
  unfold noTop
  show Scalar.select (BitVec.ofBool (decide (x (ix2 r l) = tops (ix2 r l)))) (zeros (ix2 r l)) (x (ix2 r l)) = _
  rw [tops_at, zeros_at]
  by_cases h : x (ix2 r l) = ⊤
  · rw [if_pos h, decide_eq_true h]; rfl
  · rw [if_neg h, decide_eq_false h]; rfl

theorem softplus_at (x : FVec Ideal S4096x8 .f32) (r : Fin 4096) (l : Fin 8) :
    softplus x (ix2 r l) = max (x (ix2 r l)) 0 + Ideal.log (1 + Ideal.exp (-(max (x (ix2 r l)) (-(x (ix2 r l)))))) := by
  unfold softplus
  show Scalar.select (BitVec.ofBool (decide (x (ix2 r l) - zeros (ix2 r l) ≠ x (ix2 r l) - zeros (ix2 r l)))) (x (ix2 r l) + zeros (ix2 r l))
    (max (x (ix2 r l)) (zeros (ix2 r l)) + Ideal.log (1 + Ideal.exp (-(max (x (ix2 r l) - zeros (ix2 r l)) (-(x (ix2 r l) - zeros (ix2 r l))))))) = _
  rw [zeros_at, decide_eq_false (fun h => h rfl), sub_zero]
  rfl

theorem slope_at (x : FVec Ideal S4096x8 .f32) (r : Fin 4096) (l : Fin 8) :
    slope x (ix2 r l) = Ideal.exp (noTop x (ix2 r l) - noTop (softplus x) (ix2 r l)) := by
  unfold slope
  pointwise

theorem coe_max (x y : ℝ) : ((max x y : ℝ) : EReal) = max (x : EReal) (y : EReal) := EReal.coe_strictMono.monotone.map_max

/-- The softplus's derivative is the logistic function, at the infinities too. -/
theorem slope_eq (y : EReal) (s : EReal) (hs : s = max y 0 + Ideal.log (1 + Ideal.exp (-(max y (-y))))) :
    Ideal.exp ((if y = ⊤ then 0 else y) - (if s = ⊤ then 0 else s)) = Ideal.logistic y := by
  subst hs
  induction y with
  | bot => simp
  | top =>
    simp [← EReal.coe_one]
    rw [← EReal.coe_zero, Ideal.exp_coe, Real.exp_zero]
  | coe x =>
    have hp : 0 < 1 + Real.exp (-(max x (-x))) := by positivity
    have e : max ((x : ℝ) : EReal) 0 + Ideal.log (1 + Ideal.exp (-(max ((x : ℝ) : EReal) (-(x : EReal)))))
        = ((max x 0 + Real.log (1 + Real.exp (-(max x (-x)))) : ℝ) : EReal) := by
      rw [← EReal.coe_neg, ← coe_max, ← EReal.coe_neg, Ideal.exp_coe, ← EReal.coe_one, ← EReal.coe_add, Ideal.log_coe, if_neg (not_le.mpr hp),
        ← EReal.coe_zero, ← coe_max, ← EReal.coe_add]
    rw [e, if_neg (EReal.coe_ne_top _), if_neg (EReal.coe_ne_top _), ← EReal.coe_sub, Ideal.exp_coe, Ideal.logistic_coe]
    refine congrArg _ ?_
    rw [Real.exp_sub, Real.exp_add, Real.exp_log hp]
    rcases le_total 0 x with h | h
    · rw [max_eq_left h, max_eq_left (by linarith : -x ≤ x)]
      field_simp
    · rw [max_eq_right h, max_eq_right (by linarith : x ≤ -x), neg_neg, Real.exp_zero, Real.exp_neg]
      have := Real.exp_pos x
      field_simp
      ring

/-- A fold of sums is a sum. -/
theorem fold_sum {ι : Type*} (L : List ι) (g : ι → EReal) (z : EReal) : L.foldl (fun a n => a + g n) z = z + (L.map g).sum := by
  induction L generalizing z with
  | nil => simp
  | cons a L ih => rw [List.foldl_cons, ih, List.map_cons, List.sum_cons, add_assoc]

/-- The rows a window starting at row `r` reads are the rows from `r` on. -/
theorem window_tail (h : ℕ → EReal) {r : ℕ} (hr : r < 4096) : (∑ w : Fin 4096, if r + w.val < 4096 then h (r + w.val) else 0) = tail h r := by
  rw [Fin.sum_univ_eq_sum_range (fun n => if r + n < 4096 then h (r + n) else 0) 4096, ← Finset.sum_filter]
  have e : Finset.filter (fun n => r + n < 4096) (Finset.range 4096) = Finset.Ico 0 (4096 - r) := by
    ext n; simp only [Finset.mem_filter, Finset.mem_range, Finset.mem_Ico]; omega
  rw [e]
  unfold tail
  have e2 := Finset.sum_Ico_add' h 0 (4096 - r) r
  rw [Nat.zero_add, Nat.sub_add_cancel hr.le] at e2
  rw [← e2]
  exact Finset.sum_congr rfl fun n _ => by rw [add_comm]

/-- Windows of the whole height and one column, starting at each row: each holds the rows from its own on. -/
theorem windows {R E C : ℕ} (x : (shape2 R C).Idx → EReal)
    (h : (shape2 R C).ReduceWindows (![R, 1] : Fin 2 → ℕ) ![1, 1] ![0, 0] ![E, 0] (shape2 R C)) (j : Fin R) (k : Fin C) :
    Ideal.hostReduceWindowAdd ![R, 1] ![1, 1] ![0, 0] ![E, 0] h x 0 (ix2 j k)
      = ∑ w : Fin R, if hh : j.val + w.val < R then x (ix2 ⟨j.val + w.val, hh⟩ k) else 0 := by
  unfold Ideal.hostReduceWindowAdd Host.reduceWindow
  dsimp only
  refine (fold_sum _ _ _).trans ?_
  rw [zero_add, ← Fin.sum_univ_def]
  refine Fintype.sum_equiv (finCongr (numel_col R)) _ _ fun n => ?_
  have hw0 : ((shape2 R 1).rowMajor.symm n 0).val = n.val := by rw [symm_col]; rfl
  have hw1 : ((shape2 R 1).rowMajor.symm n 1).val = 0 := by rw [symm_col]; rfl
  by_cases hh : j.val + n.val < R
  · rw [dif_pos (show j.val + ((finCongr (numel_col R)) n).val < R from hh)]
    refine (dif_pos (show ∀ a : Fin 2, (![0, 0] : Fin 2 → ℕ) a ≤ (ix2 j k a).val * (![1, 1] : Fin 2 → ℕ) a + ((shape2 R 1).rowMajor.symm n a).val
      ∧ (ix2 j k a).val * (![1, 1] : Fin 2 → ℕ) a + ((shape2 R 1).rowMajor.symm n a).val - (![0, 0] : Fin 2 → ℕ) a < (shape2 R C).size a from fun a => ?_)).trans ?_
    · match a with
      | ⟨0, _⟩ =>
        show 0 ≤ j.val * 1 + ((shape2 R 1).rowMajor.symm n 0).val ∧ j.val * 1 + ((shape2 R 1).rowMajor.symm n 0).val - 0 < R
        rw [hw0]
        omega
      | ⟨1, _⟩ =>
        show 0 ≤ k.val * 1 + ((shape2 R 1).rowMajor.symm n 1).val ∧ k.val * 1 + ((shape2 R 1).rowMajor.symm n 1).val - 0 < C
        rw [hw1]
        have := k.isLt
        omega
    · refine congrArg x (Shape.idx_ext₂ ?_ ?_)
      · show j.val * 1 + ((shape2 R 1).rowMajor.symm n 0).val - 0 = j.val + n.val
        rw [hw0]
        omega
      · show k.val * 1 + ((shape2 R 1).rowMajor.symm n 1).val - 0 = k.val
        rw [hw1]
        omega
  · rw [dif_neg (show ¬ j.val + ((finCongr (numel_col R)) n).val < R from hh)]
    refine dif_neg fun hin => hh ?_
    have h0 := hin 0
    change 0 ≤ j.val * 1 + ((shape2 R 1).rowMajor.symm n 0).val ∧ j.val * 1 + ((shape2 R 1).rowMajor.symm n 0).val - 0 < R at h0
    rw [hw0] at h0
    omega

theorem sums_at (r : Fin 4096) (l : Fin 8) : sums d (ix2 r l) = tail (fun n => if h : n < 4096 then d (ix2 ⟨n, h⟩ l) else 0) r.val := by
  have hz : (broadcastInDim S_ ![] bcast_S_S_ (constant (F := Ideal) S_ .f32 0x00000000#32)) (Shape.Idx.first h_S_) = (0 : EReal) := by
    show Ideal.ofBits .f32 0x00000000#32 = 0
    simp [Ideal.ofBits, Ideal.ieee]
  have e : sums d (ix2 r l) = Ideal.hostReduceWindowAdd ![4096, 1] ![1, 1] ![0, 0] ![4095, 0] reduceWindows_S4096x8_S4096x8_w4096s1p0_4095_w1s1p0_0 d
      ((broadcastInDim S_ ![] bcast_S_S_ (constant (F := Ideal) S_ .f32 0x00000000#32)) (Shape.Idx.first h_S_)) (ix2 r l) := by
    unfold sums Host.reduceWindowAdd
    rw [Ideal.hostReduceWindowAdd_def]
  rw [e, hz, windows d reduceWindows_S4096x8_S4096x8_w4096s1p0_4095_w1s1p0_0 r l]
  refine Eq.trans (Finset.sum_congr rfl fun w _ => ?_) (window_tail (fun n => if h : n < 4096 then d (ix2 ⟨n, h⟩ l) else 0) r.isLt)
  by_cases h : r.val + w.val < 4096
  · rw [dif_pos h, if_pos h]
  · rw [dif_neg h, if_neg h]

theorem dlR_at (r : Fin 4096) (l : Fin 8) : dlR f b d (ix2 r l)
    = tail (fun n => if h : n < 4096 then d (ix2 ⟨n, h⟩ l) else 0) r.val * Ideal.logistic (-(f (ix2 r l) + b (ix2 0 l))) := by
  unfold dlR
  show -(-(sums d (ix2 r l)) * slope (Host.negf (logits f b)) (ix2 r l)) = _
  rw [sums_at, slope_at, noTop_at, noTop_at, neg_mul, neg_neg,
    slope_eq (Host.negf (logits f b) (ix2 r l)) _ (softplus_at _ r l)]
  show _ * Ideal.logistic (-(logits f b (ix2 r l))) = _
  rw [logits_at]

theorem dbR_at (l : Fin 8) : dbR f b d (ix2 0 l) = ∑ r : Fin 4096, dlR f b d (ix2 r l) := by
  unfold dbR
  pointwise

theorem wide_at (x : FVec Ideal S4096x8 .f32) (r : Fin 4096) (l : Fin 128) : wide x (ix2 r l) = if h : l.val < 8 then x (ix2 r ⟨l.val, h⟩) else 0 := by
  unfold wide
  pointwise
  exact dite_congr rfl (fun _ => rfl) (fun _ => zero_word _)

theorem wide1_at (x : FVec Ideal S1x8 .f32) (l : Fin 128) : wide1 x (ix2 0 l) = if h : l.val < 8 then x (ix2 0 ⟨l.val, h⟩) else 0 := by
  unfold wide1
  pointwise
  exact dite_congr rfl (fun _ => rfl) (fun _ => zero_word _)

end Cert.Forget.Ref

/-! ## The claims -/

namespace Cert.Forget

open Idealize.ShloMosaic Idealize.ShloMosaic.TcCoe Idealize.SL.Sem Cert.Common

theorem frame_k : Cert.quiescent_KForget := fun m ρ _ => Cert.KForget.Gen.frame m ρ

theorem frame_ki : Cert.quiescent_KForgetIdeal := fun m ρ _ => Cert.KForgetIdeal.Gen.frame m ρ

theorem frame_r : Cert.quiescent_RForgetIdeal := fun m ρ _ =>
  (θ_run Cert.RForgetIdeal.defs _ _).mono (fun r h => ⟨fun c => (h c).2.2,
      Idealize.ShloMosaic.sem_eq_zero_of_no_sems (by decide) r.2⟩)
    (Cert.RForgetIdeal.Value.run (F := Ideal) m ρ)

variable (m : (ℓ : Loc Cert.KForgetIdeal.nD Cert.KForgetIdeal.τ Cert.KForgetIdeal.sig) → Buf (Elt Ideal) ℓ) (c : Dev Cert.KForgetIdeal.nD)

/-- A column with no cotangents has no gradient. -/
theorem rowGrad_zero (l : Fin 128) (h : ¬ l.val < 8) (R : ℕ) : rowGrad (cot m c l) (lgt m c l) R = 0 := by
  unfold rowGrad
  rw [show tail (cot m c l) R = 0 from Finset.sum_eq_zero fun n _ => dif_neg fun hh => h hh.2, zero_mul]

theorem rowGrad_ref (R : Fin 4096) (l : Fin 128) (h : l.val < 8) :
    Ref.dlR (X0 m c) (X1 m c) (X2 m c) (ix2 R ⟨l.val, h⟩) = rowGrad (cot m c l) (lgt m c l) R.val := by
  rw [Ref.dlR_at]
  unfold rowGrad
  have e1 : lgt m c l R.val = X0 m c (ix2 R ⟨l.val, h⟩) + X1 m c (ix2 0 ⟨l.val, h⟩) := dif_pos ⟨R.isLt, h⟩
  have e2 : (fun n => if hn : n < 4096 then X2 m c (ix2 ⟨n, hn⟩ ⟨l.val, h⟩) else 0) = cot m c l := funext fun n => by
    unfold cot
    by_cases hn : n < 4096
    · rw [dif_pos hn, dif_pos ⟨hn, h⟩]
    · rw [dif_neg hn, dif_neg fun hh => hn hh.1]
  rw [e1, e2]

theorem algebraic : Cert.algebraic_KForgetIdeal_RForgetIdeal := by
  intro m g m' g' _ hagree
  refine ⟨dlFinal m, dbFinal m,
    Cert.KForgetIdeal.Value.run_blocks m g,
    (θ_run Cert.RForgetIdeal.defs _ _).mono (fun r h c => ?_) (Cert.RForgetIdeal.Value.run m' g')⟩
  obtain ⟨a0, a1, a2⟩ := hagree c
  refine ⟨(h c).1.trans (funext fun i => ?_), (h c).2.1.trans (funext fun i => ?_), (h c).2.2⟩
  · obtain ⟨R, l, rfl⟩ : ∃ (R : Fin 4096) (l : Fin 128), i = ix2 R l := ⟨_, _, eq_ix2 i⟩
    rw [a0, a1, a2]
    refine Eq.trans ?_ (final_2 m c R l).symm
    show Ref.wide (Ref.dlR (X0 m c) (X1 m c) (X2 m c)) (ix2 R l) = _
    rw [Ref.wide_at]
    by_cases h8 : l.val < 8
    · rw [dif_pos h8, rowGrad_ref]
    · rw [dif_neg h8, rowGrad_zero m c l h8]
  · obtain ⟨z, l, rfl⟩ : ∃ (z : Fin 1) (l : Fin 128), i = ix2 z l := ⟨_, _, eq_ix2 i⟩
    obtain rfl : z = 0 := Subsingleton.elim _ _
    rw [a0, a1, a2]
    refine Eq.trans ?_ (final_3 m c l).symm
    show Ref.wide1 (Ref.dbR (X0 m c) (X1 m c) (X2 m c)) (ix2 0 l) = _
    rw [Ref.wide1_at]
    by_cases h8 : l.val < 8
    · rw [dif_pos h8, Ref.dbR_at]
      simp only [rowGrad_ref]
      rw [Fin.sum_univ_eq_sum_range (fun n => rowGrad (cot m c l) (lgt m c l) n) 4096, Finset.range_eq_Ico]
      rfl
    · rw [dif_neg h8]
      exact (Finset.sum_eq_zero fun n _ => rowGrad_zero m c l h8 n).symm

end Cert.Forget

end
-- ==== Proof.FfnBody.lean ====
/-
  What the body of the gated hidden layer's backward call leaves at one point: two halves of each cotangent's block, and three running products.
-/
module

public import proofs.«01_k».proof.Proof.Common
public import Idealize.ShloMosaic.Lib.Pipeline.ValueKit.Acc
public import Idealize.ShloMosaic.Lib.Pipeline.ValueKit.Tiles
public import proofs.«01_k».proof.Proof.Gen.KFfnIdeal.Value

@[expose] public section

set_option maxRecDepth 16384

noncomputable section

namespace Cert.Ffn

open Idealize.ShloMosaic Idealize.ShloMosaic.TcCoe Idealize.ShloMosaic.Tactic Idealize.SL.Sem Cert.Common
open Cert.KFfnIdeal Cert.KFfnIdeal.Gen

section Body
variable {F : FTy → Type} [FloatOps F]

/-- The whole of a buffer, read after pieces were written. -/
theorem readBack {Val : EltTy → Type} [∀ e, Nonempty (Val e)] {sg : RefSig} {κ : Kind} {sp : Space} {S : Shape} {e : EltTy} (v : View sg κ sp S e)
    (L : List (View.Piece Val S e)) {off : Fin S.rank → ℕ} (h : off = fun _ => 0) (inb : ∀ a, off a + S.size a ≤ S.size a) :
    v.readCov L (Rect.unit off S.size inb).toLoadRect = View.canon L := by
  rw [View.readCov_eq_canon']
  exact View.ld_unit_zero h inb (View.canon L)

/-- The halves of the blocks. -/
def top1 (x : Vec F S1024x1024 .f32) : Vec F S512x1024 .f32 := View.ld x (Rect.unit (s := S1024x1024) ![0, 0] S512x1024.size inb_S1024x1024_S512x1024_0_0)
def low1 (x : Vec F S1024x1024 .f32) : Vec F S512x1024 .f32 := View.ld x (Rect.unit (s := S1024x1024) ![512, 0] S512x1024.size inb_S1024x1024_S512x1024_512_0)
def top2 (x : Vec F S1x1024x704 .bf16) : Vec F S1x512x704 .bf16 := View.ld x (Rect.unit (s := S1x1024x704) ![0, 0, 0] S1x512x704.size inb_S1x1024x704_S1x512x704_0_0_0)
def low2 (x : Vec F S1x1024x704 .bf16) : Vec F S1x512x704 .bf16 := View.ld x (Rect.unit (s := S1x1024x704) ![0, 512, 0] S1x512x704.size inb_S1x1024x704_S1x512x704_0_512_0)

/-- The gate's cotangent, the other factor's, the hidden layer and the scaled cotangent, each from its two halves. -/
def dGate (x0 : Vec F S1024x1024 .f32) (x2 x3 : Vec F S1x1024x704 .bf16) (x4 : Vec F S1x704x1024 .bf16) : Vec F S1x1024x704 .bf16 :=
  View.canon [⟨Rect.unit (s := S1x1024x704) ![0, 512, 0] S1x512x704.size inb_S1x1024x704_S1x512x704_0_512_0,
      k0_pay30 (k0_pay22 (low2 x2)) (k0_pay23 (low2 x3)) (k0_pay24 (low1 x0) x4) (k0_pay25 (low2 x2))⟩,
    ⟨Rect.unit (s := S1x1024x704) ![0, 0, 0] S1x512x704.size inb_S1x1024x704_S1x512x704_0_0_0,
      k0_pay19 (k0_pay11 (top2 x2)) (k0_pay14 (top2 x2)) (k0_pay18 (top1 x0) (top2 x3) x4)⟩]
def dUp (x0 : Vec F S1024x1024 .f32) (x2 : Vec F S1x1024x704 .bf16) (x4 : Vec F S1x704x1024 .bf16) : Vec F S1x1024x704 .bf16 :=
  View.canon [⟨Rect.unit (s := S1x1024x704) ![0, 512, 0] S1x512x704.size inb_S1x1024x704_S1x512x704_0_512_0, k0_pay29 (k0_pay28 (low1 x0) (low2 x2) x4)⟩,
    ⟨Rect.unit (s := S1x1024x704) ![0, 0, 0] S1x512x704.size inb_S1x1024x704_S1x512x704_0_0_0, k0_pay17 (top1 x0) (top2 x2) x4⟩]
def hidden (x2 x3 : Vec F S1x1024x704 .bf16) : Vec F S1024x704 .bf16 :=
  View.canon [⟨Rect.unit (s := S1024x704) ![512, 0] S512x704.size inb_S1024x704_S512x704_512_0, k0_pay27 (low2 x2) (low2 x3)⟩,
    ⟨Rect.unit (s := S1024x704) ![0, 0] S512x704.size inb_S1024x704_S512x704_0_0, k0_pay16 (top2 x2) (top2 x3)⟩]
def halved (x0 : Vec F S1024x1024 .f32) : Vec F S1024x1024 .bf16 :=
  View.canon [⟨Rect.unit (s := S1024x1024) ![512, 0] S512x1024.size inb_S1024x1024_S512x1024_512_0, k0_pay21 (low1 x0)⟩,
    ⟨Rect.unit (s := S1024x1024) ![0, 0] S512x1024.size inb_S1024x1024_S512x1024_0_0, k0_pay10 (top1 x0)⟩]

variable (c : Dev nD) (i : grid0.Coords)
  (a2 : Memref sig .tc .vmem S1024x1024 .f32) (h2 : a2.IsWhole) (a3 : Memref sig .tc .vmem S1024x1024 .bf16) (h3 : a3.IsWhole)
  (a4 : Memref sig .tc .vmem S1x1024x704 .bf16) (h4 : a4.IsWhole) (a5 : Memref sig .tc .vmem S1x1024x704 .bf16) (h5 : a5.IsWhole)
  (a6 : Memref sig .tc .vmem S1x704x1024 .bf16) (h6 : a6.IsWhole) (a7 : Memref sig .tc .vmem S1x704x1024 .bf16) (h7 : a7.IsWhole)
  (a8 : Memref sig .tc .vmem S1x704x1024 .bf16) (h8 : a8.IsWhole) (a9 : Memref sig .tc .vmem S1x704x1024 .bf16) (h9 : a9.IsWhole)
  (a10 : Memref sig .tc .vmem S1x1024x704 .bf16) (h10 : a10.IsWhole) (a11 : Memref sig .tc .vmem S1x1024x704 .bf16) (h11 : a11.IsWhole)
  (a12 : Memref sig .tc .vmem S704x1024 .f32) (h12 : a12.IsWhole) (a13 : Memref sig .tc .vmem S704x1024 .f32) (h13 : a13.IsWhole)
  (a14 : Memref sig .tc .vmem S704x1024 .f32) (h14 : a14.IsWhole) (a15 : Memref sig .tc .vmem S1024x1024 .bf16) (h15 : a15.IsWhole)
  (a16 : Memref sig .tc .vmem S1024x704 .bf16) (h16 : a16.IsWhole)
  (x0 : Vec F S1024x1024 .f32) (x1 : Vec F S1024x1024 .bf16) (x2 x3 : Vec F S1x1024x704 .bf16) (x4 : Vec F S1x704x1024 .bf16) (s0 s1 s2 : Vec F S704x1024 .f32)

/-- The three running products after a point. -/
def next0 (x0 : Vec F S1024x1024 .f32) (x1 : Vec F S1024x1024 .bf16) (x2 x3 : Vec F S1x1024x704 .bf16) (x4 : Vec F S1x704x1024 .bf16) (s : FVec F S704x1024 .f32) : FVec F S704x1024 .f32 :=
  k0_pay32 x1 s (dGate x0 x2 x3 x4)
def next1 (x0 : Vec F S1024x1024 .f32) (x1 : Vec F S1024x1024 .bf16) (x2 : Vec F S1x1024x704 .bf16) (x4 : Vec F S1x704x1024 .bf16) (s : FVec F S704x1024 .f32) : FVec F S704x1024 .f32 :=
  k0_pay1 (k0_pay33 x1 s (dUp x0 x2 x4))
def next2 (x0 : Vec F S1024x1024 .f32) (x2 x3 : Vec F S1x1024x704 .bf16) (s : FVec F S704x1024 .f32) : FVec F S704x1024 .f32 :=
  k0_pay2 s (hidden x2 x3) (halved x0)

theorem left_A (hc0 : cond0_0 i) (hc1 : ¬cond0_1 i) :
    out0_A_8 c i a2 h2 a3 h3 a4 h4 a5 h5 a6 h6 a7 h7 a8 h8 a9 h9 a10 h10 a11 h11 a12 h12 a13 h13 a14 h14 a15 h15 a16 h16 hc0 hc1 x0 x1 x2 x3 x4 = dGate x0 x2 x3 x4
    ∧ out0_A_9 c i a2 h2 a3 h3 a4 h4 a5 h5 a6 h6 a7 h7 a8 h8 a9 h9 a10 h10 a11 h11 a12 h12 a13 h13 a14 h14 a15 h15 a16 h16 hc0 hc1 x0 x1 x2 x3 x4 = dUp x0 x2 x4
    ∧ sout0_A_0 c i a2 h2 a3 h3 a4 h4 a5 h5 a6 h6 a7 h7 a8 h8 a9 h9 a10 h10 a11 h11 a12 h12 a13 h13 a14 h14 a15 h15 a16 h16 hc0 hc1 x0 x1 x2 x3 x4 = next0 x0 x1 x2 x3 x4 k0_pay6
    ∧ sout0_A_1 c i a2 h2 a3 h3 a4 h4 a5 h5 a6 h6 a7 h7 a8 h8 a9 h9 a10 h10 a11 h11 a12 h12 a13 h13 a14 h14 a15 h15 a16 h16 hc0 hc1 x0 x1 x2 x3 x4 = next1 x0 x1 x2 x4 k0_pay7
    ∧ sout0_A_2 c i a2 h2 a3 h3 a4 h4 a5 h5 a6 h6 a7 h7 a8 h8 a9 h9 a10 h10 a11 h11 a12 h12 a13 h13 a14 h14 a15 h15 a16 h16 hc0 hc1 x0 x1 x2 x3 x4 = next2 x0 x2 x3 k0_pay8 := by
  unfold out0_A_8 out0_A_9 sout0_A_0 sout0_A_1 sout0_A_2
  simp only [View.read_writes_junk_eq_canon]
  unfold kernelRun0_A
  dsimp only
  sl_unfold_words
  simp only [View.canon_cons_unit_zero (S := S704x1024) hz2, View.readAt_eq_ld, h2.read_unread, h3.read_unread, h4.read_unread, h5.read_unread, h6.read_unread,
    View.ld_unit_zero (S := S1024x1024) hz2, View.ld_unit_zero (S := S1x704x1024) hz3, readBack (S := S704x1024) _ _ hz2, readBack (S := S1x1024x704) _ _ hz3,
    readBack (S := S1024x704) _ _ hz2, readBack (S := S1024x1024) _ _ hz2]
  exact ⟨rfl, rfl, rfl, rfl, rfl⟩

theorem left_B (hc0 : ¬cond0_0 i) (hc1 : ¬cond0_1 i) :
    out0_B_8 c i a2 h2 a3 h3 a4 h4 a5 h5 a6 h6 a7 h7 a8 h8 a9 h9 a10 h10 a11 h11 a12 h12 a13 h13 a14 h14 a15 h15 a16 h16 hc0 hc1 x0 x1 x2 x3 x4 s0 s1 s2 = dGate x0 x2 x3 x4
    ∧ out0_B_9 c i a2 h2 a3 h3 a4 h4 a5 h5 a6 h6 a7 h7 a8 h8 a9 h9 a10 h10 a11 h11 a12 h12 a13 h13 a14 h14 a15 h15 a16 h16 hc0 hc1 x0 x1 x2 x3 x4 s0 s1 s2 = dUp x0 x2 x4
    ∧ sout0_B_0 c i a2 h2 a3 h3 a4 h4 a5 h5 a6 h6 a7 h7 a8 h8 a9 h9 a10 h10 a11 h11 a12 h12 a13 h13 a14 h14 a15 h15 a16 h16 hc0 hc1 x0 x1 x2 x3 x4 s0 s1 s2 = next0 x0 x1 x2 x3 x4 s0
    ∧ sout0_B_1 c i a2 h2 a3 h3 a4 h4 a5 h5 a6 h6 a7 h7 a8 h8 a9 h9 a10 h10 a11 h11 a12 h12 a13 h13 a14 h14 a15 h15 a16 h16 hc0 hc1 x0 x1 x2 x3 x4 s0 s1 s2 = next1 x0 x1 x2 x4 s1
    ∧ sout0_B_2 c i a2 h2 a3 h3 a4 h4 a5 h5 a6 h6 a7 h7 a8 h8 a9 h9 a10 h10 a11 h11 a12 h12 a13 h13 a14 h14 a15 h15 a16 h16 hc0 hc1 x0 x1 x2 x3 x4 s0 s1 s2 = next2 x0 x2 x3 s2 := by
  unfold out0_B_8 out0_B_9 sout0_B_0 sout0_B_1 sout0_B_2
  simp only [View.read_writes_junk_eq_canon]
  unfold kernelRun0_B
  dsimp only
  sl_unfold_words
  simp only [View.canon_unit_zero (S := S704x1024) hz2, View.canon_cons_unit_zero (S := S704x1024) hz2, View.readAt_eq_ld, h2.read_unread, h3.read_unread, h4.read_unread, h5.read_unread, h6.read_unread, h12.read_unread, h13.read_unread, h14.read_unread,
    View.ld_unit_zero (S := S1024x1024) hz2, View.ld_unit_zero (S := S1x704x1024) hz3, View.ld_unit_zero (S := S704x1024) hz2, readBack (S := S1x1024x704) _ _ hz3,
    readBack (S := S1024x704) _ _ hz2, readBack (S := S1024x1024) _ _ hz2]
  exact ⟨rfl, rfl, rfl, rfl, rfl⟩

theorem left_C (hc0 : ¬cond0_0 i) (hc1 : cond0_1 i) :
    out0_C_8 c i a2 h2 a3 h3 a4 h4 a5 h5 a6 h6 a7 h7 a8 h8 a9 h9 a10 h10 a11 h11 a12 h12 a13 h13 a14 h14 a15 h15 a16 h16 hc0 hc1 x0 x1 x2 x3 x4 s0 s1 s2 = dGate x0 x2 x3 x4
    ∧ out0_C_9 c i a2 h2 a3 h3 a4 h4 a5 h5 a6 h6 a7 h7 a8 h8 a9 h9 a10 h10 a11 h11 a12 h12 a13 h13 a14 h14 a15 h15 a16 h16 hc0 hc1 x0 x1 x2 x3 x4 s0 s1 s2 = dUp x0 x2 x4
    ∧ out0_C_5 c i a2 h2 a3 h3 a4 h4 a5 h5 a6 h6 a7 h7 a8 h8 a9 h9 a10 h10 a11 h11 a12 h12 a13 h13 a14 h14 a15 h15 a16 h16 hc0 hc1 x0 x1 x2 x3 x4 s0 s1 s2 = k0_pay3 (next0 x0 x1 x2 x3 x4 s0)
    ∧ out0_C_6 c i a2 h2 a3 h3 a4 h4 a5 h5 a6 h6 a7 h7 a8 h8 a9 h9 a10 h10 a11 h11 a12 h12 a13 h13 a14 h14 a15 h15 a16 h16 hc0 hc1 x0 x1 x2 x3 x4 s0 s1 s2 = k0_pay4 (next1 x0 x1 x2 x4 s1)
    ∧ out0_C_7 c i a2 h2 a3 h3 a4 h4 a5 h5 a6 h6 a7 h7 a8 h8 a9 h9 a10 h10 a11 h11 a12 h12 a13 h13 a14 h14 a15 h15 a16 h16 hc0 hc1 x0 x1 x2 x3 x4 s0 s1 s2 = k0_pay5 (next2 x0 x2 x3 s2) := by
  unfold out0_C_8 out0_C_9 out0_C_5 out0_C_6 out0_C_7
  simp only [View.read_writes_junk_eq_canon]
  unfold kernelRun0_C
  dsimp only
  sl_unfold_words
  simp only [View.canon_unit_zero (S := S704x1024) hz2, View.canon_unit_zero (S := S1x704x1024) hz3, View.readAt_eq_ld, h2.read_unread, h3.read_unread, h4.read_unread, h5.read_unread, h6.read_unread, h12.read_unread, h13.read_unread, h14.read_unread,
    View.ld_unit_zero (S := S1024x1024) hz2, View.ld_unit_zero (S := S1x704x1024) hz3, View.ld_unit_zero (S := S704x1024) hz2, readBack (S := S1x1024x704) _ _ hz3,
    readBack (S := S704x1024) _ _ hz2, readBack (S := S1024x704) _ _ hz2, readBack (S := S1024x1024) _ _ hz2]
  exact ⟨rfl, rfl, rfl, rfl, rfl⟩

end Body

end Cert.Ffn

end
-- ==== Proof.FfnMath.lean ====
/-
  The gated hidden layer and its gradient, as extended-real formulas of the whole arrays.
-/
module

public import proofs.«01_k».proof.Proof.Norm

@[expose] public section

noncomputable section

namespace Cert.Ffn

open Idealize.ShloMosaic Cert.Common Cert.Norm

abbrev Mat (n k : ℕ) := (⟨2, ![n, k]⟩ : Shape).Idx → EReal

/-- The normed input, and its product with a weight. -/
def normed (x : Mat 4096 1024) (g : Mat 1 1024) (R : Fin 4096) (k : Fin 1024) : EReal := x (ix2 R k) * scale (fun l => x (ix2 R l)) * g (ix2 0 k)
def pre (x : Mat 4096 1024) (g : Mat 1 1024) (w : Mat 1024 2816) (R : Fin 4096) (L : Fin 2816) : EReal := ∑ k, normed x g R k * w (ix2 k L)

/-- The cotangent, halved, and its product with the outer weight. -/
def half (d : Mat 4096 1024) (R : Fin 4096) (k : Fin 1024) : EReal := Ideal.ofBits .f32 0x3F000000#32 * d (ix2 R k)
def through (d : Mat 4096 1024) (wd : Mat 2816 1024) (R : Fin 4096) (L : Fin 2816) : EReal := ∑ k, half d R k * wd (ix2 L k)

/-- The gate's cotangent in the kernel's form (`G` the gate, `U` the other factor, `a` what comes back). -/
def gateK (G U a : EReal) : EReal :=
  a * U * (Ideal.logistic G * (Ideal.ofBits .f32 0x3F800000#32 + G * (Ideal.ofBits .f32 0x3F800000#32 - Ideal.logistic G)))
/-- The same in the derivative's form. -/
def gateR (G U a : EReal) : EReal :=
  a * U * Ideal.logistic G + G * (a * U) * (Ideal.logistic G * (Ideal.ofBits .f32 0x3F800000#32 - Ideal.logistic G))
def upK (G a : EReal) : EReal := a * (G * Ideal.logistic G)
def hid (G U : EReal) : EReal := G * Ideal.logistic G * U

theorem ofBits_one : Ideal.ofBits .f32 0x3F800000#32 = 1 := by
  simp [Ideal.ofBits, Ideal.ieee, -EReal.coe_mul]; norm_num

/-- The two forms agree where what comes back to the gate is a real number, whatever the gate holds. -/
theorem gate_eq (G U a : EReal) {r : ℝ} (h : a * U = (r : EReal)) : gateK G U a = gateR G U a := by
  unfold gateK gateR
  rw [h, ofBits_one]
  induction G with
  | bot =>
    rw [Ideal.logistic_bot]
    simp
  | top =>
    have e : (1 : EReal) - 1 = 0 := by rw [← EReal.coe_one, ← EReal.coe_sub]; simp
    rw [Ideal.logistic_top, e]
    simp
  | coe x =>
    rw [Ideal.logistic_coe, ← EReal.coe_one]
    simp only [← EReal.coe_mul, ← EReal.coe_sub, ← EReal.coe_add]
    congr 1
    ring

/-- A product of two real numbers, and a sum of such products, are real. -/
theorem real_sum {n : ℕ} (f g : Fin n → EReal) (hf : ∀ k, ∃ r : ℝ, f k = r) (hg : ∀ k, ∃ r : ℝ, g k = r) : ∃ r : ℝ, ∑ k, f k * g k = r := by
  choose u hu using hf
  choose v hv using hg
  exact ⟨∑ k, u k * v k, by rw [← coe_sum]; exact Finset.sum_congr rfl fun k _ => by rw [hu, hv, EReal.coe_mul]⟩

/-- The normed input is real whatever the input holds: a row that is not real is scaled by zero. -/
theorem normed_real (x : Mat 4096 1024) (g : Mat 1 1024) (hg : ∀ k, ∃ r : ℝ, g (ix2 0 k) = r) (R : Fin 4096) (k : Fin 1024) : ∃ r : ℝ, normed x g R k = r := by
  obtain ⟨b, hb⟩ := hg k
  unfold normed
  rw [hb]
  rcases level_cases (fun l => x (ix2 R l)) with h | ⟨y, a, ha, hx, h⟩
  · have hi : scale (fun l => x (ix2 R l)) = 0 := by unfold scale; rw [h]; rfl
    exact ⟨0, by rw [hi]; simp⟩
  · have hi : scale (fun l => x (ix2 R l)) = (((Real.sqrt a)⁻¹ : ℝ) : EReal) := by
      unfold scale; rw [h, Ideal.rsqrt_coe, if_neg ha.le.not_gt, if_neg ha.ne']
    exact ⟨y k * (Real.sqrt a)⁻¹ * b, by rw [hi, show x (ix2 R k) = y k from hx k]; simp only [EReal.coe_mul]⟩

theorem half_real (d : Mat 4096 1024) (hd : ∀ R k, ∃ r : ℝ, d (ix2 R k) = r) (R : Fin 4096) (k : Fin 1024) : ∃ r : ℝ, half d R k = r := by
  obtain ⟨b, hb⟩ := hd R k
  exact ⟨1 / 2 * b, by unfold half; rw [hb, ofBits_half, EReal.coe_mul]⟩

theorem back_real {x d : Mat 4096 1024} {g : Mat 1 1024} {wu : Mat 1024 2816} {wd : Mat 2816 1024} (hg : ∀ k, ∃ r : ℝ, g (ix2 0 k) = r)
    (hu : ∀ k L, ∃ r : ℝ, wu (ix2 k L) = r) (hw : ∀ L k, ∃ r : ℝ, wd (ix2 L k) = r) (hd : ∀ R k, ∃ r : ℝ, d (ix2 R k) = r) (R : Fin 4096) (L : Fin 2816) :
    ∃ r : ℝ, through d wd R L * pre x g wu R L = r := by
  obtain ⟨a, ha⟩ := real_sum (half d R) (fun k => wd (ix2 L k)) (half_real d hd R) (hw L)
  obtain ⟨b, hb⟩ := real_sum (normed x g R) (fun k => wu (ix2 k L)) (normed_real x g hg R) (fun k => hu k L)
  exact ⟨a * b, by unfold through pre; rw [ha, hb, EReal.coe_mul]⟩

end Cert.Ffn

end
-- ==== Proof.FfnPoint.lean ====
/-
  The gated hidden layer's backward call: the blocks of one point, and what the point computes of them.
-/
module

public import proofs.«01_k».proof.Proof.FfnBody
public import proofs.«01_k».proof.Proof.FfnMath
public import Idealize.ShloMosaic.Lib.StableHlo.ReadAt

@[expose] public section

set_option maxRecDepth 16384

noncomputable section

namespace Cert.Ffn

open Idealize.ShloMosaic Idealize.ShloMosaic.TcCoe Idealize.ShloMosaic.Tactic Idealize.SL.Sem Cert.Common Cert.Norm
open Idealize.ShloMosaic.Pipeline (Dat)
open Cert.KFfnIdeal Cert.KFfnIdeal.Gen

/-! ## Two halves of a block -/

theorem ext3 {n k p : ℕ} {i : (⟨3, ![n, k, p]⟩ : Shape).Idx} {a : Fin n} {b : Fin k} {d : Fin p} (h0 : (i 0).val = a.val) (h1 : (i 1).val = b.val)
    (h2 : (i 2).val = d.val) : i = ix3 a b d := funext fun j => Fin.ext (match j with | ⟨0, _⟩ => h0 | ⟨1, _⟩ => h1 | ⟨2, _⟩ => h2)

/-- Two halves of `w` columns, one above the other. -/
theorem halves2 {w : ℕ} (f : Fin 1024 → Fin w → EReal) (P Q : FVec Ideal (⟨2, ![512, w]⟩ : Shape) .bf16)
    (hP : ∀ (r : Fin 512) (l : Fin w), P (ix2 r l) = f ⟨512 + r.val, by omega⟩ l) (hQ : ∀ (r : Fin 512) (l : Fin w), Q (ix2 r l) = f ⟨r.val, by omega⟩ l)
    (inb inb') (r : Fin 1024) (l : Fin w) :
    View.canon (Val := Elt Ideal) (s := (⟨2, ![1024, w]⟩ : Shape)) (e := .bf16) [⟨Rect.unit (s := (⟨2, ![1024, w]⟩ : Shape)) ![512, 0] ![512, w] inb, P⟩, ⟨Rect.unit (s := (⟨2, ![1024, w]⟩ : Shape)) ![0, 0] ![512, w] inb', Q⟩] (ix2 r l) = f r l := by
  refine View.canon_apply_of_pieces (Val := Elt Ideal) (e := .bf16) (fun i : (⟨2, ![1024, w]⟩ : Shape).Idx => f (i 0) (i 1)) _ ?_ _ ?_
  · intro p hp
    simp only [List.mem_cons, List.not_mem_nil, or_false] at hp
    rcases hp with rfl | rfl
    · intro x
      obtain ⟨r, l, rfl⟩ : ∃ (r : Fin 512) (l : Fin w), x = ix2 r l := ⟨_, _, eq_ix2 x⟩
      exact (hP r l).trans (congrArg₂ f (Fin.ext (by show 512 + r.val = 512 + 1 * r.val; omega)) (Fin.ext (by show l.val = 0 + 1 * l.val; omega)))
    · intro x
      obtain ⟨r, l, rfl⟩ : ∃ (r : Fin 512) (l : Fin w), x = ix2 r l := ⟨_, _, eq_ix2 x⟩
      exact (hQ r l).trans (congrArg₂ f (Fin.ext (by show r.val = 0 + 1 * r.val; omega)) (Fin.ext (by show l.val = 0 + 1 * l.val; omega)))
  · by_cases h : r.val < 512
    · refine ⟨_, List.mem_cons_of_mem _ (List.mem_singleton_self _), (Rect.mem_set_unit (inb := inb')).2 fun a => ?_⟩
      match a with
      | ⟨0, _⟩ => show 0 ≤ r.val ∧ r.val < 0 + 512; omega
      | ⟨1, _⟩ => show 0 ≤ l.val ∧ l.val < 0 + w; omega
    · refine ⟨_, List.mem_cons_self .., (Rect.mem_set_unit (inb := inb)).2 fun a => ?_⟩
      match a with
      | ⟨0, _⟩ => show 512 ≤ r.val ∧ r.val < 512 + 512; omega
      | ⟨1, _⟩ => show 0 ≤ l.val ∧ l.val < 0 + w; omega

theorem halves3 (f : Fin 1024 → Fin 704 → EReal) (P Q : FVec Ideal S1x512x704 .bf16)
    (hP : ∀ (r : Fin 512) (l : Fin 704), P (ix3 0 r l) = f ⟨512 + r.val, by omega⟩ l) (hQ : ∀ (r : Fin 512) (l : Fin 704), Q (ix3 0 r l) = f ⟨r.val, by omega⟩ l)
    (inb inb') (r : Fin 1024) (l : Fin 704) :
    View.canon (Val := Elt Ideal) (s := S1x1024x704) (e := .bf16) [⟨Rect.unit (s := S1x1024x704) ![0, 512, 0] S1x512x704.size inb, P⟩, ⟨Rect.unit (s := S1x1024x704) ![0, 0, 0] S1x512x704.size inb', Q⟩] (ix3 0 r l) = f r l := by
  refine View.canon_apply_of_pieces (Val := Elt Ideal) (e := .bf16) (fun i : S1x1024x704.Idx => f (i 1) (i 2)) _ ?_ _ ?_
  · intro p hp
    simp only [List.mem_cons, List.not_mem_nil, or_false] at hp
    rcases hp with rfl | rfl
    · intro x
      obtain ⟨z, r, l, rfl⟩ : ∃ (z : Fin 1) (r : Fin 512) (l : Fin 704), x = ix3 z r l := ⟨_, _, _, eq_ix3 x⟩
      obtain rfl : z = 0 := Subsingleton.elim _ _
      exact (hP r l).trans (congrArg₂ f (Fin.ext (by show 512 + r.val = 512 + 1 * r.val; omega)) (Fin.ext (by show l.val = 0 + 1 * l.val; omega)))
    · intro x
      obtain ⟨z, r, l, rfl⟩ : ∃ (z : Fin 1) (r : Fin 512) (l : Fin 704), x = ix3 z r l := ⟨_, _, _, eq_ix3 x⟩
      obtain rfl : z = 0 := Subsingleton.elim _ _
      exact (hQ r l).trans (congrArg₂ f (Fin.ext (by show r.val = 0 + 1 * r.val; omega)) (Fin.ext (by show l.val = 0 + 1 * l.val; omega)))
  · by_cases h : r.val < 512
    · refine ⟨_, List.mem_cons_of_mem _ (List.mem_singleton_self _), (Rect.mem_set_unit (inb := inb')).2 fun a => ?_⟩
      match a with
      | ⟨0, _⟩ => show 0 ≤ 0 ∧ 0 < 0 + 1; omega
      | ⟨1, _⟩ => show 0 ≤ r.val ∧ r.val < 0 + 512; omega
      | ⟨2, _⟩ => show 0 ≤ l.val ∧ l.val < 0 + 704; omega
    · refine ⟨_, List.mem_cons_self .., (Rect.mem_set_unit (inb := inb)).2 fun a => ?_⟩
      match a with
      | ⟨0, _⟩ => show 0 ≤ 0 ∧ 0 < 0 + 1; omega
      | ⟨1, _⟩ => show 512 ≤ r.val ∧ r.val < 512 + 512; omega
      | ⟨2, _⟩ => show 0 ≤ l.val ∧ l.val < 0 + 704; omega

theorem top1_at (x : FVec Ideal S1024x1024 .f32) (r : Fin 512) (k : Fin 1024) : (top1 (F := Ideal) x : FVec Ideal S512x1024 .f32) (ix2 r k) = x (ix2 ⟨r.val, by omega⟩ k) := by
  unfold top1
  exact View.ld_unit_apply_of _ _ _ _ _ _ (fun a => match a with | ⟨0, _⟩ => (Nat.zero_add _).symm | ⟨1, _⟩ => (Nat.zero_add _).symm)
theorem low1_at (x : FVec Ideal S1024x1024 .f32) (r : Fin 512) (k : Fin 1024) : (low1 (F := Ideal) x : FVec Ideal S512x1024 .f32) (ix2 r k) = x (ix2 ⟨512 + r.val, by omega⟩ k) := by
  unfold low1
  exact View.ld_unit_apply_of _ _ _ _ _ _ (fun a => match a with | ⟨0, _⟩ => rfl | ⟨1, _⟩ => (Nat.zero_add _).symm)
theorem top2_at (x : FVec Ideal S1x1024x704 .bf16) (r : Fin 512) (l : Fin 704) : (top2 (F := Ideal) x : FVec Ideal S1x512x704 .bf16) (ix3 0 r l) = x (ix3 0 ⟨r.val, by omega⟩ l) := by
  unfold top2
  exact View.ld_unit_apply_of _ _ _ _ _ _ (fun a => match a with | ⟨0, _⟩ => rfl | ⟨1, _⟩ => (Nat.zero_add _).symm | ⟨2, _⟩ => (Nat.zero_add _).symm)
theorem low2_at (x : FVec Ideal S1x1024x704 .bf16) (r : Fin 512) (l : Fin 704) : (low2 (F := Ideal) x : FVec Ideal S1x512x704 .bf16) (ix3 0 r l) = x (ix3 0 ⟨512 + r.val, by omega⟩ l) := by
  unfold low2
  exact View.ld_unit_apply_of _ _ _ _ _ _ (fun a => match a with | ⟨0, _⟩ => rfl | ⟨1, _⟩ => rfl | ⟨2, _⟩ => (Nat.zero_add _).symm)

/-! ## What a point computes of its blocks -/

section Blocks
variable (x0 : FVec Ideal S1024x1024 .f32) (x1 : FVec Ideal S1024x1024 .bf16) (x2 x3 : FVec Ideal S1x1024x704 .bf16) (x4 : FVec Ideal S1x704x1024 .bf16)

/-- The halved cotangent's product with the block of the outer weight. -/
def thru (r : Fin 1024) (l : Fin 704) : EReal := ∑ k, Ideal.ofBits .f32 0x3F000000#32 * x0 (ix2 r k) * x4 (ix3 0 l k)

theorem dGate_at (r : Fin 1024) (l : Fin 704) : dGate (F := Ideal) x0 x2 x3 x4 (ix3 0 r l) = gateK (x2 (ix3 0 r l)) (x3 (ix3 0 r l)) (thru x0 x4 r l) := by
  unfold dGate
  refine halves3 (fun r l => gateK (x2 (ix3 0 r l)) (x3 (ix3 0 r l)) (thru x0 x4 r l)) _ _ (fun r l => ?_) (fun r l => ?_) _ _ r l
  all_goals
    unfold gateK thru
    unfold_payloads
    pointwise [top1_at, top2_at, low1_at, low2_at]

theorem dUp_at (r : Fin 1024) (l : Fin 704) : dUp (F := Ideal) x0 x2 x4 (ix3 0 r l) = upK (x2 (ix3 0 r l)) (thru x0 x4 r l) := by
  unfold dUp
  refine halves3 (fun r l => upK (x2 (ix3 0 r l)) (thru x0 x4 r l)) _ _ (fun r l => ?_) (fun r l => ?_) _ _ r l
  all_goals
    unfold upK thru
    unfold_payloads
    pointwise [top1_at, top2_at, low1_at, low2_at]

theorem hidden_at (r : Fin 1024) (l : Fin 704) : hidden (F := Ideal) x2 x3 (ix2 r l) = hid (x2 (ix3 0 r l)) (x3 (ix3 0 r l)) := by
  unfold hidden
  refine halves2 (fun r l => hid (x2 (ix3 0 r l)) (x3 (ix3 0 r l))) _ _ (fun r l => ?_) (fun r l => ?_) _ _ r l
  all_goals
    unfold hid
    unfold_payloads
    pointwise [top2_at, low2_at]

theorem halved_at (r k : Fin 1024) : halved (F := Ideal) x0 (ix2 r k) = Ideal.ofBits .f32 0x3F000000#32 * x0 (ix2 r k) := by
  unfold halved
  refine halves2 (fun r k => Ideal.ofBits .f32 0x3F000000#32 * x0 (ix2 r k)) _ _ (fun r l => ?_) (fun r l => ?_) _ _ r k
  all_goals
    unfold_payloads
    pointwise [top1_at, low1_at]

variable (s : FVec Ideal S704x1024 .f32) (l : Fin 704) (k : Fin 1024)

theorem next0_at : next0 (F := Ideal) x0 x1 x2 x3 x4 s (ix2 l k)
    = s (ix2 l k) + ∑ r : Fin 1024, gateK (x2 (ix3 0 r l)) (x3 (ix3 0 r l)) (thru x0 x4 r l) * x1 (ix2 r k) := by
  unfold next0
  unfold_payloads
  pointwise [dGate_at]

theorem next1_at : next1 (F := Ideal) x0 x1 x2 x4 s (ix2 l k)
    = s (ix2 l k) + ∑ r : Fin 1024, upK (x2 (ix3 0 r l)) (thru x0 x4 r l) * x1 (ix2 r k) := by
  unfold next1
  unfold_payloads
  pointwise [dUp_at]

theorem next2_at : next2 (F := Ideal) x0 x2 x3 s (ix2 l k)
    = s (ix2 l k) + ∑ r : Fin 1024, hid (x2 (ix3 0 r l)) (x3 (ix3 0 r l)) * (Ideal.ofBits .f32 0x3F000000#32 * x0 (ix2 r k)) := by
  unfold next2
  unfold_payloads
  pointwise [hidden_at, halved_at]

theorem zero6 : k0_pay6 (F := Ideal) (ix2 l k) = 0 := by unfold_payloads; pointwise
theorem zero7 : k0_pay7 (F := Ideal) (ix2 l k) = 0 := by unfold_payloads; pointwise
theorem zero8 : k0_pay8 (F := Ideal) (ix2 l k) = 0 := by unfold_payloads; pointwise

end Blocks

end Cert.Ffn

end
-- ==== Proof.FfnRun.lean ====
/-
  The gated hidden layer's backward call: its blocks as parts of the arrays, the sums carried over the row blocks, and the arrays it leaves.
-/
module

public import proofs.«01_k».proof.Proof.FfnPoint
public import proofs.«01_k».proof.Proof.Gen.KFfnIdeal.Value

@[expose] public section

set_option maxRecDepth 16384

noncomputable section

namespace Cert.Ffn

open Idealize.ShloMosaic Idealize.ShloMosaic.TcCoe Idealize.ShloMosaic.Tactic Idealize.SL.Sem Cert.Common Cert.Norm
open Idealize.ShloMosaic.Pipeline (Dat)
open Cert.KFfnIdeal Cert.KFfnIdeal.Gen

section Outs
variable {F : FTy → Type} [FloatOps F] (m : (ℓ : Loc nD τ sig) → Buf (Elt F) ℓ) (c : Dev nD) (t : Fin cfg0.N)

/-- What each kind of point leaves. -/
theorem outs_A (h0 : t.val % 4 = 0) (h3 : ¬t.val % 4 = 3) :
    (outsAt0 m c t.val t.isLt).2.2.2.1 = dGate (iblk m c 0 t) (iblk m c 2 t) (iblk m c 3 t) (iblk m c 4 t)
    ∧ (outsAt0 m c t.val t.isLt).2.2.2.2.1 = dUp (iblk m c 0 t) (iblk m c 2 t) (iblk m c 4 t)
    ∧ (outsAt0 m c t.val t.isLt).2.2.2.2.2.1 = next0 (iblk m c 0 t) (iblk m c 1 t) (iblk m c 2 t) (iblk m c 3 t) (iblk m c 4 t) k0_pay6
    ∧ (outsAt0 m c t.val t.isLt).2.2.2.2.2.2.1 = next1 (iblk m c 0 t) (iblk m c 1 t) (iblk m c 2 t) (iblk m c 4 t) k0_pay7
    ∧ (outsAt0 m c t.val t.isLt).2.2.2.2.2.2.2 = next2 (iblk m c 0 t) (iblk m c 2 t) (iblk m c 3 t) k0_pay8 := by
  rw [outsAt0_A m c t h0 h3]
  dsimp only
  exact left_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _)
    (iblk m c 0 t) (iblk m c 1 t) (iblk m c 2 t) (iblk m c 3 t) (iblk m c 4 t)  ((hcond0_0 t).mpr h0) (fun h => h3 ((hcond0_1 t).mp h))

theorem outs_B (h0 : ¬t.val % 4 = 0) (h3 : ¬t.val % 4 = 3) :
    (outsAt0 m c t.val t.isLt).2.2.2.1 = dGate (iblk m c 0 t) (iblk m c 2 t) (iblk m c 3 t) (iblk m c 4 t)
    ∧ (outsAt0 m c t.val t.isLt).2.2.2.2.1 = dUp (iblk m c 0 t) (iblk m c 2 t) (iblk m c 4 t)
    ∧ (outsAt0 m c t.val t.isLt).2.2.2.2.2.1 = next0 (iblk m c 0 t) (iblk m c 1 t) (iblk m c 2 t) (iblk m c 3 t) (iblk m c 4 t) (outsAt0 m c (t.val - 1) (Nat.lt_of_le_of_lt (Nat.sub_le _ _) t.isLt)).2.2.2.2.2.1
    ∧ (outsAt0 m c t.val t.isLt).2.2.2.2.2.2.1 = next1 (iblk m c 0 t) (iblk m c 1 t) (iblk m c 2 t) (iblk m c 4 t) (outsAt0 m c (t.val - 1) (Nat.lt_of_le_of_lt (Nat.sub_le _ _) t.isLt)).2.2.2.2.2.2.1
    ∧ (outsAt0 m c t.val t.isLt).2.2.2.2.2.2.2 = next2 (iblk m c 0 t) (iblk m c 2 t) (iblk m c 3 t) (outsAt0 m c (t.val - 1) (Nat.lt_of_le_of_lt (Nat.sub_le _ _) t.isLt)).2.2.2.2.2.2.2 := by
  rw [outsAt0_B m c t h0 h3]
  dsimp only
  exact left_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _)
    (iblk m c 0 t) (iblk m c 1 t) (iblk m c 2 t) (iblk m c 3 t) (iblk m c 4 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (fun h => h0 ((hcond0_0 t).mp h)) (fun h => h3 ((hcond0_1 t).mp h))

theorem outs_C (h0 : ¬t.val % 4 = 0) (h3 : t.val % 4 = 3) :
    (outsAt0 m c t.val t.isLt).2.2.2.1 = dGate (iblk m c 0 t) (iblk m c 2 t) (iblk m c 3 t) (iblk m c 4 t)
    ∧ (outsAt0 m c t.val t.isLt).2.2.2.2.1 = dUp (iblk m c 0 t) (iblk m c 2 t) (iblk m c 4 t)
    ∧ (outsAt0 m c t.val t.isLt).1 = k0_pay3 (next0 (iblk m c 0 t) (iblk m c 1 t) (iblk m c 2 t) (iblk m c 3 t) (iblk m c 4 t) (outsAt0 m c (t.val - 1) (Nat.lt_of_le_of_lt (Nat.sub_le _ _) t.isLt)).2.2.2.2.2.1)
    ∧ (outsAt0 m c t.val t.isLt).2.1 = k0_pay4 (next1 (iblk m c 0 t) (iblk m c 1 t) (iblk m c 2 t) (iblk m c 4 t) (outsAt0 m c (t.val - 1) (Nat.lt_of_le_of_lt (Nat.sub_le _ _) t.isLt)).2.2.2.2.2.2.1)
    ∧ (outsAt0 m c t.val t.isLt).2.2.1 = k0_pay5 (next2 (iblk m c 0 t) (iblk m c 2 t) (iblk m c 3 t) (outsAt0 m c (t.val - 1) (Nat.lt_of_le_of_lt (Nat.sub_le _ _) t.isLt)).2.2.2.2.2.2.2) := by
  rw [outsAt0_C m c t h0 h3]
  dsimp only
  exact left_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _)
    (iblk m c 0 t) (iblk m c 1 t) (iblk m c 2 t) (iblk m c 3 t) (iblk m c 4 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (fun h => h0 ((hcond0_0 t).mp h)) ((hcond0_1 t).mpr h3)

end Outs

variable (m : (ℓ : Loc nD τ sig) → Buf (Elt Ideal) ℓ) (c : Dev nD)

abbrev X : Mat 4096 1024 := m ((c : Thread nD τ).loc main_arg0)
abbrev Gn : Mat 1 1024 := m ((c : Thread nD τ).loc main_arg1)
abbrev Wg : Mat 1024 2816 := m ((c : Thread nD τ).loc main_arg2)
abbrev Wu : Mat 1024 2816 := m ((c : Thread nD τ).loc main_arg3)
abbrev Wd : Mat 2816 1024 := m ((c : Thread nD τ).loc main_arg4)
abbrev Do : Mat 4096 1024 := m ((c : Thread nD τ).loc main_arg5)

/-- Column `l` of slab `p`. -/
def col (p : Fin 4) (l : Fin 704) : Fin 2816 := ⟨p.val * 704 + l.val, by omega⟩

/-! ## What the host hands over -/

theorem normed_at (R : Fin 4096) (k : Fin 1024) : (V m c main_v14 : FVec Ideal S4096x1024 .bf16) (ix2 R k) = normed (X m c) (Gn m c) R k := by
  unfold V
  after_reads_at
  rfl
theorem gate_at (p : Fin 4) (R : Fin 4096) (l : Fin 704) : (V m c main_v17 : FVec Ideal S4x4096x704 .bf16) (ix3 p R l) = pre (X m c) (Gn m c) (Wg m c) R (col p l) := by
  unfold V
  after_reads_at
  rfl
theorem up_at (p : Fin 4) (R : Fin 4096) (l : Fin 704) : (V m c main_v20 : FVec Ideal S4x4096x704 .bf16) (ix3 p R l) = pre (X m c) (Gn m c) (Wu m c) R (col p l) := by
  unfold V
  after_reads_at
  rfl
theorem down_at (p : Fin 4) (l : Fin 704) (k : Fin 1024) : (V m c main_v22 : FVec Ideal S4x704x1024 .bf16) (ix3 p l k) = Wd m c (ix2 (col p l) k) := by
  unfold V
  after_reads_at
  rfl

/-! ## The blocks of a point: rows from `1024 (t % 4)`, slab `t / 4` -/

theorem places : ∀ t : Fin cfg0.N,
    (∀ a : Fin 2, win0_0.index t a = ![t.val % 4, 0] a) ∧ (∀ a : Fin 2, win0_1.index t a = ![t.val % 4, 0] a)
    ∧ (∀ a : Fin 3, win0_2.index t a = ![t.val / 4, t.val % 4, 0] a) ∧ (∀ a : Fin 3, win0_3.index t a = ![t.val / 4, t.val % 4, 0] a)
    ∧ (∀ a : Fin 3, win0_4.index t a = ![t.val / 4, 0, 0] a) :=
  (by decide +kernel : ∀ t : Fin grid0.N,
    (∀ a : Fin 2, win0_0.index t a = ![t.val % 4, 0] a) ∧ (∀ a : Fin 2, win0_1.index t a = ![t.val % 4, 0] a)
    ∧ (∀ a : Fin 3, win0_2.index t a = ![t.val / 4, t.val % 4, 0] a) ∧ (∀ a : Fin 3, win0_3.index t a = ![t.val / 4, t.val % 4, 0] a)
    ∧ (∀ a : Fin 3, win0_4.index t a = ![t.val / 4, 0, 0] a))

theorem point_lt (t : Fin cfg0.N) : t.val < 16 := lt_of_lt_of_eq t.isLt (show cfg0.N = 16 from N_0)

def slot (t : Fin cfg0.N) : Fin 4 := ⟨t.val / 4, by have := point_lt t; omega⟩
def rowOf (t : Fin cfg0.N) (r : Fin 1024) : Fin 4096 := ⟨t.val % 4 * 1024 + r.val, by omega⟩

variable (t : Fin cfg0.N)

theorem block_0 (r k : Fin 1024) : (iblk m c 0 t : S1024x1024.Idx → EReal) (ix2 r k) = Do m c (ix2 (rowOf t r) k) := by
  unfold iblk
  rw [View.read_apply]
  show V m c main_arg5 _ = _
  rw [V_main_arg5]
  congr 1
  apply Shape.idx_ext₂
  · show win0_0.index t 0 * 1024 + 1 * r.val = t.val % 4 * 1024 + r.val; rw [(places t).1 0]; show t.val % 4 * 1024 + 1 * r.val = _; omega
  · show win0_0.index t 1 * 1024 + 1 * k.val = k.val; rw [(places t).1 1]; show 0 * 1024 + 1 * k.val = _; omega

theorem block_1 (r k : Fin 1024) : (iblk m c 1 t : S1024x1024.Idx → EReal) (ix2 r k) = normed (X m c) (Gn m c) (rowOf t r) k := by
  refine Eq.trans ?_ (normed_at m c _ k)
  unfold iblk
  rw [View.read_apply]
  show (V m c main_v14 : S4096x1024.Idx → EReal) _ = _
  congr 1
  apply Shape.idx_ext₂
  · show win0_1.index t 0 * 1024 + 1 * r.val = t.val % 4 * 1024 + r.val; rw [(places t).2.1 0]; show t.val % 4 * 1024 + 1 * r.val = _; omega
  · show win0_1.index t 1 * 1024 + 1 * k.val = k.val; rw [(places t).2.1 1]; show 0 * 1024 + 1 * k.val = _; omega

theorem block_2 (r : Fin 1024) (l : Fin 704) : (iblk m c 2 t : S1x1024x704.Idx → EReal) (ix3 0 r l) = pre (X m c) (Gn m c) (Wg m c) (rowOf t r) (col (slot t) l) := by
  refine Eq.trans ?_ (gate_at m c (slot t) _ l)
  unfold iblk
  rw [View.read_apply]
  show (V m c main_v17 : S4x4096x704.Idx → EReal) _ = _
  congr 1
  apply ext3
  · show win0_2.index t 0 * 1 + 1 * 0 = t.val / 4; rw [(places t).2.2.1 0]; show t.val / 4 * 1 + 1 * 0 = _; omega
  · show win0_2.index t 1 * 1024 + 1 * r.val = t.val % 4 * 1024 + r.val; rw [(places t).2.2.1 1]; show t.val % 4 * 1024 + 1 * r.val = _; omega
  · show win0_2.index t 2 * 704 + 1 * l.val = l.val; rw [(places t).2.2.1 2]; show 0 * 704 + 1 * l.val = _; omega

theorem block_3 (r : Fin 1024) (l : Fin 704) : (iblk m c 3 t : S1x1024x704.Idx → EReal) (ix3 0 r l) = pre (X m c) (Gn m c) (Wu m c) (rowOf t r) (col (slot t) l) := by
  refine Eq.trans ?_ (up_at m c (slot t) _ l)
  unfold iblk
  rw [View.read_apply]
  show (V m c main_v20 : S4x4096x704.Idx → EReal) _ = _
  congr 1
  apply ext3
  · show win0_3.index t 0 * 1 + 1 * 0 = t.val / 4; rw [(places t).2.2.2.1 0]; show t.val / 4 * 1 + 1 * 0 = _; omega
  · show win0_3.index t 1 * 1024 + 1 * r.val = t.val % 4 * 1024 + r.val; rw [(places t).2.2.2.1 1]; show t.val % 4 * 1024 + 1 * r.val = _; omega
  · show win0_3.index t 2 * 704 + 1 * l.val = l.val; rw [(places t).2.2.2.1 2]; show 0 * 704 + 1 * l.val = _; omega

theorem block_4 (l : Fin 704) (k : Fin 1024) : (iblk m c 4 t : S1x704x1024.Idx → EReal) (ix3 0 l k) = Wd m c (ix2 (col (slot t) l) k) := by
  refine Eq.trans ?_ (down_at m c (slot t) l k)
  unfold iblk
  rw [View.read_apply]
  show (V m c main_v22 : S4x704x1024.Idx → EReal) _ = _
  congr 1
  apply ext3
  · show win0_4.index t 0 * 1 + 1 * 0 = t.val / 4; rw [(places t).2.2.2.2 0]; show t.val / 4 * 1 + 1 * 0 = _; omega
  · show win0_4.index t 1 * 704 + 1 * l.val = l.val; rw [(places t).2.2.2.2 1]; show 0 * 704 + 1 * l.val = _; omega
  · show win0_4.index t 2 * 1024 + 1 * k.val = k.val; rw [(places t).2.2.2.2 2]; show 0 * 1024 + 1 * k.val = _; omega

/-! ## What a point adds, in terms of the arrays -/

def aG (R : Fin 4096) (L : Fin 2816) : EReal := pre (X m c) (Gn m c) (Wg m c) R L
def aU (R : Fin 4096) (L : Fin 2816) : EReal := pre (X m c) (Gn m c) (Wu m c) R L
def aT (R : Fin 4096) (L : Fin 2816) : EReal := through (Do m c) (Wd m c) R L
def aDG (R : Fin 4096) (L : Fin 2816) : EReal := gateK (aG m c R L) (aU m c R L) (aT m c R L)
def aDU (R : Fin 4096) (L : Fin 2816) : EReal := upK (aG m c R L) (aT m c R L)

theorem thru_eq (r : Fin 1024) (l : Fin 704) : thru (iblk m c 0 t) (iblk m c 4 t) r l = aT m c (rowOf t r) (col (slot t) l) := by
  unfold thru aT through half
  exact Finset.sum_congr rfl fun k _ => by rw [block_0, block_4]

theorem dGate_eq (r : Fin 1024) (l : Fin 704) : dGate (F := Ideal) (iblk m c 0 t) (iblk m c 2 t) (iblk m c 3 t) (iblk m c 4 t) (ix3 0 r l) = aDG m c (rowOf t r) (col (slot t) l) := by
  rw [dGate_at, block_2, block_3, thru_eq]; rfl

theorem dUp_eq (r : Fin 1024) (l : Fin 704) : dUp (F := Ideal) (iblk m c 0 t) (iblk m c 2 t) (iblk m c 4 t) (ix3 0 r l) = aDU m c (rowOf t r) (col (slot t) l) := by
  rw [dUp_at, block_2, thru_eq]; rfl

/-- One row's terms of the three weights' gradients. -/
def term0 (L : Fin 2816) (k : Fin 1024) (R : Fin 4096) : EReal := aDG m c R L * normed (X m c) (Gn m c) R k
def term1 (L : Fin 2816) (k : Fin 1024) (R : Fin 4096) : EReal := aDU m c R L * normed (X m c) (Gn m c) R k
def term2 (L : Fin 2816) (k : Fin 1024) (R : Fin 4096) : EReal := hid (aG m c R L) (aU m c R L) * half (Do m c) R k

/-- The sum of a row function over one block of rows. -/
def part (f : Fin 4096 → EReal) (s : ℕ) : EReal := if h : s < 4 then ∑ r : Fin 1024, f ⟨s * 1024 + r.val, by omega⟩ else 0

theorem part_eq (f : Fin 4096 → EReal) : part f (t.val % 4) = ∑ r, f (rowOf t r) := dif_pos (Nat.mod_lt _ (by norm_num))
theorem parts_eq (f : Fin 4096 → EReal) : ∑ s ∈ Finset.range 4, part f s = ∑ R, f R := sum_blocks 4 1024 rfl f

variable (s : FVec Ideal S704x1024 .f32) (l : Fin 704) (k : Fin 1024)

theorem adds_0 : next0 (F := Ideal) (iblk m c 0 t) (iblk m c 1 t) (iblk m c 2 t) (iblk m c 3 t) (iblk m c 4 t) s (ix2 l k) = s (ix2 l k) + part (term0 m c (col (slot t) l) k) (t.val % 4) := by
  rw [next0_at, part_eq]
  refine congrArg _ (Finset.sum_congr rfl fun r _ => ?_)
  rw [block_1, block_2, block_3, thru_eq]; rfl
theorem adds_1 : next1 (F := Ideal) (iblk m c 0 t) (iblk m c 1 t) (iblk m c 2 t) (iblk m c 4 t) s (ix2 l k) = s (ix2 l k) + part (term1 m c (col (slot t) l) k) (t.val % 4) := by
  rw [next1_at, part_eq]
  refine congrArg _ (Finset.sum_congr rfl fun r _ => ?_)
  rw [block_1, block_2, thru_eq]; rfl
theorem adds_2 : next2 (F := Ideal) (iblk m c 0 t) (iblk m c 2 t) (iblk m c 3 t) s (ix2 l k) = s (ix2 l k) + part (term2 m c (col (slot t) l) k) (t.val % 4) := by
  rw [next2_at, part_eq]
  refine congrArg _ (Finset.sum_congr rfl fun r _ => ?_)
  rw [block_0, block_2, block_3]; rfl

/-! ## The sums carried over the row blocks -/

/-- What has been summed after the point `n`. -/
def upto (f : Fin 4096 → EReal) (n : ℕ) : EReal := ∑ s ∈ Finset.range (n % 4 + 1), part f s

theorem upto_zero (f : Fin 4096 → EReal) {n : ℕ} (h : n % 4 = 0) : upto f n = 0 + part f (n % 4) := by
  unfold upto; rw [Finset.sum_range_succ, h, Finset.range_zero, Finset.sum_empty]
theorem upto_succ (f : Fin 4096 → EReal) {n : ℕ} (h : ¬n % 4 = 0) : upto f n = upto f (n - 1) + part f (n % 4) := by
  unfold upto; rw [Finset.sum_range_succ, show (n - 1) % 4 + 1 = n % 4 by omega]

theorem carried : ∀ (n : ℕ) (hn : n < cfg0.N), ¬n % 4 = 3 → ∀ (l : Fin 704) (k : Fin 1024),
    ((outsAt0 m c n hn).2.2.2.2.2.1 : S704x1024.Idx → EReal) (ix2 l k) = upto (term0 m c (col (slot ⟨n, hn⟩) l) k) n
    ∧ ((outsAt0 m c n hn).2.2.2.2.2.2.1 : S704x1024.Idx → EReal) (ix2 l k) = upto (term1 m c (col (slot ⟨n, hn⟩) l) k) n
    ∧ ((outsAt0 m c n hn).2.2.2.2.2.2.2 : S704x1024.Idx → EReal) (ix2 l k) = upto (term2 m c (col (slot ⟨n, hn⟩) l) k) n := by
  intro n
  induction n using Nat.strong_induction_on with
  | _ n ih =>
  intro hn h3 l k
  by_cases h0 : n % 4 = 0
  · obtain ⟨-, -, e0, e1, e2⟩ := outs_A m c ⟨n, hn⟩ h0 h3
    refine ⟨(congrFun e0 _).trans ?_, (congrFun e1 _).trans ?_, (congrFun e2 _).trans ?_⟩
    · rw [adds_0, zero6]; exact (upto_zero _ h0).symm
    · rw [adds_1, zero7]; exact (upto_zero _ h0).symm
    · rw [adds_2, zero8]; exact (upto_zero _ h0).symm
  · have p := ih (n - 1) (by omega) (by omega) (by omega) l k
    rw [show slot ⟨n - 1, by omega⟩ = slot ⟨n, hn⟩ from Fin.ext (by show (n - 1) / 4 = n / 4; omega)] at p
    obtain ⟨-, -, e0, e1, e2⟩ := outs_B m c ⟨n, hn⟩ h0 h3
    refine ⟨(congrFun e0 _).trans ?_, (congrFun e1 _).trans ?_, (congrFun e2 _).trans ?_⟩
    · exact (adds_0 m c ⟨n, hn⟩ _ l k).trans ((congrArg (· + _) p.1).trans (upto_succ _ h0).symm)
    · exact (adds_1 m c ⟨n, hn⟩ _ l k).trans ((congrArg (· + _) p.2.1).trans (upto_succ _ h0).symm)
    · exact (adds_2 m c ⟨n, hn⟩ _ l k).trans ((congrArg (· + _) p.2.2).trans (upto_succ _ h0).symm)

theorem pay3_at (x : FVec Ideal S704x1024 .f32) (l : Fin 704) (k : Fin 1024) : k0_pay3 (F := Ideal) x (ix3 0 l k) = x (ix2 l k) := by unfold k0_pay3; pointwise
theorem pay4_at (x : FVec Ideal S704x1024 .f32) (l : Fin 704) (k : Fin 1024) : k0_pay4 (F := Ideal) x (ix3 0 l k) = x (ix2 l k) := by unfold k0_pay4; pointwise
theorem pay5_at (x : FVec Ideal S704x1024 .f32) (l : Fin 704) (k : Fin 1024) : k0_pay5 (F := Ideal) x (ix3 0 l k) = x (ix2 l k) := by unfold k0_pay5; pointwise

/-- What a last point of a slab leaves in the weights' blocks. -/
theorem last (n : ℕ) (hn : n < cfg0.N) (h3 : n % 4 = 3) (l : Fin 704) (k : Fin 1024) :
    ((outsAt0 m c n hn).1 : S1x704x1024.Idx → EReal) (ix3 0 l k) = ∑ R, term0 m c (col (slot ⟨n, hn⟩) l) k R
    ∧ ((outsAt0 m c n hn).2.1 : S1x704x1024.Idx → EReal) (ix3 0 l k) = ∑ R, term1 m c (col (slot ⟨n, hn⟩) l) k R
    ∧ ((outsAt0 m c n hn).2.2.1 : S1x704x1024.Idx → EReal) (ix3 0 l k) = ∑ R, term2 m c (col (slot ⟨n, hn⟩) l) k R := by
  have h0 : ¬n % 4 = 0 := by omega
  have p := carried m c (n - 1) (by omega) (by omega) l k
  rw [show slot ⟨n - 1, by omega⟩ = slot ⟨n, hn⟩ from Fin.ext (by show (n - 1) / 4 = n / 4; omega)] at p
  have u : ∀ f : Fin 4096 → EReal, upto f (n - 1) + part f (n % 4) = ∑ R, f R := fun f => by
    rw [← upto_succ f h0, ← parts_eq f]; unfold upto; rw [h3]
  obtain ⟨-, -, e0, e1, e2⟩ := outs_C m c ⟨n, hn⟩ h0 h3
  refine ⟨(congrFun e0 _).trans ((pay3_at _ l k).trans ?_), (congrFun e1 _).trans ((pay4_at _ l k).trans ?_), (congrFun e2 _).trans ((pay5_at _ l k).trans ?_)⟩
  · exact (adds_0 m c ⟨n, hn⟩ _ l k).trans ((congrArg (· + _) p.1).trans (u _))
  · exact (adds_1 m c ⟨n, hn⟩ _ l k).trans ((congrArg (· + _) p.2.1).trans (u _))
  · exact (adds_2 m c ⟨n, hn⟩ _ l k).trans ((congrArg (· + _) p.2.2).trans (u _))

/-- The two cotangents' blocks at any point. -/
theorem cotangents : (outsAt0 m c t.val t.isLt).2.2.2.1 = dGate (F := Ideal) (iblk m c 0 t) (iblk m c 2 t) (iblk m c 3 t) (iblk m c 4 t)
    ∧ (outsAt0 m c t.val t.isLt).2.2.2.2.1 = dUp (F := Ideal) (iblk m c 0 t) (iblk m c 2 t) (iblk m c 4 t) := by
  by_cases h3 : t.val % 4 = 3
  · obtain ⟨e, e', -⟩ := outs_C m c t (by omega) h3; exact ⟨e, e'⟩
  by_cases h0 : t.val % 4 = 0
  · obtain ⟨e, e', -⟩ := outs_A m c t h0 h3; exact ⟨e, e'⟩
  · obtain ⟨e, e', -⟩ := outs_B m c t h0 h3; exact ⟨e, e'⟩

/-! ## The arrays at the end -/

theorem run_lt {n : ℕ} (h : n < 16) : n < cfg0.N := by rw [show cfg0.N = 16 from N_0]; exact h

abbrev fin5 : S4x704x1024.Idx → EReal := (dats m 0 c).arrAt 5 cfg0.N
abbrev fin6 : S4x704x1024.Idx → EReal := (dats m 0 c).arrAt 6 cfg0.N
abbrev fin7 : S4x704x1024.Idx → EReal := (dats m 0 c).arrAt 7 cfg0.N
abbrev fin8 : S4x4096x704.Idx → EReal := (dats m 0 c).arrAt 8 cfg0.N
abbrev fin9 : S4x4096x704.Idx → EReal := (dats m 0 c).arrAt 9 cfg0.N

theorem whole (p : Fin 4) (l : Fin 704) (k : Fin 1024) :
    (fun a => match a with | ⟨0, _⟩ => ⟨p.val % 1, Nat.mod_lt _ (by decide)⟩ | ⟨1, _⟩ => ⟨l.val % 704, Nat.mod_lt _ (by decide)⟩ | ⟨2, _⟩ => ⟨k.val % 1024, Nat.mod_lt _ (by decide)⟩ : S1x704x1024.Idx)
      = ix3 0 l k :=
  ext3 (Nat.mod_one _) (Nat.mod_eq_of_lt l.isLt) (Nat.mod_eq_of_lt k.isLt)

theorem fin5_at (p : Fin 4) (l : Fin 704) (k : Fin 1024) : fin5 m c (ix3 p l k) = ∑ R, term0 m c (col p l) k R := by
  have hp : Value.pt5Of (ix3 p l k : S4x704x1024.Idx) = 4 * p.val + 3 := by
    show 4 * (1 * (p.val / 1 - 0) + 1 * (l.val / 704 - 0) + 1 * (k.val / 1024 - 0)) + 3 = _; omega
  have hn : Value.pt5Of (ix3 p l k : S4x704x1024.Idx) < cfg0.N := run_lt (by rw [hp]; omega)
  refine (congrFun (Value.final5 m c) (ix3 p l k)).trans ?_
  unfold Value.G5
  rw [dif_pos hn, ← Value.outsAt0_sweep m c _ hn]
  refine (congrArg _ (whole p l k)).trans ((last m c _ hn (by rw [hp]; omega) l k).1.trans ?_)
  rw [show slot ⟨_, hn⟩ = p from Fin.ext (by show Value.pt5Of (ix3 p l k : S4x704x1024.Idx) / 4 = _; rw [hp]; omega)]

theorem fin6_at (p : Fin 4) (l : Fin 704) (k : Fin 1024) : fin6 m c (ix3 p l k) = ∑ R, term1 m c (col p l) k R := by
  have hp : Value.pt6Of (ix3 p l k : S4x704x1024.Idx) = 4 * p.val + 3 := by
    show 4 * (1 * (p.val / 1 - 0) + 1 * (l.val / 704 - 0) + 1 * (k.val / 1024 - 0)) + 3 = _; omega
  have hn : Value.pt6Of (ix3 p l k : S4x704x1024.Idx) < cfg0.N := run_lt (by rw [hp]; omega)
  refine (congrFun (Value.final6 m c) (ix3 p l k)).trans ?_
  unfold Value.G6
  rw [dif_pos hn, ← Value.outsAt0_sweep m c _ hn]
  refine (congrArg _ (whole p l k)).trans ((last m c _ hn (by rw [hp]; omega) l k).2.1.trans ?_)
  rw [show slot ⟨_, hn⟩ = p from Fin.ext (by show Value.pt6Of (ix3 p l k : S4x704x1024.Idx) / 4 = _; rw [hp]; omega)]

theorem fin7_at (p : Fin 4) (l : Fin 704) (k : Fin 1024) : fin7 m c (ix3 p l k) = ∑ R, term2 m c (col p l) k R := by
  have hp : Value.pt7Of (ix3 p l k : S4x704x1024.Idx) = 4 * p.val + 3 := by
    show 4 * (1 * (p.val / 1 - 0) + 1 * (l.val / 704 - 0) + 1 * (k.val / 1024 - 0)) + 3 = _; omega
  have hn : Value.pt7Of (ix3 p l k : S4x704x1024.Idx) < cfg0.N := run_lt (by rw [hp]; omega)
  refine (congrFun (Value.final7 m c) (ix3 p l k)).trans ?_
  unfold Value.G7
  rw [dif_pos hn, ← Value.outsAt0_sweep m c _ hn]
  refine (congrArg _ (whole p l k)).trans ((last m c _ hn (by rw [hp]; omega) l k).2.2.trans ?_)
  rw [show slot ⟨_, hn⟩ = p from Fin.ext (by show Value.pt7Of (ix3 p l k : S4x704x1024.Idx) / 4 = _; rw [hp]; omega)]

theorem fin8_at (p : Fin 4) (R : Fin 4096) (l : Fin 704) : fin8 m c (ix3 p R l) = aDG m c R (col p l) := by
  have hp : Value.pt8Of (ix3 p R l : S4x4096x704.Idx) = 4 * p.val + R.val / 1024 := by
    show 4 * (p.val / 1 - 0) + 1 * (R.val / 1024 - 0) + 1 * (l.val / 704 - 0) = _; omega
  have hn : Value.pt8Of (ix3 p R l : S4x4096x704.Idx) < cfg0.N := run_lt (by rw [hp]; omega)
  refine (congrFun (Value.final8 m c) (ix3 p R l)).trans ?_
  unfold Value.G8
  rw [dif_pos hn, ← Value.outsAt0_sweep m c _ hn]
  refine (congrFun (cotangents m c ⟨_, hn⟩).1 _).trans ((congrArg _ (ext3 (a := 0) (b := ⟨R.val % 1024, by omega⟩) (d := l) (Nat.mod_one _) rfl (Nat.mod_eq_of_lt l.isLt))).trans ?_)
  rw [dGate_eq]
  congr 1
  · exact Fin.ext (by show Value.pt8Of (ix3 p R l : S4x4096x704.Idx) % 4 * 1024 + R.val % 1024 = R.val; rw [hp]; omega)
  · exact congrArg (col · l) (Fin.ext (by show Value.pt8Of (ix3 p R l : S4x4096x704.Idx) / 4 = p.val; rw [hp]; omega))

theorem fin9_at (p : Fin 4) (R : Fin 4096) (l : Fin 704) : fin9 m c (ix3 p R l) = aDU m c R (col p l) := by
  have hp : Value.pt9Of (ix3 p R l : S4x4096x704.Idx) = 4 * p.val + R.val / 1024 := by
    show 4 * (p.val / 1 - 0) + 1 * (R.val / 1024 - 0) + 1 * (l.val / 704 - 0) = _; omega
  have hn : Value.pt9Of (ix3 p R l : S4x4096x704.Idx) < cfg0.N := run_lt (by rw [hp]; omega)
  refine (congrFun (Value.final9 m c) (ix3 p R l)).trans ?_
  unfold Value.G9
  rw [dif_pos hn, ← Value.outsAt0_sweep m c _ hn]
  refine (congrFun (cotangents m c ⟨_, hn⟩).2 _).trans ((congrArg _ (ext3 (a := 0) (b := ⟨R.val % 1024, by omega⟩) (d := l) (Nat.mod_one _) rfl (Nat.mod_eq_of_lt l.isLt))).trans ?_)
  rw [dUp_eq]
  congr 1
  · exact Fin.ext (by show Value.pt9Of (ix3 p R l : S4x4096x704.Idx) % 4 * 1024 + R.val % 1024 = R.val; rw [hp]; omega)
  · exact congrArg (col · l) (Fin.ext (by show Value.pt9Of (ix3 p R l : S4x4096x704.Idx) / 4 = p.val; rw [hp]; omega))

end Cert.Ffn

end
-- ==== Proof.Ffn.lean ====
/-
  The gated hidden layer's backward call against the derivative of the layer's own lines.
-/
module

public import proofs.«01_k».proof.Defs
public import proofs.«01_k».proof.Proof.FfnRun
public import proofs.«01_k».proof.Proof.Gen.KFfn.Frame
public import proofs.«01_k».proof.Proof.Gen.RFfnIdeal.Run
public import proofs.«01_k».proof.Proof.Gen.Pre_finite_ffn

@[expose] public section

set_option maxRecDepth 16384

noncomputable section

/-! ## The reference -/

namespace Cert.Ffn.Ref

open Idealize.ShloMosaic Idealize.ShloMosaic.TcCoe Idealize.ShloMosaic.Tactic Cert.Common Cert.Norm
open Cert.RFfnIdeal Cert.RFfnIdeal.Gen

section
variable {F : FTy → Type} [FloatOps F]
variable (x : FVec F S4096x1024 .f32) (g : FVec F S1x1024 .f32) (w wg wu : FVec F S1024x2816 .f32) (wd : FVec F S2816x1024 .f32) (d : FVec F S4096x1024 .f32)

/-- The normed input and a projection of it. -/
def nR : FVec F S4096x1024 .f32 :=
  mulf (mulf x (broadcastInDim S4096x1024 ![0, 1] bcast_S4096x1_S4096x1024_0_1 (Host.rsqrt
    (addf (Host.divf (broadcastInDim S4096x1 ![0] bcast_S4096_S4096x1_0 (Host.reduceAdd (mulf x x) (constant S_ .f32 0x00000000#32) reducesTo_S4096x1024_S4096_d1 h_S_))
      (broadcastInDim S4096x1 ![] bcast_S_S4096x1 (constant S_ .f32 0x44800000#32))) (broadcastInDim S4096x1 ![] bcast_S_S4096x1 (constant S_ .f32 0x358637BD#32))))))
    (broadcastInDim S4096x1024 ![0, 1] bcast_S1x1024_S4096x1024_0_1 g)
def pR : FVec F S4096x2816 .f32 := Host.dotGeneral dot_S4096x1024_S1024x2816_S4096x2816_1_0_0_1_n_n none (nR x g) w
/-- The halved cotangent, and its product with the outer weight. -/
def hR : FVec F S4096x1024 .f32 := mulf (broadcastInDim S4096x1024 ![] bcast_S_S4096x1024 (constant S_ .f32 0x3F000000#32)) d
def tR : FVec F S4096x2816 .f32 := Host.dotGeneral dot_S4096x1024_S2816x1024_S4096x2816_1_1_0_0_n_n none (hR d) wd
def oneR : FVec F S4096x2816 .f32 := broadcastInDim S4096x2816 ![] bcast_S_S4096x2816 (constant S_ .f32 0x3F800000#32)
def sR : FVec F S4096x2816 .f32 := Host.divf oneR (addf oneR (Host.exp (Host.negf (pR x g wg))))
/-- The cotangents of the two projections, and the hidden layer. -/
def dgR : FVec F S4096x2816 .f32 :=
  addf (mulf (mulf (tR wd d) (pR x g wu)) (sR x g wg)) (mulf (mulf (pR x g wg) (mulf (tR wd d) (pR x g wu))) (mulf (sR x g wg) (subf oneR (sR x g wg))))
def duR : FVec F S4096x2816 .f32 := mulf (mulf (pR x g wg) (sR x g wg)) (tR wd d)
def hidR : FVec F S4096x2816 .f32 := mulf (mulf (pR x g wg) (sR x g wg)) (pR x g wu)
/-- A cotangent in slabs, and a projection's gradient in slabs. -/
def slabR (y : FVec F S4096x2816 .f32) : FVec F S4x4096x704 .bf16 :=
  truncf .bf16 (transpose S4x4096x704 [1, 0, 2] (shapeCast _ y shapeCasts_S4096x2816_S4096x4x704) transposes_S4096x4x704_S4x4096x704_1_0_2) bitsLt_bf16_f32
def gradR (y : FVec F S4096x2816 .f32) : FVec F S4x704x1024 .bf16 :=
  truncf .bf16 (shapeCast _ (transpose S2816x1024 [1, 0] (transpose S1024x2816 [1, 0] (Host.dotGeneral dot_S4096x2816_S4096x1024_S2816x1024_0_0_1_1_n_n none y (nR x g))
    transposes_S2816x1024_S1024x2816_1_0) transposes_S1024x2816_S2816x1024_1_0) shapeCasts_S2816x1024_S4x704x1024) bitsLt_bf16_f32
def outerR (y : FVec F S4096x2816 .f32) : FVec F S4x704x1024 .bf16 :=
  truncf .bf16 (shapeCast _ (transpose S2816x1024 [1, 0] (Host.dotGeneral dot_S4096x1024_S4096x2816_S1024x2816_0_0_1_1_n_n none (hR d) y)
    transposes_S1024x2816_S2816x1024_1_0) shapeCasts_S2816x1024_S4x704x1024) bitsLt_bf16_f32

end

variable (x : FVec Ideal S4096x1024 .f32) (g : FVec Ideal S1x1024 .f32) (w wg wu : FVec Ideal S1024x2816 .f32) (wd : FVec Ideal S2816x1024 .f32) (d : FVec Ideal S4096x1024 .f32)
variable (R : Fin 4096) (L : Fin 2816)

theorem nR_at (k : Fin 1024) : nR x g (ix2 R k) = normed x g R k := by
  unfold nR
  pointwise
  rfl
theorem pR_at : pR x g w (ix2 R L) = pre x g w R L := by
  unfold pR
  pointwise [nR_at]
  rfl
theorem hR_at (k : Fin 1024) : hR d (ix2 R k) = half d R k := by
  unfold hR
  pointwise
  rfl
theorem tR_at : tR wd d (ix2 R L) = through d wd R L := by
  unfold tR
  pointwise [hR_at]
  rfl
theorem oneR_at : (oneR : FVec Ideal S4096x2816 .f32) (ix2 R L) = Ideal.ofBits .f32 0x3F800000#32 := by
  unfold oneR
  pointwise
theorem sR_at : sR x g wg (ix2 R L) = Ideal.logistic (pre x g wg R L) := by
  unfold sR
  pointwise [pR_at, oneR_at]
  rfl
theorem dgR_at : dgR x g wg wu wd d (ix2 R L) = gateR (pre x g wg R L) (pre x g wu R L) (through d wd R L) := by
  unfold dgR gateR
  pointwise [pR_at, oneR_at, tR_at, sR_at]
theorem duR_at : duR x g wg wd d (ix2 R L) = upK (pre x g wg R L) (through d wd R L) := by
  unfold duR upK
  pointwise [pR_at, tR_at, sR_at]
  exact mul_comm _ _
theorem hidR_at : hidR x g wg wu (ix2 R L) = hid (pre x g wg R L) (pre x g wu R L) := by
  unfold hidR hid
  pointwise [pR_at, sR_at]

variable (y : FVec Ideal S4096x2816 .f32) (p : Fin 4) (l : Fin 704) (k : Fin 1024)

theorem slabR_at : slabR y (ix3 p R l) = y (ix2 R (col p l)) := by
  unfold slabR
  pointwise
  rfl
theorem gradR_at : gradR x g y (ix3 p l k) = ∑ R, y (ix2 R (col p l)) * normed x g R k := by
  unfold gradR
  pointwise [nR_at]
  rfl
theorem outerR_at : outerR d y (ix3 p l k) = ∑ R, half d R k * y (ix2 R (col p l)) := by
  unfold outerR
  pointwise [hR_at]
  rfl

end Cert.Ffn.Ref

/-! ## The claims -/

namespace Cert.Ffn

open Idealize.ShloMosaic Idealize.ShloMosaic.TcCoe Idealize.SL.Sem Cert.Common Cert.Norm

theorem frame_k : Cert.quiescent_KFfn := fun m ρ _ => Cert.KFfn.Gen.frame m ρ

theorem frame_ki : Cert.quiescent_KFfnIdeal := fun m ρ _ => Cert.KFfnIdeal.Gen.frame m ρ

theorem frame_ki_pre : Cert.quiescent_KFfnIdeal_pre_finite_ffn := fun m ρ _ => Cert.KFfnIdeal.Gen.frame m ρ

theorem frame_r : Cert.quiescent_RFfnIdeal := fun m ρ _ =>
  (θ_run Cert.RFfnIdeal.defs _ _).mono (fun r h => ⟨fun c => (h c).2.2.2.2.2,
      Idealize.ShloMosaic.sem_eq_zero_of_no_sems (by decide) r.2⟩)
    (Cert.RFfnIdeal.Value.run (F := Ideal) m ρ)

theorem frame_r_pre : Cert.quiescent_RFfnIdeal_pre_finite_ffn := fun m ρ _ => frame_r m ρ trivial

section
open Cert.KFfnIdeal Cert.KFfnIdeal.Gen

theorem finite_read {x : FVec Ideal S4096x1024 .f32} {g : FVec Ideal S1x1024 .f32} {wg wu : FVec Ideal S1024x2816 .f32} {wd : FVec Ideal S2816x1024 .f32} {d : FVec Ideal S4096x1024 .f32}
    (h : Cert.Pre_finite_ffn.fn (F := Ideal) x g wg wu wd d = fun _ => 1#1) :
    (∀ i, g i = (((g i).toReal : ℝ) : EReal)) ∧ (∀ i, wu i = (((wu i).toReal : ℝ) : EReal)) ∧ (∀ i, wd i = (((wd i).toReal : ℝ) : EReal)) ∧ (∀ i, d i = (((d i).toReal : ℝ) : EReal)) := by
  have e := congrFun h fun a => a.elim0
  unfold Cert.Pre_finite_ffn.fn at e
  dsimp only at e
  obtain ⟨e, e3⟩ := IntOp.andi_eq_one.1 e
  obtain ⟨e, e2⟩ := IntOp.andi_eq_one.1 e
  obtain ⟨e0, e1⟩ := IntOp.andi_eq_one.1 e
  haveI : Subsingleton Cert.Pre_finite_ffn.S_.Idx := ⟨fun a b => funext fun i => i.elim0⟩
  exact ⟨real_of_finite g _ _ _ _ _ e0, real_of_finite wu _ _ _ _ _ e1, real_of_finite wd _ _ _ _ _ e2, real_of_finite d _ _ _ _ _ e3⟩

variable (m : (ℓ : Loc nD τ sig) → Buf (Elt Ideal) ℓ) (c : Dev nD)

/-- With the precondition the two forms of the gate's cotangent agree everywhere. -/
theorem forms (h : Cert.Pre_KFfnIdeal_finite_ffn m) (R : Fin 4096) (L : Fin 2816) :
    Ref.dgR (F := Ideal) (X m c) (Gn m c) (Wg m c) (Wu m c) (Wd m c) (Do m c) (ix2 R L) = aDG m c R L := by
  obtain ⟨hg, hu, hw, hd⟩ := finite_read (h c)
  obtain ⟨r, hr⟩ := back_real (x := X m c) (fun k => ⟨_, hg (ix2 0 k)⟩) (fun k L => ⟨_, hu (ix2 k L)⟩) (fun L k => ⟨_, hw (ix2 L k)⟩) (fun R k => ⟨_, hd (ix2 R k)⟩) R L
  rw [Ref.dgR_at]
  exact (gate_eq _ _ _ hr).symm

end

theorem algebraic : Cert.algebraic_KFfnIdeal_RFfnIdeal_pre_finite_ffn := by
  intro m g m' g' hpre hagree
  refine ⟨fin5 m, fin6 m, fin7 m, fin8 m, fin9 m,
    Cert.KFfnIdeal.Value.run_blocks m g,
    (θ_run Cert.RFfnIdeal.defs _ _).mono (fun r h c => ?_) (Cert.RFfnIdeal.Value.run m' g')⟩
  obtain ⟨a0, a1, a2, a3, a4, a5⟩ := hagree c
  have hf := forms m c hpre
  refine ⟨(h c).1.trans (funext fun i => ?_), (h c).2.1.trans (funext fun i => ?_), (h c).2.2.1.trans (funext fun i => ?_),
    (h c).2.2.2.1.trans (funext fun i => ?_), (h c).2.2.2.2.1.trans (funext fun i => ?_), (h c).2.2.2.2.2⟩
  · obtain ⟨p, l, k, rfl⟩ : ∃ (p : Fin 4) (l : Fin 704) (k : Fin 1024), i = ix3 p l k := ⟨_, _, _, eq_ix3 i⟩
    unfold Cert.RFfnIdeal.Value.res_main_v33
    rw [a0, a1, a2, a3, a4, a5]
    refine (Ref.gradR_at (X m c) (Gn m c) (Ref.dgR (F := Ideal) (X m c) (Gn m c) (Wg m c) (Wu m c) (Wd m c) (Do m c)) p l k).trans ((Finset.sum_congr rfl fun R _ => ?_).trans (fin5_at m c p l k).symm)
    rw [hf]; rfl
  · obtain ⟨p, l, k, rfl⟩ : ∃ (p : Fin 4) (l : Fin 704) (k : Fin 1024), i = ix3 p l k := ⟨_, _, _, eq_ix3 i⟩
    rw [a0, a1, a2, a4, a5]
    refine (Ref.gradR_at (X m c) (Gn m c) (Ref.duR (F := Ideal) (X m c) (Gn m c) (Wg m c) (Wd m c) (Do m c)) p l k).trans ((Finset.sum_congr rfl fun R _ => ?_).trans (fin6_at m c p l k).symm)
    rw [Ref.duR_at]; rfl
  · obtain ⟨p, l, k, rfl⟩ : ∃ (p : Fin 4) (l : Fin 704) (k : Fin 1024), i = ix3 p l k := ⟨_, _, _, eq_ix3 i⟩
    rw [a0, a1, a2, a3, a5]
    refine (Ref.outerR_at (Do m c) (Ref.hidR (F := Ideal) (X m c) (Gn m c) (Wg m c) (Wu m c)) p l k).trans ((Finset.sum_congr rfl fun R _ => ?_).trans (fin7_at m c p l k).symm)
    rw [Ref.hidR_at]; exact mul_comm _ _
  · obtain ⟨p, R, l, rfl⟩ : ∃ (p : Fin 4) (R : Fin 4096) (l : Fin 704), i = ix3 p R l := ⟨_, _, _, eq_ix3 i⟩
    unfold Cert.RFfnIdeal.Value.res_main_v41
    rw [a0, a1, a2, a3, a4, a5]
    exact (Ref.slabR_at R (Ref.dgR (F := Ideal) (X m c) (Gn m c) (Wg m c) (Wu m c) (Wd m c) (Do m c)) p l).trans ((hf R (col p l)).trans (fin8_at m c p R l).symm)
  · obtain ⟨p, R, l, rfl⟩ : ∃ (p : Fin 4) (R : Fin 4096) (l : Fin 704), i = ix3 p R l := ⟨_, _, _, eq_ix3 i⟩
    rw [a0, a1, a2, a4, a5]
    exact (Ref.slabR_at R (Ref.duR (F := Ideal) (X m c) (Gn m c) (Wg m c) (Wd m c) (Do m c)) p l).trans ((Ref.duR_at ..).trans (fin9_at m c p R l).symm)

end Cert.Ffn

end
-- ==== Proof.DoPrep.lean ====
/-
  The gradient of the attention's output, a head's columns each, with minus its product with the output in column 64: the
  kernel's run, the derivative's run, and their equality. Columns 65 and 66 hold what rounding leaves of that product.
-/
module

public import proofs.«01_k».proof.Defs
public import proofs.«01_k».proof.Proof.FwdRef
public import Idealize.ShloMosaic.Lib.StableHlo.ReadAt
public import Idealize.ShloMosaic.Lib.Pipeline.ValueKit.Tiles
public import proofs.«01_k».proof.Proof.Gen.KDoPrep.Frame
public import proofs.«01_k».proof.Proof.Gen.KDoPrepIdeal.Value
public import proofs.«01_k».proof.Proof.Gen.RDoPrepIdeal.Run
public import proofs.«01_k».proof.Proof.Gen.On_columns_prep

@[expose] public section

set_option maxRecDepth 16384

noncomputable section

namespace Cert.DoPrep

open Idealize.ShloMosaic Idealize.ShloMosaic.TcCoe Idealize.ShloMosaic.Tactic Idealize.SL.Sem Cert.Common
open Cert.FoxBwd (cmp_slt cmp_eq select_ofBool idx_ext3)
open Cert.FoxBwd.Ref (heads scores weights padded padded_at)
open Cert.KDoPrepIdeal Cert.KDoPrepIdeal.Gen

/-- A row's 128 columns: the gradient's 64, minus its product with the output, and zeros. -/
def prep (d o : Fin 64 → EReal) (l : Fin 128) : EReal := if h : l.val < 64 then d ⟨l.val, h⟩ else if l.val = 64 then -∑ x, d x * o x else 0

/-! ## The body's lanes -/

/-- The product over all 128 lanes is the one over the first 64: the others hold zeros. -/
theorem sum_lanes {d o : Fin 64 → EReal} {x y : Fin 128 → EReal} (hx : ∀ l (h : l.val < 64), x l = d ⟨l.val, h⟩)
    (hy : ∀ l, y l = if h : l.val < 64 then o ⟨l.val, h⟩ else 0) :
    ∑ l : Fin 128, Scalar.select (IntOp.cmpi .slt (BitVec.ofNat 32 l.val) 64#32) (x l * y l) 0 = ∑ i : Fin 64, d i * o i := by
  rw [show (∑ i : Fin 64, d i * o i) = ∑ i : Fin 64, if h : i.val < 64 then d ⟨i.val, h⟩ * o ⟨i.val, h⟩ else 0 from
      Finset.sum_congr rfl fun i _ => by rw [dif_pos i.isLt],
    Fin.sum_univ_eq_sum_range (fun n => if h : n < 64 then d ⟨n, h⟩ * o ⟨n, h⟩ else 0) 64,
    Finset.sum_subset (Finset.range_subset_range.2 (show 64 ≤ 128 by norm_num)) (fun n _ hn => dif_neg (by simpa using hn)),
    ← Fin.sum_univ_eq_sum_range (fun n => if h : n < 64 then d ⟨n, h⟩ * o ⟨n, h⟩ else 0) 128]
  refine Finset.sum_congr rfl fun l _ => ?_
  rw [cmp_slt (by omega) (by omega), select_ofBool, hy]
  by_cases h : l.val < 64
  · rw [if_pos h, dif_pos h, dif_pos h, hx l h]
  · rw [if_neg h, dif_neg h]

/-- The selections of the lanes, outside the two that are left out. -/
theorem lanes {d o : Fin 64 → EReal} (l : Fin 128) {x s p2 p3 : EReal} (hl : l.val < 65 ∨ 66 < l.val) (hx : ∀ h : l.val < 64, x = d ⟨l.val, h⟩)
    (hs : s = ∑ i : Fin 64, d i * o i) :
    Scalar.select (IntOp.cmpi .slt (BitVec.ofNat 32 l.val) 64#32) (Scalar.select (IntOp.cmpi .slt (BitVec.ofNat 32 l.val) 64#32) x 0)
      (Scalar.select (IntOp.cmpi .eq (BitVec.ofNat 32 l.val) 66#32) p3 (Scalar.select (IntOp.cmpi .eq (BitVec.ofNat 32 l.val) 65#32) p2
        (Scalar.select (IntOp.cmpi .eq (BitVec.ofNat 32 l.val) 64#32) (0 - s) 0))) = prep d o l := by
  have := l.isLt
  rw [cmp_slt (by omega) (by omega), cmp_eq (by omega) (by omega), cmp_eq (by omega) (by omega), cmp_eq (by omega) (by omega)]
  simp only [select_ofBool]
  rw [if_neg (show ¬l.val = 66 by omega), if_neg (show ¬l.val = 65 by omega), hs, zero_sub]
  unfold prep
  by_cases h : l.val < 64
  · rw [if_pos h, if_pos h, dif_pos h, hx h]
  · rw [if_neg h, dif_neg h]

/-- Columns turned half way round. -/
theorem turned_at (x : FVec Ideal S2048x128 .f32) (r : Fin 2048) (l : Fin 128) :
    dynamicRotate 1 64#32 none x rotates_S2048x128_d1 (ix2 r l) = x (ix2 r ⟨(l.val + 64) % 128, Nat.mod_lt _ (by norm_num)⟩) := by
  unfold dynamicRotate
  refine congrArg x (Shape.idx_ext₂ rfl ?_)
  show (l.val + 128 - (64 + 0) % 128) % 128 = (l.val + 64) % 128
  omega

section Point
variable {d o : Fin 64 → EReal} {x0 : Vec Ideal S2048x128 .f32} {xo : Vec Ideal S1x2048x128 .bf16} {r : Fin 2048} {l : Fin 128}
  (hl : l.val < 65 ∨ 66 < l.val) (ho : ∀ l, xo (ix3 0 r l) = if h : l.val < 64 then o ⟨l.val, h⟩ else 0)
include hl ho

theorem first_at (hd : ∀ l (h : l.val < 64), x0 (ix2 r l) = d ⟨l.val, h⟩) : k0_pay4 (k0_pay3 x0 xo) (ix3 0 r l) = prep d o l := by
  unfold_payloads
  pointwise
  exact lanes l hl (fun h => hd l h) (sum_lanes (fun l h => hd l h) ho)

theorem second_at (hd : ∀ l : Fin 64, x0 (ix2 r ⟨64 + l.val, by omega⟩) = d l) :
    k0_pay1 (k0_pay5 (iota .tc S2048x128 32 [1] iota_S2048x128_d1_w32) k0_pay2 x0 xo) (ix3 0 r l) = prep d o l := by
  have e : ∀ l : Fin 128, (h : l.val < 64) → x0 (ix2 r ⟨(l.val + 64) % 128, Nat.mod_lt _ (by norm_num)⟩) = d ⟨l.val, h⟩ := fun l h =>
    (congrArg x0 (congrArg (ix2 r) (Fin.ext (by show (l.val + 64) % 128 = 64 + l.val; omega)))).trans (hd ⟨l.val, h⟩)
  unfold_payloads
  pointwise [turned_at]
  exact lanes l hl (fun h => e l h) (sum_lanes (fun l h => e l h) ho)

end Point

/-! ## The two heads a point writes -/

section Heads
variable (x0 : Vec Ideal S2048x128 .f32) (x1 : Vec Ideal S2x2048x128 .bf16)

def pieceOf (a : Fin 2) : FVec Ideal S1x2048x128 .bf16 :=
  if a.val = 0 then k0_pay4 (k0_pay3 (View.ld x0 r0_0) (View.ld x1 r0_1))
  else k0_pay1 (k0_pay5 (iota .tc S2048x128 32 [1] iota_S2048x128_d1_w32) k0_pay2 (View.ld x0 r0_0) (View.ld x1 r0_2))

theorem same {r r' : Fin 2048} {l l' : Fin 128} {a' : Fin 2} (a : Fin 2) (ha : a'.val = a.val) (hr : r'.val = r.val) (hl : l'.val = l.val) :
    pieceOf x0 x1 a (ix3 0 r l) = pieceOf x0 x1 a' (ix3 0 r' l') := by
  rw [Fin.ext ha, Fin.ext hr, Fin.ext hl]

theorem out_pieces (a : Fin 2) (r : Fin 2048) (l : Fin 128) : out0_2 x0 x1 (ix3 a r l) = pieceOf x0 x1 a (ix3 0 r l) := by
  unfold out0_2
  refine View.canon_apply_of_pieces (Val := Elt Ideal) (e := .bf16) (fun i : S2x2048x128.Idx => pieceOf x0 x1 (i 0) (ix3 0 (i 1) (i 2))) _ ?_ _ ?_
  · intro p hp
    simp only [List.mem_cons, List.not_mem_nil, or_false] at hp
    rcases hp with rfl | rfl
    · intro x
      obtain ⟨z, r, l, rfl⟩ : ∃ (z : Fin 1) (r : Fin 2048) (l : Fin 128), x = ix3 z r l := ⟨_, _, _, eq_ix3 x⟩
      obtain rfl : z = 0 := Subsingleton.elim _ _
      exact same _ _ 1 (by show 1 + 1 * 0 = 1; omega) (by show 0 + 1 * r.val = r.val; omega) (by show 0 + 1 * l.val = l.val; omega)
    · intro x
      obtain ⟨z, r, l, rfl⟩ : ∃ (z : Fin 1) (r : Fin 2048) (l : Fin 128), x = ix3 z r l := ⟨_, _, _, eq_ix3 x⟩
      obtain rfl : z = 0 := Subsingleton.elim _ _
      exact same _ _ 0 (by show 0 + 1 * 0 = 0; omega) (by show 0 + 1 * r.val = r.val; omega) (by show 0 + 1 * l.val = l.val; omega)
  · have := a.isLt
    by_cases h : a.val = 0
    · refine ⟨_, List.mem_cons_of_mem _ (List.mem_singleton_self _), (Rect.mem_set_unit (inb := inb_S2x2048x128_S1x2048x128_0_0_0)).2 fun b => ?_⟩
      match b with
      | ⟨0, _⟩ => show 0 ≤ a.val ∧ a.val < 0 + 1; omega
      | ⟨1, _⟩ => show 0 ≤ r.val ∧ r.val < 0 + 2048; omega
      | ⟨2, _⟩ => show 0 ≤ l.val ∧ l.val < 0 + 128; omega
    · refine ⟨_, List.mem_cons_self .., (Rect.mem_set_unit (inb := inb_S2x2048x128_S1x2048x128_1_0_0)).2 fun b => ?_⟩
      match b with
      | ⟨0, _⟩ => show 1 ≤ a.val ∧ a.val < 1 + 1; omega
      | ⟨1, _⟩ => show 0 ≤ r.val ∧ r.val < 0 + 2048; omega
      | ⟨2, _⟩ => show 0 ≤ l.val ∧ l.val < 0 + 128; omega

variable {x0 x1} {d o : Fin 64 → EReal} {a : Fin 2} {r : Fin 2048} {l : Fin 128} (hl : l.val < 65 ∨ 66 < l.val)
  (hd : ∀ l : Fin 64, x0 (ix2 r ⟨a.val * 64 + l.val, by omega⟩) = d l) (ho : ∀ l, x1 (ix3 a r l) = if h : l.val < 64 then o ⟨l.val, h⟩ else 0)
include hl hd ho

theorem out_at : out0_2 x0 x1 (ix3 a r l) = prep d o l := by
  rw [out_pieces]
  unfold pieceOf r0_0 r0_1 r0_2
  rw [View.ld_unit_zero (S := S2048x128) hz2]
  obtain rfl | rfl : a = 0 ∨ a = 1 := by omega
  · refine (first_at hl (fun l => Eq.trans ?_ (ho l)) fun l h => ?_)
    · exact View.ld_unit_apply_of _ _ _ _ _ _ (fun a => match a with | ⟨0, _⟩ => rfl | ⟨1, _⟩ => (Nat.zero_add _).symm | ⟨2, _⟩ => (Nat.zero_add _).symm)
    · rw [← hd ⟨l.val, h⟩]; exact congrArg x0 (congrArg (ix2 r) (Fin.ext (by show l.val = 0 * 64 + l.val; omega)))
  · refine (second_at hl (fun l => Eq.trans ?_ (ho l)) fun l => ?_)
    · exact View.ld_unit_apply_of _ _ _ _ _ _ (fun a => match a with | ⟨0, _⟩ => rfl | ⟨1, _⟩ => (Nat.zero_add _).symm | ⟨2, _⟩ => (Nat.zero_add _).symm)
    · rw [← hd l]; exact congrArg x0 (congrArg (ix2 r) (Fin.ext (by show 64 + l.val = 1 * 64 + l.val; omega)))

end Heads

/-! ## The arrays and their blocks -/

variable (m : (ℓ : Loc nD τ sig) → Buf (Elt Ideal) ℓ) (c : Dev nD)

/-- The attention's output by heads, as the forward lines leave it, and the layer's gradient. -/
def outputs (q k v : S4096x512.Idx → EReal) (cum : S4096x8.Idx → EReal) : FVec Ideal Cert.RFoxBwdIdeal.S8x4096x64 .f32 :=
  Cert.FoxF.Ref.mean (weights (scores (heads q) (heads k) cum)) (heads v)
abbrev attended : FVec Ideal Cert.RFoxBwdIdeal.S8x4096x64 .f32 :=
  outputs (m ((c.tc : Thread nD τ).loc main_arg0)) (m ((c.tc : Thread nD τ).loc main_arg1)) (m ((c.tc : Thread nD τ).loc main_arg2))
    (m ((c.tc : Thread nD τ).loc main_arg3))
abbrev cotangents : S4096x1024.Idx → EReal := m ((c.tc : Thread nD τ).loc main_arg4)

/-- A head's row of each. -/
def outRow (x : FVec Ideal Cert.RFoxBwdIdeal.S8x4096x64 .f32) (h : Fin 8) (r : Fin 4096) (d : Fin 64) : EReal := x (ix3 h r d)
def cotRow (x : S4096x1024.Idx → EReal) (h : Fin 8) (r : Fin 4096) (d : Fin 64) : EReal := x (ix2 r ⟨512 + (h.val * 64 + d.val), by omega⟩)

theorem o_eq : (V m c main_v37 : S8x4096x128.Idx → EReal) = truncf (F := Ideal) .bf16 (padded (attended m c)) (by decide) := by
  unfold V
  after_reads_simp
  simp -implicitDefEqProofs only [StableHlo.TRef.toBuf, StableHlo.TRef.ofBuf, cast_cast, cast_eq]
  rfl

theorem o_at (h : Fin 8) (r : Fin 4096) (l : Fin 128) : (V m c main_v37 : S8x4096x128.Idx → EReal) (ix3 h r l)
    = if hl : l.val < 64 then outRow (attended m c) h r ⟨l.val, hl⟩ else 0 :=
  (congrFun (o_eq m c) _).trans (padded_at (attended m c) h r l)

theorem places : ∀ t : Fin cfg0.N,
    (∀ a : Fin 2, win0_0.index t a = ![t.val % 2, 4 + t.val / 2] a) ∧ (∀ a : Fin 3, win0_1.index t a = ![t.val / 2, t.val % 2, 0] a)
    ∧ (∀ a : Fin 3, win0_2.index t a = ![t.val / 2, t.val % 2, 0] a) :=
  (by decide +kernel : ∀ t : Fin grid0.N,
    (∀ a : Fin 2, win0_0.index t a = ![t.val % 2, 4 + t.val / 2] a) ∧ (∀ a : Fin 3, win0_1.index t a = ![t.val / 2, t.val % 2, 0] a)
    ∧ (∀ a : Fin 3, win0_2.index t a = ![t.val / 2, t.val % 2, 0] a))

/-- The heads of a point and the rows of its tile. -/
def headOf (t : Fin cfg0.N) (a : Fin 2) : Fin 8 := ⟨t.val / 2 * 2 + a.val, by have := lt_of_lt_of_eq t.isLt (show cfg0.N = 8 from N_0); omega⟩
def tileRow (t : Fin cfg0.N) (r : Fin 2048) : Fin 4096 := ⟨t.val % 2 * 2048 + r.val, by omega⟩

theorem block_0 (t : Fin cfg0.N) (r : Fin 2048) (a : Fin 2) (l : Fin 64) :
    (iblk m c 0 t : S2048x128.Idx → EReal) (ix2 r ⟨a.val * 64 + l.val, by omega⟩) = cotRow (cotangents m c) (headOf t a) (tileRow t r) l := by
  unfold iblk
  rw [View.read_apply]
  show (V m c main_arg4 : S4096x1024.Idx → EReal) _ = _
  rw [V_main_arg4]
  refine congrArg (cotangents m c) (Shape.idx_ext₂ ?_ ?_)
  · show win0_0.index t 0 * 2048 + 1 * r.val = t.val % 2 * 2048 + r.val; rw [(places t).1 0]; show t.val % 2 * 2048 + 1 * r.val = _; omega
  · show win0_0.index t 1 * 128 + 1 * (a.val * 64 + l.val) = 512 + ((t.val / 2 * 2 + a.val) * 64 + l.val)
    rw [(places t).1 1]; show (4 + t.val / 2) * 128 + 1 * (a.val * 64 + l.val) = _; omega

theorem block_1 (t : Fin cfg0.N) (a : Fin 2) (r : Fin 2048) (l : Fin 128) :
    (iblk m c 1 t : S2x2048x128.Idx → EReal) (ix3 a r l) = (V m c main_v37 : S8x4096x128.Idx → EReal) (ix3 (headOf t a) (tileRow t r) l) := by
  unfold iblk
  rw [View.read_apply]
  show (V m c main_v37 : S8x4096x128.Idx → EReal) _ = _
  refine congrArg (V m c main_v37 : S8x4096x128.Idx → EReal) (idx_ext3 ?_ ?_ ?_)
  · show win0_1.index t 0 * 2 + 1 * a.val = t.val / 2 * 2 + a.val; rw [(places t).2.1 0]; show t.val / 2 * 2 + 1 * a.val = _; omega
  · show win0_1.index t 1 * 2048 + 1 * r.val = t.val % 2 * 2048 + r.val; rw [(places t).2.1 1]; show t.val % 2 * 2048 + 1 * r.val = _; omega
  · show win0_1.index t 2 * 128 + 1 * l.val = l.val; rw [(places t).2.1 2]; show 0 * 128 + 1 * l.val = _; omega

/-- The final array. -/
abbrev final : S8x4096x128.Idx → EReal := (dats m 0 c).arrAt 2 cfg0.N

theorem final_at (h : Fin 8) (R : Fin 4096) (l : Fin 128) (hl : l.val < 65 ∨ 66 < l.val) :
    final m c (ix3 h R l) = prep (cotRow (cotangents m c) h R) (outRow (attended m c) h R) l := by
  obtain ⟨t, a, r, rfl, rfl⟩ : ∃ (t : Fin cfg0.N) (a : Fin 2) (r : Fin 2048), headOf t a = h ∧ tileRow t r = R :=
    ⟨⟨h.val / 2 * 2 + R.val / 2048, by rw [show cfg0.N = 8 from N_0]; omega⟩, ⟨h.val % 2, by omega⟩, ⟨R.val % 2048, by omega⟩,
      Fin.ext (by show (h.val / 2 * 2 + R.val / 2048) / 2 * 2 + h.val % 2 = h.val; omega),
      Fin.ext (by show (h.val / 2 * 2 + R.val / 2048) % 2 * 2048 + R.val % 2048 = R.val; omega)⟩
  have e := congrFun ((Value.blocks2 m c t (flush0_2 t)).trans (Value.flushed2 m c t)) (ix3 a r l)
  rw [View.read_apply, show ((cfg0.win 2).blk t).view.emb (ix3 a r l) = (ix3 (headOf t a) (tileRow t r) l : S8x4096x128.Idx) from idx_ext3
    (by show win0_2.index t 0 * 2 + 1 * a.val = t.val / 2 * 2 + a.val; rw [(places t).2.2 0]; show t.val / 2 * 2 + 1 * a.val = _; omega)
    (by show win0_2.index t 1 * 2048 + 1 * r.val = t.val % 2 * 2048 + r.val; rw [(places t).2.2 1]; show t.val % 2 * 2048 + 1 * r.val = _; omega)
    (by show win0_2.index t 2 * 128 + 1 * l.val = l.val; rw [(places t).2.2 2]; show 0 * 128 + 1 * l.val = _; omega)] at e
  exact e.trans (out_at hl (fun l => block_0 m c t r a l) fun l => (block_1 m c t a r l).trans (o_at m c _ _ l))

/-! ## The reference -/

namespace Ref

open Cert.FoxBwd.Ref

def gradient (x : FVec Ideal Cert.RDoPrepIdeal.S4096x1024 .f32) : FVec Ideal Cert.RFoxBwdIdeal.S8x4096x64 .f32 :=
  heads (extractStridedSlice Cert.RDoPrepIdeal.S4096x512 ![0, 512] x Cert.RDoPrepIdeal.Gen.slices_S4096x1024_S4096x512_0_512)

def product (d o : FVec Ideal Cert.RFoxBwdIdeal.S8x4096x64 .f32) : FVec Ideal Cert.RFoxBwdIdeal.S8x4096 .f32 :=
  Host.reduceAdd (mulf d o) (constant Cert.RDoPrepIdeal.S_ .f32 0x00000000#32) Cert.RDoPrepIdeal.Gen.reducesTo_S8x4096x64_S8x4096_d2 Cert.RDoPrepIdeal.Gen.h_S_

def result (d o : FVec Ideal Cert.RFoxBwdIdeal.S8x4096x64 .f32) : FVec Ideal Cert.RFoxBwdIdeal.S8x4096x128 .bf16 :=
  truncf .bf16 (onLane 64#32 (Host.negf (column (product d o))) (padded d)) (by decide)

theorem gradient_at (x) (h : Fin 8) (r : Fin 4096) (d : Fin 64) : gradient x (ix3 h r d) = cotRow x h r d := by
  refine (heads_at _ h r d).trans ?_
  pointwise
  rfl

theorem product_at (d o) (h : Fin 8) (r : Fin 4096) : product d o (ix2 h r) = ∑ i, d (ix3 h r i) * o (ix3 h r i) := by
  unfold product
  pointwise

theorem neg_at (x : FVec Ideal Cert.RFoxBwdIdeal.S8x4096x1 .f32) (h : Fin 8) (r : Fin 4096) : Host.negf x (ix3 h r 0) = -x (ix3 h r 0) := by
  pointwise

theorem result_at (o : FVec Ideal Cert.RFoxBwdIdeal.S8x4096x64 .f32) (x1 : S4096x1024.Idx → EReal) (h : Fin 8) (r : Fin 4096) (l : Fin 128) :
    result (gradient x1) o (ix3 h r l) = prep (cotRow x1 h r) (outRow o h r) l := by
  refine (onLane_at 64#32 _ _ h r l).trans ?_
  rw [cmp_eq (by omega) (by omega), select_ofBool, neg_at, column_at, product_at, padded_at]
  simp only [gradient_at]
  unfold prep
  by_cases hl : l.val < 64
  · rw [if_neg (by omega), dif_pos hl, dif_pos hl]
  · rw [dif_neg hl, dif_neg hl]
    rfl

section Run
variable (m : (ℓ : Loc Cert.RDoPrepIdeal.nD Cert.RDoPrepIdeal.τ Cert.RDoPrepIdeal.sig) → Buf (Elt Ideal) ℓ) (c : Dev Cert.RDoPrepIdeal.nD)

abbrev attended : FVec Ideal Cert.RFoxBwdIdeal.S8x4096x64 .f32 :=
  outputs (m ((c.tc : Thread Cert.RDoPrepIdeal.nD Cert.RDoPrepIdeal.τ).loc Cert.RDoPrepIdeal.main_arg0)) (m ((c.tc : Thread Cert.RDoPrepIdeal.nD Cert.RDoPrepIdeal.τ).loc Cert.RDoPrepIdeal.main_arg1)) (m ((c.tc : Thread Cert.RDoPrepIdeal.nD Cert.RDoPrepIdeal.τ).loc Cert.RDoPrepIdeal.main_arg2))
    (m ((c.tc : Thread Cert.RDoPrepIdeal.nD Cert.RDoPrepIdeal.τ).loc Cert.RDoPrepIdeal.main_arg3))

theorem res_eq : Cert.RDoPrepIdeal.Value.res_out0 m c = result (gradient (m ((c.tc : Thread Cert.RDoPrepIdeal.nD Cert.RDoPrepIdeal.τ).loc Cert.RDoPrepIdeal.main_arg4))) (attended m c) := by
  unfold Cert.RDoPrepIdeal.Value.res_out0 Cert.RDoPrepIdeal.Value.res_main_v48
  rfl

end Run

end Ref

/-! ## The claims -/

theorem frame_k : Cert.quiescent_KDoPrep := fun m ρ _ => Cert.KDoPrep.Gen.frame m ρ

theorem frame_ki : Cert.quiescent_KDoPrepIdeal := fun m ρ _ => Cert.KDoPrepIdeal.Gen.frame m ρ

theorem frame_r : Cert.quiescent_RDoPrepIdeal := fun m ρ _ =>
  (θ_run Cert.RDoPrepIdeal.defs _ _).mono (fun r h => ⟨fun c => (h c).2,
      Idealize.ShloMosaic.sem_eq_zero_of_no_sems (by decide) r.2⟩)
    (Cert.RDoPrepIdeal.Value.run (F := Ideal) m ρ)

theorem columns {q k v : FVec Ideal ⟨2, ![4096, 512]⟩ .f32} {cum : FVec Ideal ⟨2, ![4096, 8]⟩ .f32} {d : FVec Ideal ⟨2, ![4096, 1024]⟩ .f32} {h : Fin 8} {r : Fin 4096} {l : Fin 128}
    (e : (Cert.On_columns_prep.fn (F := Ideal) q k v cum d) (ix3 h r l) = 1#1) : l.val < 65 ∨ 66 < l.val := by
  change IntOp.ori (IntOp.cmpi .slt (BitVec.ofNat 32 l.val) (BitVec.ofNat 32 65)) (IntOp.cmpi .sgt (BitVec.ofNat 32 l.val) (BitVec.ofNat 32 66)) = 1#1 at e
  rw [cmp_slt (by omega) (by omega), WordCmp.cmpi_sgt_ofNat (by omega) (by omega), WordCmp.ori_ofBool, ← Bool.decide_or] at e
  by_contra h
  rw [decide_eq_false h] at e
  exact absurd e (by decide)

theorem algebraic : Cert.algebraic_KDoPrepIdeal_RDoPrepIdeal_on_columns_prep := by
  intro m g m' g' _ hagree
  refine ⟨final m,
    (θ_run Cert.KDoPrepIdeal.defs _ _).mono (fun r h c => ⟨fun i _ => congrFun (h c).1 i, (h c).2⟩) (Cert.KDoPrepIdeal.Value.run_blocks m g),
    (θ_run Cert.RDoPrepIdeal.defs _ _).mono (fun r h c => ?_) (Cert.RDoPrepIdeal.Value.run m' g')⟩
  obtain ⟨a0, a1, a2, a3, a4⟩ := hagree c
  refine ⟨fun i e => ?_, (h c).2⟩
  obtain ⟨h', r, l, rfl⟩ : ∃ (h : Fin 8) (r : Fin 4096) (l : Fin 128), i = ix3 h r l := ⟨_, _, _, eq_ix3 i⟩
  refine (congrFun ((h c).1.trans (Ref.res_eq m' c)) _).trans ((Ref.result_at _ _ h' r l).trans ?_)
  unfold Ref.attended
  rw [a0, a1, a2, a3, a4]
  exact (final_at m c h' r l (columns e)).symm

end Cert.DoPrep

end
-- ==== Proof.NormFwd.lean ====
/-
  The norm's rows, as its two forward kernels and their references compute them.
-/
module

public import proofs.«01_k».proof.Proof.NormStep
public import proofs.«01_k».proof.Proof.Gen.KNormPOddIdeal.Skeleton
public import proofs.«01_k».proof.Proof.Gen.RNormPOddIdeal.Run

@[expose] public section

set_option maxRecDepth 16384

noncomputable section

namespace Cert.Norm

open Idealize.ShloMosaic Idealize.ShloMosaic.TcCoe Idealize.ShloMosaic.Tactic Cert.Common

/-- An entry of the norm of a row, by its gain. -/
def normed (x g : Fin 1024 → EReal) (k : Fin 1024) : EReal := x k * scale x * g k

theorem zero_word (ty : FTy) : (FloatOps.sitofp ty (0#32 : BitVec 32) : Ideal ty) = (0 : EReal) := by
  show ((((0#32 : BitVec 32).toInt : ℤ) : ℝ) : EReal) = 0
  simp

section Kernel
open Cert.KNormPOddIdeal Cert.KNormPOddIdeal.Gen
variable (x : FVec Ideal S512x1024 .f32) (g : FVec Ideal S1x1024 .f32)

theorem block_at (r : Fin 512) (k : Fin 1024) : k0_pay1 (F := Ideal) x g (ix2 r k) = normed (fun k => x (ix2 r k)) (fun k => g (ix2 0 k)) k := by
  unfold k0_pay1 normed scale level
  pointwise

end Kernel

section Host
open Cert.RNormPOddIdeal Cert.RNormPOddIdeal.Gen
variable (x : FVec Ideal S4096x1024 .f32) (g : FVec Ideal S1x1024 .f32)

/-- The reference's norm. -/
def host : FVec Ideal S4096x1024 .f32 :=
  mulf (mulf x (broadcastInDim S4096x1024 ![0, 1] bcast_S4096x1_S4096x1024_0_1 (Host.rsqrt (addf (Host.divf (broadcastInDim S4096x1 ![0] bcast_S4096_S4096x1_0
    (Host.reduceAdd (mulf x x) (constant S_ .f32 0x00000000#32) reducesTo_S4096x1024_S4096_d1 h_S_)) (broadcastInDim S4096x1 ![] bcast_S_S4096x1 (constant S_ .f32 0x44800000#32)))
    (broadcastInDim S4096x1 ![] bcast_S_S4096x1 (constant S_ .f32 0x358637BD#32)))))) (broadcastInDim S4096x1024 ![0, 1] bcast_S1x1024_S4096x1024_0_1 g)

theorem host_at (R : Fin 4096) (k : Fin 1024) : host x g (ix2 R k) = normed (fun k => x (ix2 R k)) (fun k => g (ix2 0 k)) k := by
  unfold host normed scale level
  pointwise

end Host

end Cert.Norm

end
-- ==== Proof.NormPOdd.lean ====
/-
  The convolution layer's norm and its product with the projection: the kernel's run, the reference's run, and their equality.
-/
module

public import proofs.«01_k».proof.Defs
public import proofs.«01_k».proof.Proof.NormFwd
public import Idealize.ShloMosaic.Lib.StableHlo.ReadAt
public import proofs.«01_k».proof.Proof.Gen.KNormPOdd.Frame
public import proofs.«01_k».proof.Proof.Gen.KNormPOddIdeal.Value

@[expose] public section

set_option maxRecDepth 16384

noncomputable section

namespace Cert.NormPOdd

open Idealize.ShloMosaic Idealize.ShloMosaic.TcCoe Idealize.ShloMosaic.Tactic Idealize.SL.Sem Cert.Common
open Cert.Norm (normed block_at host host_at row row_surjective)
open Cert.KNormPOddIdeal Cert.KNormPOddIdeal.Gen

/-! ## The body -/

section Body
variable (x0 : FVec Ideal S512x1024 .f32) (x1 : FVec Ideal S1x1024 .f32) (x2 : FVec Ideal S1024x3072 .bf16)

theorem out_3 (r : Fin 512) (k : Fin 1024) : out0_3 (F := Ideal) x0 x1 x2 (ix2 r k) = normed (fun k => x0 (ix2 r k)) (fun k => x1 (ix2 0 k)) k := by
  unfold out0_3
  rw [View.canon_unit_zero (S := S512x1024) hz2, View.ld_unit_zero (S := S512x1024) hz2, View.ld_unit_zero (S := S1x1024) hz2]
  exact block_at x0 x1 r k

theorem out_4 (r : Fin 512) (l : Fin 3072) :
    out0_4 (F := Ideal) x0 x1 x2 (ix2 r l) = ∑ k, normed (fun k => x0 (ix2 r k)) (fun k => x1 (ix2 0 k)) k * x2 (ix2 k l) := by
  unfold out0_4
  rw [View.canon_unit_zero (S := S512x3072) hz2, View.ld_unit_zero (S := S512x1024) hz2, View.ld_unit_zero (S := S1x1024) hz2, View.ld_unit_zero (S := S1024x3072) hz2]
  unfold k0_pay2
  pointwise [block_at]

end Body

/-! ## The blocks -/

variable (m : (ℓ : Loc nD τ sig) → Buf (Elt Ideal) ℓ) (c : Dev nD)

/-- The arguments. -/
abbrev X : S4096x1024.Idx → EReal := m ((c.tc : Thread nD τ).loc main_arg0)
abbrev G : S1x1024.Idx → EReal := m ((c.tc : Thread nD τ).loc main_arg1)
abbrev W : S1024x3072.Idx → EReal := m ((c.tc : Thread nD τ).loc main_arg2)

theorem w_at (k : Fin 1024) (l : Fin 3072) : (V m c main_v0 : S1024x3072.Idx → EReal) (ix2 k l) = W m c (ix2 k l) := by
  unfold V
  after_reads_at

theorem places : ∀ t : Fin cfg0.N,
    (∀ a : Fin 2, win0_0.index t a = ![t.val, 0] a) ∧ (∀ a : Fin 2, win0_1.index t a = ![0, 0] a) ∧ (∀ a : Fin 2, win0_2.index t a = ![0, 0] a)
    ∧ (∀ a : Fin 2, win0_3.index t a = ![t.val, 0] a) ∧ (∀ a : Fin 2, win0_4.index t a = ![t.val, 0] a) :=
  (by decide +kernel : ∀ t : Fin grid0.N,
    (∀ a : Fin 2, win0_0.index t a = ![t.val, 0] a) ∧ (∀ a : Fin 2, win0_1.index t a = ![0, 0] a) ∧ (∀ a : Fin 2, win0_2.index t a = ![0, 0] a)
    ∧ (∀ a : Fin 2, win0_3.index t a = ![t.val, 0] a) ∧ (∀ a : Fin 2, win0_4.index t a = ![t.val, 0] a))

theorem point_lt (t : Fin cfg0.N) : t.val < 8 := lt_of_lt_of_eq t.isLt (show cfg0.N = 8 from N_0)

theorem block_0 (t : Fin cfg0.N) (r : Fin 512) (k : Fin 1024) : (iblk m c 0 t : S512x1024.Idx → EReal) (ix2 r k) = X m c (ix2 (row (point_lt t) r) k) := by
  unfold iblk
  rw [View.read_apply]
  show (V m c main_arg0 : S4096x1024.Idx → EReal) _ = _
  rw [V_main_arg0]
  refine congrArg (X m c) (Shape.idx_ext₂ ?_ ?_)
  · show win0_0.index t 0 * 512 + 1 * r.val = t.val * 512 + r.val; rw [(places t).1 0]; show t.val * 512 + 1 * r.val = _; omega
  · show win0_0.index t 1 * 1024 + 1 * k.val = k.val; rw [(places t).1 1]; show 0 * 1024 + 1 * k.val = _; omega

theorem block_1 (t : Fin cfg0.N) (k : Fin 1024) : (iblk m c 1 t : S1x1024.Idx → EReal) (ix2 0 k) = G m c (ix2 0 k) := by
  unfold iblk
  rw [View.read_apply]
  show (V m c main_arg1 : S1x1024.Idx → EReal) _ = _
  rw [V_main_arg1]
  refine congrArg (G m c) (Shape.idx_ext₂ ?_ ?_)
  · show win0_1.index t 0 * 1 + 1 * 0 = 0; rw [(places t).2.1 0]; rfl
  · show win0_1.index t 1 * 1024 + 1 * k.val = k.val; rw [(places t).2.1 1]; show 0 * 1024 + 1 * k.val = _; omega

theorem block_2 (t : Fin cfg0.N) (k : Fin 1024) (l : Fin 3072) : (iblk m c 2 t : S1024x3072.Idx → EReal) (ix2 k l) = W m c (ix2 k l) := by
  rw [← w_at]
  unfold iblk
  rw [View.read_apply]
  show (V m c main_v0 : S1024x3072.Idx → EReal) _ = _
  refine congrArg (V m c main_v0 : S1024x3072.Idx → EReal) (Shape.idx_ext₂ ?_ ?_)
  · show win0_2.index t 0 * 1024 + 1 * k.val = k.val; rw [(places t).2.2.1 0]; show 0 * 1024 + 1 * k.val = _; omega
  · show win0_2.index t 1 * 3072 + 1 * l.val = l.val; rw [(places t).2.2.1 1]; show 0 * 3072 + 1 * l.val = _; omega

/-! ## The results -/

section
variable (x : S4096x1024.Idx → EReal) (g : S1x1024.Idx → EReal) (w : S1024x3072.Idx → EReal)

def hVal (R : Fin 4096) (k : Fin 1024) : EReal := normed (fun k => x (ix2 R k)) (fun k => g (ix2 0 k)) k
def zVal (R : Fin 4096) (l : Fin 3072) : EReal := ∑ k, hVal x g R k * w (ix2 k l)

end

/-- The final arrays. -/
abbrev hFinal : S4096x1024.Idx → EReal := (dats m 0 c).arrAt 3 cfg0.N
abbrev zFinal : S4096x3072.Idx → EReal := (dats m 0 c).arrAt 4 cfg0.N

theorem final_3 (R : Fin 4096) (k : Fin 1024) : hFinal m c (ix2 R k) = hVal (X m c) (G m c) R k := by
  obtain ⟨n, h, r, rfl⟩ := row_surjective R
  obtain ⟨t, rfl⟩ : ∃ t : Fin cfg0.N, t.val = n := ⟨⟨n, by rw [show cfg0.N = 8 from N_0]; exact h⟩, rfl⟩
  have e := congrFun ((Value.blocks3 m c t (flush0_3 t)).trans (Value.flushed3 m c t)) (ix2 r k)
  rw [View.read_apply, show ((cfg0.win 3).blk t).view.emb (ix2 r k) = (ix2 (row (point_lt t) r) k : S4096x1024.Idx) from Shape.idx_ext₂
    (by show win0_3.index t 0 * 512 + 1 * r.val = t.val * 512 + r.val; rw [(places t).2.2.2.1 0]; show t.val * 512 + 1 * r.val = _; omega)
    (by show win0_3.index t 1 * 1024 + 1 * k.val = k.val; rw [(places t).2.2.2.1 1]; show 0 * 1024 + 1 * k.val = _; omega)] at e
  refine e.trans ((out_3 _ _ _ r k).trans ?_)
  simp only [block_0, block_1]
  rfl

theorem final_4 (R : Fin 4096) (l : Fin 3072) : zFinal m c (ix2 R l) = zVal (X m c) (G m c) (W m c) R l := by
  obtain ⟨n, h, r, rfl⟩ := row_surjective R
  obtain ⟨t, rfl⟩ : ∃ t : Fin cfg0.N, t.val = n := ⟨⟨n, by rw [show cfg0.N = 8 from N_0]; exact h⟩, rfl⟩
  have e := congrFun ((Value.blocks4 m c t (flush0_4 t)).trans (Value.flushed4 m c t)) (ix2 r l)
  rw [View.read_apply, show ((cfg0.win 4).blk t).view.emb (ix2 r l) = (ix2 (row (point_lt t) r) l : S4096x3072.Idx) from Shape.idx_ext₂
    (by show win0_4.index t 0 * 512 + 1 * r.val = t.val * 512 + r.val; rw [(places t).2.2.2.2 0]; show t.val * 512 + 1 * r.val = _; omega)
    (by show win0_4.index t 1 * 3072 + 1 * l.val = l.val; rw [(places t).2.2.2.2 1]; show 0 * 3072 + 1 * l.val = _; omega)] at e
  refine e.trans ((out_4 _ _ _ r l).trans ?_)
  simp only [block_0, block_1, block_2]
  rfl

/-! ## The claims -/

theorem product_at (x : FVec Ideal Cert.RNormPOddIdeal.S4096x1024 .f32) (w : FVec Ideal Cert.RNormPOddIdeal.S1024x3072 .f32) (R : Fin 4096) (l : Fin 3072) :
    truncf .bf16 (Host.dotGeneral Cert.RNormPOddIdeal.dot_S4096x1024_S1024x3072_S4096x3072_1_0_0_1_n_n none x w) (by decide) (ix2 R l) = ∑ k, x (ix2 R k) * w (ix2 k l) := by
  pointwise

theorem frame_k : Cert.quiescent_KNormPOdd := fun m ρ _ => Cert.KNormPOdd.Gen.frame m ρ

theorem frame_ki : Cert.quiescent_KNormPOddIdeal := fun m ρ _ => Cert.KNormPOddIdeal.Gen.frame m ρ

theorem frame_r : Cert.quiescent_RNormPOddIdeal := fun m ρ _ =>
  (θ_run Cert.RNormPOddIdeal.defs _ _).mono (fun r h => ⟨fun c => (h c).2.2,
      Idealize.ShloMosaic.sem_eq_zero_of_no_sems (by decide) r.2⟩)
    (Cert.RNormPOddIdeal.Value.run (F := Ideal) m ρ)

theorem algebraic : Cert.algebraic_KNormPOddIdeal_RNormPOddIdeal := by
  intro m g m' g' _ hagree
  refine ⟨hFinal m, zFinal m, Cert.KNormPOddIdeal.Value.run_blocks m g,
    (θ_run Cert.RNormPOddIdeal.defs _ _).mono (fun r h c => ?_) (Cert.RNormPOddIdeal.Value.run m' g')⟩
  obtain ⟨a0, a1, a2⟩ := hagree c
  have e : ∀ R k, host (m' ((c.tc : Thread Cert.RNormPOddIdeal.nD Cert.RNormPOddIdeal.τ).loc Cert.RNormPOddIdeal.main_arg0))
      (m' ((c.tc : Thread Cert.RNormPOddIdeal.nD Cert.RNormPOddIdeal.τ).loc Cert.RNormPOddIdeal.main_arg1)) (ix2 R k) = hVal (X m c) (G m c) R k := fun R k => by
    rw [a0, a1]; exact host_at _ _ R k
  refine ⟨(h c).1.trans (funext fun i => ?_), (h c).2.1.trans (funext fun i => ?_), (h c).2.2⟩
  · obtain ⟨R, k, rfl⟩ : ∃ (R : Fin 4096) (k : Fin 1024), i = ix2 R k := ⟨_, _, eq_ix2 i⟩
    exact (e R k).trans (final_3 m c R k).symm
  · obtain ⟨R, l, rfl⟩ : ∃ (R : Fin 4096) (l : Fin 3072), i = ix2 R l := ⟨_, _, eq_ix2 i⟩
    refine (product_at (host _ _) _ R l).trans (Eq.trans ?_ (final_4 m c R l).symm)
    unfold zVal
    rw [a2]
    exact Finset.sum_congr rfl fun k _ => congrArg (· * _) (e R k)

end Cert.NormPOdd

end
-- ==== Proof.NormPEven.lean ====
/-
  The attention layer's norm and its products with the projection's two parts: the kernel's run, the reference's run, and their equality.
-/
module

public import proofs.«01_k».proof.Defs
public import proofs.«01_k».proof.Proof.NormFwd
public import Idealize.ShloMosaic.Lib.StableHlo.ReadAt
public import proofs.«01_k».proof.Proof.Gen.RNormPEvenIdeal.Run
public import proofs.«01_k».proof.Proof.Gen.KNormPEven.Frame
public import proofs.«01_k».proof.Proof.Gen.KNormPEvenIdeal.Value

@[expose] public section

set_option maxRecDepth 16384

noncomputable section

namespace Cert.NormPEven

open Idealize.ShloMosaic Idealize.ShloMosaic.TcCoe Idealize.ShloMosaic.Tactic Idealize.SL.Sem Cert.Common
open Cert.Norm (normed block_at host host_at row row_surjective zero_word)

/-- The projection's last eight columns, and zeros. -/
def gateCol (w : (⟨2, ![1024, 2568]⟩ : Shape).Idx → EReal) (k : Fin 1024) (l : Fin 128) : EReal := if h : l.val < 8 then w (ix2 k ⟨2560 + l.val, by omega⟩) else 0

/-! ## The reference -/

section Reference
open Cert.RNormPEvenIdeal Cert.RNormPEvenIdeal.Gen
variable (x : FVec Ideal S4096x1024 .f32) (w : FVec Ideal S1024x2568 .f32)

/-- The norm's product with the whole projection. -/
def whole : FVec Ideal S4096x2568 .f32 := Host.dotGeneral dot_S4096x1024_S1024x2568_S4096x2568_1_0_0_1_n_n none x w

theorem whole_at (R : Fin 4096) (l : Fin 2568) : whole x w (ix2 R l) = ∑ k, x (ix2 R k) * w (ix2 k l) := by
  unfold whole
  pointwise

theorem first_at (R : Fin 4096) (l : Fin 2560) : truncf .bf16 (extractStridedSlice S4096x2560 ![0, 0] (whole x w) slices_S4096x2568_S4096x2560_0_0) (by decide) (ix2 R l)
    = ∑ k, x (ix2 R k) * w (ix2 k ⟨l.val, by omega⟩) := by
  rw [← whole_at]
  generalize whole x w = z
  pointwise

theorem last_at (R : Fin 4096) (l : Fin 128) : pad S4096x128 ![0, 0] ![0, 120] ![0, 0] (extractStridedSlice S4096x8 ![0, 2560] (whole x w) slices_S4096x2568_S4096x8_0_2560)
    (sitofp .f32 (constantI S_ 32 0#32)) pads_S4096x8_S4096x128_000_01200 h_S_ (ix2 R l) = ∑ k, x (ix2 R k) * gateCol w k l := by
  trans if h : l.val < 8 then whole x w (ix2 R ⟨2560 + l.val, by omega⟩) else 0
  · generalize whole x w = z
    pointwise
    exact dite_congr rfl (fun _ => rfl) (fun _ => zero_word _)
  · unfold gateCol
    by_cases h : l.val < 8
    · simp only [dif_pos h, whole_at]
    · simp only [dif_neg h, mul_zero, Finset.sum_const_zero]

end Reference

open Cert.KNormPEvenIdeal Cert.KNormPEvenIdeal.Gen

/-! ## The body -/

section Body
variable (x0 : FVec Ideal S512x1024 .f32) (x1 : FVec Ideal S1x1024 .f32) (x2 : FVec Ideal S1024x2560 .bf16) (x3 : FVec Ideal S1024x128 .bf16)

theorem normed_at (r : Fin 512) (k : Fin 1024) : k0_pay1 (F := Ideal) x0 x1 (ix2 r k) = normed (fun k => x0 (ix2 r k)) (fun k => x1 (ix2 0 k)) k :=
  block_at x0 x1 r k

theorem out_4 (r : Fin 512) (k : Fin 1024) : out0_4 (F := Ideal) x0 x1 x2 x3 (ix2 r k) = normed (fun k => x0 (ix2 r k)) (fun k => x1 (ix2 0 k)) k := by
  unfold out0_4
  rw [View.canon_unit_zero (S := S512x1024) hz2, View.ld_unit_zero (S := S512x1024) hz2, View.ld_unit_zero (S := S1x1024) hz2]
  exact normed_at x0 x1 r k

theorem out_5 (r : Fin 512) (l : Fin 2560) :
    out0_5 (F := Ideal) x0 x1 x2 x3 (ix2 r l) = ∑ k, normed (fun k => x0 (ix2 r k)) (fun k => x1 (ix2 0 k)) k * x2 (ix2 k l) := by
  unfold out0_5
  rw [View.canon_unit_zero (S := S512x2560) hz2, View.ld_unit_zero (S := S512x1024) hz2, View.ld_unit_zero (S := S1x1024) hz2, View.ld_unit_zero (S := S1024x2560) hz2]
  unfold k0_pay2
  pointwise [normed_at]

theorem out_6 (r : Fin 512) (l : Fin 128) :
    out0_6 (F := Ideal) x0 x1 x2 x3 (ix2 r l) = ∑ k, normed (fun k => x0 (ix2 r k)) (fun k => x1 (ix2 0 k)) k * x3 (ix2 k l) := by
  unfold out0_6
  rw [View.canon_unit_zero (S := S512x128) hz2, View.ld_unit_zero (S := S512x1024) hz2, View.ld_unit_zero (S := S1x1024) hz2, View.ld_unit_zero (S := S1024x128) hz2]
  unfold k0_pay3
  pointwise [normed_at]

end Body

/-! ## The blocks -/

variable (m : (ℓ : Loc nD τ sig) → Buf (Elt Ideal) ℓ) (c : Dev nD)

/-- The arguments. -/
abbrev X : S4096x1024.Idx → EReal := m ((c.tc : Thread nD τ).loc main_arg0)
abbrev G : S1x1024.Idx → EReal := m ((c.tc : Thread nD τ).loc main_arg1)
abbrev W : S1024x2568.Idx → EReal := m ((c.tc : Thread nD τ).loc main_arg2)

theorem w_at (k : Fin 1024) (l : Fin 2560) : (V m c main_v3 : S1024x2560.Idx → EReal) (ix2 k l) = W m c (ix2 k ⟨l.val, by omega⟩) := by
  unfold V
  after_reads_at

theorem gate_at (k : Fin 1024) (l : Fin 128) : (V m c main_v4 : S1024x128.Idx → EReal) (ix2 k l) = gateCol (W m c) k l := by
  unfold V
  after_reads_at
  pointwise
  exact dite_congr rfl (fun _ => rfl) (fun _ => zero_word _)

theorem places : ∀ t : Fin cfg0.N,
    (∀ a : Fin 2, win0_0.index t a = ![t.val, 0] a) ∧ (∀ a : Fin 2, win0_1.index t a = ![0, 0] a) ∧ (∀ a : Fin 2, win0_2.index t a = ![0, 0] a)
    ∧ (∀ a : Fin 2, win0_3.index t a = ![0, 0] a) ∧ (∀ a : Fin 2, win0_4.index t a = ![t.val, 0] a) ∧ (∀ a : Fin 2, win0_5.index t a = ![t.val, 0] a)
    ∧ (∀ a : Fin 2, win0_6.index t a = ![t.val, 0] a) :=
  (by decide +kernel : ∀ t : Fin grid0.N,
    (∀ a : Fin 2, win0_0.index t a = ![t.val, 0] a) ∧ (∀ a : Fin 2, win0_1.index t a = ![0, 0] a) ∧ (∀ a : Fin 2, win0_2.index t a = ![0, 0] a)
    ∧ (∀ a : Fin 2, win0_3.index t a = ![0, 0] a) ∧ (∀ a : Fin 2, win0_4.index t a = ![t.val, 0] a) ∧ (∀ a : Fin 2, win0_5.index t a = ![t.val, 0] a)
    ∧ (∀ a : Fin 2, win0_6.index t a = ![t.val, 0] a))

theorem point_lt (t : Fin cfg0.N) : t.val < 8 := lt_of_lt_of_eq t.isLt (show cfg0.N = 8 from N_0)

theorem block_0 (t : Fin cfg0.N) (r : Fin 512) (k : Fin 1024) : (iblk m c 0 t : S512x1024.Idx → EReal) (ix2 r k) = X m c (ix2 (row (point_lt t) r) k) := by
  unfold iblk
  rw [View.read_apply]
  show (V m c main_arg0 : S4096x1024.Idx → EReal) _ = _
  rw [V_main_arg0]
  refine congrArg (X m c) (Shape.idx_ext₂ ?_ ?_)
  · show win0_0.index t 0 * 512 + 1 * r.val = t.val * 512 + r.val; rw [(places t).1 0]; show t.val * 512 + 1 * r.val = _; omega
  · show win0_0.index t 1 * 1024 + 1 * k.val = k.val; rw [(places t).1 1]; show 0 * 1024 + 1 * k.val = _; omega

theorem block_1 (t : Fin cfg0.N) (k : Fin 1024) : (iblk m c 1 t : S1x1024.Idx → EReal) (ix2 0 k) = G m c (ix2 0 k) := by
  unfold iblk
  rw [View.read_apply]
  show (V m c main_arg1 : S1x1024.Idx → EReal) _ = _
  rw [V_main_arg1]
  refine congrArg (G m c) (Shape.idx_ext₂ ?_ ?_)
  · show win0_1.index t 0 * 1 + 1 * 0 = 0; rw [(places t).2.1 0]; rfl
  · show win0_1.index t 1 * 1024 + 1 * k.val = k.val; rw [(places t).2.1 1]; show 0 * 1024 + 1 * k.val = _; omega

theorem block_2 (t : Fin cfg0.N) (k : Fin 1024) (l : Fin 2560) : (iblk m c 2 t : S1024x2560.Idx → EReal) (ix2 k l) = W m c (ix2 k ⟨l.val, by omega⟩) := by
  rw [← w_at]
  unfold iblk
  rw [View.read_apply]
  show (V m c main_v3 : S1024x2560.Idx → EReal) _ = _
  refine congrArg (V m c main_v3 : S1024x2560.Idx → EReal) (Shape.idx_ext₂ ?_ ?_)
  · show win0_2.index t 0 * 1024 + 1 * k.val = k.val; rw [(places t).2.2.1 0]; show 0 * 1024 + 1 * k.val = _; omega
  · show win0_2.index t 1 * 2560 + 1 * l.val = l.val; rw [(places t).2.2.1 1]; show 0 * 2560 + 1 * l.val = _; omega

theorem block_3 (t : Fin cfg0.N) (k : Fin 1024) (l : Fin 128) : (iblk m c 3 t : S1024x128.Idx → EReal) (ix2 k l) = gateCol (W m c) k l := by
  rw [← gate_at]
  unfold iblk
  rw [View.read_apply]
  show (V m c main_v4 : S1024x128.Idx → EReal) _ = _
  refine congrArg (V m c main_v4 : S1024x128.Idx → EReal) (Shape.idx_ext₂ ?_ ?_)
  · show win0_3.index t 0 * 1024 + 1 * k.val = k.val; rw [(places t).2.2.2.1 0]; show 0 * 1024 + 1 * k.val = _; omega
  · show win0_3.index t 1 * 128 + 1 * l.val = l.val; rw [(places t).2.2.2.1 1]; show 0 * 128 + 1 * l.val = _; omega

/-! ## The results -/

section
variable (x : S4096x1024.Idx → EReal) (g : S1x1024.Idx → EReal) (w : S1024x2568.Idx → EReal)

def hVal (R : Fin 4096) (k : Fin 1024) : EReal := normed (fun k => x (ix2 R k)) (fun k => g (ix2 0 k)) k
def zVal (R : Fin 4096) (l : Fin 2560) : EReal := ∑ k, hVal x g R k * w (ix2 k ⟨l.val, by omega⟩)
def fVal (R : Fin 4096) (l : Fin 128) : EReal := ∑ k, hVal x g R k * gateCol w k l

end

/-- The final arrays. -/
abbrev hFinal : S4096x1024.Idx → EReal := (dats m 0 c).arrAt 4 cfg0.N
abbrev zFinal : S4096x2560.Idx → EReal := (dats m 0 c).arrAt 5 cfg0.N
abbrev fFinal : S4096x128.Idx → EReal := (dats m 0 c).arrAt 6 cfg0.N

theorem final_4 (R : Fin 4096) (l : Fin 1024) : hFinal m c (ix2 R l) = hVal (X m c) (G m c) R l := by
  obtain ⟨n, h, r, rfl⟩ := row_surjective R
  obtain ⟨t, rfl⟩ : ∃ t : Fin cfg0.N, t.val = n := ⟨⟨n, by rw [show cfg0.N = 8 from N_0]; exact h⟩, rfl⟩
  have e := congrFun ((Value.blocks4 m c t (flush0_4 t)).trans (Value.flushed4 m c t)) (ix2 r l)
  rw [View.read_apply, show ((cfg0.win 4).blk t).view.emb (ix2 r l) = (ix2 (row (point_lt t) r) l : S4096x1024.Idx) from Shape.idx_ext₂
    (by show win0_4.index t 0 * 512 + 1 * r.val = t.val * 512 + r.val; rw [(places t).2.2.2.2.1 0]; show t.val * 512 + 1 * r.val = _; omega)
    (by show win0_4.index t 1 * 1024 + 1 * l.val = l.val; rw [(places t).2.2.2.2.1 1]; show 0 * 1024 + 1 * l.val = _; omega)] at e
  refine e.trans ((out_4 _ _ _ _ r l).trans ?_)
  simp only [block_0, block_1]
  rfl

theorem final_5 (R : Fin 4096) (l : Fin 2560) : zFinal m c (ix2 R l) = zVal (X m c) (G m c) (W m c) R l := by
  obtain ⟨n, h, r, rfl⟩ := row_surjective R
  obtain ⟨t, rfl⟩ : ∃ t : Fin cfg0.N, t.val = n := ⟨⟨n, by rw [show cfg0.N = 8 from N_0]; exact h⟩, rfl⟩
  have e := congrFun ((Value.blocks5 m c t (flush0_5 t)).trans (Value.flushed5 m c t)) (ix2 r l)
  rw [View.read_apply, show ((cfg0.win 5).blk t).view.emb (ix2 r l) = (ix2 (row (point_lt t) r) l : S4096x2560.Idx) from Shape.idx_ext₂
    (by show win0_5.index t 0 * 512 + 1 * r.val = t.val * 512 + r.val; rw [(places t).2.2.2.2.2.1 0]; show t.val * 512 + 1 * r.val = _; omega)
    (by show win0_5.index t 1 * 2560 + 1 * l.val = l.val; rw [(places t).2.2.2.2.2.1 1]; show 0 * 2560 + 1 * l.val = _; omega)] at e
  refine e.trans ((out_5 _ _ _ _ r l).trans ?_)
  simp only [block_0, block_1, block_2]
  rfl

theorem final_6 (R : Fin 4096) (l : Fin 128) : fFinal m c (ix2 R l) = fVal (X m c) (G m c) (W m c) R l := by
  obtain ⟨n, h, r, rfl⟩ := row_surjective R
  obtain ⟨t, rfl⟩ : ∃ t : Fin cfg0.N, t.val = n := ⟨⟨n, by rw [show cfg0.N = 8 from N_0]; exact h⟩, rfl⟩
  have e := congrFun ((Value.blocks6 m c t (flush0_6 t)).trans (Value.flushed6 m c t)) (ix2 r l)
  rw [View.read_apply, show ((cfg0.win 6).blk t).view.emb (ix2 r l) = (ix2 (row (point_lt t) r) l : S4096x128.Idx) from Shape.idx_ext₂
    (by show win0_6.index t 0 * 512 + 1 * r.val = t.val * 512 + r.val; rw [(places t).2.2.2.2.2.2 0]; show t.val * 512 + 1 * r.val = _; omega)
    (by show win0_6.index t 1 * 128 + 1 * l.val = l.val; rw [(places t).2.2.2.2.2.2 1]; show 0 * 128 + 1 * l.val = _; omega)] at e
  refine e.trans ((out_6 _ _ _ _ r l).trans ?_)
  simp only [block_0, block_1, block_3]
  rfl

/-! ## The claims -/

theorem frame_k : Cert.quiescent_KNormPEven := fun m ρ _ => Cert.KNormPEven.Gen.frame m ρ

theorem frame_ki : Cert.quiescent_KNormPEvenIdeal := fun m ρ _ => Cert.KNormPEvenIdeal.Gen.frame m ρ

theorem frame_r : Cert.quiescent_RNormPEvenIdeal := fun m ρ _ =>
  (θ_run Cert.RNormPEvenIdeal.defs _ _).mono (fun r h => ⟨fun c => (h c).2.2.2,
      Idealize.ShloMosaic.sem_eq_zero_of_no_sems (by decide) r.2⟩)
    (Cert.RNormPEvenIdeal.Value.run (F := Ideal) m ρ)

theorem algebraic : Cert.algebraic_KNormPEvenIdeal_RNormPEvenIdeal := by
  intro m g m' g' _ hagree
  refine ⟨hFinal m, zFinal m, fFinal m, Cert.KNormPEvenIdeal.Value.run_blocks m g,
    (θ_run Cert.RNormPEvenIdeal.defs _ _).mono (fun r h c => ?_) (Cert.RNormPEvenIdeal.Value.run m' g')⟩
  obtain ⟨a0, a1, a2⟩ := hagree c
  have e : ∀ R k, host (m' ((c.tc : Thread Cert.RNormPEvenIdeal.nD Cert.RNormPEvenIdeal.τ).loc Cert.RNormPEvenIdeal.main_arg0))
      (m' ((c.tc : Thread Cert.RNormPEvenIdeal.nD Cert.RNormPEvenIdeal.τ).loc Cert.RNormPEvenIdeal.main_arg1)) (ix2 R k) = hVal (X m c) (G m c) R k := fun R k => by
    rw [a0, a1]; exact host_at _ _ R k
  refine ⟨(h c).1.trans (funext fun i => ?_), (h c).2.1.trans (funext fun i => ?_), (h c).2.2.1.trans (funext fun i => ?_), (h c).2.2.2⟩
  · obtain ⟨R, k, rfl⟩ : ∃ (R : Fin 4096) (k : Fin 1024), i = ix2 R k := ⟨_, _, eq_ix2 i⟩
    exact (e R k).trans (final_4 m c R k).symm
  · obtain ⟨R, l, rfl⟩ : ∃ (R : Fin 4096) (l : Fin 2560), i = ix2 R l := ⟨_, _, eq_ix2 i⟩
    refine (first_at (host _ _) _ R l).trans (Eq.trans ?_ (final_5 m c R l).symm)
    unfold zVal
    rw [a2]
    exact Finset.sum_congr rfl fun k _ => congrArg (· * _) (e R k)
  · obtain ⟨R, l, rfl⟩ : ∃ (R : Fin 4096) (l : Fin 128), i = ix2 R l := ⟨_, _, eq_ix2 i⟩
    refine (last_at (host _ _) _ R l).trans (Eq.trans ?_ (final_6 m c R l).symm)
    unfold fVal
    rw [a2]
    exact Finset.sum_congr rfl fun k _ => congrArg (· * _) (e R k)

end Cert.NormPEven

end
-- ==== Proof.FfnF.lean ====
/-
  The gated hidden layer's forward call against the layer's own lines: the normed input, the two projections in slabs, and the layer's output.
-/
module

public import proofs.«01_k».proof.Defs
public import proofs.«01_k».proof.Proof.NormFwd
public import proofs.«01_k».proof.Proof.Ffn
public import Idealize.ShloMosaic.Lib.Pipeline.ValueKit.Tiles
public import Idealize.ShloMosaic.Lib.StableHlo.ReadAt
public import proofs.«01_k».proof.Proof.Gen.KFfnF.Frame
public import proofs.«01_k».proof.Proof.Gen.KFfnFIdeal.Value
public import proofs.«01_k».proof.Proof.Gen.RFfnFIdeal.Run

@[expose] public section

set_option maxRecDepth 16384

noncomputable section

namespace Cert.FfnF

open Idealize.ShloMosaic Idealize.ShloMosaic.TcCoe Idealize.ShloMosaic.Tactic Idealize.SL.Sem Cert.Common
open Cert.Norm (row row_surjective scale level)
open Cert.Ffn (Mat normed pre hid col readBack)
open Cert.KFfnFIdeal Cert.KFfnFIdeal.Gen

/-! ## The body -/

/-- Two places of a rank-three array agree when their coordinates do. -/
theorem place_ext {a b d : ℕ} {i j : (⟨3, ![a, b, d]⟩ : Shape).Idx} (h0 : (i 0).val = (j 0).val) (h1 : (i 1).val = (j 1).val) (h2 : (i 2).val = (j 2).val) : i = j :=
  funext fun k => Fin.ext (match k with | ⟨0, _⟩ => h0 | ⟨1, _⟩ => h1 | ⟨2, _⟩ => h2)

section Left
variable {F : FTy → Type} [FloatOps F]

/-- The four slabs of a weight. -/
def slab0 (x : Vec F S4x704x1024 .bf16) : Vec F S1x704x1024 .bf16 := View.ld x (Rect.unit (s := S4x704x1024) ![0, 0, 0] S1x704x1024.size inb_S4x704x1024_S1x704x1024_0_0_0)
def slab1 (x : Vec F S4x704x1024 .bf16) : Vec F S1x704x1024 .bf16 := View.ld x (Rect.unit (s := S4x704x1024) ![1, 0, 0] S1x704x1024.size inb_S4x704x1024_S1x704x1024_1_0_0)
def slab2 (x : Vec F S4x704x1024 .bf16) : Vec F S1x704x1024 .bf16 := View.ld x (Rect.unit (s := S4x704x1024) ![2, 0, 0] S1x704x1024.size inb_S4x704x1024_S1x704x1024_2_0_0)
def slab3 (x : Vec F S4x704x1024 .bf16) : Vec F S1x704x1024 .bf16 := View.ld x (Rect.unit (s := S4x704x1024) ![3, 0, 0] S1x704x1024.size inb_S4x704x1024_S1x704x1024_3_0_0)

/-- A block written slab by slab. -/
def stacked (p0 p1 p2 p3 : FVec F S1x512x704 .bf16) : Vec F S4x512x704 .bf16 :=
  View.canon [⟨Rect.unit (s := S4x512x704) ![3, 0, 0] S1x512x704.size inb_S4x512x704_S1x512x704_3_0_0, p3⟩,
    ⟨Rect.unit (s := S4x512x704) ![2, 0, 0] S1x512x704.size inb_S4x512x704_S1x512x704_2_0_0, p2⟩,
    ⟨Rect.unit (s := S4x512x704) ![1, 0, 0] S1x512x704.size inb_S4x512x704_S1x512x704_1_0_0, p1⟩,
    ⟨Rect.unit (s := S4x512x704) ![0, 0, 0] S1x512x704.size inb_S4x512x704_S1x512x704_0_0_0, p0⟩]

/-- The gates, the other factors, and the sum of the four slabs' products, of a block's normed rows. -/
def gates (n : FVec F S512x1024 .bf16) (x : Vec F S4x704x1024 .bf16) : Vec F S4x512x704 .bf16 :=
  stacked (k0_pay8 n (slab0 x)) (k0_pay13 (k0_pay11 n (slab1 x))) (k0_pay18 (k0_pay5 n) (slab2 x)) (k0_pay23 (k0_pay5 n) (slab3 x))
def ups (n : FVec F S512x1024 .bf16) (x : Vec F S4x704x1024 .bf16) : Vec F S4x512x704 .bf16 :=
  stacked (k0_pay9 n (slab0 x)) (k0_pay14 (k0_pay5 n) (slab1 x)) (k0_pay20 (k0_pay19 (k0_pay5 n) (slab2 x))) (k0_pay24 (k0_pay5 n) (slab3 x))
def total (n : FVec F S512x1024 .bf16) (x2 x3 x4 : Vec F S4x704x1024 .bf16) : FVec F S512x1024 .f32 :=
  k0_pay25 (k0_pay5 n) (k0_pay15 (k0_pay5 n) (k0_pay10 n (slab0 x2) (slab0 x3) (slab0 x4)) (k0_pay11 n (slab1 x2)) (slab1 x3) (slab1 x4))
    (k0_pay16 (k0_pay5 n) (slab2 x2)) (k0_pay17 (k0_pay5 n) (slab2 x3)) (slab2 x4) (slab3 x2) (slab3 x3) (slab3 x4)

variable (c : Dev nD) (i : grid0.Coords)
  (a2 : Memref sig .tc .vmem S512x1024 .f32) (h2 : a2.IsWhole) (a3 : Memref sig .tc .vmem S1x1024 .f32) (h3 : a3.IsWhole)
  (a4 : Memref sig .tc .vmem S4x704x1024 .bf16) (h4 : a4.IsWhole) (a5 : Memref sig .tc .vmem S4x704x1024 .bf16) (h5 : a5.IsWhole)
  (a6 : Memref sig .tc .vmem S4x704x1024 .bf16) (h6 : a6.IsWhole) (a7 : Memref sig .tc .vmem S512x1024 .f32) (h7 : a7.IsWhole)
  (a8 : Memref sig .tc .vmem S512x1024 .bf16) (h8 : a8.IsWhole) (a9 : Memref sig .tc .vmem S4x512x704 .bf16) (h9 : a9.IsWhole)
  (a10 : Memref sig .tc .vmem S4x512x704 .bf16) (h10 : a10.IsWhole) (a11 : Memref sig .tc .vmem S512x1024 .f32) (h11 : a11.IsWhole)
  (x0 : Vec F S512x1024 .f32) (x1 : Vec F S1x1024 .f32) (x2 x3 x4 : Vec F S4x704x1024 .bf16)

theorem left (hc0 : cond0_0 i) (hc1 : cond0_1 i) :
    out0_A_5 c i a2 h2 a3 h3 a4 h4 a5 h5 a6 h6 a7 h7 a8 h8 a9 h9 a10 h10 a11 h11 hc0 hc1 x0 x1 x2 x3 x4 = k0_pay2 x0 (k0_pay1 (total (k0_pay3 x0 x1) x2 x3 x4) k0_pay4)
    ∧ out0_A_6 c i a2 h2 a3 h3 a4 h4 a5 h5 a6 h6 a7 h7 a8 h8 a9 h9 a10 h10 a11 h11 hc0 hc1 x0 x1 x2 x3 x4 = k0_pay3 x0 x1
    ∧ out0_A_7 c i a2 h2 a3 h3 a4 h4 a5 h5 a6 h6 a7 h7 a8 h8 a9 h9 a10 h10 a11 h11 hc0 hc1 x0 x1 x2 x3 x4 = gates (k0_pay3 x0 x1) x2
    ∧ out0_A_8 c i a2 h2 a3 h3 a4 h4 a5 h5 a6 h6 a7 h7 a8 h8 a9 h9 a10 h10 a11 h11 hc0 hc1 x0 x1 x2 x3 x4 = ups (k0_pay3 x0 x1) x3 := by
  unfold out0_A_5 out0_A_6 out0_A_7 out0_A_8
  simp only [View.read_writes_junk_eq_canon]
  unfold kernelRun0_A
  dsimp only
  sl_unfold_words
  simp only [View.canon_unit_zero (S := S512x1024) hz2, View.canon_cons_unit_zero (S := S512x1024) hz2, View.readAt_eq_ld, h2.read_unread, h3.read_unread, h4.read_unread, h5.read_unread, h6.read_unread,
    View.ld_unit_zero (S := S512x1024) hz2, View.ld_unit_zero (S := S1x1024) hz2, readBack (S := S512x1024) _ _ hz2]
  exact ⟨rfl, trivial, rfl, rfl⟩

variable (m : (ℓ : Loc nD τ sig) → Buf (Elt F) ℓ) (t : Fin cfg0.N)

/-- What a point leaves. -/
theorem outs :
    (outsAt0 m c t).1 = k0_pay2 (iblk m c 0 t) (k0_pay1 (total (k0_pay3 (iblk m c 0 t) (iblk m c 1 t)) (iblk m c 2 t) (iblk m c 3 t) (iblk m c 4 t)) k0_pay4)
    ∧ (outsAt0 m c t).2.1 = k0_pay3 (iblk m c 0 t) (iblk m c 1 t)
    ∧ (outsAt0 m c t).2.2.1 = gates (k0_pay3 (iblk m c 0 t) (iblk m c 1 t)) (iblk m c 2 t)
    ∧ (outsAt0 m c t).2.2.2 = ups (k0_pay3 (iblk m c 0 t) (iblk m c 1 t)) (iblk m c 3 t) := by
  unfold outsAt0
  dsimp only
  exact left (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
    (iblk m c 0 t) (iblk m c 1 t) (iblk m c 2 t) (iblk m c 3 t) (iblk m c 4 t) (hcond0_0 t) (hcond0_1 t)

end Left

/-! ## The body's entries -/

section Entries

theorem stacked_at (f : Fin 4 → Fin 512 → Fin 704 → EReal) (p0 p1 p2 p3 : FVec Ideal S1x512x704 .bf16)
    (e0 : ∀ (r : Fin 512) (l : Fin 704), p0 (ix3 0 r l) = f 0 r l) (e1 : ∀ (r : Fin 512) (l : Fin 704), p1 (ix3 0 r l) = f 1 r l)
    (e2 : ∀ (r : Fin 512) (l : Fin 704), p2 (ix3 0 r l) = f 2 r l) (e3 : ∀ (r : Fin 512) (l : Fin 704), p3 (ix3 0 r l) = f 3 r l)
    (s : Fin 4) (r : Fin 512) (l : Fin 704) : stacked (F := Ideal) p0 p1 p2 p3 (ix3 s r l) = f s r l := by
  unfold stacked
  have move : ∀ (P : FVec Ideal S1x512x704 .bf16) (s : Fin 4) (inb), (∀ (r : Fin 512) (l : Fin 704), P (ix3 0 r l) = f s r l) → ∀ x : S1x512x704.Idx,
      P x = (fun i : S4x512x704.Idx => f (i 0) (i 1) (i 2)) ((Rect.unit (s := S4x512x704) ![s.val, 0, 0] S1x512x704.size inb).emb x) := by
    intro P s inb e x
    obtain ⟨z, r, l, rfl⟩ : ∃ (z : Fin 1) (r : Fin 512) (l : Fin 704), x = ix3 z r l := ⟨_, _, _, eq_ix3 x⟩
    obtain rfl : z = 0 := Subsingleton.elim _ _
    refine (e r l).trans ?_
    have same : ∀ (s' : Fin 4) (r' : Fin 512) (l' : Fin 704), s' = s → r' = r → l' = l → f s r l = f s' r' l' := by rintro _ _ _ rfl rfl rfl; rfl
    exact same _ _ _ (Fin.ext (by show s.val + 1 * 0 = s.val; omega)) (Fin.ext (by show 0 + 1 * r.val = r.val; omega)) (Fin.ext (by show 0 + 1 * l.val = l.val; omega))
  have mem : ∀ (s : Fin 4) (inb), ix3 s r l ∈ (Rect.unit (s := S4x512x704) ![s.val, 0, 0] S1x512x704.size inb).set := by
    intro s inb
    refine (Rect.mem_set_unit (inb := inb)).2 fun a => ?_
    match a with
    | ⟨0, _⟩ => show s.val ≤ s.val ∧ s.val < s.val + 1; omega
    | ⟨1, _⟩ => show 0 ≤ r.val ∧ r.val < 0 + 512; omega
    | ⟨2, _⟩ => show 0 ≤ l.val ∧ l.val < 0 + 704; omega
  refine View.canon_apply_of_pieces (Val := Elt Ideal) (e := .bf16) (fun i : S4x512x704.Idx => f (i 0) (i 1) (i 2)) _ ?_ _ ?_
  · intro p hp
    simp only [List.mem_cons, List.not_mem_nil, or_false] at hp
    rcases hp with rfl | rfl | rfl | rfl
    · exact move p3 3 inb_S4x512x704_S1x512x704_3_0_0 e3
    · exact move p2 2 inb_S4x512x704_S1x512x704_2_0_0 e2
    · exact move p1 1 inb_S4x512x704_S1x512x704_1_0_0 e1
    · exact move p0 0 inb_S4x512x704_S1x512x704_0_0_0 e0
  · match s with
    | ⟨3, _⟩ => exact ⟨_, List.mem_cons_self .., mem 3 inb_S4x512x704_S1x512x704_3_0_0⟩
    | ⟨2, _⟩ => exact ⟨_, List.mem_cons_of_mem _ (List.mem_cons_self ..), mem 2 inb_S4x512x704_S1x512x704_2_0_0⟩
    | ⟨1, _⟩ => exact ⟨_, List.mem_cons_of_mem _ (List.mem_cons_of_mem _ (List.mem_cons_self ..)), mem 1 inb_S4x512x704_S1x512x704_1_0_0⟩
    | ⟨0, _⟩ => exact ⟨_, List.mem_cons_of_mem _ (List.mem_cons_of_mem _ (List.mem_cons_of_mem _ (List.mem_cons_self ..))), mem 0 inb_S4x512x704_S1x512x704_0_0_0⟩

variable (n : FVec Ideal S512x1024 .bf16) (x x2 x3 x4 : FVec Ideal S4x704x1024 .bf16) (r : Fin 512) (l : Fin 704) (k : Fin 1024)

theorem slab0_at : slab0 (F := Ideal) x (ix3 0 l k) = x (ix3 0 l k) := by
  unfold slab0
  exact View.ld_unit_apply_of _ _ _ _ _ _ (fun a => match a with | ⟨0, _⟩ => rfl | ⟨1, _⟩ => (Nat.zero_add _).symm | ⟨2, _⟩ => (Nat.zero_add _).symm)
theorem slab1_at : slab1 (F := Ideal) x (ix3 0 l k) = x (ix3 1 l k) := by
  unfold slab1
  exact View.ld_unit_apply_of _ _ _ _ _ _ (fun a => match a with | ⟨0, _⟩ => rfl | ⟨1, _⟩ => (Nat.zero_add _).symm | ⟨2, _⟩ => (Nat.zero_add _).symm)
theorem slab2_at : slab2 (F := Ideal) x (ix3 0 l k) = x (ix3 2 l k) := by
  unfold slab2
  exact View.ld_unit_apply_of _ _ _ _ _ _ (fun a => match a with | ⟨0, _⟩ => rfl | ⟨1, _⟩ => (Nat.zero_add _).symm | ⟨2, _⟩ => (Nat.zero_add _).symm)
theorem slab3_at : slab3 (F := Ideal) x (ix3 0 l k) = x (ix3 3 l k) := by
  unfold slab3
  exact View.ld_unit_apply_of _ _ _ _ _ _ (fun a => match a with | ⟨0, _⟩ => rfl | ⟨1, _⟩ => (Nat.zero_add _).symm | ⟨2, _⟩ => (Nat.zero_add _).symm)

/-- A row's product with a row of a slab; and a slab's part of the output. -/
def through (s : Fin 4) (r : Fin 512) (l : Fin 704) : EReal := ∑ k, n (ix2 r k) * x (ix3 s l k)
def part (s : Fin 4) (r : Fin 512) (k : Fin 1024) : EReal := ∑ l, hid (through n x2 s r l) (through n x3 s r l) * x4 (ix3 s l k)

theorem gates_at (s : Fin 4) : gates (F := Ideal) n x (ix3 s r l) = through n x s r l := by
  refine stacked_at (through n x) _ _ _ _ (fun r l => ?_) (fun r l => ?_) (fun r l => ?_) (fun r l => ?_) s r l
  all_goals
    unfold through
    unfold_payloads
    pointwise [slab0_at, slab1_at, slab2_at, slab3_at]

theorem ups_at (s : Fin 4) : ups (F := Ideal) n x (ix3 s r l) = through n x s r l := by
  refine stacked_at (through n x) _ _ _ _ (fun r l => ?_) (fun r l => ?_) (fun r l => ?_) (fun r l => ?_) s r l
  all_goals
    unfold through
    unfold_payloads
    pointwise [slab0_at, slab1_at, slab2_at, slab3_at]

theorem total_at : total (F := Ideal) n x2 x3 x4 (ix2 r k) = part n x2 x3 x4 0 r k + part n x2 x3 x4 1 r k + part n x2 x3 x4 2 r k + part n x2 x3 x4 3 r k := by
  unfold total part hid through
  unfold_payloads
  pointwise [slab0_at, slab1_at, slab2_at, slab3_at]

end Entries

/-! ## The arrays and their blocks -/

variable (m : (ℓ : Loc nD τ sig) → Buf (Elt Ideal) ℓ) (c : Dev nD)

/-- The arguments: the input, the gain, and the three weights. -/
abbrev X : Mat 4096 1024 := m ((c.tc : Thread nD τ).loc main_arg0)
abbrev Gn : Mat 1 1024 := m ((c.tc : Thread nD τ).loc main_arg1)
abbrev Wg : Mat 1024 2816 := m ((c.tc : Thread nD τ).loc main_arg2)
abbrev Wu : Mat 1024 2816 := m ((c.tc : Thread nD τ).loc main_arg3)
abbrev Wd : Mat 2816 1024 := m ((c.tc : Thread nD τ).loc main_arg4)

theorem wg_at (s : Fin 4) (l : Fin 704) (k : Fin 1024) : (V m c main_v2 : FVec Ideal S4x704x1024 .bf16) (ix3 s l k) = Wg m c (ix2 k (col s l)) := by
  unfold V
  after_reads_at
  rfl
theorem wu_at (s : Fin 4) (l : Fin 704) (k : Fin 1024) : (V m c main_v5 : FVec Ideal S4x704x1024 .bf16) (ix3 s l k) = Wu m c (ix2 k (col s l)) := by
  unfold V
  after_reads_at
  rfl
theorem wd_at (s : Fin 4) (l : Fin 704) (k : Fin 1024) : (V m c main_v7 : FVec Ideal S4x704x1024 .bf16) (ix3 s l k) = Wd m c (ix2 (col s l) k) := by
  unfold V
  after_reads_at
  rfl

theorem places : ∀ t : Fin cfg0.N,
    (∀ a : Fin 2, win0_0.index t a = ![t.val, 0] a) ∧ (∀ a : Fin 2, win0_1.index t a = 0) ∧ (∀ a : Fin 3, win0_2.index t a = 0)
    ∧ (∀ a : Fin 3, win0_3.index t a = 0) ∧ (∀ a : Fin 3, win0_4.index t a = 0) ∧ (∀ a : Fin 2, win0_5.index t a = ![t.val, 0] a)
    ∧ (∀ a : Fin 2, win0_6.index t a = ![t.val, 0] a) ∧ (∀ a : Fin 3, win0_7.index t a = ![0, t.val, 0] a) ∧ (∀ a : Fin 3, win0_8.index t a = ![0, t.val, 0] a) :=
  (by decide +kernel : ∀ t : Fin grid0.N,
    (∀ a : Fin 2, win0_0.index t a = ![t.val, 0] a) ∧ (∀ a : Fin 2, win0_1.index t a = 0) ∧ (∀ a : Fin 3, win0_2.index t a = 0)
    ∧ (∀ a : Fin 3, win0_3.index t a = 0) ∧ (∀ a : Fin 3, win0_4.index t a = 0) ∧ (∀ a : Fin 2, win0_5.index t a = ![t.val, 0] a)
    ∧ (∀ a : Fin 2, win0_6.index t a = ![t.val, 0] a) ∧ (∀ a : Fin 3, win0_7.index t a = ![0, t.val, 0] a) ∧ (∀ a : Fin 3, win0_8.index t a = ![0, t.val, 0] a))

theorem point_lt (t : Fin cfg0.N) : t.val < 8 := lt_of_lt_of_eq t.isLt (show cfg0.N = 8 from N_0)

theorem block_0 (t : Fin cfg0.N) (r : Fin 512) (k : Fin 1024) : (iblk m c 0 t : S512x1024.Idx → EReal) (ix2 r k) = X m c (ix2 (row (point_lt t) r) k) := by
  unfold iblk
  rw [View.read_apply]
  show (V m c main_arg0 : S4096x1024.Idx → EReal) _ = _
  rw [V_main_arg0]
  refine congrArg (X m c) (Shape.idx_ext₂ ?_ ?_)
  · show win0_0.index t 0 * 512 + 1 * r.val = t.val * 512 + r.val; rw [(places t).1 0]; show t.val * 512 + 1 * r.val = _; omega
  · show win0_0.index t 1 * 1024 + 1 * k.val = k.val; rw [(places t).1 1]; show 0 * 1024 + 1 * k.val = _; omega

theorem block_1 (t : Fin cfg0.N) (k : Fin 1024) : (iblk m c 1 t : S1x1024.Idx → EReal) (ix2 0 k) = Gn m c (ix2 0 k) := by
  unfold iblk
  rw [View.read_apply]
  show (V m c main_arg1 : S1x1024.Idx → EReal) _ = _
  rw [V_main_arg1]
  refine congrArg (Gn m c) (Shape.idx_ext₂ ?_ ?_)
  · show win0_1.index t 0 * 1 + 1 * 0 = 0; rw [(places t).2.1 0]
  · show win0_1.index t 1 * 1024 + 1 * k.val = k.val; rw [(places t).2.1 1]; omega

theorem block_2 (t : Fin cfg0.N) (s : Fin 4) (l : Fin 704) (k : Fin 1024) : (iblk m c 2 t : S4x704x1024.Idx → EReal) (ix3 s l k) = Wg m c (ix2 k (col s l)) := by
  refine Eq.trans ?_ (wg_at m c s l k)
  unfold iblk
  rw [View.read_apply]
  show (V m c main_v2 : S4x704x1024.Idx → EReal) _ = _
  refine congrArg (V m c main_v2 : S4x704x1024.Idx → EReal) (place_ext ?_ ?_ ?_)
  · show win0_2.index t 0 * 4 + 1 * s.val = s.val; rw [(places t).2.2.1 0]; omega
  · show win0_2.index t 1 * 704 + 1 * l.val = l.val; rw [(places t).2.2.1 1]; omega
  · show win0_2.index t 2 * 1024 + 1 * k.val = k.val; rw [(places t).2.2.1 2]; omega

theorem block_3 (t : Fin cfg0.N) (s : Fin 4) (l : Fin 704) (k : Fin 1024) : (iblk m c 3 t : S4x704x1024.Idx → EReal) (ix3 s l k) = Wu m c (ix2 k (col s l)) := by
  refine Eq.trans ?_ (wu_at m c s l k)
  unfold iblk
  rw [View.read_apply]
  show (V m c main_v5 : S4x704x1024.Idx → EReal) _ = _
  refine congrArg (V m c main_v5 : S4x704x1024.Idx → EReal) (place_ext ?_ ?_ ?_)
  · show win0_3.index t 0 * 4 + 1 * s.val = s.val; rw [(places t).2.2.2.1 0]; omega
  · show win0_3.index t 1 * 704 + 1 * l.val = l.val; rw [(places t).2.2.2.1 1]; omega
  · show win0_3.index t 2 * 1024 + 1 * k.val = k.val; rw [(places t).2.2.2.1 2]; omega

theorem block_4 (t : Fin cfg0.N) (s : Fin 4) (l : Fin 704) (k : Fin 1024) : (iblk m c 4 t : S4x704x1024.Idx → EReal) (ix3 s l k) = Wd m c (ix2 (col s l) k) := by
  refine Eq.trans ?_ (wd_at m c s l k)
  unfold iblk
  rw [View.read_apply]
  show (V m c main_v7 : S4x704x1024.Idx → EReal) _ = _
  refine congrArg (V m c main_v7 : S4x704x1024.Idx → EReal) (place_ext ?_ ?_ ?_)
  · show win0_4.index t 0 * 4 + 1 * s.val = s.val; rw [(places t).2.2.2.2.1 0]; omega
  · show win0_4.index t 1 * 704 + 1 * l.val = l.val; rw [(places t).2.2.2.2.1 1]; omega
  · show win0_4.index t 2 * 1024 + 1 * k.val = k.val; rw [(places t).2.2.2.2.1 2]; omega

/-! ## What a point computes, in the arrays -/

theorem norm_entry (x0 : FVec Ideal S512x1024 .f32) (x1 : FVec Ideal S1x1024 .f32) (r : Fin 512) (k : Fin 1024) :
    k0_pay3 (F := Ideal) x0 x1 (ix2 r k) = Cert.Norm.normed (fun k => x0 (ix2 r k)) (fun k => x1 (ix2 0 k)) k := by
  unfold k0_pay3 Cert.Norm.normed scale level
  pointwise

theorem norm_at (t : Fin cfg0.N) (r : Fin 512) (k : Fin 1024) :
    k0_pay3 (F := Ideal) (iblk m c 0 t) (iblk m c 1 t) (ix2 r k) = normed (X m c) (Gn m c) (row (point_lt t) r) k := by
  refine (norm_entry _ _ r k).trans ?_
  simp only [block_0, block_1]
  rfl

theorem gate_at (t : Fin cfg0.N) (s : Fin 4) (r : Fin 512) (l : Fin 704) :
    through (k0_pay3 (F := Ideal) (iblk m c 0 t) (iblk m c 1 t)) (iblk m c 2 t) s r l = pre (X m c) (Gn m c) (Wg m c) (row (point_lt t) r) (col s l) := by
  unfold through pre
  exact Finset.sum_congr rfl fun k _ => congrArg₂ (· * ·) (norm_at m c t r k) (block_2 m c t s l k)

theorem up_at (t : Fin cfg0.N) (s : Fin 4) (r : Fin 512) (l : Fin 704) :
    through (k0_pay3 (F := Ideal) (iblk m c 0 t) (iblk m c 1 t)) (iblk m c 3 t) s r l = pre (X m c) (Gn m c) (Wu m c) (row (point_lt t) r) (col s l) := by
  unfold through pre
  exact Finset.sum_congr rfl fun k _ => congrArg₂ (· * ·) (norm_at m c t r k) (block_3 m c t s l k)

/-- The hidden layer's product with the outer weight, and the layer's output. -/
def inner (x : Mat 4096 1024) (g : Mat 1 1024) (wg wu : Mat 1024 2816) (wd : Mat 2816 1024) (R : Fin 4096) (k : Fin 1024) : EReal :=
  ∑ L, hid (pre x g wg R L) (pre x g wu R L) * wd (ix2 L k)
def output (x : Mat 4096 1024) (g : Mat 1 1024) (wg wu : Mat 1024 2816) (wd : Mat 2816 1024) (R : Fin 4096) (k : Fin 1024) : EReal :=
  x (ix2 R k) + Ideal.ofBits .f32 0x3F000000#32 * inner x g wg wu wd R k

theorem part_at (t : Fin cfg0.N) (s : Fin 4) (r : Fin 512) (k : Fin 1024) :
    part (k0_pay3 (F := Ideal) (iblk m c 0 t) (iblk m c 1 t)) (iblk m c 2 t) (iblk m c 3 t) (iblk m c 4 t) s r k
      = ∑ l : Fin 704, hid (pre (X m c) (Gn m c) (Wg m c) (row (point_lt t) r) (col s l)) (pre (X m c) (Gn m c) (Wu m c) (row (point_lt t) r) (col s l)) * Wd m c (ix2 (col s l) k) := by
  unfold part
  exact Finset.sum_congr rfl fun l _ => congrArg₂ (· * ·) (congrArg₂ hid (gate_at m c t s r l) (up_at m c t s r l)) (block_4 m c t s l k)

theorem inner_at (t : Fin cfg0.N) (r : Fin 512) (k : Fin 1024) :
    total (F := Ideal) (k0_pay3 (iblk m c 0 t) (iblk m c 1 t)) (iblk m c 2 t) (iblk m c 3 t) (iblk m c 4 t) (ix2 r k) = inner (X m c) (Gn m c) (Wg m c) (Wu m c) (Wd m c) (row (point_lt t) r) k := by
  rw [total_at, part_at, part_at, part_at, part_at]
  unfold inner
  rw [Fin.sum_univ_tiles 4 704 rfl, Fin.sum_univ_four]
  rfl

theorem output_entry (x y : FVec Ideal S512x1024 .f32) (r : Fin 512) (k : Fin 1024) :
    k0_pay2 (F := Ideal) x (k0_pay1 (F := Ideal) y (k0_pay4 (F := Ideal))) (ix2 r k) = x (ix2 r k) + Ideal.ofBits .f32 0x3F000000#32 * y (ix2 r k) := by
  unfold_payloads
  pointwise

theorem output_at (t : Fin cfg0.N) (r : Fin 512) (k : Fin 1024) :
    k0_pay2 (F := Ideal) (iblk m c 0 t) (k0_pay1 (F := Ideal) (total (F := Ideal) (k0_pay3 (F := Ideal) (iblk m c 0 t) (iblk m c 1 t)) (iblk m c 2 t) (iblk m c 3 t) (iblk m c 4 t)) (k0_pay4 (F := Ideal))) (ix2 r k)
      = output (X m c) (Gn m c) (Wg m c) (Wu m c) (Wd m c) (row (point_lt t) r) k := by
  refine (output_entry _ _ r k).trans ?_
  rw [inner_at, block_0]
  rfl

/-! ## The final arrays -/

abbrev fin5 : S4096x1024.Idx → EReal := (dats m 0 c).arrAt 5 cfg0.N
abbrev fin6 : S4096x1024.Idx → EReal := (dats m 0 c).arrAt 6 cfg0.N
abbrev fin7 : S4x4096x704.Idx → EReal := (dats m 0 c).arrAt 7 cfg0.N
abbrev fin8 : S4x4096x704.Idx → EReal := (dats m 0 c).arrAt 8 cfg0.N

theorem fin5_at (R : Fin 4096) (k : Fin 1024) : fin5 m c (ix2 R k) = output (X m c) (Gn m c) (Wg m c) (Wu m c) (Wd m c) R k := by
  obtain ⟨n, h, r, rfl⟩ := row_surjective R
  obtain ⟨t, rfl⟩ : ∃ t : Fin cfg0.N, t.val = n := ⟨⟨n, by rw [show cfg0.N = 8 from N_0]; exact h⟩, rfl⟩
  have e := congrFun ((Value.blocks5 m c t (flush0_5 t)).trans (Value.flushed5 m c t)) (ix2 r k)
  rw [View.read_apply, show ((cfg0.win 5).blk t).view.emb (ix2 r k) = (ix2 (row (point_lt t) r) k : S4096x1024.Idx) from Shape.idx_ext₂
    (by show win0_5.index t 0 * 512 + 1 * r.val = t.val * 512 + r.val; rw [(places t).2.2.2.2.2.1 0]; show t.val * 512 + 1 * r.val = _; omega)
    (by show win0_5.index t 1 * 1024 + 1 * k.val = k.val; rw [(places t).2.2.2.2.2.1 1]; show 0 * 1024 + 1 * k.val = _; omega)] at e
  exact e.trans ((congrFun (outs (F := Ideal) c m t).1 (ix2 r k)).trans (output_at m c t r k))

theorem fin6_at (R : Fin 4096) (k : Fin 1024) : fin6 m c (ix2 R k) = normed (X m c) (Gn m c) R k := by
  obtain ⟨n, h, r, rfl⟩ := row_surjective R
  obtain ⟨t, rfl⟩ : ∃ t : Fin cfg0.N, t.val = n := ⟨⟨n, by rw [show cfg0.N = 8 from N_0]; exact h⟩, rfl⟩
  have e := congrFun ((Value.blocks6 m c t (flush0_6 t)).trans (Value.flushed6 m c t)) (ix2 r k)
  rw [View.read_apply, show ((cfg0.win 6).blk t).view.emb (ix2 r k) = (ix2 (row (point_lt t) r) k : S4096x1024.Idx) from Shape.idx_ext₂
    (by show win0_6.index t 0 * 512 + 1 * r.val = t.val * 512 + r.val; rw [(places t).2.2.2.2.2.2.1 0]; show t.val * 512 + 1 * r.val = _; omega)
    (by show win0_6.index t 1 * 1024 + 1 * k.val = k.val; rw [(places t).2.2.2.2.2.2.1 1]; show 0 * 1024 + 1 * k.val = _; omega)] at e
  exact e.trans ((congrFun (outs (F := Ideal) c m t).2.1 (ix2 r k)).trans (norm_at m c t r k))

theorem fin7_at (s : Fin 4) (R : Fin 4096) (l : Fin 704) : fin7 m c (ix3 s R l) = pre (X m c) (Gn m c) (Wg m c) R (col s l) := by
  obtain ⟨n, h, r, rfl⟩ := row_surjective R
  obtain ⟨t, rfl⟩ : ∃ t : Fin cfg0.N, t.val = n := ⟨⟨n, by rw [show cfg0.N = 8 from N_0]; exact h⟩, rfl⟩
  have e := congrFun ((Value.blocks7 m c t (flush0_7 t)).trans (Value.flushed7 m c t)) (ix3 s r l)
  rw [View.read_apply, show ((cfg0.win 7).blk t).view.emb (ix3 s r l) = (ix3 s (row (point_lt t) r) l : S4x4096x704.Idx) from place_ext
    (by show win0_7.index t 0 * 4 + 1 * s.val = s.val; rw [(places t).2.2.2.2.2.2.2.1 0]; show 0 * 4 + 1 * s.val = _; omega)
    (by show win0_7.index t 1 * 512 + 1 * r.val = t.val * 512 + r.val; rw [(places t).2.2.2.2.2.2.2.1 1]; show t.val * 512 + 1 * r.val = _; omega)
    (by show win0_7.index t 2 * 704 + 1 * l.val = l.val; rw [(places t).2.2.2.2.2.2.2.1 2]; show 0 * 704 + 1 * l.val = _; omega)] at e
  exact e.trans ((congrFun (outs (F := Ideal) c m t).2.2.1 (ix3 s r l)).trans ((gates_at _ _ r l s).trans (gate_at m c t s r l)))

theorem fin8_at (s : Fin 4) (R : Fin 4096) (l : Fin 704) : fin8 m c (ix3 s R l) = pre (X m c) (Gn m c) (Wu m c) R (col s l) := by
  obtain ⟨n, h, r, rfl⟩ := row_surjective R
  obtain ⟨t, rfl⟩ : ∃ t : Fin cfg0.N, t.val = n := ⟨⟨n, by rw [show cfg0.N = 8 from N_0]; exact h⟩, rfl⟩
  have e := congrFun ((Value.blocks8 m c t (flush0_8 t)).trans (Value.flushed8 m c t)) (ix3 s r l)
  rw [View.read_apply, show ((cfg0.win 8).blk t).view.emb (ix3 s r l) = (ix3 s (row (point_lt t) r) l : S4x4096x704.Idx) from place_ext
    (by show win0_8.index t 0 * 4 + 1 * s.val = s.val; rw [(places t).2.2.2.2.2.2.2.2 0]; show 0 * 4 + 1 * s.val = _; omega)
    (by show win0_8.index t 1 * 512 + 1 * r.val = t.val * 512 + r.val; rw [(places t).2.2.2.2.2.2.2.2 1]; show t.val * 512 + 1 * r.val = _; omega)
    (by show win0_8.index t 2 * 704 + 1 * l.val = l.val; rw [(places t).2.2.2.2.2.2.2.2 2]; show 0 * 704 + 1 * l.val = _; omega)] at e
  exact e.trans ((congrFun (outs (F := Ideal) c m t).2.2.2 (ix3 s r l)).trans ((ups_at _ _ r l s).trans (up_at m c t s r l)))

end Cert.FfnF

/-! ## The reference -/

namespace Cert.FfnF.Ref

open Idealize.ShloMosaic Idealize.ShloMosaic.TcCoe Idealize.ShloMosaic.Tactic Cert.Common
open Cert.Ffn.Ref (hidR hidR_at)
open Cert.RFfnFIdeal Cert.RFfnFIdeal.Gen

variable (x : FVec Ideal S4096x1024 .f32) (g : FVec Ideal S1x1024 .f32) (wg wu : FVec Ideal S1024x2816 .f32) (wd : FVec Ideal S2816x1024 .f32)

/-- The layer's output, of its hidden layer. -/
def outR (h : FVec Ideal S4096x2816 .f32) : FVec Ideal S4096x1024 .f32 :=
  addf x (mulf (broadcastInDim S4096x1024 ![] bcast_S_S4096x1024 (constant S_ .f32 0x3F000000#32)) (Host.dotGeneral dot_S4096x2816_S2816x1024_S4096x1024_1_0_0_1_n_n none h wd))

theorem outR_at (R : Fin 4096) (k : Fin 1024) : outR x wd (hidR x g wg wu) (ix2 R k) = output x g wg wu wd R k := by
  unfold outR output inner
  pointwise [hidR_at]

end Cert.FfnF.Ref

/-! ## The claims -/

namespace Cert.FfnF

open Idealize.ShloMosaic Idealize.ShloMosaic.TcCoe Idealize.SL.Sem Cert.Common
open Cert.Ffn (col)
open Cert.Ffn.Ref (nR nR_at pR pR_at hidR slabR slabR_at)

theorem frame_k : Cert.quiescent_KFfnF := fun m ρ _ => Cert.KFfnF.Gen.frame m ρ

theorem frame_ki : Cert.quiescent_KFfnFIdeal := fun m ρ _ => Cert.KFfnFIdeal.Gen.frame m ρ

theorem frame_r : Cert.quiescent_RFfnFIdeal := fun m ρ _ =>
  (θ_run Cert.RFfnFIdeal.defs _ _).mono (fun r h => ⟨fun c => (h c).2.2.2.2,
      Idealize.ShloMosaic.sem_eq_zero_of_no_sems (by decide) r.2⟩)
    (Cert.RFfnFIdeal.Value.run (F := Ideal) m ρ)

theorem algebraic : Cert.algebraic_KFfnFIdeal_RFfnFIdeal := by
  intro m g m' g' _ hagree
  refine ⟨fin5 m, fin6 m, fin7 m, fin8 m, Cert.KFfnFIdeal.Value.run_blocks m g,
    (θ_run Cert.RFfnFIdeal.defs _ _).mono (fun r h c => ?_) (Cert.RFfnFIdeal.Value.run m' g')⟩
  obtain ⟨a0, a1, a2, a3, a4⟩ := hagree c
  refine ⟨(h c).1.trans (funext fun i => ?_), (h c).2.1.trans (funext fun i => ?_), (h c).2.2.1.trans (funext fun i => ?_),
    (h c).2.2.2.1.trans (funext fun i => ?_), (h c).2.2.2.2⟩
  · obtain ⟨R, k, rfl⟩ : ∃ (R : Fin 4096) (k : Fin 1024), i = ix2 R k := ⟨_, _, eq_ix2 i⟩
    rw [a0, a1, a2, a3, a4]
    exact (Ref.outR_at (X m c) (Gn m c) (Wg m c) (Wu m c) (Wd m c) R k).trans (fin5_at m c R k).symm
  · obtain ⟨R, k, rfl⟩ : ∃ (R : Fin 4096) (k : Fin 1024), i = ix2 R k := ⟨_, _, eq_ix2 i⟩
    rw [a0, a1]
    exact (nR_at (X m c) (Gn m c) R k).trans (fin6_at m c R k).symm
  · obtain ⟨s, R, l, rfl⟩ : ∃ (s : Fin 4) (R : Fin 4096) (l : Fin 704), i = ix3 s R l := ⟨_, _, _, eq_ix3 i⟩
    rw [a0, a1, a2]
    exact (slabR_at R (pR (F := Ideal) (X m c) (Gn m c) (Wg m c)) s l).trans ((pR_at ..).trans (fin7_at m c s R l).symm)
  · obtain ⟨s, R, l, rfl⟩ : ∃ (s : Fin 4) (R : Fin 4096) (l : Fin 704), i = ix3 s R l := ⟨_, _, _, eq_ix3 i⟩
    rw [a0, a1, a3]
    exact (slabR_at R (pR (F := Ideal) (X m c) (Gn m c) (Wu m c)) s l).trans ((pR_at ..).trans (fin8_at m c s R l).symm)

end Cert.FfnF

end
-- ==== Proof.lean ====
/- The proof of the certificate's claim: each pair's five claims are proved in its own module under Proof/. -/
module

public import proofs.«01_k».proof.Defs
public import proofs.«01_k».proof.Proof.Gen.KLoss
public import proofs.«01_k».proof.Proof.Gen.KLossIdeal
public import proofs.«01_k».proof.Proof.Gen.RLossIdeal
public import proofs.«01_k».proof.Proof.Loss
public import proofs.«01_k».proof.Proof.Gen.KFoxBwd
public import proofs.«01_k».proof.Proof.Gen.KFoxBwdIdeal
public import proofs.«01_k».proof.Proof.Gen.RFoxBwdIdeal
public import proofs.«01_k».proof.Proof.FoxBwd
public import proofs.«01_k».proof.Proof.Gen.KFoxF
public import proofs.«01_k».proof.Proof.Gen.KFoxFIdeal
public import proofs.«01_k».proof.Proof.Gen.RFoxFIdeal
public import proofs.«01_k».proof.Proof.FoxF
public import proofs.«01_k».proof.Proof.Gen.KNormOdd
public import proofs.«01_k».proof.Proof.Gen.KNormOddIdeal
public import proofs.«01_k».proof.Proof.Gen.RNormOddIdeal
public import proofs.«01_k».proof.Proof.NormOdd
public import proofs.«01_k».proof.Proof.Gen.KNormFfn
public import proofs.«01_k».proof.Proof.Gen.KNormFfnIdeal
public import proofs.«01_k».proof.Proof.Gen.RNormFfnIdeal
public import proofs.«01_k».proof.Proof.NormFfn
public import proofs.«01_k».proof.Proof.Gen.KNormEven
public import proofs.«01_k».proof.Proof.Gen.KNormEvenIdeal
public import proofs.«01_k».proof.Proof.Gen.RNormEvenIdeal
public import proofs.«01_k».proof.Proof.NormEven
public import proofs.«01_k».proof.Proof.Gen.KForget
public import proofs.«01_k».proof.Proof.Gen.KForgetIdeal
public import proofs.«01_k».proof.Proof.Gen.RForgetIdeal
public import proofs.«01_k».proof.Proof.Forget
public import proofs.«01_k».proof.Proof.Gen.KFfn
public import proofs.«01_k».proof.Proof.Gen.KFfnIdeal
public import proofs.«01_k».proof.Proof.Gen.RFfnIdeal
public import proofs.«01_k».proof.Proof.Ffn
public import proofs.«01_k».proof.Proof.Gen.KDoPrep
public import proofs.«01_k».proof.Proof.Gen.KDoPrepIdeal
public import proofs.«01_k».proof.Proof.Gen.RDoPrepIdeal
public import proofs.«01_k».proof.Proof.DoPrep
public import proofs.«01_k».proof.Proof.Gen.KNormPOdd
public import proofs.«01_k».proof.Proof.Gen.KNormPOddIdeal
public import proofs.«01_k».proof.Proof.Gen.RNormPOddIdeal
public import proofs.«01_k».proof.Proof.NormPOdd
public import proofs.«01_k».proof.Proof.Gen.KNormPEven
public import proofs.«01_k».proof.Proof.Gen.KNormPEvenIdeal
public import proofs.«01_k».proof.Proof.Gen.RNormPEvenIdeal
public import proofs.«01_k».proof.Proof.NormPEven
public import proofs.«01_k».proof.Proof.Gen.KFfnF
public import proofs.«01_k».proof.Proof.Gen.KFfnFIdeal
public import proofs.«01_k».proof.Proof.Gen.RFfnFIdeal
public import proofs.«01_k».proof.Proof.FfnF
public import proofs.«01_k».proof.Proof.Gen.Pre_finite_fox
public import proofs.«01_k».proof.Proof.Gen.Pre_finite_scores
public import proofs.«01_k».proof.Proof.Gen.Pre_finite_ffn
public import proofs.«01_k».proof.Proof.Gen.On_columns_fox
public import proofs.«01_k».proof.Proof.Gen.On_columns_fwd
public import proofs.«01_k».proof.Proof.Gen.On_columns_prep

@[expose] public section

noncomputable section

namespace Cert.Proof

theorem claim : Cert.Claim := ⟨Cert.KLoss.Gen.facts,
  Cert.KLossIdeal.Gen.facts,
  Cert.RLossIdeal.Gen.facts,
  Cert.KFoxBwd.Gen.facts,
  Cert.KFoxBwdIdeal.Gen.facts,
  Cert.RFoxBwdIdeal.Gen.facts,
  Cert.KFoxF.Gen.facts,
  Cert.KFoxFIdeal.Gen.facts,
  Cert.RFoxFIdeal.Gen.facts,
  Cert.KNormOdd.Gen.facts,
  Cert.KNormOddIdeal.Gen.facts,
  Cert.RNormOddIdeal.Gen.facts,
  Cert.KNormFfn.Gen.facts,
  Cert.KNormFfnIdeal.Gen.facts,
  Cert.RNormFfnIdeal.Gen.facts,
  Cert.KNormEven.Gen.facts,
  Cert.KNormEvenIdeal.Gen.facts,
  Cert.RNormEvenIdeal.Gen.facts,
  Cert.KForget.Gen.facts,
  Cert.KForgetIdeal.Gen.facts,
  Cert.RForgetIdeal.Gen.facts,
  Cert.KFfn.Gen.facts,
  Cert.KFfnIdeal.Gen.facts,
  Cert.RFfnIdeal.Gen.facts,
  Cert.KDoPrep.Gen.facts,
  Cert.KDoPrepIdeal.Gen.facts,
  Cert.RDoPrepIdeal.Gen.facts,
  Cert.KNormPOdd.Gen.facts,
  Cert.KNormPOddIdeal.Gen.facts,
  Cert.RNormPOddIdeal.Gen.facts,
  Cert.KNormPEven.Gen.facts,
  Cert.KNormPEvenIdeal.Gen.facts,
  Cert.RNormPEvenIdeal.Gen.facts,
  Cert.KFfnF.Gen.facts,
  Cert.KFfnFIdeal.Gen.facts,
  Cert.RFfnFIdeal.Gen.facts,
  Cert.Pre_finite_fox.Gen.facts,
  Cert.Pre_finite_scores.Gen.facts,
  Cert.Pre_finite_ffn.Gen.facts,
  Cert.On_columns_fox.Gen.facts,
  Cert.On_columns_fwd.Gen.facts,
  Cert.On_columns_prep.Gen.facts,
  Loss.frame_k, Loss.frame_ki, Loss.frame_r,
  FoxBwd.frame_k, FoxBwd.frame_ki, FoxBwd.frame_ki_pre, FoxBwd.frame_r, FoxBwd.frame_r_pre,
  FoxF.frame_k, FoxF.frame_ki, FoxF.frame_ki_pre, FoxF.frame_r, FoxF.frame_r_pre,
  NormOdd.frame_k, NormOdd.frame_ki, NormOdd.frame_r,
  NormFfn.frame_k, NormFfn.frame_ki, NormFfn.frame_r,
  NormEven.frame_k, NormEven.frame_ki, NormEven.frame_r,
  Forget.frame_k, Forget.frame_ki, Forget.frame_r,
  Ffn.frame_k, Ffn.frame_ki, Ffn.frame_ki_pre, Ffn.frame_r, Ffn.frame_r_pre,
  DoPrep.frame_k, DoPrep.frame_ki, DoPrep.frame_r,
  NormPOdd.frame_k, NormPOdd.frame_ki, NormPOdd.frame_r,
  NormPEven.frame_k, NormPEven.frame_ki, NormPEven.frame_r,
  FfnF.frame_k, FfnF.frame_ki, FfnF.frame_r,
  trivial, Loss.algebraic,
  FoxBwd.preserves, FoxBwd.algebraic,
  FoxF.preserves, FoxF.algebraic,
  trivial, NormOdd.algebraic,
  trivial, NormFfn.algebraic,
  trivial, NormEven.algebraic,
  trivial, Forget.algebraic,
  trivial, Ffn.algebraic,
  trivial, DoPrep.algebraic,
  trivial, NormPOdd.algebraic,
  trivial, NormPEven.algebraic,
  trivial, FfnF.algebraic⟩

end Cert.Proof

end
